-- ==== Defs.lean ====
def Pre_KPrep (m : (ℓ : Loc Cert.KPrep.nD Cert.KPrep.τ Cert.KPrep.sig) → Buf (Elt Bits) ℓ) : Prop :=
  True

def Pre_KPrepIdeal (m : (ℓ : Loc Cert.KPrepIdeal.nD Cert.KPrepIdeal.τ Cert.KPrepIdeal.sig) → Buf (Elt Ideal) ℓ) : Prop :=
  True

def Pre_KPrepIdeal_k_prep_finite [hPre_k_prep_finite : Cert.Pre_k_prep_finite.Facts] (m : (ℓ : Loc Cert.KPrepIdeal.nD Cert.KPrepIdeal.τ Cert.KPrepIdeal.sig) → Buf (Elt Ideal) ℓ) : Prop :=
  ∀ c : Dev Cert.KPrepIdeal.nD,
    (Cert.Pre_k_prep_finite.fn (F := Ideal) (m ((c.tc : Thread Cert.KPrepIdeal.nD Cert.KPrepIdeal.τ).loc Cert.KPrepIdeal.main_arg0)) (m ((c.tc : Thread Cert.KPrepIdeal.nD Cert.KPrepIdeal.τ).loc Cert.KPrepIdeal.main_arg1)) (m ((c.tc : Thread Cert.KPrepIdeal.nD Cert.KPrepIdeal.τ).loc Cert.KPrepIdeal.main_arg2)) (m ((c.tc : Thread Cert.KPrepIdeal.nD Cert.KPrepIdeal.τ).loc Cert.KPrepIdeal.main_arg3))) = (fun _ => 1#1)

def Pre_KPrepRefIdeal (m : (ℓ : Loc Cert.KPrepRefIdeal.nD Cert.KPrepRefIdeal.τ Cert.KPrepRefIdeal.sig) → Buf (Elt Ideal) ℓ) : Prop :=
  True

def Pre_KPrepRefIdeal_k_prep_finite [hPre_k_prep_finite : Cert.Pre_k_prep_finite.Facts] (m : (ℓ : Loc Cert.KPrepRefIdeal.nD Cert.KPrepRefIdeal.τ Cert.KPrepRefIdeal.sig) → Buf (Elt Ideal) ℓ) : Prop :=
  ∀ c : Dev Cert.KPrepRefIdeal.nD,
    (Cert.Pre_k_prep_finite.fn (F := Ideal) (m ((c.tc : Thread Cert.KPrepRefIdeal.nD Cert.KPrepRefIdeal.τ).loc Cert.KPrepRefIdeal.main_arg0)) (m ((c.tc : Thread Cert.KPrepRefIdeal.nD Cert.KPrepRefIdeal.τ).loc Cert.KPrepRefIdeal.main_arg1)) (m ((c.tc : Thread Cert.KPrepRefIdeal.nD Cert.KPrepRefIdeal.τ).loc Cert.KPrepRefIdeal.main_arg2)) (m ((c.tc : Thread Cert.KPrepRefIdeal.nD Cert.KPrepRefIdeal.τ).loc Cert.KPrepRefIdeal.main_arg3))) = (fun _ => 1#1)

def Pre_QPrep (m : (ℓ : Loc Cert.QPrep.nD Cert.QPrep.τ Cert.QPrep.sig) → Buf (Elt Bits) ℓ) : Prop :=
  True

def Pre_QPrepIdeal (m : (ℓ : Loc Cert.QPrepIdeal.nD Cert.QPrepIdeal.τ Cert.QPrepIdeal.sig) → Buf (Elt Ideal) ℓ) : Prop :=
  True

def Pre_QPrepIdeal_q_prep_finite [hPre_q_prep_finite : Cert.Pre_q_prep_finite.Facts] (m : (ℓ : Loc Cert.QPrepIdeal.nD Cert.QPrepIdeal.τ Cert.QPrepIdeal.sig) → Buf (Elt Ideal) ℓ) : Prop :=
  ∀ c : Dev Cert.QPrepIdeal.nD,
    (Cert.Pre_q_prep_finite.fn (F := Ideal) (m ((c.tc : Thread Cert.QPrepIdeal.nD Cert.QPrepIdeal.τ).loc Cert.QPrepIdeal.main_arg0)) (m ((c.tc : Thread Cert.QPrepIdeal.nD Cert.QPrepIdeal.τ).loc Cert.QPrepIdeal.main_arg1)) (m ((c.tc : Thread Cert.QPrepIdeal.nD Cert.QPrepIdeal.τ).loc Cert.QPrepIdeal.main_arg2))) = (fun _ => 1#1)

def Pre_QPrepRefIdeal (m : (ℓ : Loc Cert.QPrepRefIdeal.nD Cert.QPrepRefIdeal.τ Cert.QPrepRefIdeal.sig) → Buf (Elt Ideal) ℓ) : Prop :=
  True

def Pre_QPrepRefIdeal_q_prep_finite [hPre_q_prep_finite : Cert.Pre_q_prep_finite.Facts] (m : (ℓ : Loc Cert.QPrepRefIdeal.nD Cert.QPrepRefIdeal.τ Cert.QPrepRefIdeal.sig) → Buf (Elt Ideal) ℓ) : Prop :=
  ∀ c : Dev Cert.QPrepRefIdeal.nD,
    (Cert.Pre_q_prep_finite.fn (F := Ideal) (m ((c.tc : Thread Cert.QPrepRefIdeal.nD Cert.QPrepRefIdeal.τ).loc Cert.QPrepRefIdeal.main_arg0)) (m ((c.tc : Thread Cert.QPrepRefIdeal.nD Cert.QPrepRefIdeal.τ).loc Cert.QPrepRefIdeal.main_arg1)) (m ((c.tc : Thread Cert.QPrepRefIdeal.nD Cert.QPrepRefIdeal.τ).loc Cert.QPrepRefIdeal.main_arg2))) = (fun _ => 1#1)

def Pre_FlashFwd (m : (ℓ : Loc Cert.FlashFwd.nD Cert.FlashFwd.τ Cert.FlashFwd.sig) → Buf (Elt Bits) ℓ) : Prop :=
  True

def Pre_FlashFwdIdeal (m : (ℓ : Loc Cert.FlashFwdIdeal.nD Cert.FlashFwdIdeal.τ Cert.FlashFwdIdeal.sig) → Buf (Elt Ideal) ℓ) : Prop :=
  True

def Pre_FlashFwdIdeal_flash_fwd_finite [hPre_flash_fwd_finite : Cert.Pre_flash_fwd_finite.Facts] (m : (ℓ : Loc Cert.FlashFwdIdeal.nD Cert.FlashFwdIdeal.τ Cert.FlashFwdIdeal.sig) → Buf (Elt Ideal) ℓ) : Prop :=
  ∀ c : Dev Cert.FlashFwdIdeal.nD,
    (Cert.Pre_flash_fwd_finite.fn (F := Ideal) (m ((c.tc : Thread Cert.FlashFwdIdeal.nD Cert.FlashFwdIdeal.τ).loc Cert.FlashFwdIdeal.main_arg0)) (m ((c.tc : Thread Cert.FlashFwdIdeal.nD Cert.FlashFwdIdeal.τ).loc Cert.FlashFwdIdeal.main_arg1)) (m ((c.tc : Thread Cert.FlashFwdIdeal.nD Cert.FlashFwdIdeal.τ).loc Cert.FlashFwdIdeal.main_arg2))) = (fun _ => 1#1)

def Pre_FlashFwdRefIdeal (m : (ℓ : Loc Cert.FlashFwdRefIdeal.nD Cert.FlashFwdRefIdeal.τ Cert.FlashFwdRefIdeal.sig) → Buf (Elt Ideal) ℓ) : Prop :=
  True

def Pre_FlashFwdRefIdeal_flash_fwd_finite [hPre_flash_fwd_finite : Cert.Pre_flash_fwd_finite.Facts] (m : (ℓ : Loc Cert.FlashFwdRefIdeal.nD Cert.FlashFwdRefIdeal.τ Cert.FlashFwdRefIdeal.sig) → Buf (Elt Ideal) ℓ) : Prop :=
  ∀ c : Dev Cert.FlashFwdRefIdeal.nD,
    (Cert.Pre_flash_fwd_finite.fn (F := Ideal) (m ((c.tc : Thread Cert.FlashFwdRefIdeal.nD Cert.FlashFwdRefIdeal.τ).loc Cert.FlashFwdRefIdeal.main_arg0)) (m ((c.tc : Thread Cert.FlashFwdRefIdeal.nD Cert.FlashFwdRefIdeal.τ).loc Cert.FlashFwdRefIdeal.main_arg1)) (m ((c.tc : Thread Cert.FlashFwdRefIdeal.nD Cert.FlashFwdRefIdeal.τ).loc Cert.FlashFwdRefIdeal.main_arg2))) = (fun _ => 1#1)

def Pre_FlashBwd (m : (ℓ : Loc Cert.FlashBwd.nD Cert.FlashBwd.τ Cert.FlashBwd.sig) → Buf (Elt Bits) ℓ) : Prop :=
  True

def Pre_FlashBwdIdeal (m : (ℓ : Loc Cert.FlashBwdIdeal.nD Cert.FlashBwdIdeal.τ Cert.FlashBwdIdeal.sig) → Buf (Elt Ideal) ℓ) : Prop :=
  True

def Pre_FlashBwdIdeal_flash_bwd_finite [hPre_flash_bwd_finite : Cert.Pre_flash_bwd_finite.Facts] (m : (ℓ : Loc Cert.FlashBwdIdeal.nD Cert.FlashBwdIdeal.τ Cert.FlashBwdIdeal.sig) → Buf (Elt Ideal) ℓ) : Prop :=
  ∀ c : Dev Cert.FlashBwdIdeal.nD,
    (Cert.Pre_flash_bwd_finite.fn (F := Ideal) (m ((c.tc : Thread Cert.FlashBwdIdeal.nD Cert.FlashBwdIdeal.τ).loc Cert.FlashBwdIdeal.main_arg0)) (m ((c.tc : Thread Cert.FlashBwdIdeal.nD Cert.FlashBwdIdeal.τ).loc Cert.FlashBwdIdeal.main_arg1)) (m ((c.tc : Thread Cert.FlashBwdIdeal.nD Cert.FlashBwdIdeal.τ).loc Cert.FlashBwdIdeal.main_arg2)) (m ((c.tc : Thread Cert.FlashBwdIdeal.nD Cert.FlashBwdIdeal.τ).loc Cert.FlashBwdIdeal.main_arg3))) = (fun _ => 1#1)

def Pre_FlashBwdRefIdeal (m : (ℓ : Loc Cert.FlashBwdRefIdeal.nD Cert.FlashBwdRefIdeal.τ Cert.FlashBwdRefIdeal.sig) → Buf (Elt Ideal) ℓ) : Prop :=
  True

def Pre_FlashBwdRefIdeal_flash_bwd_finite [hPre_flash_bwd_finite : Cert.Pre_flash_bwd_finite.Facts] (m : (ℓ : Loc Cert.FlashBwdRefIdeal.nD Cert.FlashBwdRefIdeal.τ Cert.FlashBwdRefIdeal.sig) → Buf (Elt Ideal) ℓ) : Prop :=
  ∀ c : Dev Cert.FlashBwdRefIdeal.nD,
    (Cert.Pre_flash_bwd_finite.fn (F := Ideal) (m ((c.tc : Thread Cert.FlashBwdRefIdeal.nD Cert.FlashBwdRefIdeal.τ).loc Cert.FlashBwdRefIdeal.main_arg0)) (m ((c.tc : Thread Cert.FlashBwdRefIdeal.nD Cert.FlashBwdRefIdeal.τ).loc Cert.FlashBwdRefIdeal.main_arg1)) (m ((c.tc : Thread Cert.FlashBwdRefIdeal.nD Cert.FlashBwdRefIdeal.τ).loc Cert.FlashBwdRefIdeal.main_arg2)) (m ((c.tc : Thread Cert.FlashBwdRefIdeal.nD Cert.FlashBwdRefIdeal.τ).loc Cert.FlashBwdRefIdeal.main_arg3))) = (fun _ => 1#1)

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInIdeal_ffn_in_finite [hPre_ffn_in_finite : Cert.Pre_ffn_in_finite.Facts] (m : (ℓ : Loc Cert.FfnInIdeal.nD Cert.FfnInIdeal.τ Cert.FfnInIdeal.sig) → Buf (Elt Ideal) ℓ) : Prop :=
  ∀ c : Dev Cert.FfnInIdeal.nD,
    (Cert.Pre_ffn_in_finite.fn (F := Ideal) (m ((c.tc : Thread Cert.FfnInIdeal.nD Cert.FfnInIdeal.τ).loc Cert.FfnInIdeal.main_arg0)) (m ((c.tc : Thread Cert.FfnInIdeal.nD Cert.FfnInIdeal.τ).loc Cert.FfnInIdeal.main_arg1)) (m ((c.tc : Thread Cert.FfnInIdeal.nD Cert.FfnInIdeal.τ).loc Cert.FfnInIdeal.main_arg2)) (m ((c.tc : Thread Cert.FfnInIdeal.nD Cert.FfnInIdeal.τ).loc Cert.FfnInIdeal.main_arg3)) (m ((c.tc : Thread Cert.FfnInIdeal.nD Cert.FfnInIdeal.τ).loc Cert.FfnInIdeal.main_arg4)) (m ((c.tc : Thread Cert.FfnInIdeal.nD Cert.FfnInIdeal.τ).loc Cert.FfnInIdeal.main_arg5)) (m ((c.tc : Thread Cert.FfnInIdeal.nD Cert.FfnInIdeal.τ).loc Cert.FfnInIdeal.main_arg6))) = (fun _ => 1#1)

def Pre_FfnInRefIdeal (m : (ℓ : Loc Cert.FfnInRefIdeal.nD Cert.FfnInRefIdeal.τ Cert.FfnInRefIdeal.sig) → Buf (Elt Ideal) ℓ) : Prop :=
  True

def Pre_FfnInRefIdeal_ffn_in_finite [hPre_ffn_in_finite : Cert.Pre_ffn_in_finite.Facts] (m : (ℓ : Loc Cert.FfnInRefIdeal.nD Cert.FfnInRefIdeal.τ Cert.FfnInRefIdeal.sig) → Buf (Elt Ideal) ℓ) : Prop :=
  ∀ c : Dev Cert.FfnInRefIdeal.nD,
    (Cert.Pre_ffn_in_finite.fn (F := Ideal) (m ((c.tc : Thread Cert.FfnInRefIdeal.nD Cert.FfnInRefIdeal.τ).loc Cert.FfnInRefIdeal.main_arg0)) (m ((c.tc : Thread Cert.FfnInRefIdeal.nD Cert.FfnInRefIdeal.τ).loc Cert.FfnInRefIdeal.main_arg1)) (m ((c.tc : Thread Cert.FfnInRefIdeal.nD Cert.FfnInRefIdeal.τ).loc Cert.FfnInRefIdeal.main_arg2)) (m ((c.tc : Thread Cert.FfnInRefIdeal.nD Cert.FfnInRefIdeal.τ).loc Cert.FfnInRefIdeal.main_arg3)) (m ((c.tc : Thread Cert.FfnInRefIdeal.nD Cert.FfnInRefIdeal.τ).loc Cert.FfnInRefIdeal.main_arg4)) (m ((c.tc : Thread Cert.FfnInRefIdeal.nD Cert.FfnInRefIdeal.τ).loc Cert.FfnInRefIdeal.main_arg5)) (m ((c.tc : Thread Cert.FfnInRefIdeal.nD Cert.FfnInRefIdeal.τ).loc Cert.FfnInRefIdeal.main_arg6))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjIdeal_in_proj_finite [hPre_in_proj_finite : Cert.Pre_in_proj_finite.Facts] (m : (ℓ : Loc Cert.InProjIdeal.nD Cert.InProjIdeal.τ Cert.InProjIdeal.sig) → Buf (Elt Ideal) ℓ) : Prop :=
  ∀ c : Dev Cert.InProjIdeal.nD,
    (Cert.Pre_in_proj_finite.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4))) = (fun _ => 1#1)

def Pre_InProjRefIdeal (m : (ℓ : Loc Cert.InProjRefIdeal.nD Cert.InProjRefIdeal.τ Cert.InProjRefIdeal.sig) → Buf (Elt Ideal) ℓ) : Prop :=
  True

def Pre_InProjRefIdeal_in_proj_finite [hPre_in_proj_finite : Cert.Pre_in_proj_finite.Facts] (m : (ℓ : Loc Cert.InProjRefIdeal.nD Cert.InProjRefIdeal.τ Cert.InProjRefIdeal.sig) → Buf (Elt Ideal) ℓ) : Prop :=
  ∀ c : Dev Cert.InProjRefIdeal.nD,
    (Cert.Pre_in_proj_finite.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3)) (m ((c.tc : Thread Cert.InProjRefIdeal.nD Cert.InProjRefIdeal.τ).loc Cert.InProjRefIdeal.main_arg4))) = (fun _ => 1#1)

def Pre_FfnHid (m : (ℓ : Loc Cert.FfnHid.nD Cert.FfnHid.τ Cert.FfnHid.sig) → Buf (Elt Bits) ℓ) : Prop :=
  True

def Pre_FfnHidIdeal (m : (ℓ : Loc Cert.FfnHidIdeal.nD Cert.FfnHidIdeal.τ Cert.FfnHidIdeal.sig) → Buf (Elt Ideal) ℓ) : Prop :=
  True

def Pre_FfnHidIdeal_ffn_hidden_finite [hPre_ffn_hidden_finite : Cert.Pre_ffn_hidden_finite.Facts] (m : (ℓ : Loc Cert.FfnHidIdeal.nD Cert.FfnHidIdeal.τ Cert.FfnHidIdeal.sig) → Buf (Elt Ideal) ℓ) : Prop :=
  ∀ c : Dev Cert.FfnHidIdeal.nD,
    (Cert.Pre_ffn_hidden_finite.fn (F := Ideal) (m ((c.tc : Thread Cert.FfnHidIdeal.nD Cert.FfnHidIdeal.τ).loc Cert.FfnHidIdeal.main_arg0)) (m ((c.tc : Thread Cert.FfnHidIdeal.nD Cert.FfnHidIdeal.τ).loc Cert.FfnHidIdeal.main_arg1)) (m ((c.tc : Thread Cert.FfnHidIdeal.nD Cert.FfnHidIdeal.τ).loc Cert.FfnHidIdeal.main_arg2)) (m ((c.tc : Thread Cert.FfnHidIdeal.nD Cert.FfnHidIdeal.τ).loc Cert.FfnHidIdeal.main_arg3)) (m ((c.tc : Thread Cert.FfnHidIdeal.nD Cert.FfnHidIdeal.τ).loc Cert.FfnHidIdeal.main_arg4))) = (fun _ => 1#1)

def Pre_FfnHidRefIdeal (m : (ℓ : Loc Cert.FfnHidRefIdeal.nD Cert.FfnHidRefIdeal.τ Cert.FfnHidRefIdeal.sig) → Buf (Elt Ideal) ℓ) : Prop :=
  True

def Pre_FfnHidRefIdeal_ffn_hidden_finite [hPre_ffn_hidden_finite : Cert.Pre_ffn_hidden_finite.Facts] (m : (ℓ : Loc Cert.FfnHidRefIdeal.nD Cert.FfnHidRefIdeal.τ Cert.FfnHidRefIdeal.sig) → Buf (Elt Ideal) ℓ) : Prop :=
  ∀ c : Dev Cert.FfnHidRefIdeal.nD,
    (Cert.Pre_ffn_hidden_finite.fn (F := Ideal) (m ((c.tc : Thread Cert.FfnHidRefIdeal.nD Cert.FfnHidRefIdeal.τ).loc Cert.FfnHidRefIdeal.main_arg0)) (m ((c.tc : Thread Cert.FfnHidRefIdeal.nD Cert.FfnHidRefIdeal.τ).loc Cert.FfnHidRefIdeal.main_arg1)) (m ((c.tc : Thread Cert.FfnHidRefIdeal.nD Cert.FfnHidRefIdeal.τ).loc Cert.FfnHidRefIdeal.main_arg2)) (m ((c.tc : Thread Cert.FfnHidRefIdeal.nD Cert.FfnHidRefIdeal.τ).loc Cert.FfnHidRefIdeal.main_arg3)) (m ((c.tc : Thread Cert.FfnHidRefIdeal.nD Cert.FfnHidRefIdeal.τ).loc Cert.FfnHidRefIdeal.main_arg4))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_FfnLast (m : (ℓ : Loc Cert.FfnLast.nD Cert.FfnLast.τ Cert.FfnLast.sig) → Buf (Elt Bits) ℓ) : Prop :=
  True

def Pre_FfnLastIdeal (m : (ℓ : Loc Cert.FfnLastIdeal.nD Cert.FfnLastIdeal.τ Cert.FfnLastIdeal.sig) → Buf (Elt Ideal) ℓ) : Prop :=
  True

def Pre_FfnLastIdeal_ffn_last_finite [hPre_ffn_last_finite : Cert.Pre_ffn_last_finite.Facts] (m : (ℓ : Loc Cert.FfnLastIdeal.nD Cert.FfnLastIdeal.τ Cert.FfnLastIdeal.sig) → Buf (Elt Ideal) ℓ) : Prop :=
  ∀ c : Dev Cert.FfnLastIdeal.nD,
    (Cert.Pre_ffn_last_finite.fn (F := Ideal) (m ((c.tc : Thread Cert.FfnLastIdeal.nD Cert.FfnLastIdeal.τ).loc Cert.FfnLastIdeal.main_arg0)) (m ((c.tc : Thread Cert.FfnLastIdeal.nD Cert.FfnLastIdeal.τ).loc Cert.FfnLastIdeal.main_arg1)) (m ((c.tc : Thread Cert.FfnLastIdeal.nD Cert.FfnLastIdeal.τ).loc Cert.FfnLastIdeal.main_arg2)) (m ((c.tc : Thread Cert.FfnLastIdeal.nD Cert.FfnLastIdeal.τ).loc Cert.FfnLastIdeal.main_arg3)) (m ((c.tc : Thread Cert.FfnLastIdeal.nD Cert.FfnLastIdeal.τ).loc Cert.FfnLastIdeal.main_arg4)) (m ((c.tc : Thread Cert.FfnLastIdeal.nD Cert.FfnLastIdeal.τ).loc Cert.FfnLastIdeal.main_arg5)) (m ((c.tc : Thread Cert.FfnLastIdeal.nD Cert.FfnLastIdeal.τ).loc Cert.FfnLastIdeal.main_arg6))) = (fun _ => 1#1)

def Pre_FfnLastRefIdeal (m : (ℓ : Loc Cert.FfnLastRefIdeal.nD Cert.FfnLastRefIdeal.τ Cert.FfnLastRefIdeal.sig) → Buf (Elt Ideal) ℓ) : Prop :=
  True

def Pre_FfnLastRefIdeal_ffn_last_finite [hPre_ffn_last_finite : Cert.Pre_ffn_last_finite.Facts] (m : (ℓ : Loc Cert.FfnLastRefIdeal.nD Cert.FfnLastRefIdeal.τ Cert.FfnLastRefIdeal.sig) → Buf (Elt Ideal) ℓ) : Prop :=
  ∀ c : Dev Cert.FfnLastRefIdeal.nD,
    (Cert.Pre_ffn_last_finite.fn (F := Ideal) (m ((c.tc : Thread Cert.FfnLastRefIdeal.nD Cert.FfnLastRefIdeal.τ).loc Cert.FfnLastRefIdeal.main_arg0)) (m ((c.tc : Thread Cert.FfnLastRefIdeal.nD Cert.FfnLastRefIdeal.τ).loc Cert.FfnLastRefIdeal.main_arg1)) (m ((c.tc : Thread Cert.FfnLastRefIdeal.nD Cert.FfnLastRefIdeal.τ).loc Cert.FfnLastRefIdeal.main_arg2)) (m ((c.tc : Thread Cert.FfnLastRefIdeal.nD Cert.FfnLastRefIdeal.τ).loc Cert.FfnLastRefIdeal.main_arg3)) (m ((c.tc : Thread Cert.FfnLastRefIdeal.nD Cert.FfnLastRefIdeal.τ).loc Cert.FfnLastRefIdeal.main_arg4)) (m ((c.tc : Thread Cert.FfnLastRefIdeal.nD Cert.FfnLastRefIdeal.τ).loc Cert.FfnLastRefIdeal.main_arg5)) (m ((c.tc : Thread Cert.FfnLastRefIdeal.nD Cert.FfnLastRefIdeal.τ).loc Cert.FfnLastRefIdeal.main_arg6))) = (fun _ => 1#1)

def quiescent_KPrep [hKPrep : Cert.KPrep.Facts] : Prop :=
  ∀ (m : (ℓ : Loc Cert.KPrep.nD Cert.KPrep.τ Cert.KPrep.sig) → Buf (Elt Bits) ℓ) (g : Dev Cert.KPrep.nD → PrngReg), Pre_KPrep m →
    θ_run (Cert.KPrep.defs (F := Bits)) (onTc (τ := Cert.KPrep.τ) (Cert.KPrep.main (F := Bits))) ⟨m, fun _ => 0, g⟩ (fun r => (∀ c : Dev Cert.KPrep.nD,
      r.2.mem ((c.tc : Thread Cert.KPrep.nD Cert.KPrep.τ).loc Cert.KPrep.main_arg0) = m ((c.tc : Thread Cert.KPrep.nD Cert.KPrep.τ).loc Cert.KPrep.main_arg0)
      ∧ r.2.mem ((c.tc : Thread Cert.KPrep.nD Cert.KPrep.τ).loc Cert.KPrep.main_arg1) = m ((c.tc : Thread Cert.KPrep.nD Cert.KPrep.τ).loc Cert.KPrep.main_arg1)
      ∧ r.2.mem ((c.tc : Thread Cert.KPrep.nD Cert.KPrep.τ).loc Cert.KPrep.main_arg2) = m ((c.tc : Thread Cert.KPrep.nD Cert.KPrep.τ).loc Cert.KPrep.main_arg2)
      ∧ r.2.mem ((c.tc : Thread Cert.KPrep.nD Cert.KPrep.τ).loc Cert.KPrep.main_arg3) = m ((c.tc : Thread Cert.KPrep.nD Cert.KPrep.τ).loc Cert.KPrep.main_arg3))
      ∧ r.2.sem = fun _ => 0)

def quiescent_KPrepIdeal [hKPrepIdeal : Cert.KPrepIdeal.Facts] : Prop :=
  ∀ (m : (ℓ : Loc Cert.KPrepIdeal.nD Cert.KPrepIdeal.τ Cert.KPrepIdeal.sig) → Buf (Elt Ideal) ℓ) (g : Dev Cert.KPrepIdeal.nD → PrngReg), Pre_KPrepIdeal m →
    θ_run (Cert.KPrepIdeal.defs (F := Ideal)) (onTc (τ := Cert.KPrepIdeal.τ) (Cert.KPrepIdeal.main (F := Ideal))) ⟨m, fun _ => 0, g⟩ (fun r => (∀ c : Dev Cert.KPrepIdeal.nD,
      r.2.mem ((c.tc : Thread Cert.KPrepIdeal.nD Cert.KPrepIdeal.τ).loc Cert.KPrepIdeal.main_arg0) = m ((c.tc : Thread Cert.KPrepIdeal.nD Cert.KPrepIdeal.τ).loc Cert.KPrepIdeal.main_arg0)
      ∧ r.2.mem ((c.tc : Thread Cert.KPrepIdeal.nD Cert.KPrepIdeal.τ).loc Cert.KPrepIdeal.main_arg1) = m ((c.tc : Thread Cert.KPrepIdeal.nD Cert.KPrepIdeal.τ).loc Cert.KPrepIdeal.main_arg1)
      ∧ r.2.mem ((c.tc : Thread Cert.KPrepIdeal.nD Cert.KPrepIdeal.τ).loc Cert.KPrepIdeal.main_arg2) = m ((c.tc : Thread Cert.KPrepIdeal.nD Cert.KPrepIdeal.τ).loc Cert.KPrepIdeal.main_arg2)
      ∧ r.2.mem ((c.tc : Thread Cert.KPrepIdeal.nD Cert.KPrepIdeal.τ).loc Cert.KPrepIdeal.main_arg3) = m ((c.tc : Thread Cert.KPrepIdeal.nD Cert.KPrepIdeal.τ).loc Cert.KPrepIdeal.main_arg3))
      ∧ r.2.sem = fun _ => 0)

def quiescent_KPrepIdeal_pre_k_prep_finite [hKPrepIdeal : Cert.KPrepIdeal.Facts] [hPre_k_prep_finite : Cert.Pre_k_prep_finite.Facts] : Prop :=
  ∀ (m : (ℓ : Loc Cert.KPrepIdeal.nD Cert.KPrepIdeal.τ Cert.KPrepIdeal.sig) → Buf (Elt Ideal) ℓ) (g : Dev Cert.KPrepIdeal.nD → PrngReg), Pre_KPrepIdeal_k_prep_finite m →
    θ_run (Cert.KPrepIdeal.defs (F := Ideal)) (onTc (τ := Cert.KPrepIdeal.τ) (Cert.KPrepIdeal.main (F := Ideal))) ⟨m, fun _ => 0, g⟩ (fun r => (∀ c : Dev Cert.KPrepIdeal.nD,
      r.2.mem ((c.tc : Thread Cert.KPrepIdeal.nD Cert.KPrepIdeal.τ).loc Cert.KPrepIdeal.main_arg0) = m ((c.tc : Thread Cert.KPrepIdeal.nD Cert.KPrepIdeal.τ).loc Cert.KPrepIdeal.main_arg0)
      ∧ r.2.mem ((c.tc : Thread Cert.KPrepIdeal.nD Cert.KPrepIdeal.τ).loc Cert.KPrepIdeal.main_arg1) = m ((c.tc : Thread Cert.KPrepIdeal.nD Cert.KPrepIdeal.τ).loc Cert.KPrepIdeal.main_arg1)
      ∧ r.2.mem ((c.tc : Thread Cert.KPrepIdeal.nD Cert.KPrepIdeal.τ).loc Cert.KPrepIdeal.main_arg2) = m ((c.tc : Thread Cert.KPrepIdeal.nD Cert.KPrepIdeal.τ).loc Cert.KPrepIdeal.main_arg2)
      ∧ r.2.mem ((c.tc : Thread Cert.KPrepIdeal.nD Cert.KPrepIdeal.τ).loc Cert.KPrepIdeal.main_arg3) = m ((c.tc : Thread Cert.KPrepIdeal.nD Cert.KPrepIdeal.τ).loc Cert.KPrepIdeal.main_arg3))
      ∧ r.2.sem = fun _ => 0)

def quiescent_KPrepRefIdeal [hKPrepRefIdeal : Cert.KPrepRefIdeal.Facts] : Prop :=
  ∀ (m : (ℓ : Loc Cert.KPrepRefIdeal.nD Cert.KPrepRefIdeal.τ Cert.KPrepRefIdeal.sig) → Buf (Elt Ideal) ℓ) (g : Dev Cert.KPrepRefIdeal.nD → PrngReg), Pre_KPrepRefIdeal m →
    θ_run (Cert.KPrepRefIdeal.defs (F := Ideal)) (onTc (τ := Cert.KPrepRefIdeal.τ) (Cert.KPrepRefIdeal.main (F := Ideal))) ⟨m, fun _ => 0, g⟩ (fun r => (∀ c : Dev Cert.KPrepRefIdeal.nD,
      r.2.mem ((c.tc : Thread Cert.KPrepRefIdeal.nD Cert.KPrepRefIdeal.τ).loc Cert.KPrepRefIdeal.main_arg0) = m ((c.tc : Thread Cert.KPrepRefIdeal.nD Cert.KPrepRefIdeal.τ).loc Cert.KPrepRefIdeal.main_arg0)
      ∧ r.2.mem ((c.tc : Thread Cert.KPrepRefIdeal.nD Cert.KPrepRefIdeal.τ).loc Cert.KPrepRefIdeal.main_arg1) = m ((c.tc : Thread Cert.KPrepRefIdeal.nD Cert.KPrepRefIdeal.τ).loc Cert.KPrepRefIdeal.main_arg1)
      ∧ r.2.mem ((c.tc : Thread Cert.KPrepRefIdeal.nD Cert.KPrepRefIdeal.τ).loc Cert.KPrepRefIdeal.main_arg2) = m ((c.tc : Thread Cert.KPrepRefIdeal.nD Cert.KPrepRefIdeal.τ).loc Cert.KPrepRefIdeal.main_arg2)
      ∧ r.2.mem ((c.tc : Thread Cert.KPrepRefIdeal.nD Cert.KPrepRefIdeal.τ).loc Cert.KPrepRefIdeal.main_arg3) = m ((c.tc : Thread Cert.KPrepRefIdeal.nD Cert.KPrepRefIdeal.τ).loc Cert.KPrepRefIdeal.main_arg3))
      ∧ r.2.sem = fun _ => 0)

def quiescent_KPrepRefIdeal_pre_k_prep_finite [hKPrepRefIdeal : Cert.KPrepRefIdeal.Facts] [hPre_k_prep_finite : Cert.Pre_k_prep_finite.Facts] : Prop :=
  ∀ (m : (ℓ : Loc Cert.KPrepRefIdeal.nD Cert.KPrepRefIdeal.τ Cert.KPrepRefIdeal.sig) → Buf (Elt Ideal) ℓ) (g : Dev Cert.KPrepRefIdeal.nD → PrngReg), Pre_KPrepRefIdeal_k_prep_finite m →
    θ_run (Cert.KPrepRefIdeal.defs (F := Ideal)) (onTc (τ := Cert.KPrepRefIdeal.τ) (Cert.KPrepRefIdeal.main (F := Ideal))) ⟨m, fun _ => 0, g⟩ (fun r => (∀ c : Dev Cert.KPrepRefIdeal.nD,
      r.2.mem ((c.tc : Thread Cert.KPrepRefIdeal.nD Cert.KPrepRefIdeal.τ).loc Cert.KPrepRefIdeal.main_arg0) = m ((c.tc : Thread Cert.KPrepRefIdeal.nD Cert.KPrepRefIdeal.τ).loc Cert.KPrepRefIdeal.main_arg0)
      ∧ r.2.mem ((c.tc : Thread Cert.KPrepRefIdeal.nD Cert.KPrepRefIdeal.τ).loc Cert.KPrepRefIdeal.main_arg1) = m ((c.tc : Thread Cert.KPrepRefIdeal.nD Cert.KPrepRefIdeal.τ).loc Cert.KPrepRefIdeal.main_arg1)
      ∧ r.2.mem ((c.tc : Thread Cert.KPrepRefIdeal.nD Cert.KPrepRefIdeal.τ).loc Cert.KPrepRefIdeal.main_arg2) = m ((c.tc : Thread Cert.KPrepRefIdeal.nD Cert.KPrepRefIdeal.τ).loc Cert.KPrepRefIdeal.main_arg2)
      ∧ r.2.mem ((c.tc : Thread Cert.KPrepRefIdeal.nD Cert.KPrepRefIdeal.τ).loc Cert.KPrepRefIdeal.main_arg3) = m ((c.tc : Thread Cert.KPrepRefIdeal.nD Cert.KPrepRefIdeal.τ).loc Cert.KPrepRefIdeal.main_arg3))
      ∧ r.2.sem = fun _ => 0)

def quiescent_QPrep [hQPrep : Cert.QPrep.Facts] : Prop :=
  ∀ (m : (ℓ : Loc Cert.QPrep.nD Cert.QPrep.τ Cert.QPrep.sig) → Buf (Elt Bits) ℓ) (g : Dev Cert.QPrep.nD → PrngReg), Pre_QPrep m →
    θ_run (Cert.QPrep.defs (F := Bits)) (onTc (τ := Cert.QPrep.τ) (Cert.QPrep.main (F := Bits))) ⟨m, fun _ => 0, g⟩ (fun r => (∀ c : Dev Cert.QPrep.nD,
      r.2.mem ((c.tc : Thread Cert.QPrep.nD Cert.QPrep.τ).loc Cert.QPrep.main_arg0) = m ((c.tc : Thread Cert.QPrep.nD Cert.QPrep.τ).loc Cert.QPrep.main_arg0)
      ∧ r.2.mem ((c.tc : Thread Cert.QPrep.nD Cert.QPrep.τ).loc Cert.QPrep.main_arg1) = m ((c.tc : Thread Cert.QPrep.nD Cert.QPrep.τ).loc Cert.QPrep.main_arg1)
      ∧ r.2.mem ((c.tc : Thread Cert.QPrep.nD Cert.QPrep.τ).loc Cert.QPrep.main_arg2) = m ((c.tc : Thread Cert.QPrep.nD Cert.QPrep.τ).loc Cert.QPrep.main_arg2))
      ∧ r.2.sem = fun _ => 0)

def quiescent_QPrepIdeal [hQPrepIdeal : Cert.QPrepIdeal.Facts] : Prop :=
  ∀ (m : (ℓ : Loc Cert.QPrepIdeal.nD Cert.QPrepIdeal.τ Cert.QPrepIdeal.sig) → Buf (Elt Ideal) ℓ) (g : Dev Cert.QPrepIdeal.nD → PrngReg), Pre_QPrepIdeal m →
    θ_run (Cert.QPrepIdeal.defs (F := Ideal)) (onTc (τ := Cert.QPrepIdeal.τ) (Cert.QPrepIdeal.main (F := Ideal))) ⟨m, fun _ => 0, g⟩ (fun r => (∀ c : Dev Cert.QPrepIdeal.nD,
      r.2.mem ((c.tc : Thread Cert.QPrepIdeal.nD Cert.QPrepIdeal.τ).loc Cert.QPrepIdeal.main_arg0) = m ((c.tc : Thread Cert.QPrepIdeal.nD Cert.QPrepIdeal.τ).loc Cert.QPrepIdeal.main_arg0)
      ∧ r.2.mem ((c.tc : Thread Cert.QPrepIdeal.nD Cert.QPrepIdeal.τ).loc Cert.QPrepIdeal.main_arg1) = m ((c.tc : Thread Cert.QPrepIdeal.nD Cert.QPrepIdeal.τ).loc Cert.QPrepIdeal.main_arg1)
      ∧ r.2.mem ((c.tc : Thread Cert.QPrepIdeal.nD Cert.QPrepIdeal.τ).loc Cert.QPrepIdeal.main_arg2) = m ((c.tc : Thread Cert.QPrepIdeal.nD Cert.QPrepIdeal.τ).loc Cert.QPrepIdeal.main_arg2))
      ∧ r.2.sem = fun _ => 0)

def quiescent_QPrepIdeal_pre_q_prep_finite [hQPrepIdeal : Cert.QPrepIdeal.Facts] [hPre_q_prep_finite : Cert.Pre_q_prep_finite.Facts] : Prop :=
  ∀ (m : (ℓ : Loc Cert.QPrepIdeal.nD Cert.QPrepIdeal.τ Cert.QPrepIdeal.sig) → Buf (Elt Ideal) ℓ) (g : Dev Cert.QPrepIdeal.nD → PrngReg), Pre_QPrepIdeal_q_prep_finite m →
    θ_run (Cert.QPrepIdeal.defs (F := Ideal)) (onTc (τ := Cert.QPrepIdeal.τ) (Cert.QPrepIdeal.main (F := Ideal))) ⟨m, fun _ => 0, g⟩ (fun r => (∀ c : Dev Cert.QPrepIdeal.nD,
      r.2.mem ((c.tc : Thread Cert.QPrepIdeal.nD Cert.QPrepIdeal.τ).loc Cert.QPrepIdeal.main_arg0) = m ((c.tc : Thread Cert.QPrepIdeal.nD Cert.QPrepIdeal.τ).loc Cert.QPrepIdeal.main_arg0)
      ∧ r.2.mem ((c.tc : Thread Cert.QPrepIdeal.nD Cert.QPrepIdeal.τ).loc Cert.QPrepIdeal.main_arg1) = m ((c.tc : Thread Cert.QPrepIdeal.nD Cert.QPrepIdeal.τ).loc Cert.QPrepIdeal.main_arg1)
      ∧ r.2.mem ((c.tc : Thread Cert.QPrepIdeal.nD Cert.QPrepIdeal.τ).loc Cert.QPrepIdeal.main_arg2) = m ((c.tc : Thread Cert.QPrepIdeal.nD Cert.QPrepIdeal.τ).loc Cert.QPrepIdeal.main_arg2))
      ∧ r.2.sem = fun _ => 0)

def quiescent_QPrepRefIdeal [hQPrepRefIdeal : Cert.QPrepRefIdeal.Facts] : Prop :=
  ∀ (m : (ℓ : Loc Cert.QPrepRefIdeal.nD Cert.QPrepRefIdeal.τ Cert.QPrepRefIdeal.sig) → Buf (Elt Ideal) ℓ) (g : Dev Cert.QPrepRefIdeal.nD → PrngReg), Pre_QPrepRefIdeal m →
    θ_run (Cert.QPrepRefIdeal.defs (F := Ideal)) (onTc (τ := Cert.QPrepRefIdeal.τ) (Cert.QPrepRefIdeal.main (F := Ideal))) ⟨m, fun _ => 0, g⟩ (fun r => (∀ c : Dev Cert.QPrepRefIdeal.nD,
      r.2.mem ((c.tc : Thread Cert.QPrepRefIdeal.nD Cert.QPrepRefIdeal.τ).loc Cert.QPrepRefIdeal.main_arg0) = m ((c.tc : Thread Cert.QPrepRefIdeal.nD Cert.QPrepRefIdeal.τ).loc Cert.QPrepRefIdeal.main_arg0)
      ∧ r.2.mem ((c.tc : Thread Cert.QPrepRefIdeal.nD Cert.QPrepRefIdeal.τ).loc Cert.QPrepRefIdeal.main_arg1) = m ((c.tc : Thread Cert.QPrepRefIdeal.nD Cert.QPrepRefIdeal.τ).loc Cert.QPrepRefIdeal.main_arg1)
      ∧ r.2.mem ((c.tc : Thread Cert.QPrepRefIdeal.nD Cert.QPrepRefIdeal.τ).loc Cert.QPrepRefIdeal.main_arg2) = m ((c.tc : Thread Cert.QPrepRefIdeal.nD Cert.QPrepRefIdeal.τ).loc Cert.QPrepRefIdeal.main_arg2))
      ∧ r.2.sem = fun _ => 0)

def quiescent_QPrepRefIdeal_pre_q_prep_finite [hQPrepRefIdeal : Cert.QPrepRefIdeal.Facts] [hPre_q_prep_finite : Cert.Pre_q_prep_finite.Facts] : Prop :=
  ∀ (m : (ℓ : Loc Cert.QPrepRefIdeal.nD Cert.QPrepRefIdeal.τ Cert.QPrepRefIdeal.sig) → Buf (Elt Ideal) ℓ) (g : Dev Cert.QPrepRefIdeal.nD → PrngReg), Pre_QPrepRefIdeal_q_prep_finite m →
    θ_run (Cert.QPrepRefIdeal.defs (F := Ideal)) (onTc (τ := Cert.QPrepRefIdeal.τ) (Cert.QPrepRefIdeal.main (F := Ideal))) ⟨m, fun _ => 0, g⟩ (fun r => (∀ c : Dev Cert.QPrepRefIdeal.nD,
      r.2.mem ((c.tc : Thread Cert.QPrepRefIdeal.nD Cert.QPrepRefIdeal.τ).loc Cert.QPrepRefIdeal.main_arg0) = m ((c.tc : Thread Cert.QPrepRefIdeal.nD Cert.QPrepRefIdeal.τ).loc Cert.QPrepRefIdeal.main_arg0)
      ∧ r.2.mem ((c.tc : Thread Cert.QPrepRefIdeal.nD Cert.QPrepRefIdeal.τ).loc Cert.QPrepRefIdeal.main_arg1) = m ((c.tc : Thread Cert.QPrepRefIdeal.nD Cert.QPrepRefIdeal.τ).loc Cert.QPrepRefIdeal.main_arg1)
      ∧ r.2.mem ((c.tc : Thread Cert.QPrepRefIdeal.nD Cert.QPrepRefIdeal.τ).loc Cert.QPrepRefIdeal.main_arg2) = m ((c.tc : Thread Cert.QPrepRefIdeal.nD Cert.QPrepRefIdeal.τ).loc Cert.QPrepRefIdeal.main_arg2))
      ∧ r.2.sem = fun _ => 0)

def quiescent_FlashFwd [hFlashFwd : Cert.FlashFwd.Facts] : Prop :=
  ∀ (m : (ℓ : Loc Cert.FlashFwd.nD Cert.FlashFwd.τ Cert.FlashFwd.sig) → Buf (Elt Bits) ℓ) (g : Dev Cert.FlashFwd.nD → PrngReg), Pre_FlashFwd m →
    θ_run (Cert.FlashFwd.defs (F := Bits)) (onTc (τ := Cert.FlashFwd.τ) (Cert.FlashFwd.main (F := Bits))) ⟨m, fun _ => 0, g⟩ (fun r => (∀ c : Dev Cert.FlashFwd.nD,
      r.2.mem ((c.tc : Thread Cert.FlashFwd.nD Cert.FlashFwd.τ).loc Cert.FlashFwd.main_arg0) = m ((c.tc : Thread Cert.FlashFwd.nD Cert.FlashFwd.τ).loc Cert.FlashFwd.main_arg0)
      ∧ r.2.mem ((c.tc : Thread Cert.FlashFwd.nD Cert.FlashFwd.τ).loc Cert.FlashFwd.main_arg1) = m ((c.tc : Thread Cert.FlashFwd.nD Cert.FlashFwd.τ).loc Cert.FlashFwd.main_arg1)
      ∧ r.2.mem ((c.tc : Thread Cert.FlashFwd.nD Cert.FlashFwd.τ).loc Cert.FlashFwd.main_arg2) = m ((c.tc : Thread Cert.FlashFwd.nD Cert.FlashFwd.τ).loc Cert.FlashFwd.main_arg2))
      ∧ r.2.sem = fun _ => 0)

def quiescent_FlashFwdIdeal [hFlashFwdIdeal : Cert.FlashFwdIdeal.Facts] : Prop :=
  ∀ (m : (ℓ : Loc Cert.FlashFwdIdeal.nD Cert.FlashFwdIdeal.τ Cert.FlashFwdIdeal.sig) → Buf (Elt Ideal) ℓ) (g : Dev Cert.FlashFwdIdeal.nD → PrngReg), Pre_FlashFwdIdeal m →
    θ_run (Cert.FlashFwdIdeal.defs (F := Ideal)) (onTc (τ := Cert.FlashFwdIdeal.τ) (Cert.FlashFwdIdeal.main (F := Ideal))) ⟨m, fun _ => 0, g⟩ (fun r => (∀ c : Dev Cert.FlashFwdIdeal.nD,
      r.2.mem ((c.tc : Thread Cert.FlashFwdIdeal.nD Cert.FlashFwdIdeal.τ).loc Cert.FlashFwdIdeal.main_arg0) = m ((c.tc : Thread Cert.FlashFwdIdeal.nD Cert.FlashFwdIdeal.τ).loc Cert.FlashFwdIdeal.main_arg0)
      ∧ r.2.mem ((c.tc : Thread Cert.FlashFwdIdeal.nD Cert.FlashFwdIdeal.τ).loc Cert.FlashFwdIdeal.main_arg1) = m ((c.tc : Thread Cert.FlashFwdIdeal.nD Cert.FlashFwdIdeal.τ).loc Cert.FlashFwdIdeal.main_arg1)
      ∧ r.2.mem ((c.tc : Thread Cert.FlashFwdIdeal.nD Cert.FlashFwdIdeal.τ).loc Cert.FlashFwdIdeal.main_arg2) = m ((c.tc : Thread Cert.FlashFwdIdeal.nD Cert.FlashFwdIdeal.τ).loc Cert.FlashFwdIdeal.main_arg2))
      ∧ r.2.sem = fun _ => 0)

def quiescent_FlashFwdIdeal_pre_flash_fwd_finite [hFlashFwdIdeal : Cert.FlashFwdIdeal.Facts] [hPre_flash_fwd_finite : Cert.Pre_flash_fwd_finite.Facts] : Prop :=
  ∀ (m : (ℓ : Loc Cert.FlashFwdIdeal.nD Cert.FlashFwdIdeal.τ Cert.FlashFwdIdeal.sig) → Buf (Elt Ideal) ℓ) (g : Dev Cert.FlashFwdIdeal.nD → PrngReg), Pre_FlashFwdIdeal_flash_fwd_finite m →
    θ_run (Cert.FlashFwdIdeal.defs (F := Ideal)) (onTc (τ := Cert.FlashFwdIdeal.τ) (Cert.FlashFwdIdeal.main (F := Ideal))) ⟨m, fun _ => 0, g⟩ (fun r => (∀ c : Dev Cert.FlashFwdIdeal.nD,
      r.2.mem ((c.tc : Thread Cert.FlashFwdIdeal.nD Cert.FlashFwdIdeal.τ).loc Cert.FlashFwdIdeal.main_arg0) = m ((c.tc : Thread Cert.FlashFwdIdeal.nD Cert.FlashFwdIdeal.τ).loc Cert.FlashFwdIdeal.main_arg0)
      ∧ r.2.mem ((c.tc : Thread Cert.FlashFwdIdeal.nD Cert.FlashFwdIdeal.τ).loc Cert.FlashFwdIdeal.main_arg1) = m ((c.tc : Thread Cert.FlashFwdIdeal.nD Cert.FlashFwdIdeal.τ).loc Cert.FlashFwdIdeal.main_arg1)
      ∧ r.2.mem ((c.tc : Thread Cert.FlashFwdIdeal.nD Cert.FlashFwdIdeal.τ).loc Cert.FlashFwdIdeal.main_arg2) = m ((c.tc : Thread Cert.FlashFwdIdeal.nD Cert.FlashFwdIdeal.τ).loc Cert.FlashFwdIdeal.main_arg2))
      ∧ r.2.sem = fun _ => 0)

def quiescent_FlashFwdRefIdeal [hFlashFwdRefIdeal : Cert.FlashFwdRefIdeal.Facts] : Prop :=
  ∀ (m : (ℓ : Loc Cert.FlashFwdRefIdeal.nD Cert.FlashFwdRefIdeal.τ Cert.FlashFwdRefIdeal.sig) → Buf (Elt Ideal) ℓ) (g : Dev Cert.FlashFwdRefIdeal.nD → PrngReg), Pre_FlashFwdRefIdeal m →
    θ_run (Cert.FlashFwdRefIdeal.defs (F := Ideal)) (onTc (τ := Cert.FlashFwdRefIdeal.τ) (Cert.FlashFwdRefIdeal.main (F := Ideal))) ⟨m, fun _ => 0, g⟩ (fun r => (∀ c : Dev Cert.FlashFwdRefIdeal.nD,
      r.2.mem ((c.tc : Thread Cert.FlashFwdRefIdeal.nD Cert.FlashFwdRefIdeal.τ).loc Cert.FlashFwdRefIdeal.main_arg0) = m ((c.tc : Thread Cert.FlashFwdRefIdeal.nD Cert.FlashFwdRefIdeal.τ).loc Cert.FlashFwdRefIdeal.main_arg0)
      ∧ r.2.mem ((c.tc : Thread Cert.FlashFwdRefIdeal.nD Cert.FlashFwdRefIdeal.τ).loc Cert.FlashFwdRefIdeal.main_arg1) = m ((c.tc : Thread Cert.FlashFwdRefIdeal.nD Cert.FlashFwdRefIdeal.τ).loc Cert.FlashFwdRefIdeal.main_arg1)
      ∧ r.2.mem ((c.tc : Thread Cert.FlashFwdRefIdeal.nD Cert.FlashFwdRefIdeal.τ).loc Cert.FlashFwdRefIdeal.main_arg2) = m ((c.tc : Thread Cert.FlashFwdRefIdeal.nD Cert.FlashFwdRefIdeal.τ).loc Cert.FlashFwdRefIdeal.main_arg2))
      ∧ r.2.sem = fun _ => 0)

def quiescent_FlashFwdRefIdeal_pre_flash_fwd_finite [hFlashFwdRefIdeal : Cert.FlashFwdRefIdeal.Facts] [hPre_flash_fwd_finite : Cert.Pre_flash_fwd_finite.Facts] : Prop :=
  ∀ (m : (ℓ : Loc Cert.FlashFwdRefIdeal.nD Cert.FlashFwdRefIdeal.τ Cert.FlashFwdRefIdeal.sig) → Buf (Elt Ideal) ℓ) (g : Dev Cert.FlashFwdRefIdeal.nD → PrngReg), Pre_FlashFwdRefIdeal_flash_fwd_finite m →
    θ_run (Cert.FlashFwdRefIdeal.defs (F := Ideal)) (onTc (τ := Cert.FlashFwdRefIdeal.τ) (Cert.FlashFwdRefIdeal.main (F := Ideal))) ⟨m, fun _ => 0, g⟩ (fun r => (∀ c : Dev Cert.FlashFwdRefIdeal.nD,
      r.2.mem ((c.tc : Thread Cert.FlashFwdRefIdeal.nD Cert.FlashFwdRefIdeal.τ).loc Cert.FlashFwdRefIdeal.main_arg0) = m ((c.tc : Thread Cert.FlashFwdRefIdeal.nD Cert.FlashFwdRefIdeal.τ).loc Cert.FlashFwdRefIdeal.main_arg0)
      ∧ r.2.mem ((c.tc : Thread Cert.FlashFwdRefIdeal.nD Cert.FlashFwdRefIdeal.τ).loc Cert.FlashFwdRefIdeal.main_arg1) = m ((c.tc : Thread Cert.FlashFwdRefIdeal.nD Cert.FlashFwdRefIdeal.τ).loc Cert.FlashFwdRefIdeal.main_arg1)
      ∧ r.2.mem ((c.tc : Thread Cert.FlashFwdRefIdeal.nD Cert.FlashFwdRefIdeal.τ).loc Cert.FlashFwdRefIdeal.main_arg2) = m ((c.tc : Thread Cert.FlashFwdRefIdeal.nD Cert.FlashFwdRefIdeal.τ).loc Cert.FlashFwdRefIdeal.main_arg2))
      ∧ r.2.sem = fun _ => 0)

def quiescent_FlashBwd [hFlashBwd : Cert.FlashBwd.Facts] : Prop :=
  ∀ (m : (ℓ : Loc Cert.FlashBwd.nD Cert.FlashBwd.τ Cert.FlashBwd.sig) → Buf (Elt Bits) ℓ) (g : Dev Cert.FlashBwd.nD → PrngReg), Pre_FlashBwd m →
    θ_run (Cert.FlashBwd.defs (F := Bits)) (onTc (τ := Cert.FlashBwd.τ) (Cert.FlashBwd.main (F := Bits))) ⟨m, fun _ => 0, g⟩ (fun r => (∀ c : Dev Cert.FlashBwd.nD,
      r.2.mem ((c.tc : Thread Cert.FlashBwd.nD Cert.FlashBwd.τ).loc Cert.FlashBwd.main_arg0) = m ((c.tc : Thread Cert.FlashBwd.nD Cert.FlashBwd.τ).loc Cert.FlashBwd.main_arg0)
      ∧ r.2.mem ((c.tc : Thread Cert.FlashBwd.nD Cert.FlashBwd.τ).loc Cert.FlashBwd.main_arg1) = m ((c.tc : Thread Cert.FlashBwd.nD Cert.FlashBwd.τ).loc Cert.FlashBwd.main_arg1)
      ∧ r.2.mem ((c.tc : Thread Cert.FlashBwd.nD Cert.FlashBwd.τ).loc Cert.FlashBwd.main_arg2) = m ((c.tc : Thread Cert.FlashBwd.nD Cert.FlashBwd.τ).loc Cert.FlashBwd.main_arg2)
      ∧ r.2.mem ((c.tc : Thread Cert.FlashBwd.nD Cert.FlashBwd.τ).loc Cert.FlashBwd.main_arg3) = m ((c.tc : Thread Cert.FlashBwd.nD Cert.FlashBwd.τ).loc Cert.FlashBwd.main_arg3))
      ∧ r.2.sem = fun _ => 0)

def quiescent_FlashBwdIdeal [hFlashBwdIdeal : Cert.FlashBwdIdeal.Facts] : Prop :=
  ∀ (m : (ℓ : Loc Cert.FlashBwdIdeal.nD Cert.FlashBwdIdeal.τ Cert.FlashBwdIdeal.sig) → Buf (Elt Ideal) ℓ) (g : Dev Cert.FlashBwdIdeal.nD → PrngReg), Pre_FlashBwdIdeal m →
    θ_run (Cert.FlashBwdIdeal.defs (F := Ideal)) (onTc (τ := Cert.FlashBwdIdeal.τ) (Cert.FlashBwdIdeal.main (F := Ideal))) ⟨m, fun _ => 0, g⟩ (fun r => (∀ c : Dev Cert.FlashBwdIdeal.nD,
      r.2.mem ((c.tc : Thread Cert.FlashBwdIdeal.nD Cert.FlashBwdIdeal.τ).loc Cert.FlashBwdIdeal.main_arg0) = m ((c.tc : Thread Cert.FlashBwdIdeal.nD Cert.FlashBwdIdeal.τ).loc Cert.FlashBwdIdeal.main_arg0)
      ∧ r.2.mem ((c.tc : Thread Cert.FlashBwdIdeal.nD Cert.FlashBwdIdeal.τ).loc Cert.FlashBwdIdeal.main_arg1) = m ((c.tc : Thread Cert.FlashBwdIdeal.nD Cert.FlashBwdIdeal.τ).loc Cert.FlashBwdIdeal.main_arg1)
      ∧ r.2.mem ((c.tc : Thread Cert.FlashBwdIdeal.nD Cert.FlashBwdIdeal.τ).loc Cert.FlashBwdIdeal.main_arg2) = m ((c.tc : Thread Cert.FlashBwdIdeal.nD Cert.FlashBwdIdeal.τ).loc Cert.FlashBwdIdeal.main_arg2)
      ∧ r.2.mem ((c.tc : Thread Cert.FlashBwdIdeal.nD Cert.FlashBwdIdeal.τ).loc Cert.FlashBwdIdeal.main_arg3) = m ((c.tc : Thread Cert.FlashBwdIdeal.nD Cert.FlashBwdIdeal.τ).loc Cert.FlashBwdIdeal.main_arg3))
      ∧ r.2.sem = fun _ => 0)

def quiescent_FlashBwdIdeal_pre_flash_bwd_finite [hFlashBwdIdeal : Cert.FlashBwdIdeal.Facts] [hPre_flash_bwd_finite : Cert.Pre_flash_bwd_finite.Facts] : Prop :=
  ∀ (m : (ℓ : Loc Cert.FlashBwdIdeal.nD Cert.FlashBwdIdeal.τ Cert.FlashBwdIdeal.sig) → Buf (Elt Ideal) ℓ) (g : Dev Cert.FlashBwdIdeal.nD → PrngReg), Pre_FlashBwdIdeal_flash_bwd_finite m →
    θ_run (Cert.FlashBwdIdeal.defs (F := Ideal)) (onTc (τ := Cert.FlashBwdIdeal.τ) (Cert.FlashBwdIdeal.main (F := Ideal))) ⟨m, fun _ => 0, g⟩ (fun r => (∀ c : Dev Cert.FlashBwdIdeal.nD,
      r.2.mem ((c.tc : Thread Cert.FlashBwdIdeal.nD Cert.FlashBwdIdeal.τ).loc Cert.FlashBwdIdeal.main_arg0) = m ((c.tc : Thread Cert.FlashBwdIdeal.nD Cert.FlashBwdIdeal.τ).loc Cert.FlashBwdIdeal.main_arg0)
      ∧ r.2.mem ((c.tc : Thread Cert.FlashBwdIdeal.nD Cert.FlashBwdIdeal.τ).loc Cert.FlashBwdIdeal.main_arg1) = m ((c.tc : Thread Cert.FlashBwdIdeal.nD Cert.FlashBwdIdeal.τ).loc Cert.FlashBwdIdeal.main_arg1)
      ∧ r.2.mem ((c.tc : Thread Cert.FlashBwdIdeal.nD Cert.FlashBwdIdeal.τ).loc Cert.FlashBwdIdeal.main_arg2) = m ((c.tc : Thread Cert.FlashBwdIdeal.nD Cert.FlashBwdIdeal.τ).loc Cert.FlashBwdIdeal.main_arg2)
      ∧ r.2.mem ((c.tc : Thread Cert.FlashBwdIdeal.nD Cert.FlashBwdIdeal.τ).loc Cert.FlashBwdIdeal.main_arg3) = m ((c.tc : Thread Cert.FlashBwdIdeal.nD Cert.FlashBwdIdeal.τ).loc Cert.FlashBwdIdeal.main_arg3))
      ∧ r.2.sem = fun _ => 0)

def quiescent_FlashBwdRefIdeal [hFlashBwdRefIdeal : Cert.FlashBwdRefIdeal.Facts] : Prop :=
  ∀ (m : (ℓ : Loc Cert.FlashBwdRefIdeal.nD Cert.FlashBwdRefIdeal.τ Cert.FlashBwdRefIdeal.sig) → Buf (Elt Ideal) ℓ) (g : Dev Cert.FlashBwdRefIdeal.nD → PrngReg), Pre_FlashBwdRefIdeal m →
    θ_run (Cert.FlashBwdRefIdeal.defs (F := Ideal)) (onTc (τ := Cert.FlashBwdRefIdeal.τ) (Cert.FlashBwdRefIdeal.main (F := Ideal))) ⟨m, fun _ => 0, g⟩ (fun r => (∀ c : Dev Cert.FlashBwdRefIdeal.nD,
      r.2.mem ((c.tc : Thread Cert.FlashBwdRefIdeal.nD Cert.FlashBwdRefIdeal.τ).loc Cert.FlashBwdRefIdeal.main_arg0) = m ((c.tc : Thread Cert.FlashBwdRefIdeal.nD Cert.FlashBwdRefIdeal.τ).loc Cert.FlashBwdRefIdeal.main_arg0)
      ∧ r.2.mem ((c.tc : Thread Cert.FlashBwdRefIdeal.nD Cert.FlashBwdRefIdeal.τ).loc Cert.FlashBwdRefIdeal.main_arg1) = m ((c.tc : Thread Cert.FlashBwdRefIdeal.nD Cert.FlashBwdRefIdeal.τ).loc Cert.FlashBwdRefIdeal.main_arg1)
      ∧ r.2.mem ((c.tc : Thread Cert.FlashBwdRefIdeal.nD Cert.FlashBwdRefIdeal.τ).loc Cert.FlashBwdRefIdeal.main_arg2) = m ((c.tc : Thread Cert.FlashBwdRefIdeal.nD Cert.FlashBwdRefIdeal.τ).loc Cert.FlashBwdRefIdeal.main_arg2)
      ∧ r.2.mem ((c.tc : Thread Cert.FlashBwdRefIdeal.nD Cert.FlashBwdRefIdeal.τ).loc Cert.FlashBwdRefIdeal.main_arg3) = m ((c.tc : Thread Cert.FlashBwdRefIdeal.nD Cert.FlashBwdRefIdeal.τ).loc Cert.FlashBwdRefIdeal.main_arg3))
      ∧ r.2.sem = fun _ => 0)

def quiescent_FlashBwdRefIdeal_pre_flash_bwd_finite [hFlashBwdRefIdeal : Cert.FlashBwdRefIdeal.Facts] [hPre_flash_bwd_finite : Cert.Pre_flash_bwd_finite.Facts] : Prop :=
  ∀ (m : (ℓ : Loc Cert.FlashBwdRefIdeal.nD Cert.FlashBwdRefIdeal.τ Cert.FlashBwdRefIdeal.sig) → Buf (Elt Ideal) ℓ) (g : Dev Cert.FlashBwdRefIdeal.nD → PrngReg), Pre_FlashBwdRefIdeal_flash_bwd_finite m →
    θ_run (Cert.FlashBwdRefIdeal.defs (F := Ideal)) (onTc (τ := Cert.FlashBwdRefIdeal.τ) (Cert.FlashBwdRefIdeal.main (F := Ideal))) ⟨m, fun _ => 0, g⟩ (fun r => (∀ c : Dev Cert.FlashBwdRefIdeal.nD,
      r.2.mem ((c.tc : Thread Cert.FlashBwdRefIdeal.nD Cert.FlashBwdRefIdeal.τ).loc Cert.FlashBwdRefIdeal.main_arg0) = m ((c.tc : Thread Cert.FlashBwdRefIdeal.nD Cert.FlashBwdRefIdeal.τ).loc Cert.FlashBwdRefIdeal.main_arg0)
      ∧ r.2.mem ((c.tc : Thread Cert.FlashBwdRefIdeal.nD Cert.FlashBwdRefIdeal.τ).loc Cert.FlashBwdRefIdeal.main_arg1) = m ((c.tc : Thread Cert.FlashBwdRefIdeal.nD Cert.FlashBwdRefIdeal.τ).loc Cert.FlashBwdRefIdeal.main_arg1)
      ∧ r.2.mem ((c.tc : Thread Cert.FlashBwdRefIdeal.nD Cert.FlashBwdRefIdeal.τ).loc Cert.FlashBwdRefIdeal.main_arg2) = m ((c.tc : Thread Cert.FlashBwdRefIdeal.nD Cert.FlashBwdRefIdeal.τ).loc Cert.FlashBwdRefIdeal.main_arg2)
      ∧ r.2.mem ((c.tc : Thread Cert.FlashBwdRefIdeal.nD Cert.FlashBwdRefIdeal.τ).loc Cert.FlashBwdRefIdeal.main_arg3) = m ((c.tc : Thread Cert.FlashBwdRefIdeal.nD Cert.FlashBwdRefIdeal.τ).loc Cert.FlashBwdRefIdeal.main_arg3))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1)
      ∧ r.2.mem ((c.tc : Thread Cert.FfnIn.nD Cert.FfnIn.τ).loc Cert.FfnIn.main_arg2) = m ((c.tc : Thread Cert.FfnIn.nD Cert.FfnIn.τ).loc Cert.FfnIn.main_arg2)
      ∧ r.2.mem ((c.tc : Thread Cert.FfnIn.nD Cert.FfnIn.τ).loc Cert.FfnIn.main_arg3) = m ((c.tc : Thread Cert.FfnIn.nD Cert.FfnIn.τ).loc Cert.FfnIn.main_arg3)
      ∧ r.2.mem ((c.tc : Thread Cert.FfnIn.nD Cert.FfnIn.τ).loc Cert.FfnIn.main_arg4) = m ((c.tc : Thread Cert.FfnIn.nD Cert.FfnIn.τ).loc Cert.FfnIn.main_arg4)
      ∧ r.2.mem ((c.tc : Thread Cert.FfnIn.nD Cert.FfnIn.τ).loc Cert.FfnIn.main_arg5) = m ((c.tc : Thread Cert.FfnIn.nD Cert.FfnIn.τ).loc Cert.FfnIn.main_arg5)
      ∧ r.2.mem ((c.tc : Thread Cert.FfnIn.nD Cert.FfnIn.τ).loc Cert.FfnIn.main_arg6) = m ((c.tc : Thread Cert.FfnIn.nD Cert.FfnIn.τ).loc Cert.FfnIn.main_arg6))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
      ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
      ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
      ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4)
      ∧ r.2.mem ((c.tc : Thread Cert.FfnInIdeal.nD Cert.FfnInIdeal.τ).loc Cert.FfnInIdeal.main_arg5) = m ((c.tc : Thread Cert.FfnInIdeal.nD Cert.FfnInIdeal.τ).loc Cert.FfnInIdeal.main_arg5)
      ∧ r.2.mem ((c.tc : Thread Cert.FfnInIdeal.nD Cert.FfnInIdeal.τ).loc Cert.FfnInIdeal.main_arg6) = m ((c.tc : Thread Cert.FfnInIdeal.nD Cert.FfnInIdeal.τ).loc Cert.FfnInIdeal.main_arg6))
      ∧ r.2.sem = fun _ => 0)

def quiescent_FfnInIdeal_pre_ffn_in_finite [hFfnInIdeal : Cert.FfnInIdeal.Facts] [hPre_ffn_in_finite : Cert.Pre_ffn_in_finite.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal_ffn_in_finite m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
      ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
      ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
      ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4)
      ∧ r.2.mem ((c.tc : Thread Cert.FfnInIdeal.nD Cert.FfnInIdeal.τ).loc Cert.FfnInIdeal.main_arg5) = m ((c.tc : Thread Cert.FfnInIdeal.nD Cert.FfnInIdeal.τ).loc Cert.FfnInIdeal.main_arg5)
      ∧ r.2.mem ((c.tc : Thread Cert.FfnInIdeal.nD Cert.FfnInIdeal.τ).loc Cert.FfnInIdeal.main_arg6) = m ((c.tc : Thread Cert.FfnInIdeal.nD Cert.FfnInIdeal.τ).loc Cert.FfnInIdeal.main_arg6))
      ∧ r.2.sem = fun _ => 0)

def quiescent_FfnInRefIdeal [hFfnInRefIdeal : Cert.FfnInRefIdeal.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1)
      ∧ r.2.mem ((c.tc : Thread Cert.FfnInRefIdeal.nD Cert.FfnInRefIdeal.τ).loc Cert.FfnInRefIdeal.main_arg2) = m ((c.tc : Thread Cert.FfnInRefIdeal.nD Cert.FfnInRefIdeal.τ).loc Cert.FfnInRefIdeal.main_arg2)
      ∧ r.2.mem ((c.tc : Thread Cert.FfnInRefIdeal.nD Cert.FfnInRefIdeal.τ).loc Cert.FfnInRefIdeal.main_arg3) = m ((c.tc : Thread Cert.FfnInRefIdeal.nD Cert.FfnInRefIdeal.τ).loc Cert.FfnInRefIdeal.main_arg3)
      ∧ r.2.mem ((c.tc : Thread Cert.FfnInRefIdeal.nD Cert.FfnInRefIdeal.τ).loc Cert.FfnInRefIdeal.main_arg4) = m ((c.tc : Thread Cert.FfnInRefIdeal.nD Cert.FfnInRefIdeal.τ).loc Cert.FfnInRefIdeal.main_arg4)
      ∧ r.2.mem ((c.tc : Thread Cert.FfnInRefIdeal.nD Cert.FfnInRefIdeal.τ).loc Cert.FfnInRefIdeal.main_arg5) = m ((c.tc : Thread Cert.FfnInRefIdeal.nD Cert.FfnInRefIdeal.τ).loc Cert.FfnInRefIdeal.main_arg5)
      ∧ r.2.mem ((c.tc : Thread Cert.FfnInRefIdeal.nD Cert.FfnInRefIdeal.τ).loc Cert.FfnInRefIdeal.main_arg6) = m ((c.tc : Thread Cert.FfnInRefIdeal.nD Cert.FfnInRefIdeal.τ).loc Cert.FfnInRefIdeal.main_arg6))
      ∧ r.2.sem = fun _ => 0)

def quiescent_FfnInRefIdeal_pre_ffn_in_finite [hFfnInRefIdeal : Cert.FfnInRefIdeal.Facts] [hPre_ffn_in_finite : Cert.Pre_ffn_in_finite.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal_ffn_in_finite m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1)
      ∧ r.2.mem ((c.tc : Thread Cert.FfnInRefIdeal.nD Cert.FfnInRefIdeal.τ).loc Cert.FfnInRefIdeal.main_arg2) = m ((c.tc : Thread Cert.FfnInRefIdeal.nD Cert.FfnInRefIdeal.τ).loc Cert.FfnInRefIdeal.main_arg2)
      ∧ r.2.mem ((c.tc : Thread Cert.FfnInRefIdeal.nD Cert.FfnInRefIdeal.τ).loc Cert.FfnInRefIdeal.main_arg3) = m ((c.tc : Thread Cert.FfnInRefIdeal.nD Cert.FfnInRefIdeal.τ).loc Cert.FfnInRefIdeal.main_arg3)
      ∧ r.2.mem ((c.tc : Thread Cert.FfnInRefIdeal.nD Cert.FfnInRefIdeal.τ).loc Cert.FfnInRefIdeal.main_arg4) = m ((c.tc : Thread Cert.FfnInRefIdeal.nD Cert.FfnInRefIdeal.τ).loc Cert.FfnInRefIdeal.main_arg4)
      ∧ r.2.mem ((c.tc : Thread Cert.FfnInRefIdeal.nD Cert.FfnInRefIdeal.τ).loc Cert.FfnInRefIdeal.main_arg5) = m ((c.tc : Thread Cert.FfnInRefIdeal.nD Cert.FfnInRefIdeal.τ).loc Cert.FfnInRefIdeal.main_arg5)
      ∧ r.2.mem ((c.tc : Thread Cert.FfnInRefIdeal.nD Cert.FfnInRefIdeal.τ).loc Cert.FfnInRefIdeal.main_arg6) = m ((c.tc : Thread Cert.FfnInRefIdeal.nD Cert.FfnInRefIdeal.τ).loc Cert.FfnInRefIdeal.main_arg6))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ r.2.sem = fun _ => 0)

def quiescent_InProjIdeal_pre_in_proj_finite [hInProjIdeal : Cert.InProjIdeal.Facts] [hPre_in_proj_finite : Cert.Pre_in_proj_finite.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal_in_proj_finite m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4))
      ∧ r.2.sem = fun _ => 0)

def quiescent_InProjRefIdeal_pre_in_proj_finite [hInProjRefIdeal : Cert.InProjRefIdeal.Facts] [hPre_in_proj_finite : Cert.Pre_in_proj_finite.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal_in_proj_finite m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4))
      ∧ r.2.sem = fun _ => 0)

def quiescent_FfnHid [hFfnHid : Cert.FfnHid.Facts] : Prop :=
  ∀ (m : (ℓ : Loc Cert.FfnHid.nD Cert.FfnHid.τ Cert.FfnHid.sig) → Buf (Elt Bits) ℓ) (g : Dev Cert.FfnHid.nD → PrngReg), Pre_FfnHid m →
    θ_run (Cert.FfnHid.defs (F := Bits)) (onTc (τ := Cert.FfnHid.τ) (Cert.FfnHid.main (F := Bits))) ⟨m, fun _ => 0, g⟩ (fun r => (∀ c : Dev Cert.FfnHid.nD,
      r.2.mem ((c.tc : Thread Cert.FfnHid.nD Cert.FfnHid.τ).loc Cert.FfnHid.main_arg0) = m ((c.tc : Thread Cert.FfnHid.nD Cert.FfnHid.τ).loc Cert.FfnHid.main_arg0)
      ∧ r.2.mem ((c.tc : Thread Cert.FfnHid.nD Cert.FfnHid.τ).loc Cert.FfnHid.main_arg1) = m ((c.tc : Thread Cert.FfnHid.nD Cert.FfnHid.τ).loc Cert.FfnHid.main_arg1)
      ∧ r.2.mem ((c.tc : Thread Cert.FfnHid.nD Cert.FfnHid.τ).loc Cert.FfnHid.main_arg2) = m ((c.tc : Thread Cert.FfnHid.nD Cert.FfnHid.τ).loc Cert.FfnHid.main_arg2)
      ∧ r.2.mem ((c.tc : Thread Cert.FfnHid.nD Cert.FfnHid.τ).loc Cert.FfnHid.main_arg3) = m ((c.tc : Thread Cert.FfnHid.nD Cert.FfnHid.τ).loc Cert.FfnHid.main_arg3)
      ∧ r.2.mem ((c.tc : Thread Cert.FfnHid.nD Cert.FfnHid.τ).loc Cert.FfnHid.main_arg4) = m ((c.tc : Thread Cert.FfnHid.nD Cert.FfnHid.τ).loc Cert.FfnHid.main_arg4))
      ∧ r.2.sem = fun _ => 0)

def quiescent_FfnHidIdeal [hFfnHidIdeal : Cert.FfnHidIdeal.Facts] : Prop :=
  ∀ (m : (ℓ : Loc Cert.FfnHidIdeal.nD Cert.FfnHidIdeal.τ Cert.FfnHidIdeal.sig) → Buf (Elt Ideal) ℓ) (g : Dev Cert.FfnHidIdeal.nD → PrngReg), Pre_FfnHidIdeal m →
    θ_run (Cert.FfnHidIdeal.defs (F := Ideal)) (onTc (τ := Cert.FfnHidIdeal.τ) (Cert.FfnHidIdeal.main (F := Ideal))) ⟨m, fun _ => 0, g⟩ (fun r => (∀ c : Dev Cert.FfnHidIdeal.nD,
      r.2.mem ((c.tc : Thread Cert.FfnHidIdeal.nD Cert.FfnHidIdeal.τ).loc Cert.FfnHidIdeal.main_arg0) = m ((c.tc : Thread Cert.FfnHidIdeal.nD Cert.FfnHidIdeal.τ).loc Cert.FfnHidIdeal.main_arg0)
      ∧ r.2.mem ((c.tc : Thread Cert.FfnHidIdeal.nD Cert.FfnHidIdeal.τ).loc Cert.FfnHidIdeal.main_arg1) = m ((c.tc : Thread Cert.FfnHidIdeal.nD Cert.FfnHidIdeal.τ).loc Cert.FfnHidIdeal.main_arg1)
      ∧ r.2.mem ((c.tc : Thread Cert.FfnHidIdeal.nD Cert.FfnHidIdeal.τ).loc Cert.FfnHidIdeal.main_arg2) = m ((c.tc : Thread Cert.FfnHidIdeal.nD Cert.FfnHidIdeal.τ).loc Cert.FfnHidIdeal.main_arg2)
      ∧ r.2.mem ((c.tc : Thread Cert.FfnHidIdeal.nD Cert.FfnHidIdeal.τ).loc Cert.FfnHidIdeal.main_arg3) = m ((c.tc : Thread Cert.FfnHidIdeal.nD Cert.FfnHidIdeal.τ).loc Cert.FfnHidIdeal.main_arg3)
      ∧ r.2.mem ((c.tc : Thread Cert.FfnHidIdeal.nD Cert.FfnHidIdeal.τ).loc Cert.FfnHidIdeal.main_arg4) = m ((c.tc : Thread Cert.FfnHidIdeal.nD Cert.FfnHidIdeal.τ).loc Cert.FfnHidIdeal.main_arg4))
      ∧ r.2.sem = fun _ => 0)

def quiescent_FfnHidIdeal_pre_ffn_hidden_finite [hFfnHidIdeal : Cert.FfnHidIdeal.Facts] [hPre_ffn_hidden_finite : Cert.Pre_ffn_hidden_finite.Facts] : Prop :=
  ∀ (m : (ℓ : Loc Cert.FfnHidIdeal.nD Cert.FfnHidIdeal.τ Cert.FfnHidIdeal.sig) → Buf (Elt Ideal) ℓ) (g : Dev Cert.FfnHidIdeal.nD → PrngReg), Pre_FfnHidIdeal_ffn_hidden_finite m →
    θ_run (Cert.FfnHidIdeal.defs (F := Ideal)) (onTc (τ := Cert.FfnHidIdeal.τ) (Cert.FfnHidIdeal.main (F := Ideal))) ⟨m, fun _ => 0, g⟩ (fun r => (∀ c : Dev Cert.FfnHidIdeal.nD,
      r.2.mem ((c.tc : Thread Cert.FfnHidIdeal.nD Cert.FfnHidIdeal.τ).loc Cert.FfnHidIdeal.main_arg0) = m ((c.tc : Thread Cert.FfnHidIdeal.nD Cert.FfnHidIdeal.τ).loc Cert.FfnHidIdeal.main_arg0)
      ∧ r.2.mem ((c.tc : Thread Cert.FfnHidIdeal.nD Cert.FfnHidIdeal.τ).loc Cert.FfnHidIdeal.main_arg1) = m ((c.tc : Thread Cert.FfnHidIdeal.nD Cert.FfnHidIdeal.τ).loc Cert.FfnHidIdeal.main_arg1)
      ∧ r.2.mem ((c.tc : Thread Cert.FfnHidIdeal.nD Cert.FfnHidIdeal.τ).loc Cert.FfnHidIdeal.main_arg2) = m ((c.tc : Thread Cert.FfnHidIdeal.nD Cert.FfnHidIdeal.τ).loc Cert.FfnHidIdeal.main_arg2)
      ∧ r.2.mem ((c.tc : Thread Cert.FfnHidIdeal.nD Cert.FfnHidIdeal.τ).loc Cert.FfnHidIdeal.main_arg3) = m ((c.tc : Thread Cert.FfnHidIdeal.nD Cert.FfnHidIdeal.τ).loc Cert.FfnHidIdeal.main_arg3)
      ∧ r.2.mem ((c.tc : Thread Cert.FfnHidIdeal.nD Cert.FfnHidIdeal.τ).loc Cert.FfnHidIdeal.main_arg4) = m ((c.tc : Thread Cert.FfnHidIdeal.nD Cert.FfnHidIdeal.τ).loc Cert.FfnHidIdeal.main_arg4))
      ∧ r.2.sem = fun _ => 0)

def quiescent_FfnHidRefIdeal [hFfnHidRefIdeal : Cert.FfnHidRefIdeal.Facts] : Prop :=
  ∀ (m : (ℓ : Loc Cert.FfnHidRefIdeal.nD Cert.FfnHidRefIdeal.τ Cert.FfnHidRefIdeal.sig) → Buf (Elt Ideal) ℓ) (g : Dev Cert.FfnHidRefIdeal.nD → PrngReg), Pre_FfnHidRefIdeal m →
    θ_run (Cert.FfnHidRefIdeal.defs (F := Ideal)) (onTc (τ := Cert.FfnHidRefIdeal.τ) (Cert.FfnHidRefIdeal.main (F := Ideal))) ⟨m, fun _ => 0, g⟩ (fun r => (∀ c : Dev Cert.FfnHidRefIdeal.nD,
      r.2.mem ((c.tc : Thread Cert.FfnHidRefIdeal.nD Cert.FfnHidRefIdeal.τ).loc Cert.FfnHidRefIdeal.main_arg0) = m ((c.tc : Thread Cert.FfnHidRefIdeal.nD Cert.FfnHidRefIdeal.τ).loc Cert.FfnHidRefIdeal.main_arg0)
      ∧ r.2.mem ((c.tc : Thread Cert.FfnHidRefIdeal.nD Cert.FfnHidRefIdeal.τ).loc Cert.FfnHidRefIdeal.main_arg1) = m ((c.tc : Thread Cert.FfnHidRefIdeal.nD Cert.FfnHidRefIdeal.τ).loc Cert.FfnHidRefIdeal.main_arg1)
      ∧ r.2.mem ((c.tc : Thread Cert.FfnHidRefIdeal.nD Cert.FfnHidRefIdeal.τ).loc Cert.FfnHidRefIdeal.main_arg2) = m ((c.tc : Thread Cert.FfnHidRefIdeal.nD Cert.FfnHidRefIdeal.τ).loc Cert.FfnHidRefIdeal.main_arg2)
      ∧ r.2.mem ((c.tc : Thread Cert.FfnHidRefIdeal.nD Cert.FfnHidRefIdeal.τ).loc Cert.FfnHidRefIdeal.main_arg3) = m ((c.tc : Thread Cert.FfnHidRefIdeal.nD Cert.FfnHidRefIdeal.τ).loc Cert.FfnHidRefIdeal.main_arg3)
      ∧ r.2.mem ((c.tc : Thread Cert.FfnHidRefIdeal.nD Cert.FfnHidRefIdeal.τ).loc Cert.FfnHidRefIdeal.main_arg4) = m ((c.tc : Thread Cert.FfnHidRefIdeal.nD Cert.FfnHidRefIdeal.τ).loc Cert.FfnHidRefIdeal.main_arg4))
      ∧ r.2.sem = fun _ => 0)

def quiescent_FfnHidRefIdeal_pre_ffn_hidden_finite [hFfnHidRefIdeal : Cert.FfnHidRefIdeal.Facts] [hPre_ffn_hidden_finite : Cert.Pre_ffn_hidden_finite.Facts] : Prop :=
  ∀ (m : (ℓ : Loc Cert.FfnHidRefIdeal.nD Cert.FfnHidRefIdeal.τ Cert.FfnHidRefIdeal.sig) → Buf (Elt Ideal) ℓ) (g : Dev Cert.FfnHidRefIdeal.nD → PrngReg), Pre_FfnHidRefIdeal_ffn_hidden_finite m →
    θ_run (Cert.FfnHidRefIdeal.defs (F := Ideal)) (onTc (τ := Cert.FfnHidRefIdeal.τ) (Cert.FfnHidRefIdeal.main (F := Ideal))) ⟨m, fun _ => 0, g⟩ (fun r => (∀ c : Dev Cert.FfnHidRefIdeal.nD,
      r.2.mem ((c.tc : Thread Cert.FfnHidRefIdeal.nD Cert.FfnHidRefIdeal.τ).loc Cert.FfnHidRefIdeal.main_arg0) = m ((c.tc : Thread Cert.FfnHidRefIdeal.nD Cert.FfnHidRefIdeal.τ).loc Cert.FfnHidRefIdeal.main_arg0)
      ∧ r.2.mem ((c.tc : Thread Cert.FfnHidRefIdeal.nD Cert.FfnHidRefIdeal.τ).loc Cert.FfnHidRefIdeal.main_arg1) = m ((c.tc : Thread Cert.FfnHidRefIdeal.nD Cert.FfnHidRefIdeal.τ).loc Cert.FfnHidRefIdeal.main_arg1)
      ∧ r.2.mem ((c.tc : Thread Cert.FfnHidRefIdeal.nD Cert.FfnHidRefIdeal.τ).loc Cert.FfnHidRefIdeal.main_arg2) = m ((c.tc : Thread Cert.FfnHidRefIdeal.nD Cert.FfnHidRefIdeal.τ).loc Cert.FfnHidRefIdeal.main_arg2)
      ∧ r.2.mem ((c.tc : Thread Cert.FfnHidRefIdeal.nD Cert.FfnHidRefIdeal.τ).loc Cert.FfnHidRefIdeal.main_arg3) = m ((c.tc : Thread Cert.FfnHidRefIdeal.nD Cert.FfnHidRefIdeal.τ).loc Cert.FfnHidRefIdeal.main_arg3)
      ∧ r.2.mem ((c.tc : Thread Cert.FfnHidRefIdeal.nD Cert.FfnHidRefIdeal.τ).loc Cert.FfnHidRefIdeal.main_arg4) = m ((c.tc : Thread Cert.FfnHidRefIdeal.nD Cert.FfnHidRefIdeal.τ).loc Cert.FfnHidRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7))
      ∧ r.2.sem = fun _ => 0)

def quiescent_FfnLast [hFfnLast : Cert.FfnLast.Facts] : Prop :=
  ∀ (m : (ℓ : Loc Cert.FfnLast.nD Cert.FfnLast.τ Cert.FfnLast.sig) → Buf (Elt Bits) ℓ) (g : Dev Cert.FfnLast.nD → PrngReg), Pre_FfnLast m →
    θ_run (Cert.FfnLast.defs (F := Bits)) (onTc (τ := Cert.FfnLast.τ) (Cert.FfnLast.main (F := Bits))) ⟨m, fun _ => 0, g⟩ (fun r => (∀ c : Dev Cert.FfnLast.nD,
      r.2.mem ((c.tc : Thread Cert.FfnLast.nD Cert.FfnLast.τ).loc Cert.FfnLast.main_arg0) = m ((c.tc : Thread Cert.FfnLast.nD Cert.FfnLast.τ).loc Cert.FfnLast.main_arg0)
      ∧ r.2.mem ((c.tc : Thread Cert.FfnLast.nD Cert.FfnLast.τ).loc Cert.FfnLast.main_arg1) = m ((c.tc : Thread Cert.FfnLast.nD Cert.FfnLast.τ).loc Cert.FfnLast.main_arg1)
      ∧ r.2.mem ((c.tc : Thread Cert.FfnLast.nD Cert.FfnLast.τ).loc Cert.FfnLast.main_arg2) = m ((c.tc : Thread Cert.FfnLast.nD Cert.FfnLast.τ).loc Cert.FfnLast.main_arg2)
      ∧ r.2.mem ((c.tc : Thread Cert.FfnLast.nD Cert.FfnLast.τ).loc Cert.FfnLast.main_arg3) = m ((c.tc : Thread Cert.FfnLast.nD Cert.FfnLast.τ).loc Cert.FfnLast.main_arg3)
      ∧ r.2.mem ((c.tc : Thread Cert.FfnLast.nD Cert.FfnLast.τ).loc Cert.FfnLast.main_arg4) = m ((c.tc : Thread Cert.FfnLast.nD Cert.FfnLast.τ).loc Cert.FfnLast.main_arg4)
      ∧ r.2.mem ((c.tc : Thread Cert.FfnLast.nD Cert.FfnLast.τ).loc Cert.FfnLast.main_arg5) = m ((c.tc : Thread Cert.FfnLast.nD Cert.FfnLast.τ).loc Cert.FfnLast.main_arg5)
      ∧ r.2.mem ((c.tc : Thread Cert.FfnLast.nD Cert.FfnLast.τ).loc Cert.FfnLast.main_arg6) = m ((c.tc : Thread Cert.FfnLast.nD Cert.FfnLast.τ).loc Cert.FfnLast.main_arg6))
      ∧ r.2.sem = fun _ => 0)

def quiescent_FfnLastIdeal [hFfnLastIdeal : Cert.FfnLastIdeal.Facts] : Prop :=
  ∀ (m : (ℓ : Loc Cert.FfnLastIdeal.nD Cert.FfnLastIdeal.τ Cert.FfnLastIdeal.sig) → Buf (Elt Ideal) ℓ) (g : Dev Cert.FfnLastIdeal.nD → PrngReg), Pre_FfnLastIdeal m →
    θ_run (Cert.FfnLastIdeal.defs (F := Ideal)) (onTc (τ := Cert.FfnLastIdeal.τ) (Cert.FfnLastIdeal.main (F := Ideal))) ⟨m, fun _ => 0, g⟩ (fun r => (∀ c : Dev Cert.FfnLastIdeal.nD,
      r.2.mem ((c.tc : Thread Cert.FfnLastIdeal.nD Cert.FfnLastIdeal.τ).loc Cert.FfnLastIdeal.main_arg0) = m ((c.tc : Thread Cert.FfnLastIdeal.nD Cert.FfnLastIdeal.τ).loc Cert.FfnLastIdeal.main_arg0)
      ∧ r.2.mem ((c.tc : Thread Cert.FfnLastIdeal.nD Cert.FfnLastIdeal.τ).loc Cert.FfnLastIdeal.main_arg1) = m ((c.tc : Thread Cert.FfnLastIdeal.nD Cert.FfnLastIdeal.τ).loc Cert.FfnLastIdeal.main_arg1)
      ∧ r.2.mem ((c.tc : Thread Cert.FfnLastIdeal.nD Cert.FfnLastIdeal.τ).loc Cert.FfnLastIdeal.main_arg2) = m ((c.tc : Thread Cert.FfnLastIdeal.nD Cert.FfnLastIdeal.τ).loc Cert.FfnLastIdeal.main_arg2)
      ∧ r.2.mem ((c.tc : Thread Cert.FfnLastIdeal.nD Cert.FfnLastIdeal.τ).loc Cert.FfnLastIdeal.main_arg3) = m ((c.tc : Thread Cert.FfnLastIdeal.nD Cert.FfnLastIdeal.τ).loc Cert.FfnLastIdeal.main_arg3)
      ∧ r.2.mem ((c.tc : Thread Cert.FfnLastIdeal.nD Cert.FfnLastIdeal.τ).loc Cert.FfnLastIdeal.main_arg4) = m ((c.tc : Thread Cert.FfnLastIdeal.nD Cert.FfnLastIdeal.τ).loc Cert.FfnLastIdeal.main_arg4)
      ∧ r.2.mem ((c.tc : Thread Cert.FfnLastIdeal.nD Cert.FfnLastIdeal.τ).loc Cert.FfnLastIdeal.main_arg5) = m ((c.tc : Thread Cert.FfnLastIdeal.nD Cert.FfnLastIdeal.τ).loc Cert.FfnLastIdeal.main_arg5)
      ∧ r.2.mem ((c.tc : Thread Cert.FfnLastIdeal.nD Cert.FfnLastIdeal.τ).loc Cert.FfnLastIdeal.main_arg6) = m ((c.tc : Thread Cert.FfnLastIdeal.nD Cert.FfnLastIdeal.τ).loc Cert.FfnLastIdeal.main_arg6))
      ∧ r.2.sem = fun _ => 0)

def quiescent_FfnLastIdeal_pre_ffn_last_finite [hFfnLastIdeal : Cert.FfnLastIdeal.Facts] [hPre_ffn_last_finite : Cert.Pre_ffn_last_finite.Facts] : Prop :=
  ∀ (m : (ℓ : Loc Cert.FfnLastIdeal.nD Cert.FfnLastIdeal.τ Cert.FfnLastIdeal.sig) → Buf (Elt Ideal) ℓ) (g : Dev Cert.FfnLastIdeal.nD → PrngReg), Pre_FfnLastIdeal_ffn_last_finite m →
    θ_run (Cert.FfnLastIdeal.defs (F := Ideal)) (onTc (τ := Cert.FfnLastIdeal.τ) (Cert.FfnLastIdeal.main (F := Ideal))) ⟨m, fun _ => 0, g⟩ (fun r => (∀ c : Dev Cert.FfnLastIdeal.nD,
      r.2.mem ((c.tc : Thread Cert.FfnLastIdeal.nD Cert.FfnLastIdeal.τ).loc Cert.FfnLastIdeal.main_arg0) = m ((c.tc : Thread Cert.FfnLastIdeal.nD Cert.FfnLastIdeal.τ).loc Cert.FfnLastIdeal.main_arg0)
      ∧ r.2.mem ((c.tc : Thread Cert.FfnLastIdeal.nD Cert.FfnLastIdeal.τ).loc Cert.FfnLastIdeal.main_arg1) = m ((c.tc : Thread Cert.FfnLastIdeal.nD Cert.FfnLastIdeal.τ).loc Cert.FfnLastIdeal.main_arg1)
      ∧ r.2.mem ((c.tc : Thread Cert.FfnLastIdeal.nD Cert.FfnLastIdeal.τ).loc Cert.FfnLastIdeal.main_arg2) = m ((c.tc : Thread Cert.FfnLastIdeal.nD Cert.FfnLastIdeal.τ).loc Cert.FfnLastIdeal.main_arg2)
      ∧ r.2.mem ((c.tc : Thread Cert.FfnLastIdeal.nD Cert.FfnLastIdeal.τ).loc Cert.FfnLastIdeal.main_arg3) = m ((c.tc : Thread Cert.FfnLastIdeal.nD Cert.FfnLastIdeal.τ).loc Cert.FfnLastIdeal.main_arg3)
      ∧ r.2.mem ((c.tc : Thread Cert.FfnLastIdeal.nD Cert.FfnLastIdeal.τ).loc Cert.FfnLastIdeal.main_arg4) = m ((c.tc : Thread Cert.FfnLastIdeal.nD Cert.FfnLastIdeal.τ).loc Cert.FfnLastIdeal.main_arg4)
      ∧ r.2.mem ((c.tc : Thread Cert.FfnLastIdeal.nD Cert.FfnLastIdeal.τ).loc Cert.FfnLastIdeal.main_arg5) = m ((c.tc : Thread Cert.FfnLastIdeal.nD Cert.FfnLastIdeal.τ).loc Cert.FfnLastIdeal.main_arg5)
      ∧ r.2.mem ((c.tc : Thread Cert.FfnLastIdeal.nD Cert.FfnLastIdeal.τ).loc Cert.FfnLastIdeal.main_arg6) = m ((c.tc : Thread Cert.FfnLastIdeal.nD Cert.FfnLastIdeal.τ).loc Cert.FfnLastIdeal.main_arg6))
      ∧ r.2.sem = fun _ => 0)

def quiescent_FfnLastRefIdeal [hFfnLastRefIdeal : Cert.FfnLastRefIdeal.Facts] : Prop :=
  ∀ (m : (ℓ : Loc Cert.FfnLastRefIdeal.nD Cert.FfnLastRefIdeal.τ Cert.FfnLastRefIdeal.sig) → Buf (Elt Ideal) ℓ) (g : Dev Cert.FfnLastRefIdeal.nD → PrngReg), Pre_FfnLastRefIdeal m →
    θ_run (Cert.FfnLastRefIdeal.defs (F := Ideal)) (onTc (τ := Cert.FfnLastRefIdeal.τ) (Cert.FfnLastRefIdeal.main (F := Ideal))) ⟨m, fun _ => 0, g⟩ (fun r => (∀ c : Dev Cert.FfnLastRefIdeal.nD,
      r.2.mem ((c.tc : Thread Cert.FfnLastRefIdeal.nD Cert.FfnLastRefIdeal.τ).loc Cert.FfnLastRefIdeal.main_arg0) = m ((c.tc : Thread Cert.FfnLastRefIdeal.nD Cert.FfnLastRefIdeal.τ).loc Cert.FfnLastRefIdeal.main_arg0)
      ∧ r.2.mem ((c.tc : Thread Cert.FfnLastRefIdeal.nD Cert.FfnLastRefIdeal.τ).loc Cert.FfnLastRefIdeal.main_arg1) = m ((c.tc : Thread Cert.FfnLastRefIdeal.nD Cert.FfnLastRefIdeal.τ).loc Cert.FfnLastRefIdeal.main_arg1)
      ∧ r.2.mem ((c.tc : Thread Cert.FfnLastRefIdeal.nD Cert.FfnLastRefIdeal.τ).loc Cert.FfnLastRefIdeal.main_arg2) = m ((c.tc : Thread Cert.FfnLastRefIdeal.nD Cert.FfnLastRefIdeal.τ).loc Cert.FfnLastRefIdeal.main_arg2)
      ∧ r.2.mem ((c.tc : Thread Cert.FfnLastRefIdeal.nD Cert.FfnLastRefIdeal.τ).loc Cert.FfnLastRefIdeal.main_arg3) = m ((c.tc : Thread Cert.FfnLastRefIdeal.nD Cert.FfnLastRefIdeal.τ).loc Cert.FfnLastRefIdeal.main_arg3)
      ∧ r.2.mem ((c.tc : Thread Cert.FfnLastRefIdeal.nD Cert.FfnLastRefIdeal.τ).loc Cert.FfnLastRefIdeal.main_arg4) = m ((c.tc : Thread Cert.FfnLastRefIdeal.nD Cert.FfnLastRefIdeal.τ).loc Cert.FfnLastRefIdeal.main_arg4)
      ∧ r.2.mem ((c.tc : Thread Cert.FfnLastRefIdeal.nD Cert.FfnLastRefIdeal.τ).loc Cert.FfnLastRefIdeal.main_arg5) = m ((c.tc : Thread Cert.FfnLastRefIdeal.nD Cert.FfnLastRefIdeal.τ).loc Cert.FfnLastRefIdeal.main_arg5)
      ∧ r.2.mem ((c.tc : Thread Cert.FfnLastRefIdeal.nD Cert.FfnLastRefIdeal.τ).loc Cert.FfnLastRefIdeal.main_arg6) = m ((c.tc : Thread Cert.FfnLastRefIdeal.nD Cert.FfnLastRefIdeal.τ).loc Cert.FfnLastRefIdeal.main_arg6))
      ∧ r.2.sem = fun _ => 0)

def quiescent_FfnLastRefIdeal_pre_ffn_last_finite [hFfnLastRefIdeal : Cert.FfnLastRefIdeal.Facts] [hPre_ffn_last_finite : Cert.Pre_ffn_last_finite.Facts] : Prop :=
  ∀ (m : (ℓ : Loc Cert.FfnLastRefIdeal.nD Cert.FfnLastRefIdeal.τ Cert.FfnLastRefIdeal.sig) → Buf (Elt Ideal) ℓ) (g : Dev Cert.FfnLastRefIdeal.nD → PrngReg), Pre_FfnLastRefIdeal_ffn_last_finite m →
    θ_run (Cert.FfnLastRefIdeal.defs (F := Ideal)) (onTc (τ := Cert.FfnLastRefIdeal.τ) (Cert.FfnLastRefIdeal.main (F := Ideal))) ⟨m, fun _ => 0, g⟩ (fun r => (∀ c : Dev Cert.FfnLastRefIdeal.nD,
      r.2.mem ((c.tc : Thread Cert.FfnLastRefIdeal.nD Cert.FfnLastRefIdeal.τ).loc Cert.FfnLastRefIdeal.main_arg0) = m ((c.tc : Thread Cert.FfnLastRefIdeal.nD Cert.FfnLastRefIdeal.τ).loc Cert.FfnLastRefIdeal.main_arg0)
      ∧ r.2.mem ((c.tc : Thread Cert.FfnLastRefIdeal.nD Cert.FfnLastRefIdeal.τ).loc Cert.FfnLastRefIdeal.main_arg1) = m ((c.tc : Thread Cert.FfnLastRefIdeal.nD Cert.FfnLastRefIdeal.τ).loc Cert.FfnLastRefIdeal.main_arg1)
      ∧ r.2.mem ((c.tc : Thread Cert.FfnLastRefIdeal.nD Cert.FfnLastRefIdeal.τ).loc Cert.FfnLastRefIdeal.main_arg2) = m ((c.tc : Thread Cert.FfnLastRefIdeal.nD Cert.FfnLastRefIdeal.τ).loc Cert.FfnLastRefIdeal.main_arg2)
      ∧ r.2.mem ((c.tc : Thread Cert.FfnLastRefIdeal.nD Cert.FfnLastRefIdeal.τ).loc Cert.FfnLastRefIdeal.main_arg3) = m ((c.tc : Thread Cert.FfnLastRefIdeal.nD Cert.FfnLastRefIdeal.τ).loc Cert.FfnLastRefIdeal.main_arg3)
      ∧ r.2.mem ((c.tc : Thread Cert.FfnLastRefIdeal.nD Cert.FfnLastRefIdeal.τ).loc Cert.FfnLastRefIdeal.main_arg4) = m ((c.tc : Thread Cert.FfnLastRefIdeal.nD Cert.FfnLastRefIdeal.τ).loc Cert.FfnLastRefIdeal.main_arg4)
      ∧ r.2.mem ((c.tc : Thread Cert.FfnLastRefIdeal.nD Cert.FfnLastRefIdeal.τ).loc Cert.FfnLastRefIdeal.main_arg5) = m ((c.tc : Thread Cert.FfnLastRefIdeal.nD Cert.FfnLastRefIdeal.τ).loc Cert.FfnLastRefIdeal.main_arg5)
      ∧ r.2.mem ((c.tc : Thread Cert.FfnLastRefIdeal.nD Cert.FfnLastRefIdeal.τ).loc Cert.FfnLastRefIdeal.main_arg6) = m ((c.tc : Thread Cert.FfnLastRefIdeal.nD Cert.FfnLastRefIdeal.τ).loc Cert.FfnLastRefIdeal.main_arg6))
      ∧ r.2.sem = fun _ => 0)

def preserves_KPrep_KPrepIdeal : Prop :=
  True

def algebraic_KPrepIdeal_KPrepRefIdeal_pre_k_prep_finite [hKPrepIdeal : Cert.KPrepIdeal.Facts] [hKPrepRefIdeal : Cert.KPrepRefIdeal.Facts] [hPre_k_prep_finite : Cert.Pre_k_prep_finite.Facts] : Prop :=
  ∀ (m : (ℓ : Loc Cert.KPrepIdeal.nD Cert.KPrepIdeal.τ Cert.KPrepIdeal.sig) → Buf (Elt Ideal) ℓ) (g : Dev Cert.KPrepIdeal.nD → PrngReg)
    (m' : (ℓ : Loc Cert.KPrepRefIdeal.nD Cert.KPrepRefIdeal.τ Cert.KPrepRefIdeal.sig) → Buf (Elt Ideal) ℓ) (g' : Dev Cert.KPrepRefIdeal.nD → PrngReg), Pre_KPrepIdeal_k_prep_finite m →
    (∀ c : Dev Cert.KPrepIdeal.nD,
      m' ((c.tc : Thread Cert.KPrepRefIdeal.nD Cert.KPrepRefIdeal.τ).loc Cert.KPrepRefIdeal.main_arg0) = m ((c.tc : Thread Cert.KPrepIdeal.nD Cert.KPrepIdeal.τ).loc Cert.KPrepIdeal.main_arg0)
      ∧ m' ((c.tc : Thread Cert.KPrepRefIdeal.nD Cert.KPrepRefIdeal.τ).loc Cert.KPrepRefIdeal.main_arg1) = m ((c.tc : Thread Cert.KPrepIdeal.nD Cert.KPrepIdeal.τ).loc Cert.KPrepIdeal.main_arg1)
      ∧ m' ((c.tc : Thread Cert.KPrepRefIdeal.nD Cert.KPrepRefIdeal.τ).loc Cert.KPrepRefIdeal.main_arg2) = m ((c.tc : Thread Cert.KPrepIdeal.nD Cert.KPrepIdeal.τ).loc Cert.KPrepIdeal.main_arg2)
      ∧ m' ((c.tc : Thread Cert.KPrepRefIdeal.nD Cert.KPrepRefIdeal.τ).loc Cert.KPrepRefIdeal.main_arg3) = m ((c.tc : Thread Cert.KPrepIdeal.nD Cert.KPrepIdeal.τ).loc Cert.KPrepIdeal.main_arg3)) →
    ∃ (v0 : (c : Dev Cert.KPrepIdeal.nD) → Buf (Elt Ideal) ((c.tc : Thread Cert.KPrepIdeal.nD Cert.KPrepIdeal.τ).loc Cert.KPrepIdeal.main_v33_0)) (v1 : (c : Dev Cert.KPrepIdeal.nD) → Buf (Elt Ideal) ((c.tc : Thread Cert.KPrepIdeal.nD Cert.KPrepIdeal.τ).loc Cert.KPrepIdeal.main_v33_1)),
      θ_run (Cert.KPrepIdeal.defs (F := Ideal)) (onTc (τ := Cert.KPrepIdeal.τ) (Cert.KPrepIdeal.main (F := Ideal))) ⟨m, fun _ => 0, g⟩ (fun r => ∀ c : Dev Cert.KPrepIdeal.nD,
          r.2.mem ((c.tc : Thread Cert.KPrepIdeal.nD Cert.KPrepIdeal.τ).loc Cert.KPrepIdeal.main_v33_0) = v0 c
          ∧ r.2.mem ((c.tc : Thread Cert.KPrepIdeal.nD Cert.KPrepIdeal.τ).loc Cert.KPrepIdeal.main_v33_1) = v1 c
          ∧ r.2.mem ((c.tc : Thread Cert.KPrepIdeal.nD Cert.KPrepIdeal.τ).loc Cert.KPrepIdeal.main_arg0) = m ((c.tc : Thread Cert.KPrepIdeal.nD Cert.KPrepIdeal.τ).loc Cert.KPrepIdeal.main_arg0)
          ∧ r.2.mem ((c.tc : Thread Cert.KPrepIdeal.nD Cert.KPrepIdeal.τ).loc Cert.KPrepIdeal.main_arg1) = m ((c.tc : Thread Cert.KPrepIdeal.nD Cert.KPrepIdeal.τ).loc Cert.KPrepIdeal.main_arg1)
          ∧ r.2.mem ((c.tc : Thread Cert.KPrepIdeal.nD Cert.KPrepIdeal.τ).loc Cert.KPrepIdeal.main_arg2) = m ((c.tc : Thread Cert.KPrepIdeal.nD Cert.KPrepIdeal.τ).loc Cert.KPrepIdeal.main_arg2)
          ∧ r.2.mem ((c.tc : Thread Cert.KPrepIdeal.nD Cert.KPrepIdeal.τ).loc Cert.KPrepIdeal.main_arg3) = m ((c.tc : Thread Cert.KPrepIdeal.nD Cert.KPrepIdeal.τ).loc Cert.KPrepIdeal.main_arg3))
      ∧ θ_run (Cert.KPrepRefIdeal.defs (F := Ideal)) (onTc (τ := Cert.KPrepRefIdeal.τ) (Cert.KPrepRefIdeal.main (F := Ideal))) ⟨m', fun _ => 0, g'⟩ (fun r => ∀ c : Dev Cert.KPrepRefIdeal.nD,
          r.2.mem ((c.tc : Thread Cert.KPrepRefIdeal.nD Cert.KPrepRefIdeal.τ).loc Cert.KPrepRefIdeal.main_v120) = v0 c
          ∧ r.2.mem ((c.tc : Thread Cert.KPrepRefIdeal.nD Cert.KPrepRefIdeal.τ).loc Cert.KPrepRefIdeal.main_v116) = v1 c
          ∧ r.2.mem ((c.tc : Thread Cert.KPrepRefIdeal.nD Cert.KPrepRefIdeal.τ).loc Cert.KPrepRefIdeal.main_arg0) = m' ((c.tc : Thread Cert.KPrepRefIdeal.nD Cert.KPrepRefIdeal.τ).loc Cert.KPrepRefIdeal.main_arg0)
          ∧ r.2.mem ((c.tc : Thread Cert.KPrepRefIdeal.nD Cert.KPrepRefIdeal.τ).loc Cert.KPrepRefIdeal.main_arg1) = m' ((c.tc : Thread Cert.KPrepRefIdeal.nD Cert.KPrepRefIdeal.τ).loc Cert.KPrepRefIdeal.main_arg1)
          ∧ r.2.mem ((c.tc : Thread Cert.KPrepRefIdeal.nD Cert.KPrepRefIdeal.τ).loc Cert.KPrepRefIdeal.main_arg2) = m' ((c.tc : Thread Cert.KPrepRefIdeal.nD Cert.KPrepRefIdeal.τ).loc Cert.KPrepRefIdeal.main_arg2)
          ∧ r.2.mem ((c.tc : Thread Cert.KPrepRefIdeal.nD Cert.KPrepRefIdeal.τ).loc Cert.KPrepRefIdeal.main_arg3) = m' ((c.tc : Thread Cert.KPrepRefIdeal.nD Cert.KPrepRefIdeal.τ).loc Cert.KPrepRefIdeal.main_arg3))

def preserves_QPrep_QPrepIdeal : Prop :=
  True

def algebraic_QPrepIdeal_QPrepRefIdeal_pre_q_prep_finite [hQPrepIdeal : Cert.QPrepIdeal.Facts] [hQPrepRefIdeal : Cert.QPrepRefIdeal.Facts] [hPre_q_prep_finite : Cert.Pre_q_prep_finite.Facts] : Prop :=
  ∀ (m : (ℓ : Loc Cert.QPrepIdeal.nD Cert.QPrepIdeal.τ Cert.QPrepIdeal.sig) → Buf (Elt Ideal) ℓ) (g : Dev Cert.QPrepIdeal.nD → PrngReg)
    (m' : (ℓ : Loc Cert.QPrepRefIdeal.nD Cert.QPrepRefIdeal.τ Cert.QPrepRefIdeal.sig) → Buf (Elt Ideal) ℓ) (g' : Dev Cert.QPrepRefIdeal.nD → PrngReg), Pre_QPrepIdeal_q_prep_finite m →
    (∀ c : Dev Cert.QPrepIdeal.nD,
      m' ((c.tc : Thread Cert.QPrepRefIdeal.nD Cert.QPrepRefIdeal.τ).loc Cert.QPrepRefIdeal.main_arg0) = m ((c.tc : Thread Cert.QPrepIdeal.nD Cert.QPrepIdeal.τ).loc Cert.QPrepIdeal.main_arg0)
      ∧ m' ((c.tc : Thread Cert.QPrepRefIdeal.nD Cert.QPrepRefIdeal.τ).loc Cert.QPrepRefIdeal.main_arg1) = m ((c.tc : Thread Cert.QPrepIdeal.nD Cert.QPrepIdeal.τ).loc Cert.QPrepIdeal.main_arg1)
      ∧ m' ((c.tc : Thread Cert.QPrepRefIdeal.nD Cert.QPrepRefIdeal.τ).loc Cert.QPrepRefIdeal.main_arg2) = m ((c.tc : Thread Cert.QPrepIdeal.nD Cert.QPrepIdeal.τ).loc Cert.QPrepIdeal.main_arg2)) →
    ∃ (v0 : (c : Dev Cert.QPrepIdeal.nD) → Buf (Elt Ideal) ((c.tc : Thread Cert.QPrepIdeal.nD Cert.QPrepIdeal.τ).loc Cert.QPrepIdeal.main_v33_0)) (v1 : (c : Dev Cert.QPrepIdeal.nD) → Buf (Elt Ideal) ((c.tc : Thread Cert.QPrepIdeal.nD Cert.QPrepIdeal.τ).loc Cert.QPrepIdeal.main_v33_1)),
      θ_run (Cert.QPrepIdeal.defs (F := Ideal)) (onTc (τ := Cert.QPrepIdeal.τ) (Cert.QPrepIdeal.main (F := Ideal))) ⟨m, fun _ => 0, g⟩ (fun r => ∀ c : Dev Cert.QPrepIdeal.nD,
          r.2.mem ((c.tc : Thread Cert.QPrepIdeal.nD Cert.QPrepIdeal.τ).loc Cert.QPrepIdeal.main_v33_0) = v0 c
          ∧ r.2.mem ((c.tc : Thread Cert.QPrepIdeal.nD Cert.QPrepIdeal.τ).loc Cert.QPrepIdeal.main_v33_1) = v1 c
          ∧ r.2.mem ((c.tc : Thread Cert.QPrepIdeal.nD Cert.QPrepIdeal.τ).loc Cert.QPrepIdeal.main_arg0) = m ((c.tc : Thread Cert.QPrepIdeal.nD Cert.QPrepIdeal.τ).loc Cert.QPrepIdeal.main_arg0)
          ∧ r.2.mem ((c.tc : Thread Cert.QPrepIdeal.nD Cert.QPrepIdeal.τ).loc Cert.QPrepIdeal.main_arg1) = m ((c.tc : Thread Cert.QPrepIdeal.nD Cert.QPrepIdeal.τ).loc Cert.QPrepIdeal.main_arg1)
          ∧ r.2.mem ((c.tc : Thread Cert.QPrepIdeal.nD Cert.QPrepIdeal.τ).loc Cert.QPrepIdeal.main_arg2) = m ((c.tc : Thread Cert.QPrepIdeal.nD Cert.QPrepIdeal.τ).loc Cert.QPrepIdeal.main_arg2))
      ∧ θ_run (Cert.QPrepRefIdeal.defs (F := Ideal)) (onTc (τ := Cert.QPrepRefIdeal.τ) (Cert.QPrepRefIdeal.main (F := Ideal))) ⟨m', fun _ => 0, g'⟩ (fun r => ∀ c : Dev Cert.QPrepRefIdeal.nD,
          r.2.mem ((c.tc : Thread Cert.QPrepRefIdeal.nD Cert.QPrepRefIdeal.τ).loc Cert.QPrepRefIdeal.main_v114) = v0 c
          ∧ r.2.mem ((c.tc : Thread Cert.QPrepRefIdeal.nD Cert.QPrepRefIdeal.τ).loc Cert.QPrepRefIdeal.main_v112) = v1 c
          ∧ r.2.mem ((c.tc : Thread Cert.QPrepRefIdeal.nD Cert.QPrepRefIdeal.τ).loc Cert.QPrepRefIdeal.main_arg0) = m' ((c.tc : Thread Cert.QPrepRefIdeal.nD Cert.QPrepRefIdeal.τ).loc Cert.QPrepRefIdeal.main_arg0)
          ∧ r.2.mem ((c.tc : Thread Cert.QPrepRefIdeal.nD Cert.QPrepRefIdeal.τ).loc Cert.QPrepRefIdeal.main_arg1) = m' ((c.tc : Thread Cert.QPrepRefIdeal.nD Cert.QPrepRefIdeal.τ).loc Cert.QPrepRefIdeal.main_arg1)
          ∧ r.2.mem ((c.tc : Thread Cert.QPrepRefIdeal.nD Cert.QPrepRefIdeal.τ).loc Cert.QPrepRefIdeal.main_arg2) = m' ((c.tc : Thread Cert.QPrepRefIdeal.nD Cert.QPrepRefIdeal.τ).loc Cert.QPrepRefIdeal.main_arg2))

def preserves_FlashFwd_FlashFwdIdeal : Prop :=
  IdealRules.named_const.Statement Cert.FlashFwdIdeal.κ "log_2" .f32 0x3F317218#32 ((Real.log 2 : ℝ) : EReal)

def algebraic_FlashFwdIdeal_FlashFwdRefIdeal_pre_flash_fwd_finite [hFlashFwdIdeal : Cert.FlashFwdIdeal.Facts] [hFlashFwdRefIdeal : Cert.FlashFwdRefIdeal.Facts] [hPre_flash_fwd_finite : Cert.Pre_flash_fwd_finite.Facts] : Prop :=
  ∀ (m : (ℓ : Loc Cert.FlashFwdIdeal.nD Cert.FlashFwdIdeal.τ Cert.FlashFwdIdeal.sig) → Buf (Elt Ideal) ℓ) (g : Dev Cert.FlashFwdIdeal.nD → PrngReg)
    (m' : (ℓ : Loc Cert.FlashFwdRefIdeal.nD Cert.FlashFwdRefIdeal.τ Cert.FlashFwdRefIdeal.sig) → Buf (Elt Ideal) ℓ) (g' : Dev Cert.FlashFwdRefIdeal.nD → PrngReg), Pre_FlashFwdIdeal_flash_fwd_finite m →
    (∀ c : Dev Cert.FlashFwdIdeal.nD,
      m' ((c.tc : Thread Cert.FlashFwdRefIdeal.nD Cert.FlashFwdRefIdeal.τ).loc Cert.FlashFwdRefIdeal.main_arg0) = m ((c.tc : Thread Cert.FlashFwdIdeal.nD Cert.FlashFwdIdeal.τ).loc Cert.FlashFwdIdeal.main_arg0)
      ∧ m' ((c.tc : Thread Cert.FlashFwdRefIdeal.nD Cert.FlashFwdRefIdeal.τ).loc Cert.FlashFwdRefIdeal.main_arg1) = m ((c.tc : Thread Cert.FlashFwdIdeal.nD Cert.FlashFwdIdeal.τ).loc Cert.FlashFwdIdeal.main_arg1)
      ∧ m' ((c.tc : Thread Cert.FlashFwdRefIdeal.nD Cert.FlashFwdRefIdeal.τ).loc Cert.FlashFwdRefIdeal.main_arg2) = m ((c.tc : Thread Cert.FlashFwdIdeal.nD Cert.FlashFwdIdeal.τ).loc Cert.FlashFwdIdeal.main_arg2)) →
    ∃ (v0 : (c : Dev Cert.FlashFwdIdeal.nD) → Buf (Elt Ideal) ((c.tc : Thread Cert.FlashFwdIdeal.nD Cert.FlashFwdIdeal.τ).loc Cert.FlashFwdIdeal.main_v9_0)) (v1 : (c : Dev Cert.FlashFwdIdeal.nD) → Buf (Elt Ideal) ((c.tc : Thread Cert.FlashFwdIdeal.nD Cert.FlashFwdIdeal.τ).loc Cert.FlashFwdIdeal.main_v9_1)),
      θ_run (Cert.FlashFwdIdeal.defs (F := Ideal)) (onTc (τ := Cert.FlashFwdIdeal.τ) (Cert.FlashFwdIdeal.main (F := Ideal))) ⟨m, fun _ => 0, g⟩ (fun r => ∀ c : Dev Cert.FlashFwdIdeal.nD,
          r.2.mem ((c.tc : Thread Cert.FlashFwdIdeal.nD Cert.FlashFwdIdeal.τ).loc Cert.FlashFwdIdeal.main_v9_0) = v0 c
          ∧ r.2.mem ((c.tc : Thread Cert.FlashFwdIdeal.nD Cert.FlashFwdIdeal.τ).loc Cert.FlashFwdIdeal.main_v9_1) = v1 c
          ∧ r.2.mem ((c.tc : Thread Cert.FlashFwdIdeal.nD Cert.FlashFwdIdeal.τ).loc Cert.FlashFwdIdeal.main_arg0) = m ((c.tc : Thread Cert.FlashFwdIdeal.nD Cert.FlashFwdIdeal.τ).loc Cert.FlashFwdIdeal.main_arg0)
          ∧ r.2.mem ((c.tc : Thread Cert.FlashFwdIdeal.nD Cert.FlashFwdIdeal.τ).loc Cert.FlashFwdIdeal.main_arg1) = m ((c.tc : Thread Cert.FlashFwdIdeal.nD Cert.FlashFwdIdeal.τ).loc Cert.FlashFwdIdeal.main_arg1)
          ∧ r.2.mem ((c.tc : Thread Cert.FlashFwdIdeal.nD Cert.FlashFwdIdeal.τ).loc Cert.FlashFwdIdeal.main_arg2) = m ((c.tc : Thread Cert.FlashFwdIdeal.nD Cert.FlashFwdIdeal.τ).loc Cert.FlashFwdIdeal.main_arg2))
      ∧ θ_run (Cert.FlashFwdRefIdeal.defs (F := Ideal)) (onTc (τ := Cert.FlashFwdRefIdeal.τ) (Cert.FlashFwdRefIdeal.main (F := Ideal))) ⟨m', fun _ => 0, g'⟩ (fun r => ∀ c : Dev Cert.FlashFwdRefIdeal.nD,
          r.2.mem ((c.tc : Thread Cert.FlashFwdRefIdeal.nD Cert.FlashFwdRefIdeal.τ).loc Cert.FlashFwdRefIdeal.main_v32) = v0 c
          ∧ r.2.mem ((c.tc : Thread Cert.FlashFwdRefIdeal.nD Cert.FlashFwdRefIdeal.τ).loc Cert.FlashFwdRefIdeal.main_v36) = v1 c
          ∧ r.2.mem ((c.tc : Thread Cert.FlashFwdRefIdeal.nD Cert.FlashFwdRefIdeal.τ).loc Cert.FlashFwdRefIdeal.main_arg0) = m' ((c.tc : Thread Cert.FlashFwdRefIdeal.nD Cert.FlashFwdRefIdeal.τ).loc Cert.FlashFwdRefIdeal.main_arg0)
          ∧ r.2.mem ((c.tc : Thread Cert.FlashFwdRefIdeal.nD Cert.FlashFwdRefIdeal.τ).loc Cert.FlashFwdRefIdeal.main_arg1) = m' ((c.tc : Thread Cert.FlashFwdRefIdeal.nD Cert.FlashFwdRefIdeal.τ).loc Cert.FlashFwdRefIdeal.main_arg1)
          ∧ r.2.mem ((c.tc : Thread Cert.FlashFwdRefIdeal.nD Cert.FlashFwdRefIdeal.τ).loc Cert.FlashFwdRefIdeal.main_arg2) = m' ((c.tc : Thread Cert.FlashFwdRefIdeal.nD Cert.FlashFwdRefIdeal.τ).loc Cert.FlashFwdRefIdeal.main_arg2))

def preserves_FlashBwd_FlashBwdIdeal : Prop :=
  IdealRules.named_const.Statement Cert.FlashBwdIdeal.κ "log2_e" .f32 0x3FB8AA3B#32 (((Real.log 2)⁻¹ : ℝ) : EReal)
  ∧ IdealRules.named_const.Statement Cert.FlashBwdIdeal.κ "inv_sqrt_128" .f32 0x3DB504F3#32 (((Real.sqrt 128)⁻¹ : ℝ) : EReal)
  ∧ IdealRules.named_const.Statement Cert.FlashBwdIdeal.κ "log_2" .f32 0x3F317218#32 ((Real.log 2 : ℝ) : EReal)

def algebraic_FlashBwdIdeal_FlashBwdRefIdeal_pre_flash_bwd_finite [hFlashBwdIdeal : Cert.FlashBwdIdeal.Facts] [hFlashBwdRefIdeal : Cert.FlashBwdRefIdeal.Facts] [hPre_flash_bwd_finite : Cert.Pre_flash_bwd_finite.Facts] : Prop :=
  ∀ (m : (ℓ : Loc Cert.FlashBwdIdeal.nD Cert.FlashBwdIdeal.τ Cert.FlashBwdIdeal.sig) → Buf (Elt Ideal) ℓ) (g : Dev Cert.FlashBwdIdeal.nD → PrngReg)
    (m' : (ℓ : Loc Cert.FlashBwdRefIdeal.nD Cert.FlashBwdRefIdeal.τ Cert.FlashBwdRefIdeal.sig) → Buf (Elt Ideal) ℓ) (g' : Dev Cert.FlashBwdRefIdeal.nD → PrngReg), Pre_FlashBwdIdeal_flash_bwd_finite m →
    (∀ c : Dev Cert.FlashBwdIdeal.nD,
      m' ((c.tc : Thread Cert.FlashBwdRefIdeal.nD Cert.FlashBwdRefIdeal.τ).loc Cert.FlashBwdRefIdeal.main_arg0) = m ((c.tc : Thread Cert.FlashBwdIdeal.nD Cert.FlashBwdIdeal.τ).loc Cert.FlashBwdIdeal.main_arg0)
      ∧ m' ((c.tc : Thread Cert.FlashBwdRefIdeal.nD Cert.FlashBwdRefIdeal.τ).loc Cert.FlashBwdRefIdeal.main_arg1) = m ((c.tc : Thread Cert.FlashBwdIdeal.nD Cert.FlashBwdIdeal.τ).loc Cert.FlashBwdIdeal.main_arg1)
      ∧ m' ((c.tc : Thread Cert.FlashBwdRefIdeal.nD Cert.FlashBwdRefIdeal.τ).loc Cert.FlashBwdRefIdeal.main_arg2) = m ((c.tc : Thread Cert.FlashBwdIdeal.nD Cert.FlashBwdIdeal.τ).loc Cert.FlashBwdIdeal.main_arg2)
      ∧ m' ((c.tc : Thread Cert.FlashBwdRefIdeal.nD Cert.FlashBwdRefIdeal.τ).loc Cert.FlashBwdRefIdeal.main_arg3) = m ((c.tc : Thread Cert.FlashBwdIdeal.nD Cert.FlashBwdIdeal.τ).loc Cert.FlashBwdIdeal.main_arg3)) →
    ∃ (v0 : (c : Dev Cert.FlashBwdIdeal.nD) → Buf (Elt Ideal) ((c.tc : Thread Cert.FlashBwdIdeal.nD Cert.FlashBwdIdeal.τ).loc Cert.FlashBwdIdeal.main_v35_0)) (v1 : (c : Dev Cert.FlashBwdIdeal.nD) → Buf (Elt Ideal) ((c.tc : Thread Cert.FlashBwdIdeal.nD Cert.FlashBwdIdeal.τ).loc Cert.FlashBwdIdeal.main_v35_1)) (v2 : (c : Dev Cert.FlashBwdIdeal.nD) → Buf (Elt Ideal) ((c.tc : Thread Cert.FlashBwdIdeal.nD Cert.FlashBwdIdeal.τ).loc Cert.FlashBwdIdeal.main_v35_2)),
      θ_run (Cert.FlashBwdIdeal.defs (F := Ideal)) (onTc (τ := Cert.FlashBwdIdeal.τ) (Cert.FlashBwdIdeal.main (F := Ideal))) ⟨m, fun _ => 0, g⟩ (fun r => ∀ c : Dev Cert.FlashBwdIdeal.nD,
          r.2.mem ((c.tc : Thread Cert.FlashBwdIdeal.nD Cert.FlashBwdIdeal.τ).loc Cert.FlashBwdIdeal.main_v35_0) = v0 c
          ∧ r.2.mem ((c.tc : Thread Cert.FlashBwdIdeal.nD Cert.FlashBwdIdeal.τ).loc Cert.FlashBwdIdeal.main_v35_1) = v1 c
          ∧ r.2.mem ((c.tc : Thread Cert.FlashBwdIdeal.nD Cert.FlashBwdIdeal.τ).loc Cert.FlashBwdIdeal.main_v35_2) = v2 c
          ∧ r.2.mem ((c.tc : Thread Cert.FlashBwdIdeal.nD Cert.FlashBwdIdeal.τ).loc Cert.FlashBwdIdeal.main_arg0) = m ((c.tc : Thread Cert.FlashBwdIdeal.nD Cert.FlashBwdIdeal.τ).loc Cert.FlashBwdIdeal.main_arg0)
          ∧ r.2.mem ((c.tc : Thread Cert.FlashBwdIdeal.nD Cert.FlashBwdIdeal.τ).loc Cert.FlashBwdIdeal.main_arg1) = m ((c.tc : Thread Cert.FlashBwdIdeal.nD Cert.FlashBwdIdeal.τ).loc Cert.FlashBwdIdeal.main_arg1)
          ∧ r.2.mem ((c.tc : Thread Cert.FlashBwdIdeal.nD Cert.FlashBwdIdeal.τ).loc Cert.FlashBwdIdeal.main_arg2) = m ((c.tc : Thread Cert.FlashBwdIdeal.nD Cert.FlashBwdIdeal.τ).loc Cert.FlashBwdIdeal.main_arg2)
          ∧ r.2.mem ((c.tc : Thread Cert.FlashBwdIdeal.nD Cert.FlashBwdIdeal.τ).loc Cert.FlashBwdIdeal.main_arg3) = m ((c.tc : Thread Cert.FlashBwdIdeal.nD Cert.FlashBwdIdeal.τ).loc Cert.FlashBwdIdeal.main_arg3))
      ∧ θ_run (Cert.FlashBwdRefIdeal.defs (F := Ideal)) (onTc (τ := Cert.FlashBwdRefIdeal.τ) (Cert.FlashBwdRefIdeal.main (F := Ideal))) ⟨m', fun _ => 0, g'⟩ (fun r => ∀ c : Dev Cert.FlashBwdRefIdeal.nD,
          r.2.mem ((c.tc : Thread Cert.FlashBwdRefIdeal.nD Cert.FlashBwdRefIdeal.τ).loc Cert.FlashBwdRefIdeal.main_v70) = v0 c
          ∧ r.2.mem ((c.tc : Thread Cert.FlashBwdRefIdeal.nD Cert.FlashBwdRefIdeal.τ).loc Cert.FlashBwdRefIdeal.main_v69) = v1 c
          ∧ r.2.mem ((c.tc : Thread Cert.FlashBwdRefIdeal.nD Cert.FlashBwdRefIdeal.τ).loc Cert.FlashBwdRefIdeal.main_v71) = v2 c
          ∧ r.2.mem ((c.tc : Thread Cert.FlashBwdRefIdeal.nD Cert.FlashBwdRefIdeal.τ).loc Cert.FlashBwdRefIdeal.main_arg0) = m' ((c.tc : Thread Cert.FlashBwdRefIdeal.nD Cert.FlashBwdRefIdeal.τ).loc Cert.FlashBwdRefIdeal.main_arg0)
          ∧ r.2.mem ((c.tc : Thread Cert.FlashBwdRefIdeal.nD Cert.FlashBwdRefIdeal.τ).loc Cert.FlashBwdRefIdeal.main_arg1) = m' ((c.tc : Thread Cert.FlashBwdRefIdeal.nD Cert.FlashBwdRefIdeal.τ).loc Cert.FlashBwdRefIdeal.main_arg1)
          ∧ r.2.mem ((c.tc : Thread Cert.FlashBwdRefIdeal.nD Cert.FlashBwdRefIdeal.τ).loc Cert.FlashBwdRefIdeal.main_arg2) = m' ((c.tc : Thread Cert.FlashBwdRefIdeal.nD Cert.FlashBwdRefIdeal.τ).loc Cert.FlashBwdRefIdeal.main_arg2)
          ∧ r.2.mem ((c.tc : Thread Cert.FlashBwdRefIdeal.nD Cert.FlashBwdRefIdeal.τ).loc Cert.FlashBwdRefIdeal.main_arg3) = m' ((c.tc : Thread Cert.FlashBwdRefIdeal.nD Cert.FlashBwdRefIdeal.τ).loc Cert.FlashBwdRefIdeal.main_arg3))

def preserves_FfnIn_FfnInIdeal : Prop :=
  True

def algebraic_FfnInIdeal_FfnInRefIdeal_pre_ffn_in_finite [hFfnInIdeal : Cert.FfnInIdeal.Facts] [hFfnInRefIdeal : Cert.FfnInRefIdeal.Facts] [hPre_ffn_in_finite : Cert.Pre_ffn_in_finite.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInRefIdeal.nD Cert.FfnInRefIdeal.τ Cert.FfnInRefIdeal.sig) → Buf (Elt Ideal) ℓ) (g' : Dev Cert.FfnInRefIdeal.nD → PrngReg), Pre_FfnInIdeal_ffn_in_finite m →
    (∀ c : Dev Cert.FfnInIdeal.nD,
      m' ((c.tc : Thread Cert.FfnInRefIdeal.nD Cert.FfnInRefIdeal.τ).loc Cert.FfnInRefIdeal.main_arg0) = m ((c.tc : Thread Cert.FfnInIdeal.nD Cert.FfnInIdeal.τ).loc Cert.FfnInIdeal.main_arg0)
      ∧ m' ((c.tc : Thread Cert.FfnInRefIdeal.nD Cert.FfnInRefIdeal.τ).loc Cert.FfnInRefIdeal.main_arg1) = m ((c.tc : Thread Cert.FfnInIdeal.nD Cert.FfnInIdeal.τ).loc Cert.FfnInIdeal.main_arg1)
      ∧ m' ((c.tc : Thread Cert.FfnInRefIdeal.nD Cert.FfnInRefIdeal.τ).loc Cert.FfnInRefIdeal.main_arg2) = m ((c.tc : Thread Cert.FfnInIdeal.nD Cert.FfnInIdeal.τ).loc Cert.FfnInIdeal.main_arg2)
      ∧ m' ((c.tc : Thread Cert.FfnInRefIdeal.nD Cert.FfnInRefIdeal.τ).loc Cert.FfnInRefIdeal.main_arg3) = m ((c.tc : Thread Cert.FfnInIdeal.nD Cert.FfnInIdeal.τ).loc Cert.FfnInIdeal.main_arg3)
      ∧ m' ((c.tc : Thread Cert.FfnInRefIdeal.nD Cert.FfnInRefIdeal.τ).loc Cert.FfnInRefIdeal.main_arg4) = m ((c.tc : Thread Cert.FfnInIdeal.nD Cert.FfnInIdeal.τ).loc Cert.FfnInIdeal.main_arg4)
      ∧ m' ((c.tc : Thread Cert.FfnInRefIdeal.nD Cert.FfnInRefIdeal.τ).loc Cert.FfnInRefIdeal.main_arg5) = m ((c.tc : Thread Cert.FfnInIdeal.nD Cert.FfnInIdeal.τ).loc Cert.FfnInIdeal.main_arg5)
      ∧ m' ((c.tc : Thread Cert.FfnInRefIdeal.nD Cert.FfnInRefIdeal.τ).loc Cert.FfnInRefIdeal.main_arg6) = m ((c.tc : Thread Cert.FfnInIdeal.nD Cert.FfnInIdeal.τ).loc Cert.FfnInIdeal.main_arg6)) →
    ∃ (v0 : (c : Dev Cert.FfnInIdeal.nD) → Buf (Elt Ideal) ((c.tc : Thread Cert.FfnInIdeal.nD Cert.FfnInIdeal.τ).loc Cert.FfnInIdeal.main_v9_0)) (v1 : (c : Dev Cert.FfnInIdeal.nD) → Buf (Elt Ideal) ((c.tc : Thread Cert.FfnInIdeal.nD Cert.FfnInIdeal.τ).loc Cert.FfnInIdeal.main_v9_1)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v9_0) = v0 c
          ∧ r.2.mem ((c.tc : Thread Cert.FfnInIdeal.nD Cert.FfnInIdeal.τ).loc Cert.FfnInIdeal.main_v9_1) = v1 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
          ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
          ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
          ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4)
          ∧ r.2.mem ((c.tc : Thread Cert.FfnInIdeal.nD Cert.FfnInIdeal.τ).loc Cert.FfnInIdeal.main_arg5) = m ((c.tc : Thread Cert.FfnInIdeal.nD Cert.FfnInIdeal.τ).loc Cert.FfnInIdeal.main_arg5)
          ∧ r.2.mem ((c.tc : Thread Cert.FfnInIdeal.nD Cert.FfnInIdeal.τ).loc Cert.FfnInIdeal.main_arg6) = m ((c.tc : Thread Cert.FfnInIdeal.nD Cert.FfnInIdeal.τ).loc Cert.FfnInIdeal.main_arg6))
      ∧ θ_run (Cert.FfnInRefIdeal.defs (F := Ideal)) (onTc (τ := Cert.FfnInRefIdeal.τ) (Cert.FfnInRefIdeal.main (F := Ideal))) ⟨m', fun _ => 0, g'⟩ (fun r => ∀ c : Dev Cert.FfnInRefIdeal.nD,
          r.2.mem ((c.tc : Thread Cert.FfnInRefIdeal.nD Cert.FfnInRefIdeal.τ).loc Cert.FfnInRefIdeal.main_v41) = v0 c
          ∧ r.2.mem ((c.tc : Thread Cert.FfnInRefIdeal.nD Cert.FfnInRefIdeal.τ).loc Cert.FfnInRefIdeal.main_v24) = v1 c
          ∧ r.2.mem ((c.tc : Thread Cert.FfnInRefIdeal.nD Cert.FfnInRefIdeal.τ).loc Cert.FfnInRefIdeal.main_arg0) = m' ((c.tc : Thread Cert.FfnInRefIdeal.nD Cert.FfnInRefIdeal.τ).loc Cert.FfnInRefIdeal.main_arg0)
          ∧ r.2.mem ((c.tc : Thread Cert.FfnInRefIdeal.nD Cert.FfnInRefIdeal.τ).loc Cert.FfnInRefIdeal.main_arg1) = m' ((c.tc : Thread Cert.FfnInRefIdeal.nD Cert.FfnInRefIdeal.τ).loc Cert.FfnInRefIdeal.main_arg1)
          ∧ r.2.mem ((c.tc : Thread Cert.FfnInRefIdeal.nD Cert.FfnInRefIdeal.τ).loc Cert.FfnInRefIdeal.main_arg2) = m' ((c.tc : Thread Cert.FfnInRefIdeal.nD Cert.FfnInRefIdeal.τ).loc Cert.FfnInRefIdeal.main_arg2)
          ∧ r.2.mem ((c.tc : Thread Cert.FfnInRefIdeal.nD Cert.FfnInRefIdeal.τ).loc Cert.FfnInRefIdeal.main_arg3) = m' ((c.tc : Thread Cert.FfnInRefIdeal.nD Cert.FfnInRefIdeal.τ).loc Cert.FfnInRefIdeal.main_arg3)
          ∧ r.2.mem ((c.tc : Thread Cert.FfnInRefIdeal.nD Cert.FfnInRefIdeal.τ).loc Cert.FfnInRefIdeal.main_arg4) = m' ((c.tc : Thread Cert.FfnInRefIdeal.nD Cert.FfnInRefIdeal.τ).loc Cert.FfnInRefIdeal.main_arg4)
          ∧ r.2.mem ((c.tc : Thread Cert.FfnInRefIdeal.nD Cert.FfnInRefIdeal.τ).loc Cert.FfnInRefIdeal.main_arg5) = m' ((c.tc : Thread Cert.FfnInRefIdeal.nD Cert.FfnInRefIdeal.τ).loc Cert.FfnInRefIdeal.main_arg5)
          ∧ r.2.mem ((c.tc : Thread Cert.FfnInRefIdeal.nD Cert.FfnInRefIdeal.τ).loc Cert.FfnInRefIdeal.main_arg6) = m' ((c.tc : Thread Cert.FfnInRefIdeal.nD Cert.FfnInRefIdeal.τ).loc Cert.FfnInRefIdeal.main_arg6))

def preserves_InProj_InProjIdeal : Prop :=
  True

def algebraic_InProjIdeal_InProjRefIdeal_pre_in_proj_finite [hInProjIdeal : Cert.InProjIdeal.Facts] [hInProjRefIdeal : Cert.InProjRefIdeal.Facts] [hPre_in_proj_finite : Cert.Pre_in_proj_finite.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal_in_proj_finite m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)) →
    ∃ (v0 : (c : Dev Cert.InProjIdeal.nD) → Buf (Elt Ideal) ((c.tc : Thread Cert.InProjIdeal.nD Cert.InProjIdeal.τ).loc Cert.InProjIdeal.main_v31_0)) (v1 : (c : Dev Cert.InProjIdeal.nD) → Buf (Elt Ideal) ((c.tc : Thread Cert.InProjIdeal.nD Cert.InProjIdeal.τ).loc Cert.InProjIdeal.main_v31_1)) (v2 : (c : Dev Cert.InProjIdeal.nD) → Buf (Elt Ideal) ((c.tc : Thread Cert.InProjIdeal.nD Cert.InProjIdeal.τ).loc Cert.InProjIdeal.main_v31_2)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v31_0) = v0 c
          ∧ r.2.mem ((c.tc : Thread Cert.InProjIdeal.nD Cert.InProjIdeal.τ).loc Cert.InProjIdeal.main_v31_1) = v1 c
          ∧ r.2.mem ((c.tc : Thread Cert.InProjIdeal.nD Cert.InProjIdeal.τ).loc Cert.InProjIdeal.main_v31_2) = v2 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v37) = v0 c
          ∧ r.2.mem ((c.tc : Thread Cert.InProjRefIdeal.nD Cert.InProjRefIdeal.τ).loc Cert.InProjRefIdeal.main_v38) = v1 c
          ∧ r.2.mem ((c.tc : Thread Cert.InProjRefIdeal.nD Cert.InProjRefIdeal.τ).loc Cert.InProjRefIdeal.main_v20) = v2 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4))

def preserves_FfnHid_FfnHidIdeal : Prop :=
  True

def algebraic_FfnHidIdeal_FfnHidRefIdeal_pre_ffn_hidden_finite [hFfnHidIdeal : Cert.FfnHidIdeal.Facts] [hFfnHidRefIdeal : Cert.FfnHidRefIdeal.Facts] [hPre_ffn_hidden_finite : Cert.Pre_ffn_hidden_finite.Facts] : Prop :=
  ∀ (m : (ℓ : Loc Cert.FfnHidIdeal.nD Cert.FfnHidIdeal.τ Cert.FfnHidIdeal.sig) → Buf (Elt Ideal) ℓ) (g : Dev Cert.FfnHidIdeal.nD → PrngReg)
    (m' : (ℓ : Loc Cert.FfnHidRefIdeal.nD Cert.FfnHidRefIdeal.τ Cert.FfnHidRefIdeal.sig) → Buf (Elt Ideal) ℓ) (g' : Dev Cert.FfnHidRefIdeal.nD → PrngReg), Pre_FfnHidIdeal_ffn_hidden_finite m →
    (∀ c : Dev Cert.FfnHidIdeal.nD,
      m' ((c.tc : Thread Cert.FfnHidRefIdeal.nD Cert.FfnHidRefIdeal.τ).loc Cert.FfnHidRefIdeal.main_arg0) = m ((c.tc : Thread Cert.FfnHidIdeal.nD Cert.FfnHidIdeal.τ).loc Cert.FfnHidIdeal.main_arg0)
      ∧ m' ((c.tc : Thread Cert.FfnHidRefIdeal.nD Cert.FfnHidRefIdeal.τ).loc Cert.FfnHidRefIdeal.main_arg1) = m ((c.tc : Thread Cert.FfnHidIdeal.nD Cert.FfnHidIdeal.τ).loc Cert.FfnHidIdeal.main_arg1)
      ∧ m' ((c.tc : Thread Cert.FfnHidRefIdeal.nD Cert.FfnHidRefIdeal.τ).loc Cert.FfnHidRefIdeal.main_arg2) = m ((c.tc : Thread Cert.FfnHidIdeal.nD Cert.FfnHidIdeal.τ).loc Cert.FfnHidIdeal.main_arg2)
      ∧ m' ((c.tc : Thread Cert.FfnHidRefIdeal.nD Cert.FfnHidRefIdeal.τ).loc Cert.FfnHidRefIdeal.main_arg3) = m ((c.tc : Thread Cert.FfnHidIdeal.nD Cert.FfnHidIdeal.τ).loc Cert.FfnHidIdeal.main_arg3)
      ∧ m' ((c.tc : Thread Cert.FfnHidRefIdeal.nD Cert.FfnHidRefIdeal.τ).loc Cert.FfnHidRefIdeal.main_arg4) = m ((c.tc : Thread Cert.FfnHidIdeal.nD Cert.FfnHidIdeal.τ).loc Cert.FfnHidIdeal.main_arg4)) →
    ∃ (v0 : (c : Dev Cert.FfnHidIdeal.nD) → Buf (Elt Ideal) ((c.tc : Thread Cert.FfnHidIdeal.nD Cert.FfnHidIdeal.τ).loc Cert.FfnHidIdeal.main_v14)),
      θ_run (Cert.FfnHidIdeal.defs (F := Ideal)) (onTc (τ := Cert.FfnHidIdeal.τ) (Cert.FfnHidIdeal.main (F := Ideal))) ⟨m, fun _ => 0, g⟩ (fun r => ∀ c : Dev Cert.FfnHidIdeal.nD,
          r.2.mem ((c.tc : Thread Cert.FfnHidIdeal.nD Cert.FfnHidIdeal.τ).loc Cert.FfnHidIdeal.main_v14) = v0 c
          ∧ r.2.mem ((c.tc : Thread Cert.FfnHidIdeal.nD Cert.FfnHidIdeal.τ).loc Cert.FfnHidIdeal.main_arg0) = m ((c.tc : Thread Cert.FfnHidIdeal.nD Cert.FfnHidIdeal.τ).loc Cert.FfnHidIdeal.main_arg0)
          ∧ r.2.mem ((c.tc : Thread Cert.FfnHidIdeal.nD Cert.FfnHidIdeal.τ).loc Cert.FfnHidIdeal.main_arg1) = m ((c.tc : Thread Cert.FfnHidIdeal.nD Cert.FfnHidIdeal.τ).loc Cert.FfnHidIdeal.main_arg1)
          ∧ r.2.mem ((c.tc : Thread Cert.FfnHidIdeal.nD Cert.FfnHidIdeal.τ).loc Cert.FfnHidIdeal.main_arg2) = m ((c.tc : Thread Cert.FfnHidIdeal.nD Cert.FfnHidIdeal.τ).loc Cert.FfnHidIdeal.main_arg2)
          ∧ r.2.mem ((c.tc : Thread Cert.FfnHidIdeal.nD Cert.FfnHidIdeal.τ).loc Cert.FfnHidIdeal.main_arg3) = m ((c.tc : Thread Cert.FfnHidIdeal.nD Cert.FfnHidIdeal.τ).loc Cert.FfnHidIdeal.main_arg3)
          ∧ r.2.mem ((c.tc : Thread Cert.FfnHidIdeal.nD Cert.FfnHidIdeal.τ).loc Cert.FfnHidIdeal.main_arg4) = m ((c.tc : Thread Cert.FfnHidIdeal.nD Cert.FfnHidIdeal.τ).loc Cert.FfnHidIdeal.main_arg4))
      ∧ θ_run (Cert.FfnHidRefIdeal.defs (F := Ideal)) (onTc (τ := Cert.FfnHidRefIdeal.τ) (Cert.FfnHidRefIdeal.main (F := Ideal))) ⟨m', fun _ => 0, g'⟩ (fun r => ∀ c : Dev Cert.FfnHidRefIdeal.nD,
          r.2.mem ((c.tc : Thread Cert.FfnHidRefIdeal.nD Cert.FfnHidRefIdeal.τ).loc Cert.FfnHidRefIdeal.main_v18) = v0 c
          ∧ r.2.mem ((c.tc : Thread Cert.FfnHidRefIdeal.nD Cert.FfnHidRefIdeal.τ).loc Cert.FfnHidRefIdeal.main_arg0) = m' ((c.tc : Thread Cert.FfnHidRefIdeal.nD Cert.FfnHidRefIdeal.τ).loc Cert.FfnHidRefIdeal.main_arg0)
          ∧ r.2.mem ((c.tc : Thread Cert.FfnHidRefIdeal.nD Cert.FfnHidRefIdeal.τ).loc Cert.FfnHidRefIdeal.main_arg1) = m' ((c.tc : Thread Cert.FfnHidRefIdeal.nD Cert.FfnHidRefIdeal.τ).loc Cert.FfnHidRefIdeal.main_arg1)
          ∧ r.2.mem ((c.tc : Thread Cert.FfnHidRefIdeal.nD Cert.FfnHidRefIdeal.τ).loc Cert.FfnHidRefIdeal.main_arg2) = m' ((c.tc : Thread Cert.FfnHidRefIdeal.nD Cert.FfnHidRefIdeal.τ).loc Cert.FfnHidRefIdeal.main_arg2)
          ∧ r.2.mem ((c.tc : Thread Cert.FfnHidRefIdeal.nD Cert.FfnHidRefIdeal.τ).loc Cert.FfnHidRefIdeal.main_arg3) = m' ((c.tc : Thread Cert.FfnHidRefIdeal.nD Cert.FfnHidRefIdeal.τ).loc Cert.FfnHidRefIdeal.main_arg3)
          ∧ r.2.mem ((c.tc : Thread Cert.FfnHidRefIdeal.nD Cert.FfnHidRefIdeal.τ).loc Cert.FfnHidRefIdeal.main_arg4) = m' ((c.tc : Thread Cert.FfnHidRefIdeal.nD Cert.FfnHidRefIdeal.τ).loc Cert.FfnHidRefIdeal.main_arg4))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v17_0)) (v1 : (c : Dev Cert.MergeIdeal.nD) → Buf (Elt Ideal) ((c.tc : Thread Cert.MergeIdeal.nD Cert.MergeIdeal.τ).loc Cert.MergeIdeal.main_v17_1)) (v2 : (c : Dev Cert.MergeIdeal.nD) → Buf (Elt Ideal) ((c.tc : Thread Cert.MergeIdeal.nD Cert.MergeIdeal.τ).loc Cert.MergeIdeal.main_v17_2)) (v3 : (c : Dev Cert.MergeIdeal.nD) → Buf (Elt Ideal) ((c.tc : Thread Cert.MergeIdeal.nD Cert.MergeIdeal.τ).loc Cert.MergeIdeal.main_v17_3)) (v4 : (c : Dev Cert.MergeIdeal.nD) → Buf (Elt Ideal) ((c.tc : Thread Cert.MergeIdeal.nD Cert.MergeIdeal.τ).loc Cert.MergeIdeal.main_v17_4)) (v5 : (c : Dev Cert.MergeIdeal.nD) → Buf (Elt Ideal) ((c.tc : Thread Cert.MergeIdeal.nD Cert.MergeIdeal.τ).loc Cert.MergeIdeal.main_v17_5)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v17_0) = v0 c
          ∧ r.2.mem ((c.tc : Thread Cert.MergeIdeal.nD Cert.MergeIdeal.τ).loc Cert.MergeIdeal.main_v17_1) = v1 c
          ∧ r.2.mem ((c.tc : Thread Cert.MergeIdeal.nD Cert.MergeIdeal.τ).loc Cert.MergeIdeal.main_v17_2) = v2 c
          ∧ r.2.mem ((c.tc : Thread Cert.MergeIdeal.nD Cert.MergeIdeal.τ).loc Cert.MergeIdeal.main_v17_3) = v3 c
          ∧ r.2.mem ((c.tc : Thread Cert.MergeIdeal.nD Cert.MergeIdeal.τ).loc Cert.MergeIdeal.main_v17_4) = v4 c
          ∧ r.2.mem ((c.tc : Thread Cert.MergeIdeal.nD Cert.MergeIdeal.τ).loc Cert.MergeIdeal.main_v17_5) = v5 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v52) = v0 c
          ∧ r.2.mem ((c.tc : Thread Cert.MergeRefIdeal.nD Cert.MergeRefIdeal.τ).loc Cert.MergeRefIdeal.main_v53) = v1 c
          ∧ r.2.mem ((c.tc : Thread Cert.MergeRefIdeal.nD Cert.MergeRefIdeal.τ).loc Cert.MergeRefIdeal.main_v54) = v2 c
          ∧ r.2.mem ((c.tc : Thread Cert.MergeRefIdeal.nD Cert.MergeRefIdeal.τ).loc Cert.MergeRefIdeal.main_v55) = v3 c
          ∧ r.2.mem ((c.tc : Thread Cert.MergeRefIdeal.nD Cert.MergeRefIdeal.τ).loc Cert.MergeRefIdeal.main_v46) = v4 c
          ∧ r.2.mem ((c.tc : Thread Cert.MergeRefIdeal.nD Cert.MergeRefIdeal.τ).loc Cert.MergeRefIdeal.main_v56) = v5 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7))

def preserves_FfnLast_FfnLastIdeal : Prop :=
  True

def algebraic_FfnLastIdeal_FfnLastRefIdeal_pre_ffn_last_finite [hFfnLastIdeal : Cert.FfnLastIdeal.Facts] [hFfnLastRefIdeal : Cert.FfnLastRefIdeal.Facts] [hPre_ffn_last_finite : Cert.Pre_ffn_last_finite.Facts] : Prop :=
  ∀ (m : (ℓ : Loc Cert.FfnLastIdeal.nD Cert.FfnLastIdeal.τ Cert.FfnLastIdeal.sig) → Buf (Elt Ideal) ℓ) (g : Dev Cert.FfnLastIdeal.nD → PrngReg)
    (m' : (ℓ : Loc Cert.FfnLastRefIdeal.nD Cert.FfnLastRefIdeal.τ Cert.FfnLastRefIdeal.sig) → Buf (Elt Ideal) ℓ) (g' : Dev Cert.FfnLastRefIdeal.nD → PrngReg), Pre_FfnLastIdeal_ffn_last_finite m →
    (∀ c : Dev Cert.FfnLastIdeal.nD,
      m' ((c.tc : Thread Cert.FfnLastRefIdeal.nD Cert.FfnLastRefIdeal.τ).loc Cert.FfnLastRefIdeal.main_arg0) = m ((c.tc : Thread Cert.FfnLastIdeal.nD Cert.FfnLastIdeal.τ).loc Cert.FfnLastIdeal.main_arg0)
      ∧ m' ((c.tc : Thread Cert.FfnLastRefIdeal.nD Cert.FfnLastRefIdeal.τ).loc Cert.FfnLastRefIdeal.main_arg1) = m ((c.tc : Thread Cert.FfnLastIdeal.nD Cert.FfnLastIdeal.τ).loc Cert.FfnLastIdeal.main_arg1)
      ∧ m' ((c.tc : Thread Cert.FfnLastRefIdeal.nD Cert.FfnLastRefIdeal.τ).loc Cert.FfnLastRefIdeal.main_arg2) = m ((c.tc : Thread Cert.FfnLastIdeal.nD Cert.FfnLastIdeal.τ).loc Cert.FfnLastIdeal.main_arg2)
      ∧ m' ((c.tc : Thread Cert.FfnLastRefIdeal.nD Cert.FfnLastRefIdeal.τ).loc Cert.FfnLastRefIdeal.main_arg3) = m ((c.tc : Thread Cert.FfnLastIdeal.nD Cert.FfnLastIdeal.τ).loc Cert.FfnLastIdeal.main_arg3)
      ∧ m' ((c.tc : Thread Cert.FfnLastRefIdeal.nD Cert.FfnLastRefIdeal.τ).loc Cert.FfnLastRefIdeal.main_arg4) = m ((c.tc : Thread Cert.FfnLastIdeal.nD Cert.FfnLastIdeal.τ).loc Cert.FfnLastIdeal.main_arg4)
      ∧ m' ((c.tc : Thread Cert.FfnLastRefIdeal.nD Cert.FfnLastRefIdeal.τ).loc Cert.FfnLastRefIdeal.main_arg5) = m ((c.tc : Thread Cert.FfnLastIdeal.nD Cert.FfnLastIdeal.τ).loc Cert.FfnLastIdeal.main_arg5)
      ∧ m' ((c.tc : Thread Cert.FfnLastRefIdeal.nD Cert.FfnLastRefIdeal.τ).loc Cert.FfnLastRefIdeal.main_arg6) = m ((c.tc : Thread Cert.FfnLastIdeal.nD Cert.FfnLastIdeal.τ).loc Cert.FfnLastIdeal.main_arg6)) →
    ∃ (v0 : (c : Dev Cert.FfnLastIdeal.nD) → Buf (Elt Ideal) ((c.tc : Thread Cert.FfnLastIdeal.nD Cert.FfnLastIdeal.τ).loc Cert.FfnLastIdeal.main_v7_0)) (v1 : (c : Dev Cert.FfnLastIdeal.nD) → Buf (Elt Ideal) ((c.tc : Thread Cert.FfnLastIdeal.nD Cert.FfnLastIdeal.τ).loc Cert.FfnLastIdeal.main_v7_1)) (v2 : (c : Dev Cert.FfnLastIdeal.nD) → Buf (Elt Ideal) ((c.tc : Thread Cert.FfnLastIdeal.nD Cert.FfnLastIdeal.τ).loc Cert.FfnLastIdeal.main_v7_2)) (v3 : (c : Dev Cert.FfnLastIdeal.nD) → Buf (Elt Ideal) ((c.tc : Thread Cert.FfnLastIdeal.nD Cert.FfnLastIdeal.τ).loc Cert.FfnLastIdeal.main_v7_3)) (v4 : (c : Dev Cert.FfnLastIdeal.nD) → Buf (Elt Ideal) ((c.tc : Thread Cert.FfnLastIdeal.nD Cert.FfnLastIdeal.τ).loc Cert.FfnLastIdeal.main_v7_4)) (v5 : (c : Dev Cert.FfnLastIdeal.nD) → Buf (Elt Ideal) ((c.tc : Thread Cert.FfnLastIdeal.nD Cert.FfnLastIdeal.τ).loc Cert.FfnLastIdeal.main_v7_5)) (v6 : (c : Dev Cert.FfnLastIdeal.nD) → Buf (Elt Ideal) ((c.tc : Thread Cert.FfnLastIdeal.nD Cert.FfnLastIdeal.τ).loc Cert.FfnLastIdeal.main_v7_6)) (v7 : (c : Dev Cert.FfnLastIdeal.nD) → Buf (Elt Ideal) ((c.tc : Thread Cert.FfnLastIdeal.nD Cert.FfnLastIdeal.τ).loc Cert.FfnLastIdeal.main_v7_7)) (v8 : (c : Dev Cert.FfnLastIdeal.nD) → Buf (Elt Ideal) ((c.tc : Thread Cert.FfnLastIdeal.nD Cert.FfnLastIdeal.τ).loc Cert.FfnLastIdeal.main_v7_8)),
      θ_run (Cert.FfnLastIdeal.defs (F := Ideal)) (onTc (τ := Cert.FfnLastIdeal.τ) (Cert.FfnLastIdeal.main (F := Ideal))) ⟨m, fun _ => 0, g⟩ (fun r => ∀ c : Dev Cert.FfnLastIdeal.nD,
          r.2.mem ((c.tc : Thread Cert.FfnLastIdeal.nD Cert.FfnLastIdeal.τ).loc Cert.FfnLastIdeal.main_v7_0) = v0 c
          ∧ r.2.mem ((c.tc : Thread Cert.FfnLastIdeal.nD Cert.FfnLastIdeal.τ).loc Cert.FfnLastIdeal.main_v7_1) = v1 c
          ∧ r.2.mem ((c.tc : Thread Cert.FfnLastIdeal.nD Cert.FfnLastIdeal.τ).loc Cert.FfnLastIdeal.main_v7_2) = v2 c
          ∧ r.2.mem ((c.tc : Thread Cert.FfnLastIdeal.nD Cert.FfnLastIdeal.τ).loc Cert.FfnLastIdeal.main_v7_3) = v3 c
          ∧ r.2.mem ((c.tc : Thread Cert.FfnLastIdeal.nD Cert.FfnLastIdeal.τ).loc Cert.FfnLastIdeal.main_v7_4) = v4 c
          ∧ r.2.mem ((c.tc : Thread Cert.FfnLastIdeal.nD Cert.FfnLastIdeal.τ).loc Cert.FfnLastIdeal.main_v7_5) = v5 c
          ∧ r.2.mem ((c.tc : Thread Cert.FfnLastIdeal.nD Cert.FfnLastIdeal.τ).loc Cert.FfnLastIdeal.main_v7_6) = v6 c
          ∧ r.2.mem ((c.tc : Thread Cert.FfnLastIdeal.nD Cert.FfnLastIdeal.τ).loc Cert.FfnLastIdeal.main_v7_7) = v7 c
          ∧ r.2.mem ((c.tc : Thread Cert.FfnLastIdeal.nD Cert.FfnLastIdeal.τ).loc Cert.FfnLastIdeal.main_v7_8) = v8 c
          ∧ r.2.mem ((c.tc : Thread Cert.FfnLastIdeal.nD Cert.FfnLastIdeal.τ).loc Cert.FfnLastIdeal.main_arg0) = m ((c.tc : Thread Cert.FfnLastIdeal.nD Cert.FfnLastIdeal.τ).loc Cert.FfnLastIdeal.main_arg0)
          ∧ r.2.mem ((c.tc : Thread Cert.FfnLastIdeal.nD Cert.FfnLastIdeal.τ).loc Cert.FfnLastIdeal.main_arg1) = m ((c.tc : Thread Cert.FfnLastIdeal.nD Cert.FfnLastIdeal.τ).loc Cert.FfnLastIdeal.main_arg1)
          ∧ r.2.mem ((c.tc : Thread Cert.FfnLastIdeal.nD Cert.FfnLastIdeal.τ).loc Cert.FfnLastIdeal.main_arg2) = m ((c.tc : Thread Cert.FfnLastIdeal.nD Cert.FfnLastIdeal.τ).loc Cert.FfnLastIdeal.main_arg2)
          ∧ r.2.mem ((c.tc : Thread Cert.FfnLastIdeal.nD Cert.FfnLastIdeal.τ).loc Cert.FfnLastIdeal.main_arg3) = m ((c.tc : Thread Cert.FfnLastIdeal.nD Cert.FfnLastIdeal.τ).loc Cert.FfnLastIdeal.main_arg3)
          ∧ r.2.mem ((c.tc : Thread Cert.FfnLastIdeal.nD Cert.FfnLastIdeal.τ).loc Cert.FfnLastIdeal.main_arg4) = m ((c.tc : Thread Cert.FfnLastIdeal.nD Cert.FfnLastIdeal.τ).loc Cert.FfnLastIdeal.main_arg4)
          ∧ r.2.mem ((c.tc : Thread Cert.FfnLastIdeal.nD Cert.FfnLastIdeal.τ).loc Cert.FfnLastIdeal.main_arg5) = m ((c.tc : Thread Cert.FfnLastIdeal.nD Cert.FfnLastIdeal.τ).loc Cert.FfnLastIdeal.main_arg5)
          ∧ r.2.mem ((c.tc : Thread Cert.FfnLastIdeal.nD Cert.FfnLastIdeal.τ).loc Cert.FfnLastIdeal.main_arg6) = m ((c.tc : Thread Cert.FfnLastIdeal.nD Cert.FfnLastIdeal.τ).loc Cert.FfnLastIdeal.main_arg6))
      ∧ θ_run (Cert.FfnLastRefIdeal.defs (F := Ideal)) (onTc (τ := Cert.FfnLastRefIdeal.τ) (Cert.FfnLastRefIdeal.main (F := Ideal))) ⟨m', fun _ => 0, g'⟩ (fun r => ∀ c : Dev Cert.FfnLastRefIdeal.nD,
          r.2.mem ((c.tc : Thread Cert.FfnLastRefIdeal.nD Cert.FfnLastRefIdeal.τ).loc Cert.FfnLastRefIdeal.main_v113) = v0 c
          ∧ r.2.mem ((c.tc : Thread Cert.FfnLastRefIdeal.nD Cert.FfnLastRefIdeal.τ).loc Cert.FfnLastRefIdeal.main_v120) = v1 c
          ∧ r.2.mem ((c.tc : Thread Cert.FfnLastRefIdeal.nD Cert.FfnLastRefIdeal.τ).loc Cert.FfnLastRefIdeal.main_v121) = v2 c
          ∧ r.2.mem ((c.tc : Thread Cert.FfnLastRefIdeal.nD Cert.FfnLastRefIdeal.τ).loc Cert.FfnLastRefIdeal.main_v125) = v3 c
          ∧ r.2.mem ((c.tc : Thread Cert.FfnLastRefIdeal.nD Cert.FfnLastRefIdeal.τ).loc Cert.FfnLastRefIdeal.main_v100) = v4 c
          ∧ r.2.mem ((c.tc : Thread Cert.FfnLastRefIdeal.nD Cert.FfnLastRefIdeal.τ).loc Cert.FfnLastRefIdeal.main_v126) = v5 c
          ∧ r.2.mem ((c.tc : Thread Cert.FfnLastRefIdeal.nD Cert.FfnLastRefIdeal.τ).loc Cert.FfnLastRefIdeal.main_v83) = v6 c
          ∧ r.2.mem ((c.tc : Thread Cert.FfnLastRefIdeal.nD Cert.FfnLastRefIdeal.τ).loc Cert.FfnLastRefIdeal.main_v127) = v7 c
          ∧ r.2.mem ((c.tc : Thread Cert.FfnLastRefIdeal.nD Cert.FfnLastRefIdeal.τ).loc Cert.FfnLastRefIdeal.main_v55) = v8 c
          ∧ r.2.mem ((c.tc : Thread Cert.FfnLastRefIdeal.nD Cert.FfnLastRefIdeal.τ).loc Cert.FfnLastRefIdeal.main_arg0) = m' ((c.tc : Thread Cert.FfnLastRefIdeal.nD Cert.FfnLastRefIdeal.τ).loc Cert.FfnLastRefIdeal.main_arg0)
          ∧ r.2.mem ((c.tc : Thread Cert.FfnLastRefIdeal.nD Cert.FfnLastRefIdeal.τ).loc Cert.FfnLastRefIdeal.main_arg1) = m' ((c.tc : Thread Cert.FfnLastRefIdeal.nD Cert.FfnLastRefIdeal.τ).loc Cert.FfnLastRefIdeal.main_arg1)
          ∧ r.2.mem ((c.tc : Thread Cert.FfnLastRefIdeal.nD Cert.FfnLastRefIdeal.τ).loc Cert.FfnLastRefIdeal.main_arg2) = m' ((c.tc : Thread Cert.FfnLastRefIdeal.nD Cert.FfnLastRefIdeal.τ).loc Cert.FfnLastRefIdeal.main_arg2)
          ∧ r.2.mem ((c.tc : Thread Cert.FfnLastRefIdeal.nD Cert.FfnLastRefIdeal.τ).loc Cert.FfnLastRefIdeal.main_arg3) = m' ((c.tc : Thread Cert.FfnLastRefIdeal.nD Cert.FfnLastRefIdeal.τ).loc Cert.FfnLastRefIdeal.main_arg3)
          ∧ r.2.mem ((c.tc : Thread Cert.FfnLastRefIdeal.nD Cert.FfnLastRefIdeal.τ).loc Cert.FfnLastRefIdeal.main_arg4) = m' ((c.tc : Thread Cert.FfnLastRefIdeal.nD Cert.FfnLastRefIdeal.τ).loc Cert.FfnLastRefIdeal.main_arg4)
          ∧ r.2.mem ((c.tc : Thread Cert.FfnLastRefIdeal.nD Cert.FfnLastRefIdeal.τ).loc Cert.FfnLastRefIdeal.main_arg5) = m' ((c.tc : Thread Cert.FfnLastRefIdeal.nD Cert.FfnLastRefIdeal.τ).loc Cert.FfnLastRefIdeal.main_arg5)
          ∧ r.2.mem ((c.tc : Thread Cert.FfnLastRefIdeal.nD Cert.FfnLastRefIdeal.τ).loc Cert.FfnLastRefIdeal.main_arg6) = m' ((c.tc : Thread Cert.FfnLastRefIdeal.nD Cert.FfnLastRefIdeal.τ).loc Cert.FfnLastRefIdeal.main_arg6))

def Claim : Prop :=
  ∃ (hKPrep : Cert.KPrep.Facts) (hKPrepIdeal : Cert.KPrepIdeal.Facts) (hKPrepRefIdeal : Cert.KPrepRefIdeal.Facts) (hQPrep : Cert.QPrep.Facts) (hQPrepIdeal : Cert.QPrepIdeal.Facts) (hQPrepRefIdeal : Cert.QPrepRefIdeal.Facts) (hFlashFwd : Cert.FlashFwd.Facts) (hFlashFwdIdeal : Cert.FlashFwdIdeal.Facts) (hFlashFwdRefIdeal : Cert.FlashFwdRefIdeal.Facts) (hFlashBwd : Cert.FlashBwd.Facts) (hFlashBwdIdeal : Cert.FlashBwdIdeal.Facts) (hFlashBwdRefIdeal : Cert.FlashBwdRefIdeal.Facts) (hFfnIn : Cert.FfnIn.Facts) (hFfnInIdeal : Cert.FfnInIdeal.Facts) (hFfnInRefIdeal : Cert.FfnInRefIdeal.Facts) (hInProj : Cert.InProj.Facts) (hInProjIdeal : Cert.InProjIdeal.Facts) (hInProjRefIdeal : Cert.InProjRefIdeal.Facts) (hFfnHid : Cert.FfnHid.Facts) (hFfnHidIdeal : Cert.FfnHidIdeal.Facts) (hFfnHidRefIdeal : Cert.FfnHidRefIdeal.Facts) (hMerge : Cert.Merge.Facts) (hMergeIdeal : Cert.MergeIdeal.Facts) (hMergeRefIdeal : Cert.MergeRefIdeal.Facts) (hFfnLast : Cert.FfnLast.Facts) (hFfnLastIdeal : Cert.FfnLastIdeal.Facts) (hFfnLastRefIdeal : Cert.FfnLastRefIdeal.Facts) (hPre_k_prep_finite : Cert.Pre_k_prep_finite.Facts) (hPre_q_prep_finite : Cert.Pre_q_prep_finite.Facts) (hPre_flash_fwd_finite : Cert.Pre_flash_fwd_finite.Facts) (hPre_flash_bwd_finite : Cert.Pre_flash_bwd_finite.Facts) (hPre_ffn_in_finite : Cert.Pre_ffn_in_finite.Facts) (hPre_in_proj_finite : Cert.Pre_in_proj_finite.Facts) (hPre_ffn_hidden_finite : Cert.Pre_ffn_hidden_finite.Facts) (hPre_ffn_last_finite : Cert.Pre_ffn_last_finite.Facts),
    quiescent_KPrep (hKPrep := hKPrep)
    ∧ quiescent_KPrepIdeal (hKPrepIdeal := hKPrepIdeal)
    ∧ quiescent_KPrepIdeal_pre_k_prep_finite (hKPrepIdeal := hKPrepIdeal) (hPre_k_prep_finite := hPre_k_prep_finite)
    ∧ quiescent_KPrepRefIdeal (hKPrepRefIdeal := hKPrepRefIdeal)
    ∧ quiescent_KPrepRefIdeal_pre_k_prep_finite (hKPrepRefIdeal := hKPrepRefIdeal) (hPre_k_prep_finite := hPre_k_prep_finite)
    ∧ quiescent_QPrep (hQPrep := hQPrep)
    ∧ quiescent_QPrepIdeal (hQPrepIdeal := hQPrepIdeal)
    ∧ quiescent_QPrepIdeal_pre_q_prep_finite (hQPrepIdeal := hQPrepIdeal) (hPre_q_prep_finite := hPre_q_prep_finite)
    ∧ quiescent_QPrepRefIdeal (hQPrepRefIdeal := hQPrepRefIdeal)
    ∧ quiescent_QPrepRefIdeal_pre_q_prep_finite (hQPrepRefIdeal := hQPrepRefIdeal) (hPre_q_prep_finite := hPre_q_prep_finite)
    ∧ quiescent_FlashFwd (hFlashFwd := hFlashFwd)
    ∧ quiescent_FlashFwdIdeal (hFlashFwdIdeal := hFlashFwdIdeal)
    ∧ quiescent_FlashFwdIdeal_pre_flash_fwd_finite (hFlashFwdIdeal := hFlashFwdIdeal) (hPre_flash_fwd_finite := hPre_flash_fwd_finite)
    ∧ quiescent_FlashFwdRefIdeal (hFlashFwdRefIdeal := hFlashFwdRefIdeal)
    ∧ quiescent_FlashFwdRefIdeal_pre_flash_fwd_finite (hFlashFwdRefIdeal := hFlashFwdRefIdeal) (hPre_flash_fwd_finite := hPre_flash_fwd_finite)
    ∧ quiescent_FlashBwd (hFlashBwd := hFlashBwd)
    ∧ quiescent_FlashBwdIdeal (hFlashBwdIdeal := hFlashBwdIdeal)
    ∧ quiescent_FlashBwdIdeal_pre_flash_bwd_finite (hFlashBwdIdeal := hFlashBwdIdeal) (hPre_flash_bwd_finite := hPre_flash_bwd_finite)
    ∧ quiescent_FlashBwdRefIdeal (hFlashBwdRefIdeal := hFlashBwdRefIdeal)
    ∧ quiescent_FlashBwdRefIdeal_pre_flash_bwd_finite (hFlashBwdRefIdeal := hFlashBwdRefIdeal) (hPre_flash_bwd_finite := hPre_flash_bwd_finite)
    ∧ quiescent_FfnIn (hFfnIn := hFfnIn)
    ∧ quiescent_FfnInIdeal (hFfnInIdeal := hFfnInIdeal)
    ∧ quiescent_FfnInIdeal_pre_ffn_in_finite (hFfnInIdeal := hFfnInIdeal) (hPre_ffn_in_finite := hPre_ffn_in_finite)
    ∧ quiescent_FfnInRefIdeal (hFfnInRefIdeal := hFfnInRefIdeal)
    ∧ quiescent_FfnInRefIdeal_pre_ffn_in_finite (hFfnInRefIdeal := hFfnInRefIdeal) (hPre_ffn_in_finite := hPre_ffn_in_finite)
    ∧ quiescent_InProj (hInProj := hInProj)
    ∧ quiescent_InProjIdeal (hInProjIdeal := hInProjIdeal)
    ∧ quiescent_InProjIdeal_pre_in_proj_finite (hInProjIdeal := hInProjIdeal) (hPre_in_proj_finite := hPre_in_proj_finite)
    ∧ quiescent_InProjRefIdeal (hInProjRefIdeal := hInProjRefIdeal)
    ∧ quiescent_InProjRefIdeal_pre_in_proj_finite (hInProjRefIdeal := hInProjRefIdeal) (hPre_in_proj_finite := hPre_in_proj_finite)
    ∧ quiescent_FfnHid (hFfnHid := hFfnHid)
    ∧ quiescent_FfnHidIdeal (hFfnHidIdeal := hFfnHidIdeal)
    ∧ quiescent_FfnHidIdeal_pre_ffn_hidden_finite (hFfnHidIdeal := hFfnHidIdeal) (hPre_ffn_hidden_finite := hPre_ffn_hidden_finite)
    ∧ quiescent_FfnHidRefIdeal (hFfnHidRefIdeal := hFfnHidRefIdeal)
    ∧ quiescent_FfnHidRefIdeal_pre_ffn_hidden_finite (hFfnHidRefIdeal := hFfnHidRefIdeal) (hPre_ffn_hidden_finite := hPre_ffn_hidden_finite)
    ∧ quiescent_Merge (hMerge := hMerge)
    ∧ quiescent_MergeIdeal (hMergeIdeal := hMergeIdeal)
    ∧ quiescent_MergeRefIdeal (hMergeRefIdeal := hMergeRefIdeal)
    ∧ quiescent_FfnLast (hFfnLast := hFfnLast)
    ∧ quiescent_FfnLastIdeal (hFfnLastIdeal := hFfnLastIdeal)
    ∧ quiescent_FfnLastIdeal_pre_ffn_last_finite (hFfnLastIdeal := hFfnLastIdeal) (hPre_ffn_last_finite := hPre_ffn_last_finite)
    ∧ quiescent_FfnLastRefIdeal (hFfnLastRefIdeal := hFfnLastRefIdeal)
    ∧ quiescent_FfnLastRefIdeal_pre_ffn_last_finite (hFfnLastRefIdeal := hFfnLastRefIdeal) (hPre_ffn_last_finite := hPre_ffn_last_finite)
    ∧ preserves_KPrep_KPrepIdeal
    ∧ algebraic_KPrepIdeal_KPrepRefIdeal_pre_k_prep_finite (hKPrepIdeal := hKPrepIdeal) (hKPrepRefIdeal := hKPrepRefIdeal) (hPre_k_prep_finite := hPre_k_prep_finite)
    ∧ preserves_QPrep_QPrepIdeal
    ∧ algebraic_QPrepIdeal_QPrepRefIdeal_pre_q_prep_finite (hQPrepIdeal := hQPrepIdeal) (hQPrepRefIdeal := hQPrepRefIdeal) (hPre_q_prep_finite := hPre_q_prep_finite)
    ∧ preserves_FlashFwd_FlashFwdIdeal
    ∧ algebraic_FlashFwdIdeal_FlashFwdRefIdeal_pre_flash_fwd_finite (hFlashFwdIdeal := hFlashFwdIdeal) (hFlashFwdRefIdeal := hFlashFwdRefIdeal) (hPre_flash_fwd_finite := hPre_flash_fwd_finite)
    ∧ preserves_FlashBwd_FlashBwdIdeal
    ∧ algebraic_FlashBwdIdeal_FlashBwdRefIdeal_pre_flash_bwd_finite (hFlashBwdIdeal := hFlashBwdIdeal) (hFlashBwdRefIdeal := hFlashBwdRefIdeal) (hPre_flash_bwd_finite := hPre_flash_bwd_finite)
    ∧ preserves_FfnIn_FfnInIdeal
    ∧ algebraic_FfnInIdeal_FfnInRefIdeal_pre_ffn_in_finite (hFfnInIdeal := hFfnInIdeal) (hFfnInRefIdeal := hFfnInRefIdeal) (hPre_ffn_in_finite := hPre_ffn_in_finite)
    ∧ preserves_InProj_InProjIdeal
    ∧ algebraic_InProjIdeal_InProjRefIdeal_pre_in_proj_finite (hInProjIdeal := hInProjIdeal) (hInProjRefIdeal := hInProjRefIdeal) (hPre_in_proj_finite := hPre_in_proj_finite)
    ∧ preserves_FfnHid_FfnHidIdeal
    ∧ algebraic_FfnHidIdeal_FfnHidRefIdeal_pre_ffn_hidden_finite (hFfnHidIdeal := hFfnHidIdeal) (hFfnHidRefIdeal := hFfnHidRefIdeal) (hPre_ffn_hidden_finite := hPre_ffn_hidden_finite)
    ∧ preserves_Merge_MergeIdeal
    ∧ algebraic_MergeIdeal_MergeRefIdeal (hMergeIdeal := hMergeIdeal) (hMergeRefIdeal := hMergeRefIdeal)
    ∧ preserves_FfnLast_FfnLastIdeal
    ∧ algebraic_FfnLastIdeal_FfnLastRefIdeal_pre_ffn_last_finite (hFfnLastIdeal := hFfnLastIdeal) (hFfnLastRefIdeal := hFfnLastRefIdeal) (hPre_ffn_last_finite := hPre_ffn_last_finite)
-- ==== Pre_ffn_hidden_finite.lean ====
abbrev S4096x1024 : Shape := ⟨2, ![4096, 1024]⟩
abbrev S1024x2816 : Shape := ⟨2, ![1024, 2816]⟩
abbrev S2816x1024 : Shape := ⟨2, ![2816, 1024]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S2816x1024 .f32) (main_v15 : IVec S_ 1) (main_v16 : FVec F S1024x2816 .f32) (main_cst_4 : FVec F S_ .f32) : IVec S_ 1 :=
  let main_v17 : FVec F S1024x2816 .f32 := broadcastInDim S1024x2816 ![] bcast_S_S1024x2816 main_cst_4
  let main_v18 : IVec S1024x2816 1 := cmpf .olt main_v16 main_v17
  let main_c_5 : IVec S_ 1 := constantI S_ 1 1#1
  let main_v19 : IVec S_ 1 := (fun x v => Host.reduce IntOp.andi x v reducesTo_S1024x2816_S_d0_1 h_S_) main_v18 main_c_5
  let main_v20 : IVec S_ 1 := andi main_v15 main_v19
  let main_v21 : FVec F S2816x1024 .f32 := Host.absf main_arg4
  let main_cst_6 : FVec F S_ .f32 := constant S_ .f32 0x7F800000#32
  let main_v22 : FVec F S2816x1024 .f32 := broadcastInDim S2816x1024 ![] bcast_S_S2816x1024 main_cst_6
  let main_v23 : IVec S2816x1024 1 := cmpf .olt main_v21 main_v22
  let main_c_7 : IVec S_ 1 := constantI S_ 1 1#1
  let main_v24 : IVec S_ 1 := (fun x v => Host.reduce IntOp.andi x v reducesTo_S2816x1024_S_d0_1 h_S_) main_v23 main_c_7
  let main_v25 : IVec S_ 1 := andi main_v20 main_v24
  main_v25

def fn {F : FTy → Type} [FloatOps F] (main_arg0 : FVec F S4096x1024 .bf16) (main_arg1 : FVec F S4096x1024 .bf16) (main_arg2 : FVec F S1024x2816 .f32) (main_arg3 : FVec F S1024x2816 .f32) (main_arg4 : FVec F S2816x1024 .f32) : IVec S_ 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  let main_v5 : FVec F S4096x1024 .f32 := (extf .f32 · bitsLt_bf16_f32) main_arg1
  let main_v6 : FVec F S4096x1024 .f32 := Host.absf main_v5
  let main_cst_0 : FVec F S_ .f32 := constant S_ .f32 0x7F800000#32
  let main_v7 : FVec F S4096x1024 .f32 := broadcastInDim S4096x1024 ![] bcast_S_S4096x1024 main_cst_0
  let main_v8 : IVec S4096x1024 1 := cmpf .olt main_v6 main_v7
  let main_c_1 : IVec S_ 1 := constantI S_ 1 1#1
  let main_v9 : IVec S_ 1 := (fun x v => Host.reduce IntOp.andi x v reducesTo_S4096x1024_S_d0_1 h_S_) main_v8 main_c_1
  let main_v10 : IVec S_ 1 := andi main_v4 main_v9
  let main_v11 : FVec F S1024x2816 .f32 := Host.absf main_arg2
  let main_cst_2 : FVec F S_ .f32 := constant S_ .f32 0x7F800000#32
  let main_v12 : FVec F S1024x2816 .f32 := broadcastInDim S1024x2816 ![] bcast_S_S1024x2816 main_cst_2
  let main_v13 : IVec S1024x2816 1 := cmpf .olt main_v11 main_v12
  let main_c_3 : IVec S_ 1 := constantI S_ 1 1#1
  let main_v14 : IVec S_ 1 := (fun x v => Host.reduce IntOp.andi x v reducesTo_S1024x2816_S_d0_1 h_S_) main_v13 main_c_3
  let main_v15 : IVec S_ 1 := andi main_v10 main_v14
  let main_v16 : FVec F S1024x2816 .f32 := Host.absf main_arg3
  let main_cst_4 : FVec F S_ .f32 := constant S_ .f32 0x7F800000#32
  fn_part1 (F := F) main_arg4 main_v15 main_v16 main_cst_4
-- ==== Pre_ffn_in_finite.lean ====
abbrev S4096x2816 : Shape := ⟨2, ![4096, 2816]⟩
abbrev S4096x1024 : Shape := ⟨2, ![4096, 1024]⟩
abbrev S1x1024 : Shape := ⟨2, ![1, 1024]⟩
abbrev S1024x2816 : Shape := ⟨2, ![1024, 2816]⟩
abbrev S_ : Shape := ⟨0, ![]⟩

class Facts : Prop where
  bitsLt_bf16_f32 : FTy.bits .bf16 < FTy.bits .f32
  bcast_S_S4096x2816 : S_.BroadcastsInDim S4096x2816 (![] : Fin 0 → Fin S4096x2816.rank)
  reducesTo_S4096x2816_S_d0_1 : S4096x2816.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1024x2816 : S_.BroadcastsInDim S1024x2816 (![] : Fin 0 → Fin S1024x2816.rank)
  reducesTo_S1024x2816_S_d0_1 : S1024x2816.ReducesTo [0, 1] S_

variable [Facts]

def fn_part1 {F : FTy → Type} [FloatOps F] (main_arg5 : FVec F S1024x2816 .f32) (main_arg6 : FVec F S1024x2816 .f32) (main_v15 : IVec S_ 1) (main_v16 : FVec F S1x1024 .f32) (main_cst_4 : FVec F S_ .f32) : IVec S_ 1 :=
  let main_v17 : FVec F S1x1024 .f32 := broadcastInDim S1x1024 ![] bcast_S_S1x1024 main_cst_4
  let main_v18 : IVec S1x1024 1 := cmpf .olt main_v16 main_v17
  let main_c_5 : IVec S_ 1 := constantI S_ 1 1#1
  let main_v19 : IVec S_ 1 := (fun x v => Host.reduce IntOp.andi x v reducesTo_S1x1024_S_d0_1 h_S_) main_v18 main_c_5
  let main_v20 : IVec S_ 1 := andi main_v15 main_v19
  let main_v21 : FVec F S1024x2816 .f32 := Host.absf main_arg5
  let main_cst_6 : FVec F S_ .f32 := constant S_ .f32 0x7F800000#32
  let main_v22 : FVec F S1024x2816 .f32 := broadcastInDim S1024x2816 ![] bcast_S_S1024x2816 main_cst_6
  let main_v23 : IVec S1024x2816 1 := cmpf .olt main_v21 main_v22
  let main_c_7 : IVec S_ 1 := constantI S_ 1 1#1
  let main_v24 : IVec S_ 1 := (fun x v => Host.reduce IntOp.andi x v reducesTo_S1024x2816_S_d0_1 h_S_) main_v23 main_c_7
  let main_v25 : IVec S_ 1 := andi main_v20 main_v24
  let main_v26 : FVec F S1024x2816 .f32 := Host.absf main_arg6
  let main_cst_8 : FVec F S_ .f32 := constant S_ .f32 0x7F800000#32
  let main_v27 : FVec F S1024x2816 .f32 := broadcastInDim S1024x2816 ![] bcast_S_S1024x2816 main_cst_8
  let main_v28 : IVec S1024x2816 1 := cmpf .olt main_v26 main_v27
  let main_c_9 : IVec S_ 1 := constantI S_ 1 1#1
  let main_v29 : IVec S_ 1 := (fun x v => Host.reduce IntOp.andi x v reducesTo_S1024x2816_S_d0_1 h_S_) main_v28 main_c_9
  let main_v30 : IVec S_ 1 := andi main_v25 main_v29
  main_v30

def fn {F : FTy → Type} [FloatOps F] (main_arg0 : FVec F S4096x2816 .bf16) (main_arg1 : FVec F S4096x2816 .bf16) (main_arg2 : FVec F S4096x1024 .f32) (main_arg3 : FVec F S1x1024 .f32) (main_arg4 : FVec F S4096x1024 .f32) (main_arg5 : FVec F S1024x2816 .f32) (main_arg6 : FVec F S1024x2816 .f32) : IVec S_ 1 :=
  let main_v0 : FVec F S4096x2816 .f32 := (extf .f32 · bitsLt_bf16_f32) main_arg0
  let main_v1 : FVec F S4096x2816 .f32 := Host.absf main_v0
  let main_cst : FVec F S_ .f32 := constant S_ .f32 0x7F800000#32
  let main_v2 : FVec F S4096x2816 .f32 := broadcastInDim S4096x2816 ![] bcast_S_S4096x2816 main_cst
  let main_v3 : IVec S4096x2816 1 := cmpf .olt main_v1 main_v2
  let main_c : IVec S_ 1 := constantI S_ 1 1#1
  let main_v4 : IVec S_ 1 := (fun x v => Host.reduce IntOp.andi x v reducesTo_S4096x2816_S_d0_1 h_S_) main_v3 main_c
  let main_v5 : FVec F S4096x2816 .f32 := (extf .f32 · bitsLt_bf16_f32) main_arg1
  let main_v6 : FVec F S4096x2816 .f32 := Host.absf main_v5
  let main_cst_0 : FVec F S_ .f32 := constant S_ .f32 0x7F800000#32
  let main_v7 : FVec F S4096x2816 .f32 := broadcastInDim S4096x2816 ![] bcast_S_S4096x2816 main_cst_0
  let main_v8 : IVec S4096x2816 1 := cmpf .olt main_v6 main_v7
  let main_c_1 : IVec S_ 1 := constantI S_ 1 1#1
  let main_v9 : IVec S_ 1 := (fun x v => Host.reduce IntOp.andi x v reducesTo_S4096x2816_S_d0_1 h_S_) main_v8 main_c_1
  let main_v10 : IVec S_ 1 := andi main_v4 main_v9
  let main_v11 : FVec F S4096x1024 .f32 := Host.absf main_arg2
  let main_cst_2 : FVec F S_ .f32 := constant S_ .f32 0x7F800000#32
  let main_v12 : FVec F S4096x1024 .f32 := broadcastInDim S4096x1024 ![] bcast_S_S4096x1024 main_cst_2
  let main_v13 : IVec S4096x1024 1 := cmpf .olt main_v11 main_v12
  let main_c_3 : IVec S_ 1 := constantI S_ 1 1#1
  let main_v14 : IVec S_ 1 := (fun x v => Host.reduce IntOp.andi x v reducesTo_S4096x1024_S_d0_1 h_S_) main_v13 main_c_3
  let main_v15 : IVec S_ 1 := andi main_v10 main_v14
  let main_v16 : FVec F S1x1024 .f32 := Host.absf main_arg3
  let main_cst_4 : FVec F S_ .f32 := constant S_ .f32 0x7F800000#32
  fn_part1 (F := F) main_arg5 main_arg6 main_v15 main_v16 main_cst_4
-- ==== Pre_ffn_last_finite.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S2816x1024 .f32) (main_arg5 : FVec F S4096x1024 .f32) (main_arg6 : FVec F S1x1024 .f32) (main_v13 : IVec S_ 1) (main_v16 : IVec S1024x2816 1) : IVec S_ 1 :=
  let main_c_5 : IVec S_ 1 := constantI S_ 1 1#1
  let main_v17 : IVec S_ 1 := (fun x v => Host.reduce IntOp.andi x v reducesTo_S1024x2816_S_d0_1 h_S_) main_v16 main_c_5
  let main_v18 : IVec S_ 1 := andi main_v13 main_v17
  let main_v19 : FVec F S2816x1024 .f32 := Host.absf main_arg4
  let main_cst_6 : FVec F S_ .f32 := constant S_ .f32 0x7F800000#32
  let main_v20 : FVec F S2816x1024 .f32 := broadcastInDim S2816x1024 ![] bcast_S_S2816x1024 main_cst_6
  let main_v21 : IVec S2816x1024 1 := cmpf .olt main_v19 main_v20
  let main_c_7 : IVec S_ 1 := constantI S_ 1 1#1
  let main_v22 : IVec S_ 1 := (fun x v => Host.reduce IntOp.andi x v reducesTo_S2816x1024_S_d0_1 h_S_) main_v21 main_c_7
  let main_v23 : IVec S_ 1 := andi main_v18 main_v22
  let main_v24 : FVec F S4096x1024 .f32 := Host.absf main_arg5
  let main_cst_8 : FVec F S_ .f32 := constant S_ .f32 0x7F800000#32
  let main_v25 : FVec F S4096x1024 .f32 := broadcastInDim S4096x1024 ![] bcast_S_S4096x1024 main_cst_8
  let main_v26 : IVec S4096x1024 1 := cmpf .olt main_v24 main_v25
  let main_c_9 : IVec S_ 1 := constantI S_ 1 1#1
  let main_v27 : IVec S_ 1 := (fun x v => Host.reduce IntOp.andi x v reducesTo_S4096x1024_S_d0_1 h_S_) main_v26 main_c_9
  let main_v28 : IVec S_ 1 := andi main_v23 main_v27
  let main_v29 : FVec F S1x1024 .f32 := Host.absf main_arg6
  let main_cst_10 : FVec F S_ .f32 := constant S_ .f32 0x7F800000#32
  let main_v30 : FVec F S1x1024 .f32 := broadcastInDim S1x1024 ![] bcast_S_S1x1024 main_cst_10
  let main_v31 : IVec S1x1024 1 := cmpf .olt main_v29 main_v30
  let main_c_11 : IVec S_ 1 := constantI S_ 1 1#1
  let main_v32 : IVec S_ 1 := (fun x v => Host.reduce IntOp.andi x v reducesTo_S1x1024_S_d0_1 h_S_) main_v31 main_c_11
  let main_v33 : IVec S_ 1 := andi main_v28 main_v32
  main_v33

def fn {F : FTy → Type} [FloatOps F] (main_arg0 : FVec F S4096x1024 .f32) (main_arg1 : FVec F S1x1024 .f32) (main_arg2 : FVec F S1024x2816 .f32) (main_arg3 : FVec F S1024x2816 .f32) (main_arg4 : FVec F S2816x1024 .f32) (main_arg5 : FVec F S4096x1024 .f32) (main_arg6 : FVec F S1x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1024x2816 .f32 := Host.absf main_arg2
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_c_3 : IVec S_ 1 := constantI S_ 1 1#1
  let main_v12 : IVec S_ 1 := (fun x v => Host.reduce IntOp.andi x v reducesTo_S1024x2816_S_d0_1 h_S_) main_v11 main_c_3
  let main_v13 : IVec S_ 1 := andi main_v8 main_v12
  let main_v14 : FVec F S1024x2816 .f32 := Host.absf main_arg3
  let main_cst_4 : FVec F S_ .f32 := constant S_ .f32 0x7F800000#32
  let main_v15 : FVec F S1024x2816 .f32 := broadcastInDim S1024x2816 ![] bcast_S_S1024x2816 main_cst_4
  let main_v16 : IVec S1024x2816 1 := cmpf .olt main_v14 main_v15
  fn_part1 (F := F) main_arg4 main_arg5 main_arg6 main_v13 main_v16
-- ==== Pre_flash_bwd_finite.lean ====
abbrev S4096x1024 : Shape := ⟨2, ![4096, 1024]⟩
abbrev S4096x256 : Shape := ⟨2, ![4096, 256]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x256 : S_.BroadcastsInDim S4096x256 (![] : Fin 0 → Fin S4096x256.rank)
  reducesTo_S4096x256_S_d0_1 : S4096x256.ReducesTo [0, 1] S_

variable [Facts]

def fn_part1 {F : FTy → Type} [FloatOps F] (main_v16 : IVec S_ 1) (main_v17 : FVec F S4096x1024 .f32) : IVec S_ 1 :=
  let main_v18 : FVec F S4096x1024 .f32 := Host.absf main_v17
  let main_cst_4 : FVec F S_ .f32 := constant S_ .f32 0x7F800000#32
  let main_v19 : FVec F S4096x1024 .f32 := broadcastInDim S4096x1024 ![] bcast_S_S4096x1024 main_cst_4
  let main_v20 : IVec S4096x1024 1 := cmpf .olt main_v18 main_v19
  let main_c_5 : IVec S_ 1 := constantI S_ 1 1#1
  let main_v21 : IVec S_ 1 := (fun x v => Host.reduce IntOp.andi x v reducesTo_S4096x1024_S_d0_1 h_S_) main_v20 main_c_5
  let main_v22 : IVec S_ 1 := andi main_v16 main_v21
  main_v22

def fn {F : FTy → Type} [FloatOps F] (main_arg0 : FVec F S4096x1024 .bf16) (main_arg1 : FVec F S4096x256 .bf16) (main_arg2 : FVec F S4096x256 .bf16) (main_arg3 : FVec F S4096x1024 .bf16) : IVec S_ 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  let main_v5 : FVec F S4096x256 .f32 := (extf .f32 · bitsLt_bf16_f32) main_arg1
  let main_v6 : FVec F S4096x256 .f32 := Host.absf main_v5
  let main_cst_0 : FVec F S_ .f32 := constant S_ .f32 0x7F800000#32
  let main_v7 : FVec F S4096x256 .f32 := broadcastInDim S4096x256 ![] bcast_S_S4096x256 main_cst_0
  let main_v8 : IVec S4096x256 1 := cmpf .olt main_v6 main_v7
  let main_c_1 : IVec S_ 1 := constantI S_ 1 1#1
  let main_v9 : IVec S_ 1 := (fun x v => Host.reduce IntOp.andi x v reducesTo_S4096x256_S_d0_1 h_S_) main_v8 main_c_1
  let main_v10 : IVec S_ 1 := andi main_v4 main_v9
  let main_v11 : FVec F S4096x256 .f32 := (extf .f32 · bitsLt_bf16_f32) main_arg2
  let main_v12 : FVec F S4096x256 .f32 := Host.absf main_v11
  let main_cst_2 : FVec F S_ .f32 := constant S_ .f32 0x7F800000#32
  let main_v13 : FVec F S4096x256 .f32 := broadcastInDim S4096x256 ![] bcast_S_S4096x256 main_cst_2
  let main_v14 : IVec S4096x256 1 := cmpf .olt main_v12 main_v13
  let main_c_3 : IVec S_ 1 := constantI S_ 1 1#1
  let main_v15 : IVec S_ 1 := (fun x v => Host.reduce IntOp.andi x v reducesTo_S4096x256_S_d0_1 h_S_) main_v14 main_c_3
  let main_v16 : IVec S_ 1 := andi main_v10 main_v15
  let main_v17 : FVec F S4096x1024 .f32 := (extf .f32 · bitsLt_bf16_f32) main_arg3
  fn_part1 (F := F) main_v16 main_v17
-- ==== Pre_flash_fwd_finite.lean ====
abbrev S4096x1024 : Shape := ⟨2, ![4096, 1024]⟩
abbrev S4096x256 : Shape := ⟨2, ![4096, 256]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x256 : S_.BroadcastsInDim S4096x256 (![] : Fin 0 → Fin S4096x256.rank)
  reducesTo_S4096x256_S_d0_1 : S4096x256.ReducesTo [0, 1] S_

variable [Facts]

def fn {F : FTy → Type} [FloatOps F] (main_arg0 : FVec F S4096x1024 .bf16) (main_arg1 : FVec F S4096x256 .bf16) (main_arg2 : FVec F S4096x256 .bf16) : IVec S_ 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  let main_v5 : FVec F S4096x256 .f32 := (extf .f32 · bitsLt_bf16_f32) main_arg1
  let main_v6 : FVec F S4096x256 .f32 := Host.absf main_v5
  let main_cst_0 : FVec F S_ .f32 := constant S_ .f32 0x7F800000#32
  let main_v7 : FVec F S4096x256 .f32 := broadcastInDim S4096x256 ![] bcast_S_S4096x256 main_cst_0
  let main_v8 : IVec S4096x256 1 := cmpf .olt main_v6 main_v7
  let main_c_1 : IVec S_ 1 := constantI S_ 1 1#1
  let main_v9 : IVec S_ 1 := (fun x v => Host.reduce IntOp.andi x v reducesTo_S4096x256_S_d0_1 h_S_) main_v8 main_c_1
  let main_v10 : IVec S_ 1 := andi main_v4 main_v9
  let main_v11 : FVec F S4096x256 .f32 := (extf .f32 · bitsLt_bf16_f32) main_arg2
  let main_v12 : FVec F S4096x256 .f32 := Host.absf main_v11
  let main_cst_2 : FVec F S_ .f32 := constant S_ .f32 0x7F800000#32
  let main_v13 : FVec F S4096x256 .f32 := broadcastInDim S4096x256 ![] bcast_S_S4096x256 main_cst_2
  let main_v14 : IVec S4096x256 1 := cmpf .olt main_v12 main_v13
  let main_c_3 : IVec S_ 1 := constantI S_ 1 1#1
  let main_v15 : IVec S_ 1 := (fun x v => Host.reduce IntOp.andi x v reducesTo_S4096x256_S_d0_1 h_S_) main_v14 main_c_3
  let main_v16 : IVec S_ 1 := andi main_v10 main_v15
  main_v16
-- ==== Pre_in_proj_finite.lean ====
abbrev S4096x8192 : Shape := ⟨2, ![4096, 8192]⟩
abbrev S4096x1024 : Shape := ⟨2, ![4096, 1024]⟩
abbrev S1x1024 : Shape := ⟨2, ![1, 1024]⟩
abbrev S1024x8192 : Shape := ⟨2, ![1024, 8192]⟩
abbrev S_ : Shape := ⟨0, ![]⟩

class Facts : Prop where
  bitsLt_bf16_f32 : FTy.bits .bf16 < FTy.bits .f32
  bcast_S_S4096x8192 : S_.BroadcastsInDim S4096x8192 (![] : Fin 0 → Fin S4096x8192.rank)
  reducesTo_S4096x8192_S_d0_1 : S4096x8192.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1024x8192 : S_.BroadcastsInDim S1024x8192 (![] : Fin 0 → Fin S1024x8192.rank)
  reducesTo_S1024x8192_S_d0_1 : S1024x8192.ReducesTo [0, 1] S_

variable [Facts]

def fn_part1 {F : FTy → Type} [FloatOps F] (main_v14 : IVec S_ 1) (main_v15 : FVec F S1024x8192 .f32) (main_v16 : FVec F S1024x8192 .f32) : IVec S_ 1 :=
  let main_v17 : IVec S1024x8192 1 := cmpf .olt main_v15 main_v16
  let main_c_5 : IVec S_ 1 := constantI S_ 1 1#1
  let main_v18 : IVec S_ 1 := (fun x v => Host.reduce IntOp.andi x v reducesTo_S1024x8192_S_d0_1 h_S_) main_v17 main_c_5
  let main_v19 : IVec S_ 1 := andi main_v14 main_v18
  main_v19

def fn {F : FTy → Type} [FloatOps F] (main_arg0 : FVec F S4096x8192 .bf16) (main_arg1 : FVec F S4096x1024 .f32) (main_arg2 : FVec F S1x1024 .f32) (main_arg3 : FVec F S4096x1024 .f32) (main_arg4 : FVec F S1024x8192 .f32) : IVec S_ 1 :=
  let main_v0 : FVec F S4096x8192 .f32 := (extf .f32 · bitsLt_bf16_f32) main_arg0
  let main_v1 : FVec F S4096x8192 .f32 := Host.absf main_v0
  let main_cst : FVec F S_ .f32 := constant S_ .f32 0x7F800000#32
  let main_v2 : FVec F S4096x8192 .f32 := broadcastInDim S4096x8192 ![] bcast_S_S4096x8192 main_cst
  let main_v3 : IVec S4096x8192 1 := cmpf .olt main_v1 main_v2
  let main_c : IVec S_ 1 := constantI S_ 1 1#1
  let main_v4 : IVec S_ 1 := (fun x v => Host.reduce IntOp.andi x v reducesTo_S4096x8192_S_d0_1 h_S_) main_v3 main_c
  let main_v5 : FVec F S4096x1024 .f32 := Host.absf main_arg1
  let main_cst_0 : FVec F S_ .f32 := constant S_ .f32 0x7F800000#32
  let main_v6 : FVec F S4096x1024 .f32 := broadcastInDim S4096x1024 ![] bcast_S_S4096x1024 main_cst_0
  let main_v7 : IVec S4096x1024 1 := cmpf .olt main_v5 main_v6
  let main_c_1 : IVec S_ 1 := constantI S_ 1 1#1
  let main_v8 : IVec S_ 1 := (fun x v => Host.reduce IntOp.andi x v reducesTo_S4096x1024_S_d0_1 h_S_) main_v7 main_c_1
  let main_v9 : IVec S_ 1 := andi main_v4 main_v8
  let main_v10 : FVec F S1x1024 .f32 := Host.absf main_arg2
  let main_cst_2 : FVec F S_ .f32 := constant S_ .f32 0x7F800000#32
  let main_v11 : FVec F S1x1024 .f32 := broadcastInDim S1x1024 ![] bcast_S_S1x1024 main_cst_2
  let main_v12 : IVec S1x1024 1 := cmpf .olt main_v10 main_v11
  let main_c_3 : IVec S_ 1 := constantI S_ 1 1#1
  let main_v13 : IVec S_ 1 := (fun x v => Host.reduce IntOp.andi x v reducesTo_S1x1024_S_d0_1 h_S_) main_v12 main_c_3
  let main_v14 : IVec S_ 1 := andi main_v9 main_v13
  let main_v15 : FVec F S1024x8192 .f32 := Host.absf main_arg4
  let main_cst_4 : FVec F S_ .f32 := constant S_ .f32 0x7F800000#32
  let main_v16 : FVec F S1024x8192 .f32 := broadcastInDim S1024x8192 ![] bcast_S_S1024x8192 main_cst_4
  fn_part1 (F := F) main_v14 main_v15 main_v16
-- ==== Pre_k_prep_finite.lean ====
abbrev S4096x256 : Shape := ⟨2, ![4096, 256]⟩
abbrev S4096x8192 : Shape := ⟨2, ![4096, 8192]⟩
abbrev S1x128 : Shape := ⟨2, ![1, 128]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bitsLt_bf16_f32 : FTy.bits .bf16 < FTy.bits .f32
  bcast_S_S4096x8192 : S_.BroadcastsInDim S4096x8192 (![] : Fin 0 → Fin S4096x8192.rank)
  reducesTo_S4096x8192_S_d0_1 : S4096x8192.ReducesTo [0, 1] S_
  bcast_S_S1x128 : S_.BroadcastsInDim S1x128 (![] : Fin 0 → Fin S1x128.rank)
  reducesTo_S1x128_S_d0_1 : S1x128.ReducesTo [0, 1] S_

variable [Facts]

def fn {F : FTy → Type} [FloatOps F] (main_arg0 : FVec F S4096x256 .f32) (main_arg1 : FVec F S4096x8192 .bf16) (main_arg2 : FVec F S1x128 .f32) (main_arg3 : FVec F S4096x256 .bf16) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x8192 .f32 := (extf .f32 · bitsLt_bf16_f32) main_arg1
  let main_v5 : FVec F S4096x8192 .f32 := Host.absf main_v4
  let main_cst_0 : FVec F S_ .f32 := constant S_ .f32 0x7F800000#32
  let main_v6 : FVec F S4096x8192 .f32 := broadcastInDim S4096x8192 ![] bcast_S_S4096x8192 main_cst_0
  let main_v7 : IVec S4096x8192 1 := cmpf .olt main_v5 main_v6
  let main_c_1 : IVec S_ 1 := constantI S_ 1 1#1
  let main_v8 : IVec S_ 1 := (fun x v => Host.reduce IntOp.andi x v reducesTo_S4096x8192_S_d0_1 h_S_) main_v7 main_c_1
  let main_v9 : IVec S_ 1 := andi main_v3 main_v8
  let main_v10 : FVec F S1x128 .f32 := Host.absf main_arg2
  let main_cst_2 : FVec F S_ .f32 := constant S_ .f32 0x7F800000#32
  let main_v11 : FVec F S1x128 .f32 := broadcastInDim S1x128 ![] bcast_S_S1x128 main_cst_2
  let main_v12 : IVec S1x128 1 := cmpf .olt main_v10 main_v11
  let main_c_3 : IVec S_ 1 := constantI S_ 1 1#1
  let main_v13 : IVec S_ 1 := (fun x v => Host.reduce IntOp.andi x v reducesTo_S1x128_S_d0_1 h_S_) main_v12 main_c_3
  let main_v14 : IVec S_ 1 := andi main_v9 main_v13
  main_v14
-- ==== Pre_q_prep_finite.lean ====
abbrev S4096x1024 : Shape := ⟨2, ![4096, 1024]⟩
abbrev S4096x8192 : Shape := ⟨2, ![4096, 8192]⟩
abbrev S1x128 : Shape := ⟨2, ![1, 128]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bitsLt_bf16_f32 : FTy.bits .bf16 < FTy.bits .f32
  bcast_S_S4096x8192 : S_.BroadcastsInDim S4096x8192 (![] : Fin 0 → Fin S4096x8192.rank)
  reducesTo_S4096x8192_S_d0_1 : S4096x8192.ReducesTo [0, 1] S_
  bcast_S_S1x128 : S_.BroadcastsInDim S1x128 (![] : Fin 0 → Fin S1x128.rank)
  reducesTo_S1x128_S_d0_1 : S1x128.ReducesTo [0, 1] S_

variable [Facts]

def fn {F : FTy → Type} [FloatOps F] (main_arg0 : FVec F S4096x1024 .f32) (main_arg1 : FVec F S4096x8192 .bf16) (main_arg2 : FVec F S1x128 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x8192 .f32 := (extf .f32 · bitsLt_bf16_f32) main_arg1
  let main_v5 : FVec F S4096x8192 .f32 := Host.absf main_v4
  let main_cst_0 : FVec F S_ .f32 := constant S_ .f32 0x7F800000#32
  let main_v6 : FVec F S4096x8192 .f32 := broadcastInDim S4096x8192 ![] bcast_S_S4096x8192 main_cst_0
  let main_v7 : IVec S4096x8192 1 := cmpf .olt main_v5 main_v6
  let main_c_1 : IVec S_ 1 := constantI S_ 1 1#1
  let main_v8 : IVec S_ 1 := (fun x v => Host.reduce IntOp.andi x v reducesTo_S4096x8192_S_d0_1 h_S_) main_v7 main_c_1
  let main_v9 : IVec S_ 1 := andi main_v3 main_v8
  let main_v10 : FVec F S1x128 .f32 := Host.absf main_arg2
  let main_cst_2 : FVec F S_ .f32 := constant S_ .f32 0x7F800000#32
  let main_v11 : FVec F S1x128 .f32 := broadcastInDim S1x128 ![] bcast_S_S1x128 main_cst_2
  let main_v12 : IVec S1x128 1 := cmpf .olt main_v10 main_v11
  let main_c_3 : IVec S_ 1 := constantI S_ 1 1#1
  let main_v13 : IVec S_ 1 := (fun x v => Host.reduce IntOp.andi x v reducesTo_S1x128_S_d0_1 h_S_) main_v12 main_c_3
  let main_v14 : IVec S_ 1 := andi main_v9 main_v13
  main_v14
-- ==== KPrep.lean ====
abbrev S4096x256 : Shape := ⟨2, ![4096, 256]⟩
abbrev S4096x8192 : Shape := ⟨2, ![4096, 8192]⟩
abbrev S1x128 : Shape := ⟨2, ![1, 128]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S4096x64x2 : Shape := ⟨3, ![4096, 64, 2]⟩
abbrev S4096x128 : Shape := ⟨2, ![4096, 128]⟩
abbrev S4096x64x1 : Shape := ⟨3, ![4096, 64, 1]⟩
abbrev S4096x512 : Shape := ⟨2, ![4096, 512]⟩
abbrev S256x256 : Shape := ⟨2, ![256, 256]⟩
abbrev S256x128 : Shape := ⟨2, ![256, 128]⟩
abbrev S256x512 : Shape := ⟨2, ![256, 512]⟩
abbrev S256 : Shape := ⟨1, ![256]⟩
abbrev S256x1 : Shape := ⟨2, ![256, 1]⟩
abbrev S128 : Shape := ⟨1, ![128]⟩

abbrev nBuf : Space → Nat
  | .hbm => 41
  | .vmem => 14
  | .smem => 0
  | _ => 0

abbrev bufTy : (tb : Table) → Fin (tcTables nBuf tb) → BufTy
  | .hbm, ⟨0, _⟩ => ⟨S4096x256, .f32⟩
  | .hbm, ⟨1, _⟩ => ⟨S4096x8192, .bf16⟩
  | .hbm, ⟨2, _⟩ => ⟨S1x128, .f32⟩
  | .hbm, ⟨3, _⟩ => ⟨S4096x256, .bf16⟩
  | .hbm, ⟨4, _⟩ => ⟨S64, .f32⟩
  | .hbm, ⟨5, _⟩ => ⟨S64x64, .f32⟩
  | .hbm, ⟨6, _⟩ => ⟨S4096, .f32⟩
  | .hbm, ⟨7, _⟩ => ⟨S64, .f32⟩
  | .hbm, ⟨8, _⟩ => ⟨S1x64, .f32⟩
  | .hbm, ⟨9, _⟩ => ⟨S64x64, .f32⟩
  | .hbm, ⟨10, _⟩ => ⟨S4096, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S4096x1, .f32⟩
  | .hbm, ⟨20, _⟩ => ⟨S1x32, .f32⟩
  | .hbm, ⟨21, _⟩ => ⟨S4096x32, .f32⟩
  | .hbm, ⟨22, _⟩ => ⟨S4096x32, .f32⟩
  | .hbm, ⟨23, _⟩ => ⟨S4096x32, .f32⟩
  | .hbm, ⟨24, _⟩ => ⟨S4096x1, .f32⟩
  | .hbm, ⟨25, _⟩ => ⟨S1x32, .f32⟩
  | .hbm, ⟨26, _⟩ => ⟨S4096x32, .f32⟩
  | .hbm, ⟨27, _⟩ => ⟨S4096x32, .f32⟩
  | .hbm, ⟨28, _⟩ => ⟨S4096x32, .f32⟩
  | .hbm, ⟨29, _⟩ => ⟨S4096x64, .f32⟩
  | .hbm, ⟨30, _⟩ => ⟨S4096x64, .f32⟩
  | .hbm, ⟨31, _⟩ => ⟨S4096x64, .f32⟩
  | .hbm, ⟨32, _⟩ => ⟨S4096x64x2, .f32⟩
  | .hbm, ⟨33, _⟩ => ⟨S4096x128, .f32⟩
  | .hbm, ⟨34, _⟩ => ⟨S4096x64, .f32⟩
  | .hbm, ⟨35, _⟩ => ⟨S4096x64x1, .f32⟩
  | .hbm, ⟨36, _⟩ => ⟨S4096x64x1, .f32⟩
  | .hbm, ⟨37, _⟩ => ⟨S4096x64x2, .f32⟩
  | .hbm, ⟨38, _⟩ => ⟨S4096x128, .f32⟩
  | .hbm, ⟨39, _⟩ => ⟨S4096x512, .bf16⟩
  | .hbm, ⟨40, _⟩ => ⟨S1x128, .f32⟩
  | .local _ .vmem, ⟨0, _⟩ => ⟨S256x256, .f32⟩
  | .local _ .vmem, ⟨1, _⟩ => ⟨S256x256, .f32⟩
  | .local _ .vmem, ⟨2, _⟩ => ⟨S256x256, .bf16⟩
  | .local _ .vmem, ⟨3, _⟩ => ⟨S256x256, .bf16⟩
  | .local _ .vmem, ⟨4, _⟩ => ⟨S1x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x256, .bf16⟩
  | .local _ .vmem, ⟨10, _⟩ => ⟨S256x256, .bf16⟩
  | .local _ .vmem, ⟨11, _⟩ => ⟨S256x512, .bf16⟩
  | .local _ .vmem, ⟨12, _⟩ => ⟨S256x512, .bf16⟩
  | .local _ .vmem, ⟨13, _⟩ => ⟨S1x128, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33_0 : Ref sig .tc := ⟨.hbm, 39, rfl⟩
abbrev main_v33_1 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32_45 : BitVec 32 := 0#32
  let v120 : BitVec 1 := Scalar.cmpi .eq arg0 c0_i32_45
  let v121 : BitVec 32 := Scalar.extui v120
  let c0_i32_46 : BitVec 32 := 0#32
  let v122 : BitVec 1 := Scalar.cmpi .ne v121 c0_i32_46
  v122

def k0_cond2 (i : grid0.Coords) : BitVec 1 :=
  let arg0 : BitVec 32 := BitVec.ofNat 32 (i 0).val
  let c0_i32_47 : BitVec 32 := 0#32
  let v123 : BitVec 1 := Scalar.cmpi .sgt arg0 c0_i32_47
  let v124 : BitVec 32 := Scalar.extui v123
  let c0_i32_48 : BitVec 32 := 0#32
  let v125 : BitVec 1 := Scalar.cmpi .ne v124 c0_i32_48
  v125

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c22_i32 : BitVec 32 := 22#32
  let c0_i32 : BitVec 32 := 0#32
  ![arg0.toNat, c22_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== KPrepRefIdeal.lean ====
abbrev S4096x256 : Shape := ⟨2, ![4096, 256]⟩
abbrev S4096x8192 : Shape := ⟨2, ![4096, 8192]⟩
abbrev S1x128 : Shape := ⟨2, ![1, 128]⟩
abbrev S4096x512 : Shape := ⟨2, ![4096, 512]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S1x4096x2x128 : Shape := ⟨4, ![1, 4096, 2, 128]⟩
abbrev S128 : Shape := ⟨1, ![128]⟩
abbrev S1x4096x2 : Shape := ⟨3, ![1, 4096, 2]⟩
abbrev S1x4096x2x1 : Shape := ⟨4, ![1, 4096, 2, 1]⟩
abbrev S1x1x1x128 : Shape := ⟨4, ![1, 1, 1, 128]⟩
abbrev S1x4096x2x64x2 : Shape := ⟨5, ![1, 4096, 2, 64, 2]⟩
abbrev S1x4096x2x64x1 : Shape := ⟨5, ![1, 4096, 2, 64, 1]⟩
abbrev S1x4096x2x64 : Shape := ⟨4, ![1, 4096, 2, 64]⟩
abbrev S1x4096x1x64 : Shape := ⟨4, ![1, 4096, 1, 64]⟩
abbrev S4096x2 : Shape := ⟨2, ![4096, 2]⟩

abbrev nBuf : Space → Nat
  | .hbm => 140
  | .vmem => 0
  | .smem => 0
  | _ => 0

abbrev hbmTy0_0 (i : Nat) : BufTy := match i % 128 with
  | 0 => ⟨S4096x256, .f32⟩
  | 1 => ⟨S4096x8192, .bf16⟩
  | 2 => ⟨S1x128, .f32⟩
  | 3 => ⟨S4096x256, .bf16⟩
  | 4 => ⟨S4096x8192, .f32⟩
  | 5 => ⟨S4096x512, .f32⟩
  | 6 => ⟨S64, .f32⟩
  | 7 => ⟨S64x64, .f32⟩
  | 8 => ⟨S4096, .f32⟩
  | 9 => ⟨S64, .f32⟩
  | 10 => ⟨S1x64, .f32⟩
  | 11 => ⟨S64x64, .f32⟩
  | 12 => ⟨S4096, .f32⟩
  | 13 => ⟨S32, .f32⟩
  | 14 => ⟨S32, .f32⟩
  | 15 => ⟨S_, .f32⟩
  | 16 => ⟨S32, .f32⟩
  | 17 => ⟨S32, .f32⟩
  | 18 => ⟨S_, .f32⟩
  | 19 => ⟨S32, .f32⟩
  | 20 => ⟨S32, .f32⟩
  | 21 => ⟨S4096x1, .f32⟩
  | 22 => ⟨S1x32, .f32⟩
  | 23 => ⟨S4096x32, .f32⟩
  | 24 => ⟨S4096x32, .f32⟩
  | 25 => ⟨S4096x32, .f32⟩
  | 26 => ⟨S4096x1, .f32⟩
  | 27 => ⟨S1x32, .f32⟩
  | 28 => ⟨S4096x32, .f32⟩
  | 29 => ⟨S4096x32, .f32⟩
  | 30 => ⟨S4096x32, .f32⟩
  | 31 => ⟨S4096x64, .f32⟩
  | 32 => ⟨S4096x64, .f32⟩
  | 33 => ⟨S4096x64, .f32⟩
  | 34 => ⟨S4096x256, .f32⟩
  | 35 => ⟨S1x4096x2x128, .f32⟩
  | 36 => ⟨S128, .f32⟩
  | 37 => ⟨S1x4096x2x128, .f32⟩
  | 38 => ⟨S_, .f32⟩
  | 39 => ⟨S1x4096x2, .f32⟩
  | 40 => ⟨S1x4096x2x1, .f32⟩
  | 41 => ⟨S_, .f32⟩
  | 42 => ⟨S1x4096x2x1, .f32⟩
  | 43 => ⟨S1x4096x2x1, .f32⟩
  | 44 => ⟨S_, .f32⟩
  | 45 => ⟨S1x4096x2x1, .f32⟩
  | 46 => ⟨S1x4096x2x1, .f32⟩
  | 47 => ⟨S1x4096x2x1, .f32⟩
  | 48 => ⟨S1x4096x2x1, .f32⟩
  | 49 => ⟨S_, .f32⟩
  | 50 => ⟨S1x4096x2x1, .f32⟩
  | 51 => ⟨S1x4096x2x1, .f32⟩
  | 52 => ⟨S1x4096x2x128, .f32⟩
  | 53 => ⟨S1x4096x2x128, .f32⟩
  | 54 => ⟨S1x1x1x128, .f32⟩
  | 55 => ⟨S1x4096x2x128, .f32⟩
  | 56 => ⟨S1x4096x2x128, .f32⟩
  | 57 => ⟨S1x4096x2x64x2, .f32⟩
  | 58 => ⟨S1x4096x2x64x1, .f32⟩
  | 59 => ⟨S1x4096x2x64, .f32⟩
  | 60 => ⟨S1x4096x2x64x1, .f32⟩
  | 61 => ⟨S1x4096x2x64, .f32⟩
  | 62 => ⟨S1x4096x1x64, .f32⟩
  | 63 => ⟨S1x4096x1x64, .f32⟩
  | 64 => ⟨S1x4096x2x64, .f32⟩
  | 65 => ⟨S1x4096x2x64, .f32⟩
  | 66 => ⟨S1x4096x2x64, .f32⟩
  | 67 => ⟨S1x4096x2x64, .f32⟩
  | 68 => ⟨S1x4096x2x64, .f32⟩
  | 69 => ⟨S1x4096x2x64, .f32⟩
  | 70 => ⟨S1x4096x2x64, .f32⟩
  | 71 => ⟨S1x4096x2x64, .f32⟩
  | 72 => ⟨S1x4096x2x64, .f32⟩
  | 73 => ⟨S1x4096x2x64, .f32⟩
  | 74 => ⟨S1x4096x2x64x1, .f32⟩
  | 75 => ⟨S1x4096x2x64x1, .f32⟩
  | 76 => ⟨S1x4096x2x64x2, .f32⟩
  | 77 => ⟨S1x4096x2x128, .f32⟩
  | 78 => ⟨S4096x256, .f32⟩
  | 79 => ⟨S4096x256, .f32⟩
  | 80 => ⟨S4096x256, .f32⟩
  | 81 => ⟨S_, .f32⟩
  | 82 => ⟨S4096x512, .f32⟩
  | 83 => ⟨S1x4096x2x128, .f32⟩
  | 84 => ⟨S1x4096x2x64x2, .f32⟩
  | 85 => ⟨S1x4096x2x64x1, .f32⟩
  | 86 => ⟨S1x4096x2x64, .f32⟩
  | 87 => ⟨S1x4096x2x64x1, .f32⟩
  | 88 => ⟨S1x4096x2x64, .f32⟩
  | 89 => ⟨S1x4096x2x64, .f32⟩
  | 90 => ⟨S1x4096x2x64, .f32⟩
  | 91 => ⟨S1x4096x2x64, .f32⟩
  | 92 => ⟨S1x4096x2x64, .f32⟩
  | 93 => ⟨S1x4096x2x64, .f32⟩
  | 94 => ⟨S1x4096x2x64, .f32⟩
  | 95 => ⟨S1x4096x2x64, .f32⟩
  | 96 => ⟨S1x4096x2x64, .f32⟩
  | 97 => ⟨S1x4096x2x64, .f32⟩
  | 98 => ⟨S1x4096x2x64, .f32⟩
  | 99 => ⟨S1x4096x2x64, .f32⟩
  | 100 => ⟨S1x4096x2x64x1, .f32⟩
  | 101 => ⟨S_, .f32⟩
  | 102 => ⟨S1x4096x2x64x2, .f32⟩
  | 103 => ⟨S1x4096x2x64x1, .f32⟩
  | 104 => ⟨S_, .f32⟩
  | 105 => ⟨S1x4096x2x64x2, .f32⟩
  | 106 => ⟨S1x4096x2x64x2, .f32⟩
  | 107 => ⟨S1x4096x2x128, .f32⟩
  | 108 => ⟨S1x4096x2x128, .f32⟩
  | 109 => ⟨S_, .f32⟩
  | 110 => ⟨S1x128, .f32⟩
  | 111 => ⟨S1x1x1x128, .f32⟩
  | 112 => ⟨S1x4096x2x128, .f32⟩
  | 113 => ⟨S1x4096x2x128, .f32⟩
  | 114 => ⟨S_, .f32⟩
  | 115 => ⟨S128, .f32⟩
  | 116 => ⟨S1x4096x2x128, .f32⟩
  | 117 => ⟨S_, .f32⟩
  | 118 => ⟨S1x4096x2, .f32⟩
  | 119 => ⟨S1x4096x2x1, .f32⟩
  | 120 => ⟨S1x4096x2x128, .f32⟩
  | 121 => ⟨S1x4096x2x128, .f32⟩
  | 122 => ⟨S1x4096x2x1, .f32⟩
  | 123 => ⟨S_, .f32⟩
  | 124 => ⟨S1x4096x2x1, .f32⟩
  | 125 => ⟨S1x4096x2x1, .f32⟩
  | 126 => ⟨S_, .f32⟩
  | 127 => ⟨S4096x2, .f32⟩
  | _ => ⟨S4096x256, .f32⟩

abbrev hbmTy0_1 (i : Nat) : BufTy := match i % 128 with
  | 0 => ⟨S1x4096x2, .f32⟩
  | 1 => ⟨S1x4096x2x128, .f32⟩
  | 2 => ⟨S1x4096x2x128, .f32⟩
  | 3 => ⟨S1x4096x2x128, .f32⟩
  | 4 => ⟨S1x4096x2x128, .f32⟩
  | 5 => ⟨S1x4096x2x128, .f32⟩
  | 6 => ⟨S1x128, .f32⟩
  | 7 => ⟨S4096x256, .f32⟩
  | 8 => ⟨S_, .f32⟩
  | 9 => ⟨S4096x512, .f32⟩
  | 10 => ⟨S4096x512, .f32⟩
  | 11 => ⟨S4096x512, .bf16⟩
  | _ => ⟨S4096x256, .f32⟩

abbrev hbmTy (i : Nat) : BufTy := match i / 128 with
  | 0 => hbmTy0_0 i
  | 1 => hbmTy0_1 i
  | _ => ⟨S4096x256, .f32⟩

abbrev bufTy : (tb : Table) → Fin (tcTables nBuf tb) → BufTy
  | .hbm, ⟨i, _⟩ => hbmTy i
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_cst_1 : Ref sig .tc := ⟨.hbm, 38, rfl⟩
abbrev main_v32 : Ref sig .tc := ⟨.hbm, 39, rfl⟩
abbrev main_v33 : Ref sig .tc := ⟨.hbm, 40, rfl⟩
abbrev main_cst_2 : Ref sig .tc := ⟨.hbm, 41, rfl⟩
abbrev main_v34 : Ref sig .tc := ⟨.hbm, 42, rfl⟩
abbrev main_v35 : Ref sig .tc := ⟨.hbm, 43, rfl⟩
abbrev main_cst_3 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_cst_4 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_cst_5 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_cst_6 : Ref sig .tc := ⟨.hbm, 101, rfl⟩
abbrev main_v90 : Ref sig .tc := ⟨.hbm, 102, rfl⟩
abbrev main_v91 : Ref sig .tc := ⟨.hbm, 103, rfl⟩
abbrev main_cst_7 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_cst_8 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_cst_9 : Ref sig .tc := ⟨.hbm, 114, rfl⟩
abbrev main_v100 : Ref sig .tc := ⟨.hbm, 115, rfl⟩
abbrev main_v101 : Ref sig .tc := ⟨.hbm, 116, rfl⟩
abbrev main_cst_10 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_cst_11 : Ref sig .tc := ⟨.hbm, 123, rfl⟩
abbrev main_v107 : Ref sig .tc := ⟨.hbm, 124, rfl⟩
abbrev main_v108 : Ref sig .tc := ⟨.hbm, 125, rfl⟩
abbrev main_cst_12 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_cst_13 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩

abbrev nD : Nat := 1
abbrev τ : Topo := Topo.v7x

variable {F : FTy → Type} [FloatOps F]
-- ==== QPrep.lean ====
abbrev S4096x1024 : Shape := ⟨2, ![4096, 1024]⟩
abbrev S4096x8192 : Shape := ⟨2, ![4096, 8192]⟩
abbrev S1x128 : Shape := ⟨2, ![1, 128]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S4096x64x2 : Shape := ⟨3, ![4096, 64, 2]⟩
abbrev S4096x128 : Shape := ⟨2, ![4096, 128]⟩
abbrev S4096x64x1 : Shape := ⟨3, ![4096, 64, 1]⟩
abbrev S256x1024 : Shape := ⟨2, ![256, 1024]⟩
abbrev S256x512 : Shape := ⟨2, ![256, 512]⟩
abbrev S256x128 : Shape := ⟨2, ![256, 128]⟩
abbrev S256 : Shape := ⟨1, ![256]⟩
abbrev S256x1 : Shape := ⟨2, ![256, 1]⟩
abbrev S128 : Shape := ⟨1, ![128]⟩

abbrev nBuf : Space → Nat
  | .hbm => 40
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4096x8192, .bf16⟩
  | .hbm, ⟨2, _⟩ => ⟨S1x128, .f32⟩
  | .hbm, ⟨3, _⟩ => ⟨S64, .f32⟩
  | .hbm, ⟨4, _⟩ => ⟨S64x64, .f32⟩
  | .hbm, ⟨5, _⟩ => ⟨S4096, .f32⟩
  | .hbm, ⟨6, _⟩ => ⟨S64, .f32⟩
  | .hbm, ⟨7, _⟩ => ⟨S1x64, .f32⟩
  | .hbm, ⟨8, _⟩ => ⟨S64x64, .f32⟩
  | .hbm, ⟨9, _⟩ => ⟨S4096, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S4096x1, .f32⟩
  | .hbm, ⟨19, _⟩ => ⟨S1x32, .f32⟩
  | .hbm, ⟨20, _⟩ => ⟨S4096x32, .f32⟩
  | .hbm, ⟨21, _⟩ => ⟨S4096x32, .f32⟩
  | .hbm, ⟨22, _⟩ => ⟨S4096x32, .f32⟩
  | .hbm, ⟨23, _⟩ => ⟨S4096x1, .f32⟩
  | .hbm, ⟨24, _⟩ => ⟨S1x32, .f32⟩
  | .hbm, ⟨25, _⟩ => ⟨S4096x32, .f32⟩
  | .hbm, ⟨26, _⟩ => ⟨S4096x32, .f32⟩
  | .hbm, ⟨27, _⟩ => ⟨S4096x32, .f32⟩
  | .hbm, ⟨28, _⟩ => ⟨S4096x64, .f32⟩
  | .hbm, ⟨29, _⟩ => ⟨S4096x64, .f32⟩
  | .hbm, ⟨30, _⟩ => ⟨S4096x64, .f32⟩
  | .hbm, ⟨31, _⟩ => ⟨S4096x64x2, .f32⟩
  | .hbm, ⟨32, _⟩ => ⟨S4096x128, .f32⟩
  | .hbm, ⟨33, _⟩ => ⟨S4096x64, .f32⟩
  | .hbm, ⟨34, _⟩ => ⟨S4096x64x1, .f32⟩
  | .hbm, ⟨35, _⟩ => ⟨S4096x64x1, .f32⟩
  | .hbm, ⟨36, _⟩ => ⟨S4096x64x2, .f32⟩
  | .hbm, ⟨37, _⟩ => ⟨S4096x128, .f32⟩
  | .hbm, ⟨38, _⟩ => ⟨S4096x1024, .bf16⟩
  | .hbm, ⟨39, _⟩ => ⟨S1x128, .f32⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S1x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x1024, .bf16⟩
  | .local _ .vmem, ⟨12, _⟩ => ⟨S256x1024, .bf16⟩
  | .local _ .vmem, ⟨13, _⟩ => ⟨S1x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33_0 : Ref sig .tc := ⟨.hbm, 38, rfl⟩
abbrev main_v33_1 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32_162 : BitVec 32 := 0#32
  let v454 : BitVec 1 := Scalar.cmpi .eq arg0 c0_i32_162
  let v455 : BitVec 32 := Scalar.extui v454
  let c0_i32_163 : BitVec 32 := 0#32
  let v456 : BitVec 1 := Scalar.cmpi .ne v455 c0_i32_163
  v456

def k0_cond2 (i : grid0.Coords) : BitVec 1 :=
  let arg0 : BitVec 32 := BitVec.ofNat 32 (i 0).val
  let c0_i32_164 : BitVec 32 := 0#32
  let v457 : BitVec 1 := Scalar.cmpi .sgt arg0 c0_i32_164
  let v458 : BitVec 32 := Scalar.extui v457
  let c0_i32_165 : BitVec 32 := 0#32
  let v459 : BitVec 1 := Scalar.cmpi .ne v458 c0_i32_165
  v459

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_2 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== QPrepRefIdeal.lean ====
abbrev S4096x1024 : Shape := ⟨2, ![4096, 1024]⟩
abbrev S4096x8192 : Shape := ⟨2, ![4096, 8192]⟩
abbrev S1x128 : Shape := ⟨2, ![1, 128]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S1x4096x8x128 : Shape := ⟨4, ![1, 4096, 8, 128]⟩
abbrev S128 : Shape := ⟨1, ![128]⟩
abbrev S1x4096x8 : Shape := ⟨3, ![1, 4096, 8]⟩
abbrev S1x4096x8x1 : Shape := ⟨4, ![1, 4096, 8, 1]⟩
abbrev S1x1x1x128 : Shape := ⟨4, ![1, 1, 1, 128]⟩
abbrev S1x4096x8x64x2 : Shape := ⟨5, ![1, 4096, 8, 64, 2]⟩
abbrev S1x4096x8x64x1 : Shape := ⟨5, ![1, 4096, 8, 64, 1]⟩
abbrev S1x4096x8x64 : Shape := ⟨4, ![1, 4096, 8, 64]⟩
abbrev S1x4096x1x64 : Shape := ⟨4, ![1, 4096, 1, 64]⟩
abbrev S4096x8 : Shape := ⟨2, ![4096, 8]⟩

abbrev nBuf : Space → Nat
  | .hbm => 131
  | .vmem => 0
  | .smem => 0
  | _ => 0

abbrev hbmTy0_0 (i : Nat) : BufTy := match i % 128 with
  | 0 => ⟨S4096x1024, .f32⟩
  | 1 => ⟨S4096x8192, .bf16⟩
  | 2 => ⟨S1x128, .f32⟩
  | 3 => ⟨S4096x8192, .f32⟩
  | 4 => ⟨S4096x1024, .f32⟩
  | 5 => ⟨S64, .f32⟩
  | 6 => ⟨S64x64, .f32⟩
  | 7 => ⟨S4096, .f32⟩
  | 8 => ⟨S64, .f32⟩
  | 9 => ⟨S1x64, .f32⟩
  | 10 => ⟨S64x64, .f32⟩
  | 11 => ⟨S4096, .f32⟩
  | 12 => ⟨S32, .f32⟩
  | 13 => ⟨S32, .f32⟩
  | 14 => ⟨S_, .f32⟩
  | 15 => ⟨S32, .f32⟩
  | 16 => ⟨S32, .f32⟩
  | 17 => ⟨S_, .f32⟩
  | 18 => ⟨S32, .f32⟩
  | 19 => ⟨S32, .f32⟩
  | 20 => ⟨S4096x1, .f32⟩
  | 21 => ⟨S1x32, .f32⟩
  | 22 => ⟨S4096x32, .f32⟩
  | 23 => ⟨S4096x32, .f32⟩
  | 24 => ⟨S4096x32, .f32⟩
  | 25 => ⟨S4096x1, .f32⟩
  | 26 => ⟨S1x32, .f32⟩
  | 27 => ⟨S4096x32, .f32⟩
  | 28 => ⟨S4096x32, .f32⟩
  | 29 => ⟨S4096x32, .f32⟩
  | 30 => ⟨S4096x64, .f32⟩
  | 31 => ⟨S4096x64, .f32⟩
  | 32 => ⟨S4096x64, .f32⟩
  | 33 => ⟨S1x4096x8x128, .f32⟩
  | 34 => ⟨S128, .f32⟩
  | 35 => ⟨S1x4096x8x128, .f32⟩
  | 36 => ⟨S_, .f32⟩
  | 37 => ⟨S1x4096x8, .f32⟩
  | 38 => ⟨S1x4096x8x1, .f32⟩
  | 39 => ⟨S_, .f32⟩
  | 40 => ⟨S1x4096x8x1, .f32⟩
  | 41 => ⟨S1x4096x8x1, .f32⟩
  | 42 => ⟨S_, .f32⟩
  | 43 => ⟨S1x4096x8x1, .f32⟩
  | 44 => ⟨S1x4096x8x1, .f32⟩
  | 45 => ⟨S1x4096x8x1, .f32⟩
  | 46 => ⟨S1x4096x8x1, .f32⟩
  | 47 => ⟨S_, .f32⟩
  | 48 => ⟨S1x4096x8x1, .f32⟩
  | 49 => ⟨S1x4096x8x1, .f32⟩
  | 50 => ⟨S1x4096x8x128, .f32⟩
  | 51 => ⟨S1x4096x8x128, .f32⟩
  | 52 => ⟨S1x1x1x128, .f32⟩
  | 53 => ⟨S1x4096x8x128, .f32⟩
  | 54 => ⟨S1x4096x8x128, .f32⟩
  | 55 => ⟨S1x4096x8x64x2, .f32⟩
  | 56 => ⟨S1x4096x8x64x1, .f32⟩
  | 57 => ⟨S1x4096x8x64, .f32⟩
  | 58 => ⟨S1x4096x8x64x1, .f32⟩
  | 59 => ⟨S1x4096x8x64, .f32⟩
  | 60 => ⟨S1x4096x1x64, .f32⟩
  | 61 => ⟨S1x4096x1x64, .f32⟩
  | 62 => ⟨S1x4096x8x64, .f32⟩
  | 63 => ⟨S1x4096x8x64, .f32⟩
  | 64 => ⟨S1x4096x8x64, .f32⟩
  | 65 => ⟨S1x4096x8x64, .f32⟩
  | 66 => ⟨S1x4096x8x64, .f32⟩
  | 67 => ⟨S1x4096x8x64, .f32⟩
  | 68 => ⟨S1x4096x8x64, .f32⟩
  | 69 => ⟨S1x4096x8x64, .f32⟩
  | 70 => ⟨S1x4096x8x64, .f32⟩
  | 71 => ⟨S1x4096x8x64, .f32⟩
  | 72 => ⟨S1x4096x8x64x1, .f32⟩
  | 73 => ⟨S1x4096x8x64x1, .f32⟩
  | 74 => ⟨S1x4096x8x64x2, .f32⟩
  | 75 => ⟨S1x4096x8x128, .f32⟩
  | 76 => ⟨S4096x1024, .f32⟩
  | 77 => ⟨S1x4096x8x128, .f32⟩
  | 78 => ⟨S1x4096x8x64x2, .f32⟩
  | 79 => ⟨S1x4096x8x64x1, .f32⟩
  | 80 => ⟨S1x4096x8x64, .f32⟩
  | 81 => ⟨S1x4096x8x64x1, .f32⟩
  | 82 => ⟨S1x4096x8x64, .f32⟩
  | 83 => ⟨S1x4096x8x64, .f32⟩
  | 84 => ⟨S1x4096x8x64, .f32⟩
  | 85 => ⟨S1x4096x8x64, .f32⟩
  | 86 => ⟨S1x4096x8x64, .f32⟩
  | 87 => ⟨S1x4096x8x64, .f32⟩
  | 88 => ⟨S1x4096x8x64, .f32⟩
  | 89 => ⟨S1x4096x8x64, .f32⟩
  | 90 => ⟨S1x4096x8x64, .f32⟩
  | 91 => ⟨S1x4096x8x64, .f32⟩
  | 92 => ⟨S1x4096x8x64, .f32⟩
  | 93 => ⟨S1x4096x8x64, .f32⟩
  | 94 => ⟨S1x4096x8x64x1, .f32⟩
  | 95 => ⟨S_, .f32⟩
  | 96 => ⟨S1x4096x8x64x2, .f32⟩
  | 97 => ⟨S1x4096x8x64x1, .f32⟩
  | 98 => ⟨S_, .f32⟩
  | 99 => ⟨S1x4096x8x64x2, .f32⟩
  | 100 => ⟨S1x4096x8x64x2, .f32⟩
  | 101 => ⟨S1x4096x8x128, .f32⟩
  | 102 => ⟨S1x4096x8x128, .f32⟩
  | 103 => ⟨S_, .f32⟩
  | 104 => ⟨S1x128, .f32⟩
  | 105 => ⟨S1x1x1x128, .f32⟩
  | 106 => ⟨S1x4096x8x128, .f32⟩
  | 107 => ⟨S1x4096x8x128, .f32⟩
  | 108 => ⟨S_, .f32⟩
  | 109 => ⟨S128, .f32⟩
  | 110 => ⟨S1x4096x8x128, .f32⟩
  | 111 => ⟨S_, .f32⟩
  | 112 => ⟨S1x4096x8, .f32⟩
  | 113 => ⟨S1x4096x8x1, .f32⟩
  | 114 => ⟨S1x4096x8x128, .f32⟩
  | 115 => ⟨S1x4096x8x128, .f32⟩
  | 116 => ⟨S1x4096x8x1, .f32⟩
  | 117 => ⟨S_, .f32⟩
  | 118 => ⟨S1x4096x8x1, .f32⟩
  | 119 => ⟨S1x4096x8x1, .f32⟩
  | 120 => ⟨S_, .f32⟩
  | 121 => ⟨S4096x8, .f32⟩
  | 122 => ⟨S1x4096x8, .f32⟩
  | 123 => ⟨S1x4096x8x128, .f32⟩
  | 124 => ⟨S1x4096x8x128, .f32⟩
  | 125 => ⟨S1x4096x8x128, .f32⟩
  | 126 => ⟨S1x4096x8x128, .f32⟩
  | 127 => ⟨S1x4096x8x128, .f32⟩
  | _ => ⟨S4096x1024, .f32⟩

abbrev hbmTy0_1 (i : Nat) : BufTy := match i % 128 with
  | 0 => ⟨S1x128, .f32⟩
  | 1 => ⟨S4096x1024, .f32⟩
  | 2 => ⟨S4096x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_cst_1 : Ref sig .tc := ⟨.hbm, 36, rfl⟩
abbrev main_v31 : Ref sig .tc := ⟨.hbm, 37, rfl⟩
abbrev main_v32 : Ref sig .tc := ⟨.hbm, 38, rfl⟩
abbrev main_cst_2 : Ref sig .tc := ⟨.hbm, 39, rfl⟩
abbrev main_v33 : Ref sig .tc := ⟨.hbm, 40, rfl⟩
abbrev main_v34 : Ref sig .tc := ⟨.hbm, 41, rfl⟩
abbrev main_cst_3 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_cst_4 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_cst_5 : Ref sig .tc := ⟨.hbm, 95, rfl⟩
abbrev main_v86 : Ref sig .tc := ⟨.hbm, 96, rfl⟩
abbrev main_v87 : Ref sig .tc := ⟨.hbm, 97, rfl⟩
abbrev main_cst_6 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_cst_7 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_cst_8 : Ref sig .tc := ⟨.hbm, 108, rfl⟩
abbrev main_v96 : Ref sig .tc := ⟨.hbm, 109, rfl⟩
abbrev main_v97 : Ref sig .tc := ⟨.hbm, 110, rfl⟩
abbrev main_cst_9 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_cst_10 : Ref sig .tc := ⟨.hbm, 117, rfl⟩
abbrev main_v103 : Ref sig .tc := ⟨.hbm, 118, rfl⟩
abbrev main_v104 : Ref sig .tc := ⟨.hbm, 119, rfl⟩
abbrev main_cst_11 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩

abbrev nD : Nat := 1
abbrev τ : Topo := Topo.v7x

variable {F : FTy → Type} [FloatOps F]
-- ==== FlashFwd.lean ====
abbrev S4096x1024 : Shape := ⟨2, ![4096, 1024]⟩
abbrev S4096x256 : Shape := ⟨2, ![4096, 256]⟩
abbrev S_ : Shape := ⟨0, ![]⟩
abbrev S4096x1536 : Shape := ⟨2, ![4096, 1536]⟩
abbrev S8x1x4096 : Shape := ⟨3, ![8, 1, 4096]⟩
abbrev S256x512 : Shape := ⟨2, ![256, 512]⟩
abbrev S4096x128 : Shape := ⟨2, ![4096, 128]⟩
abbrev S4x1x256 : Shape := ⟨3, ![4, 1, 256]⟩
abbrev S256x128 : Shape := ⟨2, ![256, 128]⟩
abbrev S256x4096 : Shape := ⟨2, ![256, 4096]⟩
abbrev S256 : Shape := ⟨1, ![256]⟩
abbrev S256x1 : Shape := ⟨2, ![256, 1]⟩
abbrev S8x128 : Shape := ⟨2, ![8, 128]⟩
abbrev S8x256 : Shape := ⟨2, ![8, 256]⟩
abbrev S1x256 : Shape := ⟨2, ![1, 256]⟩
abbrev S1x1x256 : Shape := ⟨3, ![1, 1, 256]⟩

abbrev nBuf : Space → Nat
  | .hbm => 17
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S4096x256, .bf16⟩
  | .hbm, ⟨2, _⟩ => ⟨S4096x256, .bf16⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .bf16⟩
  | .hbm, ⟨14, _⟩ => ⟨S4096x1536, .bf16⟩
  | .hbm, ⟨15, _⟩ => ⟨S4096x1024, .bf16⟩
  | .hbm, ⟨16, _⟩ => ⟨S8x1x4096, .f32⟩
  | .local _ .vmem, ⟨0, _⟩ => ⟨S256x512, .bf16⟩
  | .local _ .vmem, ⟨1, _⟩ => ⟨S256x512, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S256x512, .bf16⟩
  | .local _ .vmem, ⟨7, _⟩ => ⟨S256x512, .bf16⟩
  | .local _ .vmem, ⟨8, _⟩ => ⟨S4x1x256, .f32⟩
  | .local _ .vmem, ⟨9, _⟩ => ⟨S4x1x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 1, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  ![arg2.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let v0 : BitVec 32 := Scalar.addi c10_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  ![arg2.toNat, v1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat, arg2.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S4x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== FlashFwdIdeal.lean ====
variable {F : FTy → Type} [FloatOps F] [Named F]
def κ : String → Option EReal := fun
  | "log_2" => some ((Real.log 2 : ℝ) : EReal)
  | _ => none
-- ==== FlashFwdRefIdeal.lean ====
abbrev S4096x1024 : Shape := ⟨2, ![4096, 1024]⟩
abbrev S4096x256 : Shape := ⟨2, ![4096, 256]⟩
abbrev S1x4096x2x4x128 : Shape := ⟨5, ![1, 4096, 2, 4, 128]⟩
abbrev S1x4096x2x128 : Shape := ⟨4, ![1, 4096, 2, 128]⟩
abbrev S1x2x4096x4096x4 : Shape := ⟨5, ![1, 2, 4096, 4096, 4]⟩
abbrev S1x2x4x4096x4096 : Shape := ⟨5, ![1, 2, 4, 4096, 4096]⟩
abbrev S_ : Shape := ⟨0, ![]⟩
abbrev S1x2x4x4096 : Shape := ⟨4, ![1, 2, 4, 4096]⟩
abbrev S1x2x4x4096x1 : Shape := ⟨5, ![1, 2, 4, 4096, 1]⟩
abbrev S1x2x128x4x4096 : Shape := ⟨5, ![1, 2, 128, 4, 4096]⟩
abbrev S8x1x4096 : Shape := ⟨3, ![8, 1, 4096]⟩

abbrev nBuf : Space → Nat
  | .hbm => 46
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x256, .bf16⟩
  | .hbm, ⟨2, _⟩ => ⟨S4096x256, .bf16⟩
  | .hbm, ⟨3, _⟩ => ⟨S4096x1024, .f32⟩
  | .hbm, ⟨4, _⟩ => ⟨S4096x256, .f32⟩
  | .hbm, ⟨5, _⟩ => ⟨S4096x256, .f32⟩
  | .hbm, ⟨6, _⟩ => ⟨S1x4096x2x4x128, .f32⟩
  | .hbm, ⟨7, _⟩ => ⟨S1x4096x2x128, .f32⟩
  | .hbm, ⟨8, _⟩ => ⟨S1x2x4096x4096x4, .f32⟩
  | .hbm, ⟨9, _⟩ => ⟨S1x2x4x4096x4096, .f32⟩
  | .hbm, ⟨10, _⟩ => ⟨S_, .f32⟩
  | .hbm, ⟨11, _⟩ => ⟨S_, .f32⟩
  | .hbm, ⟨12, _⟩ => ⟨S1x2x4x4096x4096, .f32⟩
  | .hbm, ⟨13, _⟩ => ⟨S1x2x4x4096x4096, .f32⟩
  | .hbm, ⟨14, _⟩ => ⟨S1x4096x2x4x128, .f32⟩
  | .hbm, ⟨15, _⟩ => ⟨S1x4096x2x128, .f32⟩
  | .hbm, ⟨16, _⟩ => ⟨S1x4096x2x128, .f32⟩
  | .hbm, ⟨17, _⟩ => ⟨S1x2x4096x4096x4, .f32⟩
  | .hbm, ⟨18, _⟩ => ⟨S1x2x4x4096x4096, .f32⟩
  | .hbm, ⟨19, _⟩ => ⟨S_, .f32⟩
  | .hbm, ⟨20, _⟩ => ⟨S_, .f32⟩
  | .hbm, ⟨21, _⟩ => ⟨S1x2x4x4096x4096, .f32⟩
  | .hbm, ⟨22, _⟩ => ⟨S1x2x4x4096x4096, .f32⟩
  | .hbm, ⟨23, _⟩ => ⟨S_, .f32⟩
  | .hbm, ⟨24, _⟩ => ⟨S1x2x4x4096, .f32⟩
  | .hbm, ⟨25, _⟩ => ⟨S_, .f32⟩
  | .hbm, ⟨26, _⟩ => ⟨S1x2x4x4096, .f32⟩
  | .hbm, ⟨27, _⟩ => ⟨S1x2x4x4096, .f32⟩
  | .hbm, ⟨28, _⟩ => ⟨S1x2x4x4096x1, .f32⟩
  | .hbm, ⟨29, _⟩ => ⟨S1x2x4x4096x4096, .f32⟩
  | .hbm, ⟨30, _⟩ => ⟨S1x2x4x4096x4096, .f32⟩
  | .hbm, ⟨31, _⟩ => ⟨S1x2x4x4096x4096, .f32⟩
  | .hbm, ⟨32, _⟩ => ⟨S_, .f32⟩
  | .hbm, ⟨33, _⟩ => ⟨S1x2x4x4096, .f32⟩
  | .hbm, ⟨34, _⟩ => ⟨S1x2x4x4096x1, .f32⟩
  | .hbm, ⟨35, _⟩ => ⟨S1x2x4x4096x4096, .f32⟩
  | .hbm, ⟨36, _⟩ => ⟨S1x2x4x4096x4096, .f32⟩
  | .hbm, ⟨37, _⟩ => ⟨S1x2x128x4x4096, .f32⟩
  | .hbm, ⟨38, _⟩ => ⟨S1x4096x2x4x128, .f32⟩
  | .hbm, ⟨39, _⟩ => ⟨S4096x1024, .f32⟩
  | .hbm, ⟨40, _⟩ => ⟨S4096x1024, .bf16⟩
  | .hbm, ⟨41, _⟩ => ⟨S1x2x4x4096x4096, .f32⟩
  | .hbm, ⟨42, _⟩ => ⟨S_, .f32⟩
  | .hbm, ⟨43, _⟩ => ⟨S1x2x4x4096, .f32⟩
  | .hbm, ⟨44, _⟩ => ⟨S1x2x4x4096, .f32⟩
  | .hbm, ⟨45, _⟩ => ⟨S8x1x4096, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_1 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_4 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩

abbrev nD : Nat := 1
abbrev τ : Topo := Topo.v7x

variable {F : FTy → Type} [FloatOps F]
-- ==== FlashBwd.lean ====
abbrev S4096x1024 : Shape := ⟨2, ![4096, 1024]⟩
abbrev S4096x256 : Shape := ⟨2, ![4096, 256]⟩
abbrev S4096x2x4x128 : Shape := ⟨4, ![4096, 2, 4, 128]⟩
abbrev S4096x2x128 : Shape := ⟨3, ![4096, 2, 128]⟩
abbrev S2x4096x4096x4 : Shape := ⟨4, ![2, 4096, 4096, 4]⟩
abbrev S2x4x4096x4096 : Shape := ⟨4, ![2, 4, 4096, 4096]⟩
abbrev S_ : Shape := ⟨0, ![]⟩
abbrev S2x4x4096 : Shape := ⟨3, ![2, 4, 4096]⟩
abbrev S2x4x4096x1 : Shape := ⟨4, ![2, 4, 4096, 1]⟩
abbrev S2x4x4096x128 : Shape := ⟨4, ![2, 4, 4096, 128]⟩
abbrev S8x1x4096 : Shape := ⟨3, ![8, 1, 4096]⟩
abbrev S4096x1536 : Shape := ⟨2, ![4096, 1536]⟩
abbrev S256x4096 : Shape := ⟨2, ![256, 4096]⟩
abbrev S512x128 : Shape := ⟨2, ![512, 128]⟩
abbrev S4096x128 : Shape := ⟨2, ![4096, 128]⟩
abbrev S128x4096 : Shape := ⟨2, ![128, 4096]⟩
abbrev S1x1x512 : Shape := ⟨3, ![1, 1, 512]⟩
abbrev S8x128 : Shape := ⟨2, ![8, 128]⟩
abbrev S8x512 : Shape := ⟨2, ![8, 512]⟩
abbrev S1x512 : Shape := ⟨2, ![1, 512]⟩
abbrev S4096x512 : Shape := ⟨2, ![4096, 512]⟩
abbrev S128x512 : Shape := ⟨2, ![128, 512]⟩

abbrev nBuf : Space → Nat
  | .hbm => 48
  | .vmem => 22
  | .smem => 0
  | _ => 0

abbrev bufTy : (tb : Table) → Fin (tcTables nBuf tb) → BufTy
  | .hbm, ⟨0, _⟩ => ⟨S4096x1024, .bf16⟩
  | .hbm, ⟨1, _⟩ => ⟨S4096x256, .bf16⟩
  | .hbm, ⟨2, _⟩ => ⟨S4096x256, .bf16⟩
  | .hbm, ⟨3, _⟩ => ⟨S4096x1024, .bf16⟩
  | .hbm, ⟨4, _⟩ => ⟨S4096x2x4x128, .bf16⟩
  | .hbm, ⟨5, _⟩ => ⟨S4096x2x128, .bf16⟩
  | .hbm, ⟨6, _⟩ => ⟨S2x4096x4096x4, .f32⟩
  | .hbm, ⟨7, _⟩ => ⟨S2x4x4096x4096, .f32⟩
  | .hbm, ⟨8, _⟩ => ⟨S_, .f32⟩
  | .hbm, ⟨9, _⟩ => ⟨S_, .f32⟩
  | .hbm, ⟨10, _⟩ => ⟨S2x4x4096x4096, .f32⟩
  | .hbm, ⟨11, _⟩ => ⟨S2x4x4096x4096, .f32⟩
  | .hbm, ⟨12, _⟩ => ⟨S_, .f32⟩
  | .hbm, ⟨13, _⟩ => ⟨S2x4x4096, .f32⟩
  | .hbm, ⟨14, _⟩ => ⟨S2x4x4096x1, .f32⟩
  | .hbm, ⟨15, _⟩ => ⟨S2x4x4096x4096, .f32⟩
  | .hbm, ⟨16, _⟩ => ⟨S2x4x4096x4096, .f32⟩
  | .hbm, ⟨17, _⟩ => ⟨S2x4x4096x4096, .f32⟩
  | .hbm, ⟨18, _⟩ => ⟨S_, .f32⟩
  | .hbm, ⟨19, _⟩ => ⟨S2x4x4096, .f32⟩
  | .hbm, ⟨20, _⟩ => ⟨S2x4x4096x1, .f32⟩
  | .hbm, ⟨21, _⟩ => ⟨S2x4x4096x4096, .bf16⟩
  | .hbm, ⟨22, _⟩ => ⟨S4096x2x128, .bf16⟩
  | .hbm, ⟨23, _⟩ => ⟨S2x4x4096x128, .f32⟩
  | .hbm, ⟨24, _⟩ => ⟨S2x4x4096x128, .f32⟩
  | .hbm, ⟨25, _⟩ => ⟨S2x4x4096x128, .f32⟩
  | .hbm, ⟨26, _⟩ => ⟨S4096x2x4x128, .f32⟩
  | .hbm, ⟨27, _⟩ => ⟨S4096x1024, .f32⟩
  | .hbm, ⟨28, _⟩ => ⟨S4096x1024, .bf16⟩
  | .hbm, ⟨29, _⟩ => ⟨S2x4x4096x1, .f32⟩
  | .hbm, ⟨30, _⟩ => ⟨S2x4x4096x1, .f32⟩
  | .hbm, ⟨31, _⟩ => ⟨S8x1x4096, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .bf16⟩
  | .hbm, ⟨43, _⟩ => ⟨S4096x1536, .bf16⟩
  | .hbm, ⟨44, _⟩ => ⟨S256x4096, .bf16⟩
  | .hbm, ⟨45, _⟩ => ⟨S4096x1024, .f32⟩
  | .hbm, ⟨46, _⟩ => ⟨S4096x256, .f32⟩
  | .hbm, ⟨47, _⟩ => ⟨S4096x256, .bf16⟩
  | .local _ .vmem, ⟨0, _⟩ => ⟨S512x128, .bf16⟩
  | .local _ .vmem, ⟨1, _⟩ => ⟨S512x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S128x4096, .bf16⟩
  | .local _ .vmem, ⟨7, _⟩ => ⟨S128x4096, .bf16⟩
  | .local _ .vmem, ⟨8, _⟩ => ⟨S512x128, .bf16⟩
  | .local _ .vmem, ⟨9, _⟩ => ⟨S512x128, .bf16⟩
  | .local _ .vmem, ⟨10, _⟩ => ⟨S512x128, .bf16⟩
  | .local _ .vmem, ⟨11, _⟩ => ⟨S512x128, .bf16⟩
  | .local _ .vmem, ⟨12, _⟩ => ⟨S1x1x512, .f32⟩
  | .local _ .vmem, ⟨13, _⟩ => ⟨S1x1x512, .f32⟩
  | .local _ .vmem, ⟨14, _⟩ => ⟨S512x128, .f32⟩
  | .local _ .vmem, ⟨15, _⟩ => ⟨S512x128, .f32⟩
  | .local _ .vmem, ⟨16, _⟩ => ⟨S4096x128, .f32⟩
  | .local _ .vmem, ⟨17, _⟩ => ⟨S4096x128, .f32⟩
  | .local _ .vmem, ⟨18, _⟩ => ⟨S4096x128, .bf16⟩
  | .local _ .vmem, ⟨19, _⟩ => ⟨S4096x128, .bf16⟩
  | .local _ .vmem, ⟨20, _⟩ => ⟨S4096x128, .f32⟩
  | .local _ .vmem, ⟨21, _⟩ => ⟨S4096x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_cst_4 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35_0 : Ref sig .tc := ⟨.hbm, 45, rfl⟩
abbrev main_v35_1 : Ref sig .tc := ⟨.hbm, 46, rfl⟩
abbrev main_v35_2 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![2, 4, 8], ![false, false, false]⟩

def k0_cond2 (i : grid0.Coords) : BitVec 1 :=
  let arg1 : BitVec 32 := BitVec.ofNat 32 (i 1).val
  let c3_i32 : BitVec 32 := 3#32
  let v59 : BitVec 1 := Scalar.cmpi .eq arg1 c3_i32
  let arg2 : BitVec 32 := BitVec.ofNat 32 (i 2).val
  let c7_i32 : BitVec 32 := 7#32
  let v60 : BitVec 1 := Scalar.cmpi .eq arg2 c7_i32
  let v61 : BitVec 1 := Scalar.andi v59 v60
  let v62 : BitVec 32 := Scalar.extui v61
  let c0_i32_35 : BitVec 32 := 0#32
  let v63 : BitVec 1 := Scalar.cmpi .ne v62 c0_i32_35
  v63

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  ![arg2.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let v0 : BitVec 32 := Scalar.addi c10_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  ![arg2.toNat, v1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  ![arg2.toNat, v1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat, arg2.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  ![arg2.toNat, v1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S128x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S4096x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 2 → Memref sig .tc .vmem S4096x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, false]
-- ==== FlashBwdIdeal.lean ====
variable {F : FTy → Type} [FloatOps F] [Named F]
def κ : String → Option EReal := fun
  | "inv_sqrt_128" => some (((Real.sqrt 128)⁻¹ : ℝ) : EReal)
  | "log2_e" => some (((Real.log 2)⁻¹ : ℝ) : EReal)
  | "log_2" => some ((Real.log 2 : ℝ) : EReal)
  | _ => none
-- ==== FlashBwdRefIdeal.lean ====
abbrev S4096x1024 : Shape := ⟨2, ![4096, 1024]⟩
abbrev S4096x256 : Shape := ⟨2, ![4096, 256]⟩
abbrev S1x4096x2x4x128 : Shape := ⟨5, ![1, 4096, 2, 4, 128]⟩
abbrev S1x4096x2x128 : Shape := ⟨4, ![1, 4096, 2, 128]⟩
abbrev S1x2x4096x4096x4 : Shape := ⟨5, ![1, 2, 4096, 4096, 4]⟩
abbrev S1x2x4x4096x4096 : Shape := ⟨5, ![1, 2, 4, 4096, 4096]⟩
abbrev S_ : Shape := ⟨0, ![]⟩
abbrev S1x2x4x4096 : Shape := ⟨4, ![1, 2, 4, 4096]⟩
abbrev S1x2x4x4096x1 : Shape := ⟨5, ![1, 2, 4, 4096, 1]⟩
abbrev S1x2x128x4x4096 : Shape := ⟨5, ![1, 2, 128, 4, 4096]⟩
abbrev S1x2x128x4096 : Shape := ⟨4, ![1, 2, 128, 4096]⟩
abbrev S2x4x4096 : Shape := ⟨3, ![2, 4, 4096]⟩
abbrev S1x2x4096x4x128 : Shape := ⟨5, ![1, 2, 4096, 4, 128]⟩
abbrev S1x2x4096x128 : Shape := ⟨4, ![1, 2, 4096, 128]⟩

abbrev nBuf : Space → Nat
  | .hbm => 89
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x256, .bf16⟩
  | .hbm, ⟨2, _⟩ => ⟨S4096x256, .bf16⟩
  | .hbm, ⟨3, _⟩ => ⟨S4096x1024, .bf16⟩
  | .hbm, ⟨4, _⟩ => ⟨S4096x1024, .f32⟩
  | .hbm, ⟨5, _⟩ => ⟨S4096x256, .f32⟩
  | .hbm, ⟨6, _⟩ => ⟨S4096x256, .f32⟩
  | .hbm, ⟨7, _⟩ => ⟨S1x4096x2x4x128, .f32⟩
  | .hbm, ⟨8, _⟩ => ⟨S1x4096x2x128, .f32⟩
  | .hbm, ⟨9, _⟩ => ⟨S1x4096x2x128, .f32⟩
  | .hbm, ⟨10, _⟩ => ⟨S1x2x4096x4096x4, .f32⟩
  | .hbm, ⟨11, _⟩ => ⟨S1x2x4x4096x4096, .f32⟩
  | .hbm, ⟨12, _⟩ => ⟨S_, .f32⟩
  | .hbm, ⟨13, _⟩ => ⟨S_, .f32⟩
  | .hbm, ⟨14, _⟩ => ⟨S1x2x4x4096x4096, .f32⟩
  | .hbm, ⟨15, _⟩ => ⟨S1x2x4x4096x4096, .f32⟩
  | .hbm, ⟨16, _⟩ => ⟨S_, .f32⟩
  | .hbm, ⟨17, _⟩ => ⟨S1x2x4x4096, .f32⟩
  | .hbm, ⟨18, _⟩ => ⟨S1x2x4x4096x1, .f32⟩
  | .hbm, ⟨19, _⟩ => ⟨S1x2x4x4096x4096, .f32⟩
  | .hbm, ⟨20, _⟩ => ⟨S1x2x4x4096x4096, .i1⟩
  | .hbm, ⟨21, _⟩ => ⟨S1x2x4x4096x4096, .f32⟩
  | .hbm, ⟨22, _⟩ => ⟨S_, .f32⟩
  | .hbm, ⟨23, _⟩ => ⟨S1x2x4x4096, .f32⟩
  | .hbm, ⟨24, _⟩ => ⟨S_, .f32⟩
  | .hbm, ⟨25, _⟩ => ⟨S1x2x4x4096, .f32⟩
  | .hbm, ⟨26, _⟩ => ⟨S1x2x4x4096, .f32⟩
  | .hbm, ⟨27, _⟩ => ⟨S_, .f32⟩
  | .hbm, ⟨28, _⟩ => ⟨S1x2x4x4096, .f32⟩
  | .hbm, ⟨29, _⟩ => ⟨S1x2x4x4096, .i1⟩
  | .hbm, ⟨30, _⟩ => ⟨S_, .f32⟩
  | .hbm, ⟨31, _⟩ => ⟨S1x2x4x4096, .f32⟩
  | .hbm, ⟨32, _⟩ => ⟨S1x2x4x4096, .i1⟩
  | .hbm, ⟨33, _⟩ => ⟨S_, .f32⟩
  | .hbm, ⟨34, _⟩ => ⟨S1x2x4x4096, .f32⟩
  | .hbm, ⟨35, _⟩ => ⟨S_, .f32⟩
  | .hbm, ⟨36, _⟩ => ⟨S1x2x4x4096, .f32⟩
  | .hbm, ⟨37, _⟩ => ⟨S_, .f32⟩
  | .hbm, ⟨38, _⟩ => ⟨S1x2x4x4096, .f32⟩
  | .hbm, ⟨39, _⟩ => ⟨S1x2x4x4096, .f32⟩
  | .hbm, ⟨40, _⟩ => ⟨S1x2x4x4096, .f32⟩
  | .hbm, ⟨41, _⟩ => ⟨S1x2x4x4096x1, .f32⟩
  | .hbm, ⟨42, _⟩ => ⟨S1x2x4x4096x4096, .f32⟩
  | .hbm, ⟨43, _⟩ => ⟨S1x2x4x4096x4096, .f32⟩
  | .hbm, ⟨44, _⟩ => ⟨S1x2x4x4096x4096, .f32⟩
  | .hbm, ⟨45, _⟩ => ⟨S_, .f32⟩
  | .hbm, ⟨46, _⟩ => ⟨S1x2x4x4096, .f32⟩
  | .hbm, ⟨47, _⟩ => ⟨S1x2x4x4096x1, .f32⟩
  | .hbm, ⟨48, _⟩ => ⟨S1x2x4x4096x4096, .f32⟩
  | .hbm, ⟨49, _⟩ => ⟨S1x2x4x4096x4096, .f32⟩
  | .hbm, ⟨50, _⟩ => ⟨S1x2x4x4096x1, .f32⟩
  | .hbm, ⟨51, _⟩ => ⟨S_, .f32⟩
  | .hbm, ⟨52, _⟩ => ⟨S1x2x4x4096x1, .f32⟩
  | .hbm, ⟨53, _⟩ => ⟨S1x2x4x4096x1, .f32⟩
  | .hbm, ⟨54, _⟩ => ⟨S1x2x128x4x4096, .f32⟩
  | .hbm, ⟨55, _⟩ => ⟨S1x4096x2x4x128, .f32⟩
  | .hbm, ⟨56, _⟩ => ⟨S4096x1024, .f32⟩
  | .hbm, ⟨57, _⟩ => ⟨S4096x1024, .f32⟩
  | .hbm, ⟨58, _⟩ => ⟨S1x4096x2x4x128, .f32⟩
  | .hbm, ⟨59, _⟩ => ⟨S1x2x128x4x4096, .f32⟩
  | .hbm, ⟨60, _⟩ => ⟨S1x2x4x4096x4096, .f32⟩
  | .hbm, ⟨61, _⟩ => ⟨S1x2x128x4096, .f32⟩
  | .hbm, ⟨62, _⟩ => ⟨S1x4096x2x128, .f32⟩
  | .hbm, ⟨63, _⟩ => ⟨S1x2x4x4096x4096, .f32⟩
  | .hbm, ⟨64, _⟩ => ⟨S1x2x4x4096x4096, .f32⟩
  | .hbm, ⟨65, _⟩ => ⟨S1x2x4x4096x4096, .f32⟩
  | .hbm, ⟨66, _⟩ => ⟨S_, .f32⟩
  | .hbm, ⟨67, _⟩ => ⟨S1x2x4x4096, .f32⟩
  | .hbm, ⟨68, _⟩ => ⟨S1x2x4x4096x1, .f32⟩
  | .hbm, ⟨69, _⟩ => ⟨S1x2x4x4096x1, .f32⟩
  | .hbm, ⟨70, _⟩ => ⟨S1x2x4x4096x4096, .f32⟩
  | .hbm, ⟨71, _⟩ => ⟨S1x2x4x4096x4096, .f32⟩
  | .hbm, ⟨72, _⟩ => ⟨S_, .f32⟩
  | .hbm, ⟨73, _⟩ => ⟨S2x4x4096, .f32⟩
  | .hbm, ⟨74, _⟩ => ⟨S1x2x4x4096, .f32⟩
  | .hbm, ⟨75, _⟩ => ⟨S1x2x4x4096x4096, .f32⟩
  | .hbm, ⟨76, _⟩ => ⟨S1x2x4x4096x4096, .f32⟩
  | .hbm, ⟨77, _⟩ => ⟨S1x2x4x4096x4096, .f32⟩
  | .hbm, ⟨78, _⟩ => ⟨S1x2x4x4096x4096, .f32⟩
  | .hbm, ⟨79, _⟩ => ⟨S1x2x4x4096x4096, .f32⟩
  | .hbm, ⟨80, _⟩ => ⟨S1x2x4096x4096x4, .f32⟩
  | .hbm, ⟨81, _⟩ => ⟨S1x2x4096x4x128, .f32⟩
  | .hbm, ⟨82, _⟩ => ⟨S1x4096x2x4x128, .f32⟩
  | .hbm, ⟨83, _⟩ => ⟨S1x2x4096x128, .f32⟩
  | .hbm, ⟨84, _⟩ => ⟨S1x4096x2x128, .f32⟩
  | .hbm, ⟨85, _⟩ => ⟨S4096x256, .f32⟩
  | .hbm, ⟨86, _⟩ => ⟨S4096x256, .f32⟩
  | .hbm, ⟨87, _⟩ => ⟨S4096x1024, .f32⟩
  | .hbm, ⟨88, _⟩ => ⟨S4096x256, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_8 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_9 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_10 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_11 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩

abbrev nD : Nat := 1
abbrev τ : Topo := Topo.v7x

variable {F : FTy → Type} [FloatOps F]
-- ==== FfnIn.lean ====
abbrev S4096x2816 : Shape := ⟨2, ![4096, 2816]⟩
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S8x352x1024 : Shape := ⟨3, ![8, 352, 1024]⟩
abbrev S8x704x1024 : Shape := ⟨3, ![8, 704, 1024]⟩
abbrev S1x4096x2816 : Shape := ⟨3, ![1, 4096, 2816]⟩
abbrev S2x4096x2816 : Shape := ⟨3, ![2, 4096, 2816]⟩
abbrev S2x256x2816 : Shape := ⟨3, ![2, 256, 2816]⟩
abbrev S256x1024 : Shape := ⟨2, ![256, 1024]⟩
abbrev S1x256x2816 : Shape := ⟨3, ![1, 256, 2816]⟩
abbrev S256x2816 : Shape := ⟨2, ![256, 2816]⟩
abbrev S256 : Shape := ⟨1, ![256]⟩
abbrev S256x1 : Shape := ⟨2, ![256, 1]⟩
abbrev S1024 : Shape := ⟨1, ![1024]⟩

abbrev nBuf : Space → Nat
  | .hbm => 18
  | .vmem => 12
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S8x352x1024, .f32⟩
  | .hbm, ⟨9, _⟩ => ⟨S2816x1024, .f32⟩
  | .hbm, ⟨10, _⟩ => ⟨S8x352x1024, .f32⟩
  | .hbm, ⟨11, _⟩ => ⟨S8x704x1024, .f32⟩
  | .hbm, ⟨12, _⟩ => ⟨S8x704x1024, .bf16⟩
  | .hbm, ⟨13, _⟩ => ⟨S1x4096x2816, .bf16⟩
  | .hbm, ⟨14, _⟩ => ⟨S1x4096x2816, .bf16⟩
  | .hbm, ⟨15, _⟩ => ⟨S2x4096x2816, .bf16⟩
  | .hbm, ⟨16, _⟩ => ⟨S4096x1024, .f32⟩
  | .hbm, ⟨17, _⟩ => ⟨S1x1024, .f32⟩
  | .local _ .vmem, ⟨0, _⟩ => ⟨S2x256x2816, .bf16⟩
  | .local _ .vmem, ⟨1, _⟩ => ⟨S2x256x2816, .bf16⟩
  | .local _ .vmem, ⟨2, _⟩ => ⟨S8x352x1024, .bf16⟩
  | .local _ .vmem, ⟨3, _⟩ => ⟨S8x352x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S1x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v43 : BitVec 1 := Scalar.cmpi .eq arg0 c0_i32
  let v44 : BitVec 32 := Scalar.extui v43
  let c0_i32_25 : BitVec 32 := 0#32
  let v45 : BitVec 1 := Scalar.cmpi .ne v44 c0_i32_25
  v45

def k0_cond2 (i : grid0.Coords) : BitVec 1 :=
  let arg0 : BitVec 32 := BitVec.ofNat 32 (i 0).val
  let c0_i32_26 : BitVec 32 := 0#32
  let v46 : BitVec 1 := Scalar.cmpi .sgt arg0 c0_i32_26
  let v47 : BitVec 32 := Scalar.extui v46
  let c0_i32_27 : BitVec 32 := 0#32
  let v48 : BitVec 1 := Scalar.cmpi .ne v47 c0_i32_27
  v48

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x352x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x352x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== FfnInRefIdeal.lean ====
abbrev S4096x2816 : Shape := ⟨2, ![4096, 2816]⟩
abbrev S4096x1024 : Shape := ⟨2, ![4096, 1024]⟩
abbrev S1x1024 : Shape := ⟨2, ![1, 1024]⟩
abbrev S1024x2816 : Shape := ⟨2, ![1024, 2816]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 57
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1024x2816, .f32⟩
  | .hbm, ⟨6, _⟩ => ⟨S1024x2816, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S_, .f32⟩
  | .hbm, ⟨51, _⟩ => ⟨S4096, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩

abbrev nD : Nat := 1
abbrev τ : Topo := Topo.v7x

variable {F : FTy → Type} [FloatOps F]
-- ==== InProj.lean ====
abbrev S4096x8192 : Shape := ⟨2, ![4096, 8192]⟩
abbrev S4096x1024 : Shape := ⟨2, ![4096, 1024]⟩
abbrev S1x1024 : Shape := ⟨2, ![1, 1024]⟩
abbrev S1024x8192 : Shape := ⟨2, ![1024, 8192]⟩
abbrev S4096x512 : Shape := ⟨2, ![4096, 512]⟩
abbrev S1x4096x512 : Shape := ⟨3, ![1, 4096, 512]⟩
abbrev S3x4096x512 : Shape := ⟨3, ![3, 4096, 512]⟩
abbrev S1x4096x1024 : Shape := ⟨3, ![1, 4096, 1024]⟩
abbrev S2x4096x1024 : Shape := ⟨3, ![2, 4096, 1024]⟩
abbrev S1024x8x1024 : Shape := ⟨3, ![1024, 8, 1024]⟩
abbrev S8x1024x1024 : Shape := ⟨3, ![8, 1024, 1024]⟩
abbrev S3x256x512 : Shape := ⟨3, ![3, 256, 512]⟩
abbrev S256x1024 : Shape := ⟨2, ![256, 1024]⟩
abbrev S256x512 : Shape := ⟨2, ![256, 512]⟩
abbrev S2x256x1024 : Shape := ⟨3, ![2, 256, 1024]⟩
abbrev S1x256x512 : Shape := ⟨3, ![1, 256, 512]⟩
abbrev S1x1024x512 : Shape := ⟨3, ![1, 1024, 512]⟩
abbrev S1024x512 : Shape := ⟨2, ![1024, 512]⟩
abbrev S256 : Shape := ⟨1, ![256]⟩
abbrev S256x1 : Shape := ⟨2, ![256, 1]⟩
abbrev S1024 : Shape := ⟨1, ![1024]⟩

abbrev nBuf : Space → Nat
  | .hbm => 39
  | .vmem => 23
  | .smem => 0
  | _ => 0

abbrev bufTy : (tb : Table) → Fin (tcTables nBuf tb) → BufTy
  | .hbm, ⟨0, _⟩ => ⟨S4096x8192, .bf16⟩
  | .hbm, ⟨1, _⟩ => ⟨S4096x1024, .f32⟩
  | .hbm, ⟨2, _⟩ => ⟨S1x1024, .f32⟩
  | .hbm, ⟨3, _⟩ => ⟨S4096x1024, .f32⟩
  | .hbm, ⟨4, _⟩ => ⟨S1024x8192, .f32⟩
  | .hbm, ⟨5, _⟩ => ⟨S4096x512, .bf16⟩
  | .hbm, ⟨6, _⟩ => ⟨S4096x512, .bf16⟩
  | .hbm, ⟨7, _⟩ => ⟨S4096x512, .bf16⟩
  | .hbm, ⟨8, _⟩ => ⟨S1x4096x512, .bf16⟩
  | .hbm, ⟨9, _⟩ => ⟨S1x4096x512, .bf16⟩
  | .hbm, ⟨10, _⟩ => ⟨S1x4096x512, .bf16⟩
  | .hbm, ⟨11, _⟩ => ⟨S3x4096x512, .bf16⟩
  | .hbm, ⟨12, _⟩ => ⟨S4096x512, .bf16⟩
  | .hbm, ⟨13, _⟩ => ⟨S4096x512, .bf16⟩
  | .hbm, ⟨14, _⟩ => ⟨S4096x512, .bf16⟩
  | .hbm, ⟨15, _⟩ => ⟨S1x4096x512, .bf16⟩
  | .hbm, ⟨16, _⟩ => ⟨S1x4096x512, .bf16⟩
  | .hbm, ⟨17, _⟩ => ⟨S1x4096x512, .bf16⟩
  | .hbm, ⟨18, _⟩ => ⟨S3x4096x512, .bf16⟩
  | .hbm, ⟨19, _⟩ => ⟨S4096x512, .bf16⟩
  | .hbm, ⟨20, _⟩ => ⟨S4096x512, .bf16⟩
  | .hbm, ⟨21, _⟩ => ⟨S4096x512, .bf16⟩
  | .hbm, ⟨22, _⟩ => ⟨S1x4096x512, .bf16⟩
  | .hbm, ⟨23, _⟩ => ⟨S1x4096x512, .bf16⟩
  | .hbm, ⟨24, _⟩ => ⟨S1x4096x512, .bf16⟩
  | .hbm, ⟨25, _⟩ => ⟨S3x4096x512, .bf16⟩
  | .hbm, ⟨26, _⟩ => ⟨S4096x1024, .bf16⟩
  | .hbm, ⟨27, _⟩ => ⟨S4096x1024, .bf16⟩
  | .hbm, ⟨28, _⟩ => ⟨S1x4096x1024, .bf16⟩
  | .hbm, ⟨29, _⟩ => ⟨S1x4096x1024, .bf16⟩
  | .hbm, ⟨30, _⟩ => ⟨S2x4096x1024, .bf16⟩
  | .hbm, ⟨31, _⟩ => ⟨S4096x1024, .bf16⟩
  | .hbm, ⟨32, _⟩ => ⟨S4096x512, .bf16⟩
  | .hbm, ⟨33, _⟩ => ⟨S1024x8x1024, .f32⟩
  | .hbm, ⟨34, _⟩ => ⟨S8x1024x1024, .f32⟩
  | .hbm, ⟨35, _⟩ => ⟨S8x1024x1024, .bf16⟩
  | .hbm, ⟨36, _⟩ => ⟨S4096x1024, .f32⟩
  | .hbm, ⟨37, _⟩ => ⟨S4096x1024, .bf16⟩
  | .hbm, ⟨38, _⟩ => ⟨S1x1024, .f32⟩
  | .local _ .vmem, ⟨0, _⟩ => ⟨S3x256x512, .bf16⟩
  | .local _ .vmem, ⟨1, _⟩ => ⟨S3x256x512, .bf16⟩
  | .local _ .vmem, ⟨2, _⟩ => ⟨S3x256x512, .bf16⟩
  | .local _ .vmem, ⟨3, _⟩ => ⟨S3x256x512, .bf16⟩
  | .local _ .vmem, ⟨4, _⟩ => ⟨S3x256x512, .bf16⟩
  | .local _ .vmem, ⟨5, _⟩ => ⟨S3x256x512, .bf16⟩
  | .local _ .vmem, ⟨6, _⟩ => ⟨S256x1024, .bf16⟩
  | .local _ .vmem, ⟨7, _⟩ => ⟨S256x1024, .bf16⟩
  | .local _ .vmem, ⟨8, _⟩ => ⟨S256x512, .bf16⟩
  | .local _ .vmem, ⟨9, _⟩ => ⟨S256x512, .bf16⟩
  | .local _ .vmem, ⟨10, _⟩ => ⟨S2x256x1024, .bf16⟩
  | .local _ .vmem, ⟨11, _⟩ => ⟨S2x256x1024, .bf16⟩
  | .local _ .vmem, ⟨12, _⟩ => ⟨S8x1024x1024, .bf16⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S1x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .bf16⟩
  | .local _ .vmem, ⟨21, _⟩ => ⟨S256x1024, .bf16⟩
  | .local _ .vmem, ⟨22, _⟩ => ⟨S1x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31_0 : Ref sig .tc := ⟨.hbm, 36, rfl⟩
abbrev main_v31_1 : Ref sig .tc := ⟨.hbm, 37, rfl⟩
abbrev main_v31_2 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v127 : BitVec 1 := Scalar.cmpi .eq arg0 c0_i32
  let v128 : BitVec 32 := Scalar.extui v127
  let c0_i32_115 : BitVec 32 := 0#32
  let v129 : BitVec 1 := Scalar.cmpi .ne v128 c0_i32_115
  v129

def k0_cond2 (i : grid0.Coords) : BitVec 1 :=
  let arg0 : BitVec 32 := BitVec.ofNat 32 (i 0).val
  let c0_i32_116 : BitVec 32 := 0#32
  let v130 : BitVec 1 := Scalar.cmpi .sgt arg0 c0_i32_116
  let v131 : BitVec 32 := Scalar.extui v130
  let c0_i32_117 : BitVec 32 := 0#32
  let v132 : BitVec 1 := Scalar.cmpi .ne v131 c0_i32_117
  v132

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S3x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== InProjRefIdeal.lean ====
abbrev S4096x8192 : Shape := ⟨2, ![4096, 8192]⟩
abbrev S4096x1024 : Shape := ⟨2, ![4096, 1024]⟩
abbrev S1x1024 : Shape := ⟨2, ![1, 1024]⟩
abbrev S1024x8192 : Shape := ⟨2, ![1024, 8192]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 52
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4096x1024, .f32⟩
  | .hbm, ⟨2, _⟩ => ⟨S1x1024, .f32⟩
  | .hbm, ⟨3, _⟩ => ⟨S4096x1024, .f32⟩
  | .hbm, ⟨4, _⟩ => ⟨S1024x8192, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x8192, .f32⟩
  | .hbm, ⟨25, _⟩ => ⟨S4096x8192, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== FfnHid.lean ====
abbrev S4096x1024 : Shape := ⟨2, ![4096, 1024]⟩
abbrev S1024x2816 : Shape := ⟨2, ![1024, 2816]⟩
abbrev S2816x1024 : Shape := ⟨2, ![2816, 1024]⟩
abbrev S8x352x1024 : Shape := ⟨3, ![8, 352, 1024]⟩
abbrev S8x1056x1024 : Shape := ⟨3, ![8, 1056, 1024]⟩
abbrev S4096x2816 : Shape := ⟨2, ![4096, 2816]⟩
abbrev S1x4096x2816 : Shape := ⟨3, ![1, 4096, 2816]⟩
abbrev S2x4096x2816 : Shape := ⟨3, ![2, 4096, 2816]⟩
abbrev S256x1024 : Shape := ⟨2, ![256, 1024]⟩
abbrev S2x256x2816 : Shape := ⟨3, ![2, 256, 2816]⟩
abbrev S256x2816 : Shape := ⟨2, ![256, 2816]⟩
abbrev S1x256x2816 : Shape := ⟨3, ![1, 256, 2816]⟩

abbrev nBuf : Space → Nat
  | .hbm => 20
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S2816x1024, .f32⟩
  | .hbm, ⟨6, _⟩ => ⟨S8x352x1024, .f32⟩
  | .hbm, ⟨7, _⟩ => ⟨S2816x1024, .f32⟩
  | .hbm, ⟨8, _⟩ => ⟨S8x352x1024, .f32⟩
  | .hbm, ⟨9, _⟩ => ⟨S8x352x1024, .f32⟩
  | .hbm, ⟨10, _⟩ => ⟨S8x1056x1024, .f32⟩
  | .hbm, ⟨11, _⟩ => ⟨S8x1056x1024, .bf16⟩
  | .hbm, ⟨12, _⟩ => ⟨S4096x1024, .f32⟩
  | .hbm, ⟨13, _⟩ => ⟨S4096x2816, .f32⟩
  | .hbm, ⟨14, _⟩ => ⟨S4096x2816, .f32⟩
  | .hbm, ⟨15, _⟩ => ⟨S1x4096x2816, .f32⟩
  | .hbm, ⟨16, _⟩ => ⟨S1x4096x2816, .f32⟩
  | .hbm, ⟨17, _⟩ => ⟨S2x4096x2816, .f32⟩
  | .hbm, ⟨18, _⟩ => ⟨S2x4096x2816, .bf16⟩
  | .hbm, ⟨19, _⟩ => ⟨S2x4096x2816, .bf16⟩
  | .local _ .vmem, ⟨0, _⟩ => ⟨S256x1024, .bf16⟩
  | .local _ .vmem, ⟨1, _⟩ => ⟨S256x1024, .bf16⟩
  | .local _ .vmem, ⟨2, _⟩ => ⟨S8x352x1024, .bf16⟩
  | .local _ .vmem, ⟨3, _⟩ => ⟨S2x256x2816, .bf16⟩
  | .local _ .vmem, ⟨4, _⟩ => ⟨S2x256x2816, .bf16⟩
  | .local _ .vmem, ⟨5, _⟩ => ⟨S2x256x2816, .bf16⟩
  | .local _ .vmem, ⟨6, _⟩ => ⟨S2x256x2816, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c2_i32 : BitVec 32 := 2#32
  let c0_i32_0 : BitVec 32 := 0#32
  let c0_i32_1 : BitVec 32 := 0#32
  ![c0_i32.toNat, c2_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x352x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== FfnHidRefIdeal.lean ====
abbrev S4096x1024 : Shape := ⟨2, ![4096, 1024]⟩
abbrev S1024x2816 : Shape := ⟨2, ![1024, 2816]⟩
abbrev S2816x1024 : Shape := ⟨2, ![2816, 1024]⟩
abbrev S4096x2816 : Shape := ⟨2, ![4096, 2816]⟩
abbrev S_ : Shape := ⟨0, ![]⟩
abbrev S1x4096x2816 : Shape := ⟨3, ![1, 4096, 2816]⟩
abbrev S2x4096x2816 : Shape := ⟨3, ![2, 4096, 2816]⟩

abbrev nBuf : Space → Nat
  | .hbm => 41
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4096x1024, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S_, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x1024, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S1x4096x2816, .f32⟩
  | .hbm, ⟨38, _⟩ => ⟨S1x4096x2816, .f32⟩
  | .hbm, ⟨39, _⟩ => ⟨S2x4096x2816, .f32⟩
  | .hbm, ⟨40, _⟩ => ⟨S2x4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v3_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v3_1 : Ref sig .tc := ⟨.hbm, 19, rfl⟩
abbrev main_v3_0 : Ref sig .tc := ⟨.hbm, 20, rfl⟩
abbrev main_v4 : Ref sig .tc := ⟨.hbm, 21, rfl⟩
abbrev main_v5 : Ref sig .tc := ⟨.hbm, 22, rfl⟩
abbrev main_cst : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst_0 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩

abbrev nD : Nat := 1
abbrev τ : Topo := Topo.v7x

variable {F : FTy → Type} [FloatOps F]
-- ==== Merge.lean ====
abbrev S4096x1024 : Shape := ⟨2, ![4096, 1024]⟩
abbrev S4096x512 : Shape := ⟨2, ![4096, 512]⟩
abbrev S4096x8192 : Shape := ⟨2, ![4096, 8192]⟩
abbrev S1x2048 : Shape := ⟨2, ![1, 2048]⟩
abbrev S512x1024 : Shape := ⟨2, ![512, 1024]⟩
abbrev S1024x1024 : Shape := ⟨2, ![1024, 1024]⟩
abbrev S512x8x128 : Shape := ⟨3, ![512, 8, 128]⟩
abbrev S8x512x128 : Shape := ⟨3, ![8, 512, 128]⟩
abbrev S8x64x1024 : Shape := ⟨3, ![8, 64, 1024]⟩
abbrev S8x128x1024 : Shape := ⟨3, ![8, 128, 1024]⟩
abbrev S8x320x1024 : Shape := ⟨3, ![8, 320, 1024]⟩
abbrev S2x4096x1024 : Shape := ⟨3, ![2, 4096, 1024]⟩
abbrev S2x1x1024 : Shape := ⟨3, ![2, 1, 1024]⟩
abbrev S256x1024 : Shape := ⟨2, ![256, 1024]⟩
abbrev S256x512 : Shape := ⟨2, ![256, 512]⟩
abbrev S2x256x1024 : Shape := ⟨3, ![2, 256, 1024]⟩
abbrev S1x1024 : Shape := ⟨2, ![1, 1024]⟩
abbrev S1x256x1024 : Shape := ⟨3, ![1, 256, 1024]⟩
abbrev S1024 : Shape := ⟨1, ![1024]⟩
abbrev S1x1x1024 : Shape := ⟨3, ![1, 1, 1024]⟩

abbrev nBuf : Space → Nat
  | .hbm => 31
  | .vmem => 29
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S4096x1024, .bf16⟩
  | .hbm, ⟨3, _⟩ => ⟨S4096x8192, .bf16⟩
  | .hbm, ⟨4, _⟩ => ⟨S1x2048, .f32⟩
  | .hbm, ⟨5, _⟩ => ⟨S512x1024, .f32⟩
  | .hbm, ⟨6, _⟩ => ⟨S1024x1024, .f32⟩
  | .hbm, ⟨7, _⟩ => ⟨S1024x1024, .f32⟩
  | .hbm, ⟨8, _⟩ => ⟨S512x8x128, .f32⟩
  | .hbm, ⟨9, _⟩ => ⟨S8x512x128, .f32⟩
  | .hbm, ⟨10, _⟩ => ⟨S8x64x1024, .f32⟩
  | .hbm, ⟨11, _⟩ => ⟨S8x128x1024, .f32⟩
  | .hbm, ⟨12, _⟩ => ⟨S8x128x1024, .f32⟩
  | .hbm, ⟨13, _⟩ => ⟨S8x320x1024, .f32⟩
  | .hbm, ⟨14, _⟩ => ⟨S8x320x1024, .bf16⟩
  | .hbm, ⟨15, _⟩ => ⟨S8x64x1024, .bf16⟩
  | .hbm, ⟨16, _⟩ => ⟨S8x512x128, .bf16⟩
  | .hbm, ⟨17, _⟩ => ⟨S512x8x128, .bf16⟩
  | .hbm, ⟨18, _⟩ => ⟨S512x1024, .bf16⟩
  | .hbm, ⟨19, _⟩ => ⟨S4096x512, .f32⟩
  | .hbm, ⟨20, _⟩ => ⟨S4096x1024, .f32⟩
  | .hbm, ⟨21, _⟩ => ⟨S4096x1024, .bf16⟩
  | .hbm, ⟨22, _⟩ => ⟨S4096x1024, .f32⟩
  | .hbm, ⟨23, _⟩ => ⟨S4096x1024, .f32⟩
  | .hbm, ⟨24, _⟩ => ⟨S4096x1024, .bf16⟩
  | .hbm, ⟨25, _⟩ => ⟨S4096x1024, .bf16⟩
  | .hbm, ⟨26, _⟩ => ⟨S4096x1024, .bf16⟩
  | .hbm, ⟨27, _⟩ => ⟨S2x4096x1024, .bf16⟩
  | .hbm, ⟨28, _⟩ => ⟨S2x1x1024, .f32⟩
  | .hbm, ⟨29, _⟩ => ⟨S4096x512, .f32⟩
  | .hbm, ⟨30, _⟩ => ⟨S4096x1024, .bf16⟩
  | .local _ .vmem, ⟨0, _⟩ => ⟨S256x1024, .bf16⟩
  | .local _ .vmem, ⟨1, _⟩ => ⟨S256x1024, .bf16⟩
  | .local _ .vmem, ⟨2, _⟩ => ⟨S8x128x1024, .bf16⟩
  | .local _ .vmem, ⟨3, _⟩ => ⟨S512x1024, .bf16⟩
  | .local _ .vmem, ⟨4, _⟩ => ⟨S8x128x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S256x512, .bf16⟩
  | .local _ .vmem, ⟨15, _⟩ => ⟨S256x512, .bf16⟩
  | .local _ .vmem, ⟨16, _⟩ => ⟨S256x512, .bf16⟩
  | .local _ .vmem, ⟨17, _⟩ => ⟨S1x2048, .f32⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S2x256x1024, .bf16⟩
  | .local _ .vmem, ⟨23, _⟩ => ⟨S2x256x1024, .bf16⟩
  | .local _ .vmem, ⟨24, _⟩ => ⟨S2x1x1024, .f32⟩
  | .local _ .vmem, ⟨25, _⟩ => ⟨S256x512, .f32⟩
  | .local _ .vmem, ⟨26, _⟩ => ⟨S256x512, .f32⟩
  | .local _ .vmem, ⟨27, _⟩ => ⟨S256x1024, .bf16⟩
  | .local _ .vmem, ⟨28, _⟩ => ⟨S256x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17_0 : Ref sig .tc := ⟨.hbm, 25, rfl⟩
abbrev main_v17_1 : Ref sig .tc := ⟨.hbm, 26, rfl⟩
abbrev main_v17_2 : Ref sig .tc := ⟨.hbm, 27, rfl⟩
abbrev main_v17_3 : Ref sig .tc := ⟨.hbm, 28, rfl⟩
abbrev main_v17_4 : Ref sig .tc := ⟨.hbm, 29, rfl⟩
abbrev main_v17_5 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem15_0 : DmaSem sig := 25
abbrev cc0_sem15_1 : DmaSem sig := 26
abbrev cc0_sem16_0 : DmaSem sig := 27
abbrev cc0_sem16_1 : DmaSem sig := 28

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v77 : BitVec 1 := Scalar.cmpi .eq arg0 c0_i32
  let v78 : BitVec 32 := Scalar.extui v77
  let c0_i32_49 : BitVec 32 := 0#32
  let v79 : BitVec 1 := Scalar.cmpi .ne v78 c0_i32_49
  v79

def k0_cond2 (i : grid0.Coords) : BitVec 1 :=
  let arg0 : BitVec 32 := BitVec.ofNat 32 (i 0).val
  let c0_i32_50 : BitVec 32 := 0#32
  let v80 : BitVec 1 := Scalar.cmpi .sgt arg0 c0_i32_50
  let v81 : BitVec 32 := Scalar.extui v80
  let c0_i32_51 : BitVec 32 := 0#32
  let v82 : BitVec 1 := Scalar.cmpi .ne v81 c0_i32_51
  v82

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_7 (i : grid0.Coords) : Fin 2 → Nat :=
  let arg0 : BitVec 32 := BitVec.ofNat 32 (i 0).val
  let c13_i32 : BitVec 32 := 13#32
  let c0_i32 : BitVec 32 := 0#32
  ![arg0.toNat, c13_i32.toNat]

def cc0_transform_8 (i : grid0.Coords) : Fin 2 → Nat :=
  let arg0 : BitVec 32 := BitVec.ofNat 32 (i 0).val
  let c14_i32 : BitVec 32 := 14#32
  let c0_i32 : BitVec 32 := 0#32
  ![arg0.toNat, c14_i32.toNat]

def cc0_transform_9 (i : grid0.Coords) : Fin 2 → Nat :=
  let arg0 : BitVec 32 := BitVec.ofNat 32 (i 0).val
  let c15_i32 : BitVec 32 := 15#32
  let c0_i32 : BitVec 32 := 0#32
  ![arg0.toNat, c15_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2x256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S2x1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== MergeRefIdeal.lean ====
abbrev S4096x1024 : Shape := ⟨2, ![4096, 1024]⟩
abbrev S4096x512 : Shape := ⟨2, ![4096, 512]⟩
abbrev S4096x8192 : Shape := ⟨2, ![4096, 8192]⟩
abbrev S1x2048 : Shape := ⟨2, ![1, 2048]⟩
abbrev S512x1024 : Shape := ⟨2, ![512, 1024]⟩
abbrev S1024x1024 : Shape := ⟨2, ![1024, 1024]⟩
abbrev S4096x2048 : Shape := ⟨2, ![4096, 2048]⟩
abbrev S2048 : Shape := ⟨1, ![2048]⟩
abbrev S4096x2x1024 : Shape := ⟨3, ![4096, 2, 1024]⟩
abbrev S_ : Shape := ⟨0, ![]⟩
abbrev S4096x1x1024 : Shape := ⟨3, ![4096, 1, 1024]⟩
abbrev S1x4096x1024 : Shape := ⟨3, ![1, 4096, 1024]⟩
abbrev S2x4096x1024 : Shape := ⟨3, ![2, 4096, 1024]⟩
abbrev S2x1x1024 : Shape := ⟨3, ![2, 1, 1024]⟩

abbrev nBuf : Space → Nat
  | .hbm => 72
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S4096x1024, .bf16⟩
  | .hbm, ⟨3, _⟩ => ⟨S4096x8192, .bf16⟩
  | .hbm, ⟨4, _⟩ => ⟨S1x2048, .f32⟩
  | .hbm, ⟨5, _⟩ => ⟨S512x1024, .f32⟩
  | .hbm, ⟨6, _⟩ => ⟨S1024x1024, .f32⟩
  | .hbm, ⟨7, _⟩ => ⟨S1024x1024, .f32⟩
  | .hbm, ⟨8, _⟩ => ⟨S4096x512, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x8192, .f32⟩
  | .hbm, ⟨13, _⟩ => ⟨S4096x2048, .f32⟩
  | .hbm, ⟨14, _⟩ => ⟨S2048, .f32⟩
  | .hbm, ⟨15, _⟩ => ⟨S1x2048, .f32⟩
  | .hbm, ⟨16, _⟩ => ⟨S4096x2048, .f32⟩
  | .hbm, ⟨17, _⟩ => ⟨S4096x2048, .f32⟩
  | .hbm, ⟨18, _⟩ => ⟨S4096x2x1024, .f32⟩
  | .hbm, ⟨19, _⟩ => ⟨S4096x2x1024, .f32⟩
  | .hbm, ⟨20, _⟩ => ⟨S4096x2x1024, .f32⟩
  | .hbm, ⟨21, _⟩ => ⟨S_, .f32⟩
  | .hbm, ⟨22, _⟩ => ⟨S4096x2x1024, .f32⟩
  | .hbm, ⟨23, _⟩ => ⟨S4096x2x1024, .f32⟩
  | .hbm, ⟨24, _⟩ => ⟨S_, .f32⟩
  | .hbm, ⟨25, _⟩ => ⟨S4096x2x1024, .f32⟩
  | .hbm, ⟨26, _⟩ => ⟨S4096x2x1024, .f32⟩
  | .hbm, ⟨27, _⟩ => ⟨S_, .f32⟩
  | .hbm, ⟨28, _⟩ => ⟨S4096x2x1024, .f32⟩
  | .hbm, ⟨29, _⟩ => ⟨S4096x2x1024, .f32⟩
  | .hbm, ⟨30, _⟩ => ⟨S4096x2x1024, .f32⟩
  | .hbm, ⟨31, _⟩ => ⟨S4096x1x1024, .f32⟩
  | .hbm, ⟨32, _⟩ => ⟨S4096x1024, .f32⟩
  | .hbm, ⟨33, _⟩ => ⟨S4096x1024, .f32⟩
  | .hbm, ⟨34, _⟩ => ⟨S4096x1x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1x1024, .f32⟩
  | .hbm, ⟨44, _⟩ => ⟨S_, .f32⟩
  | .hbm, ⟨45, _⟩ => ⟨S4096x2x1024, .f32⟩
  | .hbm, ⟨46, _⟩ => ⟨S4096x1024, .f32⟩
  | .hbm, ⟨47, _⟩ => ⟨S4096x1024, .f32⟩
  | .hbm, ⟨48, _⟩ => ⟨S4096x1x1024, .f32⟩
  | .hbm, ⟨49, _⟩ => ⟨S_, .f32⟩
  | .hbm, ⟨50, _⟩ => ⟨S4096x2x1024, .f32⟩
  | .hbm, ⟨51, _⟩ => ⟨S4096x2x1024, .f32⟩
  | .hbm, ⟨52, _⟩ => ⟨S4096x2x1024, .f32⟩
  | .hbm, ⟨53, _⟩ => ⟨S4096x2048, .f32⟩
  | .hbm, ⟨54, _⟩ => ⟨S_, .f32⟩
  | .hbm, ⟨55, _⟩ => ⟨S2048, .f32⟩
  | .hbm, ⟨56, _⟩ => ⟨S1x2048, .f32⟩
  | .hbm, ⟨57, _⟩ => ⟨S_, .f32⟩
  | .hbm, ⟨58, _⟩ => ⟨S2048, .f32⟩
  | .hbm, ⟨59, _⟩ => ⟨S1x2048, .f32⟩
  | .hbm, ⟨60, _⟩ => ⟨S4096x1024, .f32⟩
  | .hbm, ⟨61, _⟩ => ⟨S4096x512, .f32⟩
  | .hbm, ⟨62, _⟩ => ⟨S4096x1024, .f32⟩
  | .hbm, ⟨63, _⟩ => ⟨S4096x1024, .f32⟩
  | .hbm, ⟨64, _⟩ => ⟨S1x4096x1024, .f32⟩
  | .hbm, ⟨65, _⟩ => ⟨S1x4096x1024, .f32⟩
  | .hbm, ⟨66, _⟩ => ⟨S2x4096x1024, .f32⟩
  | .hbm, ⟨67, _⟩ => ⟨S4096x1024, .bf16⟩
  | .hbm, ⟨68, _⟩ => ⟨S4096x1024, .bf16⟩
  | .hbm, ⟨69, _⟩ => ⟨S2x4096x1024, .bf16⟩
  | .hbm, ⟨70, _⟩ => ⟨S2x1x1024, .f32⟩
  | .hbm, ⟨71, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_2 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_3 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_4 : Ref sig .tc := ⟨.hbm, 54, rfl⟩
abbrev main_v41 : Ref sig .tc := ⟨.hbm, 55, rfl⟩
abbrev main_v42 : Ref sig .tc := ⟨.hbm, 56, rfl⟩
abbrev main_cst_5 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩

abbrev nD : Nat := 1
abbrev τ : Topo := Topo.v7x

variable {F : FTy → Type} [FloatOps F]
-- ==== FfnLast.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S8x352x1024 : Shape := ⟨3, ![8, 352, 1024]⟩
abbrev S8x1056x1024 : Shape := ⟨3, ![8, 1056, 1024]⟩
abbrev S3x4096x2816 : Shape := ⟨3, ![3, 4096, 2816]⟩
abbrev S2x4096x2816 : Shape := ⟨3, ![2, 4096, 2816]⟩
abbrev S1x128 : Shape := ⟨2, ![1, 128]⟩
abbrev S256x1024 : Shape := ⟨2, ![256, 1024]⟩
abbrev S3x256x2816 : Shape := ⟨3, ![3, 256, 2816]⟩
abbrev S2x256x2816 : Shape := ⟨3, ![2, 256, 2816]⟩
abbrev S256 : Shape := ⟨1, ![256]⟩
abbrev S256x1 : Shape := ⟨2, ![256, 1]⟩
abbrev S4x352x1024 : Shape := ⟨3, ![4, 352, 1024]⟩
abbrev S1408x1024 : Shape := ⟨2, ![1408, 1024]⟩
abbrev S256x1408 : Shape := ⟨2, ![256, 1408]⟩
abbrev S1x256x1408 : Shape := ⟨3, ![1, 256, 1408]⟩
abbrev S1 : Shape := ⟨1, ![1]⟩
abbrev S1x1 : Shape := ⟨2, ![1, 1]⟩
abbrev S1024 : Shape := ⟨1, ![1024]⟩

abbrev nBuf : Space → Nat
  | .hbm => 23
  | .vmem => 24
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4096x1024, .f32⟩
  | .hbm, ⟨6, _⟩ => ⟨S1x1024, .f32⟩
  | .hbm, ⟨7, _⟩ => ⟨S2816x1024, .f32⟩
  | .hbm, ⟨8, _⟩ => ⟨S8x352x1024, .f32⟩
  | .hbm, ⟨9, _⟩ => ⟨S2816x1024, .f32⟩
  | .hbm, ⟨10, _⟩ => ⟨S8x352x1024, .f32⟩
  | .hbm, ⟨11, _⟩ => ⟨S8x352x1024, .f32⟩
  | .hbm, ⟨12, _⟩ => ⟨S8x1056x1024, .f32⟩
  | .hbm, ⟨13, _⟩ => ⟨S8x1056x1024, .bf16⟩
  | .hbm, ⟨14, _⟩ => ⟨S4096x1024, .bf16⟩
  | .hbm, ⟨15, _⟩ => ⟨S3x4096x2816, .bf16⟩
  | .hbm, ⟨16, _⟩ => ⟨S4096x1024, .bf16⟩
  | .hbm, ⟨17, _⟩ => ⟨S2x4096x2816, .bf16⟩
  | .hbm, ⟨18, _⟩ => ⟨S4096x1024, .f32⟩
  | .hbm, ⟨19, _⟩ => ⟨S4096x1024, .bf16⟩
  | .hbm, ⟨20, _⟩ => ⟨S1x1024, .f32⟩
  | .hbm, ⟨21, _⟩ => ⟨S1x128, .f32⟩
  | .hbm, ⟨22, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S8x352x1024, .bf16⟩
  | .local _ .vmem, ⟨4, _⟩ => ⟨S8x352x1024, .bf16⟩
  | .local _ .vmem, ⟨5, _⟩ => ⟨S8x352x1024, .bf16⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S256x1024, .bf16⟩
  | .local _ .vmem, ⟨10, _⟩ => ⟨S256x1024, .bf16⟩
  | .local _ .vmem, ⟨11, _⟩ => ⟨S3x256x2816, .bf16⟩
  | .local _ .vmem, ⟨12, _⟩ => ⟨S3x256x2816, .bf16⟩
  | .local _ .vmem, ⟨13, _⟩ => ⟨S256x1024, .bf16⟩
  | .local _ .vmem, ⟨14, _⟩ => ⟨S256x1024, .bf16⟩
  | .local _ .vmem, ⟨15, _⟩ => ⟨S2x256x2816, .bf16⟩
  | .local _ .vmem, ⟨16, _⟩ => ⟨S2x256x2816, .bf16⟩
  | .local _ .vmem, ⟨17, _⟩ => ⟨S256x1024, .f32⟩
  | .local _ .vmem, ⟨18, _⟩ => ⟨S256x1024, .f32⟩
  | .local _ .vmem, ⟨19, _⟩ => ⟨S256x1024, .bf16⟩
  | .local _ .vmem, ⟨20, _⟩ => ⟨S256x1024, .bf16⟩
  | .local _ .vmem, ⟨21, _⟩ => ⟨S1x1024, .f32⟩
  | .local _ .vmem, ⟨22, _⟩ => ⟨S1x128, .f32⟩
  | .local _ .vmem, ⟨23, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v7_3 : Ref sig .tc := ⟨.hbm, 17, rfl⟩
abbrev main_v7_4 : Ref sig .tc := ⟨.hbm, 18, rfl⟩
abbrev main_v7_5 : Ref sig .tc := ⟨.hbm, 19, rfl⟩
abbrev main_v7_6 : Ref sig .tc := ⟨.hbm, 20, rfl⟩
abbrev main_v7_7 : Ref sig .tc := ⟨.hbm, 21, rfl⟩
abbrev main_v7_8 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem14_0 : DmaSem sig := 22
abbrev cc0_sem15_0 : DmaSem sig := 23

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v255 : BitVec 1 := Scalar.cmpi .eq arg0 c0_i32
  let v256 : BitVec 32 := Scalar.extui v255
  let c0_i32_139 : BitVec 32 := 0#32
  let v257 : BitVec 1 := Scalar.cmpi .ne v256 c0_i32_139
  v257

def k0_cond2 (i : grid0.Coords) : BitVec 1 :=
  let arg0 : BitVec 32 := BitVec.ofNat 32 (i 0).val
  let c0_i32_140 : BitVec 32 := 0#32
  let v258 : BitVec 1 := Scalar.cmpi .sgt arg0 c0_i32_140
  let v259 : BitVec 32 := Scalar.extui v258
  let c0_i32_141 : BitVec 32 := 0#32
  let v260 : BitVec 1 := Scalar.cmpi .ne v259 c0_i32_141
  v260

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_4 (i : grid0.Coords) : Fin 3 → Nat :=
  let arg0 : BitVec 32 := BitVec.ofNat 32 (i 0).val
  let c0_i32 : BitVec 32 := 0#32
  let c2_i32 : BitVec 32 := 2#32
  let c0_i32_0 : BitVec 32 := 0#32
  let c0_i32_1 : BitVec 32 := 0#32
  ![c0_i32.toNat, c2_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x352x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x352x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x352x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S3x256x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x256x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== FfnLastRefIdeal.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩
abbrev S1024 : Shape := ⟨1, ![1024]⟩
abbrev S1x4096x2816 : Shape := ⟨3, ![1, 4096, 2816]⟩
abbrev S3x4096x2816 : Shape := ⟨3, ![3, 4096, 2816]⟩
abbrev S2x4096x2816 : Shape := ⟨3, ![2, 4096, 2816]⟩
abbrev S1x128 : Shape := ⟨2, ![1, 128]⟩

abbrev nBuf : Space → Nat
  | .hbm => 187
  | .vmem => 0
  | .smem => 0
  | _ => 0

abbrev hbmTy0_0 (i : Nat) : BufTy := match i % 128 with
  | 0 => ⟨S4096x1024, .f32⟩
  | 1 => ⟨S1x1024, .f32⟩
  | 2 => ⟨S1024x2816, .f32⟩
  | 3 => ⟨S1024x2816, .f32⟩
  | 4 => ⟨S2816x1024, .f32⟩
  | 5 => ⟨S4096x1024, .f32⟩
  | 6 => ⟨S1x1024, .f32⟩
  | 7 => ⟨S4096x1024, .f32⟩
  | 8 => ⟨S_, .f32⟩
  | 9 => ⟨S4096, .f32⟩
  | 10 => ⟨S4096x1, .f32⟩
  | 11 => ⟨S_, .f32⟩
  | 12 => ⟨S4096x1, .f32⟩
  | 13 => ⟨S4096x1, .f32⟩
  | 14 => ⟨S_, .f32⟩
  | 15 => ⟨S4096x1, .f32⟩
  | 16 => ⟨S4096x1, .f32⟩
  | 17 => ⟨S4096x1, .f32⟩
  | 18 => ⟨S4096x1, .f32⟩
  | 19 => ⟨S_, .f32⟩
  | 20 => ⟨S4096x1, .f32⟩
  | 21 => ⟨S4096x1, .f32⟩
  | 22 => ⟨S4096x1024, .f32⟩
  | 23 => ⟨S4096x1024, .f32⟩
  | 24 => ⟨S4096x1024, .f32⟩
  | 25 => ⟨S4096x1024, .f32⟩
  | 26 => ⟨S4096x2816, .f32⟩
  | 27 => ⟨S4096x2816, .f32⟩
  | 28 => ⟨S4096x2816, .f32⟩
  | 29 => ⟨S4096x2816, .f32⟩
  | 30 => ⟨S_, .f32⟩
  | 31 => ⟨S4096x2816, .f32⟩
  | 32 => ⟨S4096x2816, .f32⟩
  | 33 => ⟨S_, .f32⟩
  | 34 => ⟨S4096x2816, .f32⟩
  | 35 => ⟨S4096x2816, .f32⟩
  | 36 => ⟨S_, .f32⟩
  | 37 => ⟨S4096x2816, .f32⟩
  | 38 => ⟨S4096x2816, .f32⟩
  | 39 => ⟨S4096x2816, .f32⟩
  | 40 => ⟨S4096x2816, .f32⟩
  | 41 => ⟨S4096x2816, .f32⟩
  | 42 => ⟨S4096x1024, .f32⟩
  | 43 => ⟨S_, .f32⟩
  | 44 => ⟨S4096x1024, .f32⟩
  | 45 => ⟨S4096x1024, .f32⟩
  | 46 => ⟨S4096x1024, .f32⟩
  | 47 => ⟨S4096x1024, .f32⟩
  | 48 => ⟨S_, .f32⟩
  | 49 => ⟨S4096, .f32⟩
  | 50 => ⟨S4096x1, .f32⟩
  | 51 => ⟨S_, .f32⟩
  | 52 => ⟨S4096x1, .f32⟩
  | 53 => ⟨S4096x1, .f32⟩
  | 54 => ⟨S_, .f32⟩
  | 55 => ⟨S4096x1, .f32⟩
  | 56 => ⟨S4096x1, .f32⟩
  | 57 => ⟨S4096x1, .f32⟩
  | 58 => ⟨S4096x1, .f32⟩
  | 59 => ⟨S_, .f32⟩
  | 60 => ⟨S4096x1, .f32⟩
  | 61 => ⟨S4096x1, .f32⟩
  | 62 => ⟨S4096x1024, .f32⟩
  | 63 => ⟨S4096x1024, .f32⟩
  | 64 => ⟨S4096x1024, .f32⟩
  | 65 => ⟨S4096x1024, .f32⟩
  | 66 => ⟨S4096x1024, .f32⟩
  | 67 => ⟨S4096x1024, .f32⟩
  | 68 => ⟨S_, .f32⟩
  | 69 => ⟨S4096x1024, .f32⟩
  | 70 => ⟨S4096x1024, .f32⟩
  | 71 => ⟨S_, .f32⟩
  | 72 => ⟨S4096, .f32⟩
  | 73 => ⟨S_, .f32⟩
  | 74 => ⟨S4096, .f32⟩
  | 75 => ⟨S4096, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S4096, .f32⟩
  | 84 => ⟨S_, .f32⟩
  | 85 => ⟨S4096, .f32⟩
  | 86 => ⟨S4096, .f32⟩
  | 87 => ⟨S4096x1024, .f32⟩
  | 88 => ⟨S4096x1024, .f32⟩
  | 89 => ⟨S4096x1024, .f32⟩
  | 90 => ⟨S_, .f32⟩
  | 91 => ⟨S1024, .f32⟩
  | 92 => ⟨S1x1024, .f32⟩
  | 93 => ⟨S4096x1024, .f32⟩
  | 94 => ⟨S4096x1024, .f32⟩
  | 95 => ⟨S4096x1024, .f32⟩
  | 96 => ⟨S_, .f32⟩
  | 97 => ⟨S4096, .f32⟩
  | 98 => ⟨S4096x1, .f32⟩
  | 99 => ⟨S4096x1024, .f32⟩
  | 100 => ⟨S4096x1024, .f32⟩
  | 101 => ⟨S4096x1, .f32⟩
  | 102 => ⟨S_, .f32⟩
  | 103 => ⟨S4096x1, .f32⟩
  | 104 => ⟨S4096x1, .f32⟩
  | 105 => ⟨S_, .f32⟩
  | 106 => ⟨S4096, .f32⟩
  | 107 => ⟨S4096x1024, .f32⟩
  | 108 => ⟨S4096x1024, .f32⟩
  | 109 => ⟨S4096x1024, .f32⟩
  | 110 => ⟨S4096x1024, .f32⟩
  | 111 => ⟨S4096x1024, .f32⟩
  | 112 => ⟨S_, .f32⟩
  | 113 => ⟨S4096x1024, .f32⟩
  | 114 => ⟨S4096x1024, .f32⟩
  | 115 => ⟨S4096x2816, .f32⟩
  | 116 => ⟨S4096x2816, .f32⟩
  | 117 => ⟨S4096x2816, .f32⟩
  | 118 => ⟨S4096x2816, .f32⟩
  | 119 => ⟨S4096x2816, .f32⟩
  | 120 => ⟨S4096x2816, .f32⟩
  | 121 => ⟨S4096x2816, .f32⟩
  | 122 => ⟨S4096x1024, .f32⟩
  | 123 => ⟨S4096x1024, .f32⟩
  | 124 => ⟨S4096x1024, .f32⟩
  | 125 => ⟨S4096x1024, .f32⟩
  | 126 => ⟨S_, .f32⟩
  | 127 => ⟨S1024, .f32⟩
  | _ => ⟨S4096x1024, .f32⟩

abbrev hbmTy0_1 (i : Nat) : BufTy := match i % 128 with
  | 0 => ⟨S1x1024, .f32⟩
  | 1 => ⟨S4096x1024, .f32⟩
  | 2 => ⟨S4096x1024, .f32⟩
  | 3 => ⟨S4096x1024, .f32⟩
  | 4 => ⟨S_, .f32⟩
  | 5 => ⟨S4096, .f32⟩
  | 6 => ⟨S4096x1, .f32⟩
  | 7 => ⟨S4096x1024, .f32⟩
  | 8 => ⟨S4096x1024, .f32⟩
  | 9 => ⟨S4096x1024, .f32⟩
  | 10 => ⟨S4096x1, .f32⟩
  | 11 => ⟨S_, .f32⟩
  | 12 => ⟨S4096x1, .f32⟩
  | 13 => ⟨S4096x1, .f32⟩
  | 14 => ⟨S_, .f32⟩
  | 15 => ⟨S4096, .f32⟩
  | 16 => ⟨S4096x1024, .f32⟩
  | 17 => ⟨S4096x1024, .f32⟩
  | 18 => ⟨S4096x1024, .f32⟩
  | 19 => ⟨S4096x1024, .f32⟩
  | 20 => ⟨S4096x1024, .f32⟩
  | 21 => ⟨S4096x1024, .f32⟩
  | 22 => ⟨S_, .f32⟩
  | 23 => ⟨S4096, .f32⟩
  | 24 => ⟨S4096x1, .f32⟩
  | 25 => ⟨S_, .f32⟩
  | 26 => ⟨S4096x1, .f32⟩
  | 27 => ⟨S4096x1, .f32⟩
  | 28 => ⟨S_, .f32⟩
  | 29 => ⟨S4096x1, .f32⟩
  | 30 => ⟨S4096x1, .f32⟩
  | 31 => ⟨S4096x1, .f32⟩
  | 32 => ⟨S4096x1024, .f32⟩
  | 33 => ⟨S4096x1024, .f32⟩
  | 34 => ⟨S4096x1024, .f32⟩
  | 35 => ⟨S4096x1024, .f32⟩
  | 36 => ⟨S4096x1024, .bf16⟩
  | 37 => ⟨S4096x2816, .f32⟩
  | 38 => ⟨S4096x2816, .f32⟩
  | 39 => ⟨S_, .f32⟩
  | 40 => ⟨S4096x2816, .f32⟩
  | 41 => ⟨S4096x2816, .f32⟩
  | 42 => ⟨S_, .f32⟩
  | 43 => ⟨S4096x2816, .f32⟩
  | 44 => ⟨S4096x2816, .f32⟩
  | 45 => ⟨S4096x2816, .f32⟩
  | 46 => ⟨S4096x2816, .f32⟩
  | 47 => ⟨S1x4096x2816, .f32⟩
  | 48 => ⟨S1x4096x2816, .f32⟩
  | 49 => ⟨S1x4096x2816, .f32⟩
  | 50 => ⟨S3x4096x2816, .f32⟩
  | 51 => ⟨S3x4096x2816, .bf16⟩
  | 52 => ⟨S4096x1024, .bf16⟩
  | 53 => ⟨S1x4096x2816, .f32⟩
  | 54 => ⟨S1x4096x2816, .f32⟩
  | 55 => ⟨S2x4096x2816, .f32⟩
  | 56 => ⟨S2x4096x2816, .bf16⟩
  | 57 => ⟨S4096x1024, .bf16⟩
  | 58 => ⟨S1x128, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v17_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v17_1 : Ref sig .tc := ⟨.hbm, 39, rfl⟩
abbrev main_v17_0 : Ref sig .tc := ⟨.hbm, 40, rfl⟩
abbrev main_v18 : Ref sig .tc := ⟨.hbm, 41, rfl⟩
abbrev main_v19 : Ref sig .tc := ⟨.hbm, 42, rfl⟩
abbrev main_cst_3 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_cst_4 : Ref sig .tc := ⟨.hbm, 48, rfl⟩
abbrev main_v24 : Ref sig .tc := ⟨.hbm, 49, rfl⟩
abbrev main_v25 : Ref sig .tc := ⟨.hbm, 50, rfl⟩
abbrev main_cst_5 : Ref sig .tc := ⟨.hbm, 51, rfl⟩
abbrev main_v26 : Ref sig .tc := ⟨.hbm, 52, rfl⟩
abbrev main_v27 : Ref sig .tc := ⟨.hbm, 53, rfl⟩
abbrev main_cst_6 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_cst_7 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_8 : Ref sig .tc := ⟨.hbm, 68, rfl⟩
abbrev main_v40 : Ref sig .tc := ⟨.hbm, 69, rfl⟩
abbrev main_v41 : Ref sig .tc := ⟨.hbm, 70, rfl⟩
abbrev main_cst_9 : Ref sig .tc := ⟨.hbm, 71, rfl⟩
abbrev main_v42 : Ref sig .tc := ⟨.hbm, 72, rfl⟩
abbrev main_cst_10 : Ref sig .tc := ⟨.hbm, 73, rfl⟩
abbrev main_v43 : Ref sig .tc := ⟨.hbm, 74, rfl⟩
abbrev main_v44 : Ref sig .tc := ⟨.hbm, 75, rfl⟩
abbrev main_cst_11 : Ref sig .tc := ⟨.hbm, 76, rfl⟩
abbrev main_v45 : Ref sig .tc := ⟨.hbm, 77, rfl⟩
abbrev main_cst_12 : Ref sig .tc := ⟨.hbm, 78, rfl⟩
abbrev main_v46 : Ref sig .tc := ⟨.hbm, 79, rfl⟩
abbrev main_cst_13 : Ref sig .tc := ⟨.hbm, 80, rfl⟩
abbrev main_cst_14 : Ref sig .tc := ⟨.hbm, 81, rfl⟩
abbrev main_v47 : Ref sig .tc := ⟨.hbm, 82, rfl⟩
abbrev main_v48 : Ref sig .tc := ⟨.hbm, 83, rfl⟩
abbrev main_cst_15 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_cst_16 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_cst_17 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_cst_18 : Ref sig .tc := ⟨.hbm, 102, rfl⟩
abbrev main_v64 : Ref sig .tc := ⟨.hbm, 103, rfl⟩
abbrev main_v65 : Ref sig .tc := ⟨.hbm, 104, rfl⟩
abbrev main_cst_19 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_cst_20 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_call1_v0 : Ref sig .tc := ⟨.hbm, 118, rfl⟩
abbrev main_call1_v1 : Ref sig .tc := ⟨.hbm, 119, rfl⟩
abbrev main_call1_v2 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_cst_21 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_cst_22 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_cst_23 : Ref sig .tc := ⟨.hbm, 139, rfl⟩
abbrev main_v93 : Ref sig .tc := ⟨.hbm, 140, rfl⟩
abbrev main_v94 : Ref sig .tc := ⟨.hbm, 141, rfl⟩
abbrev main_cst_24 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_cst_25 : Ref sig .tc := ⟨.hbm, 150, rfl⟩
abbrev main_v102 : Ref sig .tc := ⟨.hbm, 151, rfl⟩
abbrev main_v103 : Ref sig .tc := ⟨.hbm, 152, rfl⟩
abbrev main_cst_26 : Ref sig .tc := ⟨.hbm, 153, rfl⟩
abbrev main_v104 : Ref sig .tc := ⟨.hbm, 154, rfl⟩
abbrev main_v105 : Ref sig .tc := ⟨.hbm, 155, rfl⟩
abbrev main_cst_27 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_call2_v0 : Ref sig .tc := ⟨.hbm, 165, rfl⟩
abbrev main_call2_v1 : Ref sig .tc := ⟨.hbm, 166, rfl⟩
abbrev main_call2_cst : Ref sig .tc := ⟨.hbm, 167, rfl⟩
abbrev main_call2_v2 : Ref sig .tc := ⟨.hbm, 168, rfl⟩
abbrev main_call2_v3 : Ref sig .tc := ⟨.hbm, 169, rfl⟩
abbrev main_call2_cst_0 : Ref sig .tc := ⟨.hbm, 170, rfl⟩
abbrev main_call2_v4 : Ref sig .tc := ⟨.hbm, 171, rfl⟩
abbrev main_call2_v5 : Ref sig .tc := ⟨.hbm, 172, rfl⟩
abbrev main_v114 : Ref sig .tc := ⟨.hbm, 173, rfl⟩
abbrev main_v115 : Ref sig .tc := ⟨.hbm, 174, rfl⟩
abbrev main_v116 : Ref sig .tc := ⟨.hbm, 175, rfl⟩
abbrev main_v117 : Ref sig .tc := ⟨.hbm, 176, rfl⟩
abbrev main_v118 : Ref sig .tc := ⟨.hbm, 177, rfl⟩
abbrev main_v119 : Ref sig .tc := ⟨.hbm, 178, rfl⟩
abbrev main_v120 : Ref sig .tc := ⟨.hbm, 179, rfl⟩
abbrev main_v121 : Ref sig .tc := ⟨.hbm, 180, rfl⟩
abbrev main_v122 : Ref sig .tc := ⟨.hbm, 181, rfl⟩
abbrev main_v123 : Ref sig .tc := ⟨.hbm, 182, rfl⟩
abbrev main_v124 : Ref sig .tc := ⟨.hbm, 183, rfl⟩
abbrev main_v125 : Ref sig .tc := ⟨.hbm, 184, rfl⟩
abbrev main_v126 : Ref sig .tc := ⟨.hbm, 185, rfl⟩
abbrev main_v127 : Ref sig .tc := ⟨.hbm, 186, rfl⟩

abbrev nD : Nat := 1
abbrev τ : Topo := Topo.v7x

variable {F : FTy → Type} [FloatOps F]
-- ==== Proof.Norm.lean ====
/- Extended reals that are real numbers, and the gradient of the root-mean-square norm in its two spellings: the
   kernels' and the one that differentiating the norm line by line gives. -/
module

public import Idealize.ShloMosaic.PureOps.Ideal
public import Mathlib.Tactic.FieldSimp
public import Mathlib.Tactic.Ring
public import Mathlib.Tactic.Positivity

@[expose] public section

set_option maxRecDepth 16384

noncomputable section

namespace Grad

open Idealize.ShloMosaic

/-- A finite sum of real numbers, taken in the extended reals, is the real sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The quotient of two real numbers, the divisor not zero, is the real quotient. -/
theorem div_real (x : ℝ) {y : ℝ} (h : y ≠ 0) : Ideal.div (x : EReal) (y : EReal) = ((x / y : ℝ) : EReal) := by
  rw [Ideal.div_coe h, ← EReal.coe_mul]; congr 1; ring

/-- The reciprocal square root of a positive real number. -/
theorem rsqrt_real {x : ℝ} (h : 0 < x) : Ideal.rsqrt (x : EReal) = (((Real.sqrt x)⁻¹ : ℝ) : EReal) := by
  rw [Ideal.rsqrt_coe, if_neg (not_lt.mpr h.le), if_neg h.ne']

/-- An extended real whose absolute value is below infinity is a real number. -/
theorem exists_real {x : EReal} (h : max x (-x) < ⊤) : ∃ r : ℝ, x = (r : EReal) := by
  induction x using EReal.rec with
  | bot => simp at h
  | coe r => exact ⟨r, rfl⟩
  | top => simp at h

/-- An array whose entries all are real numbers is one of real numbers. -/
theorem exists_fun {ι : Type*} {f : ι → EReal} (h : ∀ i, ∃ r : ℝ, f i = (r : EReal)) : ∃ g : ι → ℝ, f = fun i => (g i : EReal) :=
  ⟨fun i => (h i).choose, funext fun i => (h i).choose_spec⟩

/-- The property of being a real number. -/
def IsR (x : EReal) : Prop := ∃ r : ℝ, x = (r : EReal)

theorem IsR.coe (r : ℝ) : IsR (r : EReal) := ⟨r, rfl⟩
theorem IsR.zero : IsR 0 := ⟨0, rfl⟩
theorem IsR.add {x y : EReal} : IsR x → IsR y → IsR (x + y) := by rintro ⟨a, rfl⟩ ⟨b, rfl⟩; exact ⟨a + b, by push_cast; rfl⟩
theorem IsR.sub {x y : EReal} : IsR x → IsR y → IsR (x - y) := by rintro ⟨a, rfl⟩ ⟨b, rfl⟩; exact ⟨a - b, by push_cast; rfl⟩
theorem IsR.mul {x y : EReal} : IsR x → IsR y → IsR (x * y) := by rintro ⟨a, rfl⟩ ⟨b, rfl⟩; exact ⟨a * b, by push_cast; rfl⟩
theorem IsR.neg {x : EReal} : IsR x → IsR (-x) := by rintro ⟨a, rfl⟩; exact ⟨-a, by push_cast; rfl⟩
theorem IsR.cos {x : EReal} : IsR x → IsR (Ideal.cos x) := by rintro ⟨a, rfl⟩; exact ⟨Real.cos a, rfl⟩
theorem IsR.sin {x : EReal} : IsR x → IsR (Ideal.sin x) := by rintro ⟨a, rfl⟩; exact ⟨Real.sin a, rfl⟩
theorem IsR.exp {x : EReal} : IsR x → IsR (Ideal.exp x) := by rintro ⟨a, rfl⟩; exact ⟨Real.exp a, rfl⟩
theorem IsR.sum {ι : Type*} (s : Finset ι) {f : ι → EReal} (h : ∀ i ∈ s, IsR (f i)) : IsR (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-! ## The norm's gradient -/

variable {n : ℕ}

/-- The row's reciprocal root mean square. -/
def rinv (N e : EReal) (x : Fin n → EReal) : EReal := Ideal.rsqrt (Ideal.div (∑ k, x k * x k) N + e)

/-- The gradient of the norm's input, as the kernels spell it: one mean of the products with the normalized row. -/
def normDx (N e : EReal) (x dn g : Fin n → EReal) (j : Fin n) : EReal :=
  rinv N e x * (dn j * g j - x j * rinv N e x * Ideal.div (∑ k, dn k * g k * (x k * rinv N e x)) N)

/-- What the mean of the squares receives, differentiating line by line. -/
def meanGrad (N e h : EReal) (x dn g : Fin n → EReal) : EReal :=
  Ideal.div ((∑ k, x k * (dn k * g k)) * (h * Ideal.div (rinv N e x) (Ideal.div (∑ k, x k * x k) N + e))) N

/-- The gradient of the norm's input, differentiating line by line: the product with the reciprocal root, and both
    factors of the square. -/
def normDxLines (N e h : EReal) (x dn g : Fin n → EReal) (j : Fin n) : EReal :=
  dn j * g j * rinv N e x + x j * meanGrad N e h x dn g + meanGrad N e h x dn g * x j

theorem rinv_real {N e : ℝ} (hN : 0 < N) (he : 0 < e) (x : Fin n → ℝ) :
    rinv (N : EReal) (e : EReal) (fun k => (x k : EReal)) = (((Real.sqrt ((∑ k, x k * x k) / N + e))⁻¹ : ℝ) : EReal) := by
  have h0 : 0 < (∑ k, x k * x k) / N + e :=
    add_pos_of_nonneg_of_pos (div_nonneg (Finset.sum_nonneg fun k _ => mul_self_nonneg _) hN.le) he
  rw [rinv, ← rsqrt_real h0]
  simp only [← EReal.coe_mul, ← coe_sum, div_real _ hN.ne', ← EReal.coe_add]

/-- A row of real numbers has a real reciprocal root mean square. -/
theorem IsR.rinv {N e : ℝ} (hN : 0 < N) (he : 0 < e) {x : Fin n → EReal} (hx : ∀ k, IsR (x k)) : IsR (rinv N e x) := by
  obtain ⟨x, rfl⟩ := exists_fun hx
  rw [rinv_real hN he]; exact ⟨_, rfl⟩

/-- The two spellings agree on rows of real numbers. -/
theorem normDx_eq {N e : ℝ} (hN : 0 < N) (he : 0 < e) {x dn g : Fin n → EReal} (hx : ∀ k, IsR (x k)) (hd : ∀ k, IsR (dn k))
    (hg : ∀ k, IsR (g k)) (j : Fin n) :
    normDx (N : EReal) (e : EReal) x dn g j = normDxLines (N : EReal) (e : EReal) (((-1 / 2 : ℝ)) : EReal) x dn g j := by
  obtain ⟨x, rfl⟩ := exists_fun hx
  obtain ⟨dn, rfl⟩ := exists_fun hd
  obtain ⟨g, rfl⟩ := exists_fun hg
  have h0 : 0 < (∑ k, x k * x k) / N + e :=
    add_pos_of_nonneg_of_pos (div_nonneg (Finset.sum_nonneg fun k _ => mul_self_nonneg _) hN.le) he
  unfold normDx normDxLines meanGrad
  rw [rinv_real hN he]
  simp only [← EReal.coe_mul, ← coe_sum, div_real _ hN.ne', ← EReal.coe_add, div_real _ h0.ne', ← EReal.coe_sub]
  congr 1
  generalize hM : (∑ k, x k * x k) / N + e = M at *
  have hs : Real.sqrt M * Real.sqrt M = M := Real.mul_self_sqrt h0.le
  have hs0 : 0 < Real.sqrt M := Real.sqrt_pos.mpr h0
  generalize Real.sqrt M = s at *
  have e1 : ∑ k, dn k * g k * (x k * s⁻¹) = s⁻¹ * ∑ k, x k * (dn k * g k) := by
    rw [Finset.mul_sum]; exact Finset.sum_congr rfl fun k _ => by ring
  rw [e1]
  generalize ∑ k, x k * (dn k * g k) = T
  subst hs
  field_simp
  ring

end Grad

end
-- ==== Proof.Lits.lean ====
/- The float literals of the programs, read as the real numbers they are. -/
module

public import Idealize.ShloMosaic.PureOps.Ideal
public import Mathlib.Tactic.NormNum

@[expose] public section

noncomputable section

namespace Grad

open Idealize.ShloMosaic

/-- The norm's epsilon: the f32 nearest 1e-6. -/
def epsR : ℝ := 8796093 / 2 ^ 43

theorem epsR_pos : 0 < epsR := by unfold epsR; norm_num

theorem lit_128 : Ideal.ofBits .f32 0x43000000#32 = ((128 : ℝ) : EReal) := by
  simp [Ideal.ofBits, Ideal.ieee, -EReal.coe_mul]; norm_num
theorem lit_1024 : Ideal.ofBits .f32 0x44800000#32 = ((1024 : ℝ) : EReal) := by
  simp [Ideal.ofBits, Ideal.ieee, -EReal.coe_mul]; norm_num
theorem lit_neg_half : Ideal.ofBits .f32 0xBF000000#32 = ((-1 / 2 : ℝ) : EReal) := by
  simp [Ideal.ofBits, Ideal.ieee, -EReal.coe_mul]; norm_num
theorem lit_32 : Ideal.ofBits .f32 0x42000000#32 = ((32 : ℝ) : EReal) := by
  simp [Ideal.ofBits, Ideal.ieee, -EReal.coe_mul]; norm_num
theorem lit_10000 : Ideal.ofBits .f32 0x461C4000#32 = ((10000 : ℝ) : EReal) := by
  simp [Ideal.ofBits, Ideal.ieee, -EReal.coe_mul]; norm_num
theorem lit_eps : Ideal.ofBits .f32 0x358637BD#32 = ((epsR : ℝ) : EReal) := by
  simp [Ideal.ofBits, Ideal.ieee, epsR, -EReal.coe_mul]; norm_num
theorem lit_inf : Ideal.ofBits .f32 0x7F800000#32 = ⊤ := by
  simp [Ideal.ofBits, Ideal.ieee]

end Grad

end
-- ==== Proof.Rope.lean ====
/- The rotary embedding's angles, and a gradient turned back by them in its two spellings: the kernels' (the lanes of a
   pair swapped by two rotations of the row) and the one that differentiating the embedding gives. -/
module

public import proofs.«01_k».proof.Proof.Norm
public import proofs.«01_k».proof.Proof.Lits
public import Idealize.ShloMosaic.Lib.Pointwise

@[expose] public section

set_option maxRecDepth 16384

noncomputable section

namespace Grad

open Idealize.ShloMosaic

/-- The word that is one on the even lanes, as the printed remainder test computes it. -/
abbrev parityWord (q : ℕ) : BitVec 1 :=
  IntOp.cmpi CmpIPredicate.eq
    (Scalar.select
      (IntOp.andi
        (IntOp.xori
          (IntOp.cmpi CmpIPredicate.slt (IntOp.remsi ArithUnit.vector (BitVec.ofNat 32 q) (Scalar.select (Scalar.cmpi CmpIPredicate.eq 2#32 0#32) 1#32 2#32)) 0#32)
          (Scalar.cmpi CmpIPredicate.slt (Scalar.select (Scalar.cmpi CmpIPredicate.eq 2#32 0#32) 1#32 2#32) 0#32))
        (IntOp.cmpi CmpIPredicate.ne (IntOp.remsi ArithUnit.vector (BitVec.ofNat 32 q) (Scalar.select (Scalar.cmpi CmpIPredicate.eq 2#32 0#32) 1#32 2#32)) 0#32))
      (IntOp.addi (IntOp.remsi ArithUnit.vector (BitVec.ofNat 32 q) (Scalar.select (Scalar.cmpi CmpIPredicate.eq 2#32 0#32) 1#32 2#32)) (Scalar.select (Scalar.cmpi CmpIPredicate.eq 2#32 0#32) 1#32 2#32))
      (IntOp.remsi ArithUnit.vector (BitVec.ofNat 32 q) (Scalar.select (Scalar.cmpi CmpIPredicate.eq 2#32 0#32) 1#32 2#32)))
    0#32

theorem parityWord_eq (q : Fin 128) : parityWord q = if q.val % 2 = 0 then 1#1 else 0#1 := by revert q; decide +kernel

theorem select_parity (q : Fin 128) (a b : EReal) : Scalar.select (parityWord q) a b = if q.val % 2 = 0 then a else b := by
  rw [parityWord_eq]; split <;> simp [Scalar.select]

/-- The gradient of one head's row turned back, as the kernels spell it. -/
def rotBack (c s d : Fin 128 → EReal) (q : Fin 128) : EReal :=
  d q * c q + Scalar.select (parityWord q)
    (d ⟨(q.val + 128 - 127) % 128, Nat.mod_lt _ (by decide)⟩ * s ⟨(q.val + 128 - 127) % 128, Nat.mod_lt _ (by decide)⟩)
    (d ⟨(q.val + 128 - 1) % 128, Nat.mod_lt _ (by decide)⟩ * s ⟨(q.val + 128 - 1) % 128, Nat.mod_lt _ (by decide)⟩)

/-- The angle of a token (its row and column of the grid of 64 columns) and a pair of lanes. -/
def ang (s p : ℕ) : EReal :=
  if h : p < 32 then
    (FloatOps.sitofp FTy.f32 (BitVec.ofNat 32 (s / 64)) : Ideal .f32) *
      Ideal.pow (Ideal.ofBits FTy.f32 1176256512#32) (Ideal.div (-(FloatOps.sitofp FTy.f32 (BitVec.ofNat 32 p) : Ideal .f32)) (Ideal.ofBits FTy.f32 1107296256#32))
  else
    (FloatOps.sitofp FTy.f32 (BitVec.ofNat 32 (s % 64)) : Ideal .f32) *
      Ideal.pow (Ideal.ofBits FTy.f32 1176256512#32) (Ideal.div (-(FloatOps.sitofp FTy.f32 (BitVec.ofNat 32 (p - 32)) : Ideal .f32)) (Ideal.ofBits FTy.f32 1107296256#32))

theorem ang_real (s p : ℕ) : IsR (ang s p) := by
  have key : ∀ a b : BitVec 32, IsR ((FloatOps.sitofp FTy.f32 a : Ideal .f32) *
      Ideal.pow (Ideal.ofBits FTy.f32 1176256512#32) (Ideal.div (-(FloatOps.sitofp FTy.f32 b : Ideal .f32)) (Ideal.ofBits FTy.f32 1107296256#32))) := by
    intro a b
    refine IsR.mul ⟨(a.toInt : ℝ), rfl⟩ ?_
    rw [show Ideal.ofBits FTy.f32 1176256512#32 = ((10000 : ℝ) : EReal) from lit_10000,
      show Ideal.ofBits FTy.f32 1107296256#32 = ((32 : ℝ) : EReal) from lit_32,
      show (-(FloatOps.sitofp FTy.f32 b : Ideal .f32)) = ((-(b.toInt : ℝ) : ℝ) : EReal) from rfl, div_real _ (by norm_num)]
    exact ⟨_, rfl⟩
  unfold ang; split <;> exact key _ _

/-- The cosine and the signed sine of a row, both spread over the lanes. -/
def cosRow (s : ℕ) (q : Fin 128) : EReal := Ideal.cos (ang s (q.val / 2))
def sinRow (s : ℕ) (q : Fin 128) : EReal := if h : q.val % 2 < 1 then -Ideal.sin (ang s (q.val / 2)) else Ideal.sin (ang s (q.val / 2))

/-- The gradient of one head's row turned back, differentiating the embedding: an even lane receives the odd one's times
    the sine and its own times the cosine; an odd lane its own times the cosine and the negated even one's times the sine. -/
def rotBackLines (s : ℕ) (d : Fin 128 → EReal) (q : Fin 128) : EReal :=
  if q.val % 2 = 0 then d ⟨(q.val + 1) % 128, Nat.mod_lt _ (by decide)⟩ * Ideal.sin (ang s (q.val / 2)) + d q * Ideal.cos (ang s (q.val / 2))
  else d q * Ideal.cos (ang s (q.val / 2)) + -(d ⟨q.val - 1, by omega⟩) * Ideal.sin (ang s (q.val / 2))

theorem rotBack_eq (s : ℕ) (d : Fin 128 → EReal) (q : Fin 128) : rotBack (cosRow s) (sinRow s) d q = rotBackLines s d q := by
  unfold rotBack rotBackLines
  rw [select_parity]
  have hq := q.isLt
  split
  · rename_i h
    have e : (⟨(q.val + 128 - 127) % 128, Nat.mod_lt _ (by decide)⟩ : Fin 128) = ⟨(q.val + 1) % 128, Nat.mod_lt _ (by decide)⟩ := by
      apply Fin.ext; show (q.val + 128 - 127) % 128 = (q.val + 1) % 128; congr 1
    rw [e, add_comm]
    unfold cosRow sinRow
    rw [dif_neg (by show ¬ (q.val + 1) % 128 % 2 < 1; omega)]
    rw [show ((⟨(q.val + 1) % 128, Nat.mod_lt _ (by decide)⟩ : Fin 128).val / 2) = q.val / 2 from by show (q.val + 1) % 128 / 2 = q.val / 2; omega]
  · rename_i h
    have e : (⟨(q.val + 128 - 1) % 128, Nat.mod_lt _ (by decide)⟩ : Fin 128) = ⟨q.val - 1, by omega⟩ := by
      apply Fin.ext; show (q.val + 128 - 1) % 128 = q.val - 1; omega
    rw [e]
    unfold cosRow sinRow
    rw [dif_pos (by show (q.val - 1) % 2 < 1; omega)]
    rw [show ((⟨q.val - 1, by omega⟩ : Fin 128).val / 2) = q.val / 2 from by show (q.val - 1) / 2 = q.val / 2; omega]
    rw [mul_neg, neg_mul]

theorem rotBackLines_real (s : ℕ) {d : Fin 128 → EReal} (hd : ∀ k, IsR (d k)) (q : Fin 128) : IsR (rotBackLines s d q) := by
  unfold rotBackLines
  have hc := (ang_real s (q.val / 2)).cos
  have hs := (ang_real s (q.val / 2)).sin
  split
  · exact ((hd _).mul hs).add ((hd _).mul hc)
  · exact ((hd _).mul hc).add ((hd _).neg.mul hs)

end Grad

end
-- ==== Proof.KPrepKernel.lean ====
/- The kernel of the keys' norm and rotary gradient, read at an index: every block it writes and the gain's accumulated
   gradient, in terms of the arguments. -/
module

public import proofs.«01_k».proof.Proof.Rope
public import proofs.«01_k».proof.Proof.Gen.KPrepIdeal.Value
public import Idealize.ShloMosaic.Lib.Pipeline.ValueKit
public import Idealize.ShloMosaic.Lib.StableHlo.ReadAt
public import Idealize.ShloMosaic.Lib.Pointwise

@[expose] public section

set_option maxRecDepth 16384

noncomputable section

namespace Cert.KPrepIdeal.Value

open Cert.KPrepIdeal Cert.KPrepIdeal.Gen Idealize.ShloMosaic Idealize.ShloMosaic.TcCoe Idealize.SL.Sem

/-- The divisor of the means and the norm's epsilon, as the program's words. -/
abbrev N128 : EReal := Ideal.ofBits FTy.f32 1124073472#32
abbrev epsW : EReal := Ideal.ofBits FTy.f32 897988541#32

/-- What one head's lanes of the input's gradient block hold. -/
abbrev dxRow (x : Fin 128 → EReal) (c s d g : Fin 128 → EReal) (q : Fin 128) : EReal :=
  Grad.normDx N128 epsW x (Grad.rotBack c s d) g q
/-- What one head's row adds to the gain's gradient. -/
abbrev dgRow (x : Fin 128 → EReal) (c s d : Fin 128 → EReal) (q : Fin 128) : EReal :=
  Grad.rotBack c s d q * (x q * Grad.rinv N128 epsW x)

theorem pay14_apply (v2 v4 v10 : Vec Ideal S256x128 .f32) (v6 : Vec Ideal S1x128 .f32) (v8 : Vec Ideal S256x128 .bf16) (p : Fin 256) (q : Fin 128) :
    k0_pay14 (F := Ideal) v6 (k0_pay5 v8) (k0_pay6 v2 v10) k0_pay8 (k0_pay9 v4 v10) (k0_pay10 v4 v10) (ix2 p q)
      = dxRow (fun k => v8 (ix2 p k)) (fun k => v2 (ix2 p k)) (fun k => v4 (ix2 p k)) (fun k => v10 (ix2 p k)) (fun k => v6 (ix2 0 k)) q := by
  pointwise [k0_pay14, k0_pay5, k0_pay6, k0_pay8, k0_pay9, k0_pay10, k0_pay2, k0_pay3, k0_pay7, k0_pay11, k0_pay12, k0_pay13]
  rfl

theorem pay24_apply (v2 v4 v10 : Vec Ideal S256x128 .f32) (v6 : Vec Ideal S1x128 .f32) (v8 : Vec Ideal S256x128 .bf16) (p : Fin 256) (q : Fin 128) :
    k0_pay24 (F := Ideal) v6 (k0_pay16 v8) (k0_pay17 (k0_pay2 v2) v10) (k0_pay18 (k0_pay3 v4) v10) (2#32) k0_pay19 k0_pay20 0#32 (ix2 p q)
      = dxRow (fun k => v8 (ix2 p k)) (fun k => v2 (ix2 p k)) (fun k => v4 (ix2 p k)) (fun k => v10 (ix2 p k)) (fun k => v6 (ix2 0 k)) q := by
  pointwise [k0_pay24, k0_pay16, k0_pay17, k0_pay18, k0_pay19, k0_pay20, k0_pay21, k0_pay22, k0_pay23, k0_pay2, k0_pay3]
  rfl

theorem payG_apply (v2 v4 v10 w10 : Vec Ideal S256x128 .f32) (v8 w8 : Vec Ideal S256x128 .bf16) (q : Fin 128) :
    k0_pay25 (F := Ideal) (k0_pay15 k0_pay4 (k0_pay5 v8) (k0_pay6 v2 v10) k0_pay8 (k0_pay9 v4 v10) (k0_pay10 v4 v10))
        (k0_pay16 w8) (k0_pay17 (k0_pay2 v2) w10) (k0_pay18 (k0_pay3 v4) w10) (2#32) k0_pay19 k0_pay20 0#32 (ix2 0 q)
      = 0 + (∑ p : Fin 256, dgRow (fun k => v8 (ix2 p k)) (fun k => v2 (ix2 p k)) (fun k => v4 (ix2 p k)) (fun k => v10 (ix2 p k)) q)
        + ∑ p : Fin 256, dgRow (fun k => w8 (ix2 p k)) (fun k => v2 (ix2 p k)) (fun k => v4 (ix2 p k)) (fun k => w10 (ix2 p k)) q := by
  pointwise [k0_pay25, k0_pay15, k0_pay4, k0_pay5, k0_pay6, k0_pay8, k0_pay9, k0_pay10, k0_pay2, k0_pay3, k0_pay7, k0_pay11, k0_pay12, k0_pay13, k0_pay16, k0_pay17, k0_pay18, k0_pay19, k0_pay20, k0_pay21, k0_pay22, k0_pay23]
  rfl

theorem payA_apply (v w : Vec Ideal S1x128 .f32) (q : Fin 128) : k0_pay1 (F := Ideal) v w (ix2 0 q) = w (ix2 0 q) + v (ix2 0 q) := by
  pointwise [k0_pay1]

/-! ## The arrays -/

variable (m : (ℓ : Loc nD τ sig) → Buf (Elt Ideal) ℓ) (c : Dev nD)

/-- The arguments, at their coordinates. -/
abbrev dk (s : Fin 4096) (j : Fin 256) : EReal := (show S4096x256.Idx → EReal from m ((c : Thread nD τ).loc main_arg0)) (ix2 s j)
abbrev pr (s : Fin 4096) (j : Fin 8192) : EReal := (show S4096x8192.Idx → EReal from m ((c : Thread nD τ).loc main_arg1)) (ix2 s j)
abbrev gn (j : Fin 128) : EReal := (show S1x128.Idx → EReal from m ((c : Thread nD τ).loc main_arg2)) (ix2 0 j)
abbrev dv (s : Fin 4096) (j : Fin 256) : EReal := (show S4096x256.Idx → EReal from m ((c : Thread nD τ).loc main_arg3)) (ix2 s j)

theorem cosT (s : Fin 4096) (q : Fin 128) : (show S4096x128.Idx → EReal from V m c main_v27) (ix2 s q) = Grad.cosRow s.val q := by
  unfold V
  after_reads_at
  after_reads_at
  rfl

theorem sinT (s : Fin 4096) (q : Fin 128) : (show S4096x128.Idx → EReal from V m c main_v32) (ix2 s q) = Grad.sinRow s.val q := by
  unfold V
  after_reads_at
  after_reads_at
  after_reads_at
  rfl

theorem idxs : ∀ t : Fin grid0.N, win0_0.index t = ![t.val, 0] ∧ win0_1.index t = ![t.val, 22] ∧ win0_2.index t = ![0, 0] ∧ win0_3.index t = ![t.val, 0] ∧ win0_4.index t = ![t.val, 0] ∧ win0_5.index t = ![t.val, 0] ∧ win0_6.index t = ![t.val, 0] ∧ win0_7.index t = ![0, 0] := by decide +kernel

/-- The row of the projection that the norm of head `h` reads, and of the gradient. -/
abbrev xrow (s : Fin 4096) (h : Fin 2) (k : Fin 128) : EReal := pr m c s ⟨5632 + h.val * 128 + k.val, by omega⟩
abbrev drow (s : Fin 4096) (h : Fin 2) (k : Fin 128) : EReal := dk m c s ⟨h.val * 128 + k.val, by omega⟩

/-- The input's gradient, head by head. -/
def dxAt (s : Fin 4096) (h : Fin 2) (q : Fin 128) : EReal :=
  dxRow (xrow m c s h) (Grad.cosRow s.val) (Grad.sinRow s.val) (drow m c s h) (gn m c) q

/-- The first result: the two heads' gradients, then the values' gradient. -/
def G6 : S4096x512.Idx → EReal := fun i =>
  if h : (i 1).val < 256 then dxAt m c (i 0) ⟨(i 1).val / 128, by omega⟩ ⟨(i 1).val % 128, by omega⟩
  else dv m c (i 0) ⟨(i 1).val - 256, by have := (i 1).isLt; have : (i 1).val < 512 := this; omega⟩

/-- The array row of a block's row. -/
def rowOf (t : Fin cfg0.N) (p : Fin 256) : Fin 4096 := ⟨t.val * 256 + p.val, by have := t.isLt; have hN : cfg0.N = 16 := N_0; omega⟩

/-- What one head's row adds to the gain's gradient. -/
def dgAt (s : Fin 4096) (h : Fin 2) (q : Fin 128) : EReal :=
  dgRow (xrow m c s h) (Grad.cosRow s.val) (Grad.sinRow s.val) (drow m c s h) q

/-- The second result: the gain's gradient. -/
def G7 : S1x128.Idx → EReal := fun i =>
  0 + ∑ t : Fin cfg0.N, ((∑ p : Fin 256, dgAt m c (rowOf t p) 0 (i 1)) + ∑ p : Fin 256, dgAt m c (rowOf t p) 1 (i 1))

theorem blk0 (t : Fin cfg0.N) (p : Fin 256) (q : Fin 256) (hs : t.val * 256 + p.val < 4096) : (show S256x256.Idx → EReal from iblk m c 0 t) (ix2 p q) = dk m c ⟨t.val * 256 + p.val, hs⟩ q := by
  blk_ext [iblk, V_main_arg0, idxs t]

theorem blk1 (t : Fin cfg0.N) (p : Fin 256) (q : Fin 256) (hs : t.val * 256 + p.val < 4096) : (show S256x256.Idx → EReal from iblk m c 1 t) (ix2 p q) = pr m c ⟨t.val * 256 + p.val, hs⟩ ⟨5632 + q.val, by omega⟩ := by
  blk_ext [iblk, V_main_arg1, idxs t]

theorem blk2 (t : Fin cfg0.N) (q : Fin 128) : (show S1x128.Idx → EReal from iblk m c 2 t) (ix2 0 q) = gn m c q := by
  blk_ext [iblk, V_main_arg2, idxs t]

theorem blk3 (t : Fin cfg0.N) (p : Fin 256) (q : Fin 128) : (show S256x128.Idx → EReal from iblk m c 3 t) (ix2 p q) = Grad.cosRow (t.val * 256 + p.val) q := by
  have hs : t.val * 256 + p.val < 4096 := by have := t.isLt; have hN : cfg0.N = 16 := N_0; omega
  rw [← cosT m c ⟨t.val * 256 + p.val, hs⟩ q]
  blk_ext [iblk, idxs t]

theorem blk4 (t : Fin cfg0.N) (p : Fin 256) (q : Fin 128) : (show S256x128.Idx → EReal from iblk m c 4 t) (ix2 p q) = Grad.sinRow (t.val * 256 + p.val) q := by
  have hs : t.val * 256 + p.val < 4096 := by have := t.isLt; have hN : cfg0.N = 16 := N_0; omega
  rw [← sinT m c ⟨t.val * 256 + p.val, hs⟩ q]
  blk_ext [iblk, idxs t]

theorem blk5 (t : Fin cfg0.N) (p : Fin 256) (q : Fin 256) (hs : t.val * 256 + p.val < 4096) : (show S256x256.Idx → EReal from iblk m c 5 t) (ix2 p q) = dv m c ⟨t.val * 256 + p.val, hs⟩ q := by
  blk_ext [iblk, V_main_arg3, idxs t]

/-- Head `h`'s rows of a point's blocks are rows of the arrays. -/
theorem xblk (t : Fin cfg0.N) (p : Fin 256) (h : Fin 2) (k : Fin 128) : (show S256x256.Idx → EReal from iblk m c 1 t) (ix2 p ⟨h.val * 128 + k.val, by omega⟩) = xrow m c (rowOf t p) h k := by
  refine (blk1 m c t p _ (rowOf t p).isLt).trans ?_
  show pr m c _ _ = pr m c _ _
  congr 1; apply Fin.ext; show 5632 + (h.val * 128 + k.val) = 5632 + h.val * 128 + k.val; omega

theorem dblk (t : Fin cfg0.N) (p : Fin 256) (h : Fin 2) (k : Fin 128) : (show S256x256.Idx → EReal from iblk m c 0 t) (ix2 p ⟨h.val * 128 + k.val, by omega⟩) = drow m c (rowOf t p) h k :=
  blk0 m c t p _ (rowOf t p).isLt

/-- The two windows of 128 lanes that the body loads of a block of 256. -/
abbrev win {α : Type} (h : Fin 2) (X : S256x256.Idx → α) : S256x128.Idx → α := fun j => X (ix2 (j 0) ⟨h.val * 128 + (j 1).val, by have := (j 1).isLt; have : (j 1).val < 128 := this; omega⟩)

theorem ld_win0 {e : EltTy} (X : S256x256.Idx → Elt Ideal e) : View.ld X (Rect.unit ![0, 0] ![256, 128] inb_S256x256_S256x128_0_0) = win 0 X := by
  funext j
  refine congrArg X (funext fun a => Fin.ext ?_)
  match a with
  | ⟨0, _⟩ => show 0 + 1 * (j 0).val = (j 0).val; omega
  | ⟨1, _⟩ => show 0 + 1 * (j 1).val = 0 * 128 + (j 1).val; omega
theorem ld_win1 {e : EltTy} (X : S256x256.Idx → Elt Ideal e) : View.ld X (Rect.unit ![0, 128] ![256, 128] inb_S256x256_S256x128_0_128) = win 1 X := by
  funext j
  refine congrArg X (funext fun a => Fin.ext ?_)
  match a with
  | ⟨0, _⟩ => show 0 + 1 * (j 0).val = (j 0).val; omega
  | ⟨1, _⟩ => show 128 + 1 * (j 1).val = 1 * 128 + (j 1).val; omega

theorem dx_blk (t : Fin cfg0.N) (p : Fin 256) (h : Fin 2) (q : Fin 128) :
    dxRow (fun k => win h (iblk m c 1 t) (ix2 p k)) (fun k => (show S256x128.Idx → EReal from iblk m c 3 t) (ix2 p k))
      (fun k => (show S256x128.Idx → EReal from iblk m c 4 t) (ix2 p k)) (fun k => win h (iblk m c 0 t) (ix2 p k))
      (fun k => (show S1x128.Idx → EReal from iblk m c 2 t) (ix2 0 k)) q = dxAt m c (rowOf t p) h q := by
  unfold dxAt
  rw [funext (blk3 m c t p), funext (blk4 m c t p), funext (blk2 m c t)]
  rw [show (fun k => win h (iblk m c 1 t) (ix2 p k)) = xrow m c (rowOf t p) h from funext (xblk m c t p h),
    show (fun k => win h (iblk m c 0 t) (ix2 p k)) = drow m c (rowOf t p) h from funext (dblk m c t p h)]
  rfl

theorem dg_blk (t : Fin cfg0.N) (p : Fin 256) (h : Fin 2) (q : Fin 128) :
    dgRow (fun k => win h (iblk m c 1 t) (ix2 p k)) (fun k => (show S256x128.Idx → EReal from iblk m c 3 t) (ix2 p k))
      (fun k => (show S256x128.Idx → EReal from iblk m c 4 t) (ix2 p k)) (fun k => win h (iblk m c 0 t) (ix2 p k)) q = dgAt m c (rowOf t p) h q := by
  unfold dgAt
  rw [funext (blk3 m c t p), funext (blk4 m c t p)]
  rw [show (fun k => win h (iblk m c 1 t) (ix2 p k)) = xrow m c (rowOf t p) h from funext (xblk m c t p h),
    show (fun k => win h (iblk m c 0 t) (ix2 p k)) = drow m c (rowOf t p) h from funext (dblk m c t p h)]
  rfl

theorem idx6 : ∀ t : Fin grid0.N, win0_6.index t = ![t.val, 0] := by decide +kernel

theorem G6_dx (s : Fin 4096) (h : Fin 2) (q : Fin 128) (j : Fin 512) (hj : j.val = h.val * 128 + q.val) : G6 m c (ix2 s j) = dxAt m c s h q := by
  have hh := h.isLt
  have hq := q.isLt
  refine (dif_pos (show j.val < 256 by omega)).trans ?_
  congr 1
  · apply Fin.ext; show j.val / 128 = h.val; omega
  · apply Fin.ext; show j.val % 128 = q.val; omega

theorem G6_dv (s : Fin 4096) (q : Fin 256) (j : Fin 512) (hj : j.val = 256 + q.val) : G6 m c (ix2 s j) = dv m c s q := by
  refine (dif_neg (show ¬ j.val < 256 by omega)).trans ?_
  congr 1
  apply Fin.ext; show j.val - 256 = q.val; omega

theorem cover6 (w0 w1 : S256x128.Idx → EReal) (w2 : S256x256.Idx → EReal) (y : S256x512.Idx) : ∃ p ∈ ([⟨Rect.unit ![0, 128] ![256, 128] inb_S256x512_S256x128_0_128, w0⟩, ⟨Rect.unit ![0, 0] ![256, 128] inb_S256x512_S256x128_0_0, w1⟩, ⟨Rect.unit ![0, 256] ![256, 256] inb_S256x512_S256x256_0_256, w2⟩] : List (View.Piece (Elt Ideal) S256x512 .bf16)), y ∈ p.1.set :=
  View.cover_of_tiledBy _ ![256, 128] (by sl_kernel_rfl) y

/-- The block of the first result, from its three stores. -/
theorem canon6 (t : Fin cfg0.N) (y : S256x512.Idx) (w0 w1 : S256x128.Idx → EReal) (w2 : S256x256.Idx → EReal)
    (g0 : ∀ (p : Fin 256) (q : Fin 128), w0 (ix2 p q) = dxAt m c (rowOf t p) 1 q) (g1 : ∀ (p : Fin 256) (q : Fin 128), w1 (ix2 p q) = dxAt m c (rowOf t p) 0 q)
    (g2 : ∀ (p : Fin 256) (q : Fin 256), w2 (ix2 p q) = dv m c (rowOf t p) q) :
    View.canon ([⟨Rect.unit ![0, 128] ![256, 128] inb_S256x512_S256x128_0_128, w0⟩, ⟨Rect.unit ![0, 0] ![256, 128] inb_S256x512_S256x128_0_0, w1⟩, ⟨Rect.unit ![0, 256] ![256, 256] inb_S256x512_S256x256_0_256, w2⟩] : List (View.Piece (Elt Ideal) S256x512 .bf16)) y
      = G6 m c (ix2 (rowOf t (y 0)) (y 1)) := by
  idx_vars y
  canon_tiles x h using (cover6 w0 w1 w2 _)
  all_goals idx_vars x
  · obtain rfl : y0 = x0 := Fin.ext h0
    rw [g0]
    exact (G6_dx m c _ 1 x1 _ (h1.trans (by show 128 + x1.val = 1 * 128 + x1.val; omega))).symm
  · obtain rfl : y0 = x0 := Fin.ext h0
    rw [g1]
    exact (G6_dx m c _ 0 x1 _ (h1.trans (by show x1.val = 0 * 128 + x1.val; omega))).symm
  · obtain rfl : y0 = x0 := Fin.ext h0
    rw [g2]
    exact (G6_dv m c _ x1 _ h1).symm

theorem final6 : (dats m 0 c).arrAt 6 cfg0.N = G6 m c := by
  refine (dats m 0 c).arrAt_eq_of_covers 6 _ (by decide +kernel) fun t hf y => ?_
  have hN : cfg0.N = 16 := N_0
  have e : ((cfg0.win 6).blk t).view.emb y = (ix2 (rowOf t (y 0)) (y 1) : S4096x512.Idx) := by
    funext a
    apply Fin.ext
    match a with
    | ⟨0, _⟩ => show (win0_6.index t 0) * 256 + 1 * (y 0).val = t.val * 256 + (y 0).val; rw [idx6 t]; simp
    | ⟨1, _⟩ => show (win0_6.index t 1) * 512 + 1 * (y 1).val = (y 1).val; rw [idx6 t]; simp
  rw [e]
  blk_simp
  rw [after0_6]
  by_cases h : t.val % 16 = 0
  · have h1 : ¬1 ≤ t.val := by have : t.val < cfg0.N := t.isLt; omega
    rw [outsAt0_A m c t h h1]
    frame_out
    simp only [ld_win0, ld_win1]
    exact canon6 m c t _ _ _ _ (fun p q => (pay24_apply _ _ _ _ _ p q).trans (dx_blk m c t p 1 q)) (fun p q => (pay14_apply _ _ _ _ _ p q).trans (dx_blk m c t p 0 q)) (fun p q => blk5 m c t p q _)
  · have h1 : 1 ≤ t.val := by omega
    rw [outsAt0_B m c t h h1]
    frame_out
    simp only [ld_win0, ld_win1]
    exact canon6 m c t _ _ _ _ (fun p q => (pay24_apply _ _ _ _ _ p q).trans (dx_blk m c t p 1 q)) (fun p q => (pay14_apply _ _ _ _ _ p q).trans (dx_blk m c t p 0 q)) (fun p q => blk5 m c t p q _)

theorem final7 : (dats m 0 c).arrAt 7 cfg0.N = G7 m c := by
  refine (dats m 0 c).arrAt_eq_of_after_last 7 t0_15 (by decide +kernel) _ fun j => ?_
  blk_simp
  rw [after0_7]
  have hN : cfg0.N = 16 := N_0
  refine Eq.trans (Pipeline.eq_sum_fin_of_reset_step_apply_last (fun n h => ((outsAt0 m c n h).2 : S1x128.Idx → EReal)) 16 (fun _ => (0 : EReal))
    (fun t j => (∑ p : Fin 256, dgAt m c (rowOf t p) 0 (j 1)) + ∑ p : Fin 256, dgAt m c (rowOf t p) 1 (j 1)) (fun t h j => ?_) (fun t h j => ?_) N_0.le t0_15 rfl j) rfl
  · have h1 : ¬1 ≤ t.val := by have := t.isLt; omega
    idx_vars j
    obtain rfl : j0 = 0 := Subsingleton.elim _ _
    rw [outsAt0_A m c t h h1]
    frame_out
    simp only [ld_win0, ld_win1]
    refine (payG_apply _ _ _ _ _ _ j1).trans ?_
    rw [add_assoc]
    exact congrArg (0 + ·) (congrArg₂ (· + ·) (Finset.sum_congr rfl fun p _ => dg_blk m c t p 0 j1) (Finset.sum_congr rfl fun p _ => dg_blk m c t p 1 j1))
  · have h1 : 1 ≤ t.val := by omega
    idx_vars j
    obtain rfl : j0 = 0 := Subsingleton.elim _ _
    rw [outsAt0_B m c t h h1]
    frame_out
    simp only [ld_win0, ld_win1]
    refine (payA_apply _ _ j1).trans ?_
    refine congrArg (_ + ·) ((payG_apply _ _ _ _ _ _ j1).trans ?_)
    rw [zero_add]
    exact (congrArg₂ (· + ·) (Finset.sum_congr rfl fun p _ => dg_blk m c t p 0 j1) (Finset.sum_congr rfl fun p _ => dg_blk m c t p 1 j1))

end Cert.KPrepIdeal.Value
-- ==== Proof.Host.lean ====
/- Host sums over several axes and pads, read at an index; and what it means that every entry of an argument is finite. -/
module

public import proofs.«01_k».proof.Proof.Norm
public import proofs.«01_k».proof.Proof.Lits
public import Idealize.ShloMosaic.Lib.IdealHost
public import Idealize.ShloMosaic.PureOps.Reduce
public import Idealize.ShloMosaic.PureOps.Ideal.Laws
public import Idealize.ShloMosaic.Lib.Pointwise

@[expose] public section

set_option maxRecDepth 16384

noncomputable section

namespace Grad

open Idealize.ShloMosaic

/-- A host sum over any axes is the sum over a family that lists the indices reducing to the result's one. -/
theorem hostSum {s t : Shape} {axes : List (Fin s.rank)} (h : s.ReducesTo axes t) (x : s.Idx → EReal) (init : EReal) (j : t.Idx)
    {ι : Type} [Fintype ι] (f : ι → s.Idx) (hf : Function.Injective f) (h1 : ∀ k, h.drop (f k) = j) (h2 : ∀ i, h.drop i = j → ∃ k, f k = i) :
    Ideal.hostReduceAdd h x init j = init + ∑ k, x (f k) := by
  classical
  unfold Ideal.hostReduceAdd
  congr 1
  rw [← Finset.sum_image (f := x) (g := f) (s := Finset.univ) (fun a _ b _ e => hf e)]
  refine Finset.sum_congr ?_ fun _ _ => rfl
  ext i
  simp only [Finset.mem_filter, Finset.mem_univ, true_and, Finset.mem_image]
  exact ⟨fun e => h2 i e, fun ⟨k, e⟩ => e ▸ h1 k⟩

section
variable {α : Type} {s t u : Shape} {lo hi interior : Fin s.rank → Nat} (x : s.Idx → α) (v : u.Idx → α)
  (h : s.Pads lo hi interior t) (hu : 0 < u.numel) (j : t.Idx)

theorem pad_of_mem (i : s.Idx) (hj : ∀ a : Fin s.rank, (j (a.cast h.1)).val = lo a + (interior a + 1) * (i a).val) :
    pad t lo hi interior x v h hu j = x i := by
  unfold pad
  have e : ∀ a : Fin s.rank, (j (a.cast h.1)).val - lo a = (interior a + 1) * (i a).val := fun a => by have := hj a; omega
  rw [dif_pos (fun a => ⟨by rw [hj a]; omega, by rw [e a]; exact Nat.mul_mod_right _ _, by
    rw [e a, Nat.mul_div_cancel_left _ (Nat.succ_pos _)]; exact (i a).isLt⟩)]
  refine congrArg x (funext fun a => Fin.ext ?_)
  show ((j (a.cast h.1)).val - lo a) / (interior a + 1) = (i a).val
  rw [e a, Nat.mul_div_cancel_left _ (Nat.succ_pos _)]

theorem pad_of_not (a : Fin s.rank) (hj : ¬ (lo a ≤ (j (a.cast h.1)).val ∧ ((j (a.cast h.1)).val - lo a) % (interior a + 1) = 0
        ∧ ((j (a.cast h.1)).val - lo a) / (interior a + 1) < s.size a)) :
    pad t lo hi interior x v h hu j = v (Shape.Idx.first hu) := by
  unfold pad
  rw [dif_neg (fun hin => hj (hin a))]
end

theorem andi_one : ∀ a b : BitVec 1, IntOp.andi a b = 1#1 → a = 1#1 ∧ b = 1#1 := by decide

/-- A conjunction over all entries that holds, holds at every entry. -/
theorem all_of_reduce {s t u : Shape} {axes : List (Fin s.rank)} (x : s.Idx → BitVec 1) (init : u.Idx → BitVec 1) (h : s.ReducesTo axes t)
    (hu : 0 < u.numel) (j : t.Idx) (e : Host.reduce IntOp.andi x init h hu j = 1#1) (i : s.Idx) (hi : h.drop i = j) : x i = 1#1 := by
  classical
  rw [Host.reduce_eq_fold] at e
  have key : ∀ (S : Finset s.Idx), S.fold IntOp.andi (init (Shape.Idx.first hu)) x = 1#1 → ∀ i ∈ S, x i = 1#1 := by
    intro S
    induction S using Finset.induction_on with
    | empty => intro _ i hi; exact absurd hi (Finset.notMem_empty i)
    | insert a S ha ih =>
      intro e i hi
      rw [Finset.fold_insert ha] at e
      obtain ⟨e1, e2⟩ := andi_one _ _ e
      rcases Finset.mem_insert.mp hi with rfl | hi
      · exact e1
      · exact ih e2 i hi
  exact key _ e i (Finset.mem_filter.mpr ⟨Finset.mem_univ _, hi⟩)

/-- The test that every entry is finite, as the precondition prints it: each entry is a real number. -/
theorem finite_of_all {s : Shape} {axes : List (Fin s.rank)} {dims : Fin 0 → Fin s.rank} (x : s.Idx → EReal)
    (hb : (⟨0, ![]⟩ : Shape).BroadcastsInDim s dims) (h : s.ReducesTo axes ⟨0, ![]⟩) (hu : 0 < (⟨0, ![]⟩ : Shape).numel) (j : (⟨0, ![]⟩ : Shape).Idx)
    (e : Host.reduce IntOp.andi (cmpf (F := Ideal) (φ := .f32) .olt (Host.absf (F := Ideal) (φ := .f32) x) (broadcastInDim s dims hb (constant ⟨0, ![]⟩ .f32 0x7F800000#32)))
      (constantI ⟨0, ![]⟩ 1 1#1) h hu j = 1#1) (i : s.Idx) : IsR (x i) := by
  have h1 := all_of_reduce _ _ h hu j e i (funext fun a => a.elim0)
  have h2 : Ideal.cmp .olt (max (x i) (-(x i))) (Ideal.ofBits FTy.f32 0x7F800000#32) = 1#1 := h1
  rw [lit_inf] at h2
  have h3 : max (x i) (-(x i)) < ⊤ := by
    by_contra hc
    rw [show Ideal.cmp .olt (max (x i) (-(x i))) ⊤ = 0#1 from by simp [Ideal.cmp, hc]] at h2
    exact absurd h2 (by decide)
  exact exists_real h3

end Grad

end
-- ==== Proof.KPrepRef.lean ====
/- The derivative of the reference's lines for the keys, read at an index. -/
module

public import proofs.«01_k».proof.Proof.Rope
public import proofs.«01_k».proof.Proof.Host
public import proofs.«01_k».proof.Proof.Gen.KPrepRefIdeal.Read
public import Idealize.ShloMosaic.Lib.Pointwise

@[expose] public section

set_option maxRecDepth 16384

noncomputable section

namespace Cert.KPrepRefIdeal.Read

open Cert.KPrepRefIdeal Cert.KPrepRefIdeal.Gen Idealize.ShloMosaic Idealize.ShloMosaic.TcCoe Idealize.SL.Sem

abbrev N128 : EReal := Ideal.ofBits FTy.f32 1124073472#32
abbrev epsW : EReal := Ideal.ofBits FTy.f32 897988541#32
abbrev halfW : EReal := Ideal.ofBits FTy.f32 0xBF000000#32

theorem cosA (s : Fin 4096) (p : Fin 64) : (show S4096x64.Idx → EReal from val_main_v26 (F := Ideal)) (ix2 s p) = Ideal.cos (Grad.ang s.val p.val) := by
  unfold Grad.ang
  pointwise [val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_cst, val_main_cst_0, val_main_v26]

theorem sinA (s : Fin 4096) (p : Fin 64) : (show S4096x64.Idx → EReal from val_main_v27 (F := Ideal)) (ix2 s p) = Ideal.sin (Grad.ang s.val p.val) := by
  unfold Grad.ang
  pointwise [val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_cst, val_main_cst_0, val_main_v27]

variable (x0 : S4096x256.Idx → EReal) (x1 : S4096x8192.Idx → EReal) (x2 : S1x128.Idx → EReal) (x3 : S4096x256.Idx → EReal)

def xr (s : Fin 4096) (h : Fin 2) (k : Fin 128) : EReal := x1 (ix2 s ⟨5632 + h.val * 128 + k.val, by omega⟩)
def dr (s : Fin 4096) (h : Fin 2) (k : Fin 128) : EReal := x0 (ix2 s ⟨h.val * 128 + k.val, by omega⟩)

theorem x_apply (s : Fin 4096) (h : Fin 2) (k : Fin 128) : (show S1x4096x2x128.Idx → EReal from val_main_v29 (F := Ideal) x1) (ix4 0 s h k) = xr x1 s h k := by
  pointwise [val_main_v29, val_main_v28, val_main_v1, val_main_v0]
  refine congrArg x1 (congrArg (ix2 s) (Fin.ext ?_))
  show 5632 + (h.val * 128 + k.val) = 5632 + h.val * 128 + k.val
  omega

theorem r_apply (s : Fin 4096) (h : Fin 2) : (show S1x4096x2x1.Idx → EReal from val_main_v38 (F := Ideal) x1) (ix4 0 s h 0) = Grad.rinv N128 epsW (xr x1 s h) := by
  unfold val_main_v38 val_main_v37 val_main_v35 val_main_v33 val_main_v32 val_main_v31 Grad.rinv
  rw [← funext (x_apply x1 s h)]
  generalize val_main_v29 (F := Ideal) x1 = X
  pointwise [val_main_v34, val_main_v36, val_main_cst_1, val_main_cst_2, val_main_cst_3]

theorem r2_apply (s : Fin 4096) (h : Fin 2) : (show S1x4096x2x1.Idx → EReal from val_main_v39 (F := Ideal) x1) (ix4 0 s h 0)
    = Ideal.div (Grad.rinv N128 epsW (xr x1 s h)) (Ideal.div (∑ k, xr x1 s h k * xr x1 s h k) N128 + epsW) := by
  rw [← r_apply]
  unfold val_main_v39 val_main_v37 val_main_v35 val_main_v33 val_main_v32 val_main_v31
  simp only [← x_apply]
  generalize val_main_v38 (F := Ideal) x1 = R
  generalize val_main_v29 (F := Ideal) x1 = X
  pointwise [val_main_v34, val_main_v36, val_main_cst_1, val_main_cst_2, val_main_cst_3]

theorem even_apply (s : Fin 4096) (h : Fin 2) (p : Fin 64) : (show S1x4096x2x64.Idx → EReal from val_main_v88 (F := Ideal) x0) (ix4 0 s h p) =
    x0 (ix2 s ⟨h.val * 128 + p.val * 2 + 1, by omega⟩) * Ideal.sin (Grad.ang s.val p.val) + x0 (ix2 s ⟨h.val * 128 + p.val * 2, by omega⟩) * Ideal.cos (Grad.ang s.val p.val) := by
  rw [← cosA s p, ← sinA s p]
  unfold val_main_v88 val_main_v87 val_main_v86 val_main_v81 val_main_v80 val_main_v77 val_main_v76 val_main_v75 val_main_v74 val_main_v73 val_main_v72 val_main_v53 val_main_v52
  generalize val_main_v26 (F := Ideal) = C
  generalize val_main_v27 (F := Ideal) = S
  pointwise

theorem odd_apply (s : Fin 4096) (h : Fin 2) (p : Fin 64) : (show S1x4096x2x64.Idx → EReal from val_main_v85 (F := Ideal) x0) (ix4 0 s h p) =
    x0 (ix2 s ⟨h.val * 128 + p.val * 2 + 1, by omega⟩) * Ideal.cos (Grad.ang s.val p.val) + -(x0 (ix2 s ⟨h.val * 128 + p.val * 2, by omega⟩)) * Ideal.sin (Grad.ang s.val p.val) := by
  rw [← cosA s p, ← sinA s p]
  unfold val_main_v85 val_main_v84 val_main_v83 val_main_v82 val_main_v79 val_main_v78 val_main_v77 val_main_v76 val_main_v75 val_main_v74 val_main_v73 val_main_v72 val_main_v53 val_main_v52
  generalize val_main_v26 (F := Ideal) = C
  generalize val_main_v27 (F := Ideal) = S
  pointwise

theorem padHi_apply (s : Fin 4096) (h : Fin 2) (p : Fin 64) (r : Fin 2) : (show S1x4096x2x64x2.Idx → EReal from val_main_v90 (F := Ideal) x0) (ix5 0 s h p r) =
    if r.val = 0 then 0 else (show S1x4096x2x64.Idx → EReal from val_main_v85 (F := Ideal) x0) (ix4 0 s h p) := by
  unfold val_main_v90
  split
  · rename_i hr
    refine (Grad.pad_of_not _ _ _ _ _ 4 (by show ¬ (1 ≤ r.val ∧ _); omega)).trans ?_
    pointwise [val_main_cst_6]
  · rename_i hr
    refine (Grad.pad_of_mem _ _ _ _ _ (ix5 0 s h p 0) (fun a => ?_)).trans ?_
    · match a with
      | ⟨0, _⟩ => rfl
      | ⟨1, _⟩ => show s.val = 0 + (0 + 1) * s.val; omega
      | ⟨2, _⟩ => show h.val = 0 + (0 + 1) * h.val; omega
      | ⟨3, _⟩ => show p.val = 0 + (0 + 1) * p.val; omega
      | ⟨4, _⟩ => show r.val = 1 + (0 + 1) * 0; omega
    · unfold val_main_v89
      generalize val_main_v85 (F := Ideal) x0 = X
      pointwise

theorem padLo_apply (s : Fin 4096) (h : Fin 2) (p : Fin 64) (r : Fin 2) : (show S1x4096x2x64x2.Idx → EReal from val_main_v92 (F := Ideal) x0) (ix5 0 s h p r) =
    if r.val = 0 then (show S1x4096x2x64.Idx → EReal from val_main_v88 (F := Ideal) x0) (ix4 0 s h p) else 0 := by
  unfold val_main_v92
  split
  · rename_i hr
    refine (Grad.pad_of_mem _ _ _ _ _ (ix5 0 s h p 0) (fun a => ?_)).trans ?_
    · match a with
      | ⟨0, _⟩ => rfl
      | ⟨1, _⟩ => show s.val = 0 + (0 + 1) * s.val; omega
      | ⟨2, _⟩ => show h.val = 0 + (0 + 1) * h.val; omega
      | ⟨3, _⟩ => show p.val = 0 + (0 + 1) * p.val; omega
      | ⟨4, _⟩ => show r.val = 0 + (0 + 1) * 0; omega
    · unfold val_main_v91
      generalize val_main_v88 (F := Ideal) x0 = X
      pointwise
  · rename_i hr
    refine (Grad.pad_of_not _ _ _ _ _ 4 (by show ¬ (0 ≤ r.val ∧ (r.val - 0) % (0 + 1) = 0 ∧ (r.val - 0) / (0 + 1) < 1); omega)).trans ?_
    pointwise [val_main_cst_7]

theorem rot_apply (s : Fin 4096) (h : Fin 2) (q : Fin 128) : (show S1x4096x2x128.Idx → EReal from val_main_v94 (F := Ideal) x0) (ix4 0 s h q)
    = Grad.rotBackLines s.val (dr x0 s h) q := by
  have e : (show S1x4096x2x128.Idx → EReal from val_main_v94 (F := Ideal) x0) (ix4 0 s h q)
      = (show S1x4096x2x64x2.Idx → EReal from val_main_v90 (F := Ideal) x0) (ix5 0 s h ⟨q.val / 2, by omega⟩ ⟨q.val % 2, by omega⟩)
        + (show S1x4096x2x64x2.Idx → EReal from val_main_v92 (F := Ideal) x0) (ix5 0 s h ⟨q.val / 2, by omega⟩ ⟨q.val % 2, by omega⟩) := by
    unfold val_main_v94 val_main_v93
    generalize val_main_v90 (F := Ideal) x0 = X
    generalize val_main_v92 (F := Ideal) x0 = Y
    pointwise
  rw [e, padHi_apply, padLo_apply]
  unfold Grad.rotBackLines
  have hq := q.isLt
  by_cases hr : q.val % 2 = 0
  · rw [if_pos hr, if_pos hr, if_pos hr, zero_add, even_apply]
    congr 2
    · refine congrArg x0 (congrArg (ix2 s) (Fin.ext ?_)); show h.val * 128 + q.val / 2 * 2 + 1 = h.val * 128 + (q.val + 1) % 128; omega
    · refine congrArg x0 (congrArg (ix2 s) (Fin.ext ?_)); show h.val * 128 + q.val / 2 * 2 = h.val * 128 + q.val; omega
  · rw [if_neg hr, if_neg hr, if_neg hr, add_zero, odd_apply]
    congr 2
    · refine congrArg x0 (congrArg (ix2 s) (Fin.ext ?_)); show h.val * 128 + q.val / 2 * 2 + 1 = h.val * 128 + q.val; omega
    · refine congrArg (- ·) (congrArg x0 (congrArg (ix2 s) (Fin.ext ?_))); show h.val * 128 + q.val / 2 * 2 = h.val * 128 + (q.val - 1); omega

theorem unit_sum (s : Fin 4096) (h : Fin 2) (X : S1x4096x2x1.Idx → EReal) (z : S_.Idx → EReal) :
    (Host.reduceAdd (F := Ideal) (φ := .f32) X z reducesTo_S1x4096x2x1_S4096x2_d0_3 h_S_) (ix2 s h) = z (Shape.Idx.first h_S_) + X (ix4 0 s h 0) := by
  refine (Grad.hostSum reducesTo_S1x4096x2x1_S4096x2_d0_3 X _ (ix2 s h) (fun _ : Unit => (ix4 0 s h 0 : S1x4096x2x1.Idx)) (fun a b _ => rfl) (fun _ => ?_) (fun i hi => ⟨(), ?_⟩)).trans ?_
  · funext a; apply Fin.ext; match a with
    | ⟨0, _⟩ => rfl
    | ⟨1, _⟩ => rfl
  · idx_vars i
    have a1 := congrArg Fin.val (congrFun hi 0)
    have a2 := congrArg Fin.val (congrFun hi 1)
    have b1 : i1.val = s.val := a1
    have b2 : i2.val = h.val := a2
    obtain rfl : i1 = s := Fin.ext b1
    obtain rfl : i2 = h := Fin.ext b2
    obtain rfl : i0 = 0 := Subsingleton.elim _ _
    obtain rfl : i3 = 0 := Subsingleton.elim _ _
    rfl
  · simp

theorem rows_sum (q : Fin 128) (X : S1x4096x2x128.Idx → EReal) (z : S_.Idx → EReal) :
    (Host.reduceAdd (F := Ideal) (φ := .f32) X z reducesTo_S1x4096x2x128_S1x128_d1_2 h_S_) (ix2 0 q) = z (Shape.Idx.first h_S_) + ∑ k : Fin 4096 × Fin 2, X (ix4 0 k.1 k.2 q) := by
  refine (Grad.hostSum reducesTo_S1x4096x2x128_S1x128_d1_2 X _ (ix2 0 q) (fun k : Fin 4096 × Fin 2 => (ix4 0 k.1 k.2 q : S1x4096x2x128.Idx)) (fun a b e => ?_) (fun _ => ?_) (fun i hi => ?_))
  · exact Prod.ext (congrFun e 1) (congrFun e 2)
  · funext a; apply Fin.ext; match a with
    | ⟨0, _⟩ => rfl
    | ⟨1, _⟩ => rfl
  · idx_vars i
    have b2 : i3.val = q.val := congrArg Fin.val (congrFun hi 1)
    obtain rfl : i3 = q := Fin.ext b2
    obtain rfl : i0 = 0 := Subsingleton.elim _ _
    exact ⟨(i1, i2), rfl⟩

theorem lanes_sum (q : Fin 128) (X : S1x1x1x128.Idx → EReal) (z : S_.Idx → EReal) :
    (Host.reduceAdd (F := Ideal) (φ := .f32) X z reducesTo_S1x1x1x128_S128_d0_1_2 h_S_) (ix1 q) = z (Shape.Idx.first h_S_) + X (ix4 0 0 0 q) := by
  refine (Grad.hostSum reducesTo_S1x1x1x128_S128_d0_1_2 X _ (ix1 q) (fun _ : Unit => (ix4 0 0 0 q : S1x1x1x128.Idx)) (fun a b _ => rfl) (fun _ => ?_) (fun i hi => ⟨(), ?_⟩)).trans ?_
  · funext a; apply Fin.ext; match a with
    | ⟨0, _⟩ => rfl
  · idx_vars i
    have b1 : i3.val = q.val := congrArg Fin.val (congrFun hi 0)
    obtain rfl : i3 = q := Fin.ext b1
    obtain rfl : i0 = 0 := Subsingleton.elim _ _
    obtain rfl : i1 = 0 := Subsingleton.elim _ _
    obtain rfl : i2 = 0 := Subsingleton.elim _ _
    rfl
  · simp

/-- The gain's gradient. -/
theorem dg_apply (q : Fin 128) : (show S1x128.Idx → EReal from val_main_v116 (F := Ideal) x0 x1) (ix2 0 q)
    = ∑ k : Fin 4096 × Fin 2, xr x1 k.1 k.2 q * Grad.rinv N128 epsW (xr x1 k.1 k.2) * Grad.rotBackLines k.1.val (dr x0 k.1 k.2) q := by
  have e1 : (show S1x128.Idx → EReal from val_main_v116 (F := Ideal) x0 x1) (ix2 0 q) = (show S128.Idx → EReal from val_main_v100 (F := Ideal) x0 x1) (ix1 q) := by
    unfold val_main_v116
    generalize val_main_v100 (F := Ideal) x0 x1 = X
    pointwise
  have e2 : (show S1x1x1x128.Idx → EReal from val_main_v97 (F := Ideal) x0 x1) (ix4 0 0 0 q) = (show S1x128.Idx → EReal from val_main_v96 (F := Ideal) x0 x1) (ix2 0 q) := by
    unfold val_main_v97
    generalize val_main_v96 (F := Ideal) x0 x1 = X
    pointwise
  rw [e1]
  unfold val_main_v100
  refine (lanes_sum q _ _).trans ?_
  refine (congrArg (_ + ·) e2).trans ?_
  unfold val_main_v96
  refine (congrArg (_ + ·) (rows_sum q _ _)).trans ?_
  rw [show (val_main_cst_9 (F := Ideal)) (Shape.Idx.first h_S_) = (0 : EReal) from by pointwise [val_main_cst_9],
    show (val_main_cst_8 (F := Ideal)) (Shape.Idx.first h_S_) = (0 : EReal) from by pointwise [val_main_cst_8], zero_add, zero_add]
  refine Finset.sum_congr rfl fun k _ => ?_
  rw [← rot_apply, ← r_apply, ← x_apply]
  unfold val_main_v95 val_main_v43 val_main_v42
  generalize val_main_v94 (F := Ideal) x0 = X
  generalize val_main_v38 (F := Ideal) x1 = R
  generalize val_main_v29 (F := Ideal) x1 = Y
  pointwise

/-- The norm's input's gradient. -/
theorem dx_apply (s : Fin 4096) (h : Fin 2) (q : Fin 128) : (show S1x4096x2x128.Idx → EReal from val_main_v115 (F := Ideal) x0 x1 x2) (ix4 0 s h q)
    = Grad.normDxLines N128 epsW halfW (xr x1 s h) (Grad.rotBackLines s.val (dr x0 s h)) (fun k => x2 (ix2 0 k)) q := by
  have e1 : (show S4096x2.Idx → EReal from val_main_v109 (F := Ideal) x0 x1 x2) (ix2 s h) = (show S1x4096x2x1.Idx → EReal from val_main_v108 (F := Ideal) x0 x1 x2) (ix4 0 s h 0) := by
    unfold val_main_v109
    refine (unit_sum s h _ _).trans ?_
    rw [show (val_main_cst_12 (F := Ideal)) (Shape.Idx.first h_S_) = (0 : EReal) from by pointwise [val_main_cst_12], zero_add]
  have e2 : (show S1x4096x2x1.Idx → EReal from val_main_v108 (F := Ideal) x0 x1 x2) (ix4 0 s h 0) = Grad.meanGrad N128 epsW halfW (xr x1 s h) (Grad.rotBackLines s.val (dr x0 s h)) (fun k => x2 (ix2 0 k)) := by
    unfold Grad.meanGrad
    rw [← r2_apply]
    simp only [← rot_apply, ← x_apply]
    unfold val_main_v108 val_main_v106 val_main_v103 val_main_v102 val_main_v101 val_main_v99 val_main_v41
    generalize val_main_v94 (F := Ideal) x0 = X
    generalize val_main_v39 (F := Ideal) x1 = R
    generalize val_main_v29 (F := Ideal) x1 = Y
    pointwise [val_main_v107, val_main_v98, val_main_v44, val_main_v30, val_main_v40, val_main_cst_4, val_main_cst_10, val_main_cst_11]
  unfold Grad.normDxLines
  rw [← e2, ← e1]
  simp only [← rot_apply, ← x_apply, ← r_apply]
  unfold val_main_v115 val_main_v114 val_main_v113 val_main_v112 val_main_v111 val_main_v110 val_main_v105 val_main_v104 val_main_v99
  generalize val_main_v109 (F := Ideal) x0 x1 x2 = M
  generalize val_main_v94 (F := Ideal) x0 = X
  generalize val_main_v38 (F := Ideal) x1 = R
  generalize val_main_v29 (F := Ideal) x1 = Y
  pointwise [val_main_v98, val_main_v44, val_main_v30]

/-- The first result: the two heads' gradients, then the values' gradient. -/
theorem out_lo (s : Fin 4096) (h : Fin 2) (q : Fin 128) (j : Fin 512) (hj : j.val = h.val * 128 + q.val) :
    (show S4096x512.Idx → EReal from val_main_v120 (F := Ideal) x0 x1 x2 x3) (ix2 s j)
    = Grad.normDxLines N128 epsW halfW (xr x1 s h) (Grad.rotBackLines s.val (dr x0 s h)) (fun k => x2 (ix2 0 k)) q := by
  have hh := h.isLt
  have hq := q.isLt
  have e1 : (show S4096x512.Idx → EReal from val_main_v71 (F := Ideal) x3) (ix2 s j) = 0 := by
    unfold val_main_v71
    refine (Grad.pad_of_not _ _ _ _ _ 1 (by show ¬ (256 ≤ j.val ∧ _); omega)).trans ?_
    pointwise [val_main_cst_5]
  have e2 : (show S4096x512.Idx → EReal from val_main_v118 (F := Ideal) x0 x1 x2) (ix2 s j) = (show S1x4096x2x128.Idx → EReal from val_main_v115 (F := Ideal) x0 x1 x2) (ix4 0 s h q) := by
    unfold val_main_v118
    refine (Grad.pad_of_mem _ _ _ _ _ (ix2 s ⟨j.val, by omega⟩) (fun a => ?_)).trans ?_
    · match a with
      | ⟨0, _⟩ => show s.val = 0 + (0 + 1) * s.val; omega
      | ⟨1, _⟩ => show j.val = 0 + (0 + 1) * j.val; omega
    · unfold val_main_v117
      generalize val_main_v115 (F := Ideal) x0 x1 x2 = X
      pointwise
      refine congrArg X ?_
      rw [show (⟨j.val / 128, by omega⟩ : Fin 2) = h from Fin.ext (by show j.val / 128 = h.val; omega), show (⟨j.val % 128, by omega⟩ : Fin 128) = q from Fin.ext (by show j.val % 128 = q.val; omega)]
  rw [← dx_apply, ← e2]
  refine Eq.trans ?_ (zero_add _)
  rw [← e1]
  unfold val_main_v120 val_main_v119
  generalize val_main_v118 (F := Ideal) x0 x1 x2 = X
  generalize val_main_v71 (F := Ideal) x3 = Y
  pointwise

theorem out_hi (s : Fin 4096) (q : Fin 256) (j : Fin 512) (hj : j.val = 256 + q.val) :
    (show S4096x512.Idx → EReal from val_main_v120 (F := Ideal) x0 x1 x2 x3) (ix2 s j) = x3 (ix2 s q) := by
  have hq := q.isLt
  have e1 : (show S4096x512.Idx → EReal from val_main_v71 (F := Ideal) x3) (ix2 s j) = x3 (ix2 s q) := by
    unfold val_main_v71
    refine (Grad.pad_of_mem _ _ _ _ _ (ix2 s q) (fun a => ?_)).trans ?_
    · match a with
      | ⟨0, _⟩ => show s.val = 0 + (0 + 1) * s.val; omega
      | ⟨1, _⟩ => show j.val = 256 + (0 + 1) * q.val; omega
    · pointwise [val_main_v70]
  have e2 : (show S4096x512.Idx → EReal from val_main_v118 (F := Ideal) x0 x1 x2) (ix2 s j) = 0 := by
    unfold val_main_v118
    refine (Grad.pad_of_not _ _ _ _ _ 1 (by show ¬ (0 ≤ j.val ∧ (j.val - 0) % (0 + 1) = 0 ∧ (j.val - 0) / (0 + 1) < 256); omega)).trans ?_
    pointwise [val_main_cst_13]
  rw [← e1]
  refine Eq.trans ?_ (add_zero _)
  rw [← e2]
  unfold val_main_v120 val_main_v119
  generalize val_main_v118 (F := Ideal) x0 x1 x2 = X
  generalize val_main_v71 (F := Ideal) x3 = Y
  pointwise

end Cert.KPrepRefIdeal.Read
-- ==== Proof.Blocks.lean ====
/- Sums over rows block by block, and the norm's gradient at the programs' words. -/
module

public import proofs.«01_k».proof.Proof.Norm
public import proofs.«01_k».proof.Proof.Lits
public import Idealize.ShloMosaic.PureOps.Ideal

@[expose] public section

set_option maxRecDepth 16384

noncomputable section

namespace Grad

open Idealize.ShloMosaic

/-- A sum over rows, block by block. -/
theorem sum_blocks {n b N : ℕ} (h : n * b = N) (f : Fin N → EReal) :
    ∑ t : Fin n, ∑ p : Fin b, f ⟨t.val * b + p.val, by
      have h1 := t.isLt; have h2 := p.isLt
      calc t.val * b + p.val < t.val * b + b := by omega
        _ = (t.val + 1) * b := by ring
        _ ≤ n * b := Nat.mul_le_mul_right _ h1
        _ = N := h⟩ = ∑ s, f s := by
  subst h
  rw [← Fintype.sum_prod_type', ← finProdFinEquiv.sum_comp f]
  refine Finset.sum_congr rfl fun k _ => congrArg f (Fin.ext ?_)
  show k.1.val * b + k.2.val = k.2.val + b * k.1.val
  ring

theorem normDx128_eq {x dn g : Fin 128 → EReal} (hx : ∀ k, IsR (x k)) (hd : ∀ k, IsR (dn k)) (hg : ∀ k, IsR (g k)) (j : Fin 128) :
    normDx (Ideal.ofBits FTy.f32 1124073472#32) (Ideal.ofBits FTy.f32 897988541#32) x dn g j
      = normDxLines (Ideal.ofBits FTy.f32 1124073472#32) (Ideal.ofBits FTy.f32 897988541#32) (Ideal.ofBits FTy.f32 0xBF000000#32) x dn g j := by
  rw [show Ideal.ofBits FTy.f32 1124073472#32 = ((128 : ℝ) : EReal) from lit_128, show Ideal.ofBits FTy.f32 897988541#32 = ((epsR : ℝ) : EReal) from lit_eps, lit_neg_half]
  exact normDx_eq (by norm_num) epsR_pos hx hd hg j

end Grad

end
-- ==== Proof.KPrepMeet.lean ====
/- The keys' norm and rotary gradient: the kernel's results are the derivative of the reference's lines. -/
module

public import proofs.«01_k».proof.Proof.KPrepKernel
public import proofs.«01_k».proof.Proof.KPrepRef
public import proofs.«01_k».proof.Proof.Blocks
public import proofs.«01_k».proof.Pre_k_prep_finite

@[expose] public section

set_option maxRecDepth 16384

noncomputable section

namespace Cert.KPrepMeet

open Idealize.ShloMosaic Idealize.ShloMosaic.TcCoe Idealize.SL.Sem
open Cert.KPrepIdeal (nD τ sig main_arg0 main_arg1 main_arg2 main_arg3 cfg0)
open Cert.KPrepIdeal.Value Cert.KPrepIdeal.Gen

instance preFacts : Cert.Pre_k_prep_finite.Facts where
  bcast_S_S4096x256 := by decide
  reducesTo_S4096x256_S_d0_1 := by decide
  h_S_ := by decide
  bitsLt_bf16_f32 := by decide
  bcast_S_S4096x8192 := by decide
  reducesTo_S4096x8192_S_d0_1 := by decide
  bcast_S_S1x128 := by decide
  reducesTo_S1x128_S_d0_1 := by decide

theorem finite (x0 : FVec Ideal Cert.Pre_k_prep_finite.S4096x256 .f32) (x1 : FVec Ideal Cert.Pre_k_prep_finite.S4096x8192 .bf16) (x2 : FVec Ideal Cert.Pre_k_prep_finite.S1x128 .f32)
    (x3 : FVec Ideal Cert.Pre_k_prep_finite.S4096x256 .bf16) (h : Cert.Pre_k_prep_finite.fn (F := Ideal) x0 x1 x2 x3 = fun _ => 1#1) :
    (∀ i, Grad.IsR (x0 i)) ∧ (∀ i, Grad.IsR (x1 i)) ∧ ∀ i, Grad.IsR (x2 i) := by
  have h0 := congrFun h (fun a => a.elim0)
  obtain ⟨h1, h2⟩ := Grad.andi_one _ _ h0
  obtain ⟨h3, h4⟩ := Grad.andi_one _ _ h1
  exact ⟨Grad.finite_of_all x0 _ _ _ _ h3, Grad.finite_of_all x1 _ _ _ _ h4, Grad.finite_of_all x2 _ _ _ _ h2⟩

variable (m : (ℓ : Loc nD τ sig) → Buf (Elt Ideal) ℓ) (c : Dev nD)

theorem dg_eq : G7 m c = Cert.KPrepRefIdeal.Read.val_main_v116 (F := Ideal) (m ((c : Thread nD τ).loc main_arg0)) (m ((c : Thread nD τ).loc main_arg1)) := by
  funext i
  idx_vars i
  obtain rfl : i0 = 0 := Subsingleton.elim _ _
  refine Eq.trans ?_ (Cert.KPrepRefIdeal.Read.dg_apply _ _ i1).symm
  rw [Fintype.sum_prod_type]
  simp only [Fin.sum_univ_two]
  unfold G7
  rw [zero_add]
  have e := Grad.sum_blocks (n := cfg0.N) (b := 256) (N := 4096) (by rw [show cfg0.N = 16 from N_0]) (fun s => dgAt m c s 0 i1 + dgAt m c s 1 i1)
  simp only [Finset.sum_add_distrib] at e
  refine Eq.trans ?_ (e.trans ?_)
  · rw [← Finset.sum_add_distrib]; rfl
  rw [← Finset.sum_add_distrib]
  refine Finset.sum_congr rfl fun s _ => ?_
  unfold dgAt dgRow
  rw [Grad.rotBack_eq, Grad.rotBack_eq, mul_comm, mul_comm (Grad.rotBackLines _ _ _)]
  rfl

theorem dx_eq (hf : (∀ i, Grad.IsR ((show Cert.KPrepIdeal.S4096x256.Idx → EReal from m ((c : Thread nD τ).loc main_arg0)) i)) ∧ (∀ i, Grad.IsR ((show Cert.KPrepIdeal.S4096x8192.Idx → EReal from m ((c : Thread nD τ).loc main_arg1)) i))
      ∧ ∀ i, Grad.IsR ((show Cert.KPrepIdeal.S1x128.Idx → EReal from m ((c : Thread nD τ).loc main_arg2)) i)) :
    G6 m c = Cert.KPrepRefIdeal.Read.val_main_v120 (F := Ideal) (m ((c : Thread nD τ).loc main_arg0)) (m ((c : Thread nD τ).loc main_arg1)) (m ((c : Thread nD τ).loc main_arg2)) (m ((c : Thread nD τ).loc main_arg3)) := by
  funext i
  idx_vars i
  by_cases h : i1.val < 256
  · have h1 : i1.val / 128 < 2 := by omega
    have h2 : i1.val % 128 < 128 := by omega
    have hj : i1.val = i1.val / 128 * 128 + i1.val % 128 := by omega
    refine (G6_dx m c i0 ⟨i1.val / 128, h1⟩ ⟨i1.val % 128, h2⟩ i1 hj).trans (Eq.trans ?_ (Cert.KPrepRefIdeal.Read.out_lo _ _ _ _ i0 ⟨i1.val / 128, h1⟩ ⟨i1.val % 128, h2⟩ i1 hj).symm)
    refine (Grad.normDx128_eq (fun k => hf.2.1 _) (fun k => ?_) (fun k => hf.2.2 _) _).trans ?_
    · rw [Grad.rotBack_eq]; exact Grad.rotBackLines_real _ (fun k => hf.1 _) _
    · rw [show Grad.rotBack (Grad.cosRow i0.val) (Grad.sinRow i0.val) (drow m c i0 ⟨i1.val / 128, h1⟩) = Grad.rotBackLines i0.val (drow m c i0 ⟨i1.val / 128, h1⟩) from funext fun k => Grad.rotBack_eq _ _ _]
      rfl
  · have hj : i1.val = 256 + (i1.val - 256) := by omega
    exact (G6_dv m c i0 ⟨i1.val - 256, by omega⟩ i1 hj).trans (Cert.KPrepRefIdeal.Read.out_hi _ _ _ _ i0 ⟨i1.val - 256, by omega⟩ i1 hj).symm

end Cert.KPrepMeet

end
-- ==== Proof.Lanes.lean ====
/- The window of 128 lanes that a body loads of a block of 256 rows. -/
module

public import Idealize.ShloMosaic.Lib.Pipeline.ValueKit
public import Idealize.ShloMosaic.Lib.Pointwise

@[expose] public section

noncomputable section

namespace Grad

open Idealize.ShloMosaic

/-- The 128 lanes from lane `o` on. -/
def lanes {α : Type} {W : ℕ} (o : ℕ) (ho : o + 128 ≤ W) (X : (⟨2, ![256, W]⟩ : Shape).Idx → α) : (⟨2, ![256, 128]⟩ : Shape).Idx → α := fun j =>
  X (ix2 (j 0) ⟨o + (j 1).val, by have := (j 1).isLt; have : (j 1).val < 128 := this; omega⟩)

theorem ld_lanes {e : EltTy} {W : ℕ} (o : ℕ) (ho : o + 128 ≤ W) (X : (⟨2, ![256, W]⟩ : Shape).Idx → Elt Ideal e) (inb) :
    View.ld X (Rect.unit (s := ⟨2, ![256, W]⟩) ![0, o] ![256, 128] inb) = lanes o ho X := by
  funext j
  refine congrArg X (funext fun a => Fin.ext ?_)
  match a with
  | ⟨0, _⟩ => show 0 + 1 * (j 0).val = (j 0).val; omega
  | ⟨1, _⟩ => show o + 1 * (j 1).val = o + (j 1).val; omega

end Grad

end
-- ==== Proof.QPrepKernel.lean ====
/- The kernel of the queries' norm and rotary gradient, read at an index: every block it writes and the gain's accumulated
   gradient, in terms of the arguments. -/
module

public import proofs.«01_k».proof.Proof.Rope
public import proofs.«01_k».proof.Proof.Gen.QPrepIdeal.Value
public import proofs.«01_k».proof.Proof.Lanes
public import Idealize.ShloMosaic.Lib.Pipeline.ValueKit
public import Idealize.ShloMosaic.Lib.StableHlo.ReadAt
public import Idealize.ShloMosaic.Lib.Pointwise

@[expose] public section

set_option maxRecDepth 16384

noncomputable section

namespace Cert.QPrepIdeal.Value

open Cert.QPrepIdeal Cert.QPrepIdeal.Gen Idealize.ShloMosaic Idealize.ShloMosaic.TcCoe Idealize.SL.Sem

/-- The divisor of the means and the norm's epsilon, as the program's words. -/
abbrev N128 : EReal := Ideal.ofBits FTy.f32 1124073472#32
abbrev epsW : EReal := Ideal.ofBits FTy.f32 897988541#32

/-- What one head's lanes of the input's gradient block hold. -/
abbrev dxRow (x : Fin 128 → EReal) (c s d g : Fin 128 → EReal) (q : Fin 128) : EReal :=
  Grad.normDx N128 epsW x (Grad.rotBack c s d) g q
/-- What one head's row adds to the gain's gradient. -/
abbrev dgRow (x : Fin 128 → EReal) (c s d : Fin 128 → EReal) (q : Fin 128) : EReal :=
  Grad.rotBack c s d q * (x q * Grad.rinv N128 epsW x)

theorem dx0_apply (v2 v4 w10 : Vec Ideal S256x128 .f32) (v6 : Vec Ideal S1x128 .f32) (v8 : Vec Ideal S256x128 .bf16) (p : Fin 256) (q : Fin 128) :
    k0_pay9 (F := Ideal) v6 (k0_pay4 v8) (k0_pay5 v2 v4 w10) (k0_pay6 v8) (Scalar.ofBits .f32 0x43000000#32) (ix2 p q)
      = dxRow (fun k => v8 (ix2 p k)) (fun k => v2 (ix2 p k)) (fun k => v4 (ix2 p k)) (fun k => w10 (ix2 p k)) (fun k => v6 (ix2 0 k)) q := by
  pointwise [k0_pay1, k0_pay2, k0_pay4, k0_pay5, k0_pay6, k0_pay7, k0_pay8, k0_pay9]
  rfl

theorem dx1_apply (v2 v4 w10 : Vec Ideal S256x128 .f32) (v6 : Vec Ideal S1x128 .f32) (v8 : Vec Ideal S256x128 .bf16) (p : Fin 256) (q : Fin 128) :
    k0_pay20 (F := Ideal) v6 (k0_pay11 v8) (k0_pay12 (k0_pay1 v2) w10) (k0_pay13 (k0_pay2 v4) w10) (2#32) k0_pay14 k0_pay15 k0_pay16 (ix2 p q)
      = dxRow (fun k => v8 (ix2 p k)) (fun k => v2 (ix2 p k)) (fun k => v4 (ix2 p k)) (fun k => w10 (ix2 p k)) (fun k => v6 (ix2 0 k)) q := by
  pointwise [k0_pay1, k0_pay2, k0_pay11, k0_pay12, k0_pay13, k0_pay14, k0_pay15, k0_pay16, k0_pay17, k0_pay18, k0_pay19, k0_pay20]
  rfl

theorem dx2_apply (v2 v4 w10 : Vec Ideal S256x128 .f32) (v6 : Vec Ideal S1x128 .f32) (v8 : Vec Ideal S256x128 .bf16) (p : Fin 256) (q : Fin 128) :
    k0_pay29 (F := Ideal) v6 (k0_pay22 v8) (k0_pay23 (k0_pay1 v2) w10) (k0_pay24 (k0_pay2 v4) w10) (iota Kind.tc S256x128 32 [1] iota_S256x128_d1_w32) (ix2 p q)
      = dxRow (fun k => v8 (ix2 p k)) (fun k => v2 (ix2 p k)) (fun k => v4 (ix2 p k)) (fun k => w10 (ix2 p k)) (fun k => v6 (ix2 0 k)) q := by
  pointwise [k0_pay1, k0_pay2, k0_pay22, k0_pay23, k0_pay24, k0_pay25, k0_pay26, k0_pay27, k0_pay29]
  rfl

theorem dx3_apply (v2 v4 w10 : Vec Ideal S256x128 .f32) (v6 : Vec Ideal S1x128 .f32) (v8 : Vec Ideal S256x128 .bf16) (p : Fin 256) (q : Fin 128) :
    k0_pay35 (F := Ideal) v6 (k0_pay31 v8) (k0_pay32 (k0_pay1 v2) (k0_pay2 v4) w10) (k0_pay33 v8) (ix2 p q)
      = dxRow (fun k => v8 (ix2 p k)) (fun k => v2 (ix2 p k)) (fun k => v4 (ix2 p k)) (fun k => w10 (ix2 p k)) (fun k => v6 (ix2 0 k)) q := by
  pointwise [k0_pay1, k0_pay2, k0_pay31, k0_pay32, k0_pay33, k0_pay34, k0_pay35]
  rfl

theorem dx4_apply (v2 v4 w10 : Vec Ideal S256x128 .f32) (v6 : Vec Ideal S1x128 .f32) (v8 : Vec Ideal S256x128 .bf16) (p : Fin 256) (q : Fin 128) :
    k0_pay45 (F := Ideal) v6 (k0_pay37 v8) (k0_pay38 (k0_pay1 v2) w10) (k0_pay39 (k0_pay2 v4) w10) k0_pay40 k0_pay41 (ix2 p q)
      = dxRow (fun k => v8 (ix2 p k)) (fun k => v2 (ix2 p k)) (fun k => v4 (ix2 p k)) (fun k => w10 (ix2 p k)) (fun k => v6 (ix2 0 k)) q := by
  pointwise [k0_pay1, k0_pay2, k0_pay37, k0_pay38, k0_pay39, k0_pay40, k0_pay41, k0_pay42, k0_pay43, k0_pay44, k0_pay45]
  rfl

theorem dx5_apply (v2 v4 w10 : Vec Ideal S256x128 .f32) (v6 : Vec Ideal S1x128 .f32) (v8 : Vec Ideal S256x128 .bf16) (p : Fin 256) (q : Fin 128) :
    k0_pay54 (F := Ideal) v6 (k0_pay47 v8) (k0_pay48 (k0_pay1 v2) w10) (k0_pay49 (k0_pay2 v4) w10) (iota Kind.tc S256x128 32 [1] iota_S256x128_d1_w32) (2#32) k0_pay50 (ix2 p q)
      = dxRow (fun k => v8 (ix2 p k)) (fun k => v2 (ix2 p k)) (fun k => v4 (ix2 p k)) (fun k => w10 (ix2 p k)) (fun k => v6 (ix2 0 k)) q := by
  pointwise [k0_pay1, k0_pay2, k0_pay47, k0_pay48, k0_pay49, k0_pay50, k0_pay51, k0_pay52, k0_pay53, k0_pay54]
  rfl

theorem dx6_apply (v2 v4 w10 : Vec Ideal S256x128 .f32) (v6 : Vec Ideal S1x128 .f32) (v8 : Vec Ideal S256x128 .bf16) (p : Fin 256) (q : Fin 128) :
    k0_pay63 (F := Ideal) (k0_pay59 v8) (k0_pay60 v8) (k0_pay61 (k0_pay1 v2) (k0_pay2 v4) v6 w10) (k0_pay62 (k0_pay1 v2) (k0_pay2 v4) v6 v8 w10) (ix2 p q)
      = dxRow (fun k => v8 (ix2 p k)) (fun k => v2 (ix2 p k)) (fun k => v4 (ix2 p k)) (fun k => w10 (ix2 p k)) (fun k => v6 (ix2 0 k)) q := by
  pointwise [k0_pay1, k0_pay2, k0_pay57, k0_pay58, k0_pay59, k0_pay60, k0_pay61, k0_pay62, k0_pay63]
  rfl

theorem dx7_apply (v2 v4 w10 : Vec Ideal S256x128 .f32) (v6 : Vec Ideal S1x128 .f32) (v8 : Vec Ideal S256x128 .bf16) (p : Fin 256) (q : Fin 128) :
    k0_pay71 (F := Ideal) v6 (k0_pay65 v8) (k0_pay66 (k0_pay1 v2) w10) (k0_pay67 (k0_pay2 v4) w10) (ix2 p q)
      = dxRow (fun k => v8 (ix2 p k)) (fun k => v2 (ix2 p k)) (fun k => v4 (ix2 p k)) (fun k => w10 (ix2 p k)) (fun k => v6 (ix2 0 k)) q := by
  pointwise [k0_pay1, k0_pay2, k0_pay65, k0_pay66, k0_pay67, k0_pay68, k0_pay69, k0_pay70, k0_pay71]
  rfl

theorem dg0_apply (v2 v4 w10 : Vec Ideal S256x128 .f32) (v8 : Vec Ideal S256x128 .bf16) (acc : Vec Ideal S1x128 .f32) (q : Fin 128) :
    k0_pay10 (F := Ideal) acc (k0_pay4 v8) (k0_pay5 v2 v4 w10) (k0_pay6 v8) (Scalar.ofBits .f32 0x43000000#32) (ix2 0 q)
      = acc (ix2 0 q) + ∑ p : Fin 256, dgRow (fun k => v8 (ix2 p k)) (fun k => v2 (ix2 p k)) (fun k => v4 (ix2 p k)) (fun k => w10 (ix2 p k)) q := by
  pointwise [k0_pay1, k0_pay2, k0_pay4, k0_pay5, k0_pay6, k0_pay7, k0_pay8, k0_pay10]
  rfl

theorem dg1_apply (v2 v4 w10 : Vec Ideal S256x128 .f32) (v8 : Vec Ideal S256x128 .bf16) (acc : Vec Ideal S1x128 .f32) (q : Fin 128) :
    k0_pay21 (F := Ideal) acc (k0_pay11 v8) (k0_pay12 (k0_pay1 v2) w10) (k0_pay13 (k0_pay2 v4) w10) (2#32) k0_pay14 k0_pay15 k0_pay16 (ix2 0 q)
      = acc (ix2 0 q) + ∑ p : Fin 256, dgRow (fun k => v8 (ix2 p k)) (fun k => v2 (ix2 p k)) (fun k => v4 (ix2 p k)) (fun k => w10 (ix2 p k)) q := by
  pointwise [k0_pay1, k0_pay2, k0_pay11, k0_pay12, k0_pay13, k0_pay14, k0_pay15, k0_pay16, k0_pay17, k0_pay18, k0_pay19, k0_pay21]
  rfl

theorem dg2_apply (v2 v4 w10 : Vec Ideal S256x128 .f32) (v8 : Vec Ideal S256x128 .bf16) (acc : Vec Ideal S1x128 .f32) (q : Fin 128) :
    k0_pay30 (F := Ideal) acc (k0_pay28 (k0_pay22 v8) (k0_pay23 (k0_pay1 v2) w10) (k0_pay24 (k0_pay2 v4) w10) (iota Kind.tc S256x128 32 [1] iota_S256x128_d1_w32)) (ix2 0 q)
      = acc (ix2 0 q) + ∑ p : Fin 256, dgRow (fun k => v8 (ix2 p k)) (fun k => v2 (ix2 p k)) (fun k => v4 (ix2 p k)) (fun k => w10 (ix2 p k)) q := by
  pointwise [k0_pay1, k0_pay2, k0_pay22, k0_pay23, k0_pay24, k0_pay25, k0_pay26, k0_pay27, k0_pay28, k0_pay30]
  rfl

theorem dg3_apply (v2 v4 w10 : Vec Ideal S256x128 .f32) (v8 : Vec Ideal S256x128 .bf16) (acc : Vec Ideal S1x128 .f32) (q : Fin 128) :
    k0_pay36 (F := Ideal) acc (k0_pay31 v8) (k0_pay32 (k0_pay1 v2) (k0_pay2 v4) w10) (k0_pay33 v8) (ix2 0 q)
      = acc (ix2 0 q) + ∑ p : Fin 256, dgRow (fun k => v8 (ix2 p k)) (fun k => v2 (ix2 p k)) (fun k => v4 (ix2 p k)) (fun k => w10 (ix2 p k)) q := by
  pointwise [k0_pay1, k0_pay2, k0_pay31, k0_pay32, k0_pay33, k0_pay34, k0_pay36]
  rfl

theorem dg4_apply (v2 v4 w10 : Vec Ideal S256x128 .f32) (v8 : Vec Ideal S256x128 .bf16) (acc : Vec Ideal S1x128 .f32) (q : Fin 128) :
    k0_pay46 (F := Ideal) acc (k0_pay37 v8) (k0_pay38 (k0_pay1 v2) w10) (k0_pay39 (k0_pay2 v4) w10) k0_pay40 k0_pay41 (ix2 0 q)
      = acc (ix2 0 q) + ∑ p : Fin 256, dgRow (fun k => v8 (ix2 p k)) (fun k => v2 (ix2 p k)) (fun k => v4 (ix2 p k)) (fun k => w10 (ix2 p k)) q := by
  pointwise [k0_pay1, k0_pay2, k0_pay37, k0_pay38, k0_pay39, k0_pay40, k0_pay41, k0_pay42, k0_pay43, k0_pay44, k0_pay46]
  rfl

theorem dg5_apply (v2 v4 w10 : Vec Ideal S256x128 .f32) (v8 : Vec Ideal S256x128 .bf16) (acc : Vec Ideal S1x128 .f32) (q : Fin 128) :
    k0_pay56 (F := Ideal) acc (k0_pay55 (k0_pay47 v8) (k0_pay48 (k0_pay1 v2) w10) (k0_pay49 (k0_pay2 v4) w10) (iota Kind.tc S256x128 32 [1] iota_S256x128_d1_w32) (2#32) k0_pay50) (ix2 0 q)
      = acc (ix2 0 q) + ∑ p : Fin 256, dgRow (fun k => v8 (ix2 p k)) (fun k => v2 (ix2 p k)) (fun k => v4 (ix2 p k)) (fun k => w10 (ix2 p k)) q := by
  pointwise [k0_pay1, k0_pay2, k0_pay47, k0_pay48, k0_pay49, k0_pay50, k0_pay51, k0_pay52, k0_pay53, k0_pay55, k0_pay56]
  rfl

theorem dg6_apply (v2 v4 w10 : Vec Ideal S256x128 .f32) (v8 : Vec Ideal S256x128 .bf16) (acc : Vec Ideal S1x128 .f32) (q : Fin 128) :
    k0_pay64 (F := Ideal) acc (k0_pay58 (k0_pay1 v2) (k0_pay2 v4) w10) (k0_pay60 v8) (ix2 0 q)
      = acc (ix2 0 q) + ∑ p : Fin 256, dgRow (fun k => v8 (ix2 p k)) (fun k => v2 (ix2 p k)) (fun k => v4 (ix2 p k)) (fun k => w10 (ix2 p k)) q := by
  pointwise [k0_pay1, k0_pay2, k0_pay57, k0_pay58, k0_pay59, k0_pay60, k0_pay64]
  rfl

theorem dg7_apply (v2 v4 w10 : Vec Ideal S256x128 .f32) (v8 : Vec Ideal S256x128 .bf16) (acc : Vec Ideal S1x128 .f32) (q : Fin 128) :
    k0_pay72 (F := Ideal) acc (k0_pay65 v8) (k0_pay66 (k0_pay1 v2) w10) (k0_pay67 (k0_pay2 v4) w10) (ix2 0 q)
      = acc (ix2 0 q) + ∑ p : Fin 256, dgRow (fun k => v8 (ix2 p k)) (fun k => v2 (ix2 p k)) (fun k => v4 (ix2 p k)) (fun k => w10 (ix2 p k)) q := by
  pointwise [k0_pay1, k0_pay2, k0_pay65, k0_pay66, k0_pay67, k0_pay68, k0_pay69, k0_pay70, k0_pay72]
  rfl

theorem dgZ_apply (q : Fin 128) : k0_pay3 (F := Ideal) (ix2 0 q) = 0 := by
  pointwise [k0_pay3]

theorem dgB_apply (a : FVec Ideal S1x128 .f32) (x y z : FVec Ideal S256x128 .f32) (w : Vec Ideal S1x128 .f32) (q : Fin 128) :
    k0_pay73 (F := Ideal) a x y z w (ix2 0 q) = w (ix2 0 q) + k0_pay72 (F := Ideal) a x y z (ix2 0 q) := by
  unfold k0_pay73
  generalize k0_pay72 a x y z = Z
  pointwise

/-! ## The arrays -/

variable (m : (ℓ : Loc nD τ sig) → Buf (Elt Ideal) ℓ) (c : Dev nD)

/-- The arguments, at their coordinates. -/
abbrev dq (s : Fin 4096) (j : Fin 1024) : EReal := (show S4096x1024.Idx → EReal from m ((c : Thread nD τ).loc main_arg0)) (ix2 s j)
abbrev pr (s : Fin 4096) (j : Fin 8192) : EReal := (show S4096x8192.Idx → EReal from m ((c : Thread nD τ).loc main_arg1)) (ix2 s j)
abbrev gn (j : Fin 128) : EReal := (show S1x128.Idx → EReal from m ((c : Thread nD τ).loc main_arg2)) (ix2 0 j)

theorem cosT (s : Fin 4096) (q : Fin 128) : (show S4096x128.Idx → EReal from V m c main_v27) (ix2 s q) = Grad.cosRow s.val q := by
  unfold V
  after_reads_at
  after_reads_at
  rfl

theorem sinT (s : Fin 4096) (q : Fin 128) : (show S4096x128.Idx → EReal from V m c main_v32) (ix2 s q) = Grad.sinRow s.val q := by
  unfold V
  after_reads_at
  after_reads_at
  after_reads_at
  rfl

theorem idxs : ∀ t : Fin grid0.N, win0_0.index t = ![t.val, 0] ∧ win0_1.index t = ![t.val, 9] ∧ win0_2.index t = ![t.val, 10] ∧ win0_3.index t = ![0, 0] ∧ win0_4.index t = ![t.val, 0] ∧ win0_5.index t = ![t.val, 0] ∧ win0_6.index t = ![t.val, 0] ∧ win0_7.index t = ![0, 0] := by decide +kernel

/-- The row of the projection that the norm of head `h` reads, and of the gradient. -/
abbrev xrow (s : Fin 4096) (h : Fin 8) (k : Fin 128) : EReal := pr m c s ⟨4608 + h.val * 128 + k.val, by omega⟩
abbrev drow (s : Fin 4096) (h : Fin 8) (k : Fin 128) : EReal := dq m c s ⟨h.val * 128 + k.val, by omega⟩

/-- The input's gradient, head by head. -/
def dxAt (s : Fin 4096) (h : Fin 8) (q : Fin 128) : EReal :=
  dxRow (xrow m c s h) (Grad.cosRow s.val) (Grad.sinRow s.val) (drow m c s h) (gn m c) q

/-- The first result. -/
def G6 : S4096x1024.Idx → EReal := fun i =>
  dxAt m c (i 0) ⟨(i 1).val / 128, by have := (i 1).isLt; have : (i 1).val < 1024 := this; omega⟩ ⟨(i 1).val % 128, by omega⟩

/-- The array row of a block's row. -/
def rowOf (t : Fin cfg0.N) (p : Fin 256) : Fin 4096 := ⟨t.val * 256 + p.val, by have := t.isLt; have hN : cfg0.N = 16 := N_0; omega⟩

/-- What one head's row adds to the gain's gradient. -/
def dgAt (s : Fin 4096) (h : Fin 8) (q : Fin 128) : EReal :=
  dgRow (xrow m c s h) (Grad.cosRow s.val) (Grad.sinRow s.val) (drow m c s h) q

/-- The second result: the gain's gradient. -/
def G7 : S1x128.Idx → EReal := fun i => 0 + ∑ t : Fin cfg0.N, ∑ h : Fin 8, ∑ p : Fin 256, dgAt m c (rowOf t p) h (i 1)

theorem blk0 (t : Fin cfg0.N) (p : Fin 256) (q : Fin 1024) (hs : t.val * 256 + p.val < 4096) : (show S256x1024.Idx → EReal from iblk m c 0 t) (ix2 p q) = dq m c ⟨t.val * 256 + p.val, hs⟩ q := by
  blk_ext [iblk, V_main_arg0, idxs t]

theorem blk1 (t : Fin cfg0.N) (p : Fin 256) (q : Fin 512) (hs : t.val * 256 + p.val < 4096) : (show S256x512.Idx → EReal from iblk m c 1 t) (ix2 p q) = pr m c ⟨t.val * 256 + p.val, hs⟩ ⟨4608 + q.val, by omega⟩ := by
  blk_ext [iblk, V_main_arg1, idxs t]

theorem blk2 (t : Fin cfg0.N) (p : Fin 256) (q : Fin 512) (hs : t.val * 256 + p.val < 4096) : (show S256x512.Idx → EReal from iblk m c 2 t) (ix2 p q) = pr m c ⟨t.val * 256 + p.val, hs⟩ ⟨5120 + q.val, by omega⟩ := by
  blk_ext [iblk, V_main_arg1, idxs t]

theorem blk3 (t : Fin cfg0.N) (q : Fin 128) : (show S1x128.Idx → EReal from iblk m c 3 t) (ix2 0 q) = gn m c q := by
  blk_ext [iblk, V_main_arg2, idxs t]

theorem blk4 (t : Fin cfg0.N) (p : Fin 256) (q : Fin 128) : (show S256x128.Idx → EReal from iblk m c 4 t) (ix2 p q) = Grad.cosRow (t.val * 256 + p.val) q := by
  have hs : t.val * 256 + p.val < 4096 := by have := t.isLt; have hN : cfg0.N = 16 := N_0; omega
  rw [← cosT m c ⟨t.val * 256 + p.val, hs⟩ q]
  blk_ext [iblk, idxs t]

theorem blk5 (t : Fin cfg0.N) (p : Fin 256) (q : Fin 128) : (show S256x128.Idx → EReal from iblk m c 5 t) (ix2 p q) = Grad.sinRow (t.val * 256 + p.val) q := by
  have hs : t.val * 256 + p.val < 4096 := by have := t.isLt; have hN : cfg0.N = 16 := N_0; omega
  rw [← sinT m c ⟨t.val * 256 + p.val, hs⟩ q]
  blk_ext [iblk, idxs t]

theorem idx6 : ∀ t : Fin grid0.N, win0_6.index t = ![t.val, 0] := by decide +kernel

theorem G6_dx (s : Fin 4096) (h : Fin 8) (q : Fin 128) (j : Fin 1024) (hj : j.val = h.val * 128 + q.val) : G6 m c (ix2 s j) = dxAt m c s h q := by
  have hh := h.isLt
  have hq := q.isLt
  unfold G6
  congr 1
  · apply Fin.ext; show j.val / 128 = h.val; omega
  · apply Fin.ext; show j.val % 128 = q.val; omega

theorem dlanes (t : Fin cfg0.N) (p : Fin 256) (h : Fin 8) (ho) (k : Fin 128) :
    Grad.lanes (h.val * 128) ho (show S256x1024.Idx → EReal from iblk m c 0 t) (ix2 p k) = drow m c (rowOf t p) h k :=
  blk0 m c t p _ (rowOf t p).isLt

theorem xlanes1 (t : Fin cfg0.N) (p : Fin 256) (h : Fin 8) (h4 : h.val < 4) (ho) (k : Fin 128) :
    Grad.lanes (h.val * 128) ho (show S256x512.Idx → EReal from iblk m c 1 t) (ix2 p k) = xrow m c (rowOf t p) h k := by
  refine (blk1 m c t p _ (rowOf t p).isLt).trans ?_
  show pr m c _ _ = pr m c _ _
  congr 1; apply Fin.ext; show 4608 + (h.val * 128 + k.val) = 4608 + h.val * 128 + k.val; omega

theorem xlanes2 (t : Fin cfg0.N) (p : Fin 256) (h : Fin 8) (h4 : 4 ≤ h.val) (ho) (k : Fin 128) :
    Grad.lanes ((h.val - 4) * 128) ho (show S256x512.Idx → EReal from iblk m c 2 t) (ix2 p k) = xrow m c (rowOf t p) h k := by
  refine (blk2 m c t p _ (rowOf t p).isLt).trans ?_
  show pr m c _ _ = pr m c _ _
  congr 1; apply Fin.ext; show 5120 + ((h.val - 4) * 128 + k.val) = 4608 + h.val * 128 + k.val; omega

theorem dx_blk (t : Fin cfg0.N) (p : Fin 256) (h : Fin 8) (q : Fin 128) (X D : S256x128.Idx → EReal)
    (hX : ∀ k, X (ix2 p k) = xrow m c (rowOf t p) h k) (hD : ∀ k, D (ix2 p k) = drow m c (rowOf t p) h k) :
    dxRow (fun k => X (ix2 p k)) (fun k => (show S256x128.Idx → EReal from iblk m c 4 t) (ix2 p k))
      (fun k => (show S256x128.Idx → EReal from iblk m c 5 t) (ix2 p k)) (fun k => D (ix2 p k))
      (fun k => (show S1x128.Idx → EReal from iblk m c 3 t) (ix2 0 k)) q = dxAt m c (rowOf t p) h q := by
  unfold dxAt
  rw [funext (blk4 m c t p), funext (blk5 m c t p), funext (blk3 m c t), funext hX, funext hD]
  rfl

theorem dg_blk (t : Fin cfg0.N) (h : Fin 8) (q : Fin 128) (X D : S256x128.Idx → EReal)
    (hX : ∀ p k, X (ix2 p k) = xrow m c (rowOf t p) h k) (hD : ∀ p k, D (ix2 p k) = drow m c (rowOf t p) h k) :
    ∑ p : Fin 256, dgRow (fun k => X (ix2 p k)) (fun k => (show S256x128.Idx → EReal from iblk m c 4 t) (ix2 p k))
      (fun k => (show S256x128.Idx → EReal from iblk m c 5 t) (ix2 p k)) (fun k => D (ix2 p k)) q = ∑ p : Fin 256, dgAt m c (rowOf t p) h q := by
  refine Finset.sum_congr rfl fun p _ => ?_
  unfold dgAt
  rw [funext (blk4 m c t p), funext (blk5 m c t p), funext (hX p), funext (hD p)]
  rfl

theorem cover6 (w0 w1 w2 w3 w4 w5 w6 w7 : S256x128.Idx → EReal) (y : S256x1024.Idx) : ∃ p ∈ ([⟨Rect.unit ![0, 896] ![256, 128] inb_S256x1024_S256x128_0_896, w7⟩, ⟨Rect.unit ![0, 768] ![256, 128] inb_S256x1024_S256x128_0_768, w6⟩, ⟨Rect.unit ![0, 640] ![256, 128] inb_S256x1024_S256x128_0_640, w5⟩, ⟨Rect.unit ![0, 512] ![256, 128] inb_S256x1024_S256x128_0_512, w4⟩, ⟨Rect.unit ![0, 384] ![256, 128] inb_S256x1024_S256x128_0_384, w3⟩, ⟨Rect.unit ![0, 256] ![256, 128] inb_S256x1024_S256x128_0_256, w2⟩, ⟨Rect.unit ![0, 128] ![256, 128] inb_S256x1024_S256x128_0_128, w1⟩, ⟨Rect.unit ![0, 0] ![256, 128] inb_S256x1024_S256x128_0_0, w0⟩] : List (View.Piece (Elt Ideal) S256x1024 .bf16)), y ∈ p.1.set :=
  View.cover_of_tiledBy _ ![256, 128] (by sl_kernel_rfl) y

/-- The block of the first result, from its eight stores. -/
theorem canon6 (t : Fin cfg0.N) (y : S256x1024.Idx) (w0 w1 w2 w3 w4 w5 w6 w7 : S256x128.Idx → EReal)
    (g0 : ∀ (p : Fin 256) (q : Fin 128), w0 (ix2 p q) = dxAt m c (rowOf t p) 0 q) (g1 : ∀ (p : Fin 256) (q : Fin 128), w1 (ix2 p q) = dxAt m c (rowOf t p) 1 q) (g2 : ∀ (p : Fin 256) (q : Fin 128), w2 (ix2 p q) = dxAt m c (rowOf t p) 2 q) (g3 : ∀ (p : Fin 256) (q : Fin 128), w3 (ix2 p q) = dxAt m c (rowOf t p) 3 q) (g4 : ∀ (p : Fin 256) (q : Fin 128), w4 (ix2 p q) = dxAt m c (rowOf t p) 4 q) (g5 : ∀ (p : Fin 256) (q : Fin 128), w5 (ix2 p q) = dxAt m c (rowOf t p) 5 q) (g6 : ∀ (p : Fin 256) (q : Fin 128), w6 (ix2 p q) = dxAt m c (rowOf t p) 6 q) (g7 : ∀ (p : Fin 256) (q : Fin 128), w7 (ix2 p q) = dxAt m c (rowOf t p) 7 q) :
    View.canon ([⟨Rect.unit ![0, 896] ![256, 128] inb_S256x1024_S256x128_0_896, w7⟩, ⟨Rect.unit ![0, 768] ![256, 128] inb_S256x1024_S256x128_0_768, w6⟩, ⟨Rect.unit ![0, 640] ![256, 128] inb_S256x1024_S256x128_0_640, w5⟩, ⟨Rect.unit ![0, 512] ![256, 128] inb_S256x1024_S256x128_0_512, w4⟩, ⟨Rect.unit ![0, 384] ![256, 128] inb_S256x1024_S256x128_0_384, w3⟩, ⟨Rect.unit ![0, 256] ![256, 128] inb_S256x1024_S256x128_0_256, w2⟩, ⟨Rect.unit ![0, 128] ![256, 128] inb_S256x1024_S256x128_0_128, w1⟩, ⟨Rect.unit ![0, 0] ![256, 128] inb_S256x1024_S256x128_0_0, w0⟩] : List (View.Piece (Elt Ideal) S256x1024 .bf16)) y
      = G6 m c (ix2 (rowOf t (y 0)) (y 1)) := by
  idx_vars y
  canon_tiles x h using (cover6 w0 w1 w2 w3 w4 w5 w6 w7 _)
  all_goals idx_vars x
  · obtain rfl : y0 = x0 := Fin.ext h0
    rw [g7]
    exact (G6_dx m c _ 7 x1 _ (h1.trans (by show 896 + x1.val = 7 * 128 + x1.val; omega))).symm
  · obtain rfl : y0 = x0 := Fin.ext h0
    rw [g6]
    exact (G6_dx m c _ 6 x1 _ (h1.trans (by show 768 + x1.val = 6 * 128 + x1.val; omega))).symm
  · obtain rfl : y0 = x0 := Fin.ext h0
    rw [g5]
    exact (G6_dx m c _ 5 x1 _ (h1.trans (by show 640 + x1.val = 5 * 128 + x1.val; omega))).symm
  · obtain rfl : y0 = x0 := Fin.ext h0
    rw [g4]
    exact (G6_dx m c _ 4 x1 _ (h1.trans (by show 512 + x1.val = 4 * 128 + x1.val; omega))).symm
  · obtain rfl : y0 = x0 := Fin.ext h0
    rw [g3]
    exact (G6_dx m c _ 3 x1 _ (h1.trans (by show 384 + x1.val = 3 * 128 + x1.val; omega))).symm
  · obtain rfl : y0 = x0 := Fin.ext h0
    rw [g2]
    exact (G6_dx m c _ 2 x1 _ (h1.trans (by show 256 + x1.val = 2 * 128 + x1.val; omega))).symm
  · obtain rfl : y0 = x0 := Fin.ext h0
    rw [g1]
    exact (G6_dx m c _ 1 x1 _ (h1.trans (by show 128 + x1.val = 1 * 128 + x1.val; omega))).symm
  · obtain rfl : y0 = x0 := Fin.ext h0
    rw [g0]
    exact (G6_dx m c _ 0 x1 _ (h1.trans (by show x1.val = 0 * 128 + x1.val; omega))).symm

theorem final6 : (dats m 0 c).arrAt 6 cfg0.N = G6 m c := by
  refine (dats m 0 c).arrAt_eq_of_covers 6 _ (by decide +kernel) fun t hf y => ?_
  have hN : cfg0.N = 16 := N_0
  have e : ((cfg0.win 6).blk t).view.emb y = (ix2 (rowOf t (y 0)) (y 1) : S4096x1024.Idx) := by
    funext a
    apply Fin.ext
    match a with
    | ⟨0, _⟩ => show (win0_6.index t 0) * 256 + 1 * (y 0).val = t.val * 256 + (y 0).val; rw [idx6 t]; simp
    | ⟨1, _⟩ => show (win0_6.index t 1) * 1024 + 1 * (y 1).val = (y 1).val; rw [idx6 t]; simp
  rw [e]
  blk_simp
  rw [after0_6]
  by_cases h : t.val % 16 = 0
  · have h1 : ¬1 ≤ t.val := by have : t.val < cfg0.N := t.isLt; omega
    rw [outsAt0_A m c t h h1]
    frame_out
    simp (disch := decide) only [Grad.ld_lanes]
    exact canon6 m c t _ _ _ _ _ _ _ _ _ (fun p q => (dx0_apply _ _ _ _ _ p q).trans (dx_blk m c t p 0 q _ _ (fun k => xlanes1 m c t p 0 (by decide) _ k) (fun k => dlanes m c t p 0 _ k))) (fun p q => (dx1_apply _ _ _ _ _ p q).trans (dx_blk m c t p 1 q _ _ (fun k => xlanes1 m c t p 1 (by decide) _ k) (fun k => dlanes m c t p 1 _ k))) (fun p q => (dx2_apply _ _ _ _ _ p q).trans (dx_blk m c t p 2 q _ _ (fun k => xlanes1 m c t p 2 (by decide) _ k) (fun k => dlanes m c t p 2 _ k))) (fun p q => (dx3_apply _ _ _ _ _ p q).trans (dx_blk m c t p 3 q _ _ (fun k => xlanes1 m c t p 3 (by decide) _ k) (fun k => dlanes m c t p 3 _ k))) (fun p q => (dx4_apply _ _ _ _ _ p q).trans (dx_blk m c t p 4 q _ _ (fun k => xlanes2 m c t p 4 (by decide) _ k) (fun k => dlanes m c t p 4 _ k))) (fun p q => (dx5_apply _ _ _ _ _ p q).trans (dx_blk m c t p 5 q _ _ (fun k => xlanes2 m c t p 5 (by decide) _ k) (fun k => dlanes m c t p 5 _ k))) (fun p q => (dx6_apply _ _ _ _ _ p q).trans (dx_blk m c t p 6 q _ _ (fun k => xlanes2 m c t p 6 (by decide) _ k) (fun k => dlanes m c t p 6 _ k))) (fun p q => (dx7_apply _ _ _ _ _ p q).trans (dx_blk m c t p 7 q _ _ (fun k => xlanes2 m c t p 7 (by decide) _ k) (fun k => dlanes m c t p 7 _ k)))
  · have h1 : 1 ≤ t.val := by omega
    rw [outsAt0_B m c t h h1]
    frame_out
    simp (disch := decide) only [Grad.ld_lanes]
    exact canon6 m c t _ _ _ _ _ _ _ _ _ (fun p q => (dx0_apply _ _ _ _ _ p q).trans (dx_blk m c t p 0 q _ _ (fun k => xlanes1 m c t p 0 (by decide) _ k) (fun k => dlanes m c t p 0 _ k))) (fun p q => (dx1_apply _ _ _ _ _ p q).trans (dx_blk m c t p 1 q _ _ (fun k => xlanes1 m c t p 1 (by decide) _ k) (fun k => dlanes m c t p 1 _ k))) (fun p q => (dx2_apply _ _ _ _ _ p q).trans (dx_blk m c t p 2 q _ _ (fun k => xlanes1 m c t p 2 (by decide) _ k) (fun k => dlanes m c t p 2 _ k))) (fun p q => (dx3_apply _ _ _ _ _ p q).trans (dx_blk m c t p 3 q _ _ (fun k => xlanes1 m c t p 3 (by decide) _ k) (fun k => dlanes m c t p 3 _ k))) (fun p q => (dx4_apply _ _ _ _ _ p q).trans (dx_blk m c t p 4 q _ _ (fun k => xlanes2 m c t p 4 (by decide) _ k) (fun k => dlanes m c t p 4 _ k))) (fun p q => (dx5_apply _ _ _ _ _ p q).trans (dx_blk m c t p 5 q _ _ (fun k => xlanes2 m c t p 5 (by decide) _ k) (fun k => dlanes m c t p 5 _ k))) (fun p q => (dx6_apply _ _ _ _ _ p q).trans (dx_blk m c t p 6 q _ _ (fun k => xlanes2 m c t p 6 (by decide) _ k) (fun k => dlanes m c t p 6 _ k))) (fun p q => (dx7_apply _ _ _ _ _ p q).trans (dx_blk m c t p 7 q _ _ (fun k => xlanes2 m c t p 7 (by decide) _ k) (fun k => dlanes m c t p 7 _ k)))

/-- One step's sums, head by head, as the body adds them. -/
theorem step7 (t : Fin cfg0.N) (j1 : Fin 128) (V : EReal) (hV : V = 0 + ∑ p : Fin 256, dgAt m c (rowOf t p) 0 j1 + ∑ p : Fin 256, dgAt m c (rowOf t p) 1 j1 + ∑ p : Fin 256, dgAt m c (rowOf t p) 2 j1 + ∑ p : Fin 256, dgAt m c (rowOf t p) 3 j1 + ∑ p : Fin 256, dgAt m c (rowOf t p) 4 j1 + ∑ p : Fin 256, dgAt m c (rowOf t p) 5 j1 + ∑ p : Fin 256, dgAt m c (rowOf t p) 6 j1 + ∑ p : Fin 256, dgAt m c (rowOf t p) 7 j1) :
    V = ∑ h : Fin 8, ∑ p : Fin 256, dgAt m c (rowOf t p) h j1 := by
  rw [hV, Fin.sum_univ_eight, zero_add]

theorem final7 : (dats m 0 c).arrAt 7 cfg0.N = G7 m c := by
  refine (dats m 0 c).arrAt_eq_of_after_last 7 t0_15 (by decide +kernel) _ fun j => ?_
  blk_simp
  rw [after0_7]
  have hN : cfg0.N = 16 := N_0
  refine Eq.trans (Pipeline.eq_sum_fin_of_reset_step_apply_last (fun n h => ((outsAt0 m c n h).2 : S1x128.Idx → EReal)) 16 (fun _ => (0 : EReal))
    (fun t j => ∑ h : Fin 8, ∑ p : Fin 256, dgAt m c (rowOf t p) h (j 1)) (fun t h j => ?_) (fun t h j => ?_) N_0.le t0_15 rfl j) rfl
  · have h1 : ¬1 ≤ t.val := by have := t.isLt; omega
    idx_vars j
    obtain rfl : j0 = 0 := Subsingleton.elim _ _
    rw [outsAt0_A m c t h h1]
    frame_out
    simp (disch := decide) only [Grad.ld_lanes]
    exact (step7 m c t j1 _ ((dg7_apply _ _ _ _ _ j1).trans (congrArg₂ (· + ·) ((dg6_apply _ _ _ _ _ j1).trans (congrArg₂ (· + ·) ((dg5_apply _ _ _ _ _ j1).trans (congrArg₂ (· + ·) ((dg4_apply _ _ _ _ _ j1).trans (congrArg₂ (· + ·) ((dg3_apply _ _ _ _ _ j1).trans (congrArg₂ (· + ·) ((dg2_apply _ _ _ _ _ j1).trans (congrArg₂ (· + ·) ((dg1_apply _ _ _ _ _ j1).trans (congrArg₂ (· + ·) ((dg0_apply _ _ _ _ _ j1).trans (congrArg₂ (· + ·) (dgZ_apply j1) (dg_blk m c t 0 j1 _ _ (fun p k => xlanes1 m c t p 0 (by decide) _ k) (fun p k => dlanes m c t p 0 _ k)))) (dg_blk m c t 1 j1 _ _ (fun p k => xlanes1 m c t p 1 (by decide) _ k) (fun p k => dlanes m c t p 1 _ k)))) (dg_blk m c t 2 j1 _ _ (fun p k => xlanes1 m c t p 2 (by decide) _ k) (fun p k => dlanes m c t p 2 _ k)))) (dg_blk m c t 3 j1 _ _ (fun p k => xlanes1 m c t p 3 (by decide) _ k) (fun p k => dlanes m c t p 3 _ k)))) (dg_blk m c t 4 j1 _ _ (fun p k => xlanes2 m c t p 4 (by decide) _ k) (fun p k => dlanes m c t p 4 _ k)))) (dg_blk m c t 5 j1 _ _ (fun p k => xlanes2 m c t p 5 (by decide) _ k) (fun p k => dlanes m c t p 5 _ k)))) (dg_blk m c t 6 j1 _ _ (fun p k => xlanes2 m c t p 6 (by decide) _ k) (fun p k => dlanes m c t p 6 _ k)))) (dg_blk m c t 7 j1 _ _ (fun p k => xlanes2 m c t p 7 (by decide) _ k) (fun p k => dlanes m c t p 7 _ k))))).trans (zero_add _).symm
  · have h1 : 1 ≤ t.val := by omega
    idx_vars j
    obtain rfl : j0 = 0 := Subsingleton.elim _ _
    rw [outsAt0_B m c t h h1]
    frame_out
    simp (disch := decide) only [Grad.ld_lanes]
    refine (dgB_apply _ _ _ _ _ j1).trans (congrArg (_ + ·) ?_)
    exact step7 m c t j1 _ ((dg7_apply _ _ _ _ _ j1).trans (congrArg₂ (· + ·) ((dg6_apply _ _ _ _ _ j1).trans (congrArg₂ (· + ·) ((dg5_apply _ _ _ _ _ j1).trans (congrArg₂ (· + ·) ((dg4_apply _ _ _ _ _ j1).trans (congrArg₂ (· + ·) ((dg3_apply _ _ _ _ _ j1).trans (congrArg₂ (· + ·) ((dg2_apply _ _ _ _ _ j1).trans (congrArg₂ (· + ·) ((dg1_apply _ _ _ _ _ j1).trans (congrArg₂ (· + ·) ((dg0_apply _ _ _ _ _ j1).trans (congrArg₂ (· + ·) (dgZ_apply j1) (dg_blk m c t 0 j1 _ _ (fun p k => xlanes1 m c t p 0 (by decide) _ k) (fun p k => dlanes m c t p 0 _ k)))) (dg_blk m c t 1 j1 _ _ (fun p k => xlanes1 m c t p 1 (by decide) _ k) (fun p k => dlanes m c t p 1 _ k)))) (dg_blk m c t 2 j1 _ _ (fun p k => xlanes1 m c t p 2 (by decide) _ k) (fun p k => dlanes m c t p 2 _ k)))) (dg_blk m c t 3 j1 _ _ (fun p k => xlanes1 m c t p 3 (by decide) _ k) (fun p k => dlanes m c t p 3 _ k)))) (dg_blk m c t 4 j1 _ _ (fun p k => xlanes2 m c t p 4 (by decide) _ k) (fun p k => dlanes m c t p 4 _ k)))) (dg_blk m c t 5 j1 _ _ (fun p k => xlanes2 m c t p 5 (by decide) _ k) (fun p k => dlanes m c t p 5 _ k)))) (dg_blk m c t 6 j1 _ _ (fun p k => xlanes2 m c t p 6 (by decide) _ k) (fun p k => dlanes m c t p 6 _ k)))) (dg_blk m c t 7 j1 _ _ (fun p k => xlanes2 m c t p 7 (by decide) _ k) (fun p k => dlanes m c t p 7 _ k))))

end Cert.QPrepIdeal.Value
-- ==== Proof.QPrepRef.lean ====
/- The derivative of the reference's lines for the queries, read at an index. -/
module

public import proofs.«01_k».proof.Proof.Rope
public import proofs.«01_k».proof.Proof.Host
public import proofs.«01_k».proof.Proof.Gen.QPrepRefIdeal.Read
public import Idealize.ShloMosaic.Lib.Pointwise

@[expose] public section

set_option maxRecDepth 16384

noncomputable section

namespace Cert.QPrepRefIdeal.Read

open Cert.QPrepRefIdeal Cert.QPrepRefIdeal.Gen Idealize.ShloMosaic Idealize.ShloMosaic.TcCoe Idealize.SL.Sem

abbrev N128 : EReal := Ideal.ofBits FTy.f32 1124073472#32
abbrev epsW : EReal := Ideal.ofBits FTy.f32 897988541#32
abbrev halfW : EReal := Ideal.ofBits FTy.f32 0xBF000000#32

theorem cosA (s : Fin 4096) (p : Fin 64) : (show S4096x64.Idx → EReal from val_main_v26 (F := Ideal)) (ix2 s p) = Ideal.cos (Grad.ang s.val p.val) := by
  unfold Grad.ang
  pointwise [val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_cst, val_main_cst_0, val_main_v26]

theorem sinA (s : Fin 4096) (p : Fin 64) : (show S4096x64.Idx → EReal from val_main_v27 (F := Ideal)) (ix2 s p) = Ideal.sin (Grad.ang s.val p.val) := by
  unfold Grad.ang
  pointwise [val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_cst, val_main_cst_0, val_main_v27]

variable (x0 : S4096x1024.Idx → EReal) (x1 : S4096x8192.Idx → EReal) (x2 : S1x128.Idx → EReal)

def xr (s : Fin 4096) (h : Fin 8) (k : Fin 128) : EReal := x1 (ix2 s ⟨4608 + h.val * 128 + k.val, by omega⟩)
def dr (s : Fin 4096) (h : Fin 8) (k : Fin 128) : EReal := x0 (ix2 s ⟨h.val * 128 + k.val, by omega⟩)

theorem x_apply (s : Fin 4096) (h : Fin 8) (k : Fin 128) : (show S1x4096x8x128.Idx → EReal from val_main_v28 (F := Ideal) x1) (ix4 0 s h k) = xr x1 s h k := by
  pointwise [val_main_v28, val_main_v1, val_main_v0]
  refine congrArg x1 (congrArg (ix2 s) (Fin.ext ?_))
  show 4608 + (h.val * 128 + k.val) = 4608 + h.val * 128 + k.val
  omega

theorem r_apply (s : Fin 4096) (h : Fin 8) : (show S1x4096x8x1.Idx → EReal from val_main_v37 (F := Ideal) x1) (ix4 0 s h 0) = Grad.rinv N128 epsW (xr x1 s h) := by
  unfold val_main_v37 val_main_v36 val_main_v34 val_main_v32 val_main_v31 val_main_v30 Grad.rinv
  rw [← funext (x_apply x1 s h)]
  generalize val_main_v28 (F := Ideal) x1 = X
  pointwise [val_main_v33, val_main_v35, val_main_cst_1, val_main_cst_2, val_main_cst_3]

theorem r2_apply (s : Fin 4096) (h : Fin 8) : (show S1x4096x8x1.Idx → EReal from val_main_v38 (F := Ideal) x1) (ix4 0 s h 0)
    = Ideal.div (Grad.rinv N128 epsW (xr x1 s h)) (Ideal.div (∑ k, xr x1 s h k * xr x1 s h k) N128 + epsW) := by
  rw [← r_apply]
  unfold val_main_v38 val_main_v36 val_main_v34 val_main_v32 val_main_v31 val_main_v30
  simp only [← x_apply]
  generalize val_main_v37 (F := Ideal) x1 = R
  generalize val_main_v28 (F := Ideal) x1 = X
  pointwise [val_main_v33, val_main_v35, val_main_cst_1, val_main_cst_2, val_main_cst_3]

theorem even_apply (s : Fin 4096) (h : Fin 8) (p : Fin 64) : (show S1x4096x8x64.Idx → EReal from val_main_v84 (F := Ideal) x0) (ix4 0 s h p) =
    x0 (ix2 s ⟨h.val * 128 + p.val * 2 + 1, by omega⟩) * Ideal.sin (Grad.ang s.val p.val) + x0 (ix2 s ⟨h.val * 128 + p.val * 2, by omega⟩) * Ideal.cos (Grad.ang s.val p.val) := by
  rw [← cosA s p, ← sinA s p]
  unfold val_main_v84 val_main_v83 val_main_v82 val_main_v77 val_main_v76 val_main_v73 val_main_v72 val_main_v71 val_main_v70 val_main_v69 val_main_v68 val_main_v52 val_main_v51
  generalize val_main_v26 (F := Ideal) = C
  generalize val_main_v27 (F := Ideal) = S
  pointwise

theorem odd_apply (s : Fin 4096) (h : Fin 8) (p : Fin 64) : (show S1x4096x8x64.Idx → EReal from val_main_v81 (F := Ideal) x0) (ix4 0 s h p) =
    x0 (ix2 s ⟨h.val * 128 + p.val * 2 + 1, by omega⟩) * Ideal.cos (Grad.ang s.val p.val) + -(x0 (ix2 s ⟨h.val * 128 + p.val * 2, by omega⟩)) * Ideal.sin (Grad.ang s.val p.val) := by
  rw [← cosA s p, ← sinA s p]
  unfold val_main_v81 val_main_v80 val_main_v79 val_main_v78 val_main_v75 val_main_v74 val_main_v73 val_main_v72 val_main_v71 val_main_v70 val_main_v69 val_main_v68 val_main_v52 val_main_v51
  generalize val_main_v26 (F := Ideal) = C
  generalize val_main_v27 (F := Ideal) = S
  pointwise

theorem padHi_apply (s : Fin 4096) (h : Fin 8) (p : Fin 64) (r : Fin 2) : (show S1x4096x8x64x2.Idx → EReal from val_main_v86 (F := Ideal) x0) (ix5 0 s h p r) =
    if r.val = 0 then 0 else (show S1x4096x8x64.Idx → EReal from val_main_v81 (F := Ideal) x0) (ix4 0 s h p) := by
  unfold val_main_v86
  split
  · rename_i hr
    refine (Grad.pad_of_not _ _ _ _ _ 4 (by show ¬ (1 ≤ r.val ∧ _); omega)).trans ?_
    pointwise [val_main_cst_5]
  · rename_i hr
    refine (Grad.pad_of_mem _ _ _ _ _ (ix5 0 s h p 0) (fun a => ?_)).trans ?_
    · match a with
      | ⟨0, _⟩ => rfl
      | ⟨1, _⟩ => show s.val = 0 + (0 + 1) * s.val; omega
      | ⟨2, _⟩ => show h.val = 0 + (0 + 1) * h.val; omega
      | ⟨3, _⟩ => show p.val = 0 + (0 + 1) * p.val; omega
      | ⟨4, _⟩ => show r.val = 1 + (0 + 1) * 0; omega
    · unfold val_main_v85
      generalize val_main_v81 (F := Ideal) x0 = X
      pointwise

theorem padLo_apply (s : Fin 4096) (h : Fin 8) (p : Fin 64) (r : Fin 2) : (show S1x4096x8x64x2.Idx → EReal from val_main_v88 (F := Ideal) x0) (ix5 0 s h p r) =
    if r.val = 0 then (show S1x4096x8x64.Idx → EReal from val_main_v84 (F := Ideal) x0) (ix4 0 s h p) else 0 := by
  unfold val_main_v88
  split
  · rename_i hr
    refine (Grad.pad_of_mem _ _ _ _ _ (ix5 0 s h p 0) (fun a => ?_)).trans ?_
    · match a with
      | ⟨0, _⟩ => rfl
      | ⟨1, _⟩ => show s.val = 0 + (0 + 1) * s.val; omega
      | ⟨2, _⟩ => show h.val = 0 + (0 + 1) * h.val; omega
      | ⟨3, _⟩ => show p.val = 0 + (0 + 1) * p.val; omega
      | ⟨4, _⟩ => show r.val = 0 + (0 + 1) * 0; omega
    · unfold val_main_v87
      generalize val_main_v84 (F := Ideal) x0 = X
      pointwise
  · rename_i hr
    refine (Grad.pad_of_not _ _ _ _ _ 4 (by show ¬ (0 ≤ r.val ∧ (r.val - 0) % (0 + 1) = 0 ∧ (r.val - 0) / (0 + 1) < 1); omega)).trans ?_
    pointwise [val_main_cst_6]

theorem rot_apply (s : Fin 4096) (h : Fin 8) (q : Fin 128) : (show S1x4096x8x128.Idx → EReal from val_main_v90 (F := Ideal) x0) (ix4 0 s h q)
    = Grad.rotBackLines s.val (dr x0 s h) q := by
  have e : (show S1x4096x8x128.Idx → EReal from val_main_v90 (F := Ideal) x0) (ix4 0 s h q)
      = (show S1x4096x8x64x2.Idx → EReal from val_main_v86 (F := Ideal) x0) (ix5 0 s h ⟨q.val / 2, by omega⟩ ⟨q.val % 2, by omega⟩)
        + (show S1x4096x8x64x2.Idx → EReal from val_main_v88 (F := Ideal) x0) (ix5 0 s h ⟨q.val / 2, by omega⟩ ⟨q.val % 2, by omega⟩) := by
    unfold val_main_v90 val_main_v89
    generalize val_main_v86 (F := Ideal) x0 = X
    generalize val_main_v88 (F := Ideal) x0 = Y
    pointwise
  rw [e, padHi_apply, padLo_apply]
  unfold Grad.rotBackLines
  have hq := q.isLt
  by_cases hr : q.val % 2 = 0
  · rw [if_pos hr, if_pos hr, if_pos hr, zero_add, even_apply]
    congr 2
    · refine congrArg x0 (congrArg (ix2 s) (Fin.ext ?_)); show h.val * 128 + q.val / 2 * 2 + 1 = h.val * 128 + (q.val + 1) % 128; omega
    · refine congrArg x0 (congrArg (ix2 s) (Fin.ext ?_)); show h.val * 128 + q.val / 2 * 2 = h.val * 128 + q.val; omega
  · rw [if_neg hr, if_neg hr, if_neg hr, add_zero, odd_apply]
    congr 2
    · refine congrArg x0 (congrArg (ix2 s) (Fin.ext ?_)); show h.val * 128 + q.val / 2 * 2 + 1 = h.val * 128 + q.val; omega
    · refine congrArg (- ·) (congrArg x0 (congrArg (ix2 s) (Fin.ext ?_))); show h.val * 128 + q.val / 2 * 2 = h.val * 128 + (q.val - 1); omega

theorem unit_sum (s : Fin 4096) (h : Fin 8) (X : S1x4096x8x1.Idx → EReal) (z : S_.Idx → EReal) :
    (Host.reduceAdd (F := Ideal) (φ := .f32) X z reducesTo_S1x4096x8x1_S4096x8_d0_3 h_S_) (ix2 s h) = z (Shape.Idx.first h_S_) + X (ix4 0 s h 0) := by
  refine (Grad.hostSum reducesTo_S1x4096x8x1_S4096x8_d0_3 X _ (ix2 s h) (fun _ : Unit => (ix4 0 s h 0 : S1x4096x8x1.Idx)) (fun a b _ => rfl) (fun _ => ?_) (fun i hi => ⟨(), ?_⟩)).trans ?_
  · funext a; apply Fin.ext; match a with
    | ⟨0, _⟩ => rfl
    | ⟨1, _⟩ => rfl
  · idx_vars i
    have a1 := congrArg Fin.val (congrFun hi 0)
    have a2 := congrArg Fin.val (congrFun hi 1)
    have b1 : i1.val = s.val := a1
    have b2 : i2.val = h.val := a2
    obtain rfl : i1 = s := Fin.ext b1
    obtain rfl : i2 = h := Fin.ext b2
    obtain rfl : i0 = 0 := Subsingleton.elim _ _
    obtain rfl : i3 = 0 := Subsingleton.elim _ _
    rfl
  · simp

theorem rows_sum (q : Fin 128) (X : S1x4096x8x128.Idx → EReal) (z : S_.Idx → EReal) :
    (Host.reduceAdd (F := Ideal) (φ := .f32) X z reducesTo_S1x4096x8x128_S1x128_d1_2 h_S_) (ix2 0 q) = z (Shape.Idx.first h_S_) + ∑ k : Fin 4096 × Fin 8, X (ix4 0 k.1 k.2 q) := by
  refine (Grad.hostSum reducesTo_S1x4096x8x128_S1x128_d1_2 X _ (ix2 0 q) (fun k : Fin 4096 × Fin 8 => (ix4 0 k.1 k.2 q : S1x4096x8x128.Idx)) (fun a b e => ?_) (fun _ => ?_) (fun i hi => ?_))
  · exact Prod.ext (congrFun e 1) (congrFun e 2)
  · funext a; apply Fin.ext; match a with
    | ⟨0, _⟩ => rfl
    | ⟨1, _⟩ => rfl
  · idx_vars i
    have b2 : i3.val = q.val := congrArg Fin.val (congrFun hi 1)
    obtain rfl : i3 = q := Fin.ext b2
    obtain rfl : i0 = 0 := Subsingleton.elim _ _
    exact ⟨(i1, i2), rfl⟩

theorem lanes_sum (q : Fin 128) (X : S1x1x1x128.Idx → EReal) (z : S_.Idx → EReal) :
    (Host.reduceAdd (F := Ideal) (φ := .f32) X z reducesTo_S1x1x1x128_S128_d0_1_2 h_S_) (ix1 q) = z (Shape.Idx.first h_S_) + X (ix4 0 0 0 q) := by
  refine (Grad.hostSum reducesTo_S1x1x1x128_S128_d0_1_2 X _ (ix1 q) (fun _ : Unit => (ix4 0 0 0 q : S1x1x1x128.Idx)) (fun a b _ => rfl) (fun _ => ?_) (fun i hi => ⟨(), ?_⟩)).trans ?_
  · funext a; apply Fin.ext; match a with
    | ⟨0, _⟩ => rfl
  · idx_vars i
    have b1 : i3.val = q.val := congrArg Fin.val (congrFun hi 0)
    obtain rfl : i3 = q := Fin.ext b1
    obtain rfl : i0 = 0 := Subsingleton.elim _ _
    obtain rfl : i1 = 0 := Subsingleton.elim _ _
    obtain rfl : i2 = 0 := Subsingleton.elim _ _
    rfl
  · simp

/-- The gain's gradient. -/
theorem dg_apply (q : Fin 128) : (show S1x128.Idx → EReal from val_main_v112 (F := Ideal) x0 x1) (ix2 0 q)
    = ∑ k : Fin 4096 × Fin 8, xr x1 k.1 k.2 q * Grad.rinv N128 epsW (xr x1 k.1 k.2) * Grad.rotBackLines k.1.val (dr x0 k.1 k.2) q := by
  have e1 : (show S1x128.Idx → EReal from val_main_v112 (F := Ideal) x0 x1) (ix2 0 q) = (show S128.Idx → EReal from val_main_v96 (F := Ideal) x0 x1) (ix1 q) := by
    unfold val_main_v112
    generalize val_main_v96 (F := Ideal) x0 x1 = X
    pointwise
  have e2 : (show S1x1x1x128.Idx → EReal from val_main_v93 (F := Ideal) x0 x1) (ix4 0 0 0 q) = (show S1x128.Idx → EReal from val_main_v92 (F := Ideal) x0 x1) (ix2 0 q) := by
    unfold val_main_v93
    generalize val_main_v92 (F := Ideal) x0 x1 = X
    pointwise
  rw [e1]
  unfold val_main_v96
  refine (lanes_sum q _ _).trans ?_
  refine (congrArg (_ + ·) e2).trans ?_
  unfold val_main_v92
  refine (congrArg (_ + ·) (rows_sum q _ _)).trans ?_
  rw [show (val_main_cst_8 (F := Ideal)) (Shape.Idx.first h_S_) = (0 : EReal) from by pointwise [val_main_cst_8],
    show (val_main_cst_7 (F := Ideal)) (Shape.Idx.first h_S_) = (0 : EReal) from by pointwise [val_main_cst_7], zero_add, zero_add]
  refine Finset.sum_congr rfl fun k _ => ?_
  rw [← rot_apply, ← r_apply, ← x_apply]
  unfold val_main_v91 val_main_v42 val_main_v41
  generalize val_main_v90 (F := Ideal) x0 = X
  generalize val_main_v37 (F := Ideal) x1 = R
  generalize val_main_v28 (F := Ideal) x1 = Y
  pointwise

/-- The norm's input's gradient. -/
theorem dx_apply (s : Fin 4096) (h : Fin 8) (q : Fin 128) : (show S1x4096x8x128.Idx → EReal from val_main_v111 (F := Ideal) x0 x1 x2) (ix4 0 s h q)
    = Grad.normDxLines N128 epsW halfW (xr x1 s h) (Grad.rotBackLines s.val (dr x0 s h)) (fun k => x2 (ix2 0 k)) q := by
  have e1 : (show S4096x8.Idx → EReal from val_main_v105 (F := Ideal) x0 x1 x2) (ix2 s h) = (show S1x4096x8x1.Idx → EReal from val_main_v104 (F := Ideal) x0 x1 x2) (ix4 0 s h 0) := by
    unfold val_main_v105
    refine (unit_sum s h _ _).trans ?_
    rw [show (val_main_cst_11 (F := Ideal)) (Shape.Idx.first h_S_) = (0 : EReal) from by pointwise [val_main_cst_11], zero_add]
  have e2 : (show S1x4096x8x1.Idx → EReal from val_main_v104 (F := Ideal) x0 x1 x2) (ix4 0 s h 0) = Grad.meanGrad N128 epsW halfW (xr x1 s h) (Grad.rotBackLines s.val (dr x0 s h)) (fun k => x2 (ix2 0 k)) := by
    unfold Grad.meanGrad
    rw [← r2_apply]
    simp only [← rot_apply, ← x_apply]
    unfold val_main_v104 val_main_v102 val_main_v99 val_main_v98 val_main_v97 val_main_v95 val_main_v40
    generalize val_main_v90 (F := Ideal) x0 = X
    generalize val_main_v38 (F := Ideal) x1 = R
    generalize val_main_v28 (F := Ideal) x1 = Y
    pointwise [val_main_v103, val_main_v94, val_main_v43, val_main_v29, val_main_v39, val_main_cst_4, val_main_cst_9, val_main_cst_10]
  unfold Grad.normDxLines
  rw [← e2, ← e1]
  simp only [← rot_apply, ← x_apply, ← r_apply]
  unfold val_main_v111 val_main_v110 val_main_v109 val_main_v108 val_main_v107 val_main_v106 val_main_v101 val_main_v100 val_main_v95
  generalize val_main_v105 (F := Ideal) x0 x1 x2 = M
  generalize val_main_v90 (F := Ideal) x0 = X
  generalize val_main_v37 (F := Ideal) x1 = R
  generalize val_main_v28 (F := Ideal) x1 = Y
  pointwise [val_main_v94, val_main_v43, val_main_v29]

/-- The first result. -/
theorem out_apply (s : Fin 4096) (h : Fin 8) (q : Fin 128) (j : Fin 1024) (hj : j.val = h.val * 128 + q.val) :
    (show S4096x1024.Idx → EReal from val_main_v114 (F := Ideal) x0 x1 x2) (ix2 s j)
    = Grad.normDxLines N128 epsW halfW (xr x1 s h) (Grad.rotBackLines s.val (dr x0 s h)) (fun k => x2 (ix2 0 k)) q := by
  have hh := h.isLt
  have hq := q.isLt
  rw [← dx_apply]
  unfold val_main_v114 val_main_v113
  generalize val_main_v111 (F := Ideal) x0 x1 x2 = X
  pointwise
  refine congrArg X ?_
  rw [show (⟨j.val / 128, by omega⟩ : Fin 8) = h from Fin.ext (by show j.val / 128 = h.val; omega), show (⟨j.val % 128, by omega⟩ : Fin 128) = q from Fin.ext (by show j.val % 128 = q.val; omega)]

end Cert.QPrepRefIdeal.Read

end
-- ==== Proof.QPrepMeet.lean ====
/- The queries' norm and rotary gradient: the kernel's results are the derivative of the reference's lines. -/
module

public import proofs.«01_k».proof.Proof.QPrepKernel
public import proofs.«01_k».proof.Proof.QPrepRef
public import proofs.«01_k».proof.Proof.Blocks
public import proofs.«01_k».proof.Pre_q_prep_finite

@[expose] public section

set_option maxRecDepth 16384

noncomputable section

namespace Cert.QPrepMeet

open Idealize.ShloMosaic Idealize.ShloMosaic.TcCoe Idealize.SL.Sem
open Cert.QPrepIdeal (nD τ sig main_arg0 main_arg1 main_arg2 cfg0)
open Cert.QPrepIdeal.Value Cert.QPrepIdeal.Gen

instance preFacts : Cert.Pre_q_prep_finite.Facts where
  bcast_S_S4096x1024 := by decide
  reducesTo_S4096x1024_S_d0_1 := by decide
  h_S_ := by decide
  bitsLt_bf16_f32 := by decide
  bcast_S_S4096x8192 := by decide
  reducesTo_S4096x8192_S_d0_1 := by decide
  bcast_S_S1x128 := by decide
  reducesTo_S1x128_S_d0_1 := by decide

theorem finite (x0 : FVec Ideal Cert.Pre_q_prep_finite.S4096x1024 .f32) (x1 : FVec Ideal Cert.Pre_q_prep_finite.S4096x8192 .bf16) (x2 : FVec Ideal Cert.Pre_q_prep_finite.S1x128 .f32) (h : Cert.Pre_q_prep_finite.fn (F := Ideal) x0 x1 x2 = fun _ => 1#1) :
    (∀ i, Grad.IsR (x0 i)) ∧ (∀ i, Grad.IsR (x1 i)) ∧ ∀ i, Grad.IsR (x2 i) := by
  have h0 := congrFun h (fun a => a.elim0)
  obtain ⟨h1, h2⟩ := Grad.andi_one _ _ h0
  obtain ⟨h3, h4⟩ := Grad.andi_one _ _ h1
  exact ⟨Grad.finite_of_all x0 _ _ _ _ h3, Grad.finite_of_all x1 _ _ _ _ h4, Grad.finite_of_all x2 _ _ _ _ h2⟩

variable (m : (ℓ : Loc nD τ sig) → Buf (Elt Ideal) ℓ) (c : Dev nD)

theorem dg_eq : G7 m c = Cert.QPrepRefIdeal.Read.val_main_v112 (F := Ideal) (m ((c : Thread nD τ).loc main_arg0)) (m ((c : Thread nD τ).loc main_arg1)) := by
  funext i
  idx_vars i
  obtain rfl : i0 = 0 := Subsingleton.elim _ _
  refine Eq.trans ?_ (Cert.QPrepRefIdeal.Read.dg_apply _ _ i1).symm
  rw [Fintype.sum_prod_type]
  unfold G7
  rw [zero_add]
  have e := Grad.sum_blocks (n := cfg0.N) (b := 256) (N := 4096) (by rw [show cfg0.N = 16 from N_0]) (fun s => ∑ h : Fin 8, dgAt m c s h i1)
  refine Eq.trans (Finset.sum_congr rfl fun t _ => ?_) (e.trans ?_)
  · rw [Finset.sum_comm]; rfl
  refine Finset.sum_congr rfl fun s _ => Finset.sum_congr rfl fun h _ => ?_
  unfold dgAt dgRow
  rw [Grad.rotBack_eq, mul_comm]
  rfl

theorem dx_eq (hf : (∀ i, Grad.IsR ((show Cert.QPrepIdeal.S4096x1024.Idx → EReal from m ((c : Thread nD τ).loc main_arg0)) i)) ∧ (∀ i, Grad.IsR ((show Cert.QPrepIdeal.S4096x8192.Idx → EReal from m ((c : Thread nD τ).loc main_arg1)) i))
      ∧ ∀ i, Grad.IsR ((show Cert.QPrepIdeal.S1x128.Idx → EReal from m ((c : Thread nD τ).loc main_arg2)) i)) :
    G6 m c = Cert.QPrepRefIdeal.Read.val_main_v114 (F := Ideal) (m ((c : Thread nD τ).loc main_arg0)) (m ((c : Thread nD τ).loc main_arg1)) (m ((c : Thread nD τ).loc main_arg2)) := by
  funext i
  idx_vars i
  have h1 : i1.val / 128 < 8 := by omega
  have h2 : i1.val % 128 < 128 := by omega
  have hj : i1.val = i1.val / 128 * 128 + i1.val % 128 := by omega
  refine (G6_dx m c i0 ⟨i1.val / 128, h1⟩ ⟨i1.val % 128, h2⟩ i1 hj).trans (Eq.trans ?_ (Cert.QPrepRefIdeal.Read.out_apply _ _ _ i0 ⟨i1.val / 128, h1⟩ ⟨i1.val % 128, h2⟩ i1 hj).symm)
  refine (Grad.normDx128_eq (fun k => hf.2.1 _) (fun k => ?_) (fun k => hf.2.2 _) _).trans ?_
  · rw [Grad.rotBack_eq]; exact Grad.rotBackLines_real _ (fun k => hf.1 _) _
  · rw [show Grad.rotBack (Grad.cosRow i0.val) (Grad.sinRow i0.val) (drow m c i0 ⟨i1.val / 128, h1⟩) = Grad.rotBackLines i0.val (drow m c i0 ⟨i1.val / 128, h1⟩) from funext fun k => Grad.rotBack_eq _ _ _]
    rfl

end Cert.QPrepMeet

end
-- ==== Proof.FlashFwdPay.lean ====
/- The pieces of the grouped attention's forward kernel, read at an index. -/
module

public import proofs.«01_k».proof.Proof.Gen.FlashFwdIdeal.Skeleton
public import Idealize.ShloMosaic.PureOps.IdealRules
public import Idealize.ShloMosaic.Lib.Pointwise

@[expose] public section

set_option maxRecDepth 16384

noncomputable section

namespace Cert.FlashFwdIdeal.Pay

open Cert.FlashFwdIdeal Cert.FlashFwdIdeal.Gen Idealize.ShloMosaic Idealize.ShloMosaic.TcCoe Idealize.SL.Sem

theorem log2 : Named.named (F := Ideal) κ "log_2" (φ := .f32) 0x3F317218#32 = ((Real.log 2 : ℝ) : EReal) :=
  IdealRules.named_const.ideal_named_scalar _ _ _ _ rfl

/-- A row's greatest score, its powers of two, their sum, and the row's two results. -/
def mxR (x : Fin 4096 → EReal) : EReal := Finset.fold max (Ideal.ofBits FTy.f32 4286578688#32) x Finset.univ
def exR (x : Fin 4096 → EReal) (j : Fin 4096) : EReal := Ideal.exp2 (x j - mxR x)
def smR (x : Fin 4096 → EReal) : EReal := ∑ j : Fin 4096, exR x j
def oR (x v : Fin 4096 → EReal) : EReal := Ideal.div (∑ j : Fin 4096, exR x j * v j) (smR x)
def logR (x : Fin 4096 → EReal) : EReal := mxR x * ((Real.log 2 : ℝ) : EReal) + Ideal.log (smR x)
/-- The log-sum averaged over 128 lanes, its high and its low part apart. -/
def lseR (x : Fin 4096 → EReal) : EReal :=
  ((∑ _d : Fin 128, 1 * logR x) + ∑ _d : Fin 128, 1 * (logR x - logR x)) * Ideal.ofBits FTy.f32 0x3C000000#32

variable (X : FVec Ideal S256x4096 .f32)

theorem pay1_apply (p : Fin 256) : k0_pay1 (F := Ideal) X (ix2 p 0) = mxR fun j => X (ix2 p j) := by
  unfold mxR
  pointwise [k0_pay1]

theorem pay2_apply (p : Fin 256) (j : Fin 4096) : k0_pay2 (F := Ideal) X (ix2 p j) = exR (fun j => X (ix2 p j)) j := by
  unfold exR
  rw [← pay1_apply]
  unfold k0_pay2
  generalize k0_pay1 (F := Ideal) X = Y
  pointwise
  rfl

theorem pay3_apply (p : Fin 256) : k0_pay3 (F := Ideal) X (ix2 p 0) = smR fun j => X (ix2 p j) := by
  unfold smR
  simp only [← pay2_apply]
  unfold k0_pay3
  generalize k0_pay2 (F := Ideal) X = Y
  pointwise

theorem pay4_apply (v : FVec Ideal S4096x128 .bf16) (p : Fin 256) (d : Fin 128) :
    k0_pay4 (F := Ideal) v X (ix2 p d) = oR (fun j => X (ix2 p j)) fun j => v (ix2 j d) := by
  unfold oR
  simp only [← pay2_apply]
  rw [← pay3_apply]
  unfold k0_pay4
  generalize k0_pay2 (F := Ideal) X = Y
  generalize k0_pay3 (F := Ideal) X = Z
  pointwise

theorem pay5_apply (p : Fin 256) : k0_pay5 (F := Ideal) X (ix3 0 0 p) = lseR fun j => X (ix2 p j) := by
  unfold lseR logR
  rw [← pay1_apply, ← pay3_apply, ← log2]
  unfold k0_pay5
  generalize k0_pay1 (F := Ideal) X = Y
  generalize k0_pay3 (F := Ideal) X = Z
  pointwise

/-- The scores. -/
theorem pay27_apply (k : FVec Ideal S4096x128 .bf16) (q : Vec Ideal S256x128 .bf16) (p : Fin 256) (j : Fin 4096) :
    k0_pay27 (F := Ideal) (k0_pay6 k) q (ix2 p j) = ∑ d : Fin 128, q (ix2 p d) * k (ix2 j d) := by
  pointwise [k0_pay27, k0_pay6]

/-- The four heads' bodies are one. -/
theorem o0 (k v : Vec Ideal S4096x128 .bf16) (q : Vec Ideal S256x128 .bf16) : k0_pay12 (F := Ideal) k v q = k0_pay4 (k0_pay7 v) (k0_pay27 (k0_pay6 k) q) := rfl
theorem o1 (k v : FVec Ideal S4096x128 .bf16) (q : Vec Ideal S256x128 .bf16) : k0_pay19 (F := Ideal) k v q = k0_pay4 v (k0_pay27 k q) := rfl
theorem o2 (k v : FVec Ideal S4096x128 .bf16) (q : Vec Ideal S256x128 .bf16) : k0_pay25 (F := Ideal) k v q = k0_pay4 v (k0_pay27 k q) := rfl
theorem l0 (k : Vec Ideal S4096x128 .bf16) (q : Vec Ideal S256x128 .bf16) : k0_pay14 (F := Ideal) (k0_pay13 k q) = k0_pay5 (k0_pay27 (k0_pay6 k) q) := rfl
theorem l1 (k : FVec Ideal S4096x128 .bf16) (q : Vec Ideal S256x128 .bf16) : k0_pay20 (F := Ideal) k q = k0_pay5 (k0_pay27 k q) := rfl
theorem l2 (k : FVec Ideal S4096x128 .bf16) (q : Vec Ideal S256x128 .bf16) : k0_pay26 (F := Ideal) k q = k0_pay5 (k0_pay27 k q) := rfl

theorem pay7_apply (v : Vec Ideal S4096x128 .bf16) (j : Fin 4096) (d : Fin 128) : k0_pay7 (F := Ideal) v (ix2 j d) = v (ix2 j d) := by
  pointwise [k0_pay7]

/-- A head's two results, from its queries, the keys and the values. -/
theorem headO (k v : Vec Ideal S4096x128 .bf16) (q : Vec Ideal S256x128 .bf16) (p : Fin 256) (d : Fin 128) :
    k0_pay4 (F := Ideal) (k0_pay7 v) (k0_pay27 (k0_pay6 k) q) (ix2 p d) = oR (fun j => ∑ e : Fin 128, q (ix2 p e) * k (ix2 j e)) fun j => v (ix2 j d) := by
  rw [pay4_apply]
  simp only [pay27_apply, pay7_apply]
theorem headL (k : Vec Ideal S4096x128 .bf16) (q : Vec Ideal S256x128 .bf16) (p : Fin 256) :
    k0_pay5 (F := Ideal) (k0_pay27 (k0_pay6 k) q) (ix3 0 0 p) = lseR fun j => ∑ e : Fin 128, q (ix2 p e) * k (ix2 j e) := by
  rw [pay5_apply]
  simp only [pay27_apply]

end Cert.FlashFwdIdeal.Pay

end
-- ==== Proof.FlashFwdHost.lean ====
/- The host lines before the grouped attention's forward kernel, read at an index: the packed heads. -/
module

public import proofs.«01_k».proof.Proof.FlashFwdPay
public import proofs.«01_k».proof.Proof.Lanes
public import proofs.«01_k».proof.Proof.Gen.FlashFwdIdeal.Value
public import Idealize.ShloMosaic.Lib.Pipeline.ValueKit
public import Idealize.ShloMosaic.Lib.StableHlo.ReadAt
public import Idealize.ShloMosaic.Lib.Pointwise

@[expose] public section

set_option maxRecDepth 16384

noncomputable section

namespace Cert.FlashFwdIdeal.Value

open Cert.FlashFwdIdeal Cert.FlashFwdIdeal.Gen Cert.FlashFwdIdeal.Pay Idealize.ShloMosaic Idealize.ShloMosaic.TcCoe Idealize.SL.Sem

variable (m : (ℓ : Loc nD τ sig) → Buf (Elt Ideal) ℓ) (c : Dev nD)

/-- The arguments, at their coordinates. -/
abbrev qA (s : Fin 4096) (j : Fin 1024) : EReal := (show S4096x1024.Idx → EReal from m ((c : Thread nD τ).loc main_arg0)) (ix2 s j)
abbrev kA (s : Fin 4096) (j : Fin 256) : EReal := (show S4096x256.Idx → EReal from m ((c : Thread nD τ).loc main_arg1)) (ix2 s j)
abbrev vA (s : Fin 4096) (j : Fin 256) : EReal := (show S4096x256.Idx → EReal from m ((c : Thread nD τ).loc main_arg2)) (ix2 s j)

/-- Key heads and their queries' heads, as columns. -/
abbrev kcol (g : Fin 2) (d : Fin 128) : Fin 256 := ⟨g.val * 128 + d.val, by omega⟩
abbrev qcol (g : Fin 2) (h : Fin 4) (d : Fin 128) : Fin 1024 := ⟨g.val * 512 + h.val * 128 + d.val, by omega⟩

/-- The queries' scale, as the host computes it. -/
def scale : EReal := Ideal.div 1 (Ideal.sqrt (Ideal.ofBits FTy.f32 1124073472#32) * Ideal.log (Ideal.ofBits FTy.f32 1073741824#32))

theorem qkv1 (s : Fin 4096) (j : Fin 256) (hj : 1024 + j.val < 1536) : (show S4096x1536.Idx → EReal from V m c main_v8) (ix2 s ⟨1024 + j.val, hj⟩) = kA m c s j := by
  unfold V
  after_reads_at

theorem qkv2 (s : Fin 4096) (j : Fin 256) (hj : 1280 + j.val < 1536) : (show S4096x1536.Idx → EReal from V m c main_v8) (ix2 s ⟨1280 + j.val, hj⟩) = vA m c s j := by
  unfold V
  after_reads_at
  rw [dif_neg (by omega), dif_neg (by omega)]
  have e : ∀ h, (⟨1280 + j.val - 1024 - 256, h⟩ : Fin 256) = j := fun h => Fin.ext (by show 1280 + j.val - 1024 - 256 = j.val; omega)
  rw [e]

theorem qkv0 (s : Fin 4096) (j : Fin 1024) (hj : j.val < 1536) : (show S4096x1536.Idx → EReal from V m c main_v8) (ix2 s ⟨j.val, hj⟩) = qA m c s j * scale := by
  unfold V
  after_reads_at
  after_reads_at
  rfl

/-- A point's key head, and the rows of its block. -/
abbrev gN (n : ℕ) : Fin 2 := ⟨n / 16 % 2, by omega⟩
abbrev rowN (n : ℕ) (p : Fin 256) : Fin 4096 := ⟨n % 16 * 256 + p.val, by omega⟩

theorem idxs : ∀ t : Fin grid0.N, win0_0.index t = ![t.val % 16, t.val / 16] ∧ win0_1.index t = ![0, 8 + t.val / 16] ∧ win0_2.index t = ![0, 10 + t.val / 16]
    ∧ win0_3.index t = ![t.val % 16, t.val / 16] ∧ win0_4.index t = ![t.val / 16, 0, t.val % 16] := by
  decide +kernel

theorem tlt (t : Fin cfg0.N) : t.val < 32 := lt_of_lt_of_eq t.isLt N_0

theorem blk0 (t : Fin cfg0.N) (h : Fin 4) (ho) (p : Fin 256) (d : Fin 128) :
    Grad.lanes (h.val * 128) ho (show S256x512.Idx → EReal from iblk m c 0 t) (ix2 p d) = qA m c (rowN t.val p) (qcol (gN t.val) h d) * scale := by
  have ht := tlt t
  have hc : h.val * 128 + d.val < 512 := by omega
  rw [← qkv0 m c _ _ (by show t.val / 16 % 2 * 512 + h.val * 128 + d.val < 1536; omega)]
  show (show S256x512.Idx → EReal from iblk m c 0 t) (ix2 p ⟨h.val * 128 + d.val, hc⟩) = _
  blk_ext [iblk, idxs t]

theorem blk1 (t : Fin cfg0.N) (j : Fin 4096) (d : Fin 128) : (show S4096x128.Idx → EReal from iblk m c 1 t) (ix2 j d) = kA m c j (kcol (gN t.val) d) := by
  have ht := tlt t
  rw [← qkv1 m c _ _ (by show 1024 + (t.val / 16 % 2 * 128 + d.val) < 1536; omega)]
  blk_ext [iblk, idxs t]

theorem blk2 (t : Fin cfg0.N) (j : Fin 4096) (d : Fin 128) : (show S4096x128.Idx → EReal from iblk m c 2 t) (ix2 j d) = vA m c j (kcol (gN t.val) d) := by
  have ht := tlt t
  rw [← qkv2 m c _ _ (by show 1280 + (t.val / 16 % 2 * 128 + d.val) < 1536; omega)]
  blk_ext [iblk, idxs t]

end Cert.FlashFwdIdeal.Value

end
-- ==== Proof.FlashFwdKernel.lean ====
/- The grouped attention's forward kernel: what its two results hold, in closed form over the arguments. -/
module

public import proofs.«01_k».proof.Proof.FlashFwdHost

@[expose] public section

set_option maxRecDepth 16384

noncomputable section

namespace Cert.FlashFwdIdeal.Value

open Cert.FlashFwdIdeal Cert.FlashFwdIdeal.Gen Cert.FlashFwdIdeal.Pay Idealize.ShloMosaic Idealize.ShloMosaic.TcCoe Idealize.SL.Sem

variable (m : (ℓ : Loc nD τ sig) → Buf (Elt Ideal) ℓ) (c : Dev nD)

/-- A query's scores, in powers of two; its output and its log-sum. -/
def sAt (g : Fin 2) (h : Fin 4) (i j : Fin 4096) : EReal := ∑ e : Fin 128, qA m c i (qcol g h e) * scale * kA m c j (kcol g e)
def oAt (g : Fin 2) (h : Fin 4) (i : Fin 4096) (d : Fin 128) : EReal := oR (sAt m c g h i) fun j => vA m c j (kcol g d)
def lAt (g : Fin 2) (h : Fin 4) (i : Fin 4096) : EReal := lseR (sAt m c g h i)

/-- The two results. -/
def G3 : S4096x1024.Idx → EReal := fun i => oAt m c ⟨(i 1).val / 512, by have : (i 1).val < 1024 := (i 1).isLt; omega⟩ ⟨(i 1).val / 128 % 4, by omega⟩ (i 0) ⟨(i 1).val % 128, by omega⟩
def G4 : S8x1x4096.Idx → EReal := fun i => lAt m c ⟨(i 0).val / 4, by have : (i 0).val < 8 := (i 0).isLt; omega⟩ ⟨(i 0).val % 4, by omega⟩ (i 2)

theorem G3_at (s : Fin 4096) (g : Fin 2) (h : Fin 4) (d : Fin 128) (j : Fin 1024) (hj : j.val = g.val * 512 + h.val * 128 + d.val) : G3 m c (ix2 s j) = oAt m c g h s d := by
  unfold G3
  congr 1
  · apply Fin.ext; show j.val / 512 = g.val; omega
  · apply Fin.ext; show j.val / 128 % 4 = h.val; omega
  · apply Fin.ext; show j.val % 128 = d.val; omega

theorem G4_at (s : Fin 4096) (g : Fin 2) (h : Fin 4) (j : Fin 8) (hj : j.val = g.val * 4 + h.val) : G4 m c (ix3 j 0 s) = lAt m c g h s := by
  unfold G4
  congr 1
  · apply Fin.ext; show j.val / 4 = g.val; omega
  · apply Fin.ext; show j.val % 4 = h.val; omega

/-- A whole block loaded is the block. -/
theorem ld_whole {α : EltTy} (X : S4096x128.Idx → Elt Ideal α) : View.ld X r0_0 = X := by
  funext j
  refine congrArg X (funext fun a => Fin.ext ?_)
  match a with
  | ⟨0, _⟩ => show 0 + 1 * (j 0).val = (j 0).val; omega
  | ⟨1, _⟩ => show 0 + 1 * (j 1).val = (j 1).val; omega

/-- A head's two results at a point. -/
theorem ptO (t : Fin cfg0.N) (h : Fin 4) (ho) (p : Fin 256) (d : Fin 128) :
    k0_pay4 (F := Ideal) (k0_pay7 (iblk m c 2 t)) (k0_pay27 (k0_pay6 (iblk m c 1 t)) (Grad.lanes (h.val * 128) ho (show S256x512.Idx → EReal from iblk m c 0 t))) (ix2 p d)
      = oAt m c (gN t.val) h (rowN t.val p) d := by
  rw [headO, oAt]
  refine congrArg₂ oR (funext fun j => Finset.sum_congr rfl fun e _ => ?_) (funext fun j => blk2 m c t j d)
  exact congrArg₂ (· * ·) (blk0 m c t h ho p e) (blk1 m c t j e)

theorem ptL (t : Fin cfg0.N) (h : Fin 4) (ho) (p : Fin 256) :
    k0_pay5 (F := Ideal) (k0_pay27 (k0_pay6 (iblk m c 1 t)) (Grad.lanes (h.val * 128) ho (show S256x512.Idx → EReal from iblk m c 0 t))) (ix3 0 0 p)
      = lAt m c (gN t.val) h (rowN t.val p) := by
  rw [headL, lAt]
  refine congrArg lseR (funext fun j => Finset.sum_congr rfl fun e _ => ?_)
  exact congrArg₂ (· * ·) (blk0 m c t h ho p e) (blk1 m c t j e)

/-- The first result's block, from its four stores. -/
theorem canon3 (t : Fin cfg0.N) (y : S256x512.Idx) (w0 w1 w2 w3 : S256x128.Idx → EReal) (col : Fin 1024) (hc : col.val = (gN t.val).val * 512 + (y 1).val)
    (g0 : ∀ (p : Fin 256) (q : Fin 128), w0 (ix2 p q) = oAt m c (gN t.val) 0 (rowN t.val p) q) (g1 : ∀ (p : Fin 256) (q : Fin 128), w1 (ix2 p q) = oAt m c (gN t.val) 1 (rowN t.val p) q)
    (g2 : ∀ (p : Fin 256) (q : Fin 128), w2 (ix2 p q) = oAt m c (gN t.val) 2 (rowN t.val p) q) (g3 : ∀ (p : Fin 256) (q : Fin 128), w3 (ix2 p q) = oAt m c (gN t.val) 3 (rowN t.val p) q) :
    View.canon ([⟨r0_7, w3⟩, ⟨r0_5, w2⟩, ⟨r0_3, w1⟩, ⟨r0_1, w0⟩] : List (View.Piece (Elt Ideal) S256x512 .bf16)) y = G3 m c (ix2 (rowN t.val (y 0)) col) := by
  idx_vars y
  have hc : col.val = (gN t.val).val * 512 + y1.val := hc
  canon_tiles x h using (cover0_3 (F := Ideal) w3 w2 w1 w0 _)
  all_goals idx_vars x
  · obtain rfl : y0 = x0 := Fin.ext h0
    rw [g3]
    exact (G3_at m c _ _ 3 x1 _ (by have : y1.val = 384 + x1.val := h1; rw [hc, this]; show t.val / 16 % 2 * 512 + (384 + x1.val) = t.val / 16 % 2 * 512 + 3 * 128 + x1.val; omega)).symm
  · obtain rfl : y0 = x0 := Fin.ext h0
    rw [g2]
    exact (G3_at m c _ _ 2 x1 _ (by have : y1.val = 256 + x1.val := h1; rw [hc, this]; show t.val / 16 % 2 * 512 + (256 + x1.val) = t.val / 16 % 2 * 512 + 2 * 128 + x1.val; omega)).symm
  · obtain rfl : y0 = x0 := Fin.ext h0
    rw [g1]
    exact (G3_at m c _ _ 1 x1 _ (by have : y1.val = 128 + x1.val := h1; rw [hc, this]; show t.val / 16 % 2 * 512 + (128 + x1.val) = t.val / 16 % 2 * 512 + 1 * 128 + x1.val; omega)).symm
  · obtain rfl : y0 = x0 := Fin.ext h0
    rw [g0]
    exact (G3_at m c _ _ 0 x1 _ (by have : y1.val = x1.val := h1; rw [hc, this]; show t.val / 16 % 2 * 512 + (x1.val) = t.val / 16 % 2 * 512 + 0 * 128 + x1.val; omega)).symm

/-- The second result's block, from its four stores. -/
theorem canon4 (t : Fin cfg0.N) (y : S4x1x256.Idx) (w0 w1 w2 w3 : S1x1x256.Idx → EReal) (hd : Fin 8) (hh : hd.val = (gN t.val).val * 4 + (y 0).val)
    (g0 : ∀ p : Fin 256, w0 (ix3 0 0 p) = lAt m c (gN t.val) 0 (rowN t.val p)) (g1 : ∀ p : Fin 256, w1 (ix3 0 0 p) = lAt m c (gN t.val) 1 (rowN t.val p))
    (g2 : ∀ p : Fin 256, w2 (ix3 0 0 p) = lAt m c (gN t.val) 2 (rowN t.val p)) (g3 : ∀ p : Fin 256, w3 (ix3 0 0 p) = lAt m c (gN t.val) 3 (rowN t.val p)) :
    View.canon ([⟨r0_8, w3⟩, ⟨r0_6, w2⟩, ⟨r0_4, w1⟩, ⟨r0_2, w0⟩] : List (View.Piece (Elt Ideal) S4x1x256 .f32)) y = G4 m c (ix3 hd 0 (rowN t.val (y 2))) := by
  idx_vars y
  have hh : hd.val = (gN t.val).val * 4 + y0.val := hh
  canon_tiles x h using (cover0_4 (F := Ideal) w3 w2 w1 w0 _)
  all_goals idx_vars x
  all_goals obtain rfl : x0 = 0 := Subsingleton.elim _ _
  all_goals obtain rfl : x1 = 0 := Subsingleton.elim _ _
  · obtain rfl : y2 = x2 := Fin.ext h2
    rw [g3]
    exact (G4_at m c _ _ 3 _ (by have : y0.val = 3 := h0; rw [hh, this]; rfl)).symm
  · obtain rfl : y2 = x2 := Fin.ext h2
    rw [g2]
    exact (G4_at m c _ _ 2 _ (by have : y0.val = 2 := h0; rw [hh, this]; rfl)).symm
  · obtain rfl : y2 = x2 := Fin.ext h2
    rw [g1]
    exact (G4_at m c _ _ 1 _ (by have : y0.val = 1 := h0; rw [hh, this]; rfl)).symm
  · obtain rfl : y2 = x2 := Fin.ext h2
    rw [g0]
    exact (G4_at m c _ _ 0 _ (by have : y0.val = 0 := h0; rw [hh, this]; rfl)).symm

/-- The body's stores, each head's alike. -/
theorem out3_eq (x0 : S256x512.Idx → EReal) (x1 x2 : S4096x128.Idx → EReal) : out0_3 (F := Ideal) x0 x1 x2 = View.canon ([⟨r0_7, k0_pay4 (F := Ideal) (k0_pay7 x2) (k0_pay27 (k0_pay6 x1) (Grad.lanes (3 * 128) (by decide) x0))⟩, ⟨r0_5, k0_pay4 (F := Ideal) (k0_pay7 x2) (k0_pay27 (k0_pay6 x1) (Grad.lanes (2 * 128) (by decide) x0))⟩, ⟨r0_3, k0_pay4 (F := Ideal) (k0_pay7 x2) (k0_pay27 (k0_pay6 x1) (Grad.lanes (1 * 128) (by decide) x0))⟩, ⟨r0_1, k0_pay4 (F := Ideal) (k0_pay7 x2) (k0_pay27 (k0_pay6 x1) (Grad.lanes (0 * 128) (by decide) x0))⟩] : List (View.Piece (Elt Ideal) S256x512 .bf16)) := by
  unfold_out out0_3
  rw [o0, o1, o2, ld_whole, ld_whole, Grad.ld_lanes 0 (by decide), Grad.ld_lanes 128 (by decide), Grad.ld_lanes 256 (by decide), Grad.ld_lanes 384 (by decide)]

theorem out4_eq (x0 : S256x512.Idx → EReal) (x1 x2 : S4096x128.Idx → EReal) : out0_4 (F := Ideal) x0 x1 x2 = View.canon ([⟨r0_8, k0_pay5 (F := Ideal) (k0_pay27 (k0_pay6 x1) (Grad.lanes (3 * 128) (by decide) x0))⟩, ⟨r0_6, k0_pay5 (F := Ideal) (k0_pay27 (k0_pay6 x1) (Grad.lanes (2 * 128) (by decide) x0))⟩, ⟨r0_4, k0_pay5 (F := Ideal) (k0_pay27 (k0_pay6 x1) (Grad.lanes (1 * 128) (by decide) x0))⟩, ⟨r0_2, k0_pay5 (F := Ideal) (k0_pay27 (k0_pay6 x1) (Grad.lanes (0 * 128) (by decide) x0))⟩] : List (View.Piece (Elt Ideal) S4x1x256 .f32)) := by
  unfold_out out0_4
  rw [l0, l1, l2, ld_whole, Grad.ld_lanes 0 (by decide), Grad.ld_lanes 128 (by decide), Grad.ld_lanes 256 (by decide), Grad.ld_lanes 384 (by decide)]

theorem place3 (t : Fin cfg0.N) (y : S256x512.Idx) (hc : (gN t.val).val * 512 + (y 1).val < 1024) :
    ((cfg0.win 3).blk t).view.emb y = (ix2 (rowN t.val (y 0)) ⟨(gN t.val).val * 512 + (y 1).val, hc⟩ : S4096x1024.Idx) := by
  have ht := tlt t
  obtain ⟨_, _, _, e3, _⟩ := idxs t
  funext a
  apply Fin.ext
  match a with
  | ⟨0, _⟩ => show (win0_3.index t 0) * 256 + 1 * (y 0).val = t.val % 16 * 256 + (y 0).val; rw [e3]; simp
  | ⟨1, _⟩ => show (win0_3.index t 1) * 512 + 1 * (y 1).val = t.val / 16 % 2 * 512 + (y 1).val; rw [e3]; simp; omega

theorem place4 (t : Fin cfg0.N) (y : S4x1x256.Idx) (hc : (gN t.val).val * 4 + (y 0).val < 8) :
    ((cfg0.win 4).blk t).view.emb y = (ix3 ⟨(gN t.val).val * 4 + (y 0).val, hc⟩ 0 (rowN t.val (y 2)) : S8x1x4096.Idx) := by
  have ht := tlt t
  have hb1 : (y 1).val < 1 := (y 1).isLt
  obtain ⟨_, _, _, _, e4⟩ := idxs t
  funext a
  apply Fin.ext
  match a with
  | ⟨0, _⟩ => show (win0_4.index t 0) * 4 + 1 * (y 0).val = t.val / 16 % 2 * 4 + (y 0).val; rw [e4]; simp; omega
  | ⟨1, _⟩ => show (win0_4.index t 1) * 1 + 1 * (y 1).val = 0; rw [e4]; simp
  | ⟨2, _⟩ => show (win0_4.index t 2) * 256 + 1 * (y 2).val = t.val % 16 * 256 + (y 2).val; rw [e4]; simp

theorem pt3 (t : Fin cfg0.N) (y : S256x512.Idx) (hc : (gN t.val).val * 512 + (y 1).val < 1024) :
    out0_3 (F := Ideal) (iblk m c 0 t) (iblk m c 1 t) (iblk m c 2 t) y = G3 m c (ix2 (rowN t.val (y 0)) ⟨(gN t.val).val * 512 + (y 1).val, hc⟩) := by
  rw [out3_eq]
  exact canon3 m c t y _ _ _ _ _ rfl (ptO m c t 0 _) (ptO m c t 1 _) (ptO m c t 2 _) (ptO m c t 3 _)

theorem pt4 (t : Fin cfg0.N) (y : S4x1x256.Idx) (hc : (gN t.val).val * 4 + (y 0).val < 8) :
    out0_4 (F := Ideal) (iblk m c 0 t) (iblk m c 1 t) (iblk m c 2 t) y = G4 m c (ix3 ⟨(gN t.val).val * 4 + (y 0).val, hc⟩ 0 (rowN t.val (y 2))) := by
  rw [out4_eq]
  exact canon4 m c t y _ _ _ _ _ rfl (ptL m c t 0 _) (ptL m c t 1 _) (ptL m c t 2 _) (ptL m c t 3 _)

theorem final3 : (dats m 0 c).arrAt 3 cfg0.N = G3 m c := by
  refine (dats m 0 c).arrAt_eq_of_covers 3 _ (by decide +kernel) fun t hf y => ?_
  have hb : (y 1).val < 512 := (y 1).isLt
  rw [place3 t y (by show t.val / 16 % 2 * 512 + (y 1).val < 1024; omega)]
  blk_simp
  rw [after0_3]
  exact pt3 m c t y _

theorem final4 : (dats m 0 c).arrAt 4 cfg0.N = G4 m c := by
  refine (dats m 0 c).arrAt_eq_of_covers 4 _ (by decide +kernel) fun t hf y => ?_
  have hb : (y 0).val < 4 := (y 0).isLt
  rw [place4 t y (by show t.val / 16 % 2 * 4 + (y 0).val < 8; omega)]
  blk_simp
  rw [after0_4]
  exact pt4 m c t y _

end Cert.FlashFwdIdeal.Value

end
-- ==== Proof.FlashFwdRef.lean ====
/- The reference for the grouped attention's forward pass, read at an index. -/
module

public import proofs.«01_k».proof.Proof.Gen.FlashFwdRefIdeal.Read
public import Idealize.ShloMosaic.Lib.Pointwise

@[expose] public section

set_option maxRecDepth 16384

noncomputable section

namespace Cert.FlashFwdRefIdeal.Read

open Cert.FlashFwdRefIdeal Cert.FlashFwdRefIdeal.Gen Idealize.ShloMosaic Idealize.ShloMosaic.TcCoe Idealize.SL.Sem

/-- Key heads and their queries' heads, as columns. -/
abbrev kcol (g : Fin 2) (d : Fin 128) : Fin 256 := ⟨g.val * 128 + d.val, by omega⟩
abbrev qcol (g : Fin 2) (h : Fin 4) (d : Fin 128) : Fin 1024 := ⟨g.val * 512 + h.val * 128 + d.val, by omega⟩

variable (x0 : FVec Ideal S4096x1024 .bf16) (x1 x2 : FVec Ideal S4096x256 .bf16)

/-- The root of 128, as the reference computes it. -/
def rt : EReal := Ideal.sqrt (Ideal.ofBits FTy.f32 1124073472#32)

def rS (g : Fin 2) (h : Fin 4) (i j : Fin 4096) : EReal := Ideal.div (∑ d : Fin 128, x1 (ix2 j (kcol g d)) * x0 (ix2 i (qcol g h d))) rt
def rM (g : Fin 2) (h : Fin 4) (i : Fin 4096) : EReal :=
  max (Ideal.ofBits FTy.f32 4286578688#32) (Finset.fold max (Ideal.ofBits FTy.f32 4286578688#32) (fun j => rS x0 x1 g h i j) Finset.univ)
def rE (g : Fin 2) (h : Fin 4) (i j : Fin 4096) : EReal := Ideal.exp (rS x0 x1 g h i j - rM x0 x1 g h i)
def rL (g : Fin 2) (h : Fin 4) (i : Fin 4096) : EReal := ∑ j : Fin 4096, rE x0 x1 g h i j
def rP (g : Fin 2) (h : Fin 4) (i j : Fin 4096) : EReal := Ideal.div (rE x0 x1 g h i j) (rL x0 x1 g h i)
def rO (g : Fin 2) (h : Fin 4) (i : Fin 4096) (d : Fin 128) : EReal := ∑ j : Fin 4096, x2 (ix2 j (kcol g d)) * rP x0 x1 g h i j
def rLse (g : Fin 2) (h : Fin 4) (i : Fin 4096) : EReal := Ideal.log (∑ j : Fin 4096, Ideal.exp (rS x0 x1 g h i j))

theorem v3_apply (i : Fin 4096) (g : Fin 2) (h : Fin 4) (d : Fin 128) : val_main_v3 (F := Ideal) x0 (ix5 0 i g h d) = x0 (ix2 i (qcol g h d)) := by
  unfold val_main_v3 val_main_v0
  pointwise

theorem v4_apply (j : Fin 4096) (g : Fin 2) (d : Fin 128) : val_main_v4 (F := Ideal) x1 (ix4 0 j g d) = x1 (ix2 j (kcol g d)) := by
  unfold val_main_v4 val_main_v1
  pointwise

theorem v12_apply (j : Fin 4096) (g : Fin 2) (d : Fin 128) : val_main_v12 (F := Ideal) x2 (ix4 0 j g d) = x2 (ix2 j (kcol g d)) := by
  unfold val_main_v12 val_main_v2
  pointwise

theorem v9_apply (g : Fin 2) (h : Fin 4) (i j : Fin 4096) : val_main_v9 (F := Ideal) x0 x1 (ix5 0 g h i j) = rS x0 x1 g h i j := by
  unfold rS rt
  simp only [← v3_apply, ← v4_apply]
  unfold val_main_v9 val_main_v6 val_main_v8 val_main_v7 val_main_cst val_main_v5
  generalize val_main_v3 (F := Ideal) x0 = X
  generalize val_main_v4 (F := Ideal) x1 = Y
  pointwise

/-- The two results compute the scores alike. -/
theorem v17_eq : val_main_v17 (F := Ideal) x0 x1 = val_main_v9 (F := Ideal) x0 x1 := rfl

theorem v18_apply (g : Fin 2) (h : Fin 4) (i : Fin 4096) : val_main_v18 (F := Ideal) x0 x1 (ix4 0 g h i)
    = Finset.fold max (Ideal.ofBits FTy.f32 4286578688#32) (fun j => rS x0 x1 g h i j) Finset.univ := by
  simp only [← v9_apply]
  unfold val_main_v18 val_main_cst_1
  rw [v17_eq]
  generalize val_main_v9 (F := Ideal) x0 x1 = X
  pointwise

theorem v19_apply (i : S1x2x4x4096.Idx) : val_main_v19 (F := Ideal) i = Ideal.ofBits FTy.f32 4286578688#32 := by
  rw [val_main_v19_apply]
  unfold val_main_cst_2
  pointwise

theorem v20_apply (g : Fin 2) (h : Fin 4) (i : Fin 4096) : val_main_v20 (F := Ideal) x0 x1 (ix4 0 g h i) = rM x0 x1 g h i := by
  rw [val_main_v20_apply, v18_apply, v19_apply]
  rfl

theorem v24_apply (g : Fin 2) (h : Fin 4) (i j : Fin 4096) : val_main_v24 (F := Ideal) x0 x1 (ix5 0 g h i j) = rE x0 x1 g h i j := by
  unfold rE
  rw [← v9_apply, ← v20_apply]
  unfold val_main_v24 val_main_v23 val_main_v22 val_main_v21
  rw [v17_eq]
  generalize val_main_v9 (F := Ideal) x0 x1 = X
  generalize val_main_v20 (F := Ideal) x0 x1 = Y
  pointwise

theorem v25_apply (g : Fin 2) (h : Fin 4) (i : Fin 4096) : val_main_v25 (F := Ideal) x0 x1 (ix4 0 g h i) = rL x0 x1 g h i := by
  unfold rL
  simp only [← v24_apply]
  unfold val_main_v25 val_main_cst_3
  generalize val_main_v24 (F := Ideal) x0 x1 = X
  pointwise

theorem v28_apply (g : Fin 2) (h : Fin 4) (i j : Fin 4096) : val_main_v28 (F := Ideal) x0 x1 (ix5 0 g h i j) = rP x0 x1 g h i j := by
  unfold rP
  rw [← v24_apply, ← v25_apply]
  unfold val_main_v28 val_main_v27 val_main_v26
  generalize val_main_v24 (F := Ideal) x0 x1 = X
  generalize val_main_v25 (F := Ideal) x0 x1 = Y
  pointwise

theorem v30_apply (i : Fin 4096) (g : Fin 2) (h : Fin 4) (d : Fin 128) : val_main_v30 (F := Ideal) x0 x1 x2 (ix5 0 i g h d) = rO x0 x1 x2 g h i d := by
  unfold rO
  simp only [← v28_apply, ← v12_apply]
  unfold val_main_v30 val_main_v29
  generalize val_main_v28 (F := Ideal) x0 x1 = X
  generalize val_main_v12 (F := Ideal) x2 = Y
  pointwise

/-- The first result. -/
theorem o_apply (i : Fin 4096) (g : Fin 2) (h : Fin 4) (d : Fin 128) : val_main_v32 (F := Ideal) x0 x1 x2 (ix2 i (qcol g h d)) = rO x0 x1 x2 g h i d := by
  rw [← v30_apply]
  unfold val_main_v32 val_main_v31
  generalize val_main_v30 (F := Ideal) x0 x1 x2 = X
  have e1 : (g.val * 512 + h.val * 128 + d.val) / 512 = g.val := by omega
  have e2 : (g.val * 512 + h.val * 128 + d.val) / 128 % 4 = h.val := by omega
  have e3 : (g.val * 512 + h.val * 128 + d.val) % 128 = d.val := by omega
  pointwise
  all_goals simp only [e1, e2, e3, Fin.eta]

theorem v34_apply (g : Fin 2) (h : Fin 4) (i : Fin 4096) : val_main_v34 (F := Ideal) x0 x1 (ix4 0 g h i) = ∑ j : Fin 4096, Ideal.exp (rS x0 x1 g h i j) := by
  simp only [← v9_apply]
  unfold val_main_v34 val_main_v33 val_main_cst_4
  generalize val_main_v9 (F := Ideal) x0 x1 = X
  pointwise

theorem v35_apply (g : Fin 2) (h : Fin 4) (i : Fin 4096) : val_main_v35 (F := Ideal) x0 x1 (ix4 0 g h i) = rLse x0 x1 g h i := by
  rw [val_main_v35_apply, v34_apply]
  rfl

theorem lsePos (g : Fin 2) (h : Fin 4) (i : Fin 4096) (k : Fin 8) (hk : k.val = g.val * 4 + h.val) :
    (S1x2x4x4096.rowMajor (ix4 0 g h i)).val = (S8x1x4096.rowMajor (ix3 k 0 i)).val := by
  rw [Shape.rowMajor_val_four, Shape.rowMajor_val_three]
  show ((0 * 2 + g.val) * 4 + h.val) * 4096 + i.val = (k.val * 1 + 0) * 4096 + i.val
  omega

/-- The second result. -/
theorem lse_apply (g : Fin 2) (h : Fin 4) (i : Fin 4096) (k : Fin 8) (hk : k.val = g.val * 4 + h.val) : val_main_v36 (F := Ideal) x0 x1 (ix3 k 0 i) = rLse x0 x1 g h i := by
  rw [← v35_apply]
  unfold val_main_v36
  generalize val_main_v35 (F := Ideal) x0 x1 = X
  exact shapeCast_apply _ _ _ _ (lsePos g h i k hk)

end Cert.FlashFwdRefIdeal.Read

end
-- ==== Proof.Softmax.lean ====
/- Scores, their greatest, their exponentials: the softmax's parts as real numbers. -/
module

public import proofs.«01_k».proof.Proof.Norm
public import proofs.«01_k».proof.Proof.Lits
public import Mathlib.Analysis.SpecialFunctions.Log.Basic
public import Mathlib.Analysis.SpecialFunctions.Pow.Real
public import Mathlib.Data.Finset.Lattice.Fold

@[expose] public section

noncomputable section

namespace Grad

open Idealize.ShloMosaic

theorem lit_two : Ideal.ofBits .f32 0x40000000#32 = ((2 : ℝ) : EReal) := by
  simp [Ideal.ofBits, Ideal.ieee, -EReal.coe_mul]; norm_num
theorem lit_neg_inf : Ideal.ofBits .f32 0xFF800000#32 = ⊥ := by
  simp [Ideal.ofBits, Ideal.ieee]

theorem sqrt_128 : Ideal.sqrt (Ideal.ofBits .f32 0x43000000#32) = ((Real.sqrt 128 : ℝ) : EReal) := by
  rw [lit_128, Ideal.sqrt_coe, if_neg (by norm_num)]

theorem sqrt_128_pos : 0 < Real.sqrt 128 := Real.sqrt_pos.2 (by norm_num)
theorem log_2_pos : 0 < Real.log 2 := Real.log_pos (by norm_num)

theorem log_2 : Ideal.log (Ideal.ofBits .f32 0x40000000#32) = ((Real.log 2 : ℝ) : EReal) := by
  rw [lit_two, Ideal.log_coe, if_neg (by norm_num)]

/-- The greatest of finitely many real numbers, starting from minus infinity, is real. -/
theorem IsR.fold_max {n : ℕ} (hn : 0 < n) (s : Fin n → ℝ) : IsR (Finset.fold max (Ideal.ofBits .f32 0xFF800000#32) (fun j => (s j : EReal)) Finset.univ) := by
  rw [lit_neg_inf]
  obtain ⟨i, -, hi⟩ := Finset.exists_mem_eq_sup (Finset.univ : Finset (Fin n)) ⟨⟨0, hn⟩, Finset.mem_univ _⟩ (fun j => (s j : EReal))
  exact ⟨s i, hi⟩

theorem max_neg_inf (x : EReal) : max (Ideal.ofBits .f32 0xFF800000#32) x = x := by
  rw [lit_neg_inf]; exact max_eq_right bot_le

/-- A power of two is an exponential. -/
theorem exp2_real (x : ℝ) : Ideal.exp2 (x : EReal) = ((Real.exp (x * Real.log 2) : ℝ) : EReal) := by
  rw [Ideal.exp2_coe]
  exact congrArg _ ((Real.rpow_def_of_pos (by norm_num) x).trans (congrArg Real.exp (mul_comm _ _)))

theorem log_real {x : ℝ} (h : 0 < x) : Ideal.log (x : EReal) = ((Real.log x : ℝ) : EReal) := by
  rw [Ideal.log_coe, if_neg (not_le.2 h)]

theorem sum_exp_pos {n : ℕ} (hn : 0 < n) (s : Fin n → ℝ) : 0 < ∑ j, Real.exp (s j) :=
  Finset.sum_pos (fun j _ => Real.exp_pos _) ⟨⟨0, hn⟩, Finset.mem_univ _⟩

end Grad

end
-- ==== Proof.FlashFwdMeet.lean ====
/- The grouped attention's forward pass: the kernel's two results are the reference's. -/
module

public import proofs.«01_k».proof.Proof.FlashFwdKernel
public import proofs.«01_k».proof.Proof.FlashFwdRef
public import proofs.«01_k».proof.Proof.Softmax
public import proofs.«01_k».proof.Proof.Host
public import proofs.«01_k».proof.Pre_flash_fwd_finite

@[expose] public section

set_option maxRecDepth 16384

noncomputable section

namespace Cert.FlashFwdMeet

open Idealize.ShloMosaic Idealize.ShloMosaic.TcCoe Idealize.SL.Sem
open Cert.FlashFwdIdeal (nD τ sig main_arg0 main_arg1 main_arg2 cfg0)
open Cert.FlashFwdIdeal.Value Cert.FlashFwdIdeal.Gen Cert.FlashFwdIdeal.Pay

instance preFacts : Cert.Pre_flash_fwd_finite.Facts where
  bitsLt_bf16_f32 := by decide
  bcast_S_S4096x1024 := by decide
  reducesTo_S4096x1024_S_d0_1 := by decide
  h_S_ := by decide
  bcast_S_S4096x256 := by decide
  reducesTo_S4096x256_S_d0_1 := by decide

theorem finite (x0 : FVec Ideal Cert.Pre_flash_fwd_finite.S4096x1024 .bf16) (x1 x2 : FVec Ideal Cert.Pre_flash_fwd_finite.S4096x256 .bf16) (h : Cert.Pre_flash_fwd_finite.fn (F := Ideal) x0 x1 x2 = fun _ => 1#1) :
    (∀ i, Grad.IsR (x0 i)) ∧ (∀ i, Grad.IsR (x1 i)) ∧ ∀ i, Grad.IsR (x2 i) := by
  have h0 := congrFun h (fun a => a.elim0)
  obtain ⟨h3, h4⟩ := Grad.andi_one _ _ h0
  obtain ⟨h5, h6⟩ := Grad.andi_one _ _ h3
  exact ⟨Grad.finite_of_all x0 _ _ _ _ h5, Grad.finite_of_all x1 _ _ _ _ h6, Grad.finite_of_all x2 _ _ _ _ h4⟩

theorem lit_inv_128 : Ideal.ofBits .f32 0x3C000000#32 = ((1 / 128 : ℝ) : EReal) := by
  simp [Ideal.ofBits, Ideal.ieee, -EReal.coe_mul]; norm_num

/-- A row of real scores: its two results, in powers of two, with the greatest score named. -/
theorem oR_real (x v : Fin 4096 → ℝ) (M : ℝ) (hM : mxR (fun j => (x j : EReal)) = (M : EReal)) :
    oR (fun j => (x j : EReal)) (fun j => (v j : EReal)) = (((∑ j, Real.exp ((x j - M) * Real.log 2) * v j) / ∑ j, Real.exp ((x j - M) * Real.log 2) : ℝ) : EReal) := by
  unfold oR smR exR
  rw [hM]
  simp only [← EReal.coe_sub, Grad.exp2_real, ← EReal.coe_mul, ← Grad.coe_sum]
  exact Grad.div_real _ (Grad.sum_exp_pos (by norm_num) _).ne'

theorem lseR_real (x : Fin 4096 → ℝ) (M : ℝ) (hM : mxR (fun j => (x j : EReal)) = (M : EReal)) :
    lseR (fun j => (x j : EReal)) = ((M * Real.log 2 + Real.log (∑ j, Real.exp ((x j - M) * Real.log 2)) : ℝ) : EReal) := by
  have e : logR (fun j => (x j : EReal)) = ((M * Real.log 2 + Real.log (∑ j, Real.exp ((x j - M) * Real.log 2)) : ℝ) : EReal) := by
    unfold logR smR exR
    rw [hM]
    simp only [← EReal.coe_sub, Grad.exp2_real, ← Grad.coe_sum]
    rw [Grad.log_real (Grad.sum_exp_pos (by norm_num) _), ← EReal.coe_mul, ← EReal.coe_add]
  unfold lseR
  rw [e]
  generalize M * Real.log 2 + Real.log (∑ j, Real.exp ((x j - M) * Real.log 2)) = y
  simp only [one_mul, ← EReal.coe_sub, sub_self, EReal.coe_zero, Finset.sum_const_zero, add_zero, ← Grad.coe_sum]
  rw [lit_inv_128, ← EReal.coe_mul]
  refine congrArg _ ?_
  rw [Finset.sum_const, Finset.card_univ, Fintype.card_fin]
  simp only [nsmul_eq_mul]
  push_cast
  ring

/-- The softmax may be shifted by any number. -/
theorem shift_o (s v : Fin 4096 → ℝ) (A B : ℝ) :
    (∑ j, Real.exp (s j - A) * v j) / (∑ j, Real.exp (s j - A)) = ∑ j, v j * (Real.exp (s j - B) / ∑ k, Real.exp (s k - B)) := by
  have e : ∀ j, Real.exp (s j - A) = Real.exp (B - A) * Real.exp (s j - B) := fun j => by rw [← Real.exp_add]; congr 1; ring
  simp only [e, mul_assoc]
  rw [← Finset.mul_sum, ← Finset.mul_sum, mul_div_mul_left _ _ (Real.exp_pos _).ne', Finset.sum_div]
  refine Finset.sum_congr rfl fun j _ => ?_
  ring

theorem shift_l (s : Fin 4096 → ℝ) (A : ℝ) : A + Real.log (∑ j, Real.exp (s j - A)) = Real.log (∑ j, Real.exp (s j)) := by
  have e : ∑ j, Real.exp (s j) = Real.exp A * ∑ j, Real.exp (s j - A) := by
    rw [Finset.mul_sum]
    refine Finset.sum_congr rfl fun j _ => ?_
    rw [← Real.exp_add]; congr 1; ring
  rw [e, Real.log_mul (Real.exp_pos _).ne' (Grad.sum_exp_pos (by norm_num) _).ne', Real.log_exp]

variable (m : (ℓ : Loc nD τ sig) → Buf (Elt Ideal) ℓ) (c : Dev nD)

/-- The arguments as real numbers. -/
structure Reals where
  q : Fin 4096 → Fin 1024 → ℝ
  k : Fin 4096 → Fin 256 → ℝ
  v : Fin 4096 → Fin 256 → ℝ
  hq : ∀ s j, qA m c s j = (q s j : EReal)
  hk : ∀ s j, kA m c s j = (k s j : EReal)
  hv : ∀ s j, vA m c s j = (v s j : EReal)

variable {m c}

namespace Reals

variable (R : Reals m c)

def s (g : Fin 2) (h : Fin 4) (i j : Fin 4096) : ℝ := (∑ d : Fin 128, R.k j (kcol g d) * R.q i (qcol g h d)) / Real.sqrt 128

theorem scale_eq : scale = ((1 / (Real.sqrt 128 * Real.log 2) : ℝ) : EReal) := by
  unfold scale
  rw [Grad.sqrt_128, Grad.log_2, ← EReal.coe_mul, ← EReal.coe_one, Grad.div_real _ (mul_pos Grad.sqrt_128_pos Grad.log_2_pos).ne']

/-- The kernel's scores are the reference's over the logarithm of two. -/
theorem sAt_eq (g : Fin 2) (h : Fin 4) (i : Fin 4096) : sAt m c g h i = fun j => ((R.s g h i j / Real.log 2 : ℝ) : EReal) := by
  funext j
  unfold sAt
  simp only [R.hk, R.hq, scale_eq, ← EReal.coe_mul, ← Grad.coe_sum]
  refine congrArg _ ?_
  unfold s
  have h2 := Grad.log_2_pos.ne'
  have h3 := Grad.sqrt_128_pos.ne'
  rw [Finset.sum_div, Finset.sum_div]
  refine Finset.sum_congr rfl fun d _ => ?_
  field_simp

open Cert.FlashFwdRefIdeal.Read (rS rM rE rL rP rO rLse rt)

theorem rS_eq (g : Fin 2) (h : Fin 4) (i j : Fin 4096) : rS (m ((c : Thread nD τ).loc main_arg0)) (m ((c : Thread nD τ).loc main_arg1)) g h i j = (R.s g h i j : EReal) := by
  have e : rS (m ((c : Thread nD τ).loc main_arg0)) (m ((c : Thread nD τ).loc main_arg1)) g h i j
      = Ideal.div (∑ d : Fin 128, kA m c j (kcol g d) * qA m c i (qcol g h d)) (Ideal.sqrt (Ideal.ofBits FTy.f32 1124073472#32)) := rfl
  rw [e]
  unfold s
  simp only [R.hk, R.hq]
  rw [Grad.sqrt_128, ← Grad.div_real _ Grad.sqrt_128_pos.ne', Grad.coe_sum]
  push_cast
  rfl

include R in
theorem rM_real (g : Fin 2) (h : Fin 4) (i : Fin 4096) : Grad.IsR (rM (m ((c : Thread nD τ).loc main_arg0)) (m ((c : Thread nD τ).loc main_arg1)) g h i) := by
  unfold rM
  rw [Grad.max_neg_inf]
  simp only [R.rS_eq]
  exact Grad.IsR.fold_max (by norm_num) _

theorem mx_real (g : Fin 2) (h : Fin 4) (i : Fin 4096) : Grad.IsR (mxR fun j => ((R.s g h i j / Real.log 2 : ℝ) : EReal)) :=
  Grad.IsR.fold_max (by norm_num) _

include R in
theorem o_eq (i : Fin 4096) (g : Fin 2) (h : Fin 4) (d : Fin 128) :
    oAt m c g h i d = rO (m ((c : Thread nD τ).loc main_arg0)) (m ((c : Thread nD τ).loc main_arg1)) (m ((c : Thread nD τ).loc main_arg2)) g h i d := by
  obtain ⟨M, hM⟩ := R.mx_real g h i
  obtain ⟨B, hB⟩ := R.rM_real g h i
  have hl := Grad.log_2_pos.ne'
  unfold oAt
  rw [R.sAt_eq]
  simp only [R.hv]
  rw [oR_real _ _ M hM]
  have e1 : ∀ j, Real.exp ((R.s g h i j / Real.log 2 - M) * Real.log 2) = Real.exp (R.s g h i j - M * Real.log 2) := fun j =>
    congrArg Real.exp (by rw [sub_mul, div_mul_cancel₀ _ hl])
  simp only [e1]
  rw [shift_o (R.s g h i) _ _ B]
  unfold rO rP rL rE
  rw [hB]
  simp only [R.rS_eq, ← EReal.coe_sub, Ideal.exp_coe, ← Grad.coe_sum]
  rw [Grad.coe_sum]
  refine Finset.sum_congr rfl fun j _ => ?_
  rw [Grad.div_real _ (Grad.sum_exp_pos (by norm_num) _).ne', EReal.coe_mul, ← R.hv]

include R in
theorem l_eq (i : Fin 4096) (g : Fin 2) (h : Fin 4) :
    lAt m c g h i = rLse (m ((c : Thread nD τ).loc main_arg0)) (m ((c : Thread nD τ).loc main_arg1)) g h i := by
  obtain ⟨M, hM⟩ := R.mx_real g h i
  have hl := Grad.log_2_pos.ne'
  unfold lAt
  rw [R.sAt_eq, lseR_real _ M hM]
  have e1 : ∀ j, Real.exp ((R.s g h i j / Real.log 2 - M) * Real.log 2) = Real.exp (R.s g h i j - M * Real.log 2) := fun j =>
    congrArg Real.exp (by rw [sub_mul, div_mul_cancel₀ _ hl])
  simp only [e1]
  rw [shift_l (R.s g h i)]
  unfold rLse
  simp only [R.rS_eq, Ideal.exp_coe, ← Grad.coe_sum]
  exact (Grad.log_real (Grad.sum_exp_pos (by norm_num) _)).symm

end Reals

/-- Finite arguments are real numbers. -/
theorem reals (hf : (∀ i, Grad.IsR ((show Cert.FlashFwdIdeal.S4096x1024.Idx → EReal from m ((c : Thread nD τ).loc main_arg0)) i))
      ∧ (∀ i, Grad.IsR ((show Cert.FlashFwdIdeal.S4096x256.Idx → EReal from m ((c : Thread nD τ).loc main_arg1)) i))
      ∧ ∀ i, Grad.IsR ((show Cert.FlashFwdIdeal.S4096x256.Idx → EReal from m ((c : Thread nD τ).loc main_arg2)) i)) : Nonempty (Reals m c) := by
  obtain ⟨h0, h1, h2⟩ := hf
  choose q hq using fun s j => h0 (ix2 s j)
  choose k hk using fun s j => h1 (ix2 s j)
  choose v hv using fun s j => h2 (ix2 s j)
  exact ⟨⟨q, k, v, hq, hk, hv⟩⟩

theorem qcols (i1 : Fin 1024) : i1 = qcol ⟨i1.val / 512, by omega⟩ ⟨i1.val / 128 % 4, by omega⟩ ⟨i1.val % 128, by omega⟩ :=
  Fin.ext (by show i1.val = i1.val / 512 * 512 + i1.val / 128 % 4 * 128 + i1.val % 128; omega)

variable (R : Reals m c)
include R

theorem o_meet : G3 m c = Cert.FlashFwdRefIdeal.Read.val_main_v32 (F := Ideal) (m ((c : Thread nD τ).loc main_arg0)) (m ((c : Thread nD τ).loc main_arg1)) (m ((c : Thread nD τ).loc main_arg2)) := by
  funext i
  idx_vars i
  rw [qcols i1]
  exact (G3_at m c _ _ _ _ _ rfl).trans ((R.o_eq _ _ _ _).trans (Cert.FlashFwdRefIdeal.Read.o_apply _ _ _ _ _ _ _).symm)

theorem l_meet : G4 m c = Cert.FlashFwdRefIdeal.Read.val_main_v36 (F := Ideal) (m ((c : Thread nD τ).loc main_arg0)) (m ((c : Thread nD τ).loc main_arg1)) := by
  funext i
  idx_vars i
  obtain rfl : i1 = 0 := Subsingleton.elim _ _
  have e : i0.val = (⟨i0.val / 4, by omega⟩ : Fin 2).val * 4 + (⟨i0.val % 4, by omega⟩ : Fin 4).val := by show i0.val = i0.val / 4 * 4 + i0.val % 4; omega
  exact (G4_at m c _ _ _ _ e).trans ((R.l_eq _ _ _).trans (Cert.FlashFwdRefIdeal.Read.lse_apply _ _ _ _ _ _ e).symm)

end Cert.FlashFwdMeet

end
-- ==== Proof.FlashBwdPay.lean ====
/- The pieces of the grouped attention's gradient kernel, read at an index. -/
module

public import proofs.«01_k».proof.Proof.Gen.FlashBwdIdeal.Skeleton
public import Idealize.ShloMosaic.PureOps.IdealRules
public import Idealize.ShloMosaic.Lib.Pointwise

@[expose] public section

set_option maxRecDepth 16384

noncomputable section

namespace Cert.FlashBwdIdeal.Pay

open Cert.FlashBwdIdeal Cert.FlashBwdIdeal.Gen Idealize.ShloMosaic Idealize.ShloMosaic.TcCoe Idealize.SL.Sem

theorem log2e : Named.named (F := Ideal) κ "log2_e" (φ := .f32) 0x3FB8AA3B#32 = (((Real.log 2)⁻¹ : ℝ) : EReal) :=
  IdealRules.named_const.ideal_named_scalar _ _ _ _ rfl
theorem log2 : Named.named (F := Ideal) κ "log_2" (φ := .f32) 0x3F317218#32 = ((Real.log 2 : ℝ) : EReal) :=
  IdealRules.named_const.ideal_named_scalar _ _ _ _ rfl
theorem invSqrt : Named.named (F := Ideal) κ "inv_sqrt_128" (φ := .f32) 0x3DB504F3#32 = (((Real.sqrt 128)⁻¹ : ℝ) : EReal) :=
  IdealRules.named_const.ideal_named_scalar _ _ _ _ rfl

/-- A weight, from a key's row, a query's scaled row and the query's log-sum. -/
def wgt (k q : Fin 128 → EReal) (l : EReal) : EReal := Ideal.exp2 ((∑ d : Fin 128, k d * q d) - l * (((Real.log 2)⁻¹ : ℝ) : EReal))
/-- The row sum of a product, split into a high and a low part. -/
def rowSum (a b : Fin 128 → EReal) : EReal := (∑ d : Fin 128, 1 * (a d * b d)) + ∑ d : Fin 128, 1 * (a d * b d - a d * b d)
/-- A score's gradient, from the weight, the value's row, the output gradient's row and the row sum. -/
def scoreGrad (w : EReal) (v g : Fin 128 → EReal) (t : EReal) : EReal := w * ((∑ d : Fin 128, v d * g d) - t)

theorem wgt_apply (v5 : Vec Ideal S512x128 .bf16) (v22 : Vec Ideal S4096x128 .bf16) (v25 : Vec Ideal S1x1x512 .f32) (j : Fin 4096) (i : Fin 512) :
    k0_pay11 (F := Ideal) v5 v22 v25 (ix2 j i) = wgt (fun d => v22 (ix2 j d)) (fun d => v5 (ix2 i d)) (v25 (ix3 0 0 i)) := by
  unfold wgt
  rw [← log2e]
  pointwise [k0_pay11, k0_pay9]
  rfl

theorem rowSum_apply (v7 v9 : Vec Ideal S512x128 .bf16) (i : Fin 512) :
    k0_pay10 (F := Ideal) v7 v9 (ix2 0 i) = rowSum (fun d => v7 (ix2 i d)) (fun d => v9 (ix2 i d)) := by
  unfold rowSum
  pointwise [k0_pay10]

theorem scoreGrad_apply (v7 : Vec Ideal S512x128 .bf16) (v21 : FVec Ideal S1x512 .f32) (v31 : FVec Ideal S4096x512 .f32) (v32 : Vec Ideal S4096x128 .bf16) (j : Fin 4096) (i : Fin 512) :
    k0_pay1 (F := Ideal) v7 v21 v31 (k0_pay12 v32) (constant S4096x512 .f32 0x00000000#32) (ix2 j i)
      = scoreGrad (v31 (ix2 j i)) (fun d => v32 (ix2 j d)) (fun d => v7 (ix2 i d)) (v21 (ix2 0 i)) := by
  unfold scoreGrad
  pointwise [k0_pay1, k0_pay12]

theorem dv_apply (v7 : Vec Ideal S512x128 .bf16) (v31 : FVec Ideal S4096x512 .f32) (acc : Vec Ideal S4096x128 .f32) (j : Fin 4096) (d : Fin 128) :
    k0_pay2 (F := Ideal) v7 v31 acc (ix2 j d) = acc (ix2 j d) + ∑ i : Fin 512, v31 (ix2 j i) * v7 (ix2 i d) := by
  pointwise [k0_pay2]

theorem dk_apply (v5 v7 : Vec Ideal S512x128 .bf16) (v21 : FVec Ideal S1x512 .f32) (v31 : FVec Ideal S4096x512 .f32) (v33 : FVec Ideal S4096x128 .bf16)
    (z : FVec Ideal S4096x512 .f32) (acc : Vec Ideal S4096x128 .f32) (j : Fin 4096) (d : Fin 128) :
    k0_pay3 (F := Ideal) (k0_pay9 v5) v7 v21 v31 v33 z acc (ix2 j d) = acc (ix2 j d) + ∑ i : Fin 512, k0_pay1 v7 v21 v31 v33 z (ix2 j i) * v5 (ix2 i d) := by
  unfold k0_pay3
  generalize k0_pay1 v7 v21 v31 v33 z = D
  pointwise [k0_pay9]

theorem dq_apply (v7 : Vec Ideal S512x128 .bf16) (v21 : FVec Ideal S1x512 .f32) (v31 : FVec Ideal S4096x512 .f32) (v33 : FVec Ideal S4096x128 .bf16)
    (z : FVec Ideal S4096x512 .f32) (v52 : Vec Ideal S128x4096 .bf16) (i : Fin 512) (d : Fin 128) :
    k0_pay4 (F := Ideal) v7 v21 v31 v33 z v52 (ix2 i d) = (∑ j : Fin 4096, v52 (ix2 d j) * k0_pay1 v7 v21 v31 v33 z (ix2 j i)) * (((Real.sqrt 128)⁻¹ : ℝ) : EReal) := by
  rw [← invSqrt]
  unfold k0_pay4
  generalize k0_pay1 v7 v21 v31 v33 z = D
  pointwise

theorem dkOut_apply (x : Vec Ideal S4096x128 .f32) (j : Fin 4096) (d : Fin 128) : k0_pay5 (F := Ideal) x (ix2 j d) = x (ix2 j d) * ((Real.log 2 : ℝ) : EReal) := by
  rw [← log2]
  pointwise [k0_pay5]

theorem dvOut_apply (x : Vec Ideal S4096x128 .f32) (j : Fin 4096) (d : Fin 128) : k0_pay6 (F := Ideal) x (ix2 j d) = x (ix2 j d) := by
  pointwise [k0_pay6]

theorem zero7 (j : Fin 4096) (d : Fin 128) : k0_pay7 (F := Ideal) (ix2 j d) = 0 := by
  pointwise [k0_pay7]
theorem zero8 (j : Fin 4096) (d : Fin 128) : k0_pay8 (F := Ideal) (ix2 j d) = 0 := by
  pointwise [k0_pay8]

end Cert.FlashBwdIdeal.Pay

end
-- ==== Proof.FlashBwdHost.lean ====
/- The host lines before the grouped attention's gradient kernel, read at an index: what the forward pass saved, and the packed
   heads. -/
module

public import proofs.«01_k».proof.Proof.FlashBwdPay
public import proofs.«01_k».proof.Proof.Gen.FlashBwdIdeal.Frame.Runs
public import Idealize.ShloMosaic.Lib.Pipeline.ValueKit
public import Idealize.ShloMosaic.Lib.StableHlo.ReadAt
public import Idealize.ShloMosaic.Lib.Pointwise

@[expose] public section

set_option maxRecDepth 16384

noncomputable section

namespace Cert.FlashBwdIdeal.Value

open Cert.FlashBwdIdeal Cert.FlashBwdIdeal.Gen Idealize.ShloMosaic Idealize.ShloMosaic.TcCoe Idealize.SL.Sem

variable (m : (ℓ : Loc nD τ sig) → Buf (Elt Ideal) ℓ) (c : Dev nD)

/-- The arguments, at their coordinates. -/
abbrev qA (s : Fin 4096) (j : Fin 1024) : EReal := (show S4096x1024.Idx → EReal from m ((c : Thread nD τ).loc main_arg0)) (ix2 s j)
abbrev kA (s : Fin 4096) (j : Fin 256) : EReal := (show S4096x256.Idx → EReal from m ((c : Thread nD τ).loc main_arg1)) (ix2 s j)
abbrev vA (s : Fin 4096) (j : Fin 256) : EReal := (show S4096x256.Idx → EReal from m ((c : Thread nD τ).loc main_arg2)) (ix2 s j)
abbrev gA (s : Fin 4096) (j : Fin 1024) : EReal := (show S4096x1024.Idx → EReal from m ((c : Thread nD τ).loc main_arg3)) (ix2 s j)

/-- Key heads and their queries' heads, as columns. -/
abbrev kcol (g : Fin 2) (d : Fin 128) : Fin 256 := ⟨g.val * 128 + d.val, by omega⟩
abbrev qcol (g : Fin 2) (h : Fin 4) (d : Fin 128) : Fin 1024 := ⟨g.val * 512 + h.val * 128 + d.val, by omega⟩

/-- The scores, each row's greatest, the exponentials, and what the forward pass saved. -/
def sc (g : Fin 2) (h : Fin 4) (i j : Fin 4096) : EReal :=
  Ideal.div (∑ d : Fin 128, kA m c j (kcol g d) * qA m c i (qcol g h d)) (Ideal.sqrt (Ideal.ofBits FTy.f32 1124073472#32))
def mx (g : Fin 2) (h : Fin 4) (i : Fin 4096) : EReal := Finset.fold max (Ideal.ofBits FTy.f32 4286578688#32) (fun j => sc m c g h i j) Finset.univ
def ex (g : Fin 2) (h : Fin 4) (i j : Fin 4096) : EReal := Ideal.exp (sc m c g h i j - mx m c g h i)
def oAt (g : Fin 2) (h : Fin 4) (i : Fin 4096) (d : Fin 128) : EReal :=
  Ideal.div (∑ j : Fin 4096, ex m c g h i j * vA m c j (kcol g d)) (∑ j : Fin 4096, ex m c g h i j)
def lseAt (g : Fin 2) (h : Fin 4) (i : Fin 4096) : EReal := mx m c g h i + Ideal.log (∑ j : Fin 4096, ex m c g h i j)

/-- The queries' scale, as the host computes it. -/
def scale : EReal := Ideal.div 1 (Ideal.sqrt (Ideal.ofBits FTy.f32 1124073472#32) * Ideal.log (Ideal.ofBits FTy.f32 1073741824#32))

theorem kT (s : Fin 4096) (j : Fin 256) : (show S256x4096.Idx → EReal from V m c main_v34) (ix2 j s) = kA m c s j := by
  unfold V
  after_reads_at

theorem qkv1 (s : Fin 4096) (j : Fin 256) (hj : 1024 + j.val < 1536) : (show S4096x1536.Idx → EReal from V m c main_v33) (ix2 s ⟨1024 + j.val, hj⟩) = kA m c s j := by
  unfold V
  after_reads_at

theorem qkv2 (s : Fin 4096) (j : Fin 256) (hj : 1280 + j.val < 1536) : (show S4096x1536.Idx → EReal from V m c main_v33) (ix2 s ⟨1280 + j.val, hj⟩) = vA m c s j := by
  unfold V
  after_reads_at
  rw [dif_neg (by omega), dif_neg (by omega)]
  have e : ∀ h, (⟨1280 + j.val - 1024 - 256, h⟩ : Fin 256) = j := fun h => Fin.ext (by show 1280 + j.val - 1024 - 256 = j.val; omega)
  rw [e]

theorem qkv0 (s : Fin 4096) (j : Fin 1024) (hj : j.val < 1536) : (show S4096x1536.Idx → EReal from V m c main_v33) (ix2 s ⟨j.val, hj⟩) = qA m c s j * scale := by
  unfold V
  after_reads_at
  after_reads_at
  rfl

/-- The stages of the forward lines, as the host holds them. -/
def hS : FVec Ideal S2x4x4096x4096 .f32 :=
  Host.divf (transpose S2x4x4096x4096 [0, 3, 2, 1] (Host.dotGeneral (F := Ideal) (φ₁ := .bf16) (φ₂ := .bf16) dot_S4096x2x128_S4096x2x4x128_S2x4096x4096x4_2_3_0_02_1_1 none
      (fun i => shapeCast S4096x2x128 (m (c, Proc.tc.devRef main_arg1)) shapeCasts_S4096x256_S4096x2x128 i)
      (fun i => shapeCast S4096x2x4x128 (m (c, Proc.tc.devRef main_arg0)) shapeCasts_S4096x1024_S4096x2x4x128 i)) transposes_S2x4096x4096x4_S2x4x4096x4096_0_3_2_1)
    (broadcastInDim S2x4x4096x4096 ![] bcast_S_S2x4x4096x4096 (Host.sqrt (constant S_ FTy.f32 1124073472#32)))
def hM : FVec Ideal S2x4x4096 .f32 := Host.reduce FloatOps.maximumf (hS m c) (constant S_ FTy.f32 4286578688#32) reducesTo_S2x4x4096x4096_S2x4x4096_d3 h_S_
def hE : FVec Ideal S2x4x4096x4096 .f32 :=
  Host.exp (subf (hS m c) (broadcastInDim S2x4x4096x4096 ![0, 1, 2, 3] bcast_S2x4x4096x1_S2x4x4096x4096_0_1_2_3 (broadcastInDim S2x4x4096x1 ![0, 1, 2] bcast_S2x4x4096_S2x4x4096x1_0_1_2 (hM m c))))
def hL : FVec Ideal S2x4x4096 .f32 := Host.reduceAdd (hE m c) (constant S_ FTy.f32 0#32) reducesTo_S2x4x4096x4096_S2x4x4096_d3 h_S_
def hO : FVec Ideal S2x4x4096x128 .f32 :=
  Host.divf (Host.dotGeneral (F := Ideal) (φ₁ := .bf16) (φ₂ := .bf16) dot_S2x4x4096x4096_S4096x2x128_S2x4x4096x128_3_0_12_2_0_1 none (truncf .bf16 (hE m c) bitsLt_bf16_f32)
      (fun i => shapeCast S4096x2x128 (m (c, Proc.tc.devRef main_arg2)) shapeCasts_S4096x256_S4096x2x128 i))
    (broadcastInDim S2x4x4096x128 ![0, 1, 2, 3] bcast_S2x4x4096x1_S2x4x4096x128_0_1_2_3 (broadcastInDim S2x4x4096x1 ![0, 1, 2] bcast_S2x4x4096_S2x4x4096x1_0_1_2 (hL m c)))

theorem hS_apply (g : Fin 2) (h : Fin 4) (i j : Fin 4096) : hS m c (ix4 g h i j) = sc m c g h i j := by
  unfold hS sc
  pointwise

theorem hM_apply (g : Fin 2) (h : Fin 4) (i : Fin 4096) : hM m c (ix3 g h i) = mx m c g h i := by
  unfold hM mx
  simp only [← hS_apply]
  generalize hS m c = X
  pointwise

theorem hE_apply (g : Fin 2) (h : Fin 4) (i j : Fin 4096) : hE m c (ix4 g h i j) = ex m c g h i j := by
  unfold hE ex
  rw [← hS_apply, ← hM_apply]
  generalize hS m c = X
  generalize hM m c = Y
  pointwise

theorem hL_apply (g : Fin 2) (h : Fin 4) (i : Fin 4096) : hL m c (ix3 g h i) = ∑ j : Fin 4096, ex m c g h i j := by
  unfold hL
  simp only [← hE_apply]
  generalize hE m c = X
  pointwise

theorem hO_apply (g : Fin 2) (h : Fin 4) (i : Fin 4096) (d : Fin 128) : hO m c (ix4 g h i d) = oAt m c g h i d := by
  unfold hO oAt
  rw [← hL_apply]
  simp only [← hE_apply]
  generalize hE m c = X
  generalize hL m c = Y
  pointwise

theorem oH (i : Fin 4096) (j : Fin 1024) : (show S4096x1024.Idx → EReal from V m c main_v21) (ix2 i j)
    = oAt m c ⟨j.val / 512, by omega⟩ ⟨j.val / 128 % 4, by omega⟩ i ⟨j.val % 128, by omega⟩ := by
  rw [← hO_apply]
  unfold V
  after_reads_simp
  all_goals try simp -implicitDefEqProofs only [StableHlo.TRef.toBuf, StableHlo.TRef.ofBuf, cast_cast, cast_eq]
  all_goals clean_types
  change truncf .bf16 (fun i => shapeCast S4096x1024 (transpose S4096x2x4x128 [2, 0, 1, 3] (hO m c) transposes_S2x4x4096x128_S4096x2x4x128_2_0_1_3) shapeCasts_S4096x2x4x128_S4096x1024 i) bitsLt_bf16_f32 (ix2 i j) = _
  generalize hO m c = X
  pointwise

/-- The log-sums before they are packed a head at a time. -/
def hLse : FVec Ideal S2x4x4096x1 .f32 :=
  addf (broadcastInDim S2x4x4096x1 ![0, 1, 2] bcast_S2x4x4096_S2x4x4096x1_0_1_2 (hM m c)) (Host.log (broadcastInDim S2x4x4096x1 ![0, 1, 2] bcast_S2x4x4096_S2x4x4096x1_0_1_2 (hL m c)))

theorem col_apply (X : FVec Ideal S2x4x4096 .f32) (g : Fin 2) (h : Fin 4) (i : Fin 4096) :
    broadcastInDim S2x4x4096x1 ![0, 1, 2] bcast_S2x4x4096_S2x4x4096x1_0_1_2 X (ix4 g h i 0) = X (ix3 g h i) := by
  pointwise

theorem addLog_apply (X Y : FVec Ideal S2x4x4096x1 .f32) (j : S2x4x4096x1.Idx) : addf X (Host.log Y) j = X j + Ideal.log (Y j) := rfl

theorem hLse_apply (g : Fin 2) (h : Fin 4) (i : Fin 4096) : hLse m c (ix4 g h i 0) = lseAt m c g h i := by
  unfold hLse
  refine (addLog_apply _ _ _).trans ?_
  rw [col_apply, col_apply, hM_apply, hL_apply, lseAt]

theorem lsePos (h : Fin 8) (i : Fin 4096) :
    (S2x4x4096x1.rowMajor (ix4 ⟨h.val / 4, by omega⟩ ⟨h.val % 4, by omega⟩ i 0)).val = (S8x1x4096.rowMajor (ix3 h 0 i)).val := by
  rw [Shape.rowMajor_val_four, Shape.rowMajor_val_three]
  show ((h.val / 4 * 4 + h.val % 4) * 4096 + i.val) * 1 + 0 = (h.val * 1 + 0) * 4096 + i.val
  omega

theorem lseV : (show S8x1x4096.Idx → EReal from V m c main_v24) = fun i => shapeCast S8x1x4096 (hLse m c) shapeCasts_S2x4x4096x1_S8x1x4096 i := by
  unfold V
  after_reads_simp
  all_goals try simp -implicitDefEqProofs only [StableHlo.TRef.toBuf, StableHlo.TRef.ofBuf, cast_cast, cast_eq]
  all_goals clean_types
  rfl

theorem lseH (h : Fin 8) (i : Fin 4096) : (show S8x1x4096.Idx → EReal from V m c main_v24) (ix3 h 0 i) = lseAt m c ⟨h.val / 4, by omega⟩ ⟨h.val % 4, by omega⟩ i := by
  rw [← hLse_apply, lseV]
  exact shapeCast_apply _ _ _ _ (lsePos h i)

end Cert.FlashBwdIdeal.Value

end
-- ==== Proof.FlashBwdPoint.lean ====
/- The grouped attention's gradient kernel, a point at a time: its blocks and what it computes from them, over the arguments. -/
module

public import proofs.«01_k».proof.Proof.FlashBwdHost
public import proofs.«01_k».proof.Proof.Blocks
public import proofs.«01_k».proof.Proof.Gen.FlashBwdIdeal.Value

@[expose] public section

set_option maxRecDepth 16384

noncomputable section

namespace Cert.FlashBwdIdeal.Value

open Cert.FlashBwdIdeal Cert.FlashBwdIdeal.Gen Cert.FlashBwdIdeal.Pay Idealize.ShloMosaic Idealize.ShloMosaic.TcCoe Idealize.SL.Sem

variable (m : (ℓ : Loc nD τ sig) → Buf (Elt Ideal) ℓ) (c : Dev nD)

/-- A point's key head, its query head within it, and the rows of its block. -/
abbrev gN (n : ℕ) : Fin 2 := ⟨n / 32 % 2, by omega⟩
abbrev hN (n : ℕ) : Fin 4 := ⟨n / 8 % 4, by omega⟩
abbrev rowN (n : ℕ) (p : Fin 512) : Fin 4096 := ⟨n % 8 * 512 + p.val, by omega⟩

/-- A weight, a row's sum, a score's gradient, at the arguments. -/
def wAt (g : Fin 2) (h : Fin 4) (s j : Fin 4096) : EReal := wgt (fun d => kA m c j (kcol g d)) (fun d => qA m c s (qcol g h d) * scale) (lseAt m c g h s)
def tAt (g : Fin 2) (h : Fin 4) (s : Fin 4096) : EReal := rowSum (fun d => gA m c s (qcol g h d)) (fun d => oAt m c g h s d)
def dsAt (g : Fin 2) (h : Fin 4) (s j : Fin 4096) : EReal :=
  scoreGrad (wAt m c g h s j) (fun d => vA m c j (kcol g d)) (fun d => gA m c s (qcol g h d)) (tAt m c g h s)
/-- The three results' terms. -/
def dqAt (g : Fin 2) (h : Fin 4) (s : Fin 4096) (d : Fin 128) : EReal :=
  (∑ j : Fin 4096, kA m c j (kcol g d) * dsAt m c g h s j) * (((Real.sqrt 128)⁻¹ : ℝ) : EReal)
def dkAt (g : Fin 2) (j : Fin 4096) (d : Fin 128) (h : Fin 4) (s : Fin 4096) : EReal := dsAt m c g h s j * (qA m c s (qcol g h d) * scale)
def dvAt (g : Fin 2) (j : Fin 4096) (d : Fin 128) (h : Fin 4) (s : Fin 4096) : EReal := wAt m c g h s j * gA m c s (qcol g h d)

theorem idxs : ∀ t : Fin grid0.N, win0_0.index t = ![t.val % 8, t.val / 8] ∧ win0_1.index t = ![0, 8 + t.val / 32] ∧ win0_2.index t = ![0, 10 + t.val / 32]
    ∧ win0_3.index t = ![t.val / 32, 0] ∧ win0_4.index t = ![t.val % 8, t.val / 8] ∧ win0_5.index t = ![t.val % 8, t.val / 8] ∧ win0_6.index t = ![t.val / 8, 0, t.val % 8] := by
  decide +kernel

theorem tlt (t : Fin cfg0.N) : t.val < 64 := lt_of_lt_of_eq t.isLt N_0

theorem blk0 (t : Fin cfg0.N) (p : Fin 512) (d : Fin 128) : (show S512x128.Idx → EReal from iblk m c 0 t) (ix2 p d) = qA m c (rowN t.val p) (qcol (gN t.val) (hN t.val) d) * scale := by
  have ht := tlt t
  rw [← qkv0 m c _ _ (by show t.val / 32 % 2 * 512 + t.val / 8 % 4 * 128 + d.val < 1536; omega)]
  blk_ext [iblk, idxs t]

theorem blk1 (t : Fin cfg0.N) (j : Fin 4096) (d : Fin 128) : (show S4096x128.Idx → EReal from iblk m c 1 t) (ix2 j d) = kA m c j (kcol (gN t.val) d) := by
  have ht := tlt t
  rw [← qkv1 m c _ _ (by show 1024 + (t.val / 32 % 2 * 128 + d.val) < 1536; omega)]
  blk_ext [iblk, idxs t]

theorem blk2 (t : Fin cfg0.N) (j : Fin 4096) (d : Fin 128) : (show S4096x128.Idx → EReal from iblk m c 2 t) (ix2 j d) = vA m c j (kcol (gN t.val) d) := by
  have ht := tlt t
  rw [← qkv2 m c _ _ (by show 1280 + (t.val / 32 % 2 * 128 + d.val) < 1536; omega)]
  blk_ext [iblk, idxs t]

theorem blk3 (t : Fin cfg0.N) (d : Fin 128) (j : Fin 4096) : (show S128x4096.Idx → EReal from iblk m c 3 t) (ix2 d j) = kA m c j (kcol (gN t.val) d) := by
  have ht := tlt t
  rw [← kT m c]
  blk_ext [iblk, idxs t]

theorem blk4 (t : Fin cfg0.N) (p : Fin 512) (d : Fin 128) : (show S512x128.Idx → EReal from iblk m c 4 t) (ix2 p d) = gA m c (rowN t.val p) (qcol (gN t.val) (hN t.val) d) := by
  have ht := tlt t
  blk_ext [iblk, V_main_arg3, idxs t]

theorem blk5 (t : Fin cfg0.N) (p : Fin 512) (d : Fin 128) : (show S512x128.Idx → EReal from iblk m c 5 t) (ix2 p d) = oAt m c (gN t.val) (hN t.val) (rowN t.val p) d := by
  have ht := tlt t
  refine Eq.trans ?_ ((oH m c (rowN t.val p) (qcol (gN t.val) (hN t.val) d)).trans ?_)
  · blk_ext [iblk, idxs t]
  · congr 1
    · apply Fin.ext; show (t.val / 32 % 2 * 512 + t.val / 8 % 4 * 128 + d.val) / 512 = t.val / 32 % 2; omega
    · apply Fin.ext; show (t.val / 32 % 2 * 512 + t.val / 8 % 4 * 128 + d.val) / 128 % 4 = t.val / 8 % 4; omega
    · apply Fin.ext; show (t.val / 32 % 2 * 512 + t.val / 8 % 4 * 128 + d.val) % 128 = d.val; omega

theorem place6 (t : Fin cfg0.N) (p : Fin 512) (h8 : t.val / 8 < 8) :
    ((cfg0.win 6).blk t).view.emb (ix3 (0 : Fin 1) (0 : Fin 1) p : S1x1x512.Idx) = (ix3 ⟨t.val / 8, h8⟩ 0 (rowN t.val p) : S8x1x4096.Idx) := by
  obtain ⟨_, _, _, _, _, _, e6⟩ := idxs t
  funext a
  apply Fin.ext
  match a with
  | ⟨0, _⟩ => show (win0_6.index t 0) * 1 + 1 * 0 = t.val / 8; rw [e6]; simp
  | ⟨1, _⟩ => show (win0_6.index t 1) * 1 + 1 * 0 = 0; rw [e6]; simp
  | ⟨2, _⟩ => show (win0_6.index t 2) * 512 + 1 * p.val = t.val % 8 * 512 + p.val; rw [e6]; simp

/-- The log-sums' block, over whatever its array holds. -/
theorem read6 (X : Buf (Elt Ideal) ((c : Thread nD τ).loc main_v24)) (t : Fin cfg0.N) (p : Fin 512) (h8 : t.val / 8 < 8) :
    (show S1x1x512.Idx → EReal from ((cfg0.win 6).blk t).view.read (Elt Ideal) X) (ix3 0 0 p) = (show S8x1x4096.Idx → EReal from X) (ix3 ⟨t.val / 8, h8⟩ 0 (rowN t.val p)) :=
  congrArg (show S8x1x4096.Idx → EReal from X) (place6 t p h8)

theorem blk6 (t : Fin cfg0.N) (p : Fin 512) : (show S1x1x512.Idx → EReal from iblk m c 6 t) (ix3 0 0 p) = lseAt m c (gN t.val) (hN t.val) (rowN t.val p) := by
  have ht := tlt t
  have eg : (⟨t.val / 8 / 4, by omega⟩ : Fin 2) = gN t.val := Fin.ext (by show t.val / 8 / 4 = t.val / 32 % 2; omega)
  have e := (read6 c (V m c main_v24) t p (by omega)).trans (lseH m c ⟨t.val / 8, by omega⟩ (rowN t.val p))
  rw [eg] at e
  exact e

/-- The body's weights and scores' gradients, at a point. -/
theorem pt_w (t : Fin cfg0.N) (j : Fin 4096) (p : Fin 512) :
    k0_pay11 (F := Ideal) (iblk m c 0 t) (iblk m c 1 t) (iblk m c 6 t) (ix2 j p) = wAt m c (gN t.val) (hN t.val) (rowN t.val p) j := by
  rw [wgt_apply, wAt]
  exact congr (congrArg₂ wgt (funext fun d => blk1 m c t j d) (funext fun d => blk0 m c t p d)) (blk6 m c t p)

theorem pt_t (t : Fin cfg0.N) (p : Fin 512) :
    k0_pay10 (F := Ideal) (iblk m c 4 t) (iblk m c 5 t) (ix2 0 p) = tAt m c (gN t.val) (hN t.val) (rowN t.val p) := by
  rw [rowSum_apply, tAt]
  exact congrArg₂ rowSum (funext fun d => blk4 m c t p d) (funext fun d => blk5 m c t p d)

theorem pt_ds (t : Fin cfg0.N) (j : Fin 4096) (p : Fin 512) :
    k0_pay1 (F := Ideal) (iblk m c 4 t) (k0_pay10 (iblk m c 4 t) (iblk m c 5 t)) (k0_pay11 (iblk m c 0 t) (iblk m c 1 t) (iblk m c 6 t)) (k0_pay12 (iblk m c 2 t))
      (constant S4096x512 .f32 0x00000000#32) (ix2 j p) = dsAt m c (gN t.val) (hN t.val) (rowN t.val p) j := by
  rw [scoreGrad_apply, pt_w, pt_t, dsAt]
  exact congr (congrArg₂ (scoreGrad _) (funext fun d => blk2 m c t j d) (funext fun d => blk4 m c t p d)) rfl

theorem pt_dq (t : Fin cfg0.N) (p : Fin 512) (d : Fin 128) :
    k0_pay4 (F := Ideal) (iblk m c 4 t) (k0_pay10 (iblk m c 4 t) (iblk m c 5 t)) (k0_pay11 (iblk m c 0 t) (iblk m c 1 t) (iblk m c 6 t)) (k0_pay12 (iblk m c 2 t))
      (constant S4096x512 .f32 0x00000000#32) (iblk m c 3 t) (ix2 p d) = dqAt m c (gN t.val) (hN t.val) (rowN t.val p) d := by
  rw [dq_apply, dqAt]
  exact congrArg (· * _) (Finset.sum_congr rfl fun j _ => congrArg₂ (· * ·) (blk3 m c t d j) (pt_ds m c t j p))

theorem pt_dk (t : Fin cfg0.N) (acc : Vec Ideal S4096x128 .f32) (j : Fin 4096) (d : Fin 128) :
    k0_pay3 (F := Ideal) (k0_pay9 (iblk m c 0 t)) (iblk m c 4 t) (k0_pay10 (iblk m c 4 t) (iblk m c 5 t)) (k0_pay11 (iblk m c 0 t) (iblk m c 1 t) (iblk m c 6 t)) (k0_pay12 (iblk m c 2 t))
      (constant S4096x512 .f32 0x00000000#32) acc (ix2 j d) = acc (ix2 j d) + ∑ p : Fin 512, dkAt m c (gN t.val) j d (hN t.val) (rowN t.val p) := by
  rw [dk_apply]
  exact congrArg (_ + ·) (Finset.sum_congr rfl fun p _ => congrArg₂ (· * ·) (pt_ds m c t j p) (blk0 m c t p d))

theorem pt_dv (t : Fin cfg0.N) (acc : Vec Ideal S4096x128 .f32) (j : Fin 4096) (d : Fin 128) :
    k0_pay2 (F := Ideal) (iblk m c 4 t) (k0_pay11 (iblk m c 0 t) (iblk m c 1 t) (iblk m c 6 t)) acc (ix2 j d)
      = acc (ix2 j d) + ∑ p : Fin 512, dvAt m c (gN t.val) j d (hN t.val) (rowN t.val p) := by
  rw [dv_apply]
  exact congrArg (_ + ·) (Finset.sum_congr rfl fun p _ => congrArg₂ (· * ·) (pt_w m c t j p) (blk4 m c t p d))

theorem out7 (t : Fin cfg0.N) (p : Fin 512) (d : Fin 128) :
    (show S512x128.Idx → EReal from (outsAt0 m c t.val t.isLt).1) (ix2 p d) = dqAt m c (gN t.val) (hN t.val) (rowN t.val p) d := by
  by_cases h0 : t.val % 32 = 0
  · rw [outsAt0_A m c t h0 (by omega)]
    frame_out
    exact pt_dq m c t p d
  · by_cases h1 : t.val % 32 = 31
    · rw [outsAt0_C m c t h0 h1]
      frame_out
      exact pt_dq m c t p d
    · rw [outsAt0_B m c t h0 h1]
      frame_out
      exact pt_dq m c t p d

end Cert.FlashBwdIdeal.Value

end
-- ==== Proof.FlashBwdKernel.lean ====
/- The grouped attention's gradient kernel: what its three results hold, in closed form over the arguments. -/
module

public import proofs.«01_k».proof.Proof.FlashBwdPoint
public import Idealize.ShloMosaic.Lib.Pipeline.ReadBack

@[expose] public section

set_option maxRecDepth 16384

noncomputable section

namespace Cert.FlashBwdIdeal.Value

open Cert.FlashBwdIdeal Cert.FlashBwdIdeal.Gen Cert.FlashBwdIdeal.Pay Idealize.ShloMosaic Idealize.ShloMosaic.TcCoe Idealize.SL.Sem

variable (m : (ℓ : Loc nD τ sig) → Buf (Elt Ideal) ℓ) (c : Dev nD)

/-- What one point adds to the two carried sums. -/
def dkStep (n : ℕ) (j : Fin 4096) (d : Fin 128) : EReal := ∑ p : Fin 512, dkAt m c (gN n) j d (hN n) (rowN n p)
def dvStep (n : ℕ) (j : Fin 4096) (d : Fin 128) : EReal := ∑ p : Fin 512, dvAt m c (gN n) j d (hN n) (rowN n p)

theorem dk0 (t : Fin cfg0.N) (h : t.val % 32 = 0) (j : Fin 4096) (d : Fin 128) :
    (show S4096x128.Idx → EReal from (outsAt0 m c t.val t.isLt).2.2.2.1) (ix2 j d) = 0 + dkStep m c t.val j d := by
  rw [outsAt0_A m c t h (by omega)]
  frame_out
  refine (pt_dk m c t _ j d).trans (congrArg (· + _) (zero7 j d))

theorem dkS (t : Fin cfg0.N) (h : ¬t.val % 32 = 0) (j : Fin 4096) (d : Fin 128) :
    (show S4096x128.Idx → EReal from (outsAt0 m c t.val t.isLt).2.2.2.1) (ix2 j d)
      = (show S4096x128.Idx → EReal from (outsAt0 m c (t.val - 1) (Nat.lt_of_le_of_lt (Nat.sub_le _ _) t.isLt)).2.2.2.1) (ix2 j d) + dkStep m c t.val j d := by
  by_cases h1 : t.val % 32 = 31
  · rw [outsAt0_C m c t h h1]
    frame_out
    refine (pt_dk m c t _ j d).trans (congrArg (· + _) ?_)
    rw [read_unread_whole]
  · rw [outsAt0_B m c t h h1]
    frame_out
    refine (pt_dk m c t _ j d).trans (congrArg (· + _) ?_)
    rw [read_unread_whole]

theorem dv0 (t : Fin cfg0.N) (h : t.val % 32 = 0) (j : Fin 4096) (d : Fin 128) :
    (show S4096x128.Idx → EReal from (outsAt0 m c t.val t.isLt).2.2.2.2) (ix2 j d) = 0 + dvStep m c t.val j d := by
  rw [outsAt0_A m c t h (by omega)]
  frame_out
  refine (pt_dv m c t _ j d).trans (congrArg (· + _) (zero8 j d))

theorem dvS (t : Fin cfg0.N) (h : ¬t.val % 32 = 0) (j : Fin 4096) (d : Fin 128) :
    (show S4096x128.Idx → EReal from (outsAt0 m c t.val t.isLt).2.2.2.2) (ix2 j d)
      = (show S4096x128.Idx → EReal from (outsAt0 m c (t.val - 1) (Nat.lt_of_le_of_lt (Nat.sub_le _ _) t.isLt)).2.2.2.2) (ix2 j d) + dvStep m c t.val j d := by
  by_cases h1 : t.val % 32 = 31
  · rw [outsAt0_C m c t h h1]
    frame_out
    refine (pt_dv m c t _ j d).trans (congrArg (· + _) ?_)
    rw [read_unread_whole]
  · rw [outsAt0_B m c t h h1]
    frame_out
    refine (pt_dv m c t _ j d).trans (congrArg (· + _) ?_)
    rw [read_unread_whole]

theorem dkAcc (t : Fin cfg0.N) (i : S4096x128.Idx) : (show S4096x128.Idx → EReal from (outsAt0 m c t.val t.isLt).2.2.2.1) i
    = 0 + ∑ k ∈ Finset.range (t.val % 32 + 1), dkStep m c (32 * (t.val / 32) + k) (i 0) (i 1) :=
  Pipeline.eq_sum_of_reset_step_apply (fun n h => (show S4096x128.Idx → EReal from (outsAt0 m c n h).2.2.2.1)) 32 (fun _ => (0 : EReal)) (fun n i => dkStep m c n (i 0) (i 1))
    (fun t h i => by idx_vars i; exact dk0 m c t h i0 i1) (fun t h i => by idx_vars i; exact dkS m c t h i0 i1) t i

theorem dvAcc (t : Fin cfg0.N) (i : S4096x128.Idx) : (show S4096x128.Idx → EReal from (outsAt0 m c t.val t.isLt).2.2.2.2) i
    = 0 + ∑ k ∈ Finset.range (t.val % 32 + 1), dvStep m c (32 * (t.val / 32) + k) (i 0) (i 1) :=
  Pipeline.eq_sum_of_reset_step_apply (fun n h => (show S4096x128.Idx → EReal from (outsAt0 m c n h).2.2.2.2)) 32 (fun _ => (0 : EReal)) (fun n i => dvStep m c n (i 0) (i 1))
    (fun t h i => by idx_vars i; exact dv0 m c t h i0 i1) (fun t h i => by idx_vars i; exact dvS m c t h i0 i1) t i

/-- A key head's thirty-two points are its four query heads' rows. -/
theorem sum_points (g : Fin 2) (f : Fin 4 → Fin 4096 → EReal) :
    ∑ k ∈ Finset.range 32, ∑ p : Fin 512, f (hN (32 * g.val + k)) (rowN (32 * g.val + k) p) = ∑ h : Fin 4, ∑ s : Fin 4096, f h s := by
  rw [Finset.sum_range]
  rw [← Grad.sum_blocks (n := 4) (b := 8) (N := 32) rfl (fun k : Fin 32 => ∑ p : Fin 512, f (hN (32 * g.val + k.val)) (rowN (32 * g.val + k.val) p))]
  refine Finset.sum_congr rfl fun h _ => ?_
  rw [← Grad.sum_blocks (n := 8) (b := 512) (N := 4096) rfl (f h)]
  refine Finset.sum_congr rfl fun i _ => Finset.sum_congr rfl fun p _ => ?_
  congr 1
  · apply Fin.ext; show (32 * g.val + (h.val * 8 + i.val)) / 8 % 4 = h.val; omega
  · apply Fin.ext; show (32 * g.val + (h.val * 8 + i.val)) % 8 * 512 + p.val = i.val * 512 + p.val; omega

theorem out8 (t : Fin cfg0.N) (h1 : t.val % 32 = 31) (j : Fin 4096) (d : Fin 128) :
    (show S4096x128.Idx → EReal from (outsAt0 m c t.val t.isLt).2.1) (ix2 j d) = (∑ h : Fin 4, ∑ s : Fin 4096, dkAt m c (gN t.val) j d h s) * ((Real.log 2 : ℝ) : EReal) := by
  have ht := tlt t
  have e := dkAcc m c t (ix2 j d)
  rw [outsAt0_C m c t (by omega) h1] at e ⊢
  revert e
  frame_out
  intro e
  refine (dkOut_apply _ j d).trans (congrArg (· * _) (Eq.trans e ?_))
  rw [zero_add, h1]
  refine Eq.trans (Finset.sum_congr rfl fun k hk => ?_) (sum_points (gN t.val) fun h s => dkAt m c (gN t.val) j d h s)
  have hk' := Finset.mem_range.1 hk
  have eg : gN (32 * (t.val / 32) + k) = gN t.val := Fin.ext (by show (32 * (t.val / 32) + k) / 32 % 2 = t.val / 32 % 2; omega)
  have en : 32 * (t.val / 32) + k = 32 * (gN t.val).val + k := by show _ = 32 * (t.val / 32 % 2) + k; omega
  show dkStep m c (32 * (t.val / 32) + k) j d = _
  unfold dkStep
  rw [eg, en]

theorem out9 (t : Fin cfg0.N) (h1 : t.val % 32 = 31) (j : Fin 4096) (d : Fin 128) :
    (show S4096x128.Idx → EReal from (outsAt0 m c t.val t.isLt).2.2.1) (ix2 j d) = ∑ h : Fin 4, ∑ s : Fin 4096, dvAt m c (gN t.val) j d h s := by
  have ht := tlt t
  have e := dvAcc m c t (ix2 j d)
  rw [outsAt0_C m c t (by omega) h1] at e ⊢
  revert e
  frame_out
  intro e
  refine (dvOut_apply _ j d).trans (Eq.trans e ?_)
  rw [zero_add, h1]
  refine Eq.trans (Finset.sum_congr rfl fun k hk => ?_) (sum_points (gN t.val) fun h s => dvAt m c (gN t.val) j d h s)
  have hk' := Finset.mem_range.1 hk
  have eg : gN (32 * (t.val / 32) + k) = gN t.val := Fin.ext (by show (32 * (t.val / 32) + k) / 32 % 2 = t.val / 32 % 2; omega)
  have en : 32 * (t.val / 32) + k = 32 * (gN t.val).val + k := by show _ = 32 * (t.val / 32 % 2) + k; omega
  show dvStep m c (32 * (t.val / 32) + k) j d = _
  unfold dvStep
  rw [eg, en]

/-- The three results. -/
theorem dq_out (s : Fin 4096) (g : Fin 2) (h : Fin 4) (d : Fin 128) : (show S4096x1024.Idx → EReal from G7 m c) (ix2 s (qcol g h d)) = dqAt m c g h s d := by
  have hp : pt7Of (ix2 s (qcol g h d) : S4096x1024.Idx) = s.val / 512 + 8 * (4 * g.val + h.val) := by
    show 1 * (s.val / 512 - 0) + 8 * ((g.val * 512 + h.val * 128 + d.val) / 128 - 0) = _; omega
  have hN : pt7Of (ix2 s (qcol g h d) : S4096x1024.Idx) < cfg0.N := by rw [hp, show cfg0.N = 64 from N_0]; omega
  unfold G7
  refine (dif_pos hN).trans ?_
  rw [← outsAt0_sweep m c _ hN]
  have e := out7 m c ⟨_, hN⟩ ⟨s.val % 512, by omega⟩ d
  refine Eq.trans (congrArg _ ?_) (e.trans ?_)
  · funext a
    match a with
    | ⟨0, _⟩ => rfl
    | ⟨1, _⟩ => apply Fin.ext; show (g.val * 512 + h.val * 128 + d.val) % 128 = d.val; omega
  · simp only [hp]
    congr 1
    · apply Fin.ext; show (s.val / 512 + 8 * (4 * g.val + h.val)) / 32 % 2 = g.val; omega
    · apply Fin.ext; show (s.val / 512 + 8 * (4 * g.val + h.val)) / 8 % 4 = h.val; omega
    · apply Fin.ext; show (s.val / 512 + 8 * (4 * g.val + h.val)) % 8 * 512 + s.val % 512 = s.val; omega

theorem dk_out (j : Fin 4096) (g : Fin 2) (d : Fin 128) :
    (show S4096x256.Idx → EReal from G8 m c) (ix2 j (kcol g d)) = (∑ h : Fin 4, ∑ s : Fin 4096, dkAt m c g j d h s) * ((Real.log 2 : ℝ) : EReal) := by
  have hp : pt8Of (ix2 j (kcol g d) : S4096x256.Idx) = 32 * g.val + 31 := by
    show 32 * (2 * (j.val / 4096 - 0) + 1 * ((g.val * 128 + d.val) / 128 - 0)) + 31 = _; omega
  have hN : pt8Of (ix2 j (kcol g d) : S4096x256.Idx) < cfg0.N := by rw [hp, show cfg0.N = 64 from N_0]; omega
  have hg : gN (pt8Of (ix2 j (kcol g d) : S4096x256.Idx)) = g := by rw [hp]; apply Fin.ext; show (32 * g.val + 31) / 32 % 2 = g.val; omega
  unfold G8
  refine (dif_pos hN).trans ?_
  rw [← outsAt0_sweep m c _ hN]
  have e := out8 m c ⟨_, hN⟩ (by show pt8Of _ % 32 = 31; rw [hp]; omega) j d
  simp only [hg] at e
  refine Eq.trans (congrArg _ ?_) e
  funext a
  match a with
  | ⟨0, _⟩ => apply Fin.ext; show j.val % 4096 = j.val; omega
  | ⟨1, _⟩ => apply Fin.ext; show (g.val * 128 + d.val) % 128 = d.val; omega

theorem dv_out (j : Fin 4096) (g : Fin 2) (d : Fin 128) :
    (show S4096x256.Idx → EReal from G9 m c) (ix2 j (kcol g d)) = ∑ h : Fin 4, ∑ s : Fin 4096, dvAt m c g j d h s := by
  have hp : pt9Of (ix2 j (kcol g d) : S4096x256.Idx) = 32 * g.val + 31 := by
    show 32 * (2 * (j.val / 4096 - 0) + 1 * ((g.val * 128 + d.val) / 128 - 0)) + 31 = _; omega
  have hN : pt9Of (ix2 j (kcol g d) : S4096x256.Idx) < cfg0.N := by rw [hp, show cfg0.N = 64 from N_0]; omega
  have hg : gN (pt9Of (ix2 j (kcol g d) : S4096x256.Idx)) = g := by rw [hp]; apply Fin.ext; show (32 * g.val + 31) / 32 % 2 = g.val; omega
  unfold G9
  refine (dif_pos hN).trans ?_
  rw [← outsAt0_sweep m c _ hN]
  have e := out9 m c ⟨_, hN⟩ (by show pt9Of _ % 32 = 31; rw [hp]; omega) j d
  simp only [hg] at e
  refine Eq.trans (congrArg _ ?_) e
  funext a
  match a with
  | ⟨0, _⟩ => apply Fin.ext; show j.val % 4096 = j.val; omega
  | ⟨1, _⟩ => apply Fin.ext; show (g.val * 128 + d.val) % 128 = d.val; omega

end Cert.FlashBwdIdeal.Value

end
-- ==== Proof.FlashBwdRef.lean ====
/- The reference for the grouped attention's gradient, read at an index. -/
module

public import proofs.«01_k».proof.Proof.Gen.FlashBwdRefIdeal.Read
public import Idealize.ShloMosaic.Lib.Pointwise

@[expose] public section

set_option maxRecDepth 16384

noncomputable section

namespace Cert.FlashBwdRefIdeal.Read

open Cert.FlashBwdRefIdeal Cert.FlashBwdRefIdeal.Gen Idealize.ShloMosaic Idealize.ShloMosaic.TcCoe Idealize.SL.Sem

/-- Key heads and their queries' heads, as columns. -/
abbrev kcol (g : Fin 2) (d : Fin 128) : Fin 256 := ⟨g.val * 128 + d.val, by omega⟩
abbrev qcol (g : Fin 2) (h : Fin 4) (d : Fin 128) : Fin 1024 := ⟨g.val * 512 + h.val * 128 + d.val, by omega⟩

variable (x0 : FVec Ideal S4096x1024 .bf16) (x1 x2 : FVec Ideal S4096x256 .bf16) (x3 : FVec Ideal S4096x1024 .bf16)

/-- The root of 128, as the reference computes it. -/
def rt : EReal := Ideal.sqrt (Ideal.ofBits FTy.f32 1124073472#32)

def rS (g : Fin 2) (h : Fin 4) (i j : Fin 4096) : EReal := Ideal.div (∑ d : Fin 128, x1 (ix2 j (kcol g d)) * x0 (ix2 i (qcol g h d))) rt
def rM (g : Fin 2) (h : Fin 4) (i : Fin 4096) : EReal :=
  max (Ideal.ofBits FTy.f32 4286578688#32) (Finset.fold max (Ideal.ofBits FTy.f32 4286578688#32) (fun j => rS x0 x1 g h i j) Finset.univ)
def rE (g : Fin 2) (h : Fin 4) (i j : Fin 4096) : EReal := Ideal.exp (rS x0 x1 g h i j - rM x0 x1 g h i)
def rL (g : Fin 2) (h : Fin 4) (i : Fin 4096) : EReal := ∑ j : Fin 4096, rE x0 x1 g h i j
def rP (g : Fin 2) (h : Fin 4) (i j : Fin 4096) : EReal := Ideal.div (rE x0 x1 g h i j) (rL x0 x1 g h i)
def rR (g : Fin 2) (h : Fin 4) (i : Fin 4096) : EReal := Ideal.div 1 (rL x0 x1 g h i * rL x0 x1 g h i)
def rDP (g : Fin 2) (h : Fin 4) (i j : Fin 4096) : EReal := ∑ d : Fin 128, x3 (ix2 i (qcol g h d)) * x2 (ix2 j (kcol g d))
def rT (g : Fin 2) (h : Fin 4) (i : Fin 4096) : EReal := -∑ j : Fin 4096, rDP x2 x3 g h i j * rR x0 x1 g h i * rE x0 x1 g h i j
def rDS (g : Fin 2) (h : Fin 4) (i j : Fin 4096) : EReal :=
  Ideal.div ((Ideal.div (rDP x2 x3 g h i j) (rL x0 x1 g h i) + rT x0 x1 x2 x3 g h i) * rE x0 x1 g h i j) rt

theorem v3_apply (i : Fin 4096) (g : Fin 2) (h : Fin 4) (d : Fin 128) : val_main_v3 (F := Ideal) x0 (ix5 0 i g h d) = x0 (ix2 i (qcol g h d)) := by
  unfold val_main_v3 val_main_v0
  pointwise

theorem v4_apply (j : Fin 4096) (g : Fin 2) (d : Fin 128) : val_main_v4 (F := Ideal) x1 (ix4 0 j g d) = x1 (ix2 j (kcol g d)) := by
  unfold val_main_v4 val_main_v1
  pointwise

theorem v5_apply (j : Fin 4096) (g : Fin 2) (d : Fin 128) : val_main_v5 (F := Ideal) x2 (ix4 0 j g d) = x2 (ix2 j (kcol g d)) := by
  unfold val_main_v5 val_main_v2
  pointwise

theorem v10_apply (g : Fin 2) (h : Fin 4) (i j : Fin 4096) : val_main_v10 (F := Ideal) x0 x1 (ix5 0 g h i j) = rS x0 x1 g h i j := by
  unfold rS rt
  simp only [← v3_apply, ← v4_apply]
  unfold val_main_v10 val_main_v7 val_main_v9 val_main_v8 val_main_cst val_main_v6
  generalize val_main_v3 (F := Ideal) x0 = X
  generalize val_main_v4 (F := Ideal) x1 = Y
  pointwise

theorem v11_apply (g : Fin 2) (h : Fin 4) (i : Fin 4096) : val_main_v11 (F := Ideal) x0 x1 (ix4 0 g h i)
    = Finset.fold max (Ideal.ofBits FTy.f32 4286578688#32) (fun j => rS x0 x1 g h i j) Finset.univ := by
  simp only [← v10_apply]
  unfold val_main_v11 val_main_cst_0
  generalize val_main_v10 (F := Ideal) x0 x1 = X
  pointwise

theorem v17_apply (i : S1x2x4x4096.Idx) : val_main_v17 (F := Ideal) i = Ideal.ofBits FTy.f32 4286578688#32 := by
  rw [val_main_v17_apply]
  unfold val_main_cst_2
  pointwise

theorem v18_apply (g : Fin 2) (h : Fin 4) (i : Fin 4096) : val_main_v18 (F := Ideal) x0 x1 (ix4 0 g h i) = rM x0 x1 g h i := by
  rw [val_main_v18_apply, v11_apply, v17_apply]
  rfl

theorem v31_apply (g : Fin 2) (h : Fin 4) (i j : Fin 4096) : val_main_v31 (F := Ideal) x0 x1 (ix5 0 g h i j) = rE x0 x1 g h i j := by
  unfold rE
  rw [← v10_apply, ← v18_apply]
  unfold val_main_v31 val_main_v30 val_main_v29 val_main_v28
  generalize val_main_v10 (F := Ideal) x0 x1 = X
  generalize val_main_v18 (F := Ideal) x0 x1 = Y
  pointwise

theorem v32_apply (g : Fin 2) (h : Fin 4) (i : Fin 4096) : val_main_v32 (F := Ideal) x0 x1 (ix4 0 g h i) = rL x0 x1 g h i := by
  unfold rL
  simp only [← v31_apply]
  unfold val_main_v32 val_main_cst_8
  generalize val_main_v31 (F := Ideal) x0 x1 = X
  pointwise

theorem v35_apply (g : Fin 2) (h : Fin 4) (i j : Fin 4096) : val_main_v35 (F := Ideal) x0 x1 (ix5 0 g h i j) = rP x0 x1 g h i j := by
  unfold rP
  rw [← v31_apply, ← v32_apply]
  unfold val_main_v35 val_main_v34 val_main_v33
  generalize val_main_v31 (F := Ideal) x0 x1 = X
  generalize val_main_v32 (F := Ideal) x0 x1 = Y
  pointwise

theorem v38_apply (g : Fin 2) (h : Fin 4) (i : Fin 4096) : val_main_v38 (F := Ideal) x0 x1 (ix5 0 g h i 0) = rR x0 x1 g h i := by
  unfold rR
  rw [← v32_apply]
  unfold val_main_v38 val_main_v37 val_main_v36 val_main_v33 val_main_cst_9
  generalize val_main_v32 (F := Ideal) x0 x1 = Y
  pointwise

theorem v43_apply (i : Fin 4096) (g : Fin 2) (h : Fin 4) (d : Fin 128) : val_main_v43 (F := Ideal) x3 (ix5 0 i g h d) = x3 (ix2 i (qcol g h d)) := by
  unfold val_main_v43 val_main_v42
  pointwise

theorem v45_apply (g : Fin 2) (h : Fin 4) (i j : Fin 4096) : val_main_v45 (F := Ideal) x2 x3 (ix5 0 g h i j) = rDP x2 x3 g h i j := by
  unfold rDP
  simp only [← v43_apply, ← v5_apply]
  unfold val_main_v45 val_main_v44
  generalize val_main_v43 (F := Ideal) x3 = X
  generalize val_main_v5 (F := Ideal) x2 = Y
  pointwise

theorem v53_apply (g : Fin 2) (h : Fin 4) (i : Fin 4096) : val_main_v53 (F := Ideal) x0 x1 x2 x3 (ix5 0 g h i 0) = rT x0 x1 x2 x3 g h i := by
  unfold rT
  simp only [← v45_apply, ← v38_apply, ← v31_apply]
  unfold val_main_v53 val_main_v52 val_main_v51 val_main_v50 val_main_v49 val_main_v48 val_main_cst_10
  generalize val_main_v45 (F := Ideal) x2 x3 = X
  generalize val_main_v38 (F := Ideal) x0 x1 = Y
  generalize val_main_v31 (F := Ideal) x0 x1 = Z
  pointwise

theorem unit_fiber (g : Fin 2) (h : Fin 4) (i : Fin 4096) (y : S1x2x4x4096x1.Idx) :
    reducesTo_S1x2x4x4096x1_S2x4x4096_d0_4.drop y = ix3 g h i ↔ y = ix5 0 g h i 0 := by
  constructor
  · intro e
    funext a; apply Fin.ext
    match a with
    | ⟨0, _⟩ => exact Nat.lt_one_iff.1 (y 0).isLt
    | ⟨1, _⟩ => exact congrArg Fin.val (congrFun e 0)
    | ⟨2, _⟩ => exact congrArg Fin.val (congrFun e 1)
    | ⟨3, _⟩ => exact congrArg Fin.val (congrFun e 2)
    | ⟨4, _⟩ => exact Nat.lt_one_iff.1 (y 4).isLt
  · rintro rfl
    funext b; apply Fin.ext
    match b with
    | ⟨0, _⟩ => rfl
    | ⟨1, _⟩ => rfl
    | ⟨2, _⟩ => rfl

/-- A sum over two axes of length one is its only term. -/
theorem unit_sum (X : S1x2x4x4096x1.Idx → EReal) (g : Fin 2) (h : Fin 4) (i : Fin 4096) :
    Ideal.hostReduceAdd reducesTo_S1x2x4x4096x1_S2x4x4096_d0_4 X 0 (ix3 g h i) = X (ix5 0 g h i 0) := by
  have e : (Finset.univ.filter fun y => reducesTo_S1x2x4x4096x1_S2x4x4096_d0_4.drop y = ix3 g h i) = {ix5 0 g h i 0} :=
    Finset.ext fun y => (Finset.mem_filter.trans (and_iff_right (Finset.mem_univ _))).trans ((unit_fiber g h i y).trans Finset.mem_singleton.symm)
  unfold Ideal.hostReduceAdd
  refine (zero_add _).trans ((Finset.sum_congr e fun _ _ => rfl).trans (Finset.sum_singleton _ _))

theorem v58_apply (g : Fin 2) (h : Fin 4) (i j : Fin 4096) : val_main_v58 (F := Ideal) x0 x1 x2 x3 (ix5 0 g h i j) = rT x0 x1 x2 x3 g h i := by
  rw [← v53_apply]
  unfold val_main_v58 val_main_v57 val_main_v56 val_main_cst_11
  generalize val_main_v53 (F := Ideal) x0 x1 x2 x3 = X
  pointwise
  exact unit_sum X g h i

theorem v62_apply (g : Fin 2) (h : Fin 4) (i j : Fin 4096) : val_main_v62 (F := Ideal) x0 x1 x2 x3 (ix5 0 g h i j) = rDS x0 x1 x2 x3 g h i j := by
  unfold rDS rt
  rw [← v58_apply x0 x1 x2 x3 g h i j, ← v45_apply, ← v32_apply, ← v31_apply]
  unfold val_main_v62 val_main_v61 val_main_v60 val_main_v59 val_main_v55 val_main_v54 val_main_v33 val_main_v8 val_main_cst
  generalize val_main_v58 (F := Ideal) x0 x1 x2 x3 = X
  generalize val_main_v45 (F := Ideal) x2 x3 = Y
  generalize val_main_v31 (F := Ideal) x0 x1 = Z
  generalize val_main_v32 (F := Ideal) x0 x1 = W
  pointwise

theorem dq_apply (i : Fin 4096) (g : Fin 2) (h : Fin 4) (d : Fin 128) : val_main_v70 (F := Ideal) x0 x1 x2 x3 (ix2 i (qcol g h d))
    = ∑ j : Fin 4096, rDS x0 x1 x2 x3 g h i j * x1 (ix2 j (kcol g d)) := by
  simp only [← v62_apply, ← v4_apply]
  unfold val_main_v70 val_main_v65 val_main_v64 val_main_v63
  generalize val_main_v62 (F := Ideal) x0 x1 x2 x3 = X
  generalize val_main_v4 (F := Ideal) x1 = Y
  pointwise
  have e1 : (g.val * 512 + h.val * 128 + d.val) / 512 = g.val := by omega
  have e2 : (g.val * 512 + h.val * 128 + d.val) / 128 % 4 = h.val := by omega
  have e3 : (g.val * 512 + h.val * 128 + d.val) % 128 = d.val := by omega
  simp only [e1, e2, e3, Fin.eta]

theorem dk_apply (j : Fin 4096) (g : Fin 2) (d : Fin 128) : val_main_v69 (F := Ideal) x0 x1 x2 x3 (ix2 j (kcol g d))
    = ∑ i : Fin 4096, ∑ h : Fin 4, rDS x0 x1 x2 x3 g h i j * x0 (ix2 i (qcol g h d)) := by
  simp only [← v62_apply, ← v3_apply]
  unfold val_main_v69 val_main_v67 val_main_v66 val_main_v63
  generalize val_main_v62 (F := Ideal) x0 x1 x2 x3 = X
  generalize val_main_v3 (F := Ideal) x0 = Y
  pointwise
  have e1 : (g.val * 128 + d.val) / 128 = g.val := by omega
  have e3 : (g.val * 128 + d.val) % 128 = d.val := by omega
  simp only [e1, e3, Fin.eta]

theorem dv_apply (j : Fin 4096) (g : Fin 2) (d : Fin 128) : val_main_v71 (F := Ideal) x0 x1 x3 (ix2 j (kcol g d))
    = ∑ h : Fin 4, ∑ i : Fin 4096, x3 (ix2 i (qcol g h d)) * rP x0 x1 g h i j := by
  simp only [← v35_apply, ← v43_apply]
  unfold val_main_v71 val_main_v68 val_main_v47 val_main_v46 val_main_v44
  generalize val_main_v35 (F := Ideal) x0 x1 = X
  generalize val_main_v43 (F := Ideal) x3 = Y
  pointwise
  have e1 : (g.val * 128 + d.val) / 128 = g.val := by omega
  have e3 : (g.val * 128 + d.val) % 128 = d.val := by omega
  simp only [e1, e3, Fin.eta]

end Cert.FlashBwdRefIdeal.Read

end
-- ==== Proof.FlashBwdMeet.lean ====
/- The grouped attention's gradient: the kernel's three results are the derivative of the reference's lines. -/
module

public import proofs.«01_k».proof.Proof.FlashBwdKernel
public import proofs.«01_k».proof.Proof.FlashBwdRef
public import proofs.«01_k».proof.Proof.Softmax
public import proofs.«01_k».proof.Proof.Host
public import proofs.«01_k».proof.Pre_flash_bwd_finite

@[expose] public section

set_option maxRecDepth 16384

noncomputable section

namespace Cert.FlashBwdMeet

open Idealize.ShloMosaic Idealize.ShloMosaic.TcCoe Idealize.SL.Sem
open Cert.FlashBwdIdeal (nD τ sig main_arg0 main_arg1 main_arg2 main_arg3 cfg0)
open Cert.FlashBwdIdeal.Value Cert.FlashBwdIdeal.Gen Cert.FlashBwdIdeal.Pay

instance preFacts : Cert.Pre_flash_bwd_finite.Facts where
  bcast_S_S4096x1024 := by decide
  reducesTo_S4096x1024_S_d0_1 := by decide
  h_S_ := by decide
  bitsLt_bf16_f32 := by decide
  bcast_S_S4096x256 := by decide
  reducesTo_S4096x256_S_d0_1 := by decide

theorem finite (x0 : FVec Ideal Cert.Pre_flash_bwd_finite.S4096x1024 .bf16) (x1 x2 : FVec Ideal Cert.Pre_flash_bwd_finite.S4096x256 .bf16) (x3 : FVec Ideal Cert.Pre_flash_bwd_finite.S4096x1024 .bf16) (h : Cert.Pre_flash_bwd_finite.fn (F := Ideal) x0 x1 x2 x3 = fun _ => 1#1) :
    (∀ i, Grad.IsR (x0 i)) ∧ (∀ i, Grad.IsR (x1 i)) ∧ (∀ i, Grad.IsR (x2 i)) ∧ ∀ i, Grad.IsR (x3 i) := by
  have h0 := congrFun h (fun a => a.elim0)
  obtain ⟨h1, h2⟩ := Grad.andi_one _ _ h0
  obtain ⟨h3, h4⟩ := Grad.andi_one _ _ h1
  obtain ⟨h5, h6⟩ := Grad.andi_one _ _ h3
  exact ⟨Grad.finite_of_all x0 _ _ _ _ h5, Grad.finite_of_all x1 _ _ _ _ h6, Grad.finite_of_all x2 _ _ _ _ h4, Grad.finite_of_all x3 _ _ _ _ h2⟩

variable (m : (ℓ : Loc nD τ sig) → Buf (Elt Ideal) ℓ) (c : Dev nD)

/-- The arguments as real numbers, with each row's greatest score. -/
structure Reals where
  q : Fin 4096 → Fin 1024 → ℝ
  k : Fin 4096 → Fin 256 → ℝ
  v : Fin 4096 → Fin 256 → ℝ
  g : Fin 4096 → Fin 1024 → ℝ
  hq : ∀ s j, qA m c s j = (q s j : EReal)
  hk : ∀ s j, kA m c s j = (k s j : EReal)
  hv : ∀ s j, vA m c s j = (v s j : EReal)
  hg : ∀ s j, gA m c s j = (g s j : EReal)
  M : Fin 2 → Fin 4 → Fin 4096 → ℝ
  hM : ∀ g h i, mx m c g h i = (M g h i : EReal)

variable {m c}

namespace Reals

variable (R : Reals m c)

def s (g : Fin 2) (h : Fin 4) (i j : Fin 4096) : ℝ := (∑ d : Fin 128, R.k j (kcol g d) * R.q i (qcol g h d)) / Real.sqrt 128
def e (g : Fin 2) (h : Fin 4) (i j : Fin 4096) : ℝ := Real.exp (R.s g h i j - R.M g h i)
def l (g : Fin 2) (h : Fin 4) (i : Fin 4096) : ℝ := ∑ j : Fin 4096, R.e g h i j
def p (g : Fin 2) (h : Fin 4) (i j : Fin 4096) : ℝ := R.e g h i j / R.l g h i
def dp (g : Fin 2) (h : Fin 4) (i j : Fin 4096) : ℝ := ∑ d : Fin 128, R.g i (qcol g h d) * R.v j (kcol g d)
def t (g : Fin 2) (h : Fin 4) (i : Fin 4096) : ℝ := ∑ j : Fin 4096, R.p g h i j * R.dp g h i j
def ds (g : Fin 2) (h : Fin 4) (i j : Fin 4096) : ℝ := R.p g h i j * (R.dp g h i j - R.t g h i)

theorem l_pos (g : Fin 2) (h : Fin 4) (i : Fin 4096) : 0 < R.l g h i := Grad.sum_exp_pos (by norm_num) _

theorem sc_eq (g : Fin 2) (h : Fin 4) (i j : Fin 4096) : sc m c g h i j = (R.s g h i j : EReal) := by
  unfold sc s
  simp only [R.hk, R.hq]
  rw [Grad.sqrt_128, ← Grad.div_real _ Grad.sqrt_128_pos.ne', Grad.coe_sum]
  push_cast
  rfl

theorem ex_eq (g : Fin 2) (h : Fin 4) (i j : Fin 4096) : ex m c g h i j = (R.e g h i j : EReal) := by
  unfold ex e
  rw [R.sc_eq, R.hM, ← EReal.coe_sub, Ideal.exp_coe]

theorem sum_ex (g : Fin 2) (h : Fin 4) (i : Fin 4096) : ∑ j : Fin 4096, ex m c g h i j = (R.l g h i : EReal) := by
  unfold l
  rw [Grad.coe_sum]
  exact Finset.sum_congr rfl fun j _ => R.ex_eq g h i j

theorem scale_eq : scale = ((1 / (Real.sqrt 128 * Real.log 2) : ℝ) : EReal) := by
  unfold scale
  rw [Grad.sqrt_128, Grad.log_2, ← EReal.coe_mul, ← EReal.coe_one, Grad.div_real _ (mul_pos Grad.sqrt_128_pos Grad.log_2_pos).ne']

/-- The kernel's weights are the softmax's. -/
theorem w_eq (g : Fin 2) (h : Fin 4) (i j : Fin 4096) : wAt m c g h i j = (R.p g h i j : EReal) := by
  unfold wAt wgt lseAt
  simp only [R.hk, R.hq]
  rw [scale_eq, R.hM, R.sum_ex, Grad.log_real (R.l_pos g h i)]
  have e1 : (∑ d : Fin 128, (R.k j (kcol g d) : EReal) * ((R.q i (qcol g h d) : EReal) * ((1 / (Real.sqrt 128 * Real.log 2) : ℝ) : EReal)))
      - ((R.M g h i : EReal) + (Real.log (R.l g h i) : EReal)) * (((Real.log 2)⁻¹ : ℝ) : EReal)
      = (((∑ d : Fin 128, R.k j (kcol g d) * (R.q i (qcol g h d) * (1 / (Real.sqrt 128 * Real.log 2)))) - (R.M g h i + Real.log (R.l g h i)) * (Real.log 2)⁻¹ : ℝ) : EReal) := by
    rw [EReal.coe_sub, Grad.coe_sum]
    push_cast
    rfl
  rw [e1, Grad.exp2_real]
  refine congrArg _ ?_
  have e2 : ((∑ d : Fin 128, R.k j (kcol g d) * (R.q i (qcol g h d) * (1 / (Real.sqrt 128 * Real.log 2)))) - (R.M g h i + Real.log (R.l g h i)) * (Real.log 2)⁻¹) * Real.log 2
      = R.s g h i j - R.M g h i - Real.log (R.l g h i) := by
    unfold s
    have h2 := Grad.log_2_pos.ne'
    have h3 := Grad.sqrt_128_pos.ne'
    simp only [← mul_assoc]
    rw [← Finset.sum_mul]
    field_simp
    ring
  rw [e2, Real.exp_sub, Real.exp_log (R.l_pos g h i)]
  rfl

theorem o_eq (g : Fin 2) (h : Fin 4) (i : Fin 4096) (d : Fin 128) :
    oAt m c g h i d = (((∑ j : Fin 4096, R.e g h i j * R.v j (kcol g d)) / R.l g h i : ℝ) : EReal) := by
  unfold oAt
  rw [R.sum_ex]
  simp only [R.ex_eq, R.hv, ← EReal.coe_mul, ← Grad.coe_sum]
  exact Grad.div_real _ (R.l_pos g h i).ne'

/-- The row sum of output gradient times output is the weights' row sum. -/
theorem t_eq (g : Fin 2) (h : Fin 4) (i : Fin 4096) : tAt m c g h i = (R.t g h i : EReal) := by
  unfold tAt rowSum
  simp only [R.hg, R.o_eq, one_mul, ← EReal.coe_mul, ← EReal.coe_sub, sub_self, EReal.coe_zero, Finset.sum_const_zero, add_zero, ← Grad.coe_sum]
  refine congrArg _ ?_
  unfold t dp p
  simp only [Finset.mul_sum, Finset.sum_div]
  rw [Finset.sum_comm]
  refine Finset.sum_congr rfl fun j _ => Finset.sum_congr rfl fun d _ => ?_
  ring

theorem ds_eq (g : Fin 2) (h : Fin 4) (i j : Fin 4096) : dsAt m c g h i j = (R.ds g h i j : EReal) := by
  unfold dsAt scoreGrad
  simp only [R.w_eq, R.hv, R.hg, R.t_eq, ← EReal.coe_mul, ← Grad.coe_sum, ← EReal.coe_sub]
  refine congrArg _ ?_
  unfold ds dp
  simp only [mul_comm (R.v _ _)]

open Cert.FlashBwdRefIdeal.Read (rS rM rE rL rP rR rDP rT rDS rt)

theorem rS_eq (g : Fin 2) (h : Fin 4) (i j : Fin 4096) : rS (m ((c : Thread nD τ).loc main_arg0)) (m ((c : Thread nD τ).loc main_arg1)) g h i j = (R.s g h i j : EReal) := R.sc_eq g h i j

theorem rM_eq (g : Fin 2) (h : Fin 4) (i : Fin 4096) : rM (m ((c : Thread nD τ).loc main_arg0)) (m ((c : Thread nD τ).loc main_arg1)) g h i = (R.M g h i : EReal) := by
  unfold rM
  rw [Grad.max_neg_inf]
  exact R.hM g h i

theorem rE_eq (g : Fin 2) (h : Fin 4) (i j : Fin 4096) : rE (m ((c : Thread nD τ).loc main_arg0)) (m ((c : Thread nD τ).loc main_arg1)) g h i j = (R.e g h i j : EReal) := by
  unfold rE e
  rw [R.rS_eq, R.rM_eq, ← EReal.coe_sub, Ideal.exp_coe]

theorem rL_eq (g : Fin 2) (h : Fin 4) (i : Fin 4096) : rL (m ((c : Thread nD τ).loc main_arg0)) (m ((c : Thread nD τ).loc main_arg1)) g h i = (R.l g h i : EReal) := by
  unfold rL l
  simp only [R.rE_eq, ← Grad.coe_sum]

theorem rP_eq (g : Fin 2) (h : Fin 4) (i j : Fin 4096) : rP (m ((c : Thread nD τ).loc main_arg0)) (m ((c : Thread nD τ).loc main_arg1)) g h i j = (R.p g h i j : EReal) := by
  unfold rP p
  rw [R.rE_eq, R.rL_eq, Grad.div_real _ (R.l_pos g h i).ne']

theorem rR_eq (g : Fin 2) (h : Fin 4) (i : Fin 4096) : rR (m ((c : Thread nD τ).loc main_arg0)) (m ((c : Thread nD τ).loc main_arg1)) g h i = ((1 / (R.l g h i * R.l g h i) : ℝ) : EReal) := by
  unfold rR
  rw [R.rL_eq, ← EReal.coe_mul, ← EReal.coe_one, Grad.div_real _ (mul_pos (R.l_pos g h i) (R.l_pos g h i)).ne']

theorem rDP_eq (g : Fin 2) (h : Fin 4) (i j : Fin 4096) : rDP (m ((c : Thread nD τ).loc main_arg2)) (m ((c : Thread nD τ).loc main_arg3)) g h i j = (R.dp g h i j : EReal) := by
  unfold rDP dp
  rw [Grad.coe_sum]
  refine Finset.sum_congr rfl fun d _ => ?_
  rw [EReal.coe_mul, ← R.hg, ← R.hv]

theorem rT_eq (g : Fin 2) (h : Fin 4) (i : Fin 4096) : rT (m ((c : Thread nD τ).loc main_arg0)) (m ((c : Thread nD τ).loc main_arg1)) (m ((c : Thread nD τ).loc main_arg2)) (m ((c : Thread nD τ).loc main_arg3)) g h i = ((-∑ j : Fin 4096, R.dp g h i j * (1 / (R.l g h i * R.l g h i)) * R.e g h i j : ℝ) : EReal) := by
  unfold rT
  simp only [R.rDP_eq, R.rR_eq, R.rE_eq, ← EReal.coe_mul, ← Grad.coe_sum, ← EReal.coe_neg]

/-- The derivative's scores' gradient is the kernel's, over the root of 128. -/
theorem rDS_eq (g : Fin 2) (h : Fin 4) (i j : Fin 4096) : rDS (m ((c : Thread nD τ).loc main_arg0)) (m ((c : Thread nD τ).loc main_arg1)) (m ((c : Thread nD τ).loc main_arg2)) (m ((c : Thread nD τ).loc main_arg3)) g h i j = ((R.ds g h i j / Real.sqrt 128 : ℝ) : EReal) := by
  unfold rDS rt
  rw [R.rDP_eq, R.rL_eq, R.rT_eq, R.rE_eq, Grad.sqrt_128, Grad.div_real _ (R.l_pos g h i).ne', ← EReal.coe_add, ← EReal.coe_mul, Grad.div_real _ Grad.sqrt_128_pos.ne']
  refine congrArg (fun y : ℝ => ((y / Real.sqrt 128 : ℝ) : EReal)) ?_
  have hl := (R.l_pos g h i).ne'
  have e1 : ∑ j : Fin 4096, R.dp g h i j * (1 / (R.l g h i * R.l g h i)) * R.e g h i j = R.t g h i / R.l g h i := by
    unfold t p
    rw [Finset.sum_div]
    refine Finset.sum_congr rfl fun j _ => ?_
    field_simp
  rw [e1]
  unfold ds p
  field_simp
  ring

include R in
theorem dq_eq (i : Fin 4096) (g : Fin 2) (h : Fin 4) (d : Fin 128) :
    dqAt m c g h i d = ∑ j : Fin 4096, rDS (m ((c : Thread nD τ).loc main_arg0)) (m ((c : Thread nD τ).loc main_arg1)) (m ((c : Thread nD τ).loc main_arg2)) (m ((c : Thread nD τ).loc main_arg3)) g h i j * kA m c j (kcol g d) := by
  unfold dqAt
  simp only [R.rDS_eq, R.ds_eq, R.hk, ← EReal.coe_mul, ← Grad.coe_sum]
  refine congrArg _ ?_
  rw [Finset.sum_mul]
  refine Finset.sum_congr rfl fun j _ => ?_
  rw [div_eq_mul_inv]
  ring

include R in
theorem dk_eq (j : Fin 4096) (g : Fin 2) (d : Fin 128) :
    (∑ h : Fin 4, ∑ i : Fin 4096, dkAt m c g j d h i) * ((Real.log 2 : ℝ) : EReal) = ∑ i : Fin 4096, ∑ h : Fin 4, rDS (m ((c : Thread nD τ).loc main_arg0)) (m ((c : Thread nD τ).loc main_arg1)) (m ((c : Thread nD τ).loc main_arg2)) (m ((c : Thread nD τ).loc main_arg3)) g h i j * qA m c i (qcol g h d) := by
  unfold dkAt
  simp only [R.rDS_eq, R.ds_eq, R.hq, scale_eq, ← EReal.coe_mul, ← Grad.coe_sum]
  refine congrArg _ ?_
  rw [Finset.sum_comm, Finset.sum_mul]
  refine Finset.sum_congr rfl fun i _ => ?_
  rw [Finset.sum_mul]
  refine Finset.sum_congr rfl fun h _ => ?_
  have h2 := Grad.log_2_pos.ne'
  have h3 := Grad.sqrt_128_pos.ne'
  field_simp

include R in
theorem dv_eq (j : Fin 4096) (g : Fin 2) (d : Fin 128) :
    ∑ h : Fin 4, ∑ i : Fin 4096, dvAt m c g j d h i = ∑ h : Fin 4, ∑ i : Fin 4096, gA m c i (qcol g h d) * rP (m ((c : Thread nD τ).loc main_arg0)) (m ((c : Thread nD τ).loc main_arg1)) g h i j := by
  unfold dvAt
  refine Finset.sum_congr rfl fun h _ => Finset.sum_congr rfl fun i _ => ?_
  rw [R.rP_eq, R.w_eq, mul_comm]

end Reals

/-- Finite arguments are real numbers. -/
theorem reals (hf : (∀ i, Grad.IsR ((show Cert.FlashBwdIdeal.S4096x1024.Idx → EReal from m ((c : Thread nD τ).loc main_arg0)) i))
      ∧ (∀ i, Grad.IsR ((show Cert.FlashBwdIdeal.S4096x256.Idx → EReal from m ((c : Thread nD τ).loc main_arg1)) i))
      ∧ (∀ i, Grad.IsR ((show Cert.FlashBwdIdeal.S4096x256.Idx → EReal from m ((c : Thread nD τ).loc main_arg2)) i))
      ∧ ∀ i, Grad.IsR ((show Cert.FlashBwdIdeal.S4096x1024.Idx → EReal from m ((c : Thread nD τ).loc main_arg3)) i)) : Nonempty (Reals m c) := by
  obtain ⟨h0, h1, h2, h3⟩ := hf
  choose q hq using fun s j => h0 (ix2 s j)
  choose k hk using fun s j => h1 (ix2 s j)
  choose v hv using fun s j => h2 (ix2 s j)
  choose g hg using fun s j => h3 (ix2 s j)
  have hM : ∀ a b i, Grad.IsR (mx m c a b i) := fun a b i => by
    unfold mx sc
    have e : ∀ j, Ideal.div (∑ d : Fin 128, kA m c j (kcol a d) * qA m c i (qcol a b d)) (Ideal.sqrt (Ideal.ofBits FTy.f32 1124073472#32))
        = (((∑ d : Fin 128, k j (kcol a d) * q i (qcol a b d)) / Real.sqrt 128 : ℝ) : EReal) := fun j => by
      rw [Grad.sqrt_128, ← Grad.div_real _ Grad.sqrt_128_pos.ne', Grad.coe_sum]
      simp only [EReal.coe_mul, ← hq, ← hk]
    simp only [e]
    exact Grad.IsR.fold_max (by norm_num) _
  choose M hM' using hM
  exact ⟨⟨q, k, v, g, hq, hk, hv, hg, M, hM'⟩⟩

theorem qcols (i1 : Fin 1024) : i1 = qcol ⟨i1.val / 512, by omega⟩ ⟨i1.val / 128 % 4, by omega⟩ ⟨i1.val % 128, by omega⟩ :=
  Fin.ext (by show i1.val = i1.val / 512 * 512 + i1.val / 128 % 4 * 128 + i1.val % 128; omega)
theorem kcols (i1 : Fin 256) : i1 = kcol ⟨i1.val / 128, by omega⟩ ⟨i1.val % 128, by omega⟩ :=
  Fin.ext (by show i1.val = i1.val / 128 * 128 + i1.val % 128; omega)

variable (R : Reals m c)
include R

theorem dq_meet : G7 m c = Cert.FlashBwdRefIdeal.Read.val_main_v70 (F := Ideal) (m ((c : Thread nD τ).loc main_arg0)) (m ((c : Thread nD τ).loc main_arg1)) (m ((c : Thread nD τ).loc main_arg2)) (m ((c : Thread nD τ).loc main_arg3)) := by
  funext i
  idx_vars i
  rw [qcols i1]
  exact (dq_out m c _ _ _ _).trans ((R.dq_eq _ _ _ _).trans (Cert.FlashBwdRefIdeal.Read.dq_apply _ _ _ _ _ _ _ _).symm)

theorem dk_meet : G8 m c = Cert.FlashBwdRefIdeal.Read.val_main_v69 (F := Ideal) (m ((c : Thread nD τ).loc main_arg0)) (m ((c : Thread nD τ).loc main_arg1)) (m ((c : Thread nD τ).loc main_arg2)) (m ((c : Thread nD τ).loc main_arg3)) := by
  funext i
  idx_vars i
  rw [kcols i1]
  exact (dk_out m c _ _ _).trans ((R.dk_eq _ _ _).trans (Cert.FlashBwdRefIdeal.Read.dk_apply _ _ _ _ _ _ _).symm)

theorem dv_meet : G9 m c = Cert.FlashBwdRefIdeal.Read.val_main_v71 (F := Ideal) (m ((c : Thread nD τ).loc main_arg0)) (m ((c : Thread nD τ).loc main_arg1)) (m ((c : Thread nD τ).loc main_arg3)) := by
  funext i
  idx_vars i
  rw [kcols i1]
  exact (dv_out m c _ _ _).trans ((R.dv_eq _ _ _).trans (Cert.FlashBwdRefIdeal.Read.dv_apply _ _ _ _ _ _).symm)

end Cert.FlashBwdMeet

end
-- ==== Proof.NormWide.lean ====
/- The norm's gradient on rows of 1024 at the programs' words, and the sum of the norm's gradient with what passes it by. -/
module

public import proofs.«01_k».proof.Proof.Blocks

@[expose] public section

set_option maxRecDepth 16384

noncomputable section

namespace Grad

open Idealize.ShloMosaic

abbrev W1024 : EReal := Ideal.ofBits FTy.f32 0x44800000#32
abbrev WEps : EReal := Ideal.ofBits FTy.f32 897988541#32
abbrev WNegHalf : EReal := Ideal.ofBits FTy.f32 0xBF000000#32

theorem normDx1024_eq {n : ℕ} {x dn g : Fin n → EReal} (hx : ∀ k, IsR (x k)) (hd : ∀ k, IsR (dn k)) (hg : ∀ k, IsR (g k)) (j : Fin n) :
    normDx W1024 WEps x dn g j = normDxLines W1024 WEps WNegHalf x dn g j := by
  rw [show W1024 = ((1024 : ℝ) : EReal) from lit_1024, show WEps = ((epsR : ℝ) : EReal) from lit_eps, show WNegHalf = _ from lit_neg_half]
  exact normDx_eq (by norm_num) epsR_pos hx hd hg j

end Grad

end
-- ==== Proof.FfnInKernel.lean ====
/- The kernel of the SwiGLU half's input gradient, read at an index: the block it writes at each grid point and the gain's
   accumulated gradient, in terms of the arguments. -/
module

public import proofs.«01_k».proof.Proof.NormWide
public import proofs.«01_k».proof.Proof.Gen.FfnInIdeal.Value
public import Idealize.ShloMosaic.Lib.Pipeline.ValueKit
public import Idealize.ShloMosaic.Lib.StableHlo.ReadAt
public import Idealize.ShloMosaic.Lib.Pointwise

@[expose] public section

set_option maxRecDepth 16384

noncomputable section

namespace Cert.FfnInIdeal.Value

open Cert.FfnInIdeal Cert.FfnInIdeal.Gen Idealize.ShloMosaic Idealize.ShloMosaic.TcCoe Idealize.SL.Sem

/-- A weight's row among the devices' packed rows. -/
abbrev devOf (f : Fin 2816) : Fin 8 := ⟨f.val / 352, by omega⟩
abbrev shardOf (f : Fin 2816) : Fin 352 := ⟨f.val % 352, by omega⟩

theorem pay4_apply (v0 v6 : Vec Ideal S1x256x2816 .bf16) (v2 v8 : Vec Ideal S8x352x1024 .bf16) (p : Fin 256) (q : Fin 1024) :
    k0_pay4 (F := Ideal) v0 v2 v6 v8 (ix2 p q) = (∑ f : Fin 2816, v0 (ix3 0 p f) * v2 (ix3 (devOf f) (shardOf f) q))
      + ∑ f : Fin 2816, v6 (ix3 0 p f) * v8 (ix3 (devOf f) (shardOf f) q) := by
  pointwise [k0_pay4]

theorem pay1_apply (v0 v6 : Vec Ideal S1x256x2816 .bf16) (v2 v8 : Vec Ideal S8x352x1024 .bf16) (v13 v38 : Vec Ideal S256x1024 .f32) (v14 : Vec Ideal S1x1024 .f32) (p : Fin 256) (q : Fin 1024) :
    k0_pay1 (F := Ideal) (k0_pay7 v0 v2 v6 v8 v13 v14) (k0_pay8 v13) v38 (ix2 p q)
      = v38 (ix2 p q) + Grad.normDx Grad.W1024 Grad.WEps (fun k => v13 (ix2 p k)) (fun k => k0_pay4 (F := Ideal) v0 v2 v6 v8 (ix2 p k)) (fun k => v14 (ix2 0 k)) q := by
  unfold k0_pay7
  generalize k0_pay4 (F := Ideal) v0 v2 v6 v8 = D
  pointwise [k0_pay1, k0_pay5, k0_pay6, k0_pay8]
  rfl

theorem pay2_apply (D v13 : FVec Ideal S256x1024 .f32) (q : Fin 1024) :
    k0_pay2 (F := Ideal) D (k0_pay6 v13) (ix2 0 q) = ∑ p : Fin 256, D (ix2 p q) * (v13 (ix2 p q) * Grad.rinv Grad.W1024 Grad.WEps (fun k => v13 (ix2 p k))) := by
  pointwise [k0_pay2, k0_pay5, k0_pay6]
  rfl

theorem pay3_apply (D v24 : FVec Ideal S256x1024 .f32) (w : Vec Ideal S1x1024 .f32) (q : Fin 1024) :
    k0_pay3 (F := Ideal) D v24 w (ix2 0 q) = w (ix2 0 q) + k0_pay2 (F := Ideal) D v24 (ix2 0 q) := by
  unfold k0_pay3
  generalize k0_pay2 (F := Ideal) D v24 = X
  pointwise

/-! ## The arrays -/

variable (m : (ℓ : Loc nD τ sig) → Buf (Elt Ideal) ℓ) (c : Dev nD)

/-- The arguments, at their coordinates. -/
abbrev daA (s : Fin 4096) (f : Fin 2816) : EReal := (show S4096x2816.Idx → EReal from m ((c : Thread nD τ).loc main_arg0)) (ix2 s f)
abbrev dbA (s : Fin 4096) (f : Fin 2816) : EReal := (show S4096x2816.Idx → EReal from m ((c : Thread nD τ).loc main_arg1)) (ix2 s f)
abbrev xA (s : Fin 4096) (k : Fin 1024) : EReal := (show S4096x1024.Idx → EReal from m ((c : Thread nD τ).loc main_arg2)) (ix2 s k)
abbrev gA (k : Fin 1024) : EReal := (show S1x1024.Idx → EReal from m ((c : Thread nD τ).loc main_arg3)) (ix2 0 k)
abbrev rA (s : Fin 4096) (k : Fin 1024) : EReal := (show S4096x1024.Idx → EReal from m ((c : Thread nD τ).loc main_arg4)) (ix2 s k)
abbrev w1A (k : Fin 1024) (f : Fin 2816) : EReal := (show S1024x2816.Idx → EReal from m ((c : Thread nD τ).loc main_arg5)) (ix2 k f)
abbrev w3A (k : Fin 1024) (f : Fin 2816) : EReal := (show S1024x2816.Idx → EReal from m ((c : Thread nD τ).loc main_arg6)) (ix2 k f)

theorem stack0 (s : Fin 4096) (f : Fin 2816) : (show S2x4096x2816.Idx → EReal from V m c main_v8) (ix3 0 s f) = daA m c s f := by
  unfold V
  after_reads_at

theorem stack1 (s : Fin 4096) (f : Fin 2816) : (show S2x4096x2816.Idx → EReal from V m c main_v8) (ix3 1 s f) = dbA m c s f := by
  unfold V
  after_reads_at

theorem pack1 (d : Fin 8) (r : Fin 352) (k : Fin 1024) (hf : d.val * 352 + r.val < 2816) : (show S8x704x1024.Idx → EReal from V m c main_v5) (ix3 d ⟨r.val, by omega⟩ k) = w1A m c k ⟨d.val * 352 + r.val, hf⟩ := by
  unfold V
  after_reads_at
  after_reads_at

theorem pack3 (d : Fin 8) (r : Fin 352) (k : Fin 1024) (hf : d.val * 352 + r.val < 2816) : (show S8x704x1024.Idx → EReal from V m c main_v5) (ix3 d ⟨352 + r.val, by omega⟩ k) = w3A m c k ⟨d.val * 352 + r.val, hf⟩ := by
  unfold V
  after_reads_at
  after_reads_at

theorem idxs : ∀ t : Fin grid0.N, win0_0.index t = ![0, t.val, 0] ∧ win0_1.index t = ![0, 0, 0] ∧ win0_2.index t = ![0, 1, 0] ∧ win0_3.index t = ![t.val, 0] ∧ win0_4.index t = ![t.val, 0] ∧ win0_5.index t = ![0, 0] ∧ win0_6.index t = ![t.val, 0] ∧ win0_7.index t = ![0, 0] := by decide +kernel

/-- The array row of a block's row. -/
def rowOf (t : Fin cfg0.N) (p : Fin 256) : Fin 4096 := ⟨t.val * 256 + p.val, by have := t.isLt; have hN : cfg0.N = 16 := N_0; omega⟩

theorem blk0a (t : Fin cfg0.N) (p : Fin 256) (f : Fin 2816) : (show S2x256x2816.Idx → EReal from iblk m c 0 t) (ix3 0 p f) = daA m c (rowOf t p) f := by
  rw [← stack0]
  unfold rowOf
  blk_ext [iblk, idxs t]

theorem blk0b (t : Fin cfg0.N) (p : Fin 256) (f : Fin 2816) : (show S2x256x2816.Idx → EReal from iblk m c 0 t) (ix3 1 p f) = dbA m c (rowOf t p) f := by
  rw [← stack1]
  unfold rowOf
  blk_ext [iblk, idxs t]

theorem blk1 (t : Fin cfg0.N) (f : Fin 2816) (k : Fin 1024) : (show S8x352x1024.Idx → EReal from iblk m c 1 t) (ix3 (devOf f) (shardOf f) k) = w1A m c k f := by
  have e := pack1 m c (devOf f) (shardOf f) k (by show f.val / 352 * 352 + f.val % 352 < 2816; omega)
  rw [show (⟨(devOf f).val * 352 + (shardOf f).val, _⟩ : Fin 2816) = f from Fin.ext (by show f.val / 352 * 352 + f.val % 352 = f.val; omega)] at e
  rw [← e]
  blk_ext [iblk, idxs t]

theorem blk2 (t : Fin cfg0.N) (f : Fin 2816) (k : Fin 1024) : (show S8x352x1024.Idx → EReal from iblk m c 2 t) (ix3 (devOf f) (shardOf f) k) = w3A m c k f := by
  have e := pack3 m c (devOf f) (shardOf f) k (by show f.val / 352 * 352 + f.val % 352 < 2816; omega)
  rw [show (⟨(devOf f).val * 352 + (shardOf f).val, _⟩ : Fin 2816) = f from Fin.ext (by show f.val / 352 * 352 + f.val % 352 = f.val; omega)] at e
  rw [← e]
  blk_ext [iblk, idxs t]

theorem blk3 (t : Fin cfg0.N) (p : Fin 256) (k : Fin 1024) : (show S256x1024.Idx → EReal from iblk m c 3 t) (ix2 p k) = xA m c (rowOf t p) k := by
  unfold rowOf
  blk_ext [iblk, V_main_arg2, idxs t]

theorem blk4 (t : Fin cfg0.N) (p : Fin 256) (k : Fin 1024) : (show S256x1024.Idx → EReal from iblk m c 4 t) (ix2 p k) = rA m c (rowOf t p) k := by
  unfold rowOf
  blk_ext [iblk, V_main_arg4, idxs t]

theorem blk5 (t : Fin cfg0.N) (k : Fin 1024) : (show S1x1024.Idx → EReal from iblk m c 5 t) (ix2 0 k) = gA m c k := by
  blk_ext [iblk, V_main_arg3, idxs t]

/-- The two stacked gradients that the body loads. -/
theorem ld0 {e : EltTy} (X : S2x256x2816.Idx → Elt Ideal e) (p : Fin 256) (f : Fin 2816) :
    View.ld X (Rect.unit ![0, 0, 0] ![1, 256, 2816] inb_S2x256x2816_S1x256x2816_0_0_0) (ix3 0 p f) = X (ix3 0 p f) := by
  refine congrArg X (funext fun a => Fin.ext ?_)
  match a with
  | ⟨0, _⟩ => rfl
  | ⟨1, _⟩ => show 0 + 1 * p.val = p.val; omega
  | ⟨2, _⟩ => show 0 + 1 * f.val = f.val; omega
theorem ld1 {e : EltTy} (X : S2x256x2816.Idx → Elt Ideal e) (p : Fin 256) (f : Fin 2816) :
    View.ld X (Rect.unit ![1, 0, 0] ![1, 256, 2816] inb_S2x256x2816_S1x256x2816_1_0_0) (ix3 0 p f) = X (ix3 1 p f) := by
  refine congrArg X (funext fun a => Fin.ext ?_)
  match a with
  | ⟨0, _⟩ => rfl
  | ⟨1, _⟩ => show 0 + 1 * p.val = p.val; omega
  | ⟨2, _⟩ => show 0 + 1 * f.val = f.val; omega

/-- What the two products pass back to the norm. -/
def dnAt (s : Fin 4096) (k : Fin 1024) : EReal := (∑ f : Fin 2816, daA m c s f * w1A m c k f) + ∑ f : Fin 2816, dbA m c s f * w3A m c k f

/-- The first result: the gradient of the norm's input with what passes the norm by. -/
def G6 : S4096x1024.Idx → EReal := fun i => rA m c (i 0) (i 1) + Grad.normDx Grad.W1024 Grad.WEps (xA m c (i 0)) (dnAt m c (i 0)) (gA m c) (i 1)

/-- What one row adds to the gain's gradient. -/
def dgAt (s : Fin 4096) (k : Fin 1024) : EReal := dnAt m c s k * (xA m c s k * Grad.rinv Grad.W1024 Grad.WEps (xA m c s))

/-- The second result: the gain's gradient. -/
def G7 : S1x1024.Idx → EReal := fun i => 0 + ∑ t : Fin cfg0.N, ∑ p : Fin 256, dgAt m c (rowOf t p) (i 1)

/-- The products of one grid point. -/
abbrev dnBlk (t : Fin cfg0.N) : FVec Ideal S256x1024 .f32 :=
  k0_pay4 (F := Ideal) (View.ld (iblk m c 0 t) (Rect.unit ![0, 0, 0] ![1, 256, 2816] inb_S2x256x2816_S1x256x2816_0_0_0)) (iblk m c 1 t)
    (View.ld (iblk m c 0 t) (Rect.unit ![1, 0, 0] ![1, 256, 2816] inb_S2x256x2816_S1x256x2816_1_0_0)) (iblk m c 2 t)

theorem dn_blk (t : Fin cfg0.N) (p : Fin 256) (k : Fin 1024) : dnBlk m c t (ix2 p k) = dnAt m c (rowOf t p) k := by
  refine (pay4_apply _ _ _ _ p k).trans ?_
  unfold dnAt
  refine congrArg₂ (· + ·) (Finset.sum_congr rfl fun f _ => congrArg₂ (· * ·) ?_ (blk1 m c t f k)) (Finset.sum_congr rfl fun f _ => congrArg₂ (· * ·) ?_ (blk2 m c t f k))
  · exact (ld0 _ p f).trans (blk0a m c t p f)
  · exact (ld1 _ p f).trans (blk0b m c t p f)

theorem dx_blk (t : Fin cfg0.N) (p : Fin 256) (q : Fin 1024) :
    (show S256x1024.Idx → EReal from iblk m c 4 t) (ix2 p q) + Grad.normDx Grad.W1024 Grad.WEps (fun k => (show S256x1024.Idx → EReal from iblk m c 3 t) (ix2 p k)) (fun k => dnBlk m c t (ix2 p k))
      (fun k => (show S1x1024.Idx → EReal from iblk m c 5 t) (ix2 0 k)) q = G6 m c (ix2 (rowOf t p) q) := by
  rw [funext (dn_blk m c t p), funext (blk3 m c t p), funext (blk5 m c t), blk4]
  rfl

theorem dg_blk (t : Fin cfg0.N) (q : Fin 1024) :
    (∑ p : Fin 256, dnBlk m c t (ix2 p q) * ((show S256x1024.Idx → EReal from iblk m c 3 t) (ix2 p q) * Grad.rinv Grad.W1024 Grad.WEps (fun k => (show S256x1024.Idx → EReal from iblk m c 3 t) (ix2 p k))))
      = ∑ p : Fin 256, dgAt m c (rowOf t p) q := by
  refine Finset.sum_congr rfl fun p _ => ?_
  rw [dn_blk, funext (blk3 m c t p), blk3]
  rfl

theorem idx6 : ∀ t : Fin grid0.N, win0_6.index t = ![t.val, 0] := by decide +kernel

theorem final6 : (dats m 0 c).arrAt 6 cfg0.N = G6 m c := by
  refine (dats m 0 c).arrAt_eq_of_covers 6 _ (by decide +kernel) fun t hf y => ?_
  have hN : cfg0.N = 16 := N_0
  have e : ((cfg0.win 6).blk t).view.emb y = (ix2 (rowOf t (y 0)) (y 1) : S4096x1024.Idx) := by
    funext a
    apply Fin.ext
    match a with
    | ⟨0, _⟩ => show (win0_6.index t 0) * 256 + 1 * (y 0).val = t.val * 256 + (y 0).val; rw [idx6 t]; simp
    | ⟨1, _⟩ => show (win0_6.index t 1) * 1024 + 1 * (y 1).val = (y 1).val; rw [idx6 t]; simp
  rw [e]
  blk_simp
  rw [after0_6]
  idx_vars y
  by_cases h : t.val % 16 = 0
  · have h1 : ¬1 ≤ t.val := by have : t.val < cfg0.N := t.isLt; omega
    rw [outsAt0_A m c t h h1]
    frame_out
    exact (pay1_apply _ _ _ _ _ _ _ y0 y1).trans (dx_blk m c t y0 y1)
  · have h1 : 1 ≤ t.val := by omega
    rw [outsAt0_B m c t h h1]
    frame_out
    exact (pay1_apply _ _ _ _ _ _ _ y0 y1).trans (dx_blk m c t y0 y1)

theorem final7 : (dats m 0 c).arrAt 7 cfg0.N = G7 m c := by
  refine (dats m 0 c).arrAt_eq_of_after_last 7 t0_15 (by decide +kernel) _ fun j => ?_
  blk_simp
  rw [after0_7]
  have hN : cfg0.N = 16 := N_0
  refine Eq.trans (Pipeline.eq_sum_fin_of_reset_step_apply_last (fun n h => ((outsAt0 m c n h).2 : S1x1024.Idx → EReal)) 16 (fun _ => (0 : EReal))
    (fun t j => ∑ p : Fin 256, dgAt m c (rowOf t p) (j 1)) (fun t h j => ?_) (fun t h j => ?_) N_0.le t0_15 rfl j) rfl
  · have h1 : ¬1 ≤ t.val := by have := t.isLt; omega
    idx_vars j
    obtain rfl : j0 = 0 := Subsingleton.elim _ _
    rw [outsAt0_A m c t h h1]
    frame_out
    refine ((pay2_apply _ _ j1).trans (dg_blk m c t j1)).trans ?_
    rw [zero_add]
  · have h1 : 1 ≤ t.val := by omega
    idx_vars j
    obtain rfl : j0 = 0 := Subsingleton.elim _ _
    rw [outsAt0_B m c t h h1]
    frame_out
    refine (pay3_apply _ _ _ j1).trans ?_
    exact congrArg (_ + ·) ((pay2_apply _ _ j1).trans (dg_blk m c t j1))

end Cert.FfnInIdeal.Value

end
-- ==== Proof.FfnInRef.lean ====
/- The derivative of the reference's lines for the gradient of the SwiGLU half's input, read at an index. -/
module

public import proofs.«01_k».proof.Proof.NormWide
public import proofs.«01_k».proof.Proof.Host
public import proofs.«01_k».proof.Proof.Gen.FfnInRefIdeal.Read
public import Idealize.ShloMosaic.Lib.Pointwise

@[expose] public section

set_option maxRecDepth 16384

noncomputable section

namespace Cert.FfnInRefIdeal.Read

open Cert.FfnInRefIdeal Cert.FfnInRefIdeal.Gen Idealize.ShloMosaic Idealize.ShloMosaic.TcCoe Idealize.SL.Sem

variable (x0 x1 : S4096x2816.Idx → EReal) (x2 : S4096x1024.Idx → EReal) (x3 : S1x1024.Idx → EReal) (x4 : S4096x1024.Idx → EReal) (x5 x6 : S1024x2816.Idx → EReal)

/-- The norm's row, and what the products pass back to it. -/
def xr (s : Fin 4096) (k : Fin 1024) : EReal := x2 (ix2 s k)
def dn (s : Fin 4096) (k : Fin 1024) : EReal := (∑ f : Fin 2816, x1 (ix2 s f) * x6 (ix2 k f)) + ∑ f : Fin 2816, x0 (ix2 s f) * x5 (ix2 k f)

theorem dn_apply (s : Fin 4096) (k : Fin 1024) : (show S4096x1024.Idx → EReal from val_main_v21 (F := Ideal) x0 x1 x5 x6) (ix2 s k) = dn x0 x1 x5 x6 s k := by
  unfold dn
  pointwise [val_main_v21, val_main_v20, val_main_v19, val_main_v18, val_main_v17]

theorem r_apply (s : Fin 4096) : (show S4096x1.Idx → EReal from val_main_v7 (F := Ideal) x2) (ix2 s 0) = Grad.rinv Grad.W1024 Grad.WEps (xr x2 s) := by
  unfold val_main_v7 val_main_v6 val_main_v4 val_main_v2 val_main_v1 val_main_v0 Grad.rinv xr
  pointwise [val_main_v3, val_main_v5, val_main_cst, val_main_cst_0, val_main_cst_1]

theorem r2_apply (s : Fin 4096) : (show S4096x1.Idx → EReal from val_main_v8 (F := Ideal) x2) (ix2 s 0)
    = Ideal.div (Grad.rinv Grad.W1024 Grad.WEps (xr x2 s)) (Ideal.div (∑ k, xr x2 s k * xr x2 s k) Grad.W1024 + Grad.WEps) := by
  rw [← r_apply]
  unfold val_main_v8 val_main_v6 val_main_v4 val_main_v2 val_main_v1 val_main_v0 xr
  generalize val_main_v7 (F := Ideal) x2 = R
  pointwise [val_main_v3, val_main_v5, val_main_cst, val_main_cst_0, val_main_cst_1]

theorem unit_sum (s : Fin 4096) (X : S4096x1.Idx → EReal) (z : S_.Idx → EReal) :
    (Host.reduceAdd (F := Ideal) (φ := .f32) X z reducesTo_S4096x1_S4096_d1 h_S_) (ix1 s) = z (Shape.Idx.first h_S_) + X (ix2 s 0) := by
  refine (Grad.hostSum reducesTo_S4096x1_S4096_d1 X _ (ix1 s) (fun _ : Unit => (ix2 s 0 : S4096x1.Idx)) (fun a b _ => rfl) (fun _ => ?_) (fun i hi => ⟨(), ?_⟩)).trans ?_
  · funext a; apply Fin.ext; match a with
    | ⟨0, _⟩ => rfl
  · idx_vars i
    have b1 : i0.val = s.val := congrArg Fin.val (congrFun hi 0)
    obtain rfl : i0 = s := Fin.ext b1
    obtain rfl : i1 = 0 := Subsingleton.elim _ _
    rfl
  · simp

/-- The gain's gradient. -/
theorem dg_apply (j : Fin 1024) : (show S1x1024.Idx → EReal from val_main_v24 (F := Ideal) x0 x1 x2 x5 x6) (ix2 0 j)
    = ∑ s : Fin 4096, xr x2 s j * Grad.rinv Grad.W1024 Grad.WEps (xr x2 s) * dn x0 x1 x5 x6 s j := by
  simp only [← r_apply, ← dn_apply]
  unfold val_main_v24 val_main_v23 val_main_v22 val_main_v12 val_main_v11 xr
  generalize val_main_v7 (F := Ideal) x2 = R
  generalize val_main_v21 (F := Ideal) x0 x1 x5 x6 = D
  pointwise [val_main_cst_3]

theorem mean_apply (s : Fin 4096) : (show S4096.Idx → EReal from val_main_v36 (F := Ideal) x0 x1 x2 x3 x5 x6) (ix1 s)
    = Grad.meanGrad Grad.W1024 Grad.WEps Grad.WNegHalf (xr x2 s) (dn x0 x1 x5 x6 s) (fun k => x3 (ix2 0 k)) := by
  have e1 : (show S4096.Idx → EReal from val_main_v36 (F := Ideal) x0 x1 x2 x3 x5 x6) (ix1 s) = (show S4096x1.Idx → EReal from val_main_v35 (F := Ideal) x0 x1 x2 x3 x5 x6) (ix2 s 0) := by
    unfold val_main_v36
    refine (unit_sum s _ _).trans ?_
    rw [show (val_main_cst_6 (F := Ideal)) (Shape.Idx.first h_S_) = (0 : EReal) from by pointwise [val_main_cst_6], zero_add]
  rw [e1]
  unfold Grad.meanGrad
  rw [← r2_apply]
  simp only [← dn_apply]
  unfold val_main_v35 val_main_v33 val_main_v29 val_main_v28 val_main_v27 val_main_v26 val_main_v10 xr
  generalize val_main_v8 (F := Ideal) x2 = R
  generalize val_main_v21 (F := Ideal) x0 x1 x5 x6 = D
  pointwise [val_main_v34, val_main_v25, val_main_v9, val_main_cst_2, val_main_cst_4, val_main_cst_5]

/-- The gradient of the norm's input, with what passes the norm by. -/
theorem dx_apply (s : Fin 4096) (j : Fin 1024) : (show S4096x1024.Idx → EReal from val_main_v41 (F := Ideal) x0 x1 x2 x3 x4 x5 x6) (ix2 s j)
    = x4 (ix2 s j) + Grad.normDxLines Grad.W1024 Grad.WEps Grad.WNegHalf (xr x2 s) (dn x0 x1 x5 x6 s) (fun k => x3 (ix2 0 k)) j := by
  unfold Grad.normDxLines
  rw [← add_assoc, ← add_assoc, ← mean_apply, ← r_apply, ← dn_apply]
  unfold val_main_v41 val_main_v40 val_main_v39 val_main_v38 val_main_v37 val_main_v32 val_main_v31 val_main_v30 val_main_v26 xr
  generalize val_main_v36 (F := Ideal) x0 x1 x2 x3 x5 x6 = M
  generalize val_main_v7 (F := Ideal) x2 = R
  generalize val_main_v21 (F := Ideal) x0 x1 x5 x6 = D
  pointwise [val_main_v25]

end Cert.FfnInRefIdeal.Read

end
-- ==== Proof.FfnInMeet.lean ====
/- The SwiGLU half's input gradient: the kernel's results are the derivative of the reference's lines. -/
module

public import proofs.«01_k».proof.Proof.FfnInKernel
public import proofs.«01_k».proof.Proof.FfnInRef
public import proofs.«01_k».proof.Proof.Host
public import proofs.«01_k».proof.Pre_ffn_in_finite

@[expose] public section

set_option maxRecDepth 16384

noncomputable section

namespace Cert.FfnInMeet

open Idealize.ShloMosaic Idealize.ShloMosaic.TcCoe Idealize.SL.Sem
open Cert.FfnInIdeal (nD τ sig main_arg0 main_arg1 main_arg2 main_arg3 main_arg4 main_arg5 main_arg6 cfg0)
open Cert.FfnInIdeal.Value Cert.FfnInIdeal.Gen

instance preFacts : Cert.Pre_ffn_in_finite.Facts where
  bitsLt_bf16_f32 := by decide
  bcast_S_S4096x2816 := by decide
  reducesTo_S4096x2816_S_d0_1 := by decide
  h_S_ := by decide
  bcast_S_S4096x1024 := by decide
  reducesTo_S4096x1024_S_d0_1 := by decide
  bcast_S_S1x1024 := by decide
  reducesTo_S1x1024_S_d0_1 := by decide
  bcast_S_S1024x2816 := by decide
  reducesTo_S1024x2816_S_d0_1 := by decide

theorem finite (x0 x1 : FVec Ideal Cert.Pre_ffn_in_finite.S4096x2816 .bf16) (x2 : FVec Ideal Cert.Pre_ffn_in_finite.S4096x1024 .f32) (x3 : FVec Ideal Cert.Pre_ffn_in_finite.S1x1024 .f32)
    (x4 : FVec Ideal Cert.Pre_ffn_in_finite.S4096x1024 .f32) (x5 x6 : FVec Ideal Cert.Pre_ffn_in_finite.S1024x2816 .f32) (h : Cert.Pre_ffn_in_finite.fn (F := Ideal) x0 x1 x2 x3 x4 x5 x6 = fun _ => 1#1) :
    (∀ i, Grad.IsR (x0 i)) ∧ (∀ i, Grad.IsR (x1 i)) ∧ (∀ i, Grad.IsR (x2 i)) ∧ (∀ i, Grad.IsR (x3 i)) ∧ (∀ i, Grad.IsR (x5 i)) ∧ ∀ i, Grad.IsR (x6 i) := by
  have h0 := congrFun h (fun a => a.elim0)
  obtain ⟨h1, e6⟩ := Grad.andi_one _ _ h0
  obtain ⟨h2, e5⟩ := Grad.andi_one _ _ h1
  obtain ⟨h3, e3⟩ := Grad.andi_one _ _ h2
  obtain ⟨h4, e2⟩ := Grad.andi_one _ _ h3
  obtain ⟨e0, e1⟩ := Grad.andi_one _ _ h4
  exact ⟨Grad.finite_of_all x0 _ _ _ _ e0, Grad.finite_of_all x1 _ _ _ _ e1, Grad.finite_of_all x2 _ _ _ _ e2, Grad.finite_of_all x3 _ _ _ _ e3,
    Grad.finite_of_all x5 _ _ _ _ e5, Grad.finite_of_all x6 _ _ _ _ e6⟩

variable (m : (ℓ : Loc nD τ sig) → Buf (Elt Ideal) ℓ) (c : Dev nD)

theorem dn_eq (s : Fin 4096) (k : Fin 1024) : dnAt m c s k = Cert.FfnInRefIdeal.Read.dn (m ((c : Thread nD τ).loc main_arg0)) (m ((c : Thread nD τ).loc main_arg1)) (m ((c : Thread nD τ).loc main_arg5)) (m ((c : Thread nD τ).loc main_arg6)) s k := by
  exact add_comm _ _

theorem dg_eq : G7 m c = Cert.FfnInRefIdeal.Read.val_main_v24 (F := Ideal) (m ((c : Thread nD τ).loc main_arg0)) (m ((c : Thread nD τ).loc main_arg1)) (m ((c : Thread nD τ).loc main_arg2)) (m ((c : Thread nD τ).loc main_arg5)) (m ((c : Thread nD τ).loc main_arg6)) := by
  funext i
  idx_vars i
  obtain rfl : i0 = 0 := Subsingleton.elim _ _
  refine Eq.trans ?_ (Cert.FfnInRefIdeal.Read.dg_apply (m ((c : Thread nD τ).loc main_arg0)) (m ((c : Thread nD τ).loc main_arg1)) (m ((c : Thread nD τ).loc main_arg2)) (m ((c : Thread nD τ).loc main_arg5)) (m ((c : Thread nD τ).loc main_arg6)) i1).symm
  refine (zero_add _).trans ?_
  refine (Grad.sum_blocks (n := cfg0.N) (b := 256) (N := 4096) (by rw [show cfg0.N = 16 from N_0]) (fun s => dgAt m c s i1)).trans ?_
  refine Finset.sum_congr rfl fun s _ => ?_
  unfold dgAt
  rw [dn_eq, mul_comm]
  rfl

/-- The finite arguments make the products' gradient real. -/
theorem dn_real (hf : (∀ i, Grad.IsR ((show Cert.FfnInIdeal.S4096x2816.Idx → EReal from m ((c : Thread nD τ).loc main_arg0)) i)) ∧ (∀ i, Grad.IsR ((show Cert.FfnInIdeal.S4096x2816.Idx → EReal from m ((c : Thread nD τ).loc main_arg1)) i)) ∧ (∀ i, Grad.IsR ((show Cert.FfnInIdeal.S4096x1024.Idx → EReal from m ((c : Thread nD τ).loc main_arg2)) i)) ∧ (∀ i, Grad.IsR ((show Cert.FfnInIdeal.S1x1024.Idx → EReal from m ((c : Thread nD τ).loc main_arg3)) i)) ∧ (∀ i, Grad.IsR ((show Cert.FfnInIdeal.S1024x2816.Idx → EReal from m ((c : Thread nD τ).loc main_arg5)) i)) ∧ (∀ i, Grad.IsR ((show Cert.FfnInIdeal.S1024x2816.Idx → EReal from m ((c : Thread nD τ).loc main_arg6)) i))) (s : Fin 4096) (k : Fin 1024) : Grad.IsR (dnAt m c s k) := by
  unfold dnAt
  exact (Grad.IsR.sum _ fun f _ => (hf.1 _).mul (hf.2.2.2.2.1 _)).add (Grad.IsR.sum _ fun f _ => (hf.2.1 _).mul (hf.2.2.2.2.2 _))

theorem dx_eq (hf : (∀ i, Grad.IsR ((show Cert.FfnInIdeal.S4096x2816.Idx → EReal from m ((c : Thread nD τ).loc main_arg0)) i)) ∧ (∀ i, Grad.IsR ((show Cert.FfnInIdeal.S4096x2816.Idx → EReal from m ((c : Thread nD τ).loc main_arg1)) i)) ∧ (∀ i, Grad.IsR ((show Cert.FfnInIdeal.S4096x1024.Idx → EReal from m ((c : Thread nD τ).loc main_arg2)) i)) ∧ (∀ i, Grad.IsR ((show Cert.FfnInIdeal.S1x1024.Idx → EReal from m ((c : Thread nD τ).loc main_arg3)) i)) ∧ (∀ i, Grad.IsR ((show Cert.FfnInIdeal.S1024x2816.Idx → EReal from m ((c : Thread nD τ).loc main_arg5)) i)) ∧ (∀ i, Grad.IsR ((show Cert.FfnInIdeal.S1024x2816.Idx → EReal from m ((c : Thread nD τ).loc main_arg6)) i))) :
    G6 m c = Cert.FfnInRefIdeal.Read.val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  funext i
  idx_vars i
  refine Eq.trans ?_ (Cert.FfnInRefIdeal.Read.dx_apply (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) i0 i1).symm
  refine congrArg (rA m c i0 i1 + ·) ?_
  refine (Grad.normDx1024_eq (fun k => hf.2.2.1 _) (fun k => dn_real m c hf i0 k) (fun k => hf.2.2.2.1 _) i1).trans ?_
  rw [funext (dn_eq m c i0)]
  rfl

end Cert.FfnInMeet

end
-- ==== Proof.InProjKernel.lean ====
/- The kernel of the combined projection's input gradient, read at an index: the block it writes at each grid point and the gain's
   accumulated gradient, in terms of the arguments. -/
module

public import proofs.«01_k».proof.Proof.NormWide
public import proofs.«01_k».proof.Proof.Gen.InProjIdeal.Value
public import Idealize.ShloMosaic.Lib.Pipeline.ValueKit
public import Idealize.ShloMosaic.Lib.StableHlo.ReadAt
public import Idealize.ShloMosaic.Lib.Pointwise

@[expose] public section

set_option maxRecDepth 16384

noncomputable section

namespace Cert.InProjIdeal.Value

open Cert.InProjIdeal Cert.InProjIdeal.Gen Idealize.ShloMosaic Idealize.ShloMosaic.TcCoe Idealize.SL.Sem

theorem pay5_apply (v0 : Vec Ideal S1x256x512 .bf16) (v2 : Vec Ideal S1x1024x512 .bf16) (v5 : Vec Ideal S1x256x512 .bf16) (v7 : Vec Ideal S1x1024x512 .bf16) (v11 : Vec Ideal S1x256x512 .bf16) (v13 : Vec Ideal S1x1024x512 .bf16) (v17 : Vec Ideal S1x256x512 .bf16) (v19 : Vec Ideal S1x1024x512 .bf16) (p : Fin 256) (q : Fin 1024) :
    k0_pay5 (F := Ideal) v0 v2 v5 v7 v11 v13 v17 v19 (ix2 p q) = (∑ f : Fin 512, v0 (ix3 0 p f) * v2 (ix3 0 q f)) + (∑ f : Fin 512, v5 (ix3 0 p f) * v7 (ix3 0 q f)) + (∑ f : Fin 512, v11 (ix3 0 p f) * v13 (ix3 0 q f)) + (∑ f : Fin 512, v17 (ix3 0 p f) * v19 (ix3 0 q f)) := by
  pointwise [k0_pay5]

theorem pay7_apply (v22 : FVec Ideal S256x1024 .f32) (v23 : Vec Ideal S1x256x512 .bf16) (v25 : Vec Ideal S1x1024x512 .bf16) (v29 : Vec Ideal S1x256x512 .bf16) (v31 : Vec Ideal S1x1024x512 .bf16) (v35 : Vec Ideal S1x256x512 .bf16) (v37 : Vec Ideal S1x1024x512 .bf16) (v41 : Vec Ideal S1x256x512 .bf16) (v43 : Vec Ideal S1x1024x512 .bf16) (v47 : Vec Ideal S1x256x512 .bf16) (v49 : Vec Ideal S1x1024x512 .bf16) (p : Fin 256) (q : Fin 1024) :
    k0_pay7 (F := Ideal) v22 (k0_pay6 v23) v25 v29 v31 v35 v37 v41 v43 v47 v49 (ix2 p q) = v22 (ix2 p q) + (∑ f : Fin 512, v23 (ix3 0 p f) * v25 (ix3 0 q f)) + (∑ f : Fin 512, v29 (ix3 0 p f) * v31 (ix3 0 q f)) + (∑ f : Fin 512, v35 (ix3 0 p f) * v37 (ix3 0 q f)) + (∑ f : Fin 512, v41 (ix3 0 p f) * v43 (ix3 0 q f)) + (∑ f : Fin 512, v47 (ix3 0 p f) * v49 (ix3 0 q f)) := by
  pointwise [k0_pay7, k0_pay6]

theorem pay8_apply (v52 : FVec Ideal S256x1024 .f32) (v53 : Vec Ideal S256x512 .bf16) (v55 : Vec Ideal S1x1024x512 .bf16) (v59 : Vec Ideal S256x512 .bf16) (v61 : Vec Ideal S1x1024x512 .bf16) (v65 : Vec Ideal S256x512 .bf16) (v67 : Vec Ideal S1x1024x512 .bf16) (v71 : Vec Ideal S1x256x512 .bf16) (v73 : Vec Ideal S1x1024x512 .bf16) (v77 : Vec Ideal S1x256x512 .bf16) (v79 : Vec Ideal S1x1024x512 .bf16) (p : Fin 256) (q : Fin 1024) :
    k0_pay8 (F := Ideal) v52 v53 v55 v59 v61 v65 v67 v71 v73 v77 v79 (ix2 p q) = v52 (ix2 p q) + (∑ f : Fin 512, v53 (ix2 p f) * v55 (ix3 0 q f)) + (∑ f : Fin 512, v59 (ix2 p f) * v61 (ix3 0 q f)) + (∑ f : Fin 512, v65 (ix2 p f) * v67 (ix3 0 q f)) + (∑ f : Fin 512, v71 (ix3 0 p f) * v73 (ix3 0 q f)) + (∑ f : Fin 512, v77 (ix3 0 p f) * v79 (ix3 0 q f)) := by
  pointwise [k0_pay8]

theorem pay9_apply (v82 : FVec Ideal S256x1024 .f32) (v83 : Vec Ideal S1x256x512 .bf16) (v85 : Vec Ideal S1x1024x512 .bf16) (v89 : Vec Ideal S1x256x512 .bf16) (v91 : Vec Ideal S1x1024x512 .bf16) (p : Fin 256) (q : Fin 1024) :
    k0_pay9 (F := Ideal) v82 v83 v85 v89 v91 (ix2 p q) = v82 (ix2 p q) + (∑ f : Fin 512, v83 (ix3 0 p f) * v85 (ix3 0 q f)) + (∑ f : Fin 512, v89 (ix3 0 p f) * v91 (ix3 0 q f)) := by
  pointwise [k0_pay9]

theorem pay1_apply (v82 : FVec Ideal S256x1024 .f32) (v83 : Vec Ideal S1x256x512 .bf16) (v85 : Vec Ideal S1x1024x512 .bf16) (v89 : Vec Ideal S1x256x512 .bf16) (v91 : Vec Ideal S1x1024x512 .bf16) (v95 v120 : Vec Ideal S256x1024 .f32) (v96 : Vec Ideal S1x1024 .f32) (p : Fin 256) (q : Fin 1024) :
    k0_pay1 (F := Ideal) (k0_pay12 v82 v83 v85 v89 v91 v95 v96) v120 (ix2 p q)
      = v120 (ix2 p q) + Grad.normDx Grad.W1024 Grad.WEps (fun k => v95 (ix2 p k)) (fun k => k0_pay9 (F := Ideal) v82 v83 v85 v89 v91 (ix2 p k)) (fun k => v96 (ix2 0 k)) q := by
  unfold k0_pay12
  generalize k0_pay9 (F := Ideal) v82 v83 v85 v89 v91 = D
  pointwise [k0_pay1, k0_pay10, k0_pay11]
  rfl

theorem pay2_eq (X Y : FVec Ideal S256x1024 .f32) : k0_pay2 (F := Ideal) X Y = k0_pay1 (F := Ideal) X Y := by
  unfold k0_pay2
  rfl

theorem pay3_apply (v82 : FVec Ideal S256x1024 .f32) (v83 : Vec Ideal S1x256x512 .bf16) (v85 : Vec Ideal S1x1024x512 .bf16) (v89 : Vec Ideal S1x256x512 .bf16) (v91 : Vec Ideal S1x1024x512 .bf16) (v95 : Vec Ideal S256x1024 .f32) (q : Fin 1024) :
    k0_pay3 (F := Ideal) (k0_pay13 v82 v83 v85 v89 v91 v95) (ix2 0 q)
      = ∑ p : Fin 256, k0_pay9 (F := Ideal) v82 v83 v85 v89 v91 (ix2 p q) * (v95 (ix2 p q) * Grad.rinv Grad.W1024 Grad.WEps (fun k => v95 (ix2 p k))) := by
  unfold k0_pay13
  generalize k0_pay9 (F := Ideal) v82 v83 v85 v89 v91 = D
  pointwise [k0_pay3, k0_pay10, k0_pay11]
  rfl

theorem pay4_apply (D : FVec Ideal S256x1024 .f32) (w : Vec Ideal S1x1024 .f32) (q : Fin 1024) :
    k0_pay4 (F := Ideal) D w (ix2 0 q) = w (ix2 0 q) + k0_pay3 (F := Ideal) D (ix2 0 q) := by
  unfold k0_pay4
  generalize k0_pay3 (F := Ideal) D = X
  pointwise

/-! ## The arrays -/

variable (m : (ℓ : Loc nD τ sig) → Buf (Elt Ideal) ℓ) (c : Dev nD)

/-- The arguments, at their coordinates. -/
abbrev dA (s : Fin 4096) (f : Fin 8192) : EReal := (show S4096x8192.Idx → EReal from m ((c : Thread nD τ).loc main_arg0)) (ix2 s f)
abbrev xA (s : Fin 4096) (k : Fin 1024) : EReal := (show S4096x1024.Idx → EReal from m ((c : Thread nD τ).loc main_arg1)) (ix2 s k)
abbrev gA (k : Fin 1024) : EReal := (show S1x1024.Idx → EReal from m ((c : Thread nD τ).loc main_arg2)) (ix2 0 k)
abbrev rA (s : Fin 4096) (k : Fin 1024) : EReal := (show S4096x1024.Idx → EReal from m ((c : Thread nD τ).loc main_arg3)) (ix2 s k)
abbrev wA (k : Fin 1024) (f : Fin 8192) : EReal := (show S1024x8192.Idx → EReal from m ((c : Thread nD τ).loc main_arg4)) (ix2 k f)

/-! The pieces of the projection's gradient, and the weight by the devices that hold it. -/

theorem host0 (s : Fin 4096) (f : Fin 512) : (show S3x4096x512.Idx → EReal from V m c main_v6) (ix3 0 s f) = dA m c s ⟨0 + f.val, by omega⟩ := by
  unfold V
  after_reads_at
  after_reads_at

theorem host3 (s : Fin 4096) (f : Fin 512) : (show S3x4096x512.Idx → EReal from V m c main_v6) (ix3 1 s f) = dA m c s ⟨1536 + f.val, by omega⟩ := by
  unfold V
  after_reads_at
  after_reads_at

theorem host6 (s : Fin 4096) (f : Fin 512) : (show S3x4096x512.Idx → EReal from V m c main_v6) (ix3 2 s f) = dA m c s ⟨3072 + f.val, by omega⟩ := by
  unfold V
  after_reads_at
  after_reads_at

theorem host1 (s : Fin 4096) (f : Fin 512) : (show S3x4096x512.Idx → EReal from V m c main_v13) (ix3 0 s f) = dA m c s ⟨512 + f.val, by omega⟩ := by
  unfold V
  after_reads_at
  after_reads_at

theorem host4 (s : Fin 4096) (f : Fin 512) : (show S3x4096x512.Idx → EReal from V m c main_v13) (ix3 1 s f) = dA m c s ⟨2048 + f.val, by omega⟩ := by
  unfold V
  after_reads_at
  after_reads_at

theorem host7 (s : Fin 4096) (f : Fin 512) : (show S3x4096x512.Idx → EReal from V m c main_v13) (ix3 2 s f) = dA m c s ⟨3584 + f.val, by omega⟩ := by
  unfold V
  after_reads_at
  after_reads_at

theorem host2 (s : Fin 4096) (f : Fin 512) : (show S3x4096x512.Idx → EReal from V m c main_v20) (ix3 0 s f) = dA m c s ⟨1024 + f.val, by omega⟩ := by
  unfold V
  after_reads_at
  after_reads_at

theorem host5 (s : Fin 4096) (f : Fin 512) : (show S3x4096x512.Idx → EReal from V m c main_v20) (ix3 1 s f) = dA m c s ⟨2560 + f.val, by omega⟩ := by
  unfold V
  after_reads_at
  after_reads_at

theorem host8 (s : Fin 4096) (f : Fin 512) : (show S3x4096x512.Idx → EReal from V m c main_v20) (ix3 2 s f) = dA m c s ⟨4096 + f.val, by omega⟩ := by
  unfold V
  after_reads_at
  after_reads_at

theorem hostK (s : Fin 4096) (f : Fin 1024) : (show S4096x1024.Idx → EReal from V m c main_v26) (ix2 s f) = dA m c s ⟨4608 + f.val, by omega⟩ := by
  unfold V
  after_reads_at

theorem hostV (s : Fin 4096) (f : Fin 512) : (show S4096x512.Idx → EReal from V m c main_v27) (ix2 s f) = dA m c s ⟨5632 + f.val, by omega⟩ := by
  unfold V
  after_reads_at

theorem hostG0 (s : Fin 4096) (f : Fin 1024) : (show S2x4096x1024.Idx → EReal from V m c main_v25) (ix3 0 s f) = dA m c s ⟨6144 + f.val, by omega⟩ := by
  unfold V
  after_reads_at

theorem hostG1 (s : Fin 4096) (f : Fin 1024) : (show S2x4096x1024.Idx → EReal from V m c main_v25) (ix3 1 s f) = dA m c s ⟨7168 + f.val, by omega⟩ := by
  unfold V
  after_reads_at

theorem hostW (d : Fin 8) (k : Fin 1024) (j : Fin 1024) (h : d.val * 1024 + j.val < 8192) : (show S8x1024x1024.Idx → EReal from V m c main_v30) (ix3 d k j) = wA m c k ⟨d.val * 1024 + j.val, h⟩ := by
  unfold V
  after_reads_at

theorem idxs : ∀ t : Fin grid0.N, win0_0.index t = ![0, t.val, 0] ∧ win0_1.index t = ![0, t.val, 0] ∧ win0_2.index t = ![0, t.val, 0] ∧ win0_3.index t = ![t.val, 0] ∧ win0_4.index t = ![t.val, 0] ∧ win0_5.index t = ![0, t.val, 0] ∧ win0_6.index t = ![0, 0, 0] ∧ win0_7.index t = ![t.val, 0] ∧ win0_8.index t = ![t.val, 0] ∧ win0_9.index t = ![0, 0] := by decide +kernel

/-- The array row of a block's row. -/
def rowOf (t : Fin cfg0.N) (p : Fin 256) : Fin 4096 := ⟨t.val * 256 + p.val, by have := t.isLt; have hN : cfg0.N = 16 := N_0; omega⟩

theorem blk0_0 (t : Fin cfg0.N) (p : Fin 256) (f : Fin 512) : (show S3x256x512.Idx → EReal from iblk m c 0 t) (ix3 0 p f) = dA m c (rowOf t p) ⟨0 + f.val, by omega⟩ := by
  rw [← host0]
  unfold rowOf
  blk_ext [iblk, idxs t]

theorem blk0_1 (t : Fin cfg0.N) (p : Fin 256) (f : Fin 512) : (show S3x256x512.Idx → EReal from iblk m c 0 t) (ix3 1 p f) = dA m c (rowOf t p) ⟨1536 + f.val, by omega⟩ := by
  rw [← host3]
  unfold rowOf
  blk_ext [iblk, idxs t]

theorem blk0_2 (t : Fin cfg0.N) (p : Fin 256) (f : Fin 512) : (show S3x256x512.Idx → EReal from iblk m c 0 t) (ix3 2 p f) = dA m c (rowOf t p) ⟨3072 + f.val, by omega⟩ := by
  rw [← host6]
  unfold rowOf
  blk_ext [iblk, idxs t]

theorem blk1_0 (t : Fin cfg0.N) (p : Fin 256) (f : Fin 512) : (show S3x256x512.Idx → EReal from iblk m c 1 t) (ix3 0 p f) = dA m c (rowOf t p) ⟨512 + f.val, by omega⟩ := by
  rw [← host1]
  unfold rowOf
  blk_ext [iblk, idxs t]

theorem blk1_1 (t : Fin cfg0.N) (p : Fin 256) (f : Fin 512) : (show S3x256x512.Idx → EReal from iblk m c 1 t) (ix3 1 p f) = dA m c (rowOf t p) ⟨2048 + f.val, by omega⟩ := by
  rw [← host4]
  unfold rowOf
  blk_ext [iblk, idxs t]

theorem blk1_2 (t : Fin cfg0.N) (p : Fin 256) (f : Fin 512) : (show S3x256x512.Idx → EReal from iblk m c 1 t) (ix3 2 p f) = dA m c (rowOf t p) ⟨3584 + f.val, by omega⟩ := by
  rw [← host7]
  unfold rowOf
  blk_ext [iblk, idxs t]

theorem blk2_0 (t : Fin cfg0.N) (p : Fin 256) (f : Fin 512) : (show S3x256x512.Idx → EReal from iblk m c 2 t) (ix3 0 p f) = dA m c (rowOf t p) ⟨1024 + f.val, by omega⟩ := by
  rw [← host2]
  unfold rowOf
  blk_ext [iblk, idxs t]

theorem blk2_1 (t : Fin cfg0.N) (p : Fin 256) (f : Fin 512) : (show S3x256x512.Idx → EReal from iblk m c 2 t) (ix3 1 p f) = dA m c (rowOf t p) ⟨2560 + f.val, by omega⟩ := by
  rw [← host5]
  unfold rowOf
  blk_ext [iblk, idxs t]

theorem blk2_2 (t : Fin cfg0.N) (p : Fin 256) (f : Fin 512) : (show S3x256x512.Idx → EReal from iblk m c 2 t) (ix3 2 p f) = dA m c (rowOf t p) ⟨4096 + f.val, by omega⟩ := by
  rw [← host8]
  unfold rowOf
  blk_ext [iblk, idxs t]

theorem blk3 (t : Fin cfg0.N) (p : Fin 256) (f : Fin 1024) : (show S256x1024.Idx → EReal from iblk m c 3 t) (ix2 p f) = dA m c (rowOf t p) ⟨4608 + f.val, by omega⟩ := by
  rw [← hostK]
  unfold rowOf
  blk_ext [iblk, idxs t]

theorem blk4 (t : Fin cfg0.N) (p : Fin 256) (f : Fin 512) : (show S256x512.Idx → EReal from iblk m c 4 t) (ix2 p f) = dA m c (rowOf t p) ⟨5632 + f.val, by omega⟩ := by
  rw [← hostV]
  unfold rowOf
  blk_ext [iblk, idxs t]

theorem blk5_0 (t : Fin cfg0.N) (p : Fin 256) (f : Fin 1024) : (show S2x256x1024.Idx → EReal from iblk m c 5 t) (ix3 0 p f) = dA m c (rowOf t p) ⟨6144 + f.val, by omega⟩ := by
  rw [← hostG0]
  unfold rowOf
  blk_ext [iblk, idxs t]

theorem blk5_1 (t : Fin cfg0.N) (p : Fin 256) (f : Fin 1024) : (show S2x256x1024.Idx → EReal from iblk m c 5 t) (ix3 1 p f) = dA m c (rowOf t p) ⟨7168 + f.val, by omega⟩ := by
  rw [← hostG1]
  unfold rowOf
  blk_ext [iblk, idxs t]

theorem blk6 (t : Fin cfg0.N) (d : Fin 8) (k j : Fin 1024) (h : d.val * 1024 + j.val < 8192) : (show S8x1024x1024.Idx → EReal from iblk m c 6 t) (ix3 d k j) = wA m c k ⟨d.val * 1024 + j.val, h⟩ := by
  rw [← hostW]
  blk_ext [iblk, idxs t]

theorem blk7 (t : Fin cfg0.N) (p : Fin 256) (k : Fin 1024) : (show S256x1024.Idx → EReal from iblk m c 7 t) (ix2 p k) = xA m c (rowOf t p) k := by
  unfold rowOf
  blk_ext [iblk, V_main_arg1, idxs t]

theorem blk8 (t : Fin cfg0.N) (p : Fin 256) (k : Fin 1024) : (show S256x1024.Idx → EReal from iblk m c 8 t) (ix2 p k) = rA m c (rowOf t p) k := by
  unfold rowOf
  blk_ext [iblk, V_main_arg3, idxs t]

theorem blk9 (t : Fin cfg0.N) (k : Fin 1024) : (show S1x1024.Idx → EReal from iblk m c 9 t) (ix2 0 k) = gA m c k := by
  blk_ext [iblk, V_main_arg2, idxs t]

/-! The parts of its buffers that the body loads. -/

theorem ldQ {e : EltTy} (X : S3x256x512.Idx → Elt Ideal e) (h : Fin 3) (i) (p : Fin 256) (f : Fin 512) :
    View.ld X (Rect.unit ![h.val, 0, 0] ![1, 256, 512] i) (ix3 0 p f) = X (ix3 h p f) := by
  refine congrArg X (funext fun a => Fin.ext ?_)
  match a with
  | ⟨0, _⟩ => rfl
  | ⟨1, _⟩ => show 0 + 1 * p.val = p.val; omega
  | ⟨2, _⟩ => show 0 + 1 * f.val = f.val; omega

theorem ldG {e : EltTy} (X : S2x256x1024.Idx → Elt Ideal e) (h : Fin 2) (o : ℕ) (ho : o ≤ 512) (i) (p : Fin 256) (f : Fin 512) :
    View.ld X (Rect.unit ![h.val, 0, o] ![1, 256, 512] i) (ix3 0 p f) = X (ix3 h p ⟨o + f.val, by omega⟩) := by
  refine congrArg X (funext fun a => Fin.ext ?_)
  match a with
  | ⟨0, _⟩ => rfl
  | ⟨1, _⟩ => show 0 + 1 * p.val = p.val; omega
  | ⟨2, _⟩ => show o + 1 * f.val = o + f.val; omega

theorem ldK {e : EltTy} (X : S256x1024.Idx → Elt Ideal e) (o : ℕ) (ho : o ≤ 512) (i) (p : Fin 256) (f : Fin 512) :
    View.ld X (Rect.unit ![0, o] ![256, 512] i) (ix2 p f) = X (ix2 p ⟨o + f.val, by omega⟩) := by
  refine congrArg X (funext fun a => Fin.ext ?_)
  match a with
  | ⟨0, _⟩ => show 0 + 1 * p.val = p.val; omega
  | ⟨1, _⟩ => show o + 1 * f.val = o + f.val; omega

theorem ldW {e : EltTy} (X : S8x1024x1024.Idx → Elt Ideal e) (d : Fin 8) (o : ℕ) (ho : o ≤ 512) (i) (k : Fin 1024) (f : Fin 512) :
    View.ld X (Rect.unit ![d.val, 0, o] ![1, 1024, 512] i) (ix3 0 k f) = X (ix3 d k ⟨o + f.val, by omega⟩) := by
  refine congrArg X (funext fun a => Fin.ext ?_)
  match a with
  | ⟨0, _⟩ => rfl
  | ⟨1, _⟩ => show 0 + 1 * k.val = k.val; omega
  | ⟨2, _⟩ => show o + 1 * f.val = o + f.val; omega

/-- What the product passes back to the norm, and the part of it that one piece of 512 columns gives. -/
def dnAt (s : Fin 4096) (k : Fin 1024) : EReal := ∑ f : Fin 8192, dA m c s f * wA m c k f
def part (s : Fin 4096) (k : Fin 1024) (T : Fin 16) : EReal := ∑ f : Fin 512, dA m c s ⟨T.val * 512 + f.val, by omega⟩ * wA m c k ⟨T.val * 512 + f.val, by omega⟩

/-- Sixteen terms in the order in which the body adds them. -/
theorem order (h : Fin 16 → EReal) : h 0 + h 3 + h 6 + h 1 + h 4 + h 7 + h 2 + h 5 + h 8 + h 9 + h 10 + h 11 + h 12 + h 13 + h 14 + h 15 = ∑ T, h T := by
  simp only [Fin.sum_univ_castSucc, Fin.sum_univ_zero, zero_add]
  change _ = h 0 + h 1 + h 2 + h 3 + h 4 + h 5 + h 6 + h 7 + h 8 + h 9 + h 10 + h 11 + h 12 + h 13 + h 14 + h 15
  ac_rfl

theorem parts (s : Fin 4096) (k : Fin 1024) : ∑ T, part m c s k T = dnAt m c s k :=
  Grad.sum_blocks (n := 16) (b := 512) (N := 8192) rfl fun f => dA m c s f * wA m c k f

/-- The loads of one grid point. -/
abbrev pc0 (t : Fin cfg0.N) : Vec Ideal S1x256x512 .bf16 := (View.ld (iblk m c 0 t) (Rect.unit ![0, 0, 0] ![1, 256, 512] inb_S3x256x512_S1x256x512_0_0_0))
abbrev wt0 (t : Fin cfg0.N) : Vec Ideal S1x1024x512 .bf16 := View.ld (iblk m c 6 t) (Rect.unit ![0, 0, 0] ![1, 1024, 512] inb_S8x1024x1024_S1x1024x512_0_0_0)
abbrev pc3 (t : Fin cfg0.N) : Vec Ideal S1x256x512 .bf16 := (View.ld (iblk m c 0 t) (Rect.unit ![1, 0, 0] ![1, 256, 512] inb_S3x256x512_S1x256x512_1_0_0))
abbrev wt3 (t : Fin cfg0.N) : Vec Ideal S1x1024x512 .bf16 := View.ld (iblk m c 6 t) (Rect.unit ![1, 0, 512] ![1, 1024, 512] inb_S8x1024x1024_S1x1024x512_1_0_512)
abbrev pc6 (t : Fin cfg0.N) : Vec Ideal S1x256x512 .bf16 := (View.ld (iblk m c 0 t) (Rect.unit ![2, 0, 0] ![1, 256, 512] inb_S3x256x512_S1x256x512_2_0_0))
abbrev wt6 (t : Fin cfg0.N) : Vec Ideal S1x1024x512 .bf16 := View.ld (iblk m c 6 t) (Rect.unit ![3, 0, 0] ![1, 1024, 512] inb_S8x1024x1024_S1x1024x512_3_0_0)
abbrev pc1 (t : Fin cfg0.N) : Vec Ideal S1x256x512 .bf16 := (View.ld (iblk m c 1 t) (Rect.unit ![0, 0, 0] ![1, 256, 512] inb_S3x256x512_S1x256x512_0_0_0))
abbrev wt1 (t : Fin cfg0.N) : Vec Ideal S1x1024x512 .bf16 := View.ld (iblk m c 6 t) (Rect.unit ![0, 0, 512] ![1, 1024, 512] inb_S8x1024x1024_S1x1024x512_0_0_512)
abbrev pc4 (t : Fin cfg0.N) : Vec Ideal S1x256x512 .bf16 := (View.ld (iblk m c 1 t) (Rect.unit ![1, 0, 0] ![1, 256, 512] inb_S3x256x512_S1x256x512_1_0_0))
abbrev wt4 (t : Fin cfg0.N) : Vec Ideal S1x1024x512 .bf16 := View.ld (iblk m c 6 t) (Rect.unit ![2, 0, 0] ![1, 1024, 512] inb_S8x1024x1024_S1x1024x512_2_0_0)
abbrev pc7 (t : Fin cfg0.N) : Vec Ideal S1x256x512 .bf16 := (View.ld (iblk m c 1 t) (Rect.unit ![2, 0, 0] ![1, 256, 512] inb_S3x256x512_S1x256x512_2_0_0))
abbrev wt7 (t : Fin cfg0.N) : Vec Ideal S1x1024x512 .bf16 := View.ld (iblk m c 6 t) (Rect.unit ![3, 0, 512] ![1, 1024, 512] inb_S8x1024x1024_S1x1024x512_3_0_512)
abbrev pc2 (t : Fin cfg0.N) : Vec Ideal S1x256x512 .bf16 := (View.ld (iblk m c 2 t) (Rect.unit ![0, 0, 0] ![1, 256, 512] inb_S3x256x512_S1x256x512_0_0_0))
abbrev wt2 (t : Fin cfg0.N) : Vec Ideal S1x1024x512 .bf16 := View.ld (iblk m c 6 t) (Rect.unit ![1, 0, 0] ![1, 1024, 512] inb_S8x1024x1024_S1x1024x512_1_0_0)
abbrev pc5 (t : Fin cfg0.N) : Vec Ideal S1x256x512 .bf16 := (View.ld (iblk m c 2 t) (Rect.unit ![1, 0, 0] ![1, 256, 512] inb_S3x256x512_S1x256x512_1_0_0))
abbrev wt5 (t : Fin cfg0.N) : Vec Ideal S1x1024x512 .bf16 := View.ld (iblk m c 6 t) (Rect.unit ![2, 0, 512] ![1, 1024, 512] inb_S8x1024x1024_S1x1024x512_2_0_512)
abbrev pc8 (t : Fin cfg0.N) : Vec Ideal S1x256x512 .bf16 := (View.ld (iblk m c 2 t) (Rect.unit ![2, 0, 0] ![1, 256, 512] inb_S3x256x512_S1x256x512_2_0_0))
abbrev wt8 (t : Fin cfg0.N) : Vec Ideal S1x1024x512 .bf16 := View.ld (iblk m c 6 t) (Rect.unit ![4, 0, 0] ![1, 1024, 512] inb_S8x1024x1024_S1x1024x512_4_0_0)
abbrev pc9 (t : Fin cfg0.N) : Vec Ideal S256x512 .bf16 := (View.ld (iblk m c 3 t) (Rect.unit ![0, 0] ![256, 512] inb_S256x1024_S256x512_0_0))
abbrev wt9 (t : Fin cfg0.N) : Vec Ideal S1x1024x512 .bf16 := View.ld (iblk m c 6 t) (Rect.unit ![4, 0, 512] ![1, 1024, 512] inb_S8x1024x1024_S1x1024x512_4_0_512)
abbrev pc10 (t : Fin cfg0.N) : Vec Ideal S256x512 .bf16 := (View.ld (iblk m c 3 t) (Rect.unit ![0, 512] ![256, 512] inb_S256x1024_S256x512_0_512))
abbrev wt10 (t : Fin cfg0.N) : Vec Ideal S1x1024x512 .bf16 := View.ld (iblk m c 6 t) (Rect.unit ![5, 0, 0] ![1, 1024, 512] inb_S8x1024x1024_S1x1024x512_5_0_0)
abbrev pc11 (t : Fin cfg0.N) : Vec Ideal S256x512 .bf16 := (iblk m c 4 t)
abbrev wt11 (t : Fin cfg0.N) : Vec Ideal S1x1024x512 .bf16 := View.ld (iblk m c 6 t) (Rect.unit ![5, 0, 512] ![1, 1024, 512] inb_S8x1024x1024_S1x1024x512_5_0_512)
abbrev pc12 (t : Fin cfg0.N) : Vec Ideal S1x256x512 .bf16 := (View.ld (iblk m c 5 t) (Rect.unit ![0, 0, 0] ![1, 256, 512] inb_S2x256x1024_S1x256x512_0_0_0))
abbrev wt12 (t : Fin cfg0.N) : Vec Ideal S1x1024x512 .bf16 := View.ld (iblk m c 6 t) (Rect.unit ![6, 0, 0] ![1, 1024, 512] inb_S8x1024x1024_S1x1024x512_6_0_0)
abbrev pc13 (t : Fin cfg0.N) : Vec Ideal S1x256x512 .bf16 := (View.ld (iblk m c 5 t) (Rect.unit ![0, 0, 512] ![1, 256, 512] inb_S2x256x1024_S1x256x512_0_0_512))
abbrev wt13 (t : Fin cfg0.N) : Vec Ideal S1x1024x512 .bf16 := View.ld (iblk m c 6 t) (Rect.unit ![6, 0, 512] ![1, 1024, 512] inb_S8x1024x1024_S1x1024x512_6_0_512)
abbrev pc14 (t : Fin cfg0.N) : Vec Ideal S1x256x512 .bf16 := (View.ld (iblk m c 5 t) (Rect.unit ![1, 0, 0] ![1, 256, 512] inb_S2x256x1024_S1x256x512_1_0_0))
abbrev wt14 (t : Fin cfg0.N) : Vec Ideal S1x1024x512 .bf16 := View.ld (iblk m c 6 t) (Rect.unit ![7, 0, 0] ![1, 1024, 512] inb_S8x1024x1024_S1x1024x512_7_0_0)
abbrev pc15 (t : Fin cfg0.N) : Vec Ideal S1x256x512 .bf16 := (View.ld (iblk m c 5 t) (Rect.unit ![1, 0, 512] ![1, 256, 512] inb_S2x256x1024_S1x256x512_1_0_512))
abbrev wt15 (t : Fin cfg0.N) : Vec Ideal S1x1024x512 .bf16 := View.ld (iblk m c 6 t) (Rect.unit ![7, 0, 512] ![1, 1024, 512] inb_S8x1024x1024_S1x1024x512_7_0_512)

theorem part0 (t : Fin cfg0.N) (p : Fin 256) (k : Fin 1024) : (∑ f : Fin 512, pc0 m c t (ix3 0 p f) * wt0 m c t (ix3 0 k f)) = part m c (rowOf t p) k 0 := by
  refine Finset.sum_congr rfl fun f _ => congrArg₂ (· * ·) ?_ ?_
  · exact ((ldQ _ 0 _ p f).trans (blk0_0 m c t p f)).trans (congrArg (dA m c (rowOf t p)) (Fin.ext (by show _ = 0 * 512 + f.val; first | rfl | (simp only []; omega))))
  · exact ((ldW _ 0 0 (by omega) _ k f).trans (blk6 m c t 0 k _ (by show 0 * 1024 + (0 + f.val) < 8192; omega))).trans
      (congrArg (wA m c k) (Fin.ext (by show 0 * 1024 + (0 + f.val) = 0 * 512 + f.val; omega)))

theorem part3 (t : Fin cfg0.N) (p : Fin 256) (k : Fin 1024) : (∑ f : Fin 512, pc3 m c t (ix3 0 p f) * wt3 m c t (ix3 0 k f)) = part m c (rowOf t p) k 3 := by
  refine Finset.sum_congr rfl fun f _ => congrArg₂ (· * ·) ?_ ?_
  · exact ((ldQ _ 1 _ p f).trans (blk0_1 m c t p f)).trans (congrArg (dA m c (rowOf t p)) (Fin.ext (by show _ = 3 * 512 + f.val; first | rfl | (simp only []; omega))))
  · exact ((ldW _ 1 512 (by omega) _ k f).trans (blk6 m c t 1 k _ (by show 1 * 1024 + (512 + f.val) < 8192; omega))).trans
      (congrArg (wA m c k) (Fin.ext (by show 1 * 1024 + (512 + f.val) = 3 * 512 + f.val; omega)))

theorem part6 (t : Fin cfg0.N) (p : Fin 256) (k : Fin 1024) : (∑ f : Fin 512, pc6 m c t (ix3 0 p f) * wt6 m c t (ix3 0 k f)) = part m c (rowOf t p) k 6 := by
  refine Finset.sum_congr rfl fun f _ => congrArg₂ (· * ·) ?_ ?_
  · exact ((ldQ _ 2 _ p f).trans (blk0_2 m c t p f)).trans (congrArg (dA m c (rowOf t p)) (Fin.ext (by show _ = 6 * 512 + f.val; first | rfl | (simp only []; omega))))
  · exact ((ldW _ 3 0 (by omega) _ k f).trans (blk6 m c t 3 k _ (by show 3 * 1024 + (0 + f.val) < 8192; omega))).trans
      (congrArg (wA m c k) (Fin.ext (by show 3 * 1024 + (0 + f.val) = 6 * 512 + f.val; omega)))

theorem part1 (t : Fin cfg0.N) (p : Fin 256) (k : Fin 1024) : (∑ f : Fin 512, pc1 m c t (ix3 0 p f) * wt1 m c t (ix3 0 k f)) = part m c (rowOf t p) k 1 := by
  refine Finset.sum_congr rfl fun f _ => congrArg₂ (· * ·) ?_ ?_
  · exact ((ldQ _ 0 _ p f).trans (blk1_0 m c t p f)).trans (congrArg (dA m c (rowOf t p)) (Fin.ext (by show _ = 1 * 512 + f.val; first | rfl | (simp only []; omega))))
  · exact ((ldW _ 0 512 (by omega) _ k f).trans (blk6 m c t 0 k _ (by show 0 * 1024 + (512 + f.val) < 8192; omega))).trans
      (congrArg (wA m c k) (Fin.ext (by show 0 * 1024 + (512 + f.val) = 1 * 512 + f.val; omega)))

theorem part4 (t : Fin cfg0.N) (p : Fin 256) (k : Fin 1024) : (∑ f : Fin 512, pc4 m c t (ix3 0 p f) * wt4 m c t (ix3 0 k f)) = part m c (rowOf t p) k 4 := by
  refine Finset.sum_congr rfl fun f _ => congrArg₂ (· * ·) ?_ ?_
  · exact ((ldQ _ 1 _ p f).trans (blk1_1 m c t p f)).trans (congrArg (dA m c (rowOf t p)) (Fin.ext (by show _ = 4 * 512 + f.val; first | rfl | (simp only []; omega))))
  · exact ((ldW _ 2 0 (by omega) _ k f).trans (blk6 m c t 2 k _ (by show 2 * 1024 + (0 + f.val) < 8192; omega))).trans
      (congrArg (wA m c k) (Fin.ext (by show 2 * 1024 + (0 + f.val) = 4 * 512 + f.val; omega)))

theorem part7 (t : Fin cfg0.N) (p : Fin 256) (k : Fin 1024) : (∑ f : Fin 512, pc7 m c t (ix3 0 p f) * wt7 m c t (ix3 0 k f)) = part m c (rowOf t p) k 7 := by
  refine Finset.sum_congr rfl fun f _ => congrArg₂ (· * ·) ?_ ?_
  · exact ((ldQ _ 2 _ p f).trans (blk1_2 m c t p f)).trans (congrArg (dA m c (rowOf t p)) (Fin.ext (by show _ = 7 * 512 + f.val; first | rfl | (simp only []; omega))))
  · exact ((ldW _ 3 512 (by omega) _ k f).trans (blk6 m c t 3 k _ (by show 3 * 1024 + (512 + f.val) < 8192; omega))).trans
      (congrArg (wA m c k) (Fin.ext (by show 3 * 1024 + (512 + f.val) = 7 * 512 + f.val; omega)))

theorem part2 (t : Fin cfg0.N) (p : Fin 256) (k : Fin 1024) : (∑ f : Fin 512, pc2 m c t (ix3 0 p f) * wt2 m c t (ix3 0 k f)) = part m c (rowOf t p) k 2 := by
  refine Finset.sum_congr rfl fun f _ => congrArg₂ (· * ·) ?_ ?_
  · exact ((ldQ _ 0 _ p f).trans (blk2_0 m c t p f)).trans (congrArg (dA m c (rowOf t p)) (Fin.ext (by show _ = 2 * 512 + f.val; first | rfl | (simp only []; omega))))
  · exact ((ldW _ 1 0 (by omega) _ k f).trans (blk6 m c t 1 k _ (by show 1 * 1024 + (0 + f.val) < 8192; omega))).trans
      (congrArg (wA m c k) (Fin.ext (by show 1 * 1024 + (0 + f.val) = 2 * 512 + f.val; omega)))

theorem part5 (t : Fin cfg0.N) (p : Fin 256) (k : Fin 1024) : (∑ f : Fin 512, pc5 m c t (ix3 0 p f) * wt5 m c t (ix3 0 k f)) = part m c (rowOf t p) k 5 := by
  refine Finset.sum_congr rfl fun f _ => congrArg₂ (· * ·) ?_ ?_
  · exact ((ldQ _ 1 _ p f).trans (blk2_1 m c t p f)).trans (congrArg (dA m c (rowOf t p)) (Fin.ext (by show _ = 5 * 512 + f.val; first | rfl | (simp only []; omega))))
  · exact ((ldW _ 2 512 (by omega) _ k f).trans (blk6 m c t 2 k _ (by show 2 * 1024 + (512 + f.val) < 8192; omega))).trans
      (congrArg (wA m c k) (Fin.ext (by show 2 * 1024 + (512 + f.val) = 5 * 512 + f.val; omega)))

theorem part8 (t : Fin cfg0.N) (p : Fin 256) (k : Fin 1024) : (∑ f : Fin 512, pc8 m c t (ix3 0 p f) * wt8 m c t (ix3 0 k f)) = part m c (rowOf t p) k 8 := by
  refine Finset.sum_congr rfl fun f _ => congrArg₂ (· * ·) ?_ ?_
  · exact ((ldQ _ 2 _ p f).trans (blk2_2 m c t p f)).trans (congrArg (dA m c (rowOf t p)) (Fin.ext (by show _ = 8 * 512 + f.val; first | rfl | (simp only []; omega))))
  · exact ((ldW _ 4 0 (by omega) _ k f).trans (blk6 m c t 4 k _ (by show 4 * 1024 + (0 + f.val) < 8192; omega))).trans
      (congrArg (wA m c k) (Fin.ext (by show 4 * 1024 + (0 + f.val) = 8 * 512 + f.val; omega)))

theorem part9 (t : Fin cfg0.N) (p : Fin 256) (k : Fin 1024) : (∑ f : Fin 512, pc9 m c t (ix2 p f) * wt9 m c t (ix3 0 k f)) = part m c (rowOf t p) k 9 := by
  refine Finset.sum_congr rfl fun f _ => congrArg₂ (· * ·) ?_ ?_
  · exact ((ldK _ 0 (by omega) _ p f).trans (blk3 m c t p _)).trans (congrArg (dA m c (rowOf t p)) (Fin.ext (by show _ = 9 * 512 + f.val; first | rfl | (simp only []; omega))))
  · exact ((ldW _ 4 512 (by omega) _ k f).trans (blk6 m c t 4 k _ (by show 4 * 1024 + (512 + f.val) < 8192; omega))).trans
      (congrArg (wA m c k) (Fin.ext (by show 4 * 1024 + (512 + f.val) = 9 * 512 + f.val; omega)))

theorem part10 (t : Fin cfg0.N) (p : Fin 256) (k : Fin 1024) : (∑ f : Fin 512, pc10 m c t (ix2 p f) * wt10 m c t (ix3 0 k f)) = part m c (rowOf t p) k 10 := by
  refine Finset.sum_congr rfl fun f _ => congrArg₂ (· * ·) ?_ ?_
  · exact ((ldK _ 512 (by omega) _ p f).trans (blk3 m c t p _)).trans (congrArg (dA m c (rowOf t p)) (Fin.ext (by show _ = 10 * 512 + f.val; first | rfl | (simp only []; omega))))
  · exact ((ldW _ 5 0 (by omega) _ k f).trans (blk6 m c t 5 k _ (by show 5 * 1024 + (0 + f.val) < 8192; omega))).trans
      (congrArg (wA m c k) (Fin.ext (by show 5 * 1024 + (0 + f.val) = 10 * 512 + f.val; omega)))

theorem part11 (t : Fin cfg0.N) (p : Fin 256) (k : Fin 1024) : (∑ f : Fin 512, pc11 m c t (ix2 p f) * wt11 m c t (ix3 0 k f)) = part m c (rowOf t p) k 11 := by
  refine Finset.sum_congr rfl fun f _ => congrArg₂ (· * ·) ?_ ?_
  · exact (blk4 m c t p f).trans (congrArg (dA m c (rowOf t p)) (Fin.ext (by show _ = 11 * 512 + f.val; first | rfl | (simp only []; omega))))
  · exact ((ldW _ 5 512 (by omega) _ k f).trans (blk6 m c t 5 k _ (by show 5 * 1024 + (512 + f.val) < 8192; omega))).trans
      (congrArg (wA m c k) (Fin.ext (by show 5 * 1024 + (512 + f.val) = 11 * 512 + f.val; omega)))

theorem part12 (t : Fin cfg0.N) (p : Fin 256) (k : Fin 1024) : (∑ f : Fin 512, pc12 m c t (ix3 0 p f) * wt12 m c t (ix3 0 k f)) = part m c (rowOf t p) k 12 := by
  refine Finset.sum_congr rfl fun f _ => congrArg₂ (· * ·) ?_ ?_
  · exact ((ldG _ 0 0 (by omega) _ p f).trans (blk5_0 m c t p _)).trans (congrArg (dA m c (rowOf t p)) (Fin.ext (by show _ = 12 * 512 + f.val; first | rfl | (simp only []; omega))))
  · exact ((ldW _ 6 0 (by omega) _ k f).trans (blk6 m c t 6 k _ (by show 6 * 1024 + (0 + f.val) < 8192; omega))).trans
      (congrArg (wA m c k) (Fin.ext (by show 6 * 1024 + (0 + f.val) = 12 * 512 + f.val; omega)))

theorem part13 (t : Fin cfg0.N) (p : Fin 256) (k : Fin 1024) : (∑ f : Fin 512, pc13 m c t (ix3 0 p f) * wt13 m c t (ix3 0 k f)) = part m c (rowOf t p) k 13 := by
  refine Finset.sum_congr rfl fun f _ => congrArg₂ (· * ·) ?_ ?_
  · exact ((ldG _ 0 512 (by omega) _ p f).trans (blk5_0 m c t p _)).trans (congrArg (dA m c (rowOf t p)) (Fin.ext (by show _ = 13 * 512 + f.val; first | rfl | (simp only []; omega))))
  · exact ((ldW _ 6 512 (by omega) _ k f).trans (blk6 m c t 6 k _ (by show 6 * 1024 + (512 + f.val) < 8192; omega))).trans
      (congrArg (wA m c k) (Fin.ext (by show 6 * 1024 + (512 + f.val) = 13 * 512 + f.val; omega)))

theorem part14 (t : Fin cfg0.N) (p : Fin 256) (k : Fin 1024) : (∑ f : Fin 512, pc14 m c t (ix3 0 p f) * wt14 m c t (ix3 0 k f)) = part m c (rowOf t p) k 14 := by
  refine Finset.sum_congr rfl fun f _ => congrArg₂ (· * ·) ?_ ?_
  · exact ((ldG _ 1 0 (by omega) _ p f).trans (blk5_1 m c t p _)).trans (congrArg (dA m c (rowOf t p)) (Fin.ext (by show _ = 14 * 512 + f.val; first | rfl | (simp only []; omega))))
  · exact ((ldW _ 7 0 (by omega) _ k f).trans (blk6 m c t 7 k _ (by show 7 * 1024 + (0 + f.val) < 8192; omega))).trans
      (congrArg (wA m c k) (Fin.ext (by show 7 * 1024 + (0 + f.val) = 14 * 512 + f.val; omega)))

theorem part15 (t : Fin cfg0.N) (p : Fin 256) (k : Fin 1024) : (∑ f : Fin 512, pc15 m c t (ix3 0 p f) * wt15 m c t (ix3 0 k f)) = part m c (rowOf t p) k 15 := by
  refine Finset.sum_congr rfl fun f _ => congrArg₂ (· * ·) ?_ ?_
  · exact ((ldG _ 1 512 (by omega) _ p f).trans (blk5_1 m c t p _)).trans (congrArg (dA m c (rowOf t p)) (Fin.ext (by show _ = 15 * 512 + f.val; first | rfl | (simp only []; omega))))
  · exact ((ldW _ 7 512 (by omega) _ k f).trans (blk6 m c t 7 k _ (by show 7 * 1024 + (512 + f.val) < 8192; omega))).trans
      (congrArg (wA m c k) (Fin.ext (by show 7 * 1024 + (512 + f.val) = 15 * 512 + f.val; omega)))

/-- The products of one grid point. -/
abbrev sum5 (t : Fin cfg0.N) : FVec Ideal S256x1024 .f32 := k0_pay5 (F := Ideal) (pc0 m c t) (wt0 m c t) (pc3 m c t) (wt3 m c t) (pc6 m c t) (wt6 m c t) (pc1 m c t) (wt1 m c t)
abbrev sum7 (t : Fin cfg0.N) : FVec Ideal S256x1024 .f32 := k0_pay7 (F := Ideal) (sum5 m c t) (k0_pay6 (pc4 m c t)) (wt4 m c t) (pc7 m c t) (wt7 m c t) (pc2 m c t) (wt2 m c t) (pc5 m c t) (wt5 m c t) (pc8 m c t) (wt8 m c t)
abbrev sum8 (t : Fin cfg0.N) : FVec Ideal S256x1024 .f32 := k0_pay8 (F := Ideal) (sum7 m c t) (pc9 m c t) (wt9 m c t) (pc10 m c t) (wt10 m c t) (pc11 m c t) (wt11 m c t) (pc12 m c t) (wt12 m c t) (pc13 m c t) (wt13 m c t)
abbrev dnBlk (t : Fin cfg0.N) : FVec Ideal S256x1024 .f32 := k0_pay9 (F := Ideal) (sum8 m c t) (pc14 m c t) (wt14 m c t) (pc15 m c t) (wt15 m c t)

theorem sum5_at (t : Fin cfg0.N) (p : Fin 256) (k : Fin 1024) : sum5 m c t (ix2 p k) = part m c (rowOf t p) k 0 + part m c (rowOf t p) k 3 + part m c (rowOf t p) k 6 + part m c (rowOf t p) k 1 := by
  refine (pay5_apply _ _ _ _ _ _ _ _ p k).trans ?_
  rw [part0 m c t p k, part3 m c t p k, part6 m c t p k, part1 m c t p k]

theorem sum7_at (t : Fin cfg0.N) (p : Fin 256) (k : Fin 1024) : sum7 m c t (ix2 p k) = sum5 m c t (ix2 p k) + part m c (rowOf t p) k 4 + part m c (rowOf t p) k 7 + part m c (rowOf t p) k 2 + part m c (rowOf t p) k 5 + part m c (rowOf t p) k 8 := by
  refine (pay7_apply _ _ _ _ _ _ _ _ _ _ _ p k).trans ?_
  rw [part4 m c t p k, part7 m c t p k, part2 m c t p k, part5 m c t p k, part8 m c t p k]

theorem sum8_at (t : Fin cfg0.N) (p : Fin 256) (k : Fin 1024) : sum8 m c t (ix2 p k) = sum7 m c t (ix2 p k) + part m c (rowOf t p) k 9 + part m c (rowOf t p) k 10 + part m c (rowOf t p) k 11 + part m c (rowOf t p) k 12 + part m c (rowOf t p) k 13 := by
  refine (pay8_apply _ _ _ _ _ _ _ _ _ _ _ p k).trans ?_
  rw [part9 m c t p k, part10 m c t p k, part11 m c t p k, part12 m c t p k, part13 m c t p k]

theorem dnBlk_at (t : Fin cfg0.N) (p : Fin 256) (k : Fin 1024) : dnBlk m c t (ix2 p k) = sum8 m c t (ix2 p k) + part m c (rowOf t p) k 14 + part m c (rowOf t p) k 15 := by
  refine (pay9_apply _ _ _ _ _ p k).trans ?_
  rw [part14 m c t p k, part15 m c t p k]

theorem dn_blk (t : Fin cfg0.N) (p : Fin 256) (k : Fin 1024) : dnBlk m c t (ix2 p k) = dnAt m c (rowOf t p) k := by
  rw [dnBlk_at, sum8_at, sum7_at, sum5_at, ← parts]
  exact order (part m c (rowOf t p) k)

/-- The first two results: the gradient of the norm's input with what passes the norm by. -/
def G10 : S4096x1024.Idx → EReal := fun i => rA m c (i 0) (i 1) + Grad.normDx Grad.W1024 Grad.WEps (xA m c (i 0)) (dnAt m c (i 0)) (gA m c) (i 1)

/-- What one row adds to the gain's gradient. -/
def dgAt (s : Fin 4096) (k : Fin 1024) : EReal := dnAt m c s k * (xA m c s k * Grad.rinv Grad.W1024 Grad.WEps (xA m c s))

/-- The last result: the gain's gradient. -/
def G12 : S1x1024.Idx → EReal := fun i => 0 + ∑ t : Fin cfg0.N, ∑ p : Fin 256, dgAt m c (rowOf t p) (i 1)

theorem dx_blk (t : Fin cfg0.N) (p : Fin 256) (q : Fin 1024) :
    (show S256x1024.Idx → EReal from iblk m c 8 t) (ix2 p q) + Grad.normDx Grad.W1024 Grad.WEps (fun k => (show S256x1024.Idx → EReal from iblk m c 7 t) (ix2 p k)) (fun k => dnBlk m c t (ix2 p k))
      (fun k => (show S1x1024.Idx → EReal from iblk m c 9 t) (ix2 0 k)) q = G10 m c (ix2 (rowOf t p) q) := by
  rw [funext (dn_blk m c t p), funext (blk7 m c t p), funext (blk9 m c t), blk8]
  rfl

theorem dg_blk (t : Fin cfg0.N) (q : Fin 1024) :
    (∑ p : Fin 256, dnBlk m c t (ix2 p q) * ((show S256x1024.Idx → EReal from iblk m c 7 t) (ix2 p q) * Grad.rinv Grad.W1024 Grad.WEps (fun k => (show S256x1024.Idx → EReal from iblk m c 7 t) (ix2 p k))))
      = ∑ p : Fin 256, dgAt m c (rowOf t p) q := by
  refine Finset.sum_congr rfl fun p _ => ?_
  rw [dn_blk, funext (blk7 m c t p), blk7]
  rfl

theorem idx10 : ∀ t : Fin grid0.N, win0_10.index t = ![t.val, 0] := by decide +kernel

theorem final10 : (dats m 0 c).arrAt 10 cfg0.N = G10 m c := by
  refine (dats m 0 c).arrAt_eq_of_covers 10 _ (by decide +kernel) fun t hf y => ?_
  have hN : cfg0.N = 16 := N_0
  have e : ((cfg0.win 10).blk t).view.emb y = (ix2 (rowOf t (y 0)) (y 1) : S4096x1024.Idx) := by
    funext a
    apply Fin.ext
    match a with
    | ⟨0, _⟩ => show (win0_10.index t 0) * 256 + 1 * (y 0).val = t.val * 256 + (y 0).val; rw [idx10 t]; simp
    | ⟨1, _⟩ => show (win0_10.index t 1) * 1024 + 1 * (y 1).val = (y 1).val; rw [idx10 t]; simp
  rw [e]
  blk_simp
  rw [after0_10]
  idx_vars y
  by_cases h : t.val % 16 = 0
  · have h1 : ¬1 ≤ t.val := by have : t.val < cfg0.N := t.isLt; omega
    rw [outsAt0_A m c t h h1]
    frame_out
    exact (pay1_apply _ _ _ _ _ _ _ _ y0 y1).trans (dx_blk m c t y0 y1)
  · have h1 : 1 ≤ t.val := by omega
    rw [outsAt0_B m c t h h1]
    frame_out
    exact (pay1_apply _ _ _ _ _ _ _ _ y0 y1).trans (dx_blk m c t y0 y1)

theorem idx11 : ∀ t : Fin grid0.N, win0_11.index t = ![t.val, 0] := by decide +kernel

theorem final11 : (dats m 0 c).arrAt 11 cfg0.N = G10 m c := by
  refine (dats m 0 c).arrAt_eq_of_covers 11 _ (by decide +kernel) fun t hf y => ?_
  have hN : cfg0.N = 16 := N_0
  have e : ((cfg0.win 11).blk t).view.emb y = (ix2 (rowOf t (y 0)) (y 1) : S4096x1024.Idx) := by
    funext a
    apply Fin.ext
    match a with
    | ⟨0, _⟩ => show (win0_11.index t 0) * 256 + 1 * (y 0).val = t.val * 256 + (y 0).val; rw [idx11 t]; simp
    | ⟨1, _⟩ => show (win0_11.index t 1) * 1024 + 1 * (y 1).val = (y 1).val; rw [idx11 t]; simp
  rw [e]
  blk_simp
  rw [after0_11]
  idx_vars y
  by_cases h : t.val % 16 = 0
  · have h1 : ¬1 ≤ t.val := by have : t.val < cfg0.N := t.isLt; omega
    rw [outsAt0_A m c t h h1]
    frame_out
    exact (congrFun (pay2_eq _ _) _).trans ((pay1_apply _ _ _ _ _ _ _ _ y0 y1).trans (dx_blk m c t y0 y1))
  · have h1 : 1 ≤ t.val := by omega
    rw [outsAt0_B m c t h h1]
    frame_out
    exact (congrFun (pay2_eq _ _) _).trans ((pay1_apply _ _ _ _ _ _ _ _ y0 y1).trans (dx_blk m c t y0 y1))

theorem final12 : (dats m 0 c).arrAt 12 cfg0.N = G12 m c := by
  refine (dats m 0 c).arrAt_eq_of_after_last 12 t0_15 (by decide +kernel) _ fun j => ?_
  blk_simp
  rw [after0_12]
  have hN : cfg0.N = 16 := N_0
  refine Eq.trans (Pipeline.eq_sum_fin_of_reset_step_apply_last (fun n h => ((outsAt0 m c n h).2.2 : S1x1024.Idx → EReal)) 16 (fun _ => (0 : EReal))
    (fun t j => ∑ p : Fin 256, dgAt m c (rowOf t p) (j 1)) (fun t h j => ?_) (fun t h j => ?_) N_0.le t0_15 rfl j) rfl
  · have h1 : ¬1 ≤ t.val := by have := t.isLt; omega
    idx_vars j
    obtain rfl : j0 = 0 := Subsingleton.elim _ _
    rw [outsAt0_A m c t h h1]
    frame_out
    refine ((pay3_apply _ _ _ _ _ _ j1).trans (dg_blk m c t j1)).trans ?_
    rw [zero_add]
  · have h1 : 1 ≤ t.val := by omega
    idx_vars j
    obtain rfl : j0 = 0 := Subsingleton.elim _ _
    rw [outsAt0_B m c t h h1]
    frame_out
    refine (pay4_apply _ _ j1).trans ?_
    exact congrArg (_ + ·) ((pay3_apply _ _ _ _ _ _ j1).trans (dg_blk m c t j1))

end Cert.InProjIdeal.Value

end
-- ==== Proof.InProjRef.lean ====
/- The derivative of the reference's lines for the gradient of the combined projection's input, read at an index. -/
module

public import proofs.«01_k».proof.Proof.NormWide
public import proofs.«01_k».proof.Proof.Host
public import proofs.«01_k».proof.Proof.Gen.InProjRefIdeal.Read
public import Idealize.ShloMosaic.Lib.Pointwise

@[expose] public section

set_option maxRecDepth 16384

noncomputable section

namespace Cert.InProjRefIdeal.Read

open Cert.InProjRefIdeal Cert.InProjRefIdeal.Gen Idealize.ShloMosaic Idealize.ShloMosaic.TcCoe Idealize.SL.Sem

variable (x0 : S4096x8192.Idx → EReal) (x1 : S4096x1024.Idx → EReal) (x2 : S1x1024.Idx → EReal) (x3 : S4096x1024.Idx → EReal) (x4 : S1024x8192.Idx → EReal)

/-- The norm's row, and what the products pass back to it. -/
def xr (s : Fin 4096) (k : Fin 1024) : EReal := x1 (ix2 s k)
def dn (s : Fin 4096) (k : Fin 1024) : EReal := ∑ f : Fin 8192, x0 (ix2 s f) * x4 (ix2 k f)

theorem dn_apply (s : Fin 4096) (k : Fin 1024) : (show S4096x1024.Idx → EReal from val_main_v17 (F := Ideal) x0 x4) (ix2 s k) = dn x0 x4 s k := by
  unfold dn
  pointwise [val_main_v17, val_main_v16]

theorem r_apply (s : Fin 4096) : (show S4096x1.Idx → EReal from val_main_v7 (F := Ideal) x1) (ix2 s 0) = Grad.rinv Grad.W1024 Grad.WEps (xr x1 s) := by
  unfold val_main_v7 val_main_v6 val_main_v4 val_main_v2 val_main_v1 val_main_v0 Grad.rinv xr
  pointwise [val_main_v3, val_main_v5, val_main_cst, val_main_cst_0, val_main_cst_1]

theorem r2_apply (s : Fin 4096) : (show S4096x1.Idx → EReal from val_main_v8 (F := Ideal) x1) (ix2 s 0)
    = Ideal.div (Grad.rinv Grad.W1024 Grad.WEps (xr x1 s)) (Ideal.div (∑ k, xr x1 s k * xr x1 s k) Grad.W1024 + Grad.WEps) := by
  rw [← r_apply]
  unfold val_main_v8 val_main_v6 val_main_v4 val_main_v2 val_main_v1 val_main_v0 xr
  generalize val_main_v7 (F := Ideal) x1 = R
  pointwise [val_main_v3, val_main_v5, val_main_cst, val_main_cst_0, val_main_cst_1]

theorem unit_sum (s : Fin 4096) (X : S4096x1.Idx → EReal) (z : S_.Idx → EReal) :
    (Host.reduceAdd (F := Ideal) (φ := .f32) X z reducesTo_S4096x1_S4096_d1 h_S_) (ix1 s) = z (Shape.Idx.first h_S_) + X (ix2 s 0) := by
  refine (Grad.hostSum reducesTo_S4096x1_S4096_d1 X _ (ix1 s) (fun _ : Unit => (ix2 s 0 : S4096x1.Idx)) (fun a b _ => rfl) (fun _ => ?_) (fun i hi => ⟨(), ?_⟩)).trans ?_
  · funext a; apply Fin.ext; match a with
    | ⟨0, _⟩ => rfl
  · idx_vars i
    have b1 : i0.val = s.val := congrArg Fin.val (congrFun hi 0)
    obtain rfl : i0 = s := Fin.ext b1
    obtain rfl : i1 = 0 := Subsingleton.elim _ _
    rfl
  · simp

/-- The gain's gradient. -/
theorem dg_apply (j : Fin 1024) : (show S1x1024.Idx → EReal from val_main_v20 (F := Ideal) x0 x1 x4) (ix2 0 j)
    = ∑ s : Fin 4096, xr x1 s j * Grad.rinv Grad.W1024 Grad.WEps (xr x1 s) * dn x0 x4 s j := by
  simp only [← r_apply, ← dn_apply]
  unfold val_main_v20 val_main_v19 val_main_v18 val_main_v12 val_main_v11 xr
  generalize val_main_v7 (F := Ideal) x1 = R
  generalize val_main_v17 (F := Ideal) x0 x4 = D
  pointwise [val_main_cst_3]

theorem mean_apply (s : Fin 4096) : (show S4096.Idx → EReal from val_main_v32 (F := Ideal) x0 x1 x2 x4) (ix1 s)
    = Grad.meanGrad Grad.W1024 Grad.WEps Grad.WNegHalf (xr x1 s) (dn x0 x4 s) (fun k => x2 (ix2 0 k)) := by
  have e1 : (show S4096.Idx → EReal from val_main_v32 (F := Ideal) x0 x1 x2 x4) (ix1 s) = (show S4096x1.Idx → EReal from val_main_v31 (F := Ideal) x0 x1 x2 x4) (ix2 s 0) := by
    unfold val_main_v32
    refine (unit_sum s _ _).trans ?_
    rw [show (val_main_cst_6 (F := Ideal)) (Shape.Idx.first h_S_) = (0 : EReal) from by pointwise [val_main_cst_6], zero_add]
  rw [e1]
  unfold Grad.meanGrad
  rw [← r2_apply]
  simp only [← dn_apply]
  unfold val_main_v31 val_main_v29 val_main_v25 val_main_v24 val_main_v23 val_main_v22 val_main_v10 xr
  generalize val_main_v8 (F := Ideal) x1 = R
  generalize val_main_v17 (F := Ideal) x0 x4 = D
  pointwise [val_main_v30, val_main_v21, val_main_v9, val_main_cst_2, val_main_cst_4, val_main_cst_5]

/-- The gradient of the norm's input, with what passes the norm by. -/
theorem dx_apply (s : Fin 4096) (j : Fin 1024) : (show S4096x1024.Idx → EReal from val_main_v37 (F := Ideal) x0 x1 x2 x3 x4) (ix2 s j)
    = x3 (ix2 s j) + Grad.normDxLines Grad.W1024 Grad.WEps Grad.WNegHalf (xr x1 s) (dn x0 x4 s) (fun k => x2 (ix2 0 k)) j := by
  unfold Grad.normDxLines
  rw [← add_assoc, ← add_assoc, ← mean_apply, ← r_apply, ← dn_apply]
  unfold val_main_v37 val_main_v36 val_main_v35 val_main_v34 val_main_v33 val_main_v28 val_main_v27 val_main_v26 val_main_v22 xr
  generalize val_main_v32 (F := Ideal) x0 x1 x2 x4 = M
  generalize val_main_v7 (F := Ideal) x1 = R
  generalize val_main_v17 (F := Ideal) x0 x4 = D
  pointwise [val_main_v21]

theorem dxb_eq : val_main_v38 (F := Ideal) x0 x1 x2 x3 x4 = val_main_v37 (F := Ideal) x0 x1 x2 x3 x4 := by
  unfold val_main_v38
  rfl

end Cert.InProjRefIdeal.Read

end
-- ==== Proof.InProjMeet.lean ====
/- The combined projection's input gradient: the kernel's results are the derivative of the reference's lines. -/
module

public import proofs.«01_k».proof.Proof.InProjKernel
public import proofs.«01_k».proof.Proof.InProjRef
public import proofs.«01_k».proof.Proof.Host
public import proofs.«01_k».proof.Pre_in_proj_finite

@[expose] public section

set_option maxRecDepth 16384

noncomputable section

namespace Cert.InProjMeet

open Idealize.ShloMosaic Idealize.ShloMosaic.TcCoe Idealize.SL.Sem
open Cert.InProjIdeal (nD τ sig main_arg0 main_arg1 main_arg2 main_arg3 main_arg4 cfg0)
open Cert.InProjIdeal.Value Cert.InProjIdeal.Gen

instance preFacts : Cert.Pre_in_proj_finite.Facts where
  bitsLt_bf16_f32 := by decide
  bcast_S_S4096x8192 := by decide
  reducesTo_S4096x8192_S_d0_1 := by decide
  h_S_ := by decide
  bcast_S_S4096x1024 := by decide
  reducesTo_S4096x1024_S_d0_1 := by decide
  bcast_S_S1x1024 := by decide
  reducesTo_S1x1024_S_d0_1 := by decide
  bcast_S_S1024x8192 := by decide
  reducesTo_S1024x8192_S_d0_1 := by decide

theorem finite (x0 : FVec Ideal Cert.Pre_in_proj_finite.S4096x8192 .bf16) (x1 : FVec Ideal Cert.Pre_in_proj_finite.S4096x1024 .f32) (x2 : FVec Ideal Cert.Pre_in_proj_finite.S1x1024 .f32)
    (x3 : FVec Ideal Cert.Pre_in_proj_finite.S4096x1024 .f32) (x4 : FVec Ideal Cert.Pre_in_proj_finite.S1024x8192 .f32) (h : Cert.Pre_in_proj_finite.fn (F := Ideal) x0 x1 x2 x3 x4 = fun _ => 1#1) :
    (∀ i, Grad.IsR (x0 i)) ∧ (∀ i, Grad.IsR (x1 i)) ∧ (∀ i, Grad.IsR (x2 i)) ∧ ∀ i, Grad.IsR (x4 i) := by
  have h0 := congrFun h (fun a => a.elim0)
  obtain ⟨h1, e4⟩ := Grad.andi_one _ _ h0
  obtain ⟨h2, e2⟩ := Grad.andi_one _ _ h1
  obtain ⟨e0, e1⟩ := Grad.andi_one _ _ h2
  exact ⟨Grad.finite_of_all x0 _ _ _ _ e0, Grad.finite_of_all x1 _ _ _ _ e1, Grad.finite_of_all x2 _ _ _ _ e2, Grad.finite_of_all x4 _ _ _ _ e4⟩

variable (m : (ℓ : Loc nD τ sig) → Buf (Elt Ideal) ℓ) (c : Dev nD)

theorem dn_eq (s : Fin 4096) (k : Fin 1024) : dnAt m c s k = Cert.InProjRefIdeal.Read.dn (m ((c : Thread nD τ).loc main_arg0)) (m ((c : Thread nD τ).loc main_arg4)) s k := by
  rfl

theorem dg_eq : G12 m c = Cert.InProjRefIdeal.Read.val_main_v20 (F := Ideal) (m ((c : Thread nD τ).loc main_arg0)) (m ((c : Thread nD τ).loc main_arg1)) (m ((c : Thread nD τ).loc main_arg4)) := by
  funext i
  idx_vars i
  obtain rfl : i0 = 0 := Subsingleton.elim _ _
  refine Eq.trans ?_ (Cert.InProjRefIdeal.Read.dg_apply (m ((c : Thread nD τ).loc main_arg0)) (m ((c : Thread nD τ).loc main_arg1)) (m ((c : Thread nD τ).loc main_arg4)) i1).symm
  refine (zero_add _).trans ?_
  refine (Grad.sum_blocks (n := cfg0.N) (b := 256) (N := 4096) (by rw [show cfg0.N = 16 from N_0]) (fun s => dgAt m c s i1)).trans ?_
  refine Finset.sum_congr rfl fun s _ => ?_
  unfold dgAt
  rw [dn_eq, mul_comm]
  rfl

/-- The finite arguments make the products' gradient real. -/
theorem dn_real (hf : (∀ i, Grad.IsR ((show Cert.InProjIdeal.S4096x8192.Idx → EReal from m ((c : Thread nD τ).loc main_arg0)) i)) ∧ (∀ i, Grad.IsR ((show Cert.InProjIdeal.S4096x1024.Idx → EReal from m ((c : Thread nD τ).loc main_arg1)) i)) ∧ (∀ i, Grad.IsR ((show Cert.InProjIdeal.S1x1024.Idx → EReal from m ((c : Thread nD τ).loc main_arg2)) i)) ∧ (∀ i, Grad.IsR ((show Cert.InProjIdeal.S1024x8192.Idx → EReal from m ((c : Thread nD τ).loc main_arg4)) i))) (s : Fin 4096) (k : Fin 1024) : Grad.IsR (dnAt m c s k) := by
  unfold dnAt
  exact Grad.IsR.sum _ fun f _ => (hf.1 _).mul (hf.2.2.2 _)

theorem dx_eq (hf : (∀ i, Grad.IsR ((show Cert.InProjIdeal.S4096x8192.Idx → EReal from m ((c : Thread nD τ).loc main_arg0)) i)) ∧ (∀ i, Grad.IsR ((show Cert.InProjIdeal.S4096x1024.Idx → EReal from m ((c : Thread nD τ).loc main_arg1)) i)) ∧ (∀ i, Grad.IsR ((show Cert.InProjIdeal.S1x1024.Idx → EReal from m ((c : Thread nD τ).loc main_arg2)) i)) ∧ (∀ i, Grad.IsR ((show Cert.InProjIdeal.S1024x8192.Idx → EReal from m ((c : Thread nD τ).loc main_arg4)) i))) :
    G10 m c = Cert.InProjRefIdeal.Read.val_main_v37 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  funext i
  idx_vars i
  refine Eq.trans ?_ (Cert.InProjRefIdeal.Read.dx_apply (m ((c : Thread nD τ).loc main_arg0)) (m ((c : Thread nD τ).loc main_arg1)) (m ((c : Thread nD τ).loc main_arg2)) (m ((c : Thread nD τ).loc main_arg3)) (m ((c : Thread nD τ).loc main_arg4)) i0 i1).symm
  refine congrArg (rA m c i0 i1 + ·) ?_
  refine (Grad.normDx1024_eq (fun k => hf.2.1 _) (fun k => dn_real m c hf i0 k) (fun k => hf.2.2.1 _) i1).trans ?_
  rw [funext (dn_eq m c i0)]
  rfl

end Cert.InProjMeet

end
-- ==== Proof.Sigmoid.lean ====
/- The sigmoid by the hyperbolic tangent and by the exponential, one number at every extended real; and the gate's gradient. -/
module

public import proofs.«01_k».proof.Proof.Norm
public import Idealize.ShloMosaic.PureOps.Ideal
public import Mathlib.Tactic.NormNum
public import Mathlib.Tactic.FieldSimp

@[expose] public section

set_option maxRecDepth 16384

noncomputable section

namespace Grad

open Idealize.ShloMosaic

abbrev WHalf : EReal := Ideal.ofBits FTy.f32 0x3F000000#32
abbrev WOne : EReal := Ideal.ofBits FTy.f32 0x3F800000#32

theorem lit_half : WHalf = ((1 / 2 : ℝ) : EReal) := by
  simp [WHalf, Ideal.ofBits, Ideal.ieee, -EReal.coe_mul]; norm_num
theorem lit_one : WOne = ((1 : ℝ) : EReal) := by
  simp [WOne, Ideal.ofBits, Ideal.ieee, -EReal.coe_mul]; norm_num

/-- The sigmoid as the kernels spell it. -/
def sgT (x : EReal) : EReal := WHalf * Ideal.tanh (WHalf * x) + WHalf
/-- The sigmoid as the reference spells it. -/
def sgE (x : EReal) : EReal := Ideal.div WOne (WOne + Ideal.exp (-x))

theorem real_sig (x : ℝ) : 1 / 2 * Real.tanh (1 / 2 * x) + 1 / 2 = 1 / (1 + Real.exp (-x)) := by
  have h0 : 0 < Real.exp (1 / 2 * x) := Real.exp_pos _
  have e1 : Real.exp (-(1 / 2 * x)) = (Real.exp (1 / 2 * x))⁻¹ := Real.exp_neg _
  have e2 : Real.exp (-x) = (Real.exp (1 / 2 * x))⁻¹ * (Real.exp (1 / 2 * x))⁻¹ := by
    rw [← e1, ← Real.exp_add]; congr 1; ring
  rw [Real.tanh_eq_sinh_div_cosh, Real.sinh_eq, Real.cosh_eq, e1, e2]
  generalize Real.exp (1 / 2 * x) = e at h0
  have h1 : e ≠ 0 := h0.ne'
  have h2 : e * e + 1 ≠ 0 := by positivity
  have h3 : e ^ 2 + 1 ≠ 0 := by positivity
  have h4 : 1 + e ^ 2 ≠ 0 := by positivity
  field_simp
  ring

theorem sgE_real (x : ℝ) : sgE (x : EReal) = ((1 / (1 + Real.exp (-x)) : ℝ) : EReal) := by
  unfold sgE
  rw [lit_one]
  have h : (1 : ℝ) + Real.exp (-x) ≠ 0 := by positivity
  have e : Ideal.exp (-(x : EReal)) = ((Real.exp (-x) : ℝ) : EReal) := rfl
  rw [e, ← EReal.coe_add, div_real 1 h]

theorem sgT_real (x : ℝ) : sgT (x : EReal) = ((1 / (1 + Real.exp (-x)) : ℝ) : EReal) := by
  unfold sgT
  rw [lit_half, ← real_sig]
  have e : Ideal.tanh (((1 / 2 : ℝ) : EReal) * (x : EReal)) = ((Real.tanh (1 / 2 * x) : ℝ) : EReal) := by
    rw [← EReal.coe_mul]; rfl
  rw [e, ← EReal.coe_mul, ← EReal.coe_add]

/-- One sigmoid. -/
theorem sig_eq (x : EReal) : sgT x = sgE x := by
  induction x using EReal.rec with
  | bot =>
    unfold sgT sgE
    rw [lit_half, lit_one, EReal.coe_mul_bot_of_pos (by norm_num), EReal.neg_bot]
    have e : Ideal.tanh ⊥ = (((-1 : ℝ)) : EReal) := rfl
    have e2 : Ideal.exp ⊤ = ⊤ := rfl
    rw [e, e2, EReal.coe_add_top, ← EReal.coe_mul, ← EReal.coe_add]
    simp [Ideal.div]
  | coe x => rw [sgT_real, sgE_real]
  | top =>
    unfold sgT sgE
    rw [lit_half, lit_one, EReal.coe_mul_top_of_pos (by norm_num), EReal.neg_top]
    have e : Ideal.tanh ⊤ = (((1 : ℝ)) : EReal) := rfl
    have e2 : Ideal.exp ⊥ = (((0 : ℝ)) : EReal) := rfl
    rw [e, e2, ← EReal.coe_mul, ← EReal.coe_add, ← EReal.coe_add, div_real 1 (by norm_num)]
    norm_num

theorem IsR.sgE {x : EReal} : IsR x → IsR (sgE x) := by rintro ⟨a, rfl⟩; exact ⟨_, sgE_real a⟩

/-- The gradient of the gate's first factor. -/
theorem gate_first {d a b : EReal} (hd : IsR d) (ha : IsR a) (hb : IsR b) :
    d * b * (sgT a * (WOne + a * (WOne - sgT a))) = d * b * sgE a + a * (d * b) * (sgE a * (WOne - sgE a)) := by
  rw [sig_eq]
  obtain ⟨s, hs⟩ := ha.sgE
  obtain ⟨d, rfl⟩ := hd
  obtain ⟨a, rfl⟩ := ha
  obtain ⟨b, rfl⟩ := hb
  rw [hs, lit_one]
  norm_cast
  ring

/-- The gradient of the gate's second factor. -/
theorem gate_second (d a : EReal) : d * (a * sgT a) = a * sgE a * d := by
  rw [sig_eq, mul_comm]

/-- A half taken out of a product of rows. -/
theorem half_sum {n : ℕ} {u w : Fin n → EReal} (hu : ∀ k, IsR (u k)) (hw : ∀ k, IsR (w k)) :
    WHalf * ∑ k, u k * w k = ∑ k, WHalf * u k * w k := by
  obtain ⟨u, rfl⟩ := exists_fun hu
  obtain ⟨w, rfl⟩ := exists_fun hw
  rw [lit_half]
  simp only [← EReal.coe_mul, ← coe_sum]
  rw [Finset.mul_sum]
  simp only [mul_assoc]

end Grad

end
-- ==== Proof.FfnHidKernel.lean ====
/- The kernel of the gradient through the SwiGLU gate, read at an index: the block it writes at each grid point, in terms of
   the arguments. -/
module

public import proofs.«01_k».proof.Proof.Sigmoid
public import proofs.«01_k».proof.Proof.Gen.FfnHidIdeal.Value
public import Idealize.ShloMosaic.Lib.Pipeline.ValueKit
public import Idealize.ShloMosaic.Lib.StableHlo.ReadAt
public import Idealize.ShloMosaic.Lib.Pointwise

@[expose] public section

set_option maxRecDepth 16384

noncomputable section

namespace Cert.FfnHidIdeal.Value

open Cert.FfnHidIdeal Cert.FfnHidIdeal.Gen Idealize.ShloMosaic Idealize.ShloMosaic.TcCoe Idealize.SL.Sem

/-- A weight's row among the devices' packed rows. -/
abbrev devOf (f : Fin 2816) : Fin 8 := ⟨f.val / 352, by omega⟩
abbrev shardOf (f : Fin 2816) : Fin 352 := ⟨f.val % 352, by omega⟩

theorem pay2_apply (v0 : Vec Ideal S256x1024 .bf16) (v1 : Vec Ideal S8x352x1024 .bf16) (p : Fin 256) (f : Fin 2816) :
    k0_pay2 (F := Ideal) v0 v1 (ix2 p f) = Grad.WHalf * ∑ k : Fin 1024, v0 (ix2 p k) * v1 (ix3 (devOf f) (shardOf f) k) := by
  pointwise [k0_pay2]

theorem pay4_apply (v7 : Vec Ideal S1x256x2816 .bf16) (p : Fin 256) (f : Fin 2816) :
    k0_pay4 (F := Ideal) v7 (ix2 p f) = Grad.sgT (v7 (ix3 0 p f)) := by
  unfold Grad.sgT
  pointwise [k0_pay4, k0_pay3]

theorem pay5_apply (v0 : Vec Ideal S256x1024 .bf16) (v1 : Vec Ideal S8x352x1024 .bf16) (v7 v10 : Vec Ideal S1x256x2816 .bf16) (p : Fin 256) (f : Fin 2816) :
    k0_pay5 (F := Ideal) v0 v1 v7 v10 (ix3 0 p f) = k0_pay2 (F := Ideal) v0 v1 (ix2 p f) * v10 (ix3 0 p f)
      * (Grad.sgT (v7 (ix3 0 p f)) * (Grad.WOne + v7 (ix3 0 p f) * (Grad.WOne - Grad.sgT (v7 (ix3 0 p f))))) := by
  rw [← pay4_apply]
  unfold k0_pay5
  generalize k0_pay2 (F := Ideal) v0 v1 = D
  generalize k0_pay4 (F := Ideal) v7 = S
  pointwise [k0_pay3]

theorem pay1_apply (v0 : Vec Ideal S256x1024 .bf16) (v1 : Vec Ideal S8x352x1024 .bf16) (v7 : Vec Ideal S1x256x2816 .bf16) (p : Fin 256) (f : Fin 2816) :
    k0_pay1 (F := Ideal) (k0_pay6 (F := Ideal) v0 v1 v7) (ix3 0 p f) = k0_pay2 (F := Ideal) v0 v1 (ix2 p f) * (v7 (ix3 0 p f) * Grad.sgT (v7 (ix3 0 p f))) := by
  rw [← pay4_apply]
  unfold k0_pay6
  generalize k0_pay2 (F := Ideal) v0 v1 = D
  generalize k0_pay4 (F := Ideal) v7 = S
  pointwise [k0_pay1, k0_pay3]

/-! ## The arrays -/

variable (m : (ℓ : Loc nD τ sig) → Buf (Elt Ideal) ℓ) (c : Dev nD)

/-- The arguments, at their coordinates. -/
abbrev dA (s : Fin 4096) (k : Fin 1024) : EReal := (show S4096x1024.Idx → EReal from m ((c : Thread nD τ).loc main_arg0)) (ix2 s k)
abbrev nA (s : Fin 4096) (k : Fin 1024) : EReal := (show S4096x1024.Idx → EReal from m ((c : Thread nD τ).loc main_arg1)) (ix2 s k)
abbrev w1A (k : Fin 1024) (f : Fin 2816) : EReal := (show S1024x2816.Idx → EReal from m ((c : Thread nD τ).loc main_arg2)) (ix2 k f)
abbrev w3A (k : Fin 1024) (f : Fin 2816) : EReal := (show S1024x2816.Idx → EReal from m ((c : Thread nD τ).loc main_arg3)) (ix2 k f)
abbrev w2A (f : Fin 2816) (k : Fin 1024) : EReal := (show S2816x1024.Idx → EReal from m ((c : Thread nD τ).loc main_arg4)) (ix2 f k)

/-- The two up products. -/
def aAt (s : Fin 4096) (f : Fin 2816) : EReal := ∑ k : Fin 1024, nA m c s k * w1A m c k f
def bAt (s : Fin 4096) (f : Fin 2816) : EReal := ∑ k : Fin 1024, nA m c s k * w3A m c k f

theorem stack0 (s : Fin 4096) (f : Fin 2816) : (show S2x4096x2816.Idx → EReal from V m c main_v13) (ix3 0 s f) = aAt m c s f := by
  unfold V aAt
  after_reads_at
  after_reads_at

theorem stack1 (s : Fin 4096) (f : Fin 2816) : (show S2x4096x2816.Idx → EReal from V m c main_v13) (ix3 1 s f) = bAt m c s f := by
  unfold V bAt
  after_reads_at
  after_reads_at

theorem pack2 (d : Fin 8) (r : Fin 352) (k : Fin 1024) (hf : d.val * 352 + r.val < 2816) : (show S8x1056x1024.Idx → EReal from V m c main_v6) (ix3 d ⟨704 + r.val, by omega⟩ k) = w2A m c ⟨d.val * 352 + r.val, hf⟩ k := by
  unfold V
  after_reads_at
  after_reads_at
  rw [dif_neg (by omega), dif_neg (by omega)]
  exact congrArg (fun j => w2A m c j k) (Fin.ext (by show d.val * 352 + (704 + r.val - 352 - 352) = d.val * 352 + r.val; omega))

theorem idxs : ∀ t : Fin grid0.N, win0_0.index t = ![t.val, 0] ∧ win0_1.index t = ![0, 2, 0] ∧ win0_2.index t = ![0, t.val, 0] ∧ win0_3.index t = ![0, t.val, 0] := by decide +kernel

/-- The array row of a block's row. -/
def rowOf (t : Fin cfg0.N) (p : Fin 256) : Fin 4096 := ⟨t.val * 256 + p.val, by have := t.isLt; have hN : cfg0.N = 16 := N_0; omega⟩

theorem blk0 (t : Fin cfg0.N) (p : Fin 256) (k : Fin 1024) : (show S256x1024.Idx → EReal from iblk m c 0 t) (ix2 p k) = dA m c (rowOf t p) k := by
  unfold rowOf
  blk_ext [iblk, V_main_arg0, idxs t]

theorem blk1 (t : Fin cfg0.N) (f : Fin 2816) (k : Fin 1024) : (show S8x352x1024.Idx → EReal from iblk m c 1 t) (ix3 (devOf f) (shardOf f) k) = w2A m c f k := by
  have e := pack2 m c (devOf f) (shardOf f) k (by show f.val / 352 * 352 + f.val % 352 < 2816; omega)
  rw [show (⟨(devOf f).val * 352 + (shardOf f).val, _⟩ : Fin 2816) = f from Fin.ext (by show f.val / 352 * 352 + f.val % 352 = f.val; omega)] at e
  rw [← e]
  blk_ext [iblk, idxs t]

theorem blk2a (t : Fin cfg0.N) (p : Fin 256) (f : Fin 2816) : (show S2x256x2816.Idx → EReal from iblk m c 2 t) (ix3 0 p f) = aAt m c (rowOf t p) f := by
  rw [← stack0]
  unfold rowOf
  blk_ext [iblk, idxs t]

theorem blk2b (t : Fin cfg0.N) (p : Fin 256) (f : Fin 2816) : (show S2x256x2816.Idx → EReal from iblk m c 2 t) (ix3 1 p f) = bAt m c (rowOf t p) f := by
  rw [← stack1]
  unfold rowOf
  blk_ext [iblk, idxs t]

/-- The two stacked products that the body loads. -/
theorem ld0 {e : EltTy} (X : S2x256x2816.Idx → Elt Ideal e) (p : Fin 256) (f : Fin 2816) : View.ld X r0_2 (ix3 0 p f) = X (ix3 0 p f) := by
  refine congrArg X (funext fun a => Fin.ext ?_)
  match a with
  | ⟨0, _⟩ => rfl
  | ⟨1, _⟩ => show 0 + 1 * p.val = p.val; omega
  | ⟨2, _⟩ => show 0 + 1 * f.val = f.val; omega
theorem ld1 {e : EltTy} (X : S2x256x2816.Idx → Elt Ideal e) (p : Fin 256) (f : Fin 2816) : View.ld X r0_3 (ix3 0 p f) = X (ix3 1 p f) := by
  refine congrArg X (funext fun a => Fin.ext ?_)
  match a with
  | ⟨0, _⟩ => rfl
  | ⟨1, _⟩ => show 0 + 1 * p.val = p.val; omega
  | ⟨2, _⟩ => show 0 + 1 * f.val = f.val; omega
theorem ldA {e : EltTy} (X : S256x1024.Idx → Elt Ideal e) : View.ld X r0_0 = X := by
  funext y
  idx_vars y
  refine congrArg X (funext fun a => Fin.ext ?_)
  match a with
  | ⟨0, _⟩ => show 0 + 1 * y0.val = y0.val; omega
  | ⟨1, _⟩ => show 0 + 1 * y1.val = y1.val; omega
theorem ldB {e : EltTy} (X : S8x352x1024.Idx → Elt Ideal e) : View.ld X r0_1 = X := by
  funext y
  idx_vars y
  refine congrArg X (funext fun a => Fin.ext ?_)
  match a with
  | ⟨0, _⟩ => show 0 + 1 * y0.val = y0.val; omega
  | ⟨1, _⟩ => show 0 + 1 * y1.val = y1.val; omega
  | ⟨2, _⟩ => show 0 + 1 * y2.val = y2.val; omega

/-- What the down product passes back. -/
def dhAt (s : Fin 4096) (f : Fin 2816) : EReal := Grad.WHalf * ∑ k : Fin 1024, dA m c s k * w2A m c f k

def daAt (s : Fin 4096) (f : Fin 2816) : EReal := dhAt m c s f * bAt m c s f * (Grad.sgT (aAt m c s f) * (Grad.WOne + aAt m c s f * (Grad.WOne - Grad.sgT (aAt m c s f))))
def dbAt (s : Fin 4096) (f : Fin 2816) : EReal := dhAt m c s f * (aAt m c s f * Grad.sgT (aAt m c s f))

/-- The result: both hidden gradients, stacked. -/
def G3 : S2x4096x2816.Idx → EReal := fun i => if (i 0).val = 0 then daAt m c (i 1) (i 2) else dbAt m c (i 1) (i 2)

theorem dh_blk (t : Fin cfg0.N) (p : Fin 256) (f : Fin 2816) : k0_pay2 (F := Ideal) (iblk m c 0 t) (iblk m c 1 t) (ix2 p f) = dhAt m c (rowOf t p) f := by
  refine (pay2_apply _ _ p f).trans ?_
  unfold dhAt
  exact congrArg (Grad.WHalf * ·) (Finset.sum_congr rfl fun k _ => congrArg₂ (· * ·) (blk0 m c t p k) (blk1 m c t f k))

theorem da_blk (t : Fin cfg0.N) (p : Fin 256) (f : Fin 2816) :
    k0_pay5 (F := Ideal) (iblk m c 0 t) (iblk m c 1 t) (View.ld (iblk m c 2 t) r0_2) (View.ld (iblk m c 2 t) r0_3) (ix3 0 p f) = daAt m c (rowOf t p) f := by
  have ea := (ld0 (e := .bf16) (iblk m c 2 t) p f).trans (blk2a m c t p f)
  have eb := (ld1 (e := .bf16) (iblk m c 2 t) p f).trans (blk2b m c t p f)
  refine (pay5_apply _ _ _ _ p f).trans ?_
  unfold daAt
  rw [dh_blk, ea, eb]

theorem db_blk (t : Fin cfg0.N) (p : Fin 256) (f : Fin 2816) :
    k0_pay1 (F := Ideal) (k0_pay6 (F := Ideal) (iblk m c 0 t) (iblk m c 1 t) (View.ld (iblk m c 2 t) r0_2)) (ix3 0 p f) = dbAt m c (rowOf t p) f := by
  have ea := (ld0 (e := .bf16) (iblk m c 2 t) p f).trans (blk2a m c t p f)
  refine (pay1_apply _ _ _ p f).trans ?_
  unfold dbAt
  rw [dh_blk, ea]

theorem canon3 (t : Fin cfg0.N) (y : S2x256x2816.Idx) (wa wb : S1x256x2816.Idx → EReal) (ga : ∀ (p : Fin 256) (f : Fin 2816), wa (ix3 0 p f) = daAt m c (rowOf t p) f)
    (gb : ∀ (p : Fin 256) (f : Fin 2816), wb (ix3 0 p f) = dbAt m c (rowOf t p) f) :
    View.canon ([⟨r0_3, wb⟩, ⟨r0_2, wa⟩] : List (View.Piece (Elt Ideal) S2x256x2816 .bf16)) y = G3 m c (ix3 (y 0) (rowOf t (y 1)) (y 2)) := by
  idx_vars y
  canon_tiles x h using (cover0_3 (F := Ideal) wb wa _)
  all_goals idx_vars x
  all_goals obtain rfl : x0 = 0 := Subsingleton.elim _ _
  all_goals obtain rfl : y1 = x1 := Fin.ext h1
  all_goals obtain rfl : y2 = x2 := Fin.ext h2
  · rw [gb]
    have e : y0.val = 1 := h0
    exact (if_neg (show ¬ y0.val = 0 by omega)).symm
  · rw [ga]
    have e : y0.val = 0 := h0
    exact (if_pos e).symm

theorem out3_eq (x0 : Vec Ideal S256x1024 .bf16) (x1 : Vec Ideal S8x352x1024 .bf16) (x2 : Vec Ideal S2x256x2816 .bf16) :
    out0_3 (F := Ideal) x0 x1 x2 = View.canon ([⟨r0_3, k0_pay1 (F := Ideal) (k0_pay6 (F := Ideal) x0 x1 (View.ld x2 r0_2))⟩, ⟨r0_2, k0_pay5 (F := Ideal) x0 x1 (View.ld x2 r0_2) (View.ld x2 r0_3)⟩] : List (View.Piece (Elt Ideal) S2x256x2816 .bf16)) := by
  unfold out0_3
  rw [ldA, ldB]

theorem place3 (t : Fin cfg0.N) (y : S2x256x2816.Idx) :
    ((cfg0.win 3).blk t).view.emb y = (ix3 (y 0) (rowOf t (y 1)) (y 2) : S2x4096x2816.Idx) := by
  obtain ⟨_, _, _, e3⟩ := idxs t
  funext a
  apply Fin.ext
  match a with
  | ⟨0, _⟩ => show (win0_3.index t 0) * 2 + 1 * (y 0).val = (y 0).val; rw [e3]; simp
  | ⟨1, _⟩ => show (win0_3.index t 1) * 256 + 1 * (y 1).val = t.val * 256 + (y 1).val; rw [e3]; simp
  | ⟨2, _⟩ => show (win0_3.index t 2) * 2816 + 1 * (y 2).val = (y 2).val; rw [e3]; simp

theorem final3 : (dats m 0 c).arrAt 3 cfg0.N = G3 m c := by
  refine (dats m 0 c).arrAt_eq_of_covers 3 _ (by decide +kernel) fun t hf y => ?_
  rw [place3 t y]
  blk_simp
  rw [after0_3]
  refine (congrFun (out3_eq (iblk m c 0 t) (iblk m c 1 t) (iblk m c 2 t)) y).trans ?_
  exact canon3 m c t y _ _ (da_blk m c t) (db_blk m c t)

end Cert.FfnHidIdeal.Value

end
-- ==== Proof.FfnHidRef.lean ====
/- The derivative of the reference's lines for the gradient through the SwiGLU gate, read at an index. -/
module

public import proofs.«01_k».proof.Proof.Sigmoid
public import proofs.«01_k».proof.Proof.Gen.FfnHidRefIdeal.Read
public import Idealize.ShloMosaic.Lib.Pointwise

@[expose] public section

set_option maxRecDepth 16384

noncomputable section

namespace Cert.FfnHidRefIdeal.Read

open Cert.FfnHidRefIdeal Cert.FfnHidRefIdeal.Gen Idealize.ShloMosaic Idealize.ShloMosaic.TcCoe Idealize.SL.Sem

variable (x0 x1 : S4096x1024.Idx → EReal) (x2 x3 : S1024x2816.Idx → EReal) (x4 : S2816x1024.Idx → EReal)

/-- The two up products, and what the down product passes back. -/
def ua (s : Fin 4096) (f : Fin 2816) : EReal := ∑ k : Fin 1024, x1 (ix2 s k) * x2 (ix2 k f)
def ub (s : Fin 4096) (f : Fin 2816) : EReal := ∑ k : Fin 1024, x1 (ix2 s k) * x3 (ix2 k f)
def dh (s : Fin 4096) (f : Fin 2816) : EReal := ∑ k : Fin 1024, Grad.WHalf * x0 (ix2 s k) * x4 (ix2 f k)

theorem ua_apply (s : Fin 4096) (f : Fin 2816) : (show S4096x2816.Idx → EReal from val_main_v1 (F := Ideal) x1 x2) (ix2 s f) = ua x1 x2 s f := by
  unfold ua
  pointwise [val_main_v1, val_main_v0]

theorem ub_apply (s : Fin 4096) (f : Fin 2816) : (show S4096x2816.Idx → EReal from val_main_v2 (F := Ideal) x1 x3) (ix2 s f) = ub x1 x3 s f := by
  unfold ub
  pointwise [val_main_v2, val_main_v0]

theorem dh_apply (s : Fin 4096) (f : Fin 2816) : (show S4096x2816.Idx → EReal from val_main_v11 (F := Ideal) x0 x4) (ix2 s f) = dh x0 x4 s f := by
  unfold dh
  pointwise [val_main_v11, val_main_v10, val_main_v9, val_main_v8, val_main_cst_0]

theorem sg_apply (s : Fin 4096) (f : Fin 2816) : (show S4096x2816.Idx → EReal from val_main_v3_2 (F := Ideal) x1 x2) (ix2 s f) = Grad.sgE (ua x1 x2 s f) := by
  rw [← ua_apply]
  unfold Grad.sgE val_main_v3_2 val_main_call0_v3 val_main_call0_v1 val_main_call0_v0
  generalize val_main_v1 (F := Ideal) x1 x2 = A
  pointwise [val_main_call0_v4, val_main_call0_cst_0, val_main_call0_v2, val_main_call0_cst]

theorem da_apply (s : Fin 4096) (f : Fin 2816) : (show S4096x2816.Idx → EReal from val_main_v14 (F := Ideal) x0 x1 x2 x3 x4) (ix2 s f)
    = dh x0 x4 s f * ub x1 x3 s f * Grad.sgE (ua x1 x2 s f) + ua x1 x2 s f * (dh x0 x4 s f * ub x1 x3 s f) * (Grad.sgE (ua x1 x2 s f) * (Grad.WOne - Grad.sgE (ua x1 x2 s f))) := by
  rw [← sg_apply, ← dh_apply, ← ub_apply, ← ua_apply]
  unfold val_main_v14 val_main_call1_v2 val_main_call1_v1 val_main_call1_v0 val_main_v13 val_main_v3_1 val_main_call0_v7
  generalize val_main_v3_2 (F := Ideal) x1 x2 = S
  generalize val_main_v1 (F := Ideal) x1 x2 = A
  generalize val_main_v2 (F := Ideal) x1 x3 = B
  generalize val_main_v11 (F := Ideal) x0 x4 = D
  pointwise [val_main_call0_v6, val_main_call0_cst_1]

theorem db_apply (s : Fin 4096) (f : Fin 2816) : (show S4096x2816.Idx → EReal from val_main_v12 (F := Ideal) x0 x1 x2 x4) (ix2 s f)
    = ua x1 x2 s f * Grad.sgE (ua x1 x2 s f) * dh x0 x4 s f := by
  rw [← sg_apply, ← dh_apply, ← ua_apply]
  unfold val_main_v12 val_main_v3_0
  generalize val_main_v3_2 (F := Ideal) x1 x2 = S
  generalize val_main_v1 (F := Ideal) x1 x2 = A
  generalize val_main_v11 (F := Ideal) x0 x4 = D
  pointwise

theorem out0_apply (s : Fin 4096) (f : Fin 2816) : (show S2x4096x2816.Idx → EReal from val_main_v18 (F := Ideal) x0 x1 x2 x3 x4) (ix3 0 s f)
    = (show S4096x2816.Idx → EReal from val_main_v14 (F := Ideal) x0 x1 x2 x3 x4) (ix2 s f) := by
  unfold val_main_v18 val_main_v17 val_main_v16 val_main_v15
  generalize val_main_v14 (F := Ideal) x0 x1 x2 x3 x4 = A
  generalize val_main_v12 (F := Ideal) x0 x1 x2 x4 = B
  pointwise

theorem out1_apply (s : Fin 4096) (f : Fin 2816) : (show S2x4096x2816.Idx → EReal from val_main_v18 (F := Ideal) x0 x1 x2 x3 x4) (ix3 1 s f)
    = (show S4096x2816.Idx → EReal from val_main_v12 (F := Ideal) x0 x1 x2 x4) (ix2 s f) := by
  unfold val_main_v18 val_main_v17 val_main_v16 val_main_v15
  generalize val_main_v14 (F := Ideal) x0 x1 x2 x3 x4 = A
  generalize val_main_v12 (F := Ideal) x0 x1 x2 x4 = B
  pointwise

end Cert.FfnHidRefIdeal.Read

end
-- ==== Proof.FfnHidMeet.lean ====
/- The gradient through the SwiGLU gate: the kernel's result is the derivative of the reference's lines. -/
module

public import proofs.«01_k».proof.Proof.FfnHidKernel
public import proofs.«01_k».proof.Proof.FfnHidRef
public import proofs.«01_k».proof.Proof.Host
public import proofs.«01_k».proof.Pre_ffn_hidden_finite

@[expose] public section

set_option maxRecDepth 16384

noncomputable section

namespace Cert.FfnHidMeet

open Idealize.ShloMosaic Idealize.ShloMosaic.TcCoe Idealize.SL.Sem
open Cert.FfnHidIdeal (nD τ sig main_arg0 main_arg1 main_arg2 main_arg3 main_arg4 cfg0)
open Cert.FfnHidIdeal.Value Cert.FfnHidIdeal.Gen

instance preFacts : Cert.Pre_ffn_hidden_finite.Facts where
  bitsLt_bf16_f32 := by decide
  bcast_S_S4096x1024 := by decide
  reducesTo_S4096x1024_S_d0_1 := by decide
  h_S_ := by decide
  bcast_S_S1024x2816 := by decide
  reducesTo_S1024x2816_S_d0_1 := by decide
  bcast_S_S2816x1024 := by decide
  reducesTo_S2816x1024_S_d0_1 := by decide

theorem finite (x0 x1 : FVec Ideal Cert.Pre_ffn_hidden_finite.S4096x1024 .bf16) (x2 x3 : FVec Ideal Cert.Pre_ffn_hidden_finite.S1024x2816 .f32) (x4 : FVec Ideal Cert.Pre_ffn_hidden_finite.S2816x1024 .f32)
    (h : Cert.Pre_ffn_hidden_finite.fn (F := Ideal) x0 x1 x2 x3 x4 = fun _ => 1#1) :
    (∀ i, Grad.IsR (x0 i)) ∧ (∀ i, Grad.IsR (x1 i)) ∧ (∀ i, Grad.IsR (x2 i)) ∧ (∀ i, Grad.IsR (x3 i)) ∧ (∀ i, Grad.IsR (x4 i)) := by
  have h0 := congrFun h (fun a => a.elim0)
  obtain ⟨h1, e4⟩ := Grad.andi_one _ _ h0
  obtain ⟨h2, e3⟩ := Grad.andi_one _ _ h1
  obtain ⟨h3, e2⟩ := Grad.andi_one _ _ h2
  obtain ⟨e0, e1⟩ := Grad.andi_one _ _ h3
  exact ⟨Grad.finite_of_all x0 _ _ _ _ e0, Grad.finite_of_all x1 _ _ _ _ e1, Grad.finite_of_all x2 _ _ _ _ e2, Grad.finite_of_all x3 _ _ _ _ e3, Grad.finite_of_all x4 _ _ _ _ e4⟩

variable (m : (ℓ : Loc nD τ sig) → Buf (Elt Ideal) ℓ) (c : Dev nD)

theorem a_eq (s : Fin 4096) (f : Fin 2816) : aAt m c s f = Cert.FfnHidRefIdeal.Read.ua (m ((c : Thread nD τ).loc main_arg1)) (m ((c : Thread nD τ).loc main_arg2)) s f := rfl
theorem b_eq (s : Fin 4096) (f : Fin 2816) : bAt m c s f = Cert.FfnHidRefIdeal.Read.ub (m ((c : Thread nD τ).loc main_arg1)) (m ((c : Thread nD τ).loc main_arg3)) s f := rfl

theorem dh_eq (hf : (∀ i, Grad.IsR ((show Cert.FfnHidIdeal.S4096x1024.Idx → EReal from m ((c : Thread nD τ).loc main_arg0)) i)) ∧ (∀ i, Grad.IsR ((show Cert.FfnHidIdeal.S4096x1024.Idx → EReal from m ((c : Thread nD τ).loc main_arg1)) i)) ∧ (∀ i, Grad.IsR ((show Cert.FfnHidIdeal.S1024x2816.Idx → EReal from m ((c : Thread nD τ).loc main_arg2)) i)) ∧ (∀ i, Grad.IsR ((show Cert.FfnHidIdeal.S1024x2816.Idx → EReal from m ((c : Thread nD τ).loc main_arg3)) i)) ∧ (∀ i, Grad.IsR ((show Cert.FfnHidIdeal.S2816x1024.Idx → EReal from m ((c : Thread nD τ).loc main_arg4)) i))) (s : Fin 4096) (f : Fin 2816) : dhAt m c s f = Cert.FfnHidRefIdeal.Read.dh (m ((c : Thread nD τ).loc main_arg0)) (m ((c : Thread nD τ).loc main_arg4)) s f :=
  Grad.half_sum (fun k => hf.1 _) (fun k => hf.2.2.2.2 _)

theorem a_real (hf : (∀ i, Grad.IsR ((show Cert.FfnHidIdeal.S4096x1024.Idx → EReal from m ((c : Thread nD τ).loc main_arg0)) i)) ∧ (∀ i, Grad.IsR ((show Cert.FfnHidIdeal.S4096x1024.Idx → EReal from m ((c : Thread nD τ).loc main_arg1)) i)) ∧ (∀ i, Grad.IsR ((show Cert.FfnHidIdeal.S1024x2816.Idx → EReal from m ((c : Thread nD τ).loc main_arg2)) i)) ∧ (∀ i, Grad.IsR ((show Cert.FfnHidIdeal.S1024x2816.Idx → EReal from m ((c : Thread nD τ).loc main_arg3)) i)) ∧ (∀ i, Grad.IsR ((show Cert.FfnHidIdeal.S2816x1024.Idx → EReal from m ((c : Thread nD τ).loc main_arg4)) i))) (s : Fin 4096) (f : Fin 2816) : Grad.IsR (aAt m c s f) := by
  unfold aAt
  exact Grad.IsR.sum _ fun k _ => (hf.2.1 _).mul (hf.2.2.1 _)

theorem b_real (hf : (∀ i, Grad.IsR ((show Cert.FfnHidIdeal.S4096x1024.Idx → EReal from m ((c : Thread nD τ).loc main_arg0)) i)) ∧ (∀ i, Grad.IsR ((show Cert.FfnHidIdeal.S4096x1024.Idx → EReal from m ((c : Thread nD τ).loc main_arg1)) i)) ∧ (∀ i, Grad.IsR ((show Cert.FfnHidIdeal.S1024x2816.Idx → EReal from m ((c : Thread nD τ).loc main_arg2)) i)) ∧ (∀ i, Grad.IsR ((show Cert.FfnHidIdeal.S1024x2816.Idx → EReal from m ((c : Thread nD τ).loc main_arg3)) i)) ∧ (∀ i, Grad.IsR ((show Cert.FfnHidIdeal.S2816x1024.Idx → EReal from m ((c : Thread nD τ).loc main_arg4)) i))) (s : Fin 4096) (f : Fin 2816) : Grad.IsR (bAt m c s f) := by
  unfold bAt
  exact Grad.IsR.sum _ fun k _ => (hf.2.1 _).mul (hf.2.2.2.1 _)

theorem dh_real (hf : (∀ i, Grad.IsR ((show Cert.FfnHidIdeal.S4096x1024.Idx → EReal from m ((c : Thread nD τ).loc main_arg0)) i)) ∧ (∀ i, Grad.IsR ((show Cert.FfnHidIdeal.S4096x1024.Idx → EReal from m ((c : Thread nD τ).loc main_arg1)) i)) ∧ (∀ i, Grad.IsR ((show Cert.FfnHidIdeal.S1024x2816.Idx → EReal from m ((c : Thread nD τ).loc main_arg2)) i)) ∧ (∀ i, Grad.IsR ((show Cert.FfnHidIdeal.S1024x2816.Idx → EReal from m ((c : Thread nD τ).loc main_arg3)) i)) ∧ (∀ i, Grad.IsR ((show Cert.FfnHidIdeal.S2816x1024.Idx → EReal from m ((c : Thread nD τ).loc main_arg4)) i))) (s : Fin 4096) (f : Fin 2816) : Grad.IsR (dhAt m c s f) := by
  unfold dhAt
  rw [Grad.lit_half]
  exact (Grad.IsR.coe _).mul (Grad.IsR.sum _ fun k _ => (hf.1 _).mul (hf.2.2.2.2 _))

theorem da_eq (hf : (∀ i, Grad.IsR ((show Cert.FfnHidIdeal.S4096x1024.Idx → EReal from m ((c : Thread nD τ).loc main_arg0)) i)) ∧ (∀ i, Grad.IsR ((show Cert.FfnHidIdeal.S4096x1024.Idx → EReal from m ((c : Thread nD τ).loc main_arg1)) i)) ∧ (∀ i, Grad.IsR ((show Cert.FfnHidIdeal.S1024x2816.Idx → EReal from m ((c : Thread nD τ).loc main_arg2)) i)) ∧ (∀ i, Grad.IsR ((show Cert.FfnHidIdeal.S1024x2816.Idx → EReal from m ((c : Thread nD τ).loc main_arg3)) i)) ∧ (∀ i, Grad.IsR ((show Cert.FfnHidIdeal.S2816x1024.Idx → EReal from m ((c : Thread nD τ).loc main_arg4)) i))) (s : Fin 4096) (f : Fin 2816) :
    daAt m c s f = (show Cert.FfnHidRefIdeal.S4096x2816.Idx → EReal from Cert.FfnHidRefIdeal.Read.val_main_v14 (F := Ideal) (m ((c : Thread nD τ).loc main_arg0)) (m ((c : Thread nD τ).loc main_arg1)) (m ((c : Thread nD τ).loc main_arg2)) (m ((c : Thread nD τ).loc main_arg3)) (m ((c : Thread nD τ).loc main_arg4))) (ix2 s f) := by
  refine Eq.trans ?_ (Cert.FfnHidRefIdeal.Read.da_apply (m ((c : Thread nD τ).loc main_arg0)) (m ((c : Thread nD τ).loc main_arg1)) (m ((c : Thread nD τ).loc main_arg2)) (m ((c : Thread nD τ).loc main_arg3)) (m ((c : Thread nD τ).loc main_arg4)) s f).symm
  unfold daAt
  refine (Grad.gate_first (dh_real m c hf s f) (a_real m c hf s f) (b_real m c hf s f)).trans ?_
  rw [dh_eq m c hf, a_eq, b_eq]

theorem db_eq (hf : (∀ i, Grad.IsR ((show Cert.FfnHidIdeal.S4096x1024.Idx → EReal from m ((c : Thread nD τ).loc main_arg0)) i)) ∧ (∀ i, Grad.IsR ((show Cert.FfnHidIdeal.S4096x1024.Idx → EReal from m ((c : Thread nD τ).loc main_arg1)) i)) ∧ (∀ i, Grad.IsR ((show Cert.FfnHidIdeal.S1024x2816.Idx → EReal from m ((c : Thread nD τ).loc main_arg2)) i)) ∧ (∀ i, Grad.IsR ((show Cert.FfnHidIdeal.S1024x2816.Idx → EReal from m ((c : Thread nD τ).loc main_arg3)) i)) ∧ (∀ i, Grad.IsR ((show Cert.FfnHidIdeal.S2816x1024.Idx → EReal from m ((c : Thread nD τ).loc main_arg4)) i))) (s : Fin 4096) (f : Fin 2816) :
    dbAt m c s f = (show Cert.FfnHidRefIdeal.S4096x2816.Idx → EReal from Cert.FfnHidRefIdeal.Read.val_main_v12 (F := Ideal) (m ((c : Thread nD τ).loc main_arg0)) (m ((c : Thread nD τ).loc main_arg1)) (m ((c : Thread nD τ).loc main_arg2)) (m ((c : Thread nD τ).loc main_arg4))) (ix2 s f) := by
  refine Eq.trans ?_ (Cert.FfnHidRefIdeal.Read.db_apply (m ((c : Thread nD τ).loc main_arg0)) (m ((c : Thread nD τ).loc main_arg1)) (m ((c : Thread nD τ).loc main_arg2)) (m ((c : Thread nD τ).loc main_arg4)) s f).symm
  unfold dbAt
  refine (Grad.gate_second _ _).trans ?_
  rw [dh_eq m c hf, a_eq]

theorem out_eq (hf : (∀ i, Grad.IsR ((show Cert.FfnHidIdeal.S4096x1024.Idx → EReal from m ((c : Thread nD τ).loc main_arg0)) i)) ∧ (∀ i, Grad.IsR ((show Cert.FfnHidIdeal.S4096x1024.Idx → EReal from m ((c : Thread nD τ).loc main_arg1)) i)) ∧ (∀ i, Grad.IsR ((show Cert.FfnHidIdeal.S1024x2816.Idx → EReal from m ((c : Thread nD τ).loc main_arg2)) i)) ∧ (∀ i, Grad.IsR ((show Cert.FfnHidIdeal.S1024x2816.Idx → EReal from m ((c : Thread nD τ).loc main_arg3)) i)) ∧ (∀ i, Grad.IsR ((show Cert.FfnHidIdeal.S2816x1024.Idx → EReal from m ((c : Thread nD τ).loc main_arg4)) i))) : G3 m c = Cert.FfnHidRefIdeal.Read.val_main_v18 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  funext i
  idx_vars i
  have h : i0 = 0 ∨ i0 = 1 := by omega
  rcases h with rfl | rfl
  · refine Eq.trans ?_ (Cert.FfnHidRefIdeal.Read.out0_apply (m ((c : Thread nD τ).loc main_arg0)) (m ((c : Thread nD τ).loc main_arg1)) (m ((c : Thread nD τ).loc main_arg2)) (m ((c : Thread nD τ).loc main_arg3)) (m ((c : Thread nD τ).loc main_arg4)) i1 i2).symm
    exact (if_pos rfl).trans (da_eq m c hf i1 i2)
  · refine Eq.trans ?_ (Cert.FfnHidRefIdeal.Read.out1_apply (m ((c : Thread nD τ).loc main_arg0)) (m ((c : Thread nD τ).loc main_arg1)) (m ((c : Thread nD τ).loc main_arg2)) (m ((c : Thread nD τ).loc main_arg3)) (m ((c : Thread nD τ).loc main_arg4)) i1 i2).symm
    exact (if_neg (show ¬ (1 : ℕ) = 0 by decide)).trans (db_eq m c hf i1 i2)

end Cert.FfnHidMeet

end
-- ==== Proof.MergeKernel.lean ====
/- The kernel of the gated merge's gradient, read at an index: the blocks it writes at each grid point and the gate bias's
   accumulated gradient, in terms of the arguments. -/
module

public import proofs.«01_k».proof.Proof.Sigmoid
public import proofs.«01_k».proof.Proof.Gen.MergeIdeal.Value
public import Idealize.ShloMosaic.Lib.Pipeline.ValueKit
public import Idealize.ShloMosaic.Lib.Pipeline.ReadBack
public import Idealize.ShloMosaic.Lib.StableHlo.ReadAt
public import Idealize.ShloMosaic.Lib.Pointwise

@[expose] public section

set_option maxRecDepth 16384

noncomputable section

namespace Cert.MergeIdeal.Value

open Cert.MergeIdeal Cert.MergeIdeal.Gen Idealize.ShloMosaic Idealize.ShloMosaic.TcCoe Idealize.SL.Sem

/-- A weight's row among the devices' packed rows. -/
abbrev devOf (k : Fin 1024) : Fin 8 := ⟨k.val / 128, by omega⟩
abbrev shardOf (k : Fin 1024) : Fin 128 := ⟨k.val % 128, by omega⟩

theorem pay8_apply (v0 : Vec Ideal S256x1024 .bf16) (v1 : Vec Ideal S8x128x1024 .bf16) (p : Fin 256) (k : Fin 1024) :
    k0_pay8 (F := Ideal) v0 v1 (ix2 p k) = ∑ j : Fin 1024, v0 (ix2 p j) * v1 (ix3 (devOf k) (shardOf k) j) := by
  pointwise [k0_pay8]

theorem pay9_apply (v5 v6 : Vec Ideal S256x512 .bf16) (v9 : Vec Ideal S1x1024 .f32) (p : Fin 256) (k : Fin 1024) :
    k0_pay9 (F := Ideal) v5 v6 v9 (ix2 p k) = Grad.sgT ((if h : k.val < 512 then v5 (ix2 p ⟨k.val, h⟩) else v6 (ix2 p ⟨k.val - 512, by omega⟩)) + v9 (ix2 0 k)) := by
  unfold Grad.sgT
  pointwise [k0_pay9]

theorem pay10_apply (v5 v6 : Vec Ideal S256x512 .bf16) (v9 : Vec Ideal S1x1024 .f32) (p : Fin 256) (k : Fin 1024) :
    k0_pay10 (F := Ideal) v5 v6 v9 (ix2 p k) = Grad.sgT ((if h : k.val < 512 then v5 (ix2 p ⟨k.val, h⟩) else v6 (ix2 p ⟨k.val - 512, by omega⟩)) + v9 (ix2 0 k)) := by
  unfold Grad.sgT
  pointwise [k0_pay10]

theorem pay11_apply (v0 : Vec Ideal S256x1024 .bf16) (v1 : Vec Ideal S8x128x1024 .bf16) (v5 v6 : Vec Ideal S256x512 .bf16) (v9 : Vec Ideal S1x1024 .f32) (p : Fin 256) (k : Fin 1024) :
    k0_pay11 (F := Ideal) v0 v1 v5 v6 v9 (ix2 p k) = k0_pay8 (F := Ideal) v0 v1 (ix2 p k) * k0_pay9 (F := Ideal) v5 v6 v9 (ix2 p k) := by
  unfold k0_pay11
  generalize k0_pay8 (F := Ideal) v0 v1 = A
  generalize k0_pay9 (F := Ideal) v5 v6 v9 = B
  pointwise

theorem pay12_apply (A B : FVec Ideal S256x1024 .f32) (p : Fin 256) (k : Fin 1024) : k0_pay12 (F := Ideal) A B (ix2 p k) = A (ix2 p k) * B (ix2 p k) := by
  pointwise [k0_pay12]

theorem pay13_apply (A B : FVec Ideal S256x1024 .f32) (y : Vec Ideal S256x1024 .bf16) (p : Fin 256) (k : Fin 1024) :
    k0_pay13 (F := Ideal) A B y (ix2 p k) = A (ix2 p k) * y (ix2 p k) * B (ix2 p k) * (Grad.WOne - B (ix2 p k)) := by
  pointwise [k0_pay13]

theorem pay14_apply (A B : FVec Ideal S256x1024 .f32) (y : Vec Ideal S256x1024 .bf16) (p : Fin 256) (k : Fin 1024) :
    k0_pay14 (F := Ideal) A B y (ix2 p k) = A (ix2 p k) * y (ix2 p k) * B (ix2 p k) * (Grad.WOne - B (ix2 p k)) := by
  pointwise [k0_pay14]

theorem pay15_apply (A B : FVec Ideal S256x1024 .f32) (y : Vec Ideal S256x1024 .bf16) (p : Fin 256) (k : Fin 1024) :
    k0_pay15 (F := Ideal) A B y (ix3 0 p k) = k0_pay13 (F := Ideal) A B y (ix2 p k) := by
  unfold k0_pay15
  generalize k0_pay13 (F := Ideal) A B y = X
  pointwise

theorem pay16_apply (A B : FVec Ideal S256x1024 .f32) (y : Vec Ideal S256x1024 .bf16) (p : Fin 256) (k : Fin 1024) :
    k0_pay16 (F := Ideal) A B y (ix3 0 p k) = k0_pay14 (F := Ideal) A B y (ix2 p k) := by
  unfold k0_pay16
  generalize k0_pay14 (F := Ideal) A B y = X
  pointwise

theorem pay17_apply (A : FVec Ideal S256x1024 .bf16) (w : Vec Ideal S512x1024 .bf16) (p : Fin 256) (j : Fin 512) :
    k0_pay17 (F := Ideal) A w (ix2 p j) = ∑ k : Fin 1024, A (ix2 p k) * w (ix2 j k) := by
  pointwise [k0_pay17]

theorem pay1_apply (A : FVec Ideal S256x1024 .bf16) (w : Vec Ideal S8x128x1024 .bf16) (p : Fin 256) (j : Fin 1024) :
    k0_pay1 (F := Ideal) A w (ix2 p j) = ∑ k : Fin 1024, A (ix2 p k) * w (ix3 (devOf j) (shardOf j) k) := by
  pointwise [k0_pay1]

theorem pay4_apply (A : FVec Ideal S256x1024 .f32) (k : Fin 1024) : k0_pay4 (F := Ideal) A (ix3 0 0 k) = ∑ p : Fin 256, A (ix2 p k) := by
  pointwise [k0_pay4, k0_pay2]

theorem pay5_apply (A : FVec Ideal S256x1024 .f32) (k : Fin 1024) : k0_pay5 (F := Ideal) A (ix3 0 0 k) = ∑ p : Fin 256, A (ix2 p k) := by
  pointwise [k0_pay5, k0_pay3]

theorem pay6_apply (A : FVec Ideal S256x1024 .f32) (w : Vec Ideal S1x1x1024 .f32) (k : Fin 1024) : k0_pay6 (F := Ideal) A w (ix3 0 0 k) = w (ix3 0 0 k) + ∑ p : Fin 256, A (ix2 p k) := by
  pointwise [k0_pay6, k0_pay2]

theorem pay7_apply (A : FVec Ideal S256x1024 .f32) (w : Vec Ideal S1x1x1024 .f32) (k : Fin 1024) : k0_pay7 (F := Ideal) A w (ix3 0 0 k) = w (ix3 0 0 k) + ∑ p : Fin 256, A (ix2 p k) := by
  pointwise [k0_pay7, k0_pay3]

/-! ## The arrays -/

variable (m : (ℓ : Loc nD τ sig) → Buf (Elt Ideal) ℓ) (c : Dev nD)

/-- The arguments, at their coordinates. -/
abbrev dxA (s : Fin 4096) (k : Fin 1024) : EReal := (show S4096x1024.Idx → EReal from m ((c : Thread nD τ).loc main_arg0)) (ix2 s k)
abbrev oaA (s : Fin 4096) (j : Fin 512) : EReal := (show S4096x512.Idx → EReal from m ((c : Thread nD τ).loc main_arg1)) (ix2 s j)
abbrev obA (s : Fin 4096) (j : Fin 1024) : EReal := (show S4096x1024.Idx → EReal from m ((c : Thread nD τ).loc main_arg2)) (ix2 s j)
abbrev prA (s : Fin 4096) (j : Fin 8192) : EReal := (show S4096x8192.Idx → EReal from m ((c : Thread nD τ).loc main_arg3)) (ix2 s j)
abbrev bgA (j : Fin 2048) : EReal := (show S1x2048.Idx → EReal from m ((c : Thread nD τ).loc main_arg4)) (ix2 0 j)
abbrev waA (j : Fin 512) (k : Fin 1024) : EReal := (show S512x1024.Idx → EReal from m ((c : Thread nD τ).loc main_arg5)) (ix2 j k)
abbrev wbA (j k : Fin 1024) : EReal := (show S1024x1024.Idx → EReal from m ((c : Thread nD τ).loc main_arg6)) (ix2 j k)
abbrev woA (k j : Fin 1024) : EReal := (show S1024x1024.Idx → EReal from m ((c : Thread nD τ).loc main_arg7)) (ix2 k j)

/-- The two branches. -/
def yaAt (s : Fin 4096) (k : Fin 1024) : EReal := ∑ j : Fin 512, oaA m c s j * waA m c j k
def ybAt (s : Fin 4096) (k : Fin 1024) : EReal := ∑ j : Fin 1024, obA m c s j * wbA m c j k

theorem host13 (s : Fin 4096) (k : Fin 1024) : (show S4096x1024.Idx → EReal from V m c main_v13) (ix2 s k) = yaAt m c s k := by
  unfold V yaAt
  after_reads_at

theorem host16 (s : Fin 4096) (k : Fin 1024) : (show S4096x1024.Idx → EReal from V m c main_v16) (ix2 s k) = ybAt m c s k := by
  unfold V ybAt
  after_reads_at

theorem packB (d : Fin 8) (r : Fin 128) (k : Fin 1024) (hf : d.val * 128 + r.val < 1024) : (show S8x320x1024.Idx → EReal from V m c main_v6) (ix3 d ⟨r.val, by omega⟩ k) = wbA m c ⟨d.val * 128 + r.val, hf⟩ k := by
  unfold V
  after_reads_at
  after_reads_at

theorem packO (d : Fin 8) (r : Fin 128) (k : Fin 1024) (hf : d.val * 128 + r.val < 1024) : (show S8x320x1024.Idx → EReal from V m c main_v6) (ix3 d ⟨128 + r.val, by omega⟩ k) = woA m c ⟨d.val * 128 + r.val, hf⟩ k := by
  unfold V
  after_reads_at
  after_reads_at

theorem hostA (j : Fin 512) (k : Fin 1024) : (show S512x1024.Idx → EReal from V m c main_v10) (ix2 j k) = waA m c j k := by
  unfold V
  after_reads_at
  after_reads_at
  rw [dif_neg (by omega), dif_neg (by omega)]
  exact congrArg (waA m c j) (Fin.ext (by show k.val / 128 * 128 + (j.val % 8 * 128 + k.val % 128) % 128 = k.val; omega))

theorem idxs : ∀ t : Fin grid0.N, win0_0.index t = ![t.val, 0] ∧ win0_1.index t = ![0, 1, 0] ∧ win0_2.index t = ![0, 0] ∧ win0_3.index t = ![0, 0, 0] ∧ win0_4.index t = ![t.val, 0] ∧ win0_5.index t = ![t.val, 0]
    ∧ win0_6.index t = ![t.val, 12] ∧ win0_7.index t = ![t.val, 13] ∧ win0_8.index t = ![t.val, 14] ∧ win0_9.index t = ![t.val, 15] ∧ win0_10.index t = ![0, 0] := by decide +kernel

theorem idxo : ∀ t : Fin grid0.N, win0_11.index t = ![t.val, 0] ∧ win0_12.index t = ![t.val, 0] ∧ win0_13.index t = ![0, t.val, 0] ∧ win0_15.index t = ![t.val, 0] ∧ win0_16.index t = ![t.val, 0] := by decide +kernel

/-- The array row of a block's row. -/
def rowOf (t : Fin cfg0.N) (p : Fin 256) : Fin 4096 := ⟨t.val * 256 + p.val, by have := t.isLt; have hN : cfg0.N = 16 := N_0; omega⟩

theorem blk0 (t : Fin cfg0.N) (p : Fin 256) (k : Fin 1024) : (show S256x1024.Idx → EReal from iblk m c 0 t) (ix2 p k) = dxA m c (rowOf t p) k := by
  unfold rowOf
  blk_ext [iblk, V_main_arg0, idxs t]

theorem fill1 (t : Fin cfg0.N) (d : Fin 8) (r : Fin 128) (k : Fin 1024) : (show S8x128x1024.Idx → EReal from X0_1 m c t) (ix3 d r k) = (show S8x320x1024.Idx → EReal from V m c main_v6) (ix3 d ⟨128 + r.val, by omega⟩ k) := by
  show X0_1 m c t (ix3 d r k) = _
  unfold X0_1 Pipeline.Window.fill
  rw [dif_pos (moved0_1 t _)]
  obtain ⟨_, e, _⟩ := idxs t
  unfold iblk
  refine congrArg (V m c main_v6) (funext fun a => Fin.ext ?_)
  match a with
  | ⟨0, _⟩ => show (win0_1.index t 0) * 8 + 1 * d.val = d.val; rw [e]; simp
  | ⟨1, _⟩ => show (win0_1.index t 1) * 128 + 1 * r.val = 128 + r.val; rw [e]; simp
  | ⟨2, _⟩ => show (win0_1.index t 2) * 1024 + 1 * k.val = k.val; rw [e]; simp

theorem fill3 (t : Fin cfg0.N) (d : Fin 8) (r : Fin 128) (k : Fin 1024) : (show S8x128x1024.Idx → EReal from X0_3 m c t) (ix3 d r k) = (show S8x320x1024.Idx → EReal from V m c main_v6) (ix3 d ⟨r.val, by omega⟩ k) := by
  show X0_3 m c t (ix3 d r k) = _
  unfold X0_3 Pipeline.Window.fill
  rw [dif_pos (moved0_3 t _)]
  obtain ⟨_, _, _, e, _⟩ := idxs t
  unfold iblk
  refine congrArg (V m c main_v6) (funext fun a => Fin.ext ?_)
  match a with
  | ⟨0, _⟩ => show (win0_3.index t 0) * 8 + 1 * d.val = d.val; rw [e]; simp
  | ⟨1, _⟩ => show (win0_3.index t 1) * 128 + 1 * r.val = r.val; rw [e]; simp
  | ⟨2, _⟩ => show (win0_3.index t 2) * 1024 + 1 * k.val = k.val; rw [e]; simp

theorem blk1 (t : Fin cfg0.N) (k j : Fin 1024) : (show S8x128x1024.Idx → EReal from X0_1 m c t) (ix3 (devOf k) (shardOf k) j) = woA m c k j := by
  refine (fill1 m c t _ _ _).trans ((packO m c (devOf k) (shardOf k) j (by show k.val / 128 * 128 + k.val % 128 < 1024; omega)).trans ?_)
  rw [show (⟨(devOf k).val * 128 + (shardOf k).val, _⟩ : Fin 1024) = k from Fin.ext (by show k.val / 128 * 128 + k.val % 128 = k.val; omega)]

theorem blk3 (t : Fin cfg0.N) (j k : Fin 1024) : (show S8x128x1024.Idx → EReal from X0_3 m c t) (ix3 (devOf j) (shardOf j) k) = wbA m c j k := by
  refine (fill3 m c t _ _ _).trans ((packB m c (devOf j) (shardOf j) k (by show j.val / 128 * 128 + j.val % 128 < 1024; omega)).trans ?_)
  rw [show (⟨(devOf j).val * 128 + (shardOf j).val, _⟩ : Fin 1024) = j from Fin.ext (by show j.val / 128 * 128 + j.val % 128 = j.val; omega)]

theorem blk2 (t : Fin cfg0.N) (j : Fin 512) (k : Fin 1024) : (show S512x1024.Idx → EReal from iblk m c 2 t) (ix2 j k) = waA m c j k := by
  rw [← hostA]
  blk_ext [iblk, idxs t]

theorem blk4 (t : Fin cfg0.N) (p : Fin 256) (k : Fin 1024) : (show S256x1024.Idx → EReal from iblk m c 4 t) (ix2 p k) = yaAt m c (rowOf t p) k := by
  rw [← host13]
  unfold rowOf
  blk_ext [iblk, idxs t]

theorem blk5 (t : Fin cfg0.N) (p : Fin 256) (k : Fin 1024) : (show S256x1024.Idx → EReal from iblk m c 5 t) (ix2 p k) = ybAt m c (rowOf t p) k := by
  rw [← host16]
  unfold rowOf
  blk_ext [iblk, idxs t]

theorem blk6 (t : Fin cfg0.N) (p : Fin 256) (j : Fin 512) : (show S256x512.Idx → EReal from iblk m c 6 t) (ix2 p j) = prA m c (rowOf t p) ⟨6144 + j.val, by omega⟩ := by
  unfold rowOf
  blk_ext [iblk, V_main_arg3, idxs t]

theorem blk7 (t : Fin cfg0.N) (p : Fin 256) (j : Fin 512) : (show S256x512.Idx → EReal from iblk m c 7 t) (ix2 p j) = prA m c (rowOf t p) ⟨6656 + j.val, by omega⟩ := by
  unfold rowOf
  blk_ext [iblk, V_main_arg3, idxs t]

theorem blk8 (t : Fin cfg0.N) (p : Fin 256) (j : Fin 512) : (show S256x512.Idx → EReal from iblk m c 8 t) (ix2 p j) = prA m c (rowOf t p) ⟨7168 + j.val, by omega⟩ := by
  unfold rowOf
  blk_ext [iblk, V_main_arg3, idxs t]

theorem blk9 (t : Fin cfg0.N) (p : Fin 256) (j : Fin 512) : (show S256x512.Idx → EReal from iblk m c 9 t) (ix2 p j) = prA m c (rowOf t p) ⟨7680 + j.val, by omega⟩ := by
  unfold rowOf
  blk_ext [iblk, V_main_arg3, idxs t]

theorem blk10 (t : Fin cfg0.N) (j : Fin 2048) : (show S1x2048.Idx → EReal from iblk m c 10 t) (ix2 0 j) = bgA m c j := by
  blk_ext [iblk, V_main_arg4, idxs t]

/-- The two halves of the gate's bias that the body loads. -/
theorem ldLo (X : Vec Ideal S1x2048 .f32) (k : Fin 1024) : View.ld X (Rect.unit ![0, 0] ![1, 1024] inb_S1x2048_S1x1024_0_0) (ix2 0 k) = X (ix2 0 ⟨k.val, by omega⟩) := by
  refine congrArg X (funext fun a => Fin.ext ?_)
  match a with
  | ⟨0, _⟩ => rfl
  | ⟨1, _⟩ => show 0 + 1 * k.val = k.val; omega
theorem ldHi (X : Vec Ideal S1x2048 .f32) (k : Fin 1024) : View.ld X (Rect.unit ![0, 1024] ![1, 1024] inb_S1x2048_S1x1024_0_1024) (ix2 0 k) = X (ix2 0 ⟨1024 + k.val, by omega⟩) := by
  refine congrArg X (funext fun a => Fin.ext ?_)
  match a with
  | ⟨0, _⟩ => rfl
  | ⟨1, _⟩ => show 1024 + 1 * k.val = 1024 + k.val; omega

/-- What the output product passes back, and the two gates. -/
def dmAt (s : Fin 4096) (k : Fin 1024) : EReal := ∑ j : Fin 1024, dxA m c s j * woA m c k j
def gaAt (s : Fin 4096) (k : Fin 1024) : EReal := Grad.sgT (prA m c s ⟨6144 + k.val, by omega⟩ + bgA m c ⟨k.val, by omega⟩)
def gbAt (s : Fin 4096) (k : Fin 1024) : EReal := Grad.sgT (prA m c s ⟨7168 + k.val, by omega⟩ + bgA m c ⟨1024 + k.val, by omega⟩)

/-- The gradients of the branches and of the gates' inputs. -/
def dyaAt (s : Fin 4096) (k : Fin 1024) : EReal := dmAt m c s k * gaAt m c s k
def dybAt (s : Fin 4096) (k : Fin 1024) : EReal := dmAt m c s k * gbAt m c s k
def dgaAt (s : Fin 4096) (k : Fin 1024) : EReal := dmAt m c s k * yaAt m c s k * gaAt m c s k * (Grad.WOne - gaAt m c s k)
def dgbAt (s : Fin 4096) (k : Fin 1024) : EReal := dmAt m c s k * ybAt m c s k * gbAt m c s k * (Grad.WOne - gbAt m c s k)
def dgAt (h : ℕ) (s : Fin 4096) (k : Fin 1024) : EReal := if h = 0 then dgaAt m c s k else dgbAt m c s k

/-- The results. -/
def G11 : S4096x1024.Idx → EReal := fun i => dyaAt m c (i 0) (i 1)
def G12 : S4096x1024.Idx → EReal := fun i => dybAt m c (i 0) (i 1)
def G13 : S2x4096x1024.Idx → EReal := fun i => dgAt m c (i 0).val (i 1) (i 2)
def G14 : S2x1x1024.Idx → EReal := fun i => 0 + ∑ t : Fin cfg0.N, ∑ p : Fin 256, dgAt m c (i 0).val (rowOf t p) (i 2)
def G15 : S4096x512.Idx → EReal := fun i => ∑ k : Fin 1024, dyaAt m c (i 0) k * waA m c (i 1) k
def G16 : S4096x1024.Idx → EReal := fun i => ∑ k : Fin 1024, dybAt m c (i 0) k * wbA m c (i 1) k

/-- The parts of one grid point. -/
abbrev bgLo (t : Fin cfg0.N) : Vec Ideal S1x1024 .f32 := View.ld (iblk m c 10 t) (Rect.unit ![0, 0] ![1, 1024] inb_S1x2048_S1x1024_0_0)
abbrev bgHi (t : Fin cfg0.N) : Vec Ideal S1x1024 .f32 := View.ld (iblk m c 10 t) (Rect.unit ![0, 1024] ![1, 1024] inb_S1x2048_S1x1024_0_1024)
abbrev dmB (t : Fin cfg0.N) : FVec Ideal S256x1024 .f32 := k0_pay8 (F := Ideal) (iblk m c 0 t) (X0_1 m c t)
abbrev gaB (t : Fin cfg0.N) : FVec Ideal S256x1024 .f32 := k0_pay9 (F := Ideal) (iblk m c 6 t) (iblk m c 7 t) (bgLo m c t)
abbrev gbB (t : Fin cfg0.N) : FVec Ideal S256x1024 .f32 := k0_pay10 (F := Ideal) (iblk m c 8 t) (iblk m c 9 t) (bgHi m c t)
abbrev dyaB (t : Fin cfg0.N) : FVec Ideal S256x1024 .bf16 := k0_pay11 (F := Ideal) (iblk m c 0 t) (X0_1 m c t) (iblk m c 6 t) (iblk m c 7 t) (bgLo m c t)
abbrev dybB (t : Fin cfg0.N) : FVec Ideal S256x1024 .bf16 := k0_pay12 (F := Ideal) (dmB m c t) (gbB m c t)
abbrev dgaB (t : Fin cfg0.N) : FVec Ideal S256x1024 .f32 := k0_pay13 (F := Ideal) (dmB m c t) (gaB m c t) (iblk m c 4 t)
abbrev dgbB (t : Fin cfg0.N) : FVec Ideal S256x1024 .f32 := k0_pay14 (F := Ideal) (dmB m c t) (gbB m c t) (iblk m c 5 t)

theorem dm_blk (t : Fin cfg0.N) (p : Fin 256) (k : Fin 1024) : dmB m c t (ix2 p k) = dmAt m c (rowOf t p) k := by
  refine (pay8_apply _ _ p k).trans ?_
  unfold dmAt
  exact Finset.sum_congr rfl fun j _ => congrArg₂ (· * ·) (blk0 m c t p j) (blk1 m c t k j)

theorem ga_blk (t : Fin cfg0.N) (p : Fin 256) (k : Fin 1024) : gaB m c t (ix2 p k) = gaAt m c (rowOf t p) k := by
  refine (pay9_apply _ _ _ p k).trans ?_
  unfold gaAt
  refine congrArg Grad.sgT (congrArg₂ (· + ·) ?_ ((ldLo _ k).trans (blk10 m c t _)))
  by_cases h : k.val < 512
  · rw [dif_pos h]
    exact blk6 m c t p _
  · rw [dif_neg h]
    refine (blk7 m c t p _).trans (congrArg (prA m c (rowOf t p)) (Fin.ext ?_))
    show 6656 + (k.val - 512) = 6144 + k.val
    omega

theorem gb_blk (t : Fin cfg0.N) (p : Fin 256) (k : Fin 1024) : gbB m c t (ix2 p k) = gbAt m c (rowOf t p) k := by
  refine (pay10_apply _ _ _ p k).trans ?_
  unfold gbAt
  refine congrArg Grad.sgT (congrArg₂ (· + ·) ?_ ((ldHi _ k).trans (blk10 m c t _)))
  by_cases h : k.val < 512
  · rw [dif_pos h]
    exact blk8 m c t p _
  · rw [dif_neg h]
    refine (blk9 m c t p _).trans (congrArg (prA m c (rowOf t p)) (Fin.ext ?_))
    show 7680 + (k.val - 512) = 7168 + k.val
    omega

theorem dya_blk (t : Fin cfg0.N) (p : Fin 256) (k : Fin 1024) : dyaB m c t (ix2 p k) = dyaAt m c (rowOf t p) k :=
  (pay11_apply _ _ _ _ _ p k).trans (congrArg₂ (· * ·) (dm_blk m c t p k) (ga_blk m c t p k))

theorem dyb_blk (t : Fin cfg0.N) (p : Fin 256) (k : Fin 1024) : dybB m c t (ix2 p k) = dybAt m c (rowOf t p) k :=
  (pay12_apply _ _ p k).trans (congrArg₂ (· * ·) (dm_blk m c t p k) (gb_blk m c t p k))

theorem dga_blk (t : Fin cfg0.N) (p : Fin 256) (k : Fin 1024) : dgaB m c t (ix2 p k) = dgaAt m c (rowOf t p) k := by
  refine (pay13_apply _ _ _ p k).trans ?_
  unfold dgaAt
  rw [dm_blk, ga_blk, ← blk4]

theorem dgb_blk (t : Fin cfg0.N) (p : Fin 256) (k : Fin 1024) : dgbB m c t (ix2 p k) = dgbAt m c (rowOf t p) k := by
  refine (pay14_apply _ _ _ p k).trans ?_
  unfold dgbAt
  rw [dm_blk, gb_blk, ← blk5]

theorem doa_blk (t : Fin cfg0.N) (p : Fin 256) (j : Fin 512) : k0_pay17 (F := Ideal) (dyaB m c t) (iblk m c 2 t) (ix2 p j) = G15 m c (ix2 (rowOf t p) j) :=
  (pay17_apply _ _ p j).trans (Finset.sum_congr rfl fun k _ => congrArg₂ (· * ·) (dya_blk m c t p k) (blk2 m c t j k))

theorem dob_blk (t : Fin cfg0.N) (p : Fin 256) (j : Fin 1024) : k0_pay1 (F := Ideal) (dybB m c t) (X0_3 m c t) (ix2 p j) = G16 m c (ix2 (rowOf t p) j) :=
  (pay1_apply _ _ p j).trans (Finset.sum_congr rfl fun k _ => congrArg₂ (· * ·) (dyb_blk m c t p k) (blk3 m c t j k))

/-- A block of two stores, one for each gate. -/
theorem canon13 (wb wa : S1x256x1024.Idx → EReal) (y : S2x256x1024.Idx) (v : EReal) (ha : (y 0).val = 0 → wa (ix3 0 (y 1) (y 2)) = v) (hb : (y 0).val = 1 → wb (ix3 0 (y 1) (y 2)) = v) :
    View.canon ([⟨Rect.unit ![1, 0, 0] ![1, 256, 1024] inb_S2x256x1024_S1x256x1024_1_0_0, wb⟩, ⟨Rect.unit ![0, 0, 0] ![1, 256, 1024] inb_S2x256x1024_S1x256x1024_0_0_0, wa⟩] : List (View.Piece (Elt Ideal) S2x256x1024 .bf16)) y = v := by
  idx_vars y
  canon_tiles x h
  all_goals idx_vars x
  all_goals obtain rfl : x0 = 0 := Subsingleton.elim _ _
  all_goals obtain rfl : y1 = x1 := Fin.ext h1
  all_goals obtain rfl : y2 = x2 := Fin.ext h2
  · exact hb h0
  · exact ha h0

theorem canon14 (wb wa : S1x1x1024.Idx → EReal) (y : S2x1x1024.Idx) (v : EReal) (ha : (y 0).val = 0 → wa (ix3 0 0 (y 2)) = v) (hb : (y 0).val = 1 → wb (ix3 0 0 (y 2)) = v) :
    View.canon ([⟨Rect.unit ![1, 0, 0] ![1, 1, 1024] inb_S2x1x1024_S1x1x1024_1_0_0, wb⟩, ⟨Rect.unit ![0, 0, 0] ![1, 1, 1024] inb_S2x1x1024_S1x1x1024_0_0_0, wa⟩] : List (View.Piece (Elt Ideal) S2x1x1024 .f32)) y = v := by
  idx_vars y
  canon_tiles x h
  all_goals idx_vars x
  all_goals obtain rfl : x0 = 0 := Subsingleton.elim _ _
  all_goals obtain rfl : x1 = 0 := Subsingleton.elim _ _
  all_goals obtain rfl : y2 = x2 := Fin.ext h2
  · exact hb h0
  · exact ha h0

theorem place11 (t : Fin cfg0.N) (y : S256x1024.Idx) : ((cfg0.win 11).blk t).view.emb y = (ix2 (rowOf t (y 0)) (y 1) : S4096x1024.Idx) := by
  obtain ⟨e, _⟩ := idxo t
  funext a
  apply Fin.ext
  match a with
  | ⟨0, _⟩ => show (win0_11.index t 0) * 256 + 1 * (y 0).val = t.val * 256 + (y 0).val; rw [e]; simp
  | ⟨1, _⟩ => show (win0_11.index t 1) * 1024 + 1 * (y 1).val = (y 1).val; rw [e]; simp

theorem place12 (t : Fin cfg0.N) (y : S256x1024.Idx) : ((cfg0.win 12).blk t).view.emb y = (ix2 (rowOf t (y 0)) (y 1) : S4096x1024.Idx) := by
  obtain ⟨_, e, _⟩ := idxo t
  funext a
  apply Fin.ext
  match a with
  | ⟨0, _⟩ => show (win0_12.index t 0) * 256 + 1 * (y 0).val = t.val * 256 + (y 0).val; rw [e]; simp
  | ⟨1, _⟩ => show (win0_12.index t 1) * 1024 + 1 * (y 1).val = (y 1).val; rw [e]; simp

theorem place13 (t : Fin cfg0.N) (y : S2x256x1024.Idx) : ((cfg0.win 13).blk t).view.emb y = (ix3 (y 0) (rowOf t (y 1)) (y 2) : S2x4096x1024.Idx) := by
  obtain ⟨_, _, e, _⟩ := idxo t
  funext a
  apply Fin.ext
  match a with
  | ⟨0, _⟩ => show (win0_13.index t 0) * 2 + 1 * (y 0).val = (y 0).val; rw [e]; simp
  | ⟨1, _⟩ => show (win0_13.index t 1) * 256 + 1 * (y 1).val = t.val * 256 + (y 1).val; rw [e]; simp
  | ⟨2, _⟩ => show (win0_13.index t 2) * 1024 + 1 * (y 2).val = (y 2).val; rw [e]; simp

theorem place15 (t : Fin cfg0.N) (y : S256x512.Idx) : ((cfg0.win 15).blk t).view.emb y = (ix2 (rowOf t (y 0)) (y 1) : S4096x512.Idx) := by
  obtain ⟨_, _, _, e, _⟩ := idxo t
  funext a
  apply Fin.ext
  match a with
  | ⟨0, _⟩ => show (win0_15.index t 0) * 256 + 1 * (y 0).val = t.val * 256 + (y 0).val; rw [e]; simp
  | ⟨1, _⟩ => show (win0_15.index t 1) * 512 + 1 * (y 1).val = (y 1).val; rw [e]; simp

theorem place16 (t : Fin cfg0.N) (y : S256x1024.Idx) : ((cfg0.win 16).blk t).view.emb y = (ix2 (rowOf t (y 0)) (y 1) : S4096x1024.Idx) := by
  obtain ⟨_, _, _, _, e⟩ := idxo t
  funext a
  apply Fin.ext
  match a with
  | ⟨0, _⟩ => show (win0_16.index t 0) * 256 + 1 * (y 0).val = t.val * 256 + (y 0).val; rw [e]; simp
  | ⟨1, _⟩ => show (win0_16.index t 1) * 1024 + 1 * (y 1).val = (y 1).val; rw [e]; simp

theorem final11 : (dats m 0 c).arrAt 11 cfg0.N = G11 m c := by
  refine (dats m 0 c).arrAt_eq_of_covers 11 _ (by decide +kernel) fun t hf y => ?_
  have hN : cfg0.N = 16 := N_0
  rw [place11 t y]
  blk_simp
  rw [after0_11]
  idx_vars y
  by_cases h : t.val % 16 = 0
  · have h1 : ¬1 ≤ t.val := by have : t.val < cfg0.N := t.isLt; omega
    rw [outsAt0_A m c t h h1]
    frame_out
    exact dya_blk m c t y0 y1
  · have h1 : 1 ≤ t.val := by omega
    rw [outsAt0_B m c t h h1]
    frame_out
    exact dya_blk m c t y0 y1

theorem final12 : (dats m 0 c).arrAt 12 cfg0.N = G12 m c := by
  refine (dats m 0 c).arrAt_eq_of_covers 12 _ (by decide +kernel) fun t hf y => ?_
  have hN : cfg0.N = 16 := N_0
  rw [place12 t y]
  blk_simp
  rw [after0_12]
  idx_vars y
  by_cases h : t.val % 16 = 0
  · have h1 : ¬1 ≤ t.val := by have : t.val < cfg0.N := t.isLt; omega
    rw [outsAt0_A m c t h h1]
    frame_out
    exact dyb_blk m c t y0 y1
  · have h1 : 1 ≤ t.val := by omega
    rw [outsAt0_B m c t h h1]
    frame_out
    exact dyb_blk m c t y0 y1

theorem final13 : (dats m 0 c).arrAt 13 cfg0.N = G13 m c := by
  refine (dats m 0 c).arrAt_eq_of_covers 13 _ (by decide +kernel) fun t hf y => ?_
  have hN : cfg0.N = 16 := N_0
  rw [place13 t y]
  blk_simp
  rw [after0_13]
  by_cases h : t.val % 16 = 0
  · have h1 : ¬1 ≤ t.val := by have : t.val < cfg0.N := t.isLt; omega
    rw [outsAt0_A m c t h h1]
    frame_out
    exact canon13 _ _ y _ (fun e => ((pay15_apply _ _ _ (y 1) (y 2)).trans (dga_blk m c t (y 1) (y 2))).trans (if_pos e).symm)
      (fun e => ((pay16_apply _ _ _ (y 1) (y 2)).trans (dgb_blk m c t (y 1) (y 2))).trans (if_neg (fun h0 => absurd (e.symm.trans h0) (by decide))).symm)
  · have h1 : 1 ≤ t.val := by omega
    rw [outsAt0_B m c t h h1]
    frame_out
    exact canon13 _ _ y _ (fun e => ((pay15_apply _ _ _ (y 1) (y 2)).trans (dga_blk m c t (y 1) (y 2))).trans (if_pos e).symm)
      (fun e => ((pay16_apply _ _ _ (y 1) (y 2)).trans (dgb_blk m c t (y 1) (y 2))).trans (if_neg (fun h0 => absurd (e.symm.trans h0) (by decide))).symm)

theorem final15 : (dats m 0 c).arrAt 15 cfg0.N = G15 m c := by
  refine (dats m 0 c).arrAt_eq_of_covers 15 _ (by decide +kernel) fun t hf y => ?_
  have hN : cfg0.N = 16 := N_0
  rw [place15 t y]
  blk_simp
  rw [after0_15]
  idx_vars y
  by_cases h : t.val % 16 = 0
  · have h1 : ¬1 ≤ t.val := by have : t.val < cfg0.N := t.isLt; omega
    rw [outsAt0_A m c t h h1]
    frame_out
    exact doa_blk m c t y0 y1
  · have h1 : 1 ≤ t.val := by omega
    rw [outsAt0_B m c t h h1]
    frame_out
    exact doa_blk m c t y0 y1

theorem final16 : (dats m 0 c).arrAt 16 cfg0.N = G16 m c := by
  refine (dats m 0 c).arrAt_eq_of_covers 16 _ (by decide +kernel) fun t hf y => ?_
  have hN : cfg0.N = 16 := N_0
  rw [place16 t y]
  blk_simp
  rw [after0_16]
  idx_vars y
  by_cases h : t.val % 16 = 0
  · have h1 : ¬1 ≤ t.val := by have : t.val < cfg0.N := t.isLt; omega
    rw [outsAt0_A m c t h h1]
    frame_out
    exact dob_blk m c t y0 y1
  · have h1 : 1 ≤ t.val := by omega
    rw [outsAt0_B m c t h h1]
    frame_out
    exact dob_blk m c t y0 y1

theorem dbg_blk (t : Fin cfg0.N) (k : Fin 1024) : (∑ p : Fin 256, dgaB m c t (ix2 p k)) = ∑ p : Fin 256, dgaAt m c (rowOf t p) k :=
  Finset.sum_congr rfl fun p _ => dga_blk m c t p k
theorem dbh_blk (t : Fin cfg0.N) (k : Fin 1024) : (∑ p : Fin 256, dgbB m c t (ix2 p k)) = ∑ p : Fin 256, dgbAt m c (rowOf t p) k :=
  Finset.sum_congr rfl fun p _ => dgb_blk m c t p k

/-- One grid point's sum, for each gate. -/
theorem sum0 (t : Fin cfg0.N) (h : ℕ) (k : Fin 1024) (e : h = 0) : (∑ p : Fin 256, dgAt m c h (rowOf t p) k) = ∑ p : Fin 256, dgaAt m c (rowOf t p) k :=
  Finset.sum_congr rfl fun p _ => if_pos e
theorem sum1 (t : Fin cfg0.N) (h : ℕ) (k : Fin 1024) (e : h = 1) : (∑ p : Fin 256, dgAt m c h (rowOf t p) k) = ∑ p : Fin 256, dgbAt m c (rowOf t p) k :=
  Finset.sum_congr rfl fun p _ => if_neg (by omega)

/-- What one grid point adds to the bias's gradient. -/
def ptAt (t : Fin cfg0.N) (j : S2x1x1024.Idx) : EReal := ∑ p : Fin 256, dgAt m c (j 0).val (rowOf t p) (j 2)

theorem first14 (t : Fin cfg0.N) (h : t.val % 16 = 0) (h1 : ¬1 ≤ t.val) (y : S2x1x1024.Idx) :
    (show S2x1x1024.Idx → EReal from (outsAt0 m c t.val t.isLt).2.2.2.1) y = ptAt m c t y := by
  rw [outsAt0_A m c t h h1]
  frame_out
  exact canon14 _ _ y _ (fun e => ((pay4_apply _ (y 2)).trans (dbg_blk m c t (y 2))).trans (sum0 m c t _ _ e).symm)
    (fun e => ((pay5_apply _ (y 2)).trans (dbh_blk m c t (y 2))).trans (sum1 m c t _ _ e).symm)

/-- The carried rows that the body loads. -/
theorem ldRow0 (W : Vec Ideal S2x1x1024 .f32) (y : S2x1x1024.Idx) (e : (y 0).val = 0) : View.ld W (Rect.unit ![0, 0, 0] ![1, 1, 1024] inb_S2x1x1024_S1x1x1024_0_0_0) (ix3 0 0 (y 2)) = W y := by
  refine congrArg W (funext fun a => Fin.ext ?_)
  match a with
  | ⟨0, _⟩ => exact e.symm
  | ⟨1, _⟩ => have h : (y 1).val < 1 := (y 1).isLt; show 0 + 1 * 0 = (y 1).val; omega
  | ⟨2, _⟩ => show 0 + 1 * (y 2).val = (y 2).val; omega
theorem ldRow1 (W : Vec Ideal S2x1x1024 .f32) (y : S2x1x1024.Idx) (e : (y 0).val = 1) : View.ld W (Rect.unit ![1, 0, 0] ![1, 1, 1024] inb_S2x1x1024_S1x1x1024_1_0_0) (ix3 0 0 (y 2)) = W y := by
  refine congrArg W (funext fun a => Fin.ext ?_)
  match a with
  | ⟨0, _⟩ => exact e.symm
  | ⟨1, _⟩ => have h : (y 1).val < 1 := (y 1).isLt; show 0 + 1 * 0 = (y 1).val; omega
  | ⟨2, _⟩ => show 0 + 1 * (y 2).val = (y 2).val; omega

theorem step14 (t : Fin cfg0.N) (h : ¬t.val % 16 = 0) (h1 : 1 ≤ t.val) (y : S2x1x1024.Idx) :
    (show S2x1x1024.Idx → EReal from (outsAt0 m c t.val t.isLt).2.2.2.1) y
      = (show S2x1x1024.Idx → EReal from (outsAt0 m c (t.val - 1) (Nat.lt_of_le_of_lt (Nat.sub_le _ _) t.isLt)).2.2.2.1) y + ptAt m c t y := by
  rw [outsAt0_B m c t h h1]
  generalize (outsAt0 m c (t.val - 1) _).2.2.2.1 = W
  frame_out
  exact canon14 _ _ y _ (fun e => (pay6_apply _ _ (y 2)).trans (congrArg₂ (· + ·) (ldRow0 W y e) ((dbg_blk m c t (y 2)).trans (sum0 m c t _ _ e).symm)))
    (fun e => (pay7_apply _ _ (y 2)).trans (congrArg₂ (· + ·) (ldRow1 W y e) ((dbh_blk m c t (y 2)).trans (sum1 m c t _ _ e).symm)))

theorem final14 : (dats m 0 c).arrAt 14 cfg0.N = G14 m c := by
  refine (dats m 0 c).arrAt_eq_of_after_last 14 t0_15 (by decide +kernel) _ fun j => ?_
  blk_simp
  rw [after0_14]
  have hN : cfg0.N = 16 := N_0
  refine Eq.trans (Pipeline.eq_sum_fin_of_reset_step_apply_last (fun n h => ((outsAt0 m c n h).2.2.2.1 : S2x1x1024.Idx → EReal)) 16 (fun _ => (0 : EReal))
    (ptAt m c) (fun t h j => ?_) (fun t h j => ?_) N_0.le t0_15 rfl j) rfl
  · exact (first14 m c t h (by have := t.isLt; omega) j).trans (zero_add _).symm
  · exact step14 m c t h (by omega) j

end Cert.MergeIdeal.Value

end
-- ==== Proof.MergeRef.lean ====
/- The derivative of the reference's lines for the gated merge, read at an index. -/
module

public import proofs.«01_k».proof.Proof.Sigmoid
public import proofs.«01_k».proof.Proof.Host
public import proofs.«01_k».proof.Proof.Gen.MergeRefIdeal.Read
public import Idealize.ShloMosaic.Lib.Pointwise

@[expose] public section

set_option maxRecDepth 16384

noncomputable section

namespace Cert.MergeRefIdeal.Read

open Cert.MergeRefIdeal Cert.MergeRefIdeal.Gen Idealize.ShloMosaic Idealize.ShloMosaic.TcCoe Idealize.SL.Sem

variable (x0 : S4096x1024.Idx → EReal) (x1 : S4096x512.Idx → EReal) (x2 : S4096x1024.Idx → EReal) (x3 : S4096x8192.Idx → EReal) (x4 : S1x2048.Idx → EReal)
  (x5 : S512x1024.Idx → EReal) (x6 x7 : S1024x1024.Idx → EReal)

/-- The two branches, what the output product passes back, and the two gates. -/
def ya (s : Fin 4096) (k : Fin 1024) : EReal := ∑ j : Fin 512, x1 (ix2 s j) * x5 (ix2 j k)
def yb (s : Fin 4096) (k : Fin 1024) : EReal := ∑ j : Fin 1024, x2 (ix2 s j) * x6 (ix2 j k)
def dm (s : Fin 4096) (k : Fin 1024) : EReal := ∑ j : Fin 1024, x0 (ix2 s j) * x7 (ix2 k j)
def sga (s : Fin 4096) (k : Fin 1024) : EReal := Grad.sgE (x3 (ix2 s ⟨6144 + k.val, by omega⟩) + x4 (ix2 0 ⟨k.val, by omega⟩))
def sgb (s : Fin 4096) (k : Fin 1024) : EReal := Grad.sgE (x3 (ix2 s ⟨7168 + k.val, by omega⟩) + x4 (ix2 0 ⟨1024 + k.val, by omega⟩))

theorem ya_apply (s : Fin 4096) (k : Fin 1024) : (show S4096x1024.Idx → EReal from val_main_v2 (F := Ideal) x1 x5) (ix2 s k) = ya x1 x5 s k := by
  unfold ya
  pointwise [val_main_v2, val_main_v0]

theorem yb_apply (s : Fin 4096) (k : Fin 1024) : (show S4096x1024.Idx → EReal from val_main_v3 (F := Ideal) x2 x6) (ix2 s k) = yb x2 x6 s k := by
  unfold yb
  pointwise [val_main_v3, val_main_v1]

theorem dm_apply (s : Fin 4096) (k : Fin 1024) : (show S4096x1024.Idx → EReal from val_main_v29 (F := Ideal) x0 x7) (ix2 s k) = dm x0 x7 s k := by
  unfold dm
  pointwise [val_main_v29, val_main_v28]

theorem za_apply (s : Fin 4096) (k : Fin 1024) : (show S4096x2x1024.Idx → EReal from val_main_v10 (F := Ideal) x3 x4) (ix3 s 0 k) = x3 (ix2 s ⟨6144 + k.val, by omega⟩) + x4 (ix2 0 ⟨k.val, by omega⟩) := by
  pointwise [val_main_v10, val_main_v9, val_main_v8, val_main_v7, val_main_v6, val_main_v5, val_main_v4]

theorem zb_apply (s : Fin 4096) (k : Fin 1024) : (show S4096x2x1024.Idx → EReal from val_main_v10 (F := Ideal) x3 x4) (ix3 s 1 k) = x3 (ix2 s ⟨7168 + k.val, by omega⟩) + x4 (ix2 0 ⟨1024 + k.val, by omega⟩) := by
  pointwise [val_main_v10, val_main_v9, val_main_v8, val_main_v7, val_main_v6, val_main_v5, val_main_v4]
  exact congrArg (fun j => x3 (ix2 s j) + x4 (ix2 0 ⟨1024 + k.val, by omega⟩)) (Fin.ext (by show 6144 + (1024 + k.val) = 7168 + k.val; omega))

theorem sig_apply (s : Fin 4096) (h : Fin 2) (k : Fin 1024) : (show S4096x2x1024.Idx → EReal from val_main_v16 (F := Ideal) x3 x4) (ix3 s h k) = Grad.sgE ((show S4096x2x1024.Idx → EReal from val_main_v10 (F := Ideal) x3 x4) (ix3 s h k)) := by
  unfold Grad.sgE val_main_v16 val_main_v14 val_main_v12 val_main_v11
  generalize val_main_v10 (F := Ideal) x3 x4 = Z
  pointwise [val_main_v15, val_main_v13, val_main_cst, val_main_cst_0]

theorem sga_apply (s : Fin 4096) (k : Fin 1024) : (show S4096x2x1024.Idx → EReal from val_main_v16 (F := Ideal) x3 x4) (ix3 s 0 k) = sga x3 x4 s k := by
  rw [sig_apply, za_apply]
  rfl

theorem sgb_apply (s : Fin 4096) (k : Fin 1024) : (show S4096x2x1024.Idx → EReal from val_main_v16 (F := Ideal) x3 x4) (ix3 s 1 k) = sgb x3 x4 s k := by
  rw [sig_apply, zb_apply]
  rfl

/-- The gradients of the two branches. -/
theorem dya_apply (s : Fin 4096) (k : Fin 1024) : (show S4096x1024.Idx → EReal from val_main_v34 (F := Ideal) x0 x3 x4 x7) (ix2 s k) = sga x3 x4 s k * dm x0 x7 s k := by
  rw [← sga_apply, ← dm_apply]
  unfold val_main_v34 val_main_v21 val_main_v20
  generalize val_main_v16 (F := Ideal) x3 x4 = S
  generalize val_main_v29 (F := Ideal) x0 x7 = D
  pointwise

theorem dyb_apply (s : Fin 4096) (k : Fin 1024) : (show S4096x1024.Idx → EReal from val_main_v30 (F := Ideal) x0 x3 x4 x7) (ix2 s k) = sgb x3 x4 s k * dm x0 x7 s k := by
  rw [← sgb_apply, ← dm_apply]
  unfold val_main_v30 val_main_v24 val_main_v23
  generalize val_main_v16 (F := Ideal) x3 x4 = S
  generalize val_main_v29 (F := Ideal) x0 x7 = D
  pointwise

/-- What each branch gives its gate, in the stacked gates' place. -/
theorem first_zero (s : Fin 4096) (k : Fin 1024) : (show S4096x2x1024.Idx → EReal from val_main_v33 (F := Ideal) x0 x2 x6 x7) (ix3 s 0 k) = 0 := by
  unfold val_main_v33
  refine (Grad.pad_of_not _ _ _ _ _ 1 (by show ¬ (1 ≤ (0 : ℕ) ∧ _); omega)).trans ?_
  pointwise [val_main_cst_2]

theorem second_val (s : Fin 4096) (k : Fin 1024) : (show S4096x2x1024.Idx → EReal from val_main_v33 (F := Ideal) x0 x2 x6 x7) (ix3 s 1 k) = dm x0 x7 s k * yb x2 x6 s k := by
  rw [← dm_apply, ← yb_apply]
  unfold val_main_v33
  refine (Grad.pad_of_mem _ _ _ _ _ (ix3 s 0 k) (fun a => ?_)).trans ?_
  · match a with
    | ⟨0, _⟩ => show s.val = 0 + (0 + 1) * s.val; omega
    | ⟨1, _⟩ => rfl
    | ⟨2, _⟩ => show k.val = 0 + (0 + 1) * k.val; omega
  · unfold val_main_v32 val_main_v31
    generalize val_main_v29 (F := Ideal) x0 x7 = D
    generalize val_main_v3 (F := Ideal) x2 x6 = Y
    pointwise

theorem first_val (s : Fin 4096) (k : Fin 1024) : (show S4096x2x1024.Idx → EReal from val_main_v37 (F := Ideal) x0 x1 x5 x7) (ix3 s 0 k) = dm x0 x7 s k * ya x1 x5 s k := by
  rw [← dm_apply, ← ya_apply]
  unfold val_main_v37
  refine (Grad.pad_of_mem _ _ _ _ _ (ix3 s 0 k) (fun a => ?_)).trans ?_
  · match a with
    | ⟨0, _⟩ => show s.val = 0 + (0 + 1) * s.val; omega
    | ⟨1, _⟩ => rfl
    | ⟨2, _⟩ => show k.val = 0 + (0 + 1) * k.val; omega
  · unfold val_main_v36 val_main_v35
    generalize val_main_v29 (F := Ideal) x0 x7 = D
    generalize val_main_v2 (F := Ideal) x1 x5 = Y
    pointwise

theorem second_zero (s : Fin 4096) (k : Fin 1024) : (show S4096x2x1024.Idx → EReal from val_main_v37 (F := Ideal) x0 x1 x5 x7) (ix3 s 1 k) = 0 := by
  unfold val_main_v37
  refine (Grad.pad_of_not _ _ _ _ _ 1 (by show ¬ (0 ≤ (1 : ℕ) ∧ ((1 : ℕ) - 0) % (0 + 1) = 0 ∧ ((1 : ℕ) - 0) / (0 + 1) < 1); omega)).trans ?_
  pointwise [val_main_cst_3]

theorem pre_apply (s : Fin 4096) (h : Fin 2) (k : Fin 1024) : (show S4096x2x1024.Idx → EReal from val_main_v39 (F := Ideal) x0 x1 x2 x3 x4 x5 x6 x7) (ix3 s h k)
    = ((show S4096x2x1024.Idx → EReal from val_main_v33 (F := Ideal) x0 x2 x6 x7) (ix3 s h k) + (show S4096x2x1024.Idx → EReal from val_main_v37 (F := Ideal) x0 x1 x5 x7) (ix3 s h k))
      * ((show S4096x2x1024.Idx → EReal from val_main_v16 (F := Ideal) x3 x4) (ix3 s h k) * (Grad.WOne - (show S4096x2x1024.Idx → EReal from val_main_v16 (F := Ideal) x3 x4) (ix3 s h k))) := by
  unfold val_main_v39 val_main_v38 val_main_v19 val_main_v18
  generalize val_main_v16 (F := Ideal) x3 x4 = S
  generalize val_main_v33 (F := Ideal) x0 x2 x6 x7 = A
  generalize val_main_v37 (F := Ideal) x0 x1 x5 x7 = B
  pointwise [val_main_v17, val_main_cst_1]

/-- The gradients of the gates' inputs. -/
def dga (s : Fin 4096) (k : Fin 1024) : EReal := dm x0 x7 s k * ya x1 x5 s k * (sga x3 x4 s k * (Grad.WOne - sga x3 x4 s k))
def dgb (s : Fin 4096) (k : Fin 1024) : EReal := dm x0 x7 s k * yb x2 x6 s k * (sgb x3 x4 s k * (Grad.WOne - sgb x3 x4 s k))

theorem flat0 (s : Fin 4096) (k : Fin 1024) : (show S4096x2048.Idx → EReal from val_main_v40 (F := Ideal) x0 x1 x2 x3 x4 x5 x6 x7) (ix2 s ⟨k.val, by omega⟩) = dga x0 x1 x3 x4 x5 x7 s k := by
  have e : (show S4096x2048.Idx → EReal from val_main_v40 (F := Ideal) x0 x1 x2 x3 x4 x5 x6 x7) (ix2 s ⟨k.val, by omega⟩) = (show S4096x2x1024.Idx → EReal from val_main_v39 (F := Ideal) x0 x1 x2 x3 x4 x5 x6 x7) (ix3 s 0 k) := by
    unfold val_main_v40
    generalize val_main_v39 (F := Ideal) x0 x1 x2 x3 x4 x5 x6 x7 = X
    pointwise
    exact congrArg₂ (fun h j => X (ix3 s h j)) (Fin.ext (show k.val / 1024 = 0 by omega)) (Fin.ext (show k.val % 1024 = k.val by omega))
  rw [e, pre_apply, first_zero, first_val, sga_apply, zero_add]
  rfl

theorem flat1 (s : Fin 4096) (k : Fin 1024) : (show S4096x2048.Idx → EReal from val_main_v40 (F := Ideal) x0 x1 x2 x3 x4 x5 x6 x7) (ix2 s ⟨1024 + k.val, by omega⟩) = dgb x0 x2 x3 x4 x6 x7 s k := by
  have e : (show S4096x2048.Idx → EReal from val_main_v40 (F := Ideal) x0 x1 x2 x3 x4 x5 x6 x7) (ix2 s ⟨1024 + k.val, by omega⟩) = (show S4096x2x1024.Idx → EReal from val_main_v39 (F := Ideal) x0 x1 x2 x3 x4 x5 x6 x7) (ix3 s 1 k) := by
    unfold val_main_v40
    generalize val_main_v39 (F := Ideal) x0 x1 x2 x3 x4 x5 x6 x7 = X
    pointwise
    exact congrArg (fun h => X (ix3 s h k)) (Fin.ext (show (1024 + k.val) / 1024 = 1 by omega))
  rw [e, pre_apply, second_val, second_zero, sgb_apply, add_zero]
  rfl

theorem gate0 (s : Fin 4096) (k : Fin 1024) : (show S2x4096x1024.Idx → EReal from val_main_v54 (F := Ideal) x0 x1 x2 x3 x4 x5 x6 x7) (ix3 0 s k) = dga x0 x1 x3 x4 x5 x7 s k := by
  rw [← flat0]
  unfold val_main_v54 val_main_v51 val_main_v50 val_main_v49 val_main_v48 val_main_v47
  generalize val_main_v40 (F := Ideal) x0 x1 x2 x3 x4 x5 x6 x7 = X
  pointwise

theorem gate1 (s : Fin 4096) (k : Fin 1024) : (show S2x4096x1024.Idx → EReal from val_main_v54 (F := Ideal) x0 x1 x2 x3 x4 x5 x6 x7) (ix3 1 s k) = dgb x0 x2 x3 x4 x6 x7 s k := by
  rw [← flat1]
  unfold val_main_v54 val_main_v51 val_main_v50 val_main_v49 val_main_v48 val_main_v47
  generalize val_main_v40 (F := Ideal) x0 x1 x2 x3 x4 x5 x6 x7 = X
  pointwise

theorem unit_sum (j : Fin 2048) (X : S1x2048.Idx → EReal) (z : S_.Idx → EReal) :
    (Host.reduceAdd (F := Ideal) (φ := .f32) X z reducesTo_S1x2048_S2048_d0 h_S_) (ix1 j) = z (Shape.Idx.first h_S_) + X (ix2 0 j) := by
  refine (Grad.hostSum reducesTo_S1x2048_S2048_d0 X _ (ix1 j) (fun _ : Unit => (ix2 0 j : S1x2048.Idx)) (fun a b _ => rfl) (fun _ => ?_) (fun i hi => ⟨(), ?_⟩)).trans ?_
  · funext a; apply Fin.ext; match a with
    | ⟨0, _⟩ => rfl
  · idx_vars i
    have b1 : i1.val = j.val := congrArg Fin.val (congrFun hi 0)
    obtain rfl : i1 = j := Fin.ext b1
    obtain rfl : i0 = 0 := Subsingleton.elim _ _
    rfl
  · simp

theorem sum_apply (j : Fin 2048) : (show S2048.Idx → EReal from val_main_v43 (F := Ideal) x0 x1 x2 x3 x4 x5 x6 x7) (ix1 j)
    = ∑ s : Fin 4096, (show S4096x2048.Idx → EReal from val_main_v40 (F := Ideal) x0 x1 x2 x3 x4 x5 x6 x7) (ix2 s j) := by
  unfold val_main_v43
  refine (unit_sum j _ _).trans ?_
  rw [show (val_main_cst_5 (F := Ideal)) (Shape.Idx.first h_S_) = (0 : EReal) from by pointwise [val_main_cst_5], zero_add]
  unfold val_main_v42 val_main_v41
  generalize val_main_v40 (F := Ideal) x0 x1 x2 x3 x4 x5 x6 x7 = X
  pointwise [val_main_cst_4]

theorem bias0 (k : Fin 1024) : (show S2x1x1024.Idx → EReal from val_main_v55 (F := Ideal) x0 x1 x2 x3 x4 x5 x6 x7) (ix3 0 0 k) = ∑ s : Fin 4096, dga x0 x1 x3 x4 x5 x7 s k := by
  simp only [← flat0 x0 x1 x2 x3 x4 x5 x6 x7]
  rw [← sum_apply]
  unfold val_main_v55 val_main_v44
  generalize val_main_v43 (F := Ideal) x0 x1 x2 x3 x4 x5 x6 x7 = X
  pointwise

theorem bias1 (k : Fin 1024) : (show S2x1x1024.Idx → EReal from val_main_v55 (F := Ideal) x0 x1 x2 x3 x4 x5 x6 x7) (ix3 1 0 k) = ∑ s : Fin 4096, dgb x0 x2 x3 x4 x6 x7 s k := by
  simp only [← flat1 x0 x1 x2 x3 x4 x5 x6 x7]
  rw [← sum_apply]
  unfold val_main_v55 val_main_v44
  generalize val_main_v43 (F := Ideal) x0 x1 x2 x3 x4 x5 x6 x7 = X
  pointwise

/-- The rounded gradients of the branches, and what the branches' products pass back. -/
theorem dya_out (s : Fin 4096) (k : Fin 1024) : (show S4096x1024.Idx → EReal from val_main_v52 (F := Ideal) x0 x3 x4 x7) (ix2 s k) = sga x3 x4 s k * dm x0 x7 s k := by
  rw [← dya_apply]
  unfold val_main_v52
  generalize val_main_v34 (F := Ideal) x0 x3 x4 x7 = X
  pointwise

theorem dyb_out (s : Fin 4096) (k : Fin 1024) : (show S4096x1024.Idx → EReal from val_main_v53 (F := Ideal) x0 x3 x4 x7) (ix2 s k) = sgb x3 x4 s k * dm x0 x7 s k := by
  rw [← dyb_apply]
  unfold val_main_v53
  generalize val_main_v30 (F := Ideal) x0 x3 x4 x7 = X
  pointwise

theorem doa_apply (s : Fin 4096) (j : Fin 512) : (show S4096x512.Idx → EReal from val_main_v46 (F := Ideal) x0 x3 x4 x5 x7) (ix2 s j) = ∑ k : Fin 1024, sga x3 x4 s k * dm x0 x7 s k * x5 (ix2 j k) := by
  simp only [← dya_apply]
  unfold val_main_v46
  generalize val_main_v34 (F := Ideal) x0 x3 x4 x7 = X
  pointwise

theorem dob_apply (s : Fin 4096) (j : Fin 1024) : (show S4096x1024.Idx → EReal from val_main_v56 (F := Ideal) x0 x3 x4 x6 x7) (ix2 s j) = ∑ k : Fin 1024, sgb x3 x4 s k * dm x0 x7 s k * x6 (ix2 j k) := by
  simp only [← dyb_apply]
  unfold val_main_v56 val_main_v45
  generalize val_main_v30 (F := Ideal) x0 x3 x4 x7 = X
  pointwise

end Cert.MergeRefIdeal.Read

end
-- ==== Proof.MergeMeet.lean ====
/- The gated merge's gradient: the kernel's six results are the derivative of the reference's lines. -/
module

public import proofs.«01_k».proof.Proof.MergeKernel
public import proofs.«01_k».proof.Proof.MergeRef
public import proofs.«01_k».proof.Proof.Blocks

@[expose] public section

set_option maxRecDepth 16384

noncomputable section

namespace Cert.MergeMeet

open Idealize.ShloMosaic Idealize.ShloMosaic.TcCoe Idealize.SL.Sem
open Cert.MergeIdeal (nD τ sig main_arg0 main_arg1 main_arg2 main_arg3 main_arg4 main_arg5 main_arg6 main_arg7 cfg0)
open Cert.MergeIdeal.Value Cert.MergeIdeal.Gen

variable (m : (ℓ : Loc nD τ sig) → Buf (Elt Ideal) ℓ) (c : Dev nD)

abbrev in0 : Cert.MergeIdeal.S4096x1024.Idx → EReal := m ((c : Thread nD τ).loc main_arg0)
abbrev in1 : Cert.MergeIdeal.S4096x512.Idx → EReal := m ((c : Thread nD τ).loc main_arg1)
abbrev in2 : Cert.MergeIdeal.S4096x1024.Idx → EReal := m ((c : Thread nD τ).loc main_arg2)
abbrev in3 : Cert.MergeIdeal.S4096x8192.Idx → EReal := m ((c : Thread nD τ).loc main_arg3)
abbrev in4 : Cert.MergeIdeal.S1x2048.Idx → EReal := m ((c : Thread nD τ).loc main_arg4)
abbrev in5 : Cert.MergeIdeal.S512x1024.Idx → EReal := m ((c : Thread nD τ).loc main_arg5)
abbrev in6 : Cert.MergeIdeal.S1024x1024.Idx → EReal := m ((c : Thread nD τ).loc main_arg6)
abbrev in7 : Cert.MergeIdeal.S1024x1024.Idx → EReal := m ((c : Thread nD τ).loc main_arg7)

theorem ga_eq (s : Fin 4096) (k : Fin 1024) : gaAt m c s k = Cert.MergeRefIdeal.Read.sga (in3 m c) (in4 m c) s k := Grad.sig_eq _
theorem gb_eq (s : Fin 4096) (k : Fin 1024) : gbAt m c s k = Cert.MergeRefIdeal.Read.sgb (in3 m c) (in4 m c) s k := Grad.sig_eq _

theorem dyaAt_eq (s : Fin 4096) (k : Fin 1024) : dyaAt m c s k = Cert.MergeRefIdeal.Read.sga (in3 m c) (in4 m c) s k * Cert.MergeRefIdeal.Read.dm (in0 m c) (in7 m c) s k := by
  rw [← ga_eq]
  exact mul_comm _ _
theorem dybAt_eq (s : Fin 4096) (k : Fin 1024) : dybAt m c s k = Cert.MergeRefIdeal.Read.sgb (in3 m c) (in4 m c) s k * Cert.MergeRefIdeal.Read.dm (in0 m c) (in7 m c) s k := by
  rw [← gb_eq]
  exact mul_comm _ _

theorem dgaAt_eq (s : Fin 4096) (k : Fin 1024) : dgaAt m c s k = Cert.MergeRefIdeal.Read.dga (in0 m c) (in1 m c) (in3 m c) (in4 m c) (in5 m c) (in7 m c) s k := by
  unfold Cert.MergeRefIdeal.Read.dga
  rw [← ga_eq]
  exact mul_assoc _ _ _
theorem dgbAt_eq (s : Fin 4096) (k : Fin 1024) : dgbAt m c s k = Cert.MergeRefIdeal.Read.dgb (in0 m c) (in2 m c) (in3 m c) (in4 m c) (in6 m c) (in7 m c) s k := by
  unfold Cert.MergeRefIdeal.Read.dgb
  rw [← gb_eq]
  exact mul_assoc _ _ _

theorem dya_eq : G11 m c = Cert.MergeRefIdeal.Read.val_main_v52 (F := Ideal) (in0 m c) (in3 m c) (in4 m c) (in7 m c) := by
  funext i
  idx_vars i
  exact (dyaAt_eq m c i0 i1).trans (Cert.MergeRefIdeal.Read.dya_out (in0 m c) (in3 m c) (in4 m c) (in7 m c) i0 i1).symm

theorem dyb_eq : G12 m c = Cert.MergeRefIdeal.Read.val_main_v53 (F := Ideal) (in0 m c) (in3 m c) (in4 m c) (in7 m c) := by
  funext i
  idx_vars i
  exact (dybAt_eq m c i0 i1).trans (Cert.MergeRefIdeal.Read.dyb_out (in0 m c) (in3 m c) (in4 m c) (in7 m c) i0 i1).symm

theorem dgate_eq : G13 m c = Cert.MergeRefIdeal.Read.val_main_v54 (F := Ideal) (in0 m c) (in1 m c) (in2 m c) (in3 m c) (in4 m c) (in5 m c) (in6 m c) (in7 m c) := by
  funext i
  idx_vars i
  rcases (show i0 = 0 ∨ i0 = 1 by omega) with rfl | rfl
  · exact (dgaAt_eq m c i1 i2).trans (Cert.MergeRefIdeal.Read.gate0 (in0 m c) (in1 m c) (in2 m c) (in3 m c) (in4 m c) (in5 m c) (in6 m c) (in7 m c) i1 i2).symm
  · exact (dgbAt_eq m c i1 i2).trans (Cert.MergeRefIdeal.Read.gate1 (in0 m c) (in1 m c) (in2 m c) (in3 m c) (in4 m c) (in5 m c) (in6 m c) (in7 m c) i1 i2).symm

theorem bias_eq : G14 m c = Cert.MergeRefIdeal.Read.val_main_v55 (F := Ideal) (in0 m c) (in1 m c) (in2 m c) (in3 m c) (in4 m c) (in5 m c) (in6 m c) (in7 m c) := by
  funext i
  idx_vars i
  obtain rfl : i1 = 0 := Subsingleton.elim _ _
  refine (zero_add _).trans ?_
  refine (Grad.sum_blocks (n := cfg0.N) (b := 256) (N := 4096) (by rw [show cfg0.N = 16 from N_0]) (fun s => dgAt m c i0.val s i2)).trans ?_
  rcases (show i0 = 0 ∨ i0 = 1 by omega) with rfl | rfl
  · exact (Finset.sum_congr rfl fun s _ => dgaAt_eq m c s i2).trans (Cert.MergeRefIdeal.Read.bias0 (in0 m c) (in1 m c) (in2 m c) (in3 m c) (in4 m c) (in5 m c) (in6 m c) (in7 m c) i2).symm
  · exact (Finset.sum_congr rfl fun s _ => dgbAt_eq m c s i2).trans (Cert.MergeRefIdeal.Read.bias1 (in0 m c) (in1 m c) (in2 m c) (in3 m c) (in4 m c) (in5 m c) (in6 m c) (in7 m c) i2).symm

theorem doa_eq : G15 m c = Cert.MergeRefIdeal.Read.val_main_v46 (F := Ideal) (in0 m c) (in3 m c) (in4 m c) (in5 m c) (in7 m c) := by
  funext i
  idx_vars i
  refine Eq.trans ?_ (Cert.MergeRefIdeal.Read.doa_apply (in0 m c) (in3 m c) (in4 m c) (in5 m c) (in7 m c) i0 i1).symm
  exact Finset.sum_congr rfl fun k _ => congrArg (· * _) (dyaAt_eq m c i0 k)

theorem dob_eq : G16 m c = Cert.MergeRefIdeal.Read.val_main_v56 (F := Ideal) (in0 m c) (in3 m c) (in4 m c) (in6 m c) (in7 m c) := by
  funext i
  idx_vars i
  refine Eq.trans ?_ (Cert.MergeRefIdeal.Read.dob_apply (in0 m c) (in3 m c) (in4 m c) (in6 m c) (in7 m c) i0 i1).symm
  exact Finset.sum_congr rfl fun k _ => congrArg (· * _) (dybAt_eq m c i0 k)

end Cert.MergeMeet

end
-- ==== Proof.LossHead.lean ====
/- Sums over two halves and over blocks, and the norm's gradient kept real: what the last SwiGLU half with the loss needs. -/
module

public import proofs.«01_k».proof.Proof.NormWide
public import proofs.«01_k».proof.Proof.Sigmoid

@[expose] public section

set_option maxRecDepth 16384

noncomputable section

namespace Grad

open Idealize.ShloMosaic

/-- The reciprocal of 1024, which is a number of the format, and two. -/
abbrev WInv : EReal := Ideal.ofBits FTy.f32 0x3A800000#32
abbrev WTwo : EReal := Ideal.ofBits FTy.f32 0x40000000#32

theorem lit_inv : WInv = ((1 / 1024 : ℝ) : EReal) := by
  simp [WInv, Ideal.ofBits, Ideal.ieee, -EReal.coe_mul]; norm_num
theorem lit_wtwo : WTwo = ((2 : ℝ) : EReal) := by
  simp [WTwo, Ideal.ofBits, Ideal.ieee, -EReal.coe_mul]; norm_num

/-- A sum over the hidden columns is the sum of its two halves. -/
theorem sum_two (f : Fin 2816 → EReal) : (∑ j : Fin 1408, f ⟨j.val, by omega⟩) + ∑ j : Fin 1408, f ⟨1408 + j.val, by omega⟩ = ∑ j, f j :=
  (Fin.sum_univ_add (a := 1408) (b := 1408) f).symm

theorem IsR.half : IsR WHalf := by rw [lit_half]; exact IsR.coe _
theorem IsR.inv : IsR WInv := by rw [lit_inv]; exact IsR.coe _

theorem IsR.rinv1024 {n : ℕ} {x : Fin n → EReal} (hx : ∀ k, IsR (x k)) : IsR (Grad.rinv W1024 WEps x) := by
  rw [show W1024 = ((1024 : ℝ) : EReal) from lit_1024, show WEps = ((epsR : ℝ) : EReal) from lit_eps]
  exact IsR.rinv (by norm_num) epsR_pos hx

theorem IsR.div1024 {x : EReal} (hx : IsR x) : IsR (Ideal.div x W1024) := by
  obtain ⟨x, rfl⟩ := hx
  rw [show W1024 = ((1024 : ℝ) : EReal) from lit_1024, div_real x (by norm_num)]
  exact IsR.coe _

/-- The norm's gradient on rows of real numbers is real. -/
theorem IsR.normDx {n : ℕ} {x dn g : Fin n → EReal} (hx : ∀ k, IsR (x k)) (hd : ∀ k, IsR (dn k)) (hg : ∀ k, IsR (g k)) (j : Fin n) :
    IsR (Grad.normDx W1024 WEps x dn g j) := by
  unfold Grad.normDx
  have hr := IsR.rinv1024 hx
  exact hr.mul (((hd j).mul (hg j)).sub (((hx j).mul hr).mul (IsR.div1024 (IsR.sum _ fun k _ => ((hd k).mul (hg k)).mul ((hx k).mul hr)))))

/-- The division by 1024 is the product with its reciprocal. -/
theorem div_inv {x : EReal} (hx : IsR x) : Ideal.div x W1024 = x * WInv := by
  obtain ⟨x, rfl⟩ := hx
  rw [show W1024 = ((1024 : ℝ) : EReal) from lit_1024, div_real x (by norm_num), lit_inv, ← EReal.coe_mul]
  congr 1
  ring

/-- A half taken out of a sum. -/
theorem half_out {n : ℕ} {u : Fin n → EReal} (hu : ∀ k, IsR (u k)) : (∑ k, WHalf * u k) = WHalf * ∑ k, u k := by
  obtain ⟨u, rfl⟩ := exists_fun hu
  rw [lit_half]
  simp only [← EReal.coe_mul, ← coe_sum]
  rw [Finset.mul_sum]

/-- The halves of the blocks' sums of means are half the sum of all means. -/
theorem loss_blocks {n b N : ℕ} (h : n * b = N) (row : Fin n → Fin b → Fin N) (hrow : ∀ t p, (row t p).val = t.val * b + p.val) {q : Fin N → EReal} (hq : ∀ s, IsR (q s)) :
    (∑ t : Fin n, WHalf * ∑ p : Fin b, q (row t p) * WInv) = WHalf * ∑ s, Ideal.div (q s) W1024 := by
  rw [half_out (fun t => IsR.sum _ fun p _ => (hq _).mul IsR.inv), ← sum_blocks h (fun s => Ideal.div (q s) W1024)]
  refine congrArg (WHalf * ·) (Finset.sum_congr rfl fun t _ => Finset.sum_congr rfl fun p _ => ?_)
  rw [div_inv (hq _)]
  exact congrArg (fun s => q s * WInv) (Fin.ext (hrow t p))

/-- What the loss passes back to a normalized entry: half of twice the error, over 1024. -/
theorem head_dy (e : EReal) : e * WInv = Ideal.div (WHalf * WOne) W1024 * (WTwo * e) := by
  rw [div_inv (IsR.half.mul (by rw [lit_one]; exact IsR.coe _)), ← mul_assoc, lit_half, lit_one, lit_wtwo, lit_inv, mul_comm e, ← EReal.coe_mul, ← EReal.coe_mul, ← EReal.coe_mul]
  congr 2
  norm_num

end Grad

end
-- ==== Proof.LastRow.lean ====
/- One row of the last SwiGLU half with the loss, in the kernel's spelling and in the reference's: the same numbers where the
   arguments are real numbers. -/
module

public import proofs.«01_k».proof.Proof.LossHead

@[expose] public section

set_option maxRecDepth 16384

noncomputable section

namespace Grad

open Idealize.ShloMosaic

/-- What one row's results are made of. -/
structure LastRow where
  x : Fin 1024 → EReal
  g : Fin 1024 → EReal
  w1 : Fin 1024 → Fin 2816 → EReal
  w3 : Fin 1024 → Fin 2816 → EReal
  w2 : Fin 2816 → Fin 1024 → EReal
  t : Fin 1024 → EReal
  gf : Fin 1024 → EReal

namespace LastRow

variable (L : LastRow)

/-- The normalized row and its two up products. -/
def n (k : Fin 1024) : EReal := L.x k * rinv W1024 WEps L.x * L.g k
def a (f : Fin 2816) : EReal := ∑ k : Fin 1024, L.n k * L.w1 k f
def b (f : Fin 2816) : EReal := ∑ k : Fin 1024, L.n k * L.w3 k f

/-! ## The kernel's spelling -/

def hK (f : Fin 2816) : EReal := L.a f * sgT (L.a f) * L.b f
def xoK (k : Fin 1024) : EReal := L.x k + WHalf * ∑ f : Fin 2816, L.hK f * L.w2 f k
def eK (k : Fin 1024) : EReal := L.xoK k * rinv W1024 WEps L.xoK * L.gf k - L.t k
def dyK (k : Fin 1024) : EReal := L.eK k * WInv
def sqK : EReal := ∑ k : Fin 1024, L.eK k * L.eK k
def dxoK (k : Fin 1024) : EReal := normDx W1024 WEps L.xoK L.dyK L.gf k
def dgfK (k : Fin 1024) : EReal := L.dyK k * (L.xoK k * rinv W1024 WEps L.xoK)
def dhK (f : Fin 2816) : EReal := WHalf * ∑ k : Fin 1024, L.dxoK k * L.w2 f k
def daK (f : Fin 2816) : EReal := L.dhK f * L.b f * (sgT (L.a f) * (WOne + L.a f * (WOne - sgT (L.a f))))
def dbK (f : Fin 2816) : EReal := L.dhK f * (L.a f * sgT (L.a f))
def dnK (k : Fin 1024) : EReal := (∑ f : Fin 2816, L.daK f * L.w1 k f) + ∑ f : Fin 2816, L.dbK f * L.w3 k f
def dxK (k : Fin 1024) : EReal := L.dxoK k + normDx W1024 WEps L.x L.dnK L.g k
def dgK (k : Fin 1024) : EReal := L.dnK k * (L.x k * rinv W1024 WEps L.x)

/-! ## The reference's spelling, differentiated line by line -/

def hR (f : Fin 2816) : EReal := L.a f * sgE (L.a f) * L.b f
def xoR (k : Fin 1024) : EReal := L.x k + WHalf * ∑ f : Fin 2816, L.hR f * L.w2 f k
def eR (k : Fin 1024) : EReal := L.xoR k * rinv W1024 WEps L.xoR * L.gf k - L.t k
def dyR (k : Fin 1024) : EReal := Ideal.div (WHalf * WOne) W1024 * (WTwo * L.eR k)
def sqR : EReal := ∑ k : Fin 1024, L.eR k * L.eR k
def dxoR (k : Fin 1024) : EReal := normDxLines W1024 WEps WNegHalf L.xoR L.dyR L.gf k
def dgfR (k : Fin 1024) : EReal := L.xoR k * rinv W1024 WEps L.xoR * L.dyR k
def dhR (f : Fin 2816) : EReal := ∑ k : Fin 1024, WHalf * L.dxoR k * L.w2 f k
def daR (f : Fin 2816) : EReal := L.dhR f * L.b f * sgE (L.a f) + L.a f * (L.dhR f * L.b f) * (sgE (L.a f) * (WOne - sgE (L.a f)))
def dbR (f : Fin 2816) : EReal := L.a f * sgE (L.a f) * L.dhR f
def dnR (k : Fin 1024) : EReal := (∑ f : Fin 2816, L.dbR f * L.w3 k f) + ∑ f : Fin 2816, L.daR f * L.w1 k f
def dxR (k : Fin 1024) : EReal := L.dxoR k + normDxLines W1024 WEps WNegHalf L.x L.dnR L.g k
def dgR (k : Fin 1024) : EReal := L.x k * rinv W1024 WEps L.x * L.dnR k

/-! ## One row of numbers -/

/-- The row's parts are real numbers. -/
structure IsReal : Prop where
  x : ∀ k, IsR (L.x k)
  g : ∀ k, IsR (L.g k)
  w1 : ∀ k f, IsR (L.w1 k f)
  w3 : ∀ k f, IsR (L.w3 k f)
  w2 : ∀ f k, IsR (L.w2 f k)
  t : ∀ k, IsR (L.t k)
  gf : ∀ k, IsR (L.gf k)

variable {L}

theorem h_eq : L.hK = L.hR := by funext f; unfold hK hR; rw [sig_eq]
theorem xo_eq : L.xoK = L.xoR := by funext k; unfold xoK xoR; rw [h_eq]
theorem e_eq : L.eK = L.eR := by funext k; unfold eK eR; rw [xo_eq]
theorem dy_eq : L.dyK = L.dyR := by funext k; unfold dyK dyR; rw [e_eq]; exact head_dy _
theorem sq_eq : L.sqK = L.sqR := by unfold sqK sqR; rw [e_eq]
theorem dgf_eq : L.dgfK = L.dgfR := by funext k; unfold dgfK dgfR; rw [xo_eq, dy_eq]; exact mul_comm _ _

theorem n_real (h : L.IsReal) (k : Fin 1024) : IsR (L.n k) := ((h.x k).mul (IsR.rinv1024 h.x)).mul (h.g k)
theorem a_real (h : L.IsReal) (f : Fin 2816) : IsR (L.a f) := IsR.sum _ fun k _ => (n_real h k).mul (h.w1 k f)
theorem b_real (h : L.IsReal) (f : Fin 2816) : IsR (L.b f) := IsR.sum _ fun k _ => (n_real h k).mul (h.w3 k f)
theorem sg_real (h : L.IsReal) (f : Fin 2816) : IsR (sgT (L.a f)) := by rw [sig_eq]; exact (a_real h f).sgE
theorem xo_real (h : L.IsReal) (k : Fin 1024) : IsR (L.xoK k) :=
  (h.x k).add (IsR.half.mul (IsR.sum _ fun f _ => (((a_real h f).mul (sg_real h f)).mul (b_real h f)).mul (h.w2 f k)))
theorem e_real (h : L.IsReal) (k : Fin 1024) : IsR (L.eK k) := (((xo_real h k).mul (IsR.rinv1024 (xo_real h))).mul (h.gf k)).sub (h.t k)
theorem dy_real (h : L.IsReal) (k : Fin 1024) : IsR (L.dyK k) := (e_real h k).mul IsR.inv
theorem sq_real (h : L.IsReal) : IsR L.sqK := IsR.sum _ fun k _ => (e_real h k).mul (e_real h k)
theorem dxo_real (h : L.IsReal) (k : Fin 1024) : IsR (L.dxoK k) := IsR.normDx (xo_real h) (dy_real h) h.gf k
theorem dh_real (h : L.IsReal) (f : Fin 2816) : IsR (L.dhK f) := IsR.half.mul (IsR.sum _ fun k _ => (dxo_real h k).mul (h.w2 f k))
theorem one_real : IsR WOne := by rw [lit_one]; exact IsR.coe _
theorem da_real (h : L.IsReal) (f : Fin 2816) : IsR (L.daK f) :=
  ((dh_real h f).mul (b_real h f)).mul ((sg_real h f).mul (one_real.add ((a_real h f).mul (one_real.sub (sg_real h f)))))
theorem db_real (h : L.IsReal) (f : Fin 2816) : IsR (L.dbK f) := (dh_real h f).mul ((a_real h f).mul (sg_real h f))
theorem dn_real (h : L.IsReal) (k : Fin 1024) : IsR (L.dnK k) :=
  (IsR.sum _ fun f _ => (da_real h f).mul (h.w1 k f)).add (IsR.sum _ fun f _ => (db_real h f).mul (h.w3 k f))

theorem dxo_eq (h : L.IsReal) : L.dxoK = L.dxoR := by
  funext k
  unfold dxoK dxoR
  rw [normDx1024_eq (xo_real h) (dy_real h) h.gf k, xo_eq, dy_eq]
theorem dh_eq (h : L.IsReal) : L.dhK = L.dhR := by
  funext f
  unfold dhK dhR
  rw [half_sum (fun k => dxo_real h k) (fun k => h.w2 f k), dxo_eq h]
theorem da_eq (h : L.IsReal) : L.daK = L.daR := by
  funext f
  unfold daK daR
  rw [gate_first (dh_real h f) (a_real h f) (b_real h f), dh_eq h]
theorem db_eq (h : L.IsReal) : L.dbK = L.dbR := by
  funext f
  unfold dbK dbR
  rw [gate_second, dh_eq h]
theorem dn_eq (h : L.IsReal) : L.dnK = L.dnR := by
  funext k
  unfold dnK dnR
  rw [da_eq h, db_eq h, add_comm]
theorem dx_eq (h : L.IsReal) : L.dxK = L.dxR := by
  funext k
  unfold dxK dxR
  rw [normDx1024_eq h.x (dn_real h) h.g k, dn_eq h, dxo_eq h]
theorem dg_eq (h : L.IsReal) : L.dgK = L.dgR := by
  funext k
  unfold dgK dgR
  rw [dn_eq h, mul_comm]

end LastRow

end Grad

end
-- ==== Proof.FfnLastKernel.lean ====
/- The kernel of the last SwiGLU half with the loss, read at an index: the blocks it writes at each grid point and the carried
   sums, in terms of the arguments. -/
module

public import proofs.«01_k».proof.Proof.LastRow
public import proofs.«01_k».proof.Proof.Gen.FfnLastIdeal.Value
public import Idealize.ShloMosaic.Lib.Pipeline.ValueKit
public import Idealize.ShloMosaic.Lib.Pipeline.ReadBack
public import Idealize.ShloMosaic.Lib.StableHlo.ReadAt
public import Idealize.ShloMosaic.Lib.Pointwise

@[expose] public section

set_option maxRecDepth 16384

noncomputable section

namespace Cert.FfnLastIdeal.Value

open Cert.FfnLastIdeal Cert.FfnLastIdeal.Gen Idealize.ShloMosaic Idealize.ShloMosaic.TcCoe Idealize.SL.Sem

/-- A weight's row among the devices' packed rows, in the whole and in one half. -/
abbrev devOf (f : Fin 2816) : Fin 8 := ⟨f.val / 352, by omega⟩
abbrev shardOf (f : Fin 2816) : Fin 352 := ⟨f.val % 352, by omega⟩
abbrev d4 (j : Fin 1408) : Fin 4 := ⟨j.val / 352, by omega⟩
abbrev s4 (j : Fin 1408) : Fin 352 := ⟨j.val % 352, by omega⟩

theorem pay1_apply (a : FVec Ideal S1x1 .f32) (l : Fin 128) :
    k0_pay1 (F := Ideal) a (ix2 0 l) = a (ix2 0 0) := by
  pointwise [k0_pay1]

theorem pay2_apply (a : FVec Ideal S1x1024 .f32) (b : Vec Ideal S1x1024 .f32) (k : Fin 1024) :
    k0_pay2 (F := Ideal) a b (ix2 0 k) = b (ix2 0 k) + a (ix2 0 k) := by
  pointwise [k0_pay2]

theorem pay3_apply (a : FVec Ideal S1x1 .f32) (b : Vec Ideal S1x128 .f32) (l : Fin 128) :
    k0_pay3 (F := Ideal) a b (ix2 0 l) = b (ix2 0 l) + a (ix2 0 0) := by
  pointwise [k0_pay3]

theorem pay4_apply (a : FVec Ideal S1x1024 .f32) (b : Vec Ideal S1x1024 .f32) (k : Fin 1024) :
    k0_pay4 (F := Ideal) a b (ix2 0 k) = b (ix2 0 k) + a (ix2 0 k) := by
  pointwise [k0_pay4]

theorem pay5_apply (x : Vec Ideal S256x1024 .f32) (g : Vec Ideal S1x1024 .f32) (p : Fin 256) (k : Fin 1024) :
    k0_pay5 (F := Ideal) x g (ix2 p k) = x (ix2 p k) * Grad.rinv Grad.W1024 Grad.WEps (fun k => x (ix2 p k)) * g (ix2 0 k) := by
  unfold Grad.rinv
  pointwise [k0_pay5]

theorem pay6_apply (x : Vec Ideal S256x1024 .f32) (g : Vec Ideal S1x1024 .f32) (w : Vec Ideal S4x352x1024 .bf16) (p : Fin 256) (j : Fin 1408) :
    k0_pay6 (F := Ideal) x g w (ix2 p j) = ∑ k : Fin 1024, k0_pay5 (F := Ideal) x g (ix2 p k) * w (ix3 (d4 j) (s4 j) k) := by
  unfold k0_pay6
  generalize k0_pay5 (F := Ideal) x g = Y0
  pointwise

theorem pay7_apply (x : Vec Ideal S256x1024 .f32) (g : Vec Ideal S1x1024 .f32) (w : Vec Ideal S4x352x1024 .bf16) (p : Fin 256) (j : Fin 1408) :
    k0_pay7 (F := Ideal) x g w (ix2 p j) = ∑ k : Fin 1024, k0_pay5 (F := Ideal) x g (ix2 p k) * w (ix3 (d4 j) (s4 j) k) := by
  unfold k0_pay7
  generalize k0_pay5 (F := Ideal) x g = Y0
  pointwise

theorem pay8_apply (x : Vec Ideal S256x1024 .f32) (g : Vec Ideal S1x1024 .f32) (w : Vec Ideal S4x352x1024 .bf16) (u : Vec Ideal S4x352x1024 .bf16) (p : Fin 256) (j : Fin 1408) :
    k0_pay8 (F := Ideal) x g w u (ix2 p j) = k0_pay6 (F := Ideal) x g w (ix2 p j) * Grad.sgT (k0_pay6 (F := Ideal) x g w (ix2 p j)) * k0_pay7 (F := Ideal) x g u (ix2 p j) := by
  unfold Grad.sgT k0_pay8
  generalize k0_pay6 (F := Ideal) x g w = A
  generalize k0_pay7 (F := Ideal) x g u = B
  pointwise

theorem pay9_apply (a : FVec Ideal S256x1408 .bf16) (p : Fin 256) (j : Fin 1408) :
    k0_pay9 (F := Ideal) a (ix3 0 p j) = a (ix2 p j) := by
  pointwise [k0_pay9]

theorem pay10_apply (a : FVec Ideal S256x1408 .bf16) (p : Fin 256) (j : Fin 1408) :
    k0_pay10 (F := Ideal) a (ix3 0 p j) = a (ix2 p j) := by
  pointwise [k0_pay10]

theorem pay11_apply (a : FVec Ideal S256x1408 .bf16) (p : Fin 256) (j : Fin 1408) :
    k0_pay11 (F := Ideal) a (ix3 0 p j) = a (ix2 p j) := by
  pointwise [k0_pay11]

theorem pay18_apply (a : FVec Ideal S256x1408 .bf16) (p : Fin 256) (j : Fin 1408) :
    k0_pay18 (F := Ideal) a (ix3 0 p j) = a (ix2 p j) := by
  pointwise [k0_pay18]

theorem pay19_apply (a : FVec Ideal S256x1408 .bf16) (p : Fin 256) (j : Fin 1408) :
    k0_pay19 (F := Ideal) a (ix3 0 p j) = a (ix2 p j) := by
  pointwise [k0_pay19]

theorem pay12_apply (h : FVec Ideal S256x1408 .bf16) (w : Vec Ideal S4x352x1024 .bf16) (p : Fin 256) (k : Fin 1024) :
    k0_pay12 (F := Ideal) h w (ix2 p k) = ∑ j : Fin 1408, h (ix2 p j) * w (ix3 (d4 j) (s4 j) k) := by
  pointwise [k0_pay12]

theorem pay13_apply (n : FVec Ideal S256x1024 .bf16) (w : Vec Ideal S4x352x1024 .bf16) (p : Fin 256) (j : Fin 1408) :
    k0_pay13 (F := Ideal) n w (ix2 p j) = ∑ k : Fin 1024, n (ix2 p k) * w (ix3 (d4 j) (s4 j) k) := by
  pointwise [k0_pay13]

theorem pay14_apply (n : FVec Ideal S256x1024 .bf16) (w : Vec Ideal S4x352x1024 .bf16) (p : Fin 256) (j : Fin 1408) :
    k0_pay14 (F := Ideal) n w (ix2 p j) = ∑ k : Fin 1024, n (ix2 p k) * w (ix3 (d4 j) (s4 j) k) := by
  pointwise [k0_pay14]

theorem pay15_apply (n : FVec Ideal S256x1024 .bf16) (w : Vec Ideal S4x352x1024 .bf16) (p : Fin 256) (j : Fin 1408) :
    k0_pay15 (F := Ideal) n w (ix2 p j) = k0_pay14 (F := Ideal) n w (ix2 p j) := by
  unfold k0_pay15
  generalize k0_pay14 (F := Ideal) n w = Y0
  pointwise

theorem pay16_apply (n : FVec Ideal S256x1024 .bf16) (w : Vec Ideal S4x352x1024 .bf16) (p : Fin 256) (j : Fin 1408) :
    k0_pay16 (F := Ideal) n w (ix2 p j) = k0_pay13 (F := Ideal) n w (ix2 p j) * Grad.sgT (k0_pay13 (F := Ideal) n w (ix2 p j)) := by
  unfold Grad.sgT k0_pay16
  generalize k0_pay13 (F := Ideal) n w = A
  pointwise

theorem pay17_apply (b : FVec Ideal S256x1408 .f32) (s : FVec Ideal S256x1408 .f32) (p : Fin 256) (j : Fin 1408) :
    k0_pay17 (F := Ideal) b s (ix2 p j) = s (ix2 p j) * b (ix2 p j) := by
  pointwise [k0_pay17]

theorem pay20_apply (b : FVec Ideal S256x1408 .f32) (s : FVec Ideal S256x1408 .f32) (p : Fin 256) (j : Fin 1408) :
    k0_pay20 (F := Ideal) b s (ix3 0 p j) = k0_pay17 (F := Ideal) b s (ix2 p j) := by
  unfold k0_pay20
  generalize k0_pay17 (F := Ideal) b s = Y0
  pointwise

theorem pay21_apply (x : Vec Ideal S256x1024 .f32) (y : FVec Ideal S256x1024 .f32) (b : FVec Ideal S256x1408 .f32) (s : FVec Ideal S256x1408 .f32) (w : Vec Ideal S4x352x1024 .bf16) (p : Fin 256) (k : Fin 1024) :
    k0_pay21 (F := Ideal) x y b s w (ix2 p k) = x (ix2 p k) + Grad.WHalf * (y (ix2 p k) + ∑ j : Fin 1408, k0_pay17 (F := Ideal) b s (ix2 p j) * w (ix3 (d4 j) (s4 j) k)) := by
  unfold k0_pay21
  generalize k0_pay17 (F := Ideal) b s = Y0
  pointwise

theorem pay22_apply (x : Vec Ideal S256x1024 .f32) (y : FVec Ideal S256x1024 .f32) (b : FVec Ideal S256x1408 .f32) (s : FVec Ideal S256x1408 .f32) (w : Vec Ideal S4x352x1024 .bf16) (p : Fin 256) :
    k0_pay22 (F := Ideal) x y b s w (ix2 p 0) = Grad.rinv Grad.W1024 Grad.WEps (fun k => k0_pay21 (F := Ideal) x y b s w (ix2 p k)) := by
  unfold Grad.rinv k0_pay22
  generalize k0_pay21 (F := Ideal) x y b s w = A
  pointwise

theorem pay23_apply (x : Vec Ideal S256x1024 .f32) (y : FVec Ideal S256x1024 .f32) (b : FVec Ideal S256x1408 .f32) (s : FVec Ideal S256x1408 .f32) (w : Vec Ideal S4x352x1024 .bf16) (p : Fin 256) (k : Fin 1024) :
    k0_pay23 (F := Ideal) x y b s w (ix2 p k) = k0_pay21 (F := Ideal) x y b s w (ix2 p k) * k0_pay22 (F := Ideal) x y b s w (ix2 p 0) := by
  unfold k0_pay23
  generalize k0_pay21 (F := Ideal) x y b s w = Y0
  generalize k0_pay22 (F := Ideal) x y b s w = Y1
  pointwise

theorem pay24_apply (x : Vec Ideal S256x1024 .f32) (y : FVec Ideal S256x1024 .f32) (b : FVec Ideal S256x1408 .f32) (s : FVec Ideal S256x1408 .f32) (w : Vec Ideal S4x352x1024 .bf16) (t : Vec Ideal S256x1024 .f32) (g : Vec Ideal S1x1024 .f32) (p : Fin 256) (k : Fin 1024) :
    k0_pay24 (F := Ideal) x y b s w t g (ix2 p k) = k0_pay23 (F := Ideal) x y b s w (ix2 p k) * g (ix2 0 k) - t (ix2 p k) := by
  unfold k0_pay24
  generalize k0_pay23 (F := Ideal) x y b s w = Y0
  pointwise

theorem pay25_apply (x : Vec Ideal S256x1024 .f32) (y : FVec Ideal S256x1024 .f32) (b : FVec Ideal S256x1408 .f32) (s : FVec Ideal S256x1408 .f32) (w : Vec Ideal S4x352x1024 .bf16) (t : Vec Ideal S256x1024 .f32) (g : Vec Ideal S1x1024 .f32) (p : Fin 256) (k : Fin 1024) :
    k0_pay25 (F := Ideal) x y b s w t g (ix2 p k) = k0_pay24 (F := Ideal) x y b s w t g (ix2 p k) * k0_pay24 (F := Ideal) x y b s w t g (ix2 p k) := by
  unfold k0_pay25
  generalize k0_pay24 (F := Ideal) x y b s w t g = Y0
  pointwise

theorem pay26_apply (a : FVec Ideal S256x1024 .f32)  :
    k0_pay26 (F := Ideal) a (ix2 0 0) = Grad.WHalf * ∑ p : Fin 256, (∑ k : Fin 1024, a (ix2 p k)) * Grad.WInv := by
  pointwise [k0_pay26]

theorem pay27_apply (e : FVec Ideal S256x1024 .f32) (p : Fin 256) (k : Fin 1024) :
    k0_pay27 (F := Ideal) e (ix2 p k) = e (ix2 p k) * Grad.WInv := by
  pointwise [k0_pay27]

theorem pay28_apply (g : Vec Ideal S1x1024 .f32) (r : FVec Ideal S256x1 .f32) (h : FVec Ideal S256x1024 .f32) (e : FVec Ideal S256x1024 .f32) (p : Fin 256) (k : Fin 1024) :
    k0_pay28 (F := Ideal) g r h e (ix2 p k) = r (ix2 p 0) * (k0_pay27 (F := Ideal) e (ix2 p k) * g (ix2 0 k) - h (ix2 p k) * Ideal.div (∑ k : Fin 1024, k0_pay27 (F := Ideal) e (ix2 p k) * g (ix2 0 k) * h (ix2 p k)) Grad.W1024) := by
  unfold k0_pay28
  generalize k0_pay27 (F := Ideal) e = Y0
  pointwise

theorem pay29_apply (h : FVec Ideal S256x1024 .f32) (e : FVec Ideal S256x1024 .f32) (k : Fin 1024) :
    k0_pay29 (F := Ideal) h e (ix2 0 k) = ∑ p : Fin 256, k0_pay27 (F := Ideal) e (ix2 p k) * h (ix2 p k) := by
  unfold k0_pay29
  generalize k0_pay27 (F := Ideal) e = Y0
  pointwise

theorem pay30_apply (g : Vec Ideal S1x1024 .f32) (r : FVec Ideal S256x1 .f32) (h : FVec Ideal S256x1024 .f32) (e : FVec Ideal S256x1024 .f32) (p : Fin 256) (k : Fin 1024) :
    k0_pay30 (F := Ideal) g r h e (ix2 p k) = k0_pay28 (F := Ideal) g r h e (ix2 p k) := by
  unfold k0_pay30
  generalize k0_pay28 (F := Ideal) g r h e = Y0
  pointwise

theorem pay31_apply (g : Vec Ideal S1x1024 .f32) (r : FVec Ideal S256x1 .f32) (h : FVec Ideal S256x1024 .f32) (e : FVec Ideal S256x1024 .f32) (w : Vec Ideal S4x352x1024 .bf16) (p : Fin 256) (j : Fin 1408) :
    k0_pay31 (F := Ideal) g r h e w (ix2 p j) = Grad.WHalf * ∑ k : Fin 1024, k0_pay30 (F := Ideal) g r h e (ix2 p k) * w (ix3 (d4 j) (s4 j) k) := by
  unfold k0_pay31
  generalize k0_pay30 (F := Ideal) g r h e = Y0
  pointwise

theorem pay32_apply (a : Vec Ideal S1x256x1408 .bf16) (p : Fin 256) (j : Fin 1408) :
    k0_pay32 (F := Ideal) a (ix2 p j) = a (ix3 0 p j) := by
  pointwise [k0_pay32]

theorem pay33_apply (a : Vec Ideal S1x256x1408 .bf16) (p : Fin 256) (j : Fin 1408) :
    k0_pay33 (F := Ideal) a (ix2 p j) = a (ix3 0 p j) := by
  pointwise [k0_pay33]

theorem pay42_apply (a : Vec Ideal S1x256x1408 .bf16) (p : Fin 256) (j : Fin 1408) :
    k0_pay42 (F := Ideal) a (ix2 p j) = a (ix3 0 p j) := by
  pointwise [k0_pay42]

theorem pay34_apply (a : FVec Ideal S256x1408 .f32) (p : Fin 256) (j : Fin 1408) :
    k0_pay34 (F := Ideal) a (ix2 p j) = Grad.sgT (a (ix2 p j)) := by
  unfold Grad.sgT
  pointwise [k0_pay34]

theorem pay35_apply (d : FVec Ideal S256x1408 .f32) (a : FVec Ideal S256x1408 .f32) (b : FVec Ideal S256x1408 .f32) (p : Fin 256) (j : Fin 1408) :
    k0_pay35 (F := Ideal) d a b (ix2 p j) = d (ix2 p j) * b (ix2 p j) * (Grad.sgT (a (ix2 p j)) * (Grad.WOne + a (ix2 p j) * (Grad.WOne - Grad.sgT (a (ix2 p j))))) := by
  rw [← pay34_apply]
  unfold k0_pay35
  generalize k0_pay34 (F := Ideal) a = S
  pointwise

theorem pay36_apply (d : FVec Ideal S256x1408 .f32) (a : FVec Ideal S256x1408 .f32) (p : Fin 256) (j : Fin 1408) :
    k0_pay36 (F := Ideal) d a (ix2 p j) = d (ix2 p j) * (a (ix2 p j) * Grad.sgT (a (ix2 p j))) := by
  rw [← pay34_apply]
  unfold k0_pay36
  generalize k0_pay34 (F := Ideal) a = S
  pointwise

theorem pay37_apply (d : FVec Ideal S256x1408 .f32) (a : FVec Ideal S256x1408 .f32) (b : FVec Ideal S256x1408 .f32) (p : Fin 256) (j : Fin 1408) :
    k0_pay37 (F := Ideal) d a b (ix3 0 p j) = k0_pay35 (F := Ideal) d a b (ix2 p j) := by
  unfold k0_pay37
  generalize k0_pay35 (F := Ideal) d a b = Y0
  pointwise

theorem pay38_apply (d : FVec Ideal S256x1408 .f32) (a : FVec Ideal S256x1408 .f32) (p : Fin 256) (j : Fin 1408) :
    k0_pay38 (F := Ideal) d a (ix3 0 p j) = k0_pay36 (F := Ideal) d a (ix2 p j) := by
  unfold k0_pay38
  generalize k0_pay36 (F := Ideal) d a = Y0
  pointwise

theorem pay39_apply (d : FVec Ideal S256x1408 .f32) (a : FVec Ideal S256x1408 .f32) (b : FVec Ideal S256x1408 .f32) (w : Vec Ideal S4x352x1024 .bf16) (u : Vec Ideal S4x352x1024 .bf16) (p : Fin 256) (k : Fin 1024) :
    k0_pay39 (F := Ideal) d a b w u (ix2 p k) = (∑ j : Fin 1408, k0_pay35 (F := Ideal) d a b (ix2 p j) * w (ix3 (d4 j) (s4 j) k)) + ∑ j : Fin 1408, k0_pay36 (F := Ideal) d a (ix2 p j) * u (ix3 (d4 j) (s4 j) k) := by
  unfold k0_pay39
  generalize k0_pay35 (F := Ideal) d a b = Y0
  generalize k0_pay36 (F := Ideal) d a = Y1
  pointwise

theorem pay40_eq (w : Vec Ideal S4x352x1024 .bf16) : k0_pay40 (F := Ideal) w = w := by
  funext i
  idx_vars i
  pointwise [k0_pay40]

theorem pay41_apply (n : FVec Ideal S256x1024 .bf16) (w : Vec Ideal S4x352x1024 .bf16) (p : Fin 256) (j : Fin 1408) :
    k0_pay41 (F := Ideal) n w (ix2 p j) = Grad.WHalf * ∑ k : Fin 1024, n (ix2 p k) * w (ix3 (d4 j) (s4 j) k) := by
  pointwise [k0_pay41]

theorem pay43_apply (a : Vec Ideal S1x256x1408 .bf16) (p : Fin 256) (j : Fin 1408) :
    k0_pay43 (F := Ideal) a (ix2 p j) = Grad.sgT (a (ix3 0 p j)) := by
  unfold Grad.sgT
  pointwise [k0_pay43, k0_pay42]

theorem pay44_apply (n : FVec Ideal S256x1024 .bf16) (w : Vec Ideal S4x352x1024 .bf16) (a : Vec Ideal S1x256x1408 .bf16) (b : Vec Ideal S1x256x1408 .bf16) (p : Fin 256) (j : Fin 1408) :
    k0_pay44 (F := Ideal) n w a b (ix2 p j) = k0_pay41 (F := Ideal) n w (ix2 p j) * b (ix3 0 p j) * (Grad.sgT (a (ix3 0 p j)) * (Grad.WOne + a (ix3 0 p j) * (Grad.WOne - Grad.sgT (a (ix3 0 p j))))) := by
  rw [← pay43_apply, ← pay42_apply a]
  unfold k0_pay44
  generalize k0_pay41 (F := Ideal) n w = D
  generalize k0_pay43 (F := Ideal) a = S
  generalize k0_pay42 (F := Ideal) a = A
  pointwise

theorem pay45_apply (n : FVec Ideal S256x1024 .bf16) (w : Vec Ideal S4x352x1024 .bf16) (a : Vec Ideal S1x256x1408 .bf16) (p : Fin 256) (j : Fin 1408) :
    k0_pay45 (F := Ideal) n w a (ix2 p j) = k0_pay41 (F := Ideal) n w (ix2 p j) * (a (ix3 0 p j) * Grad.sgT (a (ix3 0 p j))) := by
  rw [← pay43_apply, ← pay42_apply a]
  unfold k0_pay45
  generalize k0_pay41 (F := Ideal) n w = D
  generalize k0_pay43 (F := Ideal) a = S
  generalize k0_pay42 (F := Ideal) a = A
  pointwise

theorem pay46_apply (n : FVec Ideal S256x1024 .bf16) (w : Vec Ideal S4x352x1024 .bf16) (a : Vec Ideal S1x256x1408 .bf16) (b : Vec Ideal S1x256x1408 .bf16) (p : Fin 256) (j : Fin 1408) :
    k0_pay46 (F := Ideal) n w a b (ix3 0 p j) = k0_pay44 (F := Ideal) n w a b (ix2 p j) := by
  unfold k0_pay46
  generalize k0_pay44 (F := Ideal) n w a b = Y0
  pointwise

theorem pay47_apply (n : FVec Ideal S256x1024 .bf16) (w : Vec Ideal S4x352x1024 .bf16) (a : Vec Ideal S1x256x1408 .bf16) (p : Fin 256) (j : Fin 1408) :
    k0_pay47 (F := Ideal) n w a (ix3 0 p j) = k0_pay45 (F := Ideal) n w a (ix2 p j) := by
  unfold k0_pay47
  generalize k0_pay45 (F := Ideal) n w a = Y0
  pointwise

theorem pay48_apply (y : FVec Ideal S256x1024 .f32) (a : FVec Ideal S256x1408 .bf16) (b : FVec Ideal S256x1408 .bf16) (w : Vec Ideal S4x352x1024 .bf16) (u : Vec Ideal S4x352x1024 .bf16) (p : Fin 256) (k : Fin 1024) :
    k0_pay48 (F := Ideal) y a b w u (ix2 p k) = y (ix2 p k) + ((∑ j : Fin 1408, a (ix2 p j) * w (ix3 (d4 j) (s4 j) k)) + ∑ j : Fin 1408, b (ix2 p j) * u (ix3 (d4 j) (s4 j) k)) := by
  pointwise [k0_pay48]

theorem pay51_apply (x : Vec Ideal S256x1024 .f32) (g : Vec Ideal S1x1024 .f32) (z : FVec Ideal S256x1024 .f32) (y : FVec Ideal S256x1024 .f32) (a : FVec Ideal S256x1408 .bf16) (b : FVec Ideal S256x1408 .bf16) (w : Vec Ideal S4x352x1024 .bf16) (u : Vec Ideal S4x352x1024 .bf16) (p : Fin 256) (k : Fin 1024) :
    k0_pay51 (F := Ideal) x g z y a b w u (ix2 p k) = z (ix2 p k) + Grad.normDx Grad.W1024 Grad.WEps (fun k => x (ix2 p k)) (fun k => k0_pay48 (F := Ideal) y a b w u (ix2 p k)) (fun k => g (ix2 0 k)) k := by
  unfold k0_pay51
  generalize k0_pay48 (F := Ideal) y a b w u = D
  pointwise [k0_pay49, k0_pay50]
  rfl

theorem pay52_apply (x : Vec Ideal S256x1024 .f32) (g : Vec Ideal S1x1024 .f32) (z : FVec Ideal S256x1024 .f32) (y : FVec Ideal S256x1024 .f32) (a : FVec Ideal S256x1408 .bf16) (b : FVec Ideal S256x1408 .bf16) (w : Vec Ideal S4x352x1024 .bf16) (u : Vec Ideal S4x352x1024 .bf16) (p : Fin 256) (k : Fin 1024) :
    k0_pay52 (F := Ideal) x g z y a b w u (ix2 p k) = k0_pay51 (F := Ideal) x g z y a b w u (ix2 p k) := by
  unfold k0_pay52
  generalize k0_pay51 (F := Ideal) x g z y a b w u = Y0
  pointwise

theorem pay53_apply (x : Vec Ideal S256x1024 .f32) (y : FVec Ideal S256x1024 .f32) (a : FVec Ideal S256x1408 .bf16) (b : FVec Ideal S256x1408 .bf16) (w : Vec Ideal S4x352x1024 .bf16) (u : Vec Ideal S4x352x1024 .bf16) (k : Fin 1024) :
    k0_pay53 (F := Ideal) x y a b w u (ix2 0 k) = ∑ p : Fin 256, k0_pay48 (F := Ideal) y a b w u (ix2 p k) * (x (ix2 p k) * Grad.rinv Grad.W1024 Grad.WEps (fun k => x (ix2 p k))) := by
  unfold k0_pay53
  generalize k0_pay48 (F := Ideal) y a b w u = D
  pointwise [k0_pay49, k0_pay50]
  rfl

/-! ## The arrays -/

/-- A hidden column of the first and of the second half. -/
abbrev lo (j : Fin 1408) : Fin 2816 := ⟨j.val, by omega⟩
abbrev hi (j : Fin 1408) : Fin 2816 := ⟨1408 + j.val, by omega⟩

variable (m : (ℓ : Loc nD τ sig) → Buf (Elt Ideal) ℓ) (c : Dev nD)

/-- The arguments, at their coordinates. -/
abbrev xA (s : Fin 4096) (k : Fin 1024) : EReal := (show S4096x1024.Idx → EReal from m ((c : Thread nD τ).loc main_arg0)) (ix2 s k)
abbrev gA (k : Fin 1024) : EReal := (show S1x1024.Idx → EReal from m ((c : Thread nD τ).loc main_arg1)) (ix2 0 k)
abbrev w1A (k : Fin 1024) (f : Fin 2816) : EReal := (show S1024x2816.Idx → EReal from m ((c : Thread nD τ).loc main_arg2)) (ix2 k f)
abbrev w3A (k : Fin 1024) (f : Fin 2816) : EReal := (show S1024x2816.Idx → EReal from m ((c : Thread nD τ).loc main_arg3)) (ix2 k f)
abbrev w2A (f : Fin 2816) (k : Fin 1024) : EReal := (show S2816x1024.Idx → EReal from m ((c : Thread nD τ).loc main_arg4)) (ix2 f k)
abbrev tA (s : Fin 4096) (k : Fin 1024) : EReal := (show S4096x1024.Idx → EReal from m ((c : Thread nD τ).loc main_arg5)) (ix2 s k)
abbrev gfA (k : Fin 1024) : EReal := (show S1x1024.Idx → EReal from m ((c : Thread nD τ).loc main_arg6)) (ix2 0 k)

/-- One row of the arguments. -/
def rowK (s : Fin 4096) : Grad.LastRow := ⟨xA m c s, gA m c, w1A m c, w3A m c, w2A m c, tA m c s, gfA m c⟩

theorem pack1 (d : Fin 8) (r : Fin 352) (k : Fin 1024) (hf : d.val * 352 + r.val < 2816) : (show S8x1056x1024.Idx → EReal from V m c main_v6) (ix3 d ⟨r.val, by omega⟩ k) = w1A m c k ⟨d.val * 352 + r.val, hf⟩ := by
  unfold V
  after_reads_at
  after_reads_at

theorem pack3 (d : Fin 8) (r : Fin 352) (k : Fin 1024) (hf : d.val * 352 + r.val < 2816) : (show S8x1056x1024.Idx → EReal from V m c main_v6) (ix3 d ⟨352 + r.val, by omega⟩ k) = w3A m c k ⟨d.val * 352 + r.val, hf⟩ := by
  unfold V
  after_reads_at
  after_reads_at

theorem pack2 (d : Fin 8) (r : Fin 352) (k : Fin 1024) (hf : d.val * 352 + r.val < 2816) : (show S8x1056x1024.Idx → EReal from V m c main_v6) (ix3 d ⟨704 + r.val, by omega⟩ k) = w2A m c ⟨d.val * 352 + r.val, hf⟩ k := by
  unfold V
  after_reads_at
  after_reads_at
  rw [dif_neg (by omega), dif_neg (by omega)]
  exact congrArg (fun j => w2A m c j k) (Fin.ext (by show d.val * 352 + (704 + r.val - 352 - 352) = d.val * 352 + r.val; omega))

theorem idxs : ∀ t : Fin grid0.N, win0_0.index t = ![t.val, 0] ∧ win0_1.index t = ![0, 0] ∧ win0_2.index t = ![0, 0, 0] ∧ win0_3.index t = ![0, 1, 0] ∧ win0_4.index t = ![0, 2, 0] ∧ win0_5.index t = ![t.val, 0] ∧ win0_6.index t = ![0, 0] := by decide +kernel

theorem oidxs : ∀ t : Fin grid0.N, win0_7.index t = ![t.val, 0] ∧ win0_8.index t = ![0, t.val, 0] ∧ win0_9.index t = ![t.val, 0] ∧ win0_10.index t = ![0, t.val, 0] ∧ win0_11.index t = ![t.val, 0] ∧ win0_12.index t = ![t.val, 0] := by decide +kernel

/-- The array row of a block's row. -/
def rowOf (t : Fin cfg0.N) (p : Fin 256) : Fin 4096 := ⟨t.val * 256 + p.val, by have := t.isLt; have hN : cfg0.N = 16 := N_0; omega⟩

/-- The row that one row of a grid point works on. -/
abbrev at' (t : Fin cfg0.N) (p : Fin 256) : Grad.LastRow := rowK m c (rowOf t p)

/-! ## The blocks a grid point loads -/

def X0 (t : Fin cfg0.N) : Vec Ideal S256x1024 .f32 := iblk m c 0 t
def X1 (t : Fin cfg0.N) : Vec Ideal S1x1024 .f32 := iblk m c 1 t
def X5 (t : Fin cfg0.N) : Vec Ideal S256x1024 .f32 := iblk m c 5 t
def X6 (t : Fin cfg0.N) : Vec Ideal S1x1024 .f32 := iblk m c 6 t

theorem blk0 (t : Fin cfg0.N) (p : Fin 256) (k : Fin 1024) : X0 m c t (ix2 p k) = (at' m c t p).x k := by
  show (show S256x1024.Idx → EReal from iblk m c 0 t) (ix2 p k) = xA m c (rowOf t p) k
  unfold rowOf
  blk_ext [iblk, V_main_arg0, idxs t]

theorem blk1 (t : Fin cfg0.N) (p : Fin 256) (k : Fin 1024) : X1 m c t (ix2 0 k) = (at' m c t p).g k := by
  show (show S1x1024.Idx → EReal from iblk m c 1 t) (ix2 0 k) = gA m c k
  blk_ext [iblk, V_main_arg1, idxs t]

theorem blk5 (t : Fin cfg0.N) (p : Fin 256) (k : Fin 1024) : X5 m c t (ix2 p k) = (at' m c t p).t k := by
  show (show S256x1024.Idx → EReal from iblk m c 5 t) (ix2 p k) = tA m c (rowOf t p) k
  unfold rowOf
  blk_ext [iblk, V_main_arg5, idxs t]

theorem blk6 (t : Fin cfg0.N) (p : Fin 256) (k : Fin 1024) : X6 m c t (ix2 0 k) = (at' m c t p).gf k := by
  show (show S1x1024.Idx → EReal from iblk m c 6 t) (ix2 0 k) = gfA m c k
  blk_ext [iblk, V_main_arg6, idxs t]

theorem blk2 (t : Fin cfg0.N) (f : Fin 2816) (k : Fin 1024) : (show S8x352x1024.Idx → EReal from iblk m c 2 t) (ix3 (devOf f) (shardOf f) k) = w1A m c k f := by
  have e := pack1 m c (devOf f) (shardOf f) k (by show f.val / 352 * 352 + f.val % 352 < 2816; omega)
  rw [show (⟨(devOf f).val * 352 + (shardOf f).val, _⟩ : Fin 2816) = f from Fin.ext (by show f.val / 352 * 352 + f.val % 352 = f.val; omega)] at e
  rw [← e]
  blk_ext [iblk, idxs t]

theorem blk3 (t : Fin cfg0.N) (f : Fin 2816) (k : Fin 1024) : (show S8x352x1024.Idx → EReal from iblk m c 3 t) (ix3 (devOf f) (shardOf f) k) = w3A m c k f := by
  have e := pack3 m c (devOf f) (shardOf f) k (by show f.val / 352 * 352 + f.val % 352 < 2816; omega)
  rw [show (⟨(devOf f).val * 352 + (shardOf f).val, _⟩ : Fin 2816) = f from Fin.ext (by show f.val / 352 * 352 + f.val % 352 = f.val; omega)] at e
  rw [← e]
  blk_ext [iblk, idxs t]

theorem blk4 (t : Fin cfg0.N) (f : Fin 2816) (k : Fin 1024) : (show S8x352x1024.Idx → EReal from iblk m c 4 t) (ix3 (devOf f) (shardOf f) k) = w2A m c f k := by
  have e := pack2 m c (devOf f) (shardOf f) k (by show f.val / 352 * 352 + f.val % 352 < 2816; omega)
  rw [show (⟨(devOf f).val * 352 + (shardOf f).val, _⟩ : Fin 2816) = f from Fin.ext (by show f.val / 352 * 352 + f.val % 352 = f.val; omega)] at e
  rw [← e]
  blk_ext [iblk, idxs t]

/-- The half of a weight block that the body loads. -/
theorem ldLo {e : EltTy} (X : S8x352x1024.Idx → Elt Ideal e) (j : Fin 1408) (k : Fin 1024) :
    View.ld X (Rect.unit ![0, 0, 0] ![4, 352, 1024] inb_S8x352x1024_S4x352x1024_0_0_0) (ix3 (d4 j) (s4 j) k) = X (ix3 (devOf (lo j)) (shardOf (lo j)) k) := by
  refine congrArg X (funext fun a => Fin.ext ?_)
  match a with
  | ⟨0, _⟩ => show 0 + 1 * (j.val / 352) = j.val / 352; omega
  | ⟨1, _⟩ => show 0 + 1 * (j.val % 352) = j.val % 352; omega
  | ⟨2, _⟩ => show 0 + 1 * k.val = k.val; omega
theorem ldHi {e : EltTy} (X : S8x352x1024.Idx → Elt Ideal e) (j : Fin 1408) (k : Fin 1024) :
    View.ld X (Rect.unit ![4, 0, 0] ![4, 352, 1024] inb_S8x352x1024_S4x352x1024_4_0_0) (ix3 (d4 j) (s4 j) k) = X (ix3 (devOf (hi j)) (shardOf (hi j)) k) := by
  refine congrArg X (funext fun a => Fin.ext ?_)
  match a with
  | ⟨0, _⟩ => show 4 + 1 * (j.val / 352) = (1408 + j.val) / 352; omega
  | ⟨1, _⟩ => show 0 + 1 * (j.val % 352) = (1408 + j.val) % 352; omega
  | ⟨2, _⟩ => show 0 + 1 * k.val = k.val; omega

def w1c0 (t : Fin cfg0.N) : Vec Ideal S4x352x1024 .bf16 := View.ld (iblk m c 2 t) (Rect.unit ![0, 0, 0] ![4, 352, 1024] inb_S8x352x1024_S4x352x1024_0_0_0)
theorem w1c0_blk (t : Fin cfg0.N) (p : Fin 256) (j : Fin 1408) (k : Fin 1024) : w1c0 m c t (ix3 (d4 j) (s4 j) k) = (at' m c t p).w1 k (lo j) :=
  (ldLo (e := .bf16) (iblk m c 2 t) j k).trans (blk2 m c t (lo j) k)

def w1c1 (t : Fin cfg0.N) : Vec Ideal S4x352x1024 .bf16 := View.ld (iblk m c 2 t) (Rect.unit ![4, 0, 0] ![4, 352, 1024] inb_S8x352x1024_S4x352x1024_4_0_0)
theorem w1c1_blk (t : Fin cfg0.N) (p : Fin 256) (j : Fin 1408) (k : Fin 1024) : w1c1 m c t (ix3 (d4 j) (s4 j) k) = (at' m c t p).w1 k (hi j) :=
  (ldHi (e := .bf16) (iblk m c 2 t) j k).trans (blk2 m c t (hi j) k)

def w3c0 (t : Fin cfg0.N) : Vec Ideal S4x352x1024 .bf16 := View.ld (iblk m c 3 t) (Rect.unit ![0, 0, 0] ![4, 352, 1024] inb_S8x352x1024_S4x352x1024_0_0_0)
theorem w3c0_blk (t : Fin cfg0.N) (p : Fin 256) (j : Fin 1408) (k : Fin 1024) : w3c0 m c t (ix3 (d4 j) (s4 j) k) = (at' m c t p).w3 k (lo j) :=
  (ldLo (e := .bf16) (iblk m c 3 t) j k).trans (blk3 m c t (lo j) k)

def w3c1 (t : Fin cfg0.N) : Vec Ideal S4x352x1024 .bf16 := View.ld (iblk m c 3 t) (Rect.unit ![4, 0, 0] ![4, 352, 1024] inb_S8x352x1024_S4x352x1024_4_0_0)
theorem w3c1_blk (t : Fin cfg0.N) (p : Fin 256) (j : Fin 1408) (k : Fin 1024) : w3c1 m c t (ix3 (d4 j) (s4 j) k) = (at' m c t p).w3 k (hi j) :=
  (ldHi (e := .bf16) (iblk m c 3 t) j k).trans (blk3 m c t (hi j) k)

def w2c0 (t : Fin cfg0.N) : Vec Ideal S4x352x1024 .bf16 := View.ld (iblk m c 4 t) (Rect.unit ![0, 0, 0] ![4, 352, 1024] inb_S8x352x1024_S4x352x1024_0_0_0)
theorem w2c0_blk (t : Fin cfg0.N) (p : Fin 256) (j : Fin 1408) (k : Fin 1024) : w2c0 m c t (ix3 (d4 j) (s4 j) k) = (at' m c t p).w2 (lo j) k :=
  (ldLo (e := .bf16) (iblk m c 4 t) j k).trans (blk4 m c t (lo j) k)

def w2c1 (t : Fin cfg0.N) : Vec Ideal S4x352x1024 .bf16 := View.ld (iblk m c 4 t) (Rect.unit ![4, 0, 0] ![4, 352, 1024] inb_S8x352x1024_S4x352x1024_4_0_0)
theorem w2c1_blk (t : Fin cfg0.N) (p : Fin 256) (j : Fin 1408) (k : Fin 1024) : w2c1 m c t (ix3 (d4 j) (s4 j) k) = (at' m c t p).w2 (hi j) k :=
  (ldHi (e := .bf16) (iblk m c 4 t) j k).trans (blk4 m c t (hi j) k)

/-! ## The values of a grid point, forwards -/

def nB (t : Fin cfg0.N) : FVec Ideal S256x1024 .bf16 := k0_pay5 (F := Ideal) (X0 m c t) (X1 m c t)
theorem n_blk (t : Fin cfg0.N) (p : Fin 256) (k : Fin 1024) : nB m c t (ix2 p k) = (at' m c t p).n k := by
  refine (pay5_apply _ _ p k).trans ?_
  rw [funext (blk0 m c t p), blk0, blk1 m c t p]
  rfl

def a0B (t : Fin cfg0.N) : FVec Ideal S256x1408 .bf16 := k0_pay6 (F := Ideal) (X0 m c t) (X1 m c t) (w1c0 m c t)
theorem a0_blk (t : Fin cfg0.N) (p : Fin 256) (j : Fin 1408) : a0B m c t (ix2 p j) = (at' m c t p).a (lo j) := by
  refine (pay6_apply _ _ _ p j).trans ?_
  unfold Grad.LastRow.a
  exact Finset.sum_congr rfl fun k _ => congrArg₂ (· * ·) (n_blk m c t p k) (w1c0_blk m c t p j k)

def b0B (t : Fin cfg0.N) : FVec Ideal S256x1408 .bf16 := k0_pay7 (F := Ideal) (X0 m c t) (X1 m c t) (w3c0 m c t)
theorem b0_blk (t : Fin cfg0.N) (p : Fin 256) (j : Fin 1408) : b0B m c t (ix2 p j) = (at' m c t p).b (lo j) := by
  refine (pay7_apply _ _ _ p j).trans ?_
  unfold Grad.LastRow.b
  exact Finset.sum_congr rfl fun k _ => congrArg₂ (· * ·) (n_blk m c t p k) (w3c0_blk m c t p j k)

def a1B (t : Fin cfg0.N) : FVec Ideal S256x1408 .f32 := k0_pay13 (F := Ideal) (nB m c t) (w1c1 m c t)
theorem a1_blk (t : Fin cfg0.N) (p : Fin 256) (j : Fin 1408) : a1B m c t (ix2 p j) = (at' m c t p).a (hi j) := by
  refine (pay13_apply _ _ p j).trans ?_
  unfold Grad.LastRow.a
  exact Finset.sum_congr rfl fun k _ => congrArg₂ (· * ·) (n_blk m c t p k) (w1c1_blk m c t p j k)

def b1B (t : Fin cfg0.N) : FVec Ideal S256x1408 .f32 := k0_pay14 (F := Ideal) (nB m c t) (w3c1 m c t)
theorem b1_blk (t : Fin cfg0.N) (p : Fin 256) (j : Fin 1408) : b1B m c t (ix2 p j) = (at' m c t p).b (hi j) := by
  refine (pay14_apply _ _ p j).trans ?_
  unfold Grad.LastRow.b
  exact Finset.sum_congr rfl fun k _ => congrArg₂ (· * ·) (n_blk m c t p k) (w3c1_blk m c t p j k)

def h0B (t : Fin cfg0.N) : FVec Ideal S256x1408 .bf16 := k0_pay8 (F := Ideal) (X0 m c t) (X1 m c t) (w1c0 m c t) (w3c0 m c t)
theorem h0_blk (t : Fin cfg0.N) (p : Fin 256) (j : Fin 1408) : h0B m c t (ix2 p j) = (at' m c t p).hK (lo j) := by
  refine (pay8_apply _ _ _ _ p j).trans ?_
  show a0B m c t (ix2 p j) * Grad.sgT (a0B m c t (ix2 p j)) * b0B m c t (ix2 p j) = _
  rw [a0_blk, b0_blk]
  rfl

def f1B (t : Fin cfg0.N) : FVec Ideal S256x1408 .f32 := k0_pay15 (F := Ideal) (nB m c t) (w3c1 m c t)
theorem f1_blk (t : Fin cfg0.N) (p : Fin 256) (j : Fin 1408) : f1B m c t (ix2 p j) = (at' m c t p).b (hi j) := (pay15_apply _ _ p j).trans (b1_blk m c t p j)

def s1B (t : Fin cfg0.N) : FVec Ideal S256x1408 .f32 := k0_pay16 (F := Ideal) (nB m c t) (w1c1 m c t)
theorem s1_blk (t : Fin cfg0.N) (p : Fin 256) (j : Fin 1408) : s1B m c t (ix2 p j) = (at' m c t p).a (hi j) * Grad.sgT ((at' m c t p).a (hi j)) := by
  refine (pay16_apply _ _ p j).trans ?_
  show a1B m c t (ix2 p j) * Grad.sgT (a1B m c t (ix2 p j)) = _
  rw [a1_blk]

def h1B (t : Fin cfg0.N) : FVec Ideal S256x1408 .bf16 := k0_pay17 (F := Ideal) (f1B m c t) (s1B m c t)
theorem h1_blk (t : Fin cfg0.N) (p : Fin 256) (j : Fin 1408) : h1B m c t (ix2 p j) = (at' m c t p).hK (hi j) := by
  refine (pay17_apply _ _ p j).trans ?_
  rw [s1_blk, f1_blk]
  rfl

def yB (t : Fin cfg0.N) : FVec Ideal S256x1024 .f32 := k0_pay12 (F := Ideal) (h0B m c t) (w2c0 m c t)
theorem y_blk (t : Fin cfg0.N) (p : Fin 256) (k : Fin 1024) : yB m c t (ix2 p k) = ∑ j : Fin 1408, (at' m c t p).hK (lo j) * (at' m c t p).w2 (lo j) k := by
  refine (pay12_apply _ _ p k).trans ?_
  exact Finset.sum_congr rfl fun j _ => congrArg₂ (· * ·) (h0_blk m c t p j) (w2c0_blk m c t p j k)

def xoB (t : Fin cfg0.N) : FVec Ideal S256x1024 .f32 := k0_pay21 (F := Ideal) (X0 m c t) (yB m c t) (f1B m c t) (s1B m c t) (w2c1 m c t)
theorem xo_blk (t : Fin cfg0.N) (p : Fin 256) (k : Fin 1024) : xoB m c t (ix2 p k) = (at' m c t p).xoK k := by
  refine (pay21_apply _ _ _ _ _ p k).trans ?_
  show X0 m c t (ix2 p k) + Grad.WHalf * (yB m c t (ix2 p k) + ∑ j : Fin 1408, h1B m c t (ix2 p j) * w2c1 m c t (ix3 (d4 j) (s4 j) k)) = _
  rw [blk0, y_blk]
  unfold Grad.LastRow.xoK
  refine congrArg (fun z => (at' m c t p).x k + Grad.WHalf * z) ?_
  refine Eq.trans (congrArg (_ + ·) (Finset.sum_congr rfl fun j _ => congrArg₂ (· * ·) (h1_blk m c t p j) (w2c1_blk m c t p j k))) ?_
  exact Grad.sum_two (fun f => (at' m c t p).hK f * (at' m c t p).w2 f k)

def rB (t : Fin cfg0.N) : FVec Ideal S256x1 .f32 := k0_pay22 (F := Ideal) (X0 m c t) (yB m c t) (f1B m c t) (s1B m c t) (w2c1 m c t)
theorem r_blk (t : Fin cfg0.N) (p : Fin 256) : rB m c t (ix2 p 0) = Grad.rinv Grad.W1024 Grad.WEps (at' m c t p).xoK := (pay22_apply _ _ _ _ _ p).trans (congrArg (Grad.rinv Grad.W1024 Grad.WEps) (funext (xo_blk m c t p)))

def xhB (t : Fin cfg0.N) : FVec Ideal S256x1024 .f32 := k0_pay23 (F := Ideal) (X0 m c t) (yB m c t) (f1B m c t) (s1B m c t) (w2c1 m c t)
theorem xh_blk (t : Fin cfg0.N) (p : Fin 256) (k : Fin 1024) : xhB m c t (ix2 p k) = (at' m c t p).xoK k * Grad.rinv Grad.W1024 Grad.WEps (at' m c t p).xoK := (pay23_apply _ _ _ _ _ p k).trans (congrArg₂ (· * ·) (xo_blk m c t p k) (r_blk m c t p))

def eB (t : Fin cfg0.N) : FVec Ideal S256x1024 .f32 := k0_pay24 (F := Ideal) (X0 m c t) (yB m c t) (f1B m c t) (s1B m c t) (w2c1 m c t) (X5 m c t) (X6 m c t)
theorem e_blk (t : Fin cfg0.N) (p : Fin 256) (k : Fin 1024) : eB m c t (ix2 p k) = (at' m c t p).eK k := by
  refine (pay24_apply _ _ _ _ _ _ _ p k).trans ?_
  exact congrArg₂ (· - ·) (congrArg₂ (· * ·) (xh_blk m c t p k) (blk6 m c t p k)) (blk5 m c t p k)

def lsB (t : Fin cfg0.N) : FVec Ideal S1x1 .f32 := k0_pay26 (F := Ideal) (k0_pay25 (F := Ideal) (X0 m c t) (yB m c t) (f1B m c t) (s1B m c t) (w2c1 m c t) (X5 m c t) (X6 m c t))
theorem ls_blk (t : Fin cfg0.N)  : lsB m c t (ix2 0 0) = Grad.WHalf * ∑ p : Fin 256, (at' m c t p).sqK * Grad.WInv := by
  refine (pay26_apply _).trans ?_
  refine congrArg (Grad.WHalf * ·) (Finset.sum_congr rfl fun p _ => congrArg (· * Grad.WInv) (Finset.sum_congr rfl fun k _ => ?_))
  exact (pay25_apply _ _ _ _ _ _ _ p k).trans (congrArg₂ (· * ·) (e_blk m c t p k) (e_blk m c t p k))

/-! ## The values of a grid point, backwards -/

def dyB (t : Fin cfg0.N) : FVec Ideal S256x1024 .f32 := k0_pay27 (F := Ideal) (eB m c t)
theorem dy_blk (t : Fin cfg0.N) (p : Fin 256) (k : Fin 1024) : dyB m c t (ix2 p k) = (at' m c t p).dyK k := (pay27_apply _ p k).trans (congrArg (· * Grad.WInv) (e_blk m c t p k))

def dxoB (t : Fin cfg0.N) : FVec Ideal S256x1024 .f32 := k0_pay28 (F := Ideal) (X6 m c t) (rB m c t) (xhB m c t) (eB m c t)
theorem dxo_blk (t : Fin cfg0.N) (p : Fin 256) (k : Fin 1024) : dxoB m c t (ix2 p k) = (at' m c t p).dxoK k := by
  refine (pay28_apply _ _ _ _ p k).trans ?_
  show rB m c t (ix2 p 0) * (dyB m c t (ix2 p k) * X6 m c t (ix2 0 k) - xhB m c t (ix2 p k) * Ideal.div (∑ k : Fin 1024, dyB m c t (ix2 p k) * X6 m c t (ix2 0 k) * xhB m c t (ix2 p k)) Grad.W1024) = _
  have e : (∑ k : Fin 1024, dyB m c t (ix2 p k) * X6 m c t (ix2 0 k) * xhB m c t (ix2 p k)) = ∑ k : Fin 1024, (at' m c t p).dyK k * (at' m c t p).gf k * ((at' m c t p).xoK k * Grad.rinv Grad.W1024 Grad.WEps (at' m c t p).xoK) :=
    Finset.sum_congr rfl fun k _ => congrArg₂ (· * ·) (congrArg₂ (· * ·) (dy_blk m c t p k) (blk6 m c t p k)) (xh_blk m c t p k)
  rw [e, r_blk, dy_blk, blk6 m c t p, xh_blk]
  rfl

def dgfB (t : Fin cfg0.N) : FVec Ideal S1x1024 .f32 := k0_pay29 (F := Ideal) (xhB m c t) (eB m c t)
theorem dgf_blk (t : Fin cfg0.N) (k : Fin 1024) : dgfB m c t (ix2 0 k) = ∑ p : Fin 256, (at' m c t p).dgfK k := by
  refine (pay29_apply _ _ k).trans ?_
  exact Finset.sum_congr rfl fun p _ => congrArg₂ (· * ·) (dy_blk m c t p k) (xh_blk m c t p k)

def dxbB (t : Fin cfg0.N) : FVec Ideal S256x1024 .bf16 := k0_pay30 (F := Ideal) (X6 m c t) (rB m c t) (xhB m c t) (eB m c t)
theorem dxb_blk (t : Fin cfg0.N) (p : Fin 256) (k : Fin 1024) : dxbB m c t (ix2 p k) = (at' m c t p).dxoK k := (pay30_apply _ _ _ _ p k).trans (dxo_blk m c t p k)

def dh0B (t : Fin cfg0.N) : FVec Ideal S256x1408 .f32 := k0_pay31 (F := Ideal) (X6 m c t) (rB m c t) (xhB m c t) (eB m c t) (w2c0 m c t)
theorem dh0_blk (t : Fin cfg0.N) (p : Fin 256) (j : Fin 1408) : dh0B m c t (ix2 p j) = (at' m c t p).dhK (lo j) := by
  refine (pay31_apply _ _ _ _ _ p j).trans ?_
  exact congrArg (Grad.WHalf * ·) (Finset.sum_congr rfl fun k _ => congrArg₂ (· * ·) (dxb_blk m c t p k) (w2c0_blk m c t p j k))

def dh1B (t : Fin cfg0.N) : FVec Ideal S256x1408 .f32 := k0_pay41 (F := Ideal) (dxbB m c t) (k0_pay40 (F := Ideal) (w2c1 m c t))
theorem dh1_blk (t : Fin cfg0.N) (p : Fin 256) (j : Fin 1408) : dh1B m c t (ix2 p j) = (at' m c t p).dhK (hi j) := by
  refine (pay41_apply _ _ p j).trans ?_
  exact congrArg (Grad.WHalf * ·) (Finset.sum_congr rfl fun k _ => congrArg₂ (· * ·) (dxb_blk m c t p k) ((congrFun (pay40_eq (w2c1 m c t)) _).trans (w2c1_blk m c t p j k)))

def ra0B (t : Fin cfg0.N) : FVec Ideal S256x1408 .f32 := k0_pay32 (F := Ideal) (k0_pay9 (F := Ideal) (a0B m c t))
theorem ra0_blk (t : Fin cfg0.N) (p : Fin 256) (j : Fin 1408) : ra0B m c t (ix2 p j) = (at' m c t p).a (lo j) := (pay32_apply _ p j).trans ((pay9_apply _ p j).trans (a0_blk m c t p j))

def rb0B (t : Fin cfg0.N) : FVec Ideal S256x1408 .f32 := k0_pay33 (F := Ideal) (k0_pay10 (F := Ideal) (b0B m c t))
theorem rb0_blk (t : Fin cfg0.N) (p : Fin 256) (j : Fin 1408) : rb0B m c t (ix2 p j) = (at' m c t p).b (lo j) := (pay33_apply _ p j).trans ((pay10_apply _ p j).trans (b0_blk m c t p j))

def pa1B (t : Fin cfg0.N) : Vec Ideal S1x256x1408 .bf16 := k0_pay18 (F := Ideal) (k0_pay13 (F := Ideal) (nB m c t) (w1c1 m c t))
theorem pa1_blk (t : Fin cfg0.N) (p : Fin 256) (j : Fin 1408) : pa1B m c t (ix3 0 p j) = (at' m c t p).a (hi j) := (pay18_apply _ p j).trans (a1_blk m c t p j)

def pb1B (t : Fin cfg0.N) : Vec Ideal S1x256x1408 .bf16 := k0_pay19 (F := Ideal) (k0_pay14 (F := Ideal) (nB m c t) (w3c1 m c t))
theorem pb1_blk (t : Fin cfg0.N) (p : Fin 256) (j : Fin 1408) : pb1B m c t (ix3 0 p j) = (at' m c t p).b (hi j) := (pay19_apply _ p j).trans (b1_blk m c t p j)

def da0B (t : Fin cfg0.N) : FVec Ideal S256x1408 .bf16 := k0_pay35 (F := Ideal) (dh0B m c t) (ra0B m c t) (rb0B m c t)
theorem da0_blk (t : Fin cfg0.N) (p : Fin 256) (j : Fin 1408) : da0B m c t (ix2 p j) = (at' m c t p).daK (lo j) := by
  refine (pay35_apply _ _ _ p j).trans ?_
  rw [dh0_blk, ra0_blk, rb0_blk]
  rfl

def db0B (t : Fin cfg0.N) : FVec Ideal S256x1408 .bf16 := k0_pay36 (F := Ideal) (dh0B m c t) (ra0B m c t)
theorem db0_blk (t : Fin cfg0.N) (p : Fin 256) (j : Fin 1408) : db0B m c t (ix2 p j) = (at' m c t p).dbK (lo j) := by
  refine (pay36_apply _ _ p j).trans ?_
  rw [dh0_blk, ra0_blk]
  rfl

def da1B (t : Fin cfg0.N) : FVec Ideal S256x1408 .bf16 := k0_pay44 (F := Ideal) (dxbB m c t) (k0_pay40 (F := Ideal) (w2c1 m c t)) (pa1B m c t) (pb1B m c t)
theorem da1_blk (t : Fin cfg0.N) (p : Fin 256) (j : Fin 1408) : da1B m c t (ix2 p j) = (at' m c t p).daK (hi j) := by
  refine (pay44_apply _ _ _ _ p j).trans ?_
  rw [show k0_pay41 (F := Ideal) (dxbB m c t) (k0_pay40 (F := Ideal) (w2c1 m c t)) (ix2 p j) = _ from dh1_blk m c t p j, pa1_blk, pb1_blk]
  rfl

def db1B (t : Fin cfg0.N) : FVec Ideal S256x1408 .bf16 := k0_pay45 (F := Ideal) (dxbB m c t) (k0_pay40 (F := Ideal) (w2c1 m c t)) (pa1B m c t)
theorem db1_blk (t : Fin cfg0.N) (p : Fin 256) (j : Fin 1408) : db1B m c t (ix2 p j) = (at' m c t p).dbK (hi j) := by
  refine (pay45_apply _ _ _ p j).trans ?_
  rw [show k0_pay41 (F := Ideal) (dxbB m c t) (k0_pay40 (F := Ideal) (w2c1 m c t)) (ix2 p j) = _ from dh1_blk m c t p j, pa1_blk]
  rfl

def dn0B (t : Fin cfg0.N) : FVec Ideal S256x1024 .f32 := k0_pay39 (F := Ideal) (dh0B m c t) (ra0B m c t) (rb0B m c t) (w1c0 m c t) (w3c0 m c t)
theorem dn0_blk (t : Fin cfg0.N) (p : Fin 256) (k : Fin 1024) : dn0B m c t (ix2 p k) = (∑ j : Fin 1408, (at' m c t p).daK (lo j) * (at' m c t p).w1 k (lo j)) + ∑ j : Fin 1408, (at' m c t p).dbK (lo j) * (at' m c t p).w3 k (lo j) := by
  refine (pay39_apply _ _ _ _ _ p k).trans ?_
  exact congrArg₂ (· + ·) (Finset.sum_congr rfl fun j _ => congrArg₂ (· * ·) (da0_blk m c t p j) (w1c0_blk m c t p j k)) (Finset.sum_congr rfl fun j _ => congrArg₂ (· * ·) (db0_blk m c t p j) (w3c0_blk m c t p j k))

def dnB (t : Fin cfg0.N) : FVec Ideal S256x1024 .f32 := k0_pay48 (F := Ideal) (dn0B m c t) (da1B m c t) (db1B m c t) (w1c1 m c t) (w3c1 m c t)
theorem dn_blk (t : Fin cfg0.N) (p : Fin 256) (k : Fin 1024) : dnB m c t (ix2 p k) = (at' m c t p).dnK k := by
  refine (pay48_apply _ _ _ _ _ p k).trans ?_
  rw [dn0_blk]
  refine Eq.trans (congrArg (_ + ·) (congrArg₂ (· + ·) (Finset.sum_congr rfl fun j _ => congrArg₂ (· * ·) (da1_blk m c t p j) (w1c1_blk m c t p j k)) (Finset.sum_congr rfl fun j _ => congrArg₂ (· * ·) (db1_blk m c t p j) (w3c1_blk m c t p j k)))) ?_
  refine (add_add_add_comm _ _ _ _).trans ?_
  exact congrArg₂ (· + ·) (Grad.sum_two (fun f => (at' m c t p).daK f * (at' m c t p).w1 k f)) (Grad.sum_two (fun f => (at' m c t p).dbK f * (at' m c t p).w3 k f))

def dxB (t : Fin cfg0.N) : FVec Ideal S256x1024 .f32 := k0_pay51 (F := Ideal) (X0 m c t) (X1 m c t) (dxoB m c t) (dn0B m c t) (da1B m c t) (db1B m c t) (w1c1 m c t) (w3c1 m c t)
theorem dx_blk (t : Fin cfg0.N) (p : Fin 256) (k : Fin 1024) : dxB m c t (ix2 p k) = (at' m c t p).dxK k := by
  refine (pay51_apply _ _ _ _ _ _ _ _ p k).trans ?_
  show dxoB m c t (ix2 p k) + Grad.normDx Grad.W1024 Grad.WEps (fun k => X0 m c t (ix2 p k)) (fun k => dnB m c t (ix2 p k)) (fun k => X1 m c t (ix2 0 k)) k = _
  rw [funext (blk0 m c t p), funext (dn_blk m c t p), funext (blk1 m c t p), dxo_blk]
  rfl

def dgB (t : Fin cfg0.N) : FVec Ideal S1x1024 .f32 := k0_pay53 (F := Ideal) (X0 m c t) (dn0B m c t) (da1B m c t) (db1B m c t) (w1c1 m c t) (w3c1 m c t)
theorem dg_blk (t : Fin cfg0.N) (k : Fin 1024) : dgB m c t (ix2 0 k) = ∑ p : Fin 256, (at' m c t p).dgK k := by
  refine (pay53_apply _ _ _ _ _ _ k).trans ?_
  refine Finset.sum_congr rfl fun p _ => ?_
  show dnB m c t (ix2 p k) * (X0 m c t (ix2 p k) * Grad.rinv Grad.W1024 Grad.WEps (fun k => X0 m c t (ix2 p k))) = _
  rw [funext (blk0 m c t p), blk0, dn_blk]
  rfl

/-! ## What the body reads back of its own stores -/

theorem rb_a0 {κ : Kind} {sp : Space} (v : View sig κ sp S3x256x2816 .bf16) (h1 b1 a1 h0 b0 a0 : Vec Ideal S1x256x1408 .bf16) :
    v.readCov (Val := Elt Ideal) [⟨Rect.unit ![2, 0, 1408] ![1, 256, 1408] inb_S3x256x2816_S1x256x1408_2_0_1408, h1⟩, ⟨Rect.unit ![1, 0, 1408] ![1, 256, 1408] inb_S3x256x2816_S1x256x1408_1_0_1408, b1⟩, ⟨Rect.unit ![0, 0, 1408] ![1, 256, 1408] inb_S3x256x2816_S1x256x1408_0_0_1408, a1⟩, ⟨Rect.unit ![2, 0, 0] ![1, 256, 1408] inb_S3x256x2816_S1x256x1408_2_0_0, h0⟩, ⟨Rect.unit ![1, 0, 0] ![1, 256, 1408] inb_S3x256x2816_S1x256x1408_1_0_0, b0⟩, ⟨Rect.unit ![0, 0, 0] ![1, 256, 1408] inb_S3x256x2816_S1x256x1408_0_0_0, a0⟩] (Rect.unit ![0, 0, 0] ![1, 256, 1408] inb_S3x256x2816_S1x256x1408_0_0_0).toLoadRect = a0 := by
  rw [View.readCov_skip _ _ _ _ _ (by decide), View.readCov_skip _ _ _ _ _ (by decide), View.readCov_skip _ _ _ _ _ (by decide), View.readCov_skip _ _ _ _ _ (by decide), View.readCov_skip _ _ _ _ _ (by decide)]
  exact View.readCov_cons_toLoadRect _ _ _ _

theorem rb_b0 {κ : Kind} {sp : Space} (v : View sig κ sp S3x256x2816 .bf16) (h1 b1 a1 h0 b0 a0 : Vec Ideal S1x256x1408 .bf16) :
    v.readCov (Val := Elt Ideal) [⟨Rect.unit ![2, 0, 1408] ![1, 256, 1408] inb_S3x256x2816_S1x256x1408_2_0_1408, h1⟩, ⟨Rect.unit ![1, 0, 1408] ![1, 256, 1408] inb_S3x256x2816_S1x256x1408_1_0_1408, b1⟩, ⟨Rect.unit ![0, 0, 1408] ![1, 256, 1408] inb_S3x256x2816_S1x256x1408_0_0_1408, a1⟩, ⟨Rect.unit ![2, 0, 0] ![1, 256, 1408] inb_S3x256x2816_S1x256x1408_2_0_0, h0⟩, ⟨Rect.unit ![1, 0, 0] ![1, 256, 1408] inb_S3x256x2816_S1x256x1408_1_0_0, b0⟩, ⟨Rect.unit ![0, 0, 0] ![1, 256, 1408] inb_S3x256x2816_S1x256x1408_0_0_0, a0⟩] (Rect.unit ![1, 0, 0] ![1, 256, 1408] inb_S3x256x2816_S1x256x1408_1_0_0).toLoadRect = b0 := by
  rw [View.readCov_skip _ _ _ _ _ (by decide), View.readCov_skip _ _ _ _ _ (by decide), View.readCov_skip _ _ _ _ _ (by decide), View.readCov_skip _ _ _ _ _ (by decide)]
  exact View.readCov_cons_toLoadRect _ _ _ _

theorem rb_a1 {κ : Kind} {sp : Space} (v : View sig κ sp S3x256x2816 .bf16) (h1 b1 a1 h0 b0 a0 : Vec Ideal S1x256x1408 .bf16) :
    v.readCov (Val := Elt Ideal) [⟨Rect.unit ![2, 0, 1408] ![1, 256, 1408] inb_S3x256x2816_S1x256x1408_2_0_1408, h1⟩, ⟨Rect.unit ![1, 0, 1408] ![1, 256, 1408] inb_S3x256x2816_S1x256x1408_1_0_1408, b1⟩, ⟨Rect.unit ![0, 0, 1408] ![1, 256, 1408] inb_S3x256x2816_S1x256x1408_0_0_1408, a1⟩, ⟨Rect.unit ![2, 0, 0] ![1, 256, 1408] inb_S3x256x2816_S1x256x1408_2_0_0, h0⟩, ⟨Rect.unit ![1, 0, 0] ![1, 256, 1408] inb_S3x256x2816_S1x256x1408_1_0_0, b0⟩, ⟨Rect.unit ![0, 0, 0] ![1, 256, 1408] inb_S3x256x2816_S1x256x1408_0_0_0, a0⟩] (Rect.unit ![0, 0, 1408] ![1, 256, 1408] inb_S3x256x2816_S1x256x1408_0_0_1408).toLoadRect = a1 := by
  rw [View.readCov_skip _ _ _ _ _ (by decide), View.readCov_skip _ _ _ _ _ (by decide)]
  exact View.readCov_cons_toLoadRect _ _ _ _

theorem rb_b1 {κ : Kind} {sp : Space} (v : View sig κ sp S3x256x2816 .bf16) (h1 b1 a1 h0 b0 a0 : Vec Ideal S1x256x1408 .bf16) :
    v.readCov (Val := Elt Ideal) [⟨Rect.unit ![2, 0, 1408] ![1, 256, 1408] inb_S3x256x2816_S1x256x1408_2_0_1408, h1⟩, ⟨Rect.unit ![1, 0, 1408] ![1, 256, 1408] inb_S3x256x2816_S1x256x1408_1_0_1408, b1⟩, ⟨Rect.unit ![0, 0, 1408] ![1, 256, 1408] inb_S3x256x2816_S1x256x1408_0_0_1408, a1⟩, ⟨Rect.unit ![2, 0, 0] ![1, 256, 1408] inb_S3x256x2816_S1x256x1408_2_0_0, h0⟩, ⟨Rect.unit ![1, 0, 0] ![1, 256, 1408] inb_S3x256x2816_S1x256x1408_1_0_0, b0⟩, ⟨Rect.unit ![0, 0, 0] ![1, 256, 1408] inb_S3x256x2816_S1x256x1408_0_0_0, a0⟩] (Rect.unit ![1, 0, 1408] ![1, 256, 1408] inb_S3x256x2816_S1x256x1408_1_0_1408).toLoadRect = b1 := by
  rw [View.readCov_skip _ _ _ _ _ (by decide)]
  exact View.readCov_cons_toLoadRect _ _ _ _

theorem canon8 (h1 b1 a1 h0 b0 a0 : S1x256x1408.Idx → EReal) (y0 : Fin 3) (y1 : Fin 256) (y2 : Fin 2816) (v : EReal)
    (e_h1 : ∀ j : Fin 1408, y0.val = 2 → y2 = hi j → h1 (ix3 0 y1 j) = v)
    (e_b1 : ∀ j : Fin 1408, y0.val = 1 → y2 = hi j → b1 (ix3 0 y1 j) = v)
    (e_a1 : ∀ j : Fin 1408, y0.val = 0 → y2 = hi j → a1 (ix3 0 y1 j) = v)
    (e_h0 : ∀ j : Fin 1408, y0.val = 2 → y2 = lo j → h0 (ix3 0 y1 j) = v)
    (e_b0 : ∀ j : Fin 1408, y0.val = 1 → y2 = lo j → b0 (ix3 0 y1 j) = v)
    (e_a0 : ∀ j : Fin 1408, y0.val = 0 → y2 = lo j → a0 (ix3 0 y1 j) = v) :
    View.canon ([⟨Rect.unit ![2, 0, 1408] ![1, 256, 1408] inb_S3x256x2816_S1x256x1408_2_0_1408, h1⟩, ⟨Rect.unit ![1, 0, 1408] ![1, 256, 1408] inb_S3x256x2816_S1x256x1408_1_0_1408, b1⟩, ⟨Rect.unit ![0, 0, 1408] ![1, 256, 1408] inb_S3x256x2816_S1x256x1408_0_0_1408, a1⟩, ⟨Rect.unit ![2, 0, 0] ![1, 256, 1408] inb_S3x256x2816_S1x256x1408_2_0_0, h0⟩, ⟨Rect.unit ![1, 0, 0] ![1, 256, 1408] inb_S3x256x2816_S1x256x1408_1_0_0, b0⟩, ⟨Rect.unit ![0, 0, 0] ![1, 256, 1408] inb_S3x256x2816_S1x256x1408_0_0_0, a0⟩] : List (View.Piece (Elt Ideal) S3x256x2816 .bf16)) (ix3 y0 y1 y2) = v := by
  canon_tiles x h
  all_goals idx_vars x
  all_goals obtain rfl : x0 = 0 := Subsingleton.elim _ _
  all_goals obtain rfl : y1 = x1 := Fin.ext h1
  · exact e_h1 x2 h0 (Fin.ext h2)
  · exact e_b1 x2 h0 (Fin.ext h2)
  · exact e_a1 x2 h0 (Fin.ext h2)
  · exact e_h0 x2 h0 (Fin.ext h2)
  · exact e_b0 x2 h0 (Fin.ext h2)
  · exact e_a0 x2 h0 (Fin.ext h2)

theorem canon10 (q1 p1 q0 p0 : S1x256x1408.Idx → EReal) (y0 : Fin 2) (y1 : Fin 256) (y2 : Fin 2816) (v : EReal)
    (e_q1 : ∀ j : Fin 1408, y0.val = 1 → y2 = hi j → q1 (ix3 0 y1 j) = v)
    (e_p1 : ∀ j : Fin 1408, y0.val = 0 → y2 = hi j → p1 (ix3 0 y1 j) = v)
    (e_q0 : ∀ j : Fin 1408, y0.val = 1 → y2 = lo j → q0 (ix3 0 y1 j) = v)
    (e_p0 : ∀ j : Fin 1408, y0.val = 0 → y2 = lo j → p0 (ix3 0 y1 j) = v) :
    View.canon ([⟨Rect.unit ![1, 0, 1408] ![1, 256, 1408] inb_S2x256x2816_S1x256x1408_1_0_1408, q1⟩, ⟨Rect.unit ![0, 0, 1408] ![1, 256, 1408] inb_S2x256x2816_S1x256x1408_0_0_1408, p1⟩, ⟨Rect.unit ![1, 0, 0] ![1, 256, 1408] inb_S2x256x2816_S1x256x1408_1_0_0, q0⟩, ⟨Rect.unit ![0, 0, 0] ![1, 256, 1408] inb_S2x256x2816_S1x256x1408_0_0_0, p0⟩] : List (View.Piece (Elt Ideal) S2x256x2816 .bf16)) (ix3 y0 y1 y2) = v := by
  canon_tiles x h
  all_goals idx_vars x
  all_goals obtain rfl : x0 = 0 := Subsingleton.elim _ _
  all_goals obtain rfl : y1 = x1 := Fin.ext h1
  · exact e_q1 x2 h0 (Fin.ext h2)
  · exact e_p1 x2 h0 (Fin.ext h2)
  · exact e_q0 x2 h0 (Fin.ext h2)
  · exact e_p0 x2 h0 (Fin.ext h2)

/-! ## The results -/

def G7 : S4096x1024.Idx → EReal := fun i => (rowK m c (i 0)).n (i 1)
def G8 : S3x4096x2816.Idx → EReal := fun i => if (i 0).val = 0 then (rowK m c (i 1)).a (i 2) else if (i 0).val = 1 then (rowK m c (i 1)).b (i 2) else (rowK m c (i 1)).hK (i 2)
def G9 : S4096x1024.Idx → EReal := fun i => (rowK m c (i 0)).dxoK (i 1)
def G10 : S2x4096x2816.Idx → EReal := fun i => if (i 0).val = 0 then (rowK m c (i 1)).daK (i 2) else (rowK m c (i 1)).dbK (i 2)
def G11 : S4096x1024.Idx → EReal := fun i => (rowK m c (i 0)).dxK (i 1)
def G12 : S4096x1024.Idx → EReal := fun i => (rowK m c (i 0)).dxK (i 1)
def G13 : S1x1024.Idx → EReal := fun i => 0 + ∑ t : Fin cfg0.N, ∑ p : Fin 256, (at' m c t p).dgK (i 1)
def G14 : S1x128.Idx → EReal := fun _ => 0 + ∑ t : Fin cfg0.N, Grad.WHalf * ∑ p : Fin 256, (at' m c t p).sqK * Grad.WInv
def G15 : S1x1024.Idx → EReal := fun i => 0 + ∑ t : Fin cfg0.N, ∑ p : Fin 256, (at' m c t p).dgfK (i 1)

theorem G8_0 (y0 : Fin 3) (s : Fin 4096) (f : Fin 2816) (e : y0.val = 0) : G8 m c (ix3 y0 s f) = (rowK m c s).a f := if_pos e
theorem G8_1 (y0 : Fin 3) (s : Fin 4096) (f : Fin 2816) (e : y0.val = 1) : G8 m c (ix3 y0 s f) = (rowK m c s).b f :=
  (if_neg (fun h0 : y0.val = 0 => absurd (e.symm.trans h0) (by decide))).trans (if_pos e)
theorem G8_2 (y0 : Fin 3) (s : Fin 4096) (f : Fin 2816) (e : y0.val = 2) : G8 m c (ix3 y0 s f) = (rowK m c s).hK f :=
  (if_neg (fun h0 : y0.val = 0 => absurd (e.symm.trans h0) (by decide))).trans (if_neg (fun h0 : y0.val = 1 => absurd (e.symm.trans h0) (by decide)))
theorem G10_0 (y0 : Fin 2) (s : Fin 4096) (f : Fin 2816) (e : y0.val = 0) : G10 m c (ix3 y0 s f) = (rowK m c s).daK f := if_pos e
theorem G10_1 (y0 : Fin 2) (s : Fin 4096) (f : Fin 2816) (e : y0.val = 1) : G10 m c (ix3 y0 s f) = (rowK m c s).dbK f :=
  if_neg (fun h0 : y0.val = 0 => absurd (e.symm.trans h0) (by decide))

theorem out8 (t : Fin cfg0.N) (y0 : Fin 3) (y1 : Fin 256) (y2 : Fin 2816) :
    View.canon ([⟨Rect.unit ![2, 0, 1408] ![1, 256, 1408] inb_S3x256x2816_S1x256x1408_2_0_1408, (k0_pay20 (F := Ideal) (f1B m c t) (s1B m c t))⟩, ⟨Rect.unit ![1, 0, 1408] ![1, 256, 1408] inb_S3x256x2816_S1x256x1408_1_0_1408, (pb1B m c t)⟩, ⟨Rect.unit ![0, 0, 1408] ![1, 256, 1408] inb_S3x256x2816_S1x256x1408_0_0_1408, (pa1B m c t)⟩, ⟨Rect.unit ![2, 0, 0] ![1, 256, 1408] inb_S3x256x2816_S1x256x1408_2_0_0, (k0_pay11 (F := Ideal) (h0B m c t))⟩, ⟨Rect.unit ![1, 0, 0] ![1, 256, 1408] inb_S3x256x2816_S1x256x1408_1_0_0, (k0_pay10 (F := Ideal) (b0B m c t))⟩, ⟨Rect.unit ![0, 0, 0] ![1, 256, 1408] inb_S3x256x2816_S1x256x1408_0_0_0, (k0_pay9 (F := Ideal) (a0B m c t))⟩] : List (View.Piece (Elt Ideal) S3x256x2816 .bf16)) (ix3 y0 y1 y2) = G8 m c (ix3 y0 (rowOf t y1) y2) := by
  refine canon8 _ _ _ _ _ _ y0 y1 y2 _ ?_ ?_ ?_ ?_ ?_ ?_
  · intro j e0 e2
    rw [G8_2 m c _ _ _ e0, e2]
    exact (pay20_apply _ _ y1 j).trans (h1_blk m c t y1 j)
  · intro j e0 e2
    rw [G8_1 m c _ _ _ e0, e2]
    exact pb1_blk m c t y1 j
  · intro j e0 e2
    rw [G8_0 m c _ _ _ e0, e2]
    exact pa1_blk m c t y1 j
  · intro j e0 e2
    rw [G8_2 m c _ _ _ e0, e2]
    exact (pay11_apply _ y1 j).trans (h0_blk m c t y1 j)
  · intro j e0 e2
    rw [G8_1 m c _ _ _ e0, e2]
    exact (pay10_apply _ y1 j).trans (b0_blk m c t y1 j)
  · intro j e0 e2
    rw [G8_0 m c _ _ _ e0, e2]
    exact (pay9_apply _ y1 j).trans (a0_blk m c t y1 j)

theorem out10 (t : Fin cfg0.N) (y0 : Fin 2) (y1 : Fin 256) (y2 : Fin 2816) :
    View.canon ([⟨Rect.unit ![1, 0, 1408] ![1, 256, 1408] inb_S2x256x2816_S1x256x1408_1_0_1408, (k0_pay47 (F := Ideal) (dxbB m c t) (k0_pay40 (F := Ideal) (w2c1 m c t)) (pa1B m c t))⟩, ⟨Rect.unit ![0, 0, 1408] ![1, 256, 1408] inb_S2x256x2816_S1x256x1408_0_0_1408, (k0_pay46 (F := Ideal) (dxbB m c t) (k0_pay40 (F := Ideal) (w2c1 m c t)) (pa1B m c t) (pb1B m c t))⟩, ⟨Rect.unit ![1, 0, 0] ![1, 256, 1408] inb_S2x256x2816_S1x256x1408_1_0_0, (k0_pay38 (F := Ideal) (dh0B m c t) (ra0B m c t))⟩, ⟨Rect.unit ![0, 0, 0] ![1, 256, 1408] inb_S2x256x2816_S1x256x1408_0_0_0, (k0_pay37 (F := Ideal) (dh0B m c t) (ra0B m c t) (rb0B m c t))⟩] : List (View.Piece (Elt Ideal) S2x256x2816 .bf16)) (ix3 y0 y1 y2) = G10 m c (ix3 y0 (rowOf t y1) y2) := by
  refine canon10 _ _ _ _ y0 y1 y2 _ ?_ ?_ ?_ ?_
  · intro j e0 e2
    rw [G10_1 m c _ _ _ e0, e2]
    exact (pay47_apply _ _ _ y1 j).trans (db1_blk m c t y1 j)
  · intro j e0 e2
    rw [G10_0 m c _ _ _ e0, e2]
    exact (pay46_apply _ _ _ _ y1 j).trans (da1_blk m c t y1 j)
  · intro j e0 e2
    rw [G10_1 m c _ _ _ e0, e2]
    exact (pay38_apply _ _ y1 j).trans (db0_blk m c t y1 j)
  · intro j e0 e2
    rw [G10_0 m c _ _ _ e0, e2]
    exact (pay37_apply _ _ _ y1 j).trans (da0_blk m c t y1 j)

theorem place7 (t : Fin cfg0.N) (y : S256x1024.Idx) : ((cfg0.win 7).blk t).view.emb y = (ix2 (rowOf t (y 0)) (y 1) : S4096x1024.Idx) := by
  have e := oidxs t |>.1
  funext a
  apply Fin.ext
  match a with
  | ⟨0, _⟩ => show (win0_7.index t 0) * 256 + 1 * (y 0).val = t.val * 256 + (y 0).val; rw [e]; simp
  | ⟨1, _⟩ => show (win0_7.index t 1) * 1024 + 1 * (y 1).val = (y 1).val; rw [e]; simp

theorem place9 (t : Fin cfg0.N) (y : S256x1024.Idx) : ((cfg0.win 9).blk t).view.emb y = (ix2 (rowOf t (y 0)) (y 1) : S4096x1024.Idx) := by
  have e := oidxs t |>.2.2.1
  funext a
  apply Fin.ext
  match a with
  | ⟨0, _⟩ => show (win0_9.index t 0) * 256 + 1 * (y 0).val = t.val * 256 + (y 0).val; rw [e]; simp
  | ⟨1, _⟩ => show (win0_9.index t 1) * 1024 + 1 * (y 1).val = (y 1).val; rw [e]; simp

theorem place11 (t : Fin cfg0.N) (y : S256x1024.Idx) : ((cfg0.win 11).blk t).view.emb y = (ix2 (rowOf t (y 0)) (y 1) : S4096x1024.Idx) := by
  have e := oidxs t |>.2.2.2.2.1
  funext a
  apply Fin.ext
  match a with
  | ⟨0, _⟩ => show (win0_11.index t 0) * 256 + 1 * (y 0).val = t.val * 256 + (y 0).val; rw [e]; simp
  | ⟨1, _⟩ => show (win0_11.index t 1) * 1024 + 1 * (y 1).val = (y 1).val; rw [e]; simp

theorem place12 (t : Fin cfg0.N) (y : S256x1024.Idx) : ((cfg0.win 12).blk t).view.emb y = (ix2 (rowOf t (y 0)) (y 1) : S4096x1024.Idx) := by
  have e := oidxs t |>.2.2.2.2.2
  funext a
  apply Fin.ext
  match a with
  | ⟨0, _⟩ => show (win0_12.index t 0) * 256 + 1 * (y 0).val = t.val * 256 + (y 0).val; rw [e]; simp
  | ⟨1, _⟩ => show (win0_12.index t 1) * 1024 + 1 * (y 1).val = (y 1).val; rw [e]; simp

theorem place8 (t : Fin cfg0.N) (y : S3x256x2816.Idx) : ((cfg0.win 8).blk t).view.emb y = (ix3 (y 0) (rowOf t (y 1)) (y 2) : S3x4096x2816.Idx) := by
  have e := oidxs t |>.2.1
  funext a
  apply Fin.ext
  match a with
  | ⟨0, _⟩ => show (win0_8.index t 0) * 3 + 1 * (y 0).val = (y 0).val; rw [e]; simp
  | ⟨1, _⟩ => show (win0_8.index t 1) * 256 + 1 * (y 1).val = t.val * 256 + (y 1).val; rw [e]; simp
  | ⟨2, _⟩ => show (win0_8.index t 2) * 2816 + 1 * (y 2).val = (y 2).val; rw [e]; simp

theorem place10 (t : Fin cfg0.N) (y : S2x256x2816.Idx) : ((cfg0.win 10).blk t).view.emb y = (ix3 (y 0) (rowOf t (y 1)) (y 2) : S2x4096x2816.Idx) := by
  have e := oidxs t |>.2.2.2.1
  funext a
  apply Fin.ext
  match a with
  | ⟨0, _⟩ => show (win0_10.index t 0) * 2 + 1 * (y 0).val = (y 0).val; rw [e]; simp
  | ⟨1, _⟩ => show (win0_10.index t 1) * 256 + 1 * (y 1).val = t.val * 256 + (y 1).val; rw [e]; simp
  | ⟨2, _⟩ => show (win0_10.index t 2) * 2816 + 1 * (y 2).val = (y 2).val; rw [e]; simp

theorem final7 : (dats m 0 c).arrAt 7 cfg0.N = G7 m c := by
  refine (dats m 0 c).arrAt_eq_of_covers 7 _ (by decide +kernel) fun t hf y => ?_
  have hN : cfg0.N = 16 := N_0
  rw [place7 t y]
  blk_simp
  rw [after0_7]
  idx_vars y
  by_cases h : t.val % 16 = 0
  · have h1 : ¬1 ≤ t.val := by have : t.val < cfg0.N := t.isLt; omega
    rw [outsAt0_A m c t h h1]
    frame_out
    exact n_blk m c t y0 y1
  · have h1 : 1 ≤ t.val := by omega
    rw [outsAt0_B m c t h h1]
    frame_out
    exact n_blk m c t y0 y1

theorem final8 : (dats m 0 c).arrAt 8 cfg0.N = G8 m c := by
  refine (dats m 0 c).arrAt_eq_of_covers 8 _ (by decide +kernel) fun t hf y => ?_
  have hN : cfg0.N = 16 := N_0
  rw [place8 t y]
  blk_simp
  rw [after0_8]
  idx_vars y
  by_cases h : t.val % 16 = 0
  · have h1 : ¬1 ≤ t.val := by have : t.val < cfg0.N := t.isLt; omega
    rw [outsAt0_A m c t h h1]
    frame_out
    exact out8 m c t y0 y1 y2
  · have h1 : 1 ≤ t.val := by omega
    rw [outsAt0_B m c t h h1]
    frame_out
    exact out8 m c t y0 y1 y2

theorem final9 : (dats m 0 c).arrAt 9 cfg0.N = G9 m c := by
  refine (dats m 0 c).arrAt_eq_of_covers 9 _ (by decide +kernel) fun t hf y => ?_
  have hN : cfg0.N = 16 := N_0
  rw [place9 t y]
  blk_simp
  rw [after0_9]
  idx_vars y
  by_cases h : t.val % 16 = 0
  · have h1 : ¬1 ≤ t.val := by have : t.val < cfg0.N := t.isLt; omega
    rw [outsAt0_A m c t h h1]
    frame_out
    exact dxb_blk m c t y0 y1
  · have h1 : 1 ≤ t.val := by omega
    rw [outsAt0_B m c t h h1]
    frame_out
    exact dxb_blk m c t y0 y1

theorem final10 : (dats m 0 c).arrAt 10 cfg0.N = G10 m c := by
  refine (dats m 0 c).arrAt_eq_of_covers 10 _ (by decide +kernel) fun t hf y => ?_
  have hN : cfg0.N = 16 := N_0
  rw [place10 t y]
  blk_simp
  rw [after0_10]
  idx_vars y
  by_cases h : t.val % 16 = 0
  · have h1 : ¬1 ≤ t.val := by have : t.val < cfg0.N := t.isLt; omega
    rw [outsAt0_A m c t h h1]
    frame_out
    rw [rb_a0, rb_b0, rb_a1, rb_b1]
    exact out10 m c t y0 y1 y2
  · have h1 : 1 ≤ t.val := by omega
    rw [outsAt0_B m c t h h1]
    frame_out
    rw [rb_a0, rb_b0, rb_a1, rb_b1]
    exact out10 m c t y0 y1 y2

theorem final11 : (dats m 0 c).arrAt 11 cfg0.N = G11 m c := by
  refine (dats m 0 c).arrAt_eq_of_covers 11 _ (by decide +kernel) fun t hf y => ?_
  have hN : cfg0.N = 16 := N_0
  rw [place11 t y]
  blk_simp
  rw [after0_11]
  idx_vars y
  by_cases h : t.val % 16 = 0
  · have h1 : ¬1 ≤ t.val := by have : t.val < cfg0.N := t.isLt; omega
    rw [outsAt0_A m c t h h1]
    frame_out
    rw [rb_a0, rb_b0, rb_a1, rb_b1]
    exact dx_blk m c t y0 y1
  · have h1 : 1 ≤ t.val := by omega
    rw [outsAt0_B m c t h h1]
    frame_out
    rw [rb_a0, rb_b0, rb_a1, rb_b1]
    exact dx_blk m c t y0 y1

theorem final12 : (dats m 0 c).arrAt 12 cfg0.N = G12 m c := by
  refine (dats m 0 c).arrAt_eq_of_covers 12 _ (by decide +kernel) fun t hf y => ?_
  have hN : cfg0.N = 16 := N_0
  rw [place12 t y]
  blk_simp
  rw [after0_12]
  idx_vars y
  by_cases h : t.val % 16 = 0
  · have h1 : ¬1 ≤ t.val := by have : t.val < cfg0.N := t.isLt; omega
    rw [outsAt0_A m c t h h1]
    frame_out
    rw [rb_a0, rb_b0, rb_a1, rb_b1]
    exact (pay52_apply _ _ _ _ _ _ _ _ y0 y1).trans (dx_blk m c t y0 y1)
  · have h1 : 1 ≤ t.val := by omega
    rw [outsAt0_B m c t h h1]
    frame_out
    rw [rb_a0, rb_b0, rb_a1, rb_b1]
    exact (pay52_apply _ _ _ _ _ _ _ _ y0 y1).trans (dx_blk m c t y0 y1)

theorem final13 : (dats m 0 c).arrAt 13 cfg0.N = G13 m c := by
  refine (dats m 0 c).arrAt_eq_of_after_last 13 t0_15 (by decide +kernel) _ fun j => ?_
  blk_simp
  rw [after0_13]
  have hN : cfg0.N = 16 := N_0
  refine Eq.trans (Pipeline.eq_sum_fin_of_reset_step_apply_last (fun n h => ((outsAt0 m c n h).2.2.2.2.2.2.1 : S1x1024.Idx → EReal)) 16 (fun _ => (0 : EReal))
    (fun t j => ∑ p : Fin 256, (at' m c t p).dgK (j 1)) (fun t h j => ?_) (fun t h j => ?_) N_0.le t0_15 rfl j) rfl
  · have h1 : ¬1 ≤ t.val := by have := t.isLt; omega
    idx_vars j
    obtain rfl : j0 = 0 := Subsingleton.elim _ _
    rw [outsAt0_A m c t h h1]
    frame_out
    rw [rb_a0, rb_b0, rb_a1, rb_b1]
    refine (dg_blk m c t j1).trans ?_
    rw [zero_add]
  · have h1 : 1 ≤ t.val := by omega
    idx_vars j
    obtain rfl : j0 = 0 := Subsingleton.elim _ _
    rw [outsAt0_B m c t h h1]
    generalize (outsAt0 m c (t.val - 1) _).2.2.2.2.2.2.1 = W
    frame_out
    rw [rb_a0, rb_b0, rb_a1, rb_b1]
    exact (pay2_apply _ _ j1).trans (congrArg (_ + ·) (dg_blk m c t j1))

theorem final14 : (dats m 0 c).arrAt 14 cfg0.N = G14 m c := by
  refine (dats m 0 c).arrAt_eq_of_after_last 14 t0_15 (by decide +kernel) _ fun j => ?_
  blk_simp
  rw [after0_14]
  have hN : cfg0.N = 16 := N_0
  refine Eq.trans (Pipeline.eq_sum_fin_of_reset_step_apply_last (fun n h => ((outsAt0 m c n h).2.2.2.2.2.2.2.1 : S1x128.Idx → EReal)) 16 (fun _ => (0 : EReal))
    (fun t j => Grad.WHalf * ∑ p : Fin 256, (at' m c t p).sqK * Grad.WInv) (fun t h j => ?_) (fun t h j => ?_) N_0.le t0_15 rfl j) rfl
  · have h1 : ¬1 ≤ t.val := by have := t.isLt; omega
    idx_vars j
    obtain rfl : j0 = 0 := Subsingleton.elim _ _
    rw [outsAt0_A m c t h h1]
    frame_out
    refine ((pay1_apply _ j1).trans (ls_blk m c t)).trans ?_
    rw [zero_add]
  · have h1 : 1 ≤ t.val := by omega
    idx_vars j
    obtain rfl : j0 = 0 := Subsingleton.elim _ _
    rw [outsAt0_B m c t h h1]
    generalize (outsAt0 m c (t.val - 1) _).2.2.2.2.2.2.2.1 = W
    frame_out
    exact (pay3_apply _ _ j1).trans (congrArg (_ + ·) (ls_blk m c t))

theorem final15 : (dats m 0 c).arrAt 15 cfg0.N = G15 m c := by
  refine (dats m 0 c).arrAt_eq_of_after_last 15 t0_15 (by decide +kernel) _ fun j => ?_
  blk_simp
  rw [after0_15]
  have hN : cfg0.N = 16 := N_0
  refine Eq.trans (Pipeline.eq_sum_fin_of_reset_step_apply_last (fun n h => ((outsAt0 m c n h).2.2.2.2.2.2.2.2 : S1x1024.Idx → EReal)) 16 (fun _ => (0 : EReal))
    (fun t j => ∑ p : Fin 256, (at' m c t p).dgfK (j 1)) (fun t h j => ?_) (fun t h j => ?_) N_0.le t0_15 rfl j) rfl
  · have h1 : ¬1 ≤ t.val := by have := t.isLt; omega
    idx_vars j
    obtain rfl : j0 = 0 := Subsingleton.elim _ _
    rw [outsAt0_A m c t h h1]
    frame_out
    refine (dgf_blk m c t j1).trans ?_
    rw [zero_add]
  · have h1 : 1 ≤ t.val := by omega
    idx_vars j
    obtain rfl : j0 = 0 := Subsingleton.elim _ _
    rw [outsAt0_B m c t h h1]
    generalize (outsAt0 m c (t.val - 1) _).2.2.2.2.2.2.2.2 = W
    frame_out
    exact (pay4_apply _ _ j1).trans (congrArg (_ + ·) (dgf_blk m c t j1))

end Cert.FfnLastIdeal.Value

end
-- ==== Proof.FfnLastRef.lean ====
/- The derivative of the reference's lines of the last SwiGLU half with the loss, read at an index. -/
module

public import proofs.«01_k».proof.Proof.LastRow
public import proofs.«01_k».proof.Proof.Host
public import proofs.«01_k».proof.Proof.Gen.FfnLastRefIdeal.Read
public import Idealize.ShloMosaic.Lib.Pointwise

@[expose] public section

set_option maxRecDepth 16384

noncomputable section

namespace Cert.FfnLastRefIdeal.Read

open Cert.FfnLastRefIdeal Cert.FfnLastRefIdeal.Gen Idealize.ShloMosaic Idealize.ShloMosaic.TcCoe Idealize.SL.Sem

variable (x0 : S4096x1024.Idx → EReal) (x1 : S1x1024.Idx → EReal) (x2 x3 : S1024x2816.Idx → EReal) (x4 : S2816x1024.Idx → EReal) (x5 : S4096x1024.Idx → EReal) (x6 : S1x1024.Idx → EReal)

/-- One row of the arguments. -/
def row (s : Fin 4096) : Grad.LastRow :=
  ⟨fun k => x0 (ix2 s k), fun k => x1 (ix2 0 k), fun k f => x2 (ix2 k f), fun k f => x3 (ix2 k f), fun f k => x4 (ix2 f k), fun k => x5 (ix2 s k), fun k => x6 (ix2 0 k)⟩

theorem r_apply (s : Fin 4096) : (show S4096x1.Idx → EReal from val_main_v7 (F := Ideal) x0) (ix2 s 0) = Grad.rinv Grad.W1024 Grad.WEps (row x0 x1 x2 x3 x4 x5 x6 s).x := by
  unfold val_main_v7 val_main_v6 val_main_v4 val_main_v2 val_main_v1 val_main_v0
  unfold Grad.rinv
  dsimp only [row]
  pointwise [val_main_v3, val_main_v5, val_main_cst, val_main_cst_0, val_main_cst_1]

theorem r2_apply (s : Fin 4096) : (show S4096x1.Idx → EReal from val_main_v8 (F := Ideal) x0) (ix2 s 0) = Ideal.div (Grad.rinv Grad.W1024 Grad.WEps (row x0 x1 x2 x3 x4 x5 x6 s).x) (Ideal.div (∑ k, (row x0 x1 x2 x3 x4 x5 x6 s).x k * (row x0 x1 x2 x3 x4 x5 x6 s).x k) Grad.W1024 + Grad.WEps) := by
  rw [← r_apply]
  dsimp only [row]
  unfold val_main_v8 val_main_v6 val_main_v4 val_main_v2 val_main_v1 val_main_v0
  generalize val_main_v7 (F := Ideal) x0 = X0
  pointwise [val_main_v3, val_main_v5, val_main_cst, val_main_cst_0, val_main_cst_1]

theorem n_apply (s : Fin 4096) (k : Fin 1024) : (show S4096x1024.Idx → EReal from val_main_v14 (F := Ideal) x0 x1) (ix2 s k) = (row x0 x1 x2 x3 x4 x5 x6 s).n k := by
  unfold Grad.LastRow.n
  rw [← r_apply]
  dsimp only [row]
  unfold val_main_v14 val_main_v12 val_main_v11
  generalize val_main_v7 (F := Ideal) x0 = X0
  pointwise [val_main_v13]

theorem a_apply (s : Fin 4096) (f : Fin 2816) : (show S4096x2816.Idx → EReal from val_main_v15 (F := Ideal) x0 x1 x2) (ix2 s f) = (row x0 x1 x2 x3 x4 x5 x6 s).a f := by
  unfold Grad.LastRow.a
  simp only [← n_apply]
  dsimp only [row]
  unfold val_main_v15
  generalize val_main_v14 (F := Ideal) x0 x1 = X0
  pointwise

theorem b_apply (s : Fin 4096) (f : Fin 2816) : (show S4096x2816.Idx → EReal from val_main_v16 (F := Ideal) x0 x1 x3) (ix2 s f) = (row x0 x1 x2 x3 x4 x5 x6 s).b f := by
  unfold Grad.LastRow.b
  simp only [← n_apply]
  dsimp only [row]
  unfold val_main_v16
  generalize val_main_v14 (F := Ideal) x0 x1 = X0
  pointwise

theorem sg_apply (s : Fin 4096) (f : Fin 2816) : (show S4096x2816.Idx → EReal from val_main_v17_2 (F := Ideal) x0 x1 x2) (ix2 s f) = Grad.sgE ((row x0 x1 x2 x3 x4 x5 x6 s).a f) := by
  rw [← a_apply]
  unfold Grad.sgE
  unfold val_main_v17_2 val_main_call0_v3 val_main_call0_v1 val_main_call0_v0
  generalize val_main_v15 (F := Ideal) x0 x1 x2 = X0
  pointwise [val_main_call0_v4, val_main_call0_cst_0, val_main_call0_v2, val_main_call0_cst]

theorem h_apply (s : Fin 4096) (f : Fin 2816) : (show S4096x2816.Idx → EReal from val_main_v18 (F := Ideal) x0 x1 x2 x3) (ix2 s f) = (row x0 x1 x2 x3 x4 x5 x6 s).hR f := by
  unfold Grad.LastRow.hR
  rw [← sg_apply, ← a_apply, ← b_apply]
  unfold val_main_v18 val_main_v17_0
  generalize val_main_v17_2 (F := Ideal) x0 x1 x2 = X0
  generalize val_main_v15 (F := Ideal) x0 x1 x2 = X1
  generalize val_main_v16 (F := Ideal) x0 x1 x3 = X2
  pointwise

theorem xo_apply (s : Fin 4096) (k : Fin 1024) : (show S4096x1024.Idx → EReal from val_main_v22 (F := Ideal) x0 x1 x2 x3 x4) (ix2 s k) = (row x0 x1 x2 x3 x4 x5 x6 s).xoR k := by
  unfold Grad.LastRow.xoR
  simp only [← h_apply]
  dsimp only [row]
  unfold val_main_v22 val_main_v21 val_main_v19
  generalize val_main_v18 (F := Ideal) x0 x1 x2 x3 = X0
  pointwise [val_main_v20, val_main_cst_3]

theorem ro_apply (s : Fin 4096) : (show S4096x1.Idx → EReal from val_main_v30 (F := Ideal) x0 x1 x2 x3 x4) (ix2 s 0) = Grad.rinv Grad.W1024 Grad.WEps (row x0 x1 x2 x3 x4 x5 x6 s).xoR := by
  unfold Grad.rinv
  simp only [← xo_apply]
  unfold val_main_v30 val_main_v29 val_main_v27 val_main_v25 val_main_v24 val_main_v23
  generalize val_main_v22 (F := Ideal) x0 x1 x2 x3 x4 = X0
  pointwise [val_main_v28, val_main_v26, val_main_cst_4, val_main_cst_5, val_main_cst_6]

theorem ro2_apply (s : Fin 4096) : (show S4096x1.Idx → EReal from val_main_v31 (F := Ideal) x0 x1 x2 x3 x4) (ix2 s 0) = Ideal.div (Grad.rinv Grad.W1024 Grad.WEps (row x0 x1 x2 x3 x4 x5 x6 s).xoR) (Ideal.div (∑ k, (row x0 x1 x2 x3 x4 x5 x6 s).xoR k * (row x0 x1 x2 x3 x4 x5 x6 s).xoR k) Grad.W1024 + Grad.WEps) := by
  rw [← ro_apply]
  simp only [← xo_apply]
  unfold val_main_v31 val_main_v29 val_main_v27 val_main_v25 val_main_v24 val_main_v23
  generalize val_main_v30 (F := Ideal) x0 x1 x2 x3 x4 = X0
  generalize val_main_v22 (F := Ideal) x0 x1 x2 x3 x4 = X1
  pointwise [val_main_v28, val_main_v26, val_main_cst_4, val_main_cst_5, val_main_cst_6]

theorem e_apply (s : Fin 4096) (k : Fin 1024) : (show S4096x1024.Idx → EReal from val_main_v38 (F := Ideal) x0 x1 x2 x3 x4 x5 x6) (ix2 s k) = (row x0 x1 x2 x3 x4 x5 x6 s).eR k := by
  unfold Grad.LastRow.eR
  rw [← ro_apply, ← xo_apply]
  dsimp only [row]
  unfold val_main_v38 val_main_v37 val_main_v35 val_main_v34
  generalize val_main_v30 (F := Ideal) x0 x1 x2 x3 x4 = X0
  generalize val_main_v22 (F := Ideal) x0 x1 x2 x3 x4 = X1
  pointwise [val_main_v36]

theorem dy_apply (s : Fin 4096) (k : Fin 1024) : (show S4096x1024.Idx → EReal from val_main_v52 (F := Ideal) x0 x1 x2 x3 x4 x5 x6) (ix2 s k) = (row x0 x1 x2 x3 x4 x5 x6 s).dyR k := by
  unfold Grad.LastRow.dyR
  rw [← e_apply]
  unfold val_main_v52 val_main_v41
  generalize val_main_v38 (F := Ideal) x0 x1 x2 x3 x4 x5 x6 = X0
  pointwise [val_main_v51, val_main_v50, val_main_v49, val_main_v48, val_main_v47, val_main_v40, val_main_cst_8, val_main_cst_13, val_main_cst_14, val_main_cst_15]

theorem unit_sum (s : Fin 4096) (X : S4096x1.Idx → EReal) (z : S_.Idx → EReal) :
    (Host.reduceAdd (F := Ideal) (φ := .f32) X z reducesTo_S4096x1_S4096_d1 h_S_) (ix1 s) = z (Shape.Idx.first h_S_) + X (ix2 s 0) := by
  refine (Grad.hostSum reducesTo_S4096x1_S4096_d1 X _ (ix1 s) (fun _ : Unit => (ix2 s 0 : S4096x1.Idx)) (fun a b _ => rfl) (fun _ => ?_) (fun i hi => ⟨(), ?_⟩)).trans ?_
  · funext a; apply Fin.ext; match a with
    | ⟨0, _⟩ => rfl
  · idx_vars i
    have b1 : i0.val = s.val := congrArg Fin.val (congrFun hi 0)
    obtain rfl : i0 = s := Fin.ext b1
    obtain rfl : i1 = 0 := Subsingleton.elim _ _
    rfl
  · simp

/-- The last gain's gradient. -/
theorem dgf_apply (j : Fin 1024) : (show S1x1024.Idx → EReal from val_main_v55 (F := Ideal) x0 x1 x2 x3 x4 x5 x6) (ix2 0 j) = ∑ s : Fin 4096, (row x0 x1 x2 x3 x4 x5 x6 s).dgfR j := by
  unfold Grad.LastRow.dgfR
  simp only [← ro_apply, ← dy_apply]
  simp only [← xo_apply]
  unfold val_main_v55 val_main_v54 val_main_v53 val_main_v35 val_main_v34
  generalize val_main_v30 (F := Ideal) x0 x1 x2 x3 x4 = X0
  generalize val_main_v52 (F := Ideal) x0 x1 x2 x3 x4 x5 x6 = X1
  generalize val_main_v22 (F := Ideal) x0 x1 x2 x3 x4 = X2
  pointwise [val_main_cst_16]

theorem mo_apply (s : Fin 4096) : (show S4096.Idx → EReal from val_main_v66 (F := Ideal) x0 x1 x2 x3 x4 x5 x6) (ix1 s) = Grad.meanGrad Grad.W1024 Grad.WEps Grad.WNegHalf (row x0 x1 x2 x3 x4 x5 x6 s).xoR (row x0 x1 x2 x3 x4 x5 x6 s).dyR (row x0 x1 x2 x3 x4 x5 x6 s).gf := by
  have e1 : (show S4096.Idx → EReal from val_main_v66 (F := Ideal) x0 x1 x2 x3 x4 x5 x6) (ix1 s) = (show S4096x1.Idx → EReal from val_main_v65 (F := Ideal) x0 x1 x2 x3 x4 x5 x6) (ix2 s 0) := by
    unfold val_main_v66
    refine (unit_sum s _ _).trans ?_
    rw [show (val_main_cst_19 (F := Ideal)) (Shape.Idx.first h_S_) = (0 : EReal) from by pointwise [val_main_cst_19], zero_add]
  rw [e1]
  unfold Grad.meanGrad
  rw [← ro2_apply]
  simp only [← xo_apply, ← dy_apply]
  dsimp only [row]
  unfold val_main_v65 val_main_v63 val_main_v60 val_main_v59 val_main_v58 val_main_v57 val_main_v33
  generalize val_main_v31 (F := Ideal) x0 x1 x2 x3 x4 = X0
  generalize val_main_v22 (F := Ideal) x0 x1 x2 x3 x4 = X1
  generalize val_main_v52 (F := Ideal) x0 x1 x2 x3 x4 x5 x6 = X2
  pointwise [val_main_v64, val_main_v56, val_main_v32, val_main_cst_7, val_main_cst_17, val_main_cst_18]

theorem dxo_apply (s : Fin 4096) (k : Fin 1024) : (show S4096x1024.Idx → EReal from val_main_v71 (F := Ideal) x0 x1 x2 x3 x4 x5 x6) (ix2 s k) = (row x0 x1 x2 x3 x4 x5 x6 s).dxoR k := by
  unfold Grad.LastRow.dxoR Grad.normDxLines
  rw [← mo_apply, ← ro_apply, ← dy_apply, ← xo_apply]
  dsimp only [row]
  unfold val_main_v71 val_main_v70 val_main_v69 val_main_v68 val_main_v67 val_main_v62 val_main_v61 val_main_v57
  generalize val_main_v66 (F := Ideal) x0 x1 x2 x3 x4 x5 x6 = X0
  generalize val_main_v30 (F := Ideal) x0 x1 x2 x3 x4 = X1
  generalize val_main_v52 (F := Ideal) x0 x1 x2 x3 x4 x5 x6 = X2
  generalize val_main_v22 (F := Ideal) x0 x1 x2 x3 x4 = X3
  pointwise [val_main_v56]

theorem dh_apply (s : Fin 4096) (f : Fin 2816) : (show S4096x2816.Idx → EReal from val_main_v74 (F := Ideal) x0 x1 x2 x3 x4 x5 x6) (ix2 s f) = (row x0 x1 x2 x3 x4 x5 x6 s).dhR f := by
  unfold Grad.LastRow.dhR
  simp only [← dxo_apply]
  dsimp only [row]
  unfold val_main_v74 val_main_v73
  generalize val_main_v71 (F := Ideal) x0 x1 x2 x3 x4 x5 x6 = X0
  pointwise [val_main_v72, val_main_cst_20]

theorem da_apply (s : Fin 4096) (f : Fin 2816) : (show S4096x2816.Idx → EReal from val_main_v77 (F := Ideal) x0 x1 x2 x3 x4 x5 x6) (ix2 s f) = (row x0 x1 x2 x3 x4 x5 x6 s).daR f := by
  unfold Grad.LastRow.daR
  rw [← sg_apply, ← dh_apply, ← b_apply, ← a_apply]
  unfold val_main_v77 val_main_call1_v2 val_main_call1_v1 val_main_call1_v0 val_main_v76 val_main_v17_1 val_main_call0_v7
  generalize val_main_v17_2 (F := Ideal) x0 x1 x2 = X0
  generalize val_main_v15 (F := Ideal) x0 x1 x2 = X1
  generalize val_main_v16 (F := Ideal) x0 x1 x3 = X2
  generalize val_main_v74 (F := Ideal) x0 x1 x2 x3 x4 x5 x6 = X3
  pointwise [val_main_call0_v6, val_main_call0_cst_1]

theorem db_apply (s : Fin 4096) (f : Fin 2816) : (show S4096x2816.Idx → EReal from val_main_v75 (F := Ideal) x0 x1 x2 x3 x4 x5 x6) (ix2 s f) = (row x0 x1 x2 x3 x4 x5 x6 s).dbR f := by
  unfold Grad.LastRow.dbR
  rw [← sg_apply, ← dh_apply, ← a_apply]
  unfold val_main_v75 val_main_v17_0
  generalize val_main_v17_2 (F := Ideal) x0 x1 x2 = X0
  generalize val_main_v15 (F := Ideal) x0 x1 x2 = X1
  generalize val_main_v74 (F := Ideal) x0 x1 x2 x3 x4 x5 x6 = X2
  pointwise

theorem dn_apply (s : Fin 4096) (k : Fin 1024) : (show S4096x1024.Idx → EReal from val_main_v80 (F := Ideal) x0 x1 x2 x3 x4 x5 x6) (ix2 s k) = (row x0 x1 x2 x3 x4 x5 x6 s).dnR k := by
  unfold Grad.LastRow.dnR
  simp only [← da_apply, ← db_apply]
  dsimp only [row]
  unfold val_main_v80 val_main_v79 val_main_v78
  generalize val_main_v77 (F := Ideal) x0 x1 x2 x3 x4 x5 x6 = X0
  generalize val_main_v75 (F := Ideal) x0 x1 x2 x3 x4 x5 x6 = X1
  pointwise

/-- The gain's gradient. -/
theorem dg_apply (j : Fin 1024) : (show S1x1024.Idx → EReal from val_main_v83 (F := Ideal) x0 x1 x2 x3 x4 x5 x6) (ix2 0 j) = ∑ s : Fin 4096, (row x0 x1 x2 x3 x4 x5 x6 s).dgR j := by
  unfold Grad.LastRow.dgR
  simp only [← r_apply, ← dn_apply]
  dsimp only [row]
  unfold val_main_v83 val_main_v82 val_main_v81 val_main_v12 val_main_v11
  generalize val_main_v7 (F := Ideal) x0 = X0
  generalize val_main_v80 (F := Ideal) x0 x1 x2 x3 x4 x5 x6 = X1
  pointwise [val_main_cst_21]

theorem m_apply (s : Fin 4096) : (show S4096.Idx → EReal from val_main_v95 (F := Ideal) x0 x1 x2 x3 x4 x5 x6) (ix1 s) = Grad.meanGrad Grad.W1024 Grad.WEps Grad.WNegHalf (row x0 x1 x2 x3 x4 x5 x6 s).x (row x0 x1 x2 x3 x4 x5 x6 s).dnR (row x0 x1 x2 x3 x4 x5 x6 s).g := by
  have e1 : (show S4096.Idx → EReal from val_main_v95 (F := Ideal) x0 x1 x2 x3 x4 x5 x6) (ix1 s) = (show S4096x1.Idx → EReal from val_main_v94 (F := Ideal) x0 x1 x2 x3 x4 x5 x6) (ix2 s 0) := by
    unfold val_main_v95
    refine (unit_sum s _ _).trans ?_
    rw [show (val_main_cst_24 (F := Ideal)) (Shape.Idx.first h_S_) = (0 : EReal) from by pointwise [val_main_cst_24], zero_add]
  rw [e1]
  unfold Grad.meanGrad
  rw [← r2_apply]
  simp only [← dn_apply]
  dsimp only [row]
  unfold val_main_v94 val_main_v92 val_main_v88 val_main_v87 val_main_v86 val_main_v85 val_main_v10
  generalize val_main_v8 (F := Ideal) x0 = X0
  generalize val_main_v80 (F := Ideal) x0 x1 x2 x3 x4 x5 x6 = X1
  pointwise [val_main_v93, val_main_v84, val_main_v9, val_main_cst_2, val_main_cst_22, val_main_cst_23]

theorem dx_apply (s : Fin 4096) (k : Fin 1024) : (show S4096x1024.Idx → EReal from val_main_v100 (F := Ideal) x0 x1 x2 x3 x4 x5 x6) (ix2 s k) = (row x0 x1 x2 x3 x4 x5 x6 s).dxR k := by
  unfold Grad.LastRow.dxR Grad.normDxLines
  rw [← add_assoc, ← add_assoc, ← m_apply, ← r_apply, ← dn_apply, ← dxo_apply]
  dsimp only [row]
  unfold val_main_v100 val_main_v99 val_main_v98 val_main_v97 val_main_v96 val_main_v91 val_main_v90 val_main_v89 val_main_v85
  generalize val_main_v95 (F := Ideal) x0 x1 x2 x3 x4 x5 x6 = X0
  generalize val_main_v7 (F := Ideal) x0 = X1
  generalize val_main_v80 (F := Ideal) x0 x1 x2 x3 x4 x5 x6 = X2
  generalize val_main_v71 (F := Ideal) x0 x1 x2 x3 x4 x5 x6 = X3
  pointwise [val_main_v84]

/-! ## The results -/

theorem out_n (s : Fin 4096) (k : Fin 1024) : (show S4096x1024.Idx → EReal from val_main_v113 (F := Ideal) x0 x1) (ix2 s k) = (row x0 x1 x2 x3 x4 x5 x6 s).n k := by
  unfold Grad.LastRow.n Grad.rinv
  dsimp only [row]
  unfold val_main_v113 val_main_v112 val_main_v110 val_main_v109 val_main_v108 val_main_v107 val_main_v105 val_main_v103 val_main_v102 val_main_v101
  pointwise [val_main_v104, val_main_v106, val_main_v111, val_main_cst_25, val_main_cst_26, val_main_cst_27]

theorem hc_apply (s : Fin 4096) (f : Fin 2816) : (show S4096x2816.Idx → EReal from val_main_v115 (F := Ideal) x0 x1 x2 x3) (ix2 s f) = (row x0 x1 x2 x3 x4 x5 x6 s).hR f := by
  unfold Grad.LastRow.hR Grad.sgE
  rw [← a_apply, ← b_apply]
  unfold val_main_v115 val_main_v114 val_main_call2_v5 val_main_call2_v3 val_main_call2_v1 val_main_call2_v0
  generalize val_main_v15 (F := Ideal) x0 x1 x2 = X0
  generalize val_main_v16 (F := Ideal) x0 x1 x3 = X1
  pointwise [val_main_call2_v4, val_main_call2_v2, val_main_call2_cst, val_main_call2_cst_0]

theorem out_abh0 (s : Fin 4096) (f : Fin 2816) : (show S3x4096x2816.Idx → EReal from val_main_v120 (F := Ideal) x0 x1 x2 x3) (ix3 0 s f) = (row x0 x1 x2 x3 x4 x5 x6 s).a f := by
  rw [← a_apply]
  unfold val_main_v120 val_main_v119 val_main_v118 val_main_v117 val_main_v116
  generalize val_main_v115 (F := Ideal) x0 x1 x2 x3 = X0
  generalize val_main_v15 (F := Ideal) x0 x1 x2 = X1
  generalize val_main_v16 (F := Ideal) x0 x1 x3 = X2
  pointwise

theorem out_abh1 (s : Fin 4096) (f : Fin 2816) : (show S3x4096x2816.Idx → EReal from val_main_v120 (F := Ideal) x0 x1 x2 x3) (ix3 1 s f) = (row x0 x1 x2 x3 x4 x5 x6 s).b f := by
  rw [← b_apply]
  unfold val_main_v120 val_main_v119 val_main_v118 val_main_v117 val_main_v116
  generalize val_main_v115 (F := Ideal) x0 x1 x2 x3 = X0
  generalize val_main_v15 (F := Ideal) x0 x1 x2 = X1
  generalize val_main_v16 (F := Ideal) x0 x1 x3 = X2
  pointwise

theorem out_abh2 (s : Fin 4096) (f : Fin 2816) : (show S3x4096x2816.Idx → EReal from val_main_v120 (F := Ideal) x0 x1 x2 x3) (ix3 2 s f) = (row x0 x1 x2 x3 x4 x5 x6 s).hR f := by
  rw [← hc_apply]
  unfold val_main_v120 val_main_v119 val_main_v118 val_main_v117 val_main_v116
  generalize val_main_v115 (F := Ideal) x0 x1 x2 x3 = X0
  generalize val_main_v15 (F := Ideal) x0 x1 x2 = X1
  generalize val_main_v16 (F := Ideal) x0 x1 x3 = X2
  pointwise

theorem out_dxo (s : Fin 4096) (k : Fin 1024) : (show S4096x1024.Idx → EReal from val_main_v121 (F := Ideal) x0 x1 x2 x3 x4 x5 x6) (ix2 s k) = (row x0 x1 x2 x3 x4 x5 x6 s).dxoR k := by
  rw [← dxo_apply]
  unfold val_main_v121
  generalize val_main_v71 (F := Ideal) x0 x1 x2 x3 x4 x5 x6 = X0
  pointwise

theorem out_dab0 (s : Fin 4096) (f : Fin 2816) : (show S2x4096x2816.Idx → EReal from val_main_v125 (F := Ideal) x0 x1 x2 x3 x4 x5 x6) (ix3 0 s f) = (row x0 x1 x2 x3 x4 x5 x6 s).daR f := by
  rw [← da_apply]
  unfold val_main_v125 val_main_v124 val_main_v123 val_main_v122
  generalize val_main_v77 (F := Ideal) x0 x1 x2 x3 x4 x5 x6 = X0
  generalize val_main_v75 (F := Ideal) x0 x1 x2 x3 x4 x5 x6 = X1
  pointwise

theorem out_dab1 (s : Fin 4096) (f : Fin 2816) : (show S2x4096x2816.Idx → EReal from val_main_v125 (F := Ideal) x0 x1 x2 x3 x4 x5 x6) (ix3 1 s f) = (row x0 x1 x2 x3 x4 x5 x6 s).dbR f := by
  rw [← db_apply]
  unfold val_main_v125 val_main_v124 val_main_v123 val_main_v122
  generalize val_main_v77 (F := Ideal) x0 x1 x2 x3 x4 x5 x6 = X0
  generalize val_main_v75 (F := Ideal) x0 x1 x2 x3 x4 x5 x6 = X1
  pointwise

theorem out_dxb (s : Fin 4096) (k : Fin 1024) : (show S4096x1024.Idx → EReal from val_main_v126 (F := Ideal) x0 x1 x2 x3 x4 x5 x6) (ix2 s k) = (row x0 x1 x2 x3 x4 x5 x6 s).dxR k := by
  rw [← dx_apply]
  unfold val_main_v126
  generalize val_main_v100 (F := Ideal) x0 x1 x2 x3 x4 x5 x6 = X0
  pointwise

/-- The loss. -/
theorem out_loss (l : Fin 128) : (show S1x128.Idx → EReal from val_main_v127 (F := Ideal) x0 x1 x2 x3 x4 x5 x6) (ix2 0 l) = Grad.WHalf * ∑ s : Fin 4096, Ideal.div (row x0 x1 x2 x3 x4 x5 x6 s).sqR Grad.W1024 := by
  unfold Grad.LastRow.sqR
  simp only [← e_apply]
  unfold val_main_v127 val_main_v46 val_main_v45 val_main_v44 val_main_v42 val_main_v39
  generalize val_main_v38 (F := Ideal) x0 x1 x2 x3 x4 x5 x6 = X0
  pointwise [val_main_v43, val_main_cst_9, val_main_cst_10, val_main_cst_11, val_main_cst_12]

end Cert.FfnLastRefIdeal.Read

end
-- ==== Proof.FfnLastMeet.lean ====
/- The last SwiGLU half with the loss: the kernel's results are the reference's and the derivatives of its lines. -/
module

public import proofs.«01_k».proof.Proof.FfnLastKernel
public import proofs.«01_k».proof.Proof.FfnLastRef
public import proofs.«01_k».proof.Proof.Host
public import proofs.«01_k».proof.Pre_ffn_last_finite

@[expose] public section

set_option maxRecDepth 16384

noncomputable section

namespace Cert.FfnLastMeet

open Idealize.ShloMosaic Idealize.ShloMosaic.TcCoe Idealize.SL.Sem
open Cert.FfnLastIdeal (nD τ sig main_arg0 main_arg1 main_arg2 main_arg3 main_arg4 main_arg5 main_arg6 cfg0)
open Cert.FfnLastIdeal.Value Cert.FfnLastIdeal.Gen

instance preFacts : Cert.Pre_ffn_last_finite.Facts where
  bcast_S_S4096x1024 := by decide
  reducesTo_S4096x1024_S_d0_1 := by decide
  h_S_ := by decide
  bcast_S_S1x1024 := by decide
  reducesTo_S1x1024_S_d0_1 := by decide
  bcast_S_S1024x2816 := by decide
  reducesTo_S1024x2816_S_d0_1 := by decide
  bcast_S_S2816x1024 := by decide
  reducesTo_S2816x1024_S_d0_1 := by decide

theorem finite (x0 : FVec Ideal Cert.Pre_ffn_last_finite.S4096x1024 .f32) (x1 : FVec Ideal Cert.Pre_ffn_last_finite.S1x1024 .f32) (x2 x3 : FVec Ideal Cert.Pre_ffn_last_finite.S1024x2816 .f32)
    (x4 : FVec Ideal Cert.Pre_ffn_last_finite.S2816x1024 .f32) (x5 : FVec Ideal Cert.Pre_ffn_last_finite.S4096x1024 .f32) (x6 : FVec Ideal Cert.Pre_ffn_last_finite.S1x1024 .f32)
    (h : Cert.Pre_ffn_last_finite.fn (F := Ideal) x0 x1 x2 x3 x4 x5 x6 = fun _ => 1#1) :
    (∀ i, Grad.IsR (x0 i)) ∧ (∀ i, Grad.IsR (x1 i)) ∧ (∀ i, Grad.IsR (x2 i)) ∧ (∀ i, Grad.IsR (x3 i)) ∧ (∀ i, Grad.IsR (x4 i)) ∧ (∀ i, Grad.IsR (x5 i)) ∧ ∀ i, Grad.IsR (x6 i) := by
  have h0 := congrFun h (fun a => a.elim0)
  obtain ⟨h1, e6⟩ := Grad.andi_one _ _ h0
  obtain ⟨h2, e5⟩ := Grad.andi_one _ _ h1
  obtain ⟨h3, e4⟩ := Grad.andi_one _ _ h2
  obtain ⟨h4, e3⟩ := Grad.andi_one _ _ h3
  obtain ⟨h5, e2⟩ := Grad.andi_one _ _ h4
  obtain ⟨e0, e1⟩ := Grad.andi_one _ _ h5
  exact ⟨Grad.finite_of_all x0 _ _ _ _ e0, Grad.finite_of_all x1 _ _ _ _ e1, Grad.finite_of_all x2 _ _ _ _ e2, Grad.finite_of_all x3 _ _ _ _ e3,
    Grad.finite_of_all x4 _ _ _ _ e4, Grad.finite_of_all x5 _ _ _ _ e5, Grad.finite_of_all x6 _ _ _ _ e6⟩

variable (m : (ℓ : Loc nD τ sig) → Buf (Elt Ideal) ℓ) (c : Dev nD)

/-- Every row of the arguments is made of real numbers. -/
def Real : Prop := ∀ s, (rowK m c s).IsReal

theorem real_of_finite (hf : (∀ i, Grad.IsR ((show Cert.FfnLastIdeal.S4096x1024.Idx → EReal from m ((c : Thread nD τ).loc main_arg0)) i)) ∧ (∀ i, Grad.IsR ((show Cert.FfnLastIdeal.S1x1024.Idx → EReal from m ((c : Thread nD τ).loc main_arg1)) i)) ∧ (∀ i, Grad.IsR ((show Cert.FfnLastIdeal.S1024x2816.Idx → EReal from m ((c : Thread nD τ).loc main_arg2)) i)) ∧ (∀ i, Grad.IsR ((show Cert.FfnLastIdeal.S1024x2816.Idx → EReal from m ((c : Thread nD τ).loc main_arg3)) i)) ∧ (∀ i, Grad.IsR ((show Cert.FfnLastIdeal.S2816x1024.Idx → EReal from m ((c : Thread nD τ).loc main_arg4)) i)) ∧ (∀ i, Grad.IsR ((show Cert.FfnLastIdeal.S4096x1024.Idx → EReal from m ((c : Thread nD τ).loc main_arg5)) i)) ∧ (∀ i, Grad.IsR ((show Cert.FfnLastIdeal.S1x1024.Idx → EReal from m ((c : Thread nD τ).loc main_arg6)) i))) : Real m c :=
  fun s => ⟨fun k => hf.1 _, fun k => hf.2.1 _, fun k f => hf.2.2.1 _, fun k f => hf.2.2.2.1 _, fun f k => hf.2.2.2.2.1 _, fun k => hf.2.2.2.2.2.1 _, fun k => hf.2.2.2.2.2.2 _⟩

abbrev rowR (s : Fin 4096) : Grad.LastRow := Cert.FfnLastRefIdeal.Read.row (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) s

theorem row_eq (s : Fin 4096) : rowK m c s = rowR m c s := rfl

theorem n_eq : G7 m c = Cert.FfnLastRefIdeal.Read.val_main_v113 (F := Ideal) (m ((c : Thread nD τ).loc main_arg0)) (m ((c : Thread nD τ).loc main_arg1)) := by
  funext i
  idx_vars i
  exact (Cert.FfnLastRefIdeal.Read.out_n (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) i0 i1).symm

theorem abh_eq : G8 m c = Cert.FfnLastRefIdeal.Read.val_main_v120 (F := Ideal) (m ((c : Thread nD τ).loc main_arg0)) (m ((c : Thread nD τ).loc main_arg1)) (m ((c : Thread nD τ).loc main_arg2)) (m ((c : Thread nD τ).loc main_arg3)) := by
  funext i
  idx_vars i
  by_cases e0 : i0.val = 0
  · obtain rfl : i0 = 0 := Fin.ext e0
    exact (G8_0 m c 0 i1 i2 rfl).trans (Cert.FfnLastRefIdeal.Read.out_abh0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) i1 i2).symm
  by_cases e1 : i0.val = 1
  · obtain rfl : i0 = 1 := Fin.ext e1
    exact (G8_1 m c 1 i1 i2 rfl).trans (Cert.FfnLastRefIdeal.Read.out_abh1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) i1 i2).symm
  · obtain rfl : i0 = 2 := Fin.ext (by show i0.val = 2; omega)
    exact (G8_2 m c 2 i1 i2 rfl).trans ((congrFun (rowK m c i1).h_eq i2).trans (Cert.FfnLastRefIdeal.Read.out_abh2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) i1 i2).symm)

theorem dxo_eq (h : Real m c) : G9 m c = Cert.FfnLastRefIdeal.Read.val_main_v121 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  funext i
  idx_vars i
  exact (congrFun ((rowK m c i0).dxo_eq (h i0)) i1).trans (Cert.FfnLastRefIdeal.Read.out_dxo (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) i0 i1).symm

theorem dab_eq (h : Real m c) : G10 m c = Cert.FfnLastRefIdeal.Read.val_main_v125 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  funext i
  idx_vars i
  by_cases e0 : i0.val = 0
  · obtain rfl : i0 = 0 := Fin.ext e0
    exact (G10_0 m c 0 i1 i2 rfl).trans ((congrFun ((rowK m c i1).da_eq (h i1)) i2).trans (Cert.FfnLastRefIdeal.Read.out_dab0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) i1 i2).symm)
  · obtain rfl : i0 = 1 := Fin.ext (by show i0.val = 1; omega)
    exact (G10_1 m c 1 i1 i2 rfl).trans ((congrFun ((rowK m c i1).db_eq (h i1)) i2).trans (Cert.FfnLastRefIdeal.Read.out_dab1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) i1 i2).symm)

theorem dx_eq (h : Real m c) : G11 m c = Cert.FfnLastRefIdeal.Read.val_main_v100 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  funext i
  idx_vars i
  exact (congrFun ((rowK m c i0).dx_eq (h i0)) i1).trans (Cert.FfnLastRefIdeal.Read.dx_apply (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) i0 i1).symm

theorem dxb_eq (h : Real m c) : G12 m c = Cert.FfnLastRefIdeal.Read.val_main_v126 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  funext i
  idx_vars i
  exact (congrFun ((rowK m c i0).dx_eq (h i0)) i1).trans (Cert.FfnLastRefIdeal.Read.out_dxb (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) i0 i1).symm

theorem dg_eq (h : Real m c) : G13 m c = Cert.FfnLastRefIdeal.Read.val_main_v83 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  funext i
  idx_vars i
  obtain rfl : i0 = 0 := Subsingleton.elim _ _
  refine Eq.trans ?_ (Cert.FfnLastRefIdeal.Read.dg_apply (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) i1).symm
  refine (zero_add _).trans ?_
  refine (Grad.sum_blocks (n := cfg0.N) (b := 256) (N := 4096) (by rw [show cfg0.N = 16 from N_0]) (fun s => (rowK m c s).dgK i1)).trans ?_
  exact Finset.sum_congr rfl fun s _ => congrFun ((rowK m c s).dg_eq (h s)) i1

theorem loss_eq (h : Real m c) : G14 m c = Cert.FfnLastRefIdeal.Read.val_main_v127 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  funext i
  idx_vars i
  obtain rfl : i0 = 0 := Subsingleton.elim _ _
  refine Eq.trans ?_ (Cert.FfnLastRefIdeal.Read.out_loss (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) i1).symm
  refine (zero_add _).trans ?_
  refine (Grad.loss_blocks (n := cfg0.N) (b := 256) (N := 4096) (by rw [show cfg0.N = 16 from N_0]) rowOf (fun _ _ => rfl) (q := fun s => (rowK m c s).sqK) (fun s => (rowK m c s).sq_real (h s))).trans ?_
  exact congrArg (Grad.WHalf * ·) (Finset.sum_congr rfl fun s _ => congrArg (fun z => Ideal.div z Grad.W1024) (rowK m c s).sq_eq)

theorem dgf_eq : G15 m c = Cert.FfnLastRefIdeal.Read.val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  funext i
  idx_vars i
  obtain rfl : i0 = 0 := Subsingleton.elim _ _
  refine Eq.trans ?_ (Cert.FfnLastRefIdeal.Read.dgf_apply (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) i1).symm
  refine (zero_add _).trans ?_
  refine (Grad.sum_blocks (n := cfg0.N) (b := 256) (N := 4096) (by rw [show cfg0.N = 16 from N_0]) (fun s => (rowK m c s).dgfK i1)).trans ?_
  exact Finset.sum_congr rfl fun s _ => congrFun (rowK m c s).dgf_eq i1

end Cert.FfnLastMeet

end
-- ==== Proof.lean ====
/- The claims, each from the run of its program and the meeting of the two programs' results. -/
module

public import proofs.«01_k».proof.Defs
public import proofs.«01_k».proof.Proof.Gen.KPrep
public import proofs.«01_k».proof.Proof.Gen.KPrep.Frame
public import proofs.«01_k».proof.Proof.Gen.KPrepIdeal
public import proofs.«01_k».proof.Proof.Gen.KPrepIdeal.Frame
public import proofs.«01_k».proof.Proof.Gen.KPrepIdeal.Value
public import proofs.«01_k».proof.Proof.Gen.KPrepRefIdeal
public import proofs.«01_k».proof.Proof.Gen.KPrepRefIdeal.Run
public import proofs.«01_k».proof.Proof.Gen.KPrepRefIdeal.Read
public import proofs.«01_k».proof.Proof.KPrepMeet
public import proofs.«01_k».proof.Proof.Gen.QPrep
public import proofs.«01_k».proof.Proof.Gen.QPrep.Frame
public import proofs.«01_k».proof.Proof.Gen.QPrepIdeal
public import proofs.«01_k».proof.Proof.Gen.QPrepIdeal.Frame
public import proofs.«01_k».proof.Proof.Gen.QPrepIdeal.Value
public import proofs.«01_k».proof.Proof.Gen.QPrepRefIdeal
public import proofs.«01_k».proof.Proof.Gen.QPrepRefIdeal.Run
public import proofs.«01_k».proof.Proof.Gen.QPrepRefIdeal.Read
public import proofs.«01_k».proof.Proof.QPrepMeet
public import proofs.«01_k».proof.Proof.Gen.FlashFwd
public import proofs.«01_k».proof.Proof.Gen.FlashFwd.Frame
public import proofs.«01_k».proof.Proof.Gen.FlashFwdIdeal
public import proofs.«01_k».proof.Proof.Gen.FlashFwdIdeal.Frame
public import proofs.«01_k».proof.Proof.Gen.FlashFwdIdeal.Value
public import proofs.«01_k».proof.Proof.Gen.FlashFwdRefIdeal
public import proofs.«01_k».proof.Proof.Gen.FlashFwdRefIdeal.Run
public import proofs.«01_k».proof.Proof.Gen.FlashFwdRefIdeal.Read
public import proofs.«01_k».proof.Proof.FlashFwdMeet
public import proofs.«01_k».proof.Proof.Gen.FlashBwd
public import proofs.«01_k».proof.Proof.Gen.FlashBwd.Frame
public import proofs.«01_k».proof.Proof.Gen.FlashBwdIdeal
public import proofs.«01_k».proof.Proof.Gen.FlashBwdIdeal.Frame
public import proofs.«01_k».proof.Proof.Gen.FlashBwdIdeal.Value
public import proofs.«01_k».proof.Proof.Gen.FlashBwdRefIdeal
public import proofs.«01_k».proof.Proof.Gen.FlashBwdRefIdeal.Run
public import proofs.«01_k».proof.Proof.Gen.FlashBwdRefIdeal.Read
public import proofs.«01_k».proof.Proof.FlashBwdMeet
public import proofs.«01_k».proof.Proof.Gen.FfnIn
public import proofs.«01_k».proof.Proof.Gen.FfnIn.Frame
public import proofs.«01_k».proof.Proof.Gen.FfnInIdeal
public import proofs.«01_k».proof.Proof.Gen.FfnInIdeal.Frame
public import proofs.«01_k».proof.Proof.Gen.FfnInIdeal.Value
public import proofs.«01_k».proof.Proof.Gen.FfnInRefIdeal
public import proofs.«01_k».proof.Proof.Gen.FfnInRefIdeal.Run
public import proofs.«01_k».proof.Proof.Gen.FfnInRefIdeal.Read
public import proofs.«01_k».proof.Proof.FfnInMeet
public import proofs.«01_k».proof.Proof.Gen.InProj
public import proofs.«01_k».proof.Proof.Gen.InProj.Frame
public import proofs.«01_k».proof.Proof.Gen.InProjIdeal
public import proofs.«01_k».proof.Proof.Gen.InProjIdeal.Frame
public import proofs.«01_k».proof.Proof.Gen.InProjIdeal.Value
public import proofs.«01_k».proof.Proof.Gen.InProjRefIdeal
public import proofs.«01_k».proof.Proof.Gen.InProjRefIdeal.Run
public import proofs.«01_k».proof.Proof.Gen.InProjRefIdeal.Read
public import proofs.«01_k».proof.Proof.InProjMeet
public import proofs.«01_k».proof.Proof.Gen.FfnHid
public import proofs.«01_k».proof.Proof.Gen.FfnHid.Frame
public import proofs.«01_k».proof.Proof.Gen.FfnHidIdeal
public import proofs.«01_k».proof.Proof.Gen.FfnHidIdeal.Frame
public import proofs.«01_k».proof.Proof.Gen.FfnHidIdeal.Value
public import proofs.«01_k».proof.Proof.Gen.FfnHidRefIdeal
public import proofs.«01_k».proof.Proof.Gen.FfnHidRefIdeal.Run
public import proofs.«01_k».proof.Proof.Gen.FfnHidRefIdeal.Read
public import proofs.«01_k».proof.Proof.FfnHidMeet
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Gen.MergeRefIdeal.Read
public import proofs.«01_k».proof.Proof.MergeMeet
public import proofs.«01_k».proof.Proof.Gen.FfnLast
public import proofs.«01_k».proof.Proof.Gen.FfnLast.Frame
public import proofs.«01_k».proof.Proof.Gen.FfnLastIdeal
public import proofs.«01_k».proof.Proof.Gen.FfnLastIdeal.Frame
public import proofs.«01_k».proof.Proof.Gen.FfnLastIdeal.Value
public import proofs.«01_k».proof.Proof.Gen.FfnLastRefIdeal
public import proofs.«01_k».proof.Proof.Gen.FfnLastRefIdeal.Run
public import proofs.«01_k».proof.Proof.Gen.FfnLastRefIdeal.Read
public import proofs.«01_k».proof.Proof.FfnLastMeet
public import Idealize.ShloMosaic.Adequacy
public import Idealize.ShloMosaic.Init

@[expose] public section

noncomputable section

namespace Cert.Proof

open Idealize.ShloMosaic Idealize.ShloMosaic.TcCoe Idealize.SL.Sem

theorem frame_kPrepRef : Cert.quiescent_KPrepRefIdeal := fun m g _ =>
  (θ_run _ _ _).mono (fun r h => ⟨fun c => (h c).2.2, funext fun x => nomatch x⟩) (Cert.KPrepRefIdeal.Value.run (F := Ideal) m g)

theorem algebraic_kPrep : Cert.algebraic_KPrepIdeal_KPrepRefIdeal_pre_k_prep_finite (hPre_k_prep_finite := Cert.KPrepMeet.preFacts) := by
  intro m g m' g' hpre hag
  refine ⟨fun c => Cert.KPrepIdeal.Value.G6 m c, fun c => Cert.KPrepIdeal.Value.G7 m c, ?_, ?_⟩
  · refine (θ_run _ _ _).mono (fun r h c => ?_) (Cert.KPrepIdeal.Value.run_blocks (F := Ideal) m g)
    obtain ⟨h0, h1, h2⟩ := h c
    exact ⟨h0.trans (Cert.KPrepIdeal.Value.final6 m c), h1.trans (Cert.KPrepIdeal.Value.final7 m c), h2⟩
  · refine (θ_run _ _ _).mono (fun r h c => ?_) (Cert.KPrepRefIdeal.Value.run (F := Ideal) m' g')
    obtain ⟨h0, h1, h2⟩ := h c
    obtain ⟨a0, a1, a2, a3⟩ := hag c
    refine ⟨h0.trans ?_, h1.trans ?_, h2⟩
    · rw [Cert.KPrepRefIdeal.Read.val_main_v120_eq, a0, a1, a2, a3]
      exact (Cert.KPrepMeet.dx_eq m c (Cert.KPrepMeet.finite _ _ _ _ (hpre c))).symm
    · rw [Cert.KPrepRefIdeal.Read.val_main_v116_eq, a0, a1]
      exact (Cert.KPrepMeet.dg_eq m c).symm

theorem frame_qPrepRef : Cert.quiescent_QPrepRefIdeal := fun m g _ =>
  (θ_run _ _ _).mono (fun r h => ⟨fun c => (h c).2.2, funext fun x => nomatch x⟩) (Cert.QPrepRefIdeal.Value.run (F := Ideal) m g)

theorem algebraic_qPrep : Cert.algebraic_QPrepIdeal_QPrepRefIdeal_pre_q_prep_finite (hPre_q_prep_finite := Cert.QPrepMeet.preFacts) := by
  intro m g m' g' hpre hag
  refine ⟨fun c => Cert.QPrepIdeal.Value.G6 m c, fun c => Cert.QPrepIdeal.Value.G7 m c, ?_, ?_⟩
  · refine (θ_run _ _ _).mono (fun r h c => ?_) (Cert.QPrepIdeal.Value.run_blocks (F := Ideal) m g)
    obtain ⟨h0, h1, h2⟩ := h c
    exact ⟨h0.trans (Cert.QPrepIdeal.Value.final6 m c), h1.trans (Cert.QPrepIdeal.Value.final7 m c), h2⟩
  · refine (θ_run _ _ _).mono (fun r h c => ?_) (Cert.QPrepRefIdeal.Value.run (F := Ideal) m' g')
    obtain ⟨h0, h1, h2⟩ := h c
    obtain ⟨a0, a1, a2⟩ := hag c
    refine ⟨h0.trans ?_, h1.trans ?_, h2⟩
    · rw [Cert.QPrepRefIdeal.Read.val_main_v114_eq, a0, a1, a2]
      exact (Cert.QPrepMeet.dx_eq m c (Cert.QPrepMeet.finite _ _ _ (hpre c))).symm
    · rw [Cert.QPrepRefIdeal.Read.val_main_v112_eq, a0, a1]
      exact (Cert.QPrepMeet.dg_eq m c).symm

theorem frame_flashFwdRef : Cert.quiescent_FlashFwdRefIdeal := fun m g _ =>
  (θ_run _ _ _).mono (fun r h => ⟨fun c => (h c).2.2, funext fun x => nomatch x⟩) (Cert.FlashFwdRefIdeal.Value.run (F := Ideal) m g)

theorem algebraic_flashFwd : Cert.algebraic_FlashFwdIdeal_FlashFwdRefIdeal_pre_flash_fwd_finite (hPre_flash_fwd_finite := Cert.FlashFwdMeet.preFacts) := by
  intro m g m' g' hpre hag
  refine ⟨fun c => Cert.FlashFwdIdeal.Value.G3 m c, fun c => Cert.FlashFwdIdeal.Value.G4 m c, ?_, ?_⟩
  · refine (θ_run _ _ _).mono (fun r h c => ?_) (Cert.FlashFwdIdeal.Value.run_blocks (F := Ideal) m g)
    obtain ⟨h0, h1, h2⟩ := h c
    exact ⟨h0.trans (Cert.FlashFwdIdeal.Value.final3 m c), h1.trans (Cert.FlashFwdIdeal.Value.final4 m c), h2⟩
  · refine (θ_run _ _ _).mono (fun r h c => ?_) (Cert.FlashFwdRefIdeal.Value.run (F := Ideal) m' g')
    obtain ⟨h0, h1, h2⟩ := h c
    obtain ⟨a0, a1, a2⟩ := hag c
    obtain ⟨R⟩ := Cert.FlashFwdMeet.reals (m := m) (c := c) (Cert.FlashFwdMeet.finite _ _ _ (hpre c))
    refine ⟨h0.trans ?_, h1.trans ?_, h2⟩
    · rw [Cert.FlashFwdRefIdeal.Read.val_main_v32_eq, a0, a1, a2]
      exact (Cert.FlashFwdMeet.o_meet R).symm
    · rw [Cert.FlashFwdRefIdeal.Read.val_main_v36_eq, a0, a1]
      exact (Cert.FlashFwdMeet.l_meet R).symm

theorem frame_flashBwdRef : Cert.quiescent_FlashBwdRefIdeal := fun m g _ =>
  (θ_run _ _ _).mono (fun r h => ⟨fun c => (h c).2.2.2, funext fun x => nomatch x⟩) (Cert.FlashBwdRefIdeal.Value.run (F := Ideal) m g)

theorem algebraic_flashBwd : Cert.algebraic_FlashBwdIdeal_FlashBwdRefIdeal_pre_flash_bwd_finite (hPre_flash_bwd_finite := Cert.FlashBwdMeet.preFacts) := by
  intro m g m' g' hpre hag
  refine ⟨fun c => Cert.FlashBwdIdeal.Value.G7 m c, fun c => Cert.FlashBwdIdeal.Value.G8 m c, fun c => Cert.FlashBwdIdeal.Value.G9 m c, ?_, ?_⟩
  · exact Cert.FlashBwdIdeal.Value.run (F := Ideal) m g
  · refine (θ_run _ _ _).mono (fun r h c => ?_) (Cert.FlashBwdRefIdeal.Value.run (F := Ideal) m' g')
    obtain ⟨h0, h1, h2, h3⟩ := h c
    obtain ⟨a0, a1, a2, a3⟩ := hag c
    obtain ⟨R⟩ := Cert.FlashBwdMeet.reals (m := m) (c := c) (Cert.FlashBwdMeet.finite _ _ _ _ (hpre c))
    refine ⟨h0.trans ?_, h1.trans ?_, h2.trans ?_, h3⟩
    · rw [Cert.FlashBwdRefIdeal.Read.val_main_v70_eq, a0, a1, a2, a3]
      exact (Cert.FlashBwdMeet.dq_meet R).symm
    · rw [Cert.FlashBwdRefIdeal.Read.val_main_v69_eq, a0, a1, a2, a3]
      exact (Cert.FlashBwdMeet.dk_meet R).symm
    · rw [Cert.FlashBwdRefIdeal.Read.val_main_v71_eq, a0, a1, a3]
      exact (Cert.FlashBwdMeet.dv_meet R).symm

theorem frame_ffnInRef : Cert.quiescent_FfnInRefIdeal := fun m g _ =>
  (θ_run _ _ _).mono (fun r h => ⟨fun c => (h c).2.2, funext fun x => nomatch x⟩) (Cert.FfnInRefIdeal.Value.run (F := Ideal) m g)

theorem algebraic_ffnIn : Cert.algebraic_FfnInIdeal_FfnInRefIdeal_pre_ffn_in_finite (hPre_ffn_in_finite := Cert.FfnInMeet.preFacts) := by
  intro m g m' g' hpre hag
  refine ⟨fun c => Cert.FfnInIdeal.Value.G6 m c, fun c => Cert.FfnInIdeal.Value.G7 m c, ?_, ?_⟩
  · refine (θ_run _ _ _).mono (fun r h c => ?_) (Cert.FfnInIdeal.Value.run_blocks (F := Ideal) m g)
    obtain ⟨h0, h1, h2⟩ := h c
    exact ⟨h0.trans (Cert.FfnInIdeal.Value.final6 m c), h1.trans (Cert.FfnInIdeal.Value.final7 m c), h2⟩
  · refine (θ_run _ _ _).mono (fun r h c => ?_) (Cert.FfnInRefIdeal.Value.run (F := Ideal) m' g')
    obtain ⟨h0, h1, h2⟩ := h c
    obtain ⟨a0, a1, a2, a3, a4, a5, a6⟩ := hag c
    refine ⟨h0.trans ?_, h1.trans ?_, h2⟩
    · rw [Cert.FfnInRefIdeal.Read.val_main_v41_eq, a0, a1, a2, a3, a4, a5, a6]
      exact (Cert.FfnInMeet.dx_eq m c (Cert.FfnInMeet.finite _ _ _ _ _ _ _ (hpre c))).symm
    · rw [Cert.FfnInRefIdeal.Read.val_main_v24_eq, a0, a1, a2, a5, a6]
      exact (Cert.FfnInMeet.dg_eq m c).symm

theorem frame_inProjRef : Cert.quiescent_InProjRefIdeal := fun m g _ =>
  (θ_run _ _ _).mono (fun r h => ⟨fun c => (h c).2.2.2, funext fun x => nomatch x⟩) (Cert.InProjRefIdeal.Value.run (F := Ideal) m g)

theorem algebraic_inProj : Cert.algebraic_InProjIdeal_InProjRefIdeal_pre_in_proj_finite (hPre_in_proj_finite := Cert.InProjMeet.preFacts) := by
  intro m g m' g' hpre hag
  refine ⟨fun c => Cert.InProjIdeal.Value.G10 m c, fun c => Cert.InProjIdeal.Value.G10 m c, fun c => Cert.InProjIdeal.Value.G12 m c, ?_, ?_⟩
  · refine (θ_run _ _ _).mono (fun r h c => ?_) (Cert.InProjIdeal.Value.run_blocks (F := Ideal) m g)
    obtain ⟨h0, h1, h2, h3⟩ := h c
    exact ⟨h0.trans (Cert.InProjIdeal.Value.final10 m c), h1.trans (Cert.InProjIdeal.Value.final11 m c), h2.trans (Cert.InProjIdeal.Value.final12 m c), h3⟩
  · refine (θ_run _ _ _).mono (fun r h c => ?_) (Cert.InProjRefIdeal.Value.run (F := Ideal) m' g')
    obtain ⟨h0, h1, h2, h3⟩ := h c
    obtain ⟨a0, a1, a2, a3, a4⟩ := hag c
    have hf := Cert.InProjMeet.finite _ _ _ _ _ (hpre c)
    refine ⟨h0.trans ?_, h1.trans ?_, h2.trans ?_, h3⟩
    · rw [Cert.InProjRefIdeal.Read.val_main_v37_eq, a0, a1, a2, a3, a4]
      exact (Cert.InProjMeet.dx_eq m c hf).symm
    · rw [Cert.InProjRefIdeal.Read.val_main_v38_eq, a0, a1, a2, a3, a4]
      exact (Cert.InProjRefIdeal.Read.dxb_eq _ _ _ _ _).trans (Cert.InProjMeet.dx_eq m c hf).symm
    · rw [Cert.InProjRefIdeal.Read.val_main_v20_eq, a0, a1, a4]
      exact (Cert.InProjMeet.dg_eq m c).symm

theorem frame_ffnHidRef : Cert.quiescent_FfnHidRefIdeal := fun m g _ =>
  (θ_run _ _ _).mono (fun r h => ⟨fun c => (h c).2, funext fun x => nomatch x⟩) (Cert.FfnHidRefIdeal.Value.run (F := Ideal) m g)

theorem algebraic_ffnHid : Cert.algebraic_FfnHidIdeal_FfnHidRefIdeal_pre_ffn_hidden_finite (hPre_ffn_hidden_finite := Cert.FfnHidMeet.preFacts) := by
  intro m g m' g' hpre hag
  refine ⟨fun c => Cert.FfnHidIdeal.Value.G3 m c, ?_, ?_⟩
  · refine (θ_run _ _ _).mono (fun r h c => ?_) (Cert.FfnHidIdeal.Value.run_blocks (F := Ideal) m g)
    obtain ⟨h0, h1⟩ := h c
    exact ⟨h0.trans (Cert.FfnHidIdeal.Value.final3 m c), h1⟩
  · refine (θ_run _ _ _).mono (fun r h c => ?_) (Cert.FfnHidRefIdeal.Value.run (F := Ideal) m' g')
    obtain ⟨h0, h1⟩ := h c
    obtain ⟨a0, a1, a2, a3, a4⟩ := hag c
    refine ⟨h0.trans ?_, h1⟩
    rw [Cert.FfnHidRefIdeal.Read.val_main_v18_eq, a0, a1, a2, a3, a4]
    exact (Cert.FfnHidMeet.out_eq m c (Cert.FfnHidMeet.finite _ _ _ _ _ (hpre c))).symm

theorem frame_mergeRef : Cert.quiescent_MergeRefIdeal := fun m g _ =>
  (θ_run _ _ _).mono (fun r h => ⟨fun c => (h c).2.2.2.2.2.2, funext fun x => nomatch x⟩) (Cert.MergeRefIdeal.Value.run (F := Ideal) m g)

theorem algebraic_merge : Cert.algebraic_MergeIdeal_MergeRefIdeal := by
  intro m g m' g' hpre hag
  refine ⟨fun c => Cert.MergeIdeal.Value.G11 m c, fun c => Cert.MergeIdeal.Value.G12 m c, fun c => Cert.MergeIdeal.Value.G13 m c, fun c => Cert.MergeIdeal.Value.G14 m c, fun c => Cert.MergeIdeal.Value.G15 m c, fun c => Cert.MergeIdeal.Value.G16 m c, ?_, ?_⟩
  · refine (θ_run _ _ _).mono (fun r h c => ?_) (Cert.MergeIdeal.Value.run_blocks (F := Ideal) m g)
    obtain ⟨h0, h1, h2, h3, h4, h5, h6⟩ := h c
    exact ⟨h0.trans (Cert.MergeIdeal.Value.final11 m c), h1.trans (Cert.MergeIdeal.Value.final12 m c), h2.trans (Cert.MergeIdeal.Value.final13 m c), h3.trans (Cert.MergeIdeal.Value.final14 m c), h4.trans (Cert.MergeIdeal.Value.final15 m c), h5.trans (Cert.MergeIdeal.Value.final16 m c), h6⟩
  · refine (θ_run _ _ _).mono (fun r h c => ?_) (Cert.MergeRefIdeal.Value.run (F := Ideal) m' g')
    obtain ⟨h0, h1, h2, h3, h4, h5, h6⟩ := h c
    obtain ⟨a0, a1, a2, a3, a4, a5, a6, a7⟩ := hag c
    refine ⟨h0.trans ?_, h1.trans ?_, h2.trans ?_, h3.trans ?_, h4.trans ?_, h5.trans ?_, h6⟩
    · rw [Cert.MergeRefIdeal.Read.val_main_v52_eq, a0, a3, a4, a7]
      exact (Cert.MergeMeet.dya_eq m c).symm
    · rw [Cert.MergeRefIdeal.Read.val_main_v53_eq, a0, a3, a4, a7]
      exact (Cert.MergeMeet.dyb_eq m c).symm
    · rw [Cert.MergeRefIdeal.Read.val_main_v54_eq, a0, a1, a2, a3, a4, a5, a6, a7]
      exact (Cert.MergeMeet.dgate_eq m c).symm
    · rw [Cert.MergeRefIdeal.Read.val_main_v55_eq, a0, a1, a2, a3, a4, a5, a6, a7]
      exact (Cert.MergeMeet.bias_eq m c).symm
    · rw [Cert.MergeRefIdeal.Read.val_main_v46_eq, a0, a3, a4, a5, a7]
      exact (Cert.MergeMeet.doa_eq m c).symm
    · rw [Cert.MergeRefIdeal.Read.val_main_v56_eq, a0, a3, a4, a6, a7]
      exact (Cert.MergeMeet.dob_eq m c).symm

theorem frame_ffnLastRef : Cert.quiescent_FfnLastRefIdeal := fun m g _ =>
  (θ_run _ _ _).mono (fun r h => ⟨fun c => (h c).2.2.2.2.2.2.2.2.2, funext fun x => nomatch x⟩) (Cert.FfnLastRefIdeal.Value.run (F := Ideal) m g)

theorem algebraic_ffnLast : Cert.algebraic_FfnLastIdeal_FfnLastRefIdeal_pre_ffn_last_finite (hPre_ffn_last_finite := Cert.FfnLastMeet.preFacts) := by
  intro m g m' g' hpre hag
  refine ⟨fun c => Cert.FfnLastIdeal.Value.G7 m c, fun c => Cert.FfnLastIdeal.Value.G8 m c, fun c => Cert.FfnLastIdeal.Value.G9 m c, fun c => Cert.FfnLastIdeal.Value.G10 m c, fun c => Cert.FfnLastIdeal.Value.G11 m c, fun c => Cert.FfnLastIdeal.Value.G12 m c, fun c => Cert.FfnLastIdeal.Value.G13 m c, fun c => Cert.FfnLastIdeal.Value.G14 m c, fun c => Cert.FfnLastIdeal.Value.G15 m c, ?_, ?_⟩
  · refine (θ_run _ _ _).mono (fun r h c => ?_) (Cert.FfnLastIdeal.Value.run_blocks (F := Ideal) m g)
    obtain ⟨h0, h1, h2, h3, h4, h5, h6, h7, h8, h9⟩ := h c
    exact ⟨h0.trans (Cert.FfnLastIdeal.Value.final7 m c), h1.trans (Cert.FfnLastIdeal.Value.final8 m c), h2.trans (Cert.FfnLastIdeal.Value.final9 m c), h3.trans (Cert.FfnLastIdeal.Value.final10 m c), h4.trans (Cert.FfnLastIdeal.Value.final11 m c), h5.trans (Cert.FfnLastIdeal.Value.final12 m c), h6.trans (Cert.FfnLastIdeal.Value.final13 m c), h7.trans (Cert.FfnLastIdeal.Value.final14 m c), h8.trans (Cert.FfnLastIdeal.Value.final15 m c), h9⟩
  · refine (θ_run _ _ _).mono (fun r h c => ?_) (Cert.FfnLastRefIdeal.Value.run (F := Ideal) m' g')
    obtain ⟨h0, h1, h2, h3, h4, h5, h6, h7, h8, h9⟩ := h c
    obtain ⟨a0, a1, a2, a3, a4, a5, a6⟩ := hag c
    have b0 : StableHlo.launchContents m' c (Proc.tc.devRef Cert.FfnLastRefIdeal.main_arg0) = m ((c.tc : Thread Cert.FfnLastIdeal.nD Cert.FfnLastIdeal.τ).loc Cert.FfnLastIdeal.main_arg0) := a0
    have b1 : StableHlo.launchContents m' c (Proc.tc.devRef Cert.FfnLastRefIdeal.main_arg1) = m ((c.tc : Thread Cert.FfnLastIdeal.nD Cert.FfnLastIdeal.τ).loc Cert.FfnLastIdeal.main_arg1) := a1
    have b2 : StableHlo.launchContents m' c (Proc.tc.devRef Cert.FfnLastRefIdeal.main_arg2) = m ((c.tc : Thread Cert.FfnLastIdeal.nD Cert.FfnLastIdeal.τ).loc Cert.FfnLastIdeal.main_arg2) := a2
    have b3 : StableHlo.launchContents m' c (Proc.tc.devRef Cert.FfnLastRefIdeal.main_arg3) = m ((c.tc : Thread Cert.FfnLastIdeal.nD Cert.FfnLastIdeal.τ).loc Cert.FfnLastIdeal.main_arg3) := a3
    have b4 : StableHlo.launchContents m' c (Proc.tc.devRef Cert.FfnLastRefIdeal.main_arg4) = m ((c.tc : Thread Cert.FfnLastIdeal.nD Cert.FfnLastIdeal.τ).loc Cert.FfnLastIdeal.main_arg4) := a4
    have b5 : StableHlo.launchContents m' c (Proc.tc.devRef Cert.FfnLastRefIdeal.main_arg5) = m ((c.tc : Thread Cert.FfnLastIdeal.nD Cert.FfnLastIdeal.τ).loc Cert.FfnLastIdeal.main_arg5) := a5
    have b6 : StableHlo.launchContents m' c (Proc.tc.devRef Cert.FfnLastRefIdeal.main_arg6) = m ((c.tc : Thread Cert.FfnLastIdeal.nD Cert.FfnLastIdeal.τ).loc Cert.FfnLastIdeal.main_arg6) := a6
    have hr := Cert.FfnLastMeet.real_of_finite m c (Cert.FfnLastMeet.finite _ _ _ _ _ _ _ (hpre c))
    refine ⟨h0.trans ?_, h1.trans ?_, h2.trans ?_, h3.trans ?_, h4.trans ?_, h5.trans ?_, h6.trans ?_, h7.trans ?_, h8.trans ?_, h9⟩
    · rw [Cert.FfnLastRefIdeal.Read.val_main_v113_eq, b0, b1]
      exact (Cert.FfnLastMeet.n_eq m c).symm
    · rw [Cert.FfnLastRefIdeal.Read.val_main_v120_eq, b0, b1, b2, b3]
      exact (Cert.FfnLastMeet.abh_eq m c).symm
    · rw [Cert.FfnLastRefIdeal.Read.val_main_v121_eq, b0, b1, b2, b3, b4, b5, b6]
      exact (Cert.FfnLastMeet.dxo_eq m c hr).symm
    · rw [Cert.FfnLastRefIdeal.Read.val_main_v125_eq, b0, b1, b2, b3, b4, b5, b6]
      exact (Cert.FfnLastMeet.dab_eq m c hr).symm
    · rw [Cert.FfnLastRefIdeal.Read.val_main_v100_eq, b0, b1, b2, b3, b4, b5, b6]
      exact (Cert.FfnLastMeet.dx_eq m c hr).symm
    · rw [Cert.FfnLastRefIdeal.Read.val_main_v126_eq, b0, b1, b2, b3, b4, b5, b6]
      exact (Cert.FfnLastMeet.dxb_eq m c hr).symm
    · rw [Cert.FfnLastRefIdeal.Read.val_main_v83_eq, b0, b1, b2, b3, b4, b5, b6]
      exact (Cert.FfnLastMeet.dg_eq m c hr).symm
    · rw [Cert.FfnLastRefIdeal.Read.val_main_v127_eq, b0, b1, b2, b3, b4, b5, b6]
      exact (Cert.FfnLastMeet.loss_eq m c hr).symm
    · rw [Cert.FfnLastRefIdeal.Read.val_main_v55_eq, b0, b1, b2, b3, b4, b5, b6]
      exact (Cert.FfnLastMeet.dgf_eq m c).symm

theorem claim : Cert.Claim := ⟨Cert.KPrep.Gen.facts,
  Cert.KPrepIdeal.Gen.facts,
  Cert.KPrepRefIdeal.Gen.facts,
  Cert.QPrep.Gen.facts,
  Cert.QPrepIdeal.Gen.facts,
  Cert.QPrepRefIdeal.Gen.facts,
  Cert.FlashFwd.Gen.facts,
  Cert.FlashFwdIdeal.Gen.facts,
  Cert.FlashFwdRefIdeal.Gen.facts,
  Cert.FlashBwd.Gen.facts,
  Cert.FlashBwdIdeal.Gen.facts,
  Cert.FlashBwdRefIdeal.Gen.facts,
  Cert.FfnIn.Gen.facts,
  Cert.FfnInIdeal.Gen.facts,
  Cert.FfnInRefIdeal.Gen.facts,
  Cert.InProj.Gen.facts,
  Cert.InProjIdeal.Gen.facts,
  Cert.InProjRefIdeal.Gen.facts,
  Cert.FfnHid.Gen.facts,
  Cert.FfnHidIdeal.Gen.facts,
  Cert.FfnHidRefIdeal.Gen.facts,
  Cert.Merge.Gen.facts,
  Cert.MergeIdeal.Gen.facts,
  Cert.MergeRefIdeal.Gen.facts,
  Cert.FfnLast.Gen.facts,
  Cert.FfnLastIdeal.Gen.facts,
  Cert.FfnLastRefIdeal.Gen.facts,
  Cert.KPrepMeet.preFacts,
  Cert.QPrepMeet.preFacts,
  Cert.FlashFwdMeet.preFacts,
  Cert.FlashBwdMeet.preFacts,
  Cert.FfnInMeet.preFacts,
  Cert.InProjMeet.preFacts,
  Cert.FfnHidMeet.preFacts,
  Cert.FfnLastMeet.preFacts,
  fun m g _ => Cert.KPrep.Gen.frame m g,
  fun m g _ => Cert.KPrepIdeal.Gen.frame m g,
  fun m g _ => Cert.KPrepIdeal.Gen.frame m g,
  frame_kPrepRef,
  fun m g _ => frame_kPrepRef m g trivial,
  fun m g _ => Cert.QPrep.Gen.frame m g,
  fun m g _ => Cert.QPrepIdeal.Gen.frame m g,
  fun m g _ => Cert.QPrepIdeal.Gen.frame m g,
  frame_qPrepRef,
  fun m g _ => frame_qPrepRef m g trivial,
  fun m g _ => Cert.FlashFwd.Gen.frame m g,
  fun m g _ => Cert.FlashFwdIdeal.Gen.frame m g,
  fun m g _ => Cert.FlashFwdIdeal.Gen.frame m g,
  frame_flashFwdRef,
  fun m g _ => frame_flashFwdRef m g trivial,
  fun m g _ => Cert.FlashBwd.Gen.frame m g,
  fun m g _ => Cert.FlashBwdIdeal.Gen.frame m g,
  fun m g _ => Cert.FlashBwdIdeal.Gen.frame m g,
  frame_flashBwdRef,
  fun m g _ => frame_flashBwdRef m g trivial,
  fun m g _ => Cert.FfnIn.Gen.frame m g,
  fun m g _ => Cert.FfnInIdeal.Gen.frame m g,
  fun m g _ => Cert.FfnInIdeal.Gen.frame m g,
  frame_ffnInRef,
  fun m g _ => frame_ffnInRef m g trivial,
  fun m g _ => Cert.InProj.Gen.frame m g,
  fun m g _ => Cert.InProjIdeal.Gen.frame m g,
  fun m g _ => Cert.InProjIdeal.Gen.frame m g,
  frame_inProjRef,
  fun m g _ => frame_inProjRef m g trivial,
  fun m g _ => Cert.FfnHid.Gen.frame m g,
  fun m g _ => Cert.FfnHidIdeal.Gen.frame m g,
  fun m g _ => Cert.FfnHidIdeal.Gen.frame m g,
  frame_ffnHidRef,
  fun m g _ => frame_ffnHidRef m g trivial,
  fun m g _ => Cert.Merge.Gen.frame m g,
  fun m g _ => Cert.MergeIdeal.Gen.frame m g,
  frame_mergeRef,
  fun m g _ => Cert.FfnLast.Gen.frame m g,
  fun m g _ => Cert.FfnLastIdeal.Gen.frame m g,
  fun m g _ => Cert.FfnLastIdeal.Gen.frame m g,
  frame_ffnLastRef,
  fun m g _ => frame_ffnLastRef m g trivial,
  trivial,
  algebraic_kPrep,
  trivial,
  algebraic_qPrep,
  IdealRules.named_const.statement Cert.FlashFwdIdeal.κ "log_2" .f32 0x3F317218#32 ((Real.log 2 : ℝ) : EReal) rfl,
  algebraic_flashFwd,
  ⟨IdealRules.named_const.statement Cert.FlashBwdIdeal.κ "log2_e" .f32 0x3FB8AA3B#32 (((Real.log 2)⁻¹ : ℝ) : EReal) rfl,
    IdealRules.named_const.statement Cert.FlashBwdIdeal.κ "inv_sqrt_128" .f32 0x3DB504F3#32 (((Real.sqrt 128)⁻¹ : ℝ) : EReal) rfl,
    IdealRules.named_const.statement Cert.FlashBwdIdeal.κ "log_2" .f32 0x3F317218#32 ((Real.log 2 : ℝ) : EReal) rfl⟩,
  algebraic_flashBwd,
  trivial,
  algebraic_ffnIn,
  trivial,
  algebraic_inProj,
  trivial,
  algebraic_ffnHid,
  trivial,
  algebraic_merge,
  trivial,
  algebraic_ffnLast⟩

end Cert.Proof

end
